-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_sb_finite [hPre_sb_finite : Cert.Pre_sb_finite.Facts] (m : (ℓ : Loc Cert.SbIdeal.nD Cert.SbIdeal.τ Cert.SbIdeal.sig) → Buf (Elt Ideal) ℓ) : Prop :=
  ∀ c : Dev Cert.SbIdeal.nD,
    (Cert.Pre_sb_finite.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_sb_finite [hPre_sb_finite : Cert.Pre_sb_finite.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_sb_finite.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1))) = (fun _ => 1#1)

def Pre_SbFwd (m : (ℓ : Loc Cert.SbFwd.nD Cert.SbFwd.τ Cert.SbFwd.sig) → Buf (Elt Bits) ℓ) : Prop :=
  True

def Pre_SbFwdIdeal (m : (ℓ : Loc Cert.SbFwdIdeal.nD Cert.SbFwdIdeal.τ Cert.SbFwdIdeal.sig) → Buf (Elt Ideal) ℓ) : Prop :=
  True

def Pre_SbFwdIdeal_sbfwd_finite [hPre_sbfwd_finite : Cert.Pre_sbfwd_finite.Facts] (m : (ℓ : Loc Cert.SbFwdIdeal.nD Cert.SbFwdIdeal.τ Cert.SbFwdIdeal.sig) → Buf (Elt Ideal) ℓ) : Prop :=
  ∀ c : Dev Cert.SbFwdIdeal.nD,
    (Cert.Pre_sbfwd_finite.fn (F := Ideal) (m ((c.tc : Thread Cert.SbFwdIdeal.nD Cert.SbFwdIdeal.τ).loc Cert.SbFwdIdeal.main_arg0))) = (fun _ => 1#1)

def Pre_SbFwdRefIdeal (m : (ℓ : Loc Cert.SbFwdRefIdeal.nD Cert.SbFwdRefIdeal.τ Cert.SbFwdRefIdeal.sig) → Buf (Elt Ideal) ℓ) : Prop :=
  True

def Pre_SbFwdRefIdeal_sbfwd_finite [hPre_sbfwd_finite : Cert.Pre_sbfwd_finite.Facts] (m : (ℓ : Loc Cert.SbFwdRefIdeal.nD Cert.SbFwdRefIdeal.τ Cert.SbFwdRefIdeal.sig) → Buf (Elt Ideal) ℓ) : Prop :=
  ∀ c : Dev Cert.SbFwdRefIdeal.nD,
    (Cert.Pre_sbfwd_finite.fn (F := Ideal) (m ((c.tc : Thread Cert.SbFwdRefIdeal.nD Cert.SbFwdRefIdeal.τ).loc Cert.SbFwdRefIdeal.main_arg0))) = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_dact_finite [hPre_dact_finite : Cert.Pre_dact_finite.Facts] (m : (ℓ : Loc Cert.DactIdeal.nD Cert.DactIdeal.τ Cert.DactIdeal.sig) → Buf (Elt Ideal) ℓ) : Prop :=
  ∀ c : Dev Cert.DactIdeal.nD,
    (Cert.Pre_dact_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))) = (fun _ => 1#1)

def Pre_DactRefIdeal (m : (ℓ : Loc Cert.DactRefIdeal.nD Cert.DactRefIdeal.τ Cert.DactRefIdeal.sig) → Buf (Elt Ideal) ℓ) : Prop :=
  True

def Pre_DactRefIdeal_dact_finite [hPre_dact_finite : Cert.Pre_dact_finite.Facts] (m : (ℓ : Loc Cert.DactRefIdeal.nD Cert.DactRefIdeal.τ Cert.DactRefIdeal.sig) → Buf (Elt Ideal) ℓ) : Prop :=
  ∀ c : Dev Cert.DactRefIdeal.nD,
    (Cert.Pre_dact_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))) = (fun _ => 1#1)

def Pre_MemRms (m : (ℓ : Loc Cert.MemRms.nD Cert.MemRms.τ Cert.MemRms.sig) → Buf (Elt Bits) ℓ) : Prop :=
  True

def Pre_MemRmsIdeal (m : (ℓ : Loc Cert.MemRmsIdeal.nD Cert.MemRmsIdeal.τ Cert.MemRmsIdeal.sig) → Buf (Elt Ideal) ℓ) : Prop :=
  True

def Pre_MemRmsIdeal_memrms_finite [hPre_memrms_finite : Cert.Pre_memrms_finite.Facts] (m : (ℓ : Loc Cert.MemRmsIdeal.nD Cert.MemRmsIdeal.τ Cert.MemRmsIdeal.sig) → Buf (Elt Ideal) ℓ) : Prop :=
  ∀ c : Dev Cert.MemRmsIdeal.nD,
    (Cert.Pre_memrms_finite.fn (F := Ideal) (m ((c.tc : Thread Cert.MemRmsIdeal.nD Cert.MemRmsIdeal.τ).loc Cert.MemRmsIdeal.main_arg0)) (m ((c.tc : Thread Cert.MemRmsIdeal.nD Cert.MemRmsIdeal.τ).loc Cert.MemRmsIdeal.main_arg1)) (m ((c.tc : Thread Cert.MemRmsIdeal.nD Cert.MemRmsIdeal.τ).loc Cert.MemRmsIdeal.main_arg2))) = (fun _ => 1#1)

def Pre_MemRmsRefIdeal (m : (ℓ : Loc Cert.MemRmsRefIdeal.nD Cert.MemRmsRefIdeal.τ Cert.MemRmsRefIdeal.sig) → Buf (Elt Ideal) ℓ) : Prop :=
  True

def Pre_MemRmsRefIdeal_memrms_finite [hPre_memrms_finite : Cert.Pre_memrms_finite.Facts] (m : (ℓ : Loc Cert.MemRmsRefIdeal.nD Cert.MemRmsRefIdeal.τ Cert.MemRmsRefIdeal.sig) → Buf (Elt Ideal) ℓ) : Prop :=
  ∀ c : Dev Cert.MemRmsRefIdeal.nD,
    (Cert.Pre_memrms_finite.fn (F := Ideal) (m ((c.tc : Thread Cert.MemRmsRefIdeal.nD Cert.MemRmsRefIdeal.τ).loc Cert.MemRmsRefIdeal.main_arg0)) (m ((c.tc : Thread Cert.MemRmsRefIdeal.nD Cert.MemRmsRefIdeal.τ).loc Cert.MemRmsRefIdeal.main_arg1)) (m ((c.tc : Thread Cert.MemRmsRefIdeal.nD Cert.MemRmsRefIdeal.τ).loc Cert.MemRmsRefIdeal.main_arg2))) = (fun _ => 1#1)

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhIdeal_dh_finite [hPre_dh_finite : Cert.Pre_dh_finite.Facts] (m : (ℓ : Loc Cert.DhIdeal.nD Cert.DhIdeal.τ Cert.DhIdeal.sig) → Buf (Elt Ideal) ℓ) : Prop :=
  ∀ c : Dev Cert.DhIdeal.nD,
    (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6))) = (fun _ => 1#1)

def Pre_DhRefIdeal (m : (ℓ : Loc Cert.DhRefIdeal.nD Cert.DhRefIdeal.τ Cert.DhRefIdeal.sig) → Buf (Elt Ideal) ℓ) : Prop :=
  True

def Pre_DhRefIdeal_dh_finite [hPre_dh_finite : Cert.Pre_dh_finite.Facts] (m : (ℓ : Loc Cert.DhRefIdeal.nD Cert.DhRefIdeal.τ Cert.DhRefIdeal.sig) → Buf (Elt Ideal) ℓ) : Prop :=
  ∀ c : Dev Cert.DhRefIdeal.nD,
    (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6))) = (fun _ => 1#1)

def Pre_DhGate (m : (ℓ : Loc Cert.DhGate.nD Cert.DhGate.τ Cert.DhGate.sig) → Buf (Elt Bits) ℓ) : Prop :=
  True

def Pre_DhGateIdeal (m : (ℓ : Loc Cert.DhGateIdeal.nD Cert.DhGateIdeal.τ Cert.DhGateIdeal.sig) → Buf (Elt Ideal) ℓ) : Prop :=
  True

def Pre_DhGateIdeal_dhgate_finite [hPre_dhgate_finite : Cert.Pre_dhgate_finite.Facts] (m : (ℓ : Loc Cert.DhGateIdeal.nD Cert.DhGateIdeal.τ Cert.DhGateIdeal.sig) → Buf (Elt Ideal) ℓ) : Prop :=
  ∀ c : Dev Cert.DhGateIdeal.nD,
    (Cert.Pre_dhgate_finite.fn (F := Ideal) (m ((c.tc : Thread Cert.DhGateIdeal.nD Cert.DhGateIdeal.τ).loc Cert.DhGateIdeal.main_arg0)) (m ((c.tc : Thread Cert.DhGateIdeal.nD Cert.DhGateIdeal.τ).loc Cert.DhGateIdeal.main_arg1)) (m ((c.tc : Thread Cert.DhGateIdeal.nD Cert.DhGateIdeal.τ).loc Cert.DhGateIdeal.main_arg2)) (m ((c.tc : Thread Cert.DhGateIdeal.nD Cert.DhGateIdeal.τ).loc Cert.DhGateIdeal.main_arg3)) (m ((c.tc : Thread Cert.DhGateIdeal.nD Cert.DhGateIdeal.τ).loc Cert.DhGateIdeal.main_arg4)) (m ((c.tc : Thread Cert.DhGateIdeal.nD Cert.DhGateIdeal.τ).loc Cert.DhGateIdeal.main_arg5))) = (fun _ => 1#1)

def Pre_DhGateRefIdeal (m : (ℓ : Loc Cert.DhGateRefIdeal.nD Cert.DhGateRefIdeal.τ Cert.DhGateRefIdeal.sig) → Buf (Elt Ideal) ℓ) : Prop :=
  True

def Pre_DhGateRefIdeal_dhgate_finite [hPre_dhgate_finite : Cert.Pre_dhgate_finite.Facts] (m : (ℓ : Loc Cert.DhGateRefIdeal.nD Cert.DhGateRefIdeal.τ Cert.DhGateRefIdeal.sig) → Buf (Elt Ideal) ℓ) : Prop :=
  ∀ c : Dev Cert.DhGateRefIdeal.nD,
    (Cert.Pre_dhgate_finite.fn (F := Ideal) (m ((c.tc : Thread Cert.DhGateRefIdeal.nD Cert.DhGateRefIdeal.τ).loc Cert.DhGateRefIdeal.main_arg0)) (m ((c.tc : Thread Cert.DhGateRefIdeal.nD Cert.DhGateRefIdeal.τ).loc Cert.DhGateRefIdeal.main_arg1)) (m ((c.tc : Thread Cert.DhGateRefIdeal.nD Cert.DhGateRefIdeal.τ).loc Cert.DhGateRefIdeal.main_arg2)) (m ((c.tc : Thread Cert.DhGateRefIdeal.nD Cert.DhGateRefIdeal.τ).loc Cert.DhGateRefIdeal.main_arg3)) (m ((c.tc : Thread Cert.DhGateRefIdeal.nD Cert.DhGateRefIdeal.τ).loc Cert.DhGateRefIdeal.main_arg4)) (m ((c.tc : Thread Cert.DhGateRefIdeal.nD Cert.DhGateRefIdeal.τ).loc Cert.DhGateRefIdeal.main_arg5))) = (fun _ => 1#1)

def Pre_MemAtt (m : (ℓ : Loc Cert.MemAtt.nD Cert.MemAtt.τ Cert.MemAtt.sig) → Buf (Elt Bits) ℓ) : Prop :=
  True

def Pre_MemAttIdeal (m : (ℓ : Loc Cert.MemAttIdeal.nD Cert.MemAttIdeal.τ Cert.MemAttIdeal.sig) → Buf (Elt Ideal) ℓ) : Prop :=
  True

def Pre_MemAttIdeal_mem_finite [hPre_mem_finite : Cert.Pre_mem_finite.Facts] (m : (ℓ : Loc Cert.MemAttIdeal.nD Cert.MemAttIdeal.τ Cert.MemAttIdeal.sig) → Buf (Elt Ideal) ℓ) : Prop :=
  ∀ c : Dev Cert.MemAttIdeal.nD,
    (Cert.Pre_mem_finite.fn (F := Ideal) (m ((c.tc : Thread Cert.MemAttIdeal.nD Cert.MemAttIdeal.τ).loc Cert.MemAttIdeal.main_arg0)) (m ((c.tc : Thread Cert.MemAttIdeal.nD Cert.MemAttIdeal.τ).loc Cert.MemAttIdeal.main_arg1)) (m ((c.tc : Thread Cert.MemAttIdeal.nD Cert.MemAttIdeal.τ).loc Cert.MemAttIdeal.main_arg2)) (m ((c.tc : Thread Cert.MemAttIdeal.nD Cert.MemAttIdeal.τ).loc Cert.MemAttIdeal.main_arg3))) = (fun _ => 1#1)

def Pre_MemAttRefIdeal (m : (ℓ : Loc Cert.MemAttRefIdeal.nD Cert.MemAttRefIdeal.τ Cert.MemAttRefIdeal.sig) → Buf (Elt Ideal) ℓ) : Prop :=
  True

def Pre_MemAttRefIdeal_mem_finite [hPre_mem_finite : Cert.Pre_mem_finite.Facts] (m : (ℓ : Loc Cert.MemAttRefIdeal.nD Cert.MemAttRefIdeal.τ Cert.MemAttRefIdeal.sig) → Buf (Elt Ideal) ℓ) : Prop :=
  ∀ c : Dev Cert.MemAttRefIdeal.nD,
    (Cert.Pre_mem_finite.fn (F := Ideal) (m ((c.tc : Thread Cert.MemAttRefIdeal.nD Cert.MemAttRefIdeal.τ).loc Cert.MemAttRefIdeal.main_arg0)) (m ((c.tc : Thread Cert.MemAttRefIdeal.nD Cert.MemAttRefIdeal.τ).loc Cert.MemAttRefIdeal.main_arg1)) (m ((c.tc : Thread Cert.MemAttRefIdeal.nD Cert.MemAttRefIdeal.τ).loc Cert.MemAttRefIdeal.main_arg2)) (m ((c.tc : Thread Cert.MemAttRefIdeal.nD Cert.MemAttRefIdeal.τ).loc Cert.MemAttRefIdeal.main_arg3))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_QkMem (m : (ℓ : Loc Cert.QkMem.nD Cert.QkMem.τ Cert.QkMem.sig) → Buf (Elt Bits) ℓ) : Prop :=
  True

def Pre_QkMemIdeal (m : (ℓ : Loc Cert.QkMemIdeal.nD Cert.QkMemIdeal.τ Cert.QkMemIdeal.sig) → Buf (Elt Ideal) ℓ) : Prop :=
  True

def Pre_QkMemIdeal_qkmem_finite [hPre_qkmem_finite : Cert.Pre_qkmem_finite.Facts] (m : (ℓ : Loc Cert.QkMemIdeal.nD Cert.QkMemIdeal.τ Cert.QkMemIdeal.sig) → Buf (Elt Ideal) ℓ) : Prop :=
  ∀ c : Dev Cert.QkMemIdeal.nD,
    (Cert.Pre_qkmem_finite.fn (F := Ideal) (m ((c.tc : Thread Cert.QkMemIdeal.nD Cert.QkMemIdeal.τ).loc Cert.QkMemIdeal.main_arg0)) (m ((c.tc : Thread Cert.QkMemIdeal.nD Cert.QkMemIdeal.τ).loc Cert.QkMemIdeal.main_arg1)) (m ((c.tc : Thread Cert.QkMemIdeal.nD Cert.QkMemIdeal.τ).loc Cert.QkMemIdeal.main_arg2))) = (fun _ => 1#1)

def Pre_QkMemRefIdeal (m : (ℓ : Loc Cert.QkMemRefIdeal.nD Cert.QkMemRefIdeal.τ Cert.QkMemRefIdeal.sig) → Buf (Elt Ideal) ℓ) : Prop :=
  True

def Pre_QkMemRefIdeal_qkmem_finite [hPre_qkmem_finite : Cert.Pre_qkmem_finite.Facts] (m : (ℓ : Loc Cert.QkMemRefIdeal.nD Cert.QkMemRefIdeal.τ Cert.QkMemRefIdeal.sig) → Buf (Elt Ideal) ℓ) : Prop :=
  ∀ c : Dev Cert.QkMemRefIdeal.nD,
    (Cert.Pre_qkmem_finite.fn (F := Ideal) (m ((c.tc : Thread Cert.QkMemRefIdeal.nD Cert.QkMemRefIdeal.τ).loc Cert.QkMemRefIdeal.main_arg0)) (m ((c.tc : Thread Cert.QkMemRefIdeal.nD Cert.QkMemRefIdeal.τ).loc Cert.QkMemRefIdeal.main_arg1)) (m ((c.tc : Thread Cert.QkMemRefIdeal.nD Cert.QkMemRefIdeal.τ).loc Cert.QkMemRefIdeal.main_arg2))) = (fun _ => 1#1)

def Pre_QkRope (m : (ℓ : Loc Cert.QkRope.nD Cert.QkRope.τ Cert.QkRope.sig) → Buf (Elt Bits) ℓ) : Prop :=
  True

def Pre_QkRopeIdeal (m : (ℓ : Loc Cert.QkRopeIdeal.nD Cert.QkRopeIdeal.τ Cert.QkRopeIdeal.sig) → Buf (Elt Ideal) ℓ) : Prop :=
  True

def Pre_QkRopeIdeal_qkrope_finite [hPre_qkrope_finite : Cert.Pre_qkrope_finite.Facts] (m : (ℓ : Loc Cert.QkRopeIdeal.nD Cert.QkRopeIdeal.τ Cert.QkRopeIdeal.sig) → Buf (Elt Ideal) ℓ) : Prop :=
  ∀ c : Dev Cert.QkRopeIdeal.nD,
    (Cert.Pre_qkrope_finite.fn (F := Ideal) (m ((c.tc : Thread Cert.QkRopeIdeal.nD Cert.QkRopeIdeal.τ).loc Cert.QkRopeIdeal.main_arg0)) (m ((c.tc : Thread Cert.QkRopeIdeal.nD Cert.QkRopeIdeal.τ).loc Cert.QkRopeIdeal.main_arg1)) (m ((c.tc : Thread Cert.QkRopeIdeal.nD Cert.QkRopeIdeal.τ).loc Cert.QkRopeIdeal.main_arg2)) (m ((c.tc : Thread Cert.QkRopeIdeal.nD Cert.QkRopeIdeal.τ).loc Cert.QkRopeIdeal.main_arg3)) (m ((c.tc : Thread Cert.QkRopeIdeal.nD Cert.QkRopeIdeal.τ).loc Cert.QkRopeIdeal.main_arg4))) = (fun _ => 1#1)

def Pre_QkRopeRefIdeal (m : (ℓ : Loc Cert.QkRopeRefIdeal.nD Cert.QkRopeRefIdeal.τ Cert.QkRopeRefIdeal.sig) → Buf (Elt Ideal) ℓ) : Prop :=
  True

def Pre_QkRopeRefIdeal_qkrope_finite [hPre_qkrope_finite : Cert.Pre_qkrope_finite.Facts] (m : (ℓ : Loc Cert.QkRopeRefIdeal.nD Cert.QkRopeRefIdeal.τ Cert.QkRopeRefIdeal.sig) → Buf (Elt Ideal) ℓ) : Prop :=
  ∀ c : Dev Cert.QkRopeRefIdeal.nD,
    (Cert.Pre_qkrope_finite.fn (F := Ideal) (m ((c.tc : Thread Cert.QkRopeRefIdeal.nD Cert.QkRopeRefIdeal.τ).loc Cert.QkRopeRefIdeal.main_arg0)) (m ((c.tc : Thread Cert.QkRopeRefIdeal.nD Cert.QkRopeRefIdeal.τ).loc Cert.QkRopeRefIdeal.main_arg1)) (m ((c.tc : Thread Cert.QkRopeRefIdeal.nD Cert.QkRopeRefIdeal.τ).loc Cert.QkRopeRefIdeal.main_arg2)) (m ((c.tc : Thread Cert.QkRopeRefIdeal.nD Cert.QkRopeRefIdeal.τ).loc Cert.QkRopeRefIdeal.main_arg3)) (m ((c.tc : Thread Cert.QkRopeRefIdeal.nD Cert.QkRopeRefIdeal.τ).loc Cert.QkRopeRefIdeal.main_arg4))) = (fun _ => 1#1)

def Pre_KMem (m : (ℓ : Loc Cert.KMem.nD Cert.KMem.τ Cert.KMem.sig) → Buf (Elt Bits) ℓ) : Prop :=
  True

def Pre_KMemIdeal (m : (ℓ : Loc Cert.KMemIdeal.nD Cert.KMemIdeal.τ Cert.KMemIdeal.sig) → Buf (Elt Ideal) ℓ) : Prop :=
  True

def Pre_KMemIdeal_kmem_finite [hPre_kmem_finite : Cert.Pre_kmem_finite.Facts] (m : (ℓ : Loc Cert.KMemIdeal.nD Cert.KMemIdeal.τ Cert.KMemIdeal.sig) → Buf (Elt Ideal) ℓ) : Prop :=
  ∀ c : Dev Cert.KMemIdeal.nD,
    (Cert.Pre_kmem_finite.fn (F := Ideal) (m ((c.tc : Thread Cert.KMemIdeal.nD Cert.KMemIdeal.τ).loc Cert.KMemIdeal.main_arg0)) (m ((c.tc : Thread Cert.KMemIdeal.nD Cert.KMemIdeal.τ).loc Cert.KMemIdeal.main_arg1)) (m ((c.tc : Thread Cert.KMemIdeal.nD Cert.KMemIdeal.τ).loc Cert.KMemIdeal.main_arg2))) = (fun _ => 1#1)

def Pre_KMemRefIdeal (m : (ℓ : Loc Cert.KMemRefIdeal.nD Cert.KMemRefIdeal.τ Cert.KMemRefIdeal.sig) → Buf (Elt Ideal) ℓ) : Prop :=
  True

def Pre_KMemRefIdeal_kmem_finite [hPre_kmem_finite : Cert.Pre_kmem_finite.Facts] (m : (ℓ : Loc Cert.KMemRefIdeal.nD Cert.KMemRefIdeal.τ Cert.KMemRefIdeal.sig) → Buf (Elt Ideal) ℓ) : Prop :=
  ∀ c : Dev Cert.KMemRefIdeal.nD,
    (Cert.Pre_kmem_finite.fn (F := Ideal) (m ((c.tc : Thread Cert.KMemRefIdeal.nD Cert.KMemRefIdeal.τ).loc Cert.KMemRefIdeal.main_arg0)) (m ((c.tc : Thread Cert.KMemRefIdeal.nD Cert.KMemRefIdeal.τ).loc Cert.KMemRefIdeal.main_arg1)) (m ((c.tc : Thread Cert.KMemRefIdeal.nD Cert.KMemRefIdeal.τ).loc Cert.KMemRefIdeal.main_arg2))) = (fun _ => 1#1)

def Pre_KRope (m : (ℓ : Loc Cert.KRope.nD Cert.KRope.τ Cert.KRope.sig) → Buf (Elt Bits) ℓ) : Prop :=
  True

def Pre_KRopeIdeal (m : (ℓ : Loc Cert.KRopeIdeal.nD Cert.KRopeIdeal.τ Cert.KRopeIdeal.sig) → Buf (Elt Ideal) ℓ) : Prop :=
  True

def Pre_KRopeIdeal_krope_finite [hPre_krope_finite : Cert.Pre_krope_finite.Facts] (m : (ℓ : Loc Cert.KRopeIdeal.nD Cert.KRopeIdeal.τ Cert.KRopeIdeal.sig) → Buf (Elt Ideal) ℓ) : Prop :=
  ∀ c : Dev Cert.KRopeIdeal.nD,
    (Cert.Pre_krope_finite.fn (F := Ideal) (m ((c.tc : Thread Cert.KRopeIdeal.nD Cert.KRopeIdeal.τ).loc Cert.KRopeIdeal.main_arg0)) (m ((c.tc : Thread Cert.KRopeIdeal.nD Cert.KRopeIdeal.τ).loc Cert.KRopeIdeal.main_arg1)) (m ((c.tc : Thread Cert.KRopeIdeal.nD Cert.KRopeIdeal.τ).loc Cert.KRopeIdeal.main_arg2)) (m ((c.tc : Thread Cert.KRopeIdeal.nD Cert.KRopeIdeal.τ).loc Cert.KRopeIdeal.main_arg3)) (m ((c.tc : Thread Cert.KRopeIdeal.nD Cert.KRopeIdeal.τ).loc Cert.KRopeIdeal.main_arg4))) = (fun _ => 1#1)

def Pre_KRopeRefIdeal (m : (ℓ : Loc Cert.KRopeRefIdeal.nD Cert.KRopeRefIdeal.τ Cert.KRopeRefIdeal.sig) → Buf (Elt Ideal) ℓ) : Prop :=
  True

def Pre_KRopeRefIdeal_krope_finite [hPre_krope_finite : Cert.Pre_krope_finite.Facts] (m : (ℓ : Loc Cert.KRopeRefIdeal.nD Cert.KRopeRefIdeal.τ Cert.KRopeRefIdeal.sig) → Buf (Elt Ideal) ℓ) : Prop :=
  ∀ c : Dev Cert.KRopeRefIdeal.nD,
    (Cert.Pre_krope_finite.fn (F := Ideal) (m ((c.tc : Thread Cert.KRopeRefIdeal.nD Cert.KRopeRefIdeal.τ).loc Cert.KRopeRefIdeal.main_arg0)) (m ((c.tc : Thread Cert.KRopeRefIdeal.nD Cert.KRopeRefIdeal.τ).loc Cert.KRopeRefIdeal.main_arg1)) (m ((c.tc : Thread Cert.KRopeRefIdeal.nD Cert.KRopeRefIdeal.τ).loc Cert.KRopeRefIdeal.main_arg2)) (m ((c.tc : Thread Cert.KRopeRefIdeal.nD Cert.KRopeRefIdeal.τ).loc Cert.KRopeRefIdeal.main_arg3)) (m ((c.tc : Thread Cert.KRopeRefIdeal.nD Cert.KRopeRefIdeal.τ).loc Cert.KRopeRefIdeal.main_arg4))) = (fun _ => 1#1)

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemFwdRefIdeal (m : (ℓ : Loc Cert.MemFwdRefIdeal.nD Cert.MemFwdRefIdeal.τ Cert.MemFwdRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_QNormFwd (m : (ℓ : Loc Cert.QNormFwd.nD Cert.QNormFwd.τ Cert.QNormFwd.sig) → Buf (Elt Bits) ℓ) : Prop :=
  True

def Pre_QNormFwdIdeal (m : (ℓ : Loc Cert.QNormFwdIdeal.nD Cert.QNormFwdIdeal.τ Cert.QNormFwdIdeal.sig) → Buf (Elt Ideal) ℓ) : Prop :=
  True

def Pre_QNormFwdIdeal_qnf_finite [hPre_qnf_finite : Cert.Pre_qnf_finite.Facts] (m : (ℓ : Loc Cert.QNormFwdIdeal.nD Cert.QNormFwdIdeal.τ Cert.QNormFwdIdeal.sig) → Buf (Elt Ideal) ℓ) : Prop :=
  ∀ c : Dev Cert.QNormFwdIdeal.nD,
    (Cert.Pre_qnf_finite.fn (F := Ideal) (m ((c.tc : Thread Cert.QNormFwdIdeal.nD Cert.QNormFwdIdeal.τ).loc Cert.QNormFwdIdeal.main_arg0)) (m ((c.tc : Thread Cert.QNormFwdIdeal.nD Cert.QNormFwdIdeal.τ).loc Cert.QNormFwdIdeal.main_arg1))) = (fun _ => 1#1)

def Pre_QNormFwdRefIdeal (m : (ℓ : Loc Cert.QNormFwdRefIdeal.nD Cert.QNormFwdRefIdeal.τ Cert.QNormFwdRefIdeal.sig) → Buf (Elt Ideal) ℓ) : Prop :=
  True

def Pre_QNormFwdRefIdeal_qnf_finite [hPre_qnf_finite : Cert.Pre_qnf_finite.Facts] (m : (ℓ : Loc Cert.QNormFwdRefIdeal.nD Cert.QNormFwdRefIdeal.τ Cert.QNormFwdRefIdeal.sig) → Buf (Elt Ideal) ℓ) : Prop :=
  ∀ c : Dev Cert.QNormFwdRefIdeal.nD,
    (Cert.Pre_qnf_finite.fn (F := Ideal) (m ((c.tc : Thread Cert.QNormFwdRefIdeal.nD Cert.QNormFwdRefIdeal.τ).loc Cert.QNormFwdRefIdeal.main_arg0)) (m ((c.tc : Thread Cert.QNormFwdRefIdeal.nD Cert.QNormFwdRefIdeal.τ).loc Cert.QNormFwdRefIdeal.main_arg1))) = (fun _ => 1#1)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ r.2.sem = fun _ => 0)

def quiescent_SbIdeal_pre_sb_finite [hSbIdeal : Cert.SbIdeal.Facts] [hPre_sb_finite : Cert.Pre_sb_finite.Facts] : Prop :=
  ∀ (m : (ℓ : Loc Cert.SbIdeal.nD Cert.SbIdeal.τ Cert.SbIdeal.sig) → Buf (Elt Ideal) ℓ) (g : Dev Cert.SbIdeal.nD → PrngReg), Pre_SbIdeal_sb_finite m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1))
      ∧ r.2.sem = fun _ => 0)

def quiescent_SbRefIdeal_pre_sb_finite [hSbRefIdeal : Cert.SbRefIdeal.Facts] [hPre_sb_finite : Cert.Pre_sb_finite.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_sb_finite m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1))
      ∧ r.2.sem = fun _ => 0)

def quiescent_SbFwd [hSbFwd : Cert.SbFwd.Facts] : Prop :=
  ∀ (m : (ℓ : Loc Cert.SbFwd.nD Cert.SbFwd.τ Cert.SbFwd.sig) → Buf (Elt Bits) ℓ) (g : Dev Cert.SbFwd.nD → PrngReg), Pre_SbFwd m →
    θ_run (Cert.SbFwd.defs (F := Bits)) (onTc (τ := Cert.SbFwd.τ) (Cert.SbFwd.main (F := Bits))) ⟨m, fun _ => 0, g⟩ (fun r => (∀ c : Dev Cert.SbFwd.nD,
      r.2.mem ((c.tc : Thread Cert.SbFwd.nD Cert.SbFwd.τ).loc Cert.SbFwd.main_arg0) = m ((c.tc : Thread Cert.SbFwd.nD Cert.SbFwd.τ).loc Cert.SbFwd.main_arg0))
      ∧ r.2.sem = fun _ => 0)

def quiescent_SbFwdIdeal [hSbFwdIdeal : Cert.SbFwdIdeal.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ r.2.sem = fun _ => 0)

def quiescent_SbFwdIdeal_pre_sbfwd_finite [hSbFwdIdeal : Cert.SbFwdIdeal.Facts] [hPre_sbfwd_finite : Cert.Pre_sbfwd_finite.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal_sbfwd_finite m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ r.2.sem = fun _ => 0)

def quiescent_SbFwdRefIdeal [hSbFwdRefIdeal : Cert.SbFwdRefIdeal.Facts] : Prop :=
  ∀ (m : (ℓ : Loc Cert.SbFwdRefIdeal.nD Cert.SbFwdRefIdeal.τ Cert.SbFwdRefIdeal.sig) → Buf (Elt Ideal) ℓ) (g : Dev Cert.SbFwdRefIdeal.nD → PrngReg), Pre_SbFwdRefIdeal m →
    θ_run (Cert.SbFwdRefIdeal.defs (F := Ideal)) (onTc (τ := Cert.SbFwdRefIdeal.τ) (Cert.SbFwdRefIdeal.main (F := Ideal))) ⟨m, fun _ => 0, g⟩ (fun r => (∀ c : Dev Cert.SbFwdRefIdeal.nD,
      r.2.mem ((c.tc : Thread Cert.SbFwdRefIdeal.nD Cert.SbFwdRefIdeal.τ).loc Cert.SbFwdRefIdeal.main_arg0) = m ((c.tc : Thread Cert.SbFwdRefIdeal.nD Cert.SbFwdRefIdeal.τ).loc Cert.SbFwdRefIdeal.main_arg0))
      ∧ r.2.sem = fun _ => 0)

def quiescent_SbFwdRefIdeal_pre_sbfwd_finite [hSbFwdRefIdeal : Cert.SbFwdRefIdeal.Facts] [hPre_sbfwd_finite : Cert.Pre_sbfwd_finite.Facts] : Prop :=
  ∀ (m : (ℓ : Loc Cert.SbFwdRefIdeal.nD Cert.SbFwdRefIdeal.τ Cert.SbFwdRefIdeal.sig) → Buf (Elt Ideal) ℓ) (g : Dev Cert.SbFwdRefIdeal.nD → PrngReg), Pre_SbFwdRefIdeal_sbfwd_finite m →
    θ_run (Cert.SbFwdRefIdeal.defs (F := Ideal)) (onTc (τ := Cert.SbFwdRefIdeal.τ) (Cert.SbFwdRefIdeal.main (F := Ideal))) ⟨m, fun _ => 0, g⟩ (fun r => (∀ c : Dev Cert.SbFwdRefIdeal.nD,
      r.2.mem ((c.tc : Thread Cert.SbFwdRefIdeal.nD Cert.SbFwdRefIdeal.τ).loc Cert.SbFwdRefIdeal.main_arg0) = m ((c.tc : Thread Cert.SbFwdRefIdeal.nD Cert.SbFwdRefIdeal.τ).loc Cert.SbFwdRefIdeal.main_arg0))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactIdeal_pre_dact_finite [hDactIdeal : Cert.DactIdeal.Facts] [hPre_dact_finite : Cert.Pre_dact_finite.Facts] : Prop :=
  ∀ (m : (ℓ : Loc Cert.DactIdeal.nD Cert.DactIdeal.τ Cert.DactIdeal.sig) → Buf (Elt Ideal) ℓ) (g : Dev Cert.DactIdeal.nD → PrngReg), Pre_DactIdeal_dact_finite m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_DactRefIdeal_pre_dact_finite [hDactRefIdeal : Cert.DactRefIdeal.Facts] [hPre_dact_finite : Cert.Pre_dact_finite.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal_dact_finite m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_MemRms [hMemRms : Cert.MemRms.Facts] : Prop :=
  ∀ (m : (ℓ : Loc Cert.MemRms.nD Cert.MemRms.τ Cert.MemRms.sig) → Buf (Elt Bits) ℓ) (g : Dev Cert.MemRms.nD → PrngReg), Pre_MemRms m →
    θ_run (Cert.MemRms.defs (F := Bits)) (onTc (τ := Cert.MemRms.τ) (Cert.MemRms.main (F := Bits))) ⟨m, fun _ => 0, g⟩ (fun r => (∀ c : Dev Cert.MemRms.nD,
      r.2.mem ((c.tc : Thread Cert.MemRms.nD Cert.MemRms.τ).loc Cert.MemRms.main_arg0) = m ((c.tc : Thread Cert.MemRms.nD Cert.MemRms.τ).loc Cert.MemRms.main_arg0)
      ∧ r.2.mem ((c.tc : Thread Cert.MemRms.nD Cert.MemRms.τ).loc Cert.MemRms.main_arg1) = m ((c.tc : Thread Cert.MemRms.nD Cert.MemRms.τ).loc Cert.MemRms.main_arg1)
      ∧ r.2.mem ((c.tc : Thread Cert.MemRms.nD Cert.MemRms.τ).loc Cert.MemRms.main_arg2) = m ((c.tc : Thread Cert.MemRms.nD Cert.MemRms.τ).loc Cert.MemRms.main_arg2))
      ∧ r.2.sem = fun _ => 0)

def quiescent_MemRmsIdeal [hMemRmsIdeal : Cert.MemRmsIdeal.Facts] : Prop :=
  ∀ (m : (ℓ : Loc Cert.MemRmsIdeal.nD Cert.MemRmsIdeal.τ Cert.MemRmsIdeal.sig) → Buf (Elt Ideal) ℓ) (g : Dev Cert.MemRmsIdeal.nD → PrngReg), Pre_MemRmsIdeal m →
    θ_run (Cert.MemRmsIdeal.defs (F := Ideal)) (onTc (τ := Cert.MemRmsIdeal.τ) (Cert.MemRmsIdeal.main (F := Ideal))) ⟨m, fun _ => 0, g⟩ (fun r => (∀ c : Dev Cert.MemRmsIdeal.nD,
      r.2.mem ((c.tc : Thread Cert.MemRmsIdeal.nD Cert.MemRmsIdeal.τ).loc Cert.MemRmsIdeal.main_arg0) = m ((c.tc : Thread Cert.MemRmsIdeal.nD Cert.MemRmsIdeal.τ).loc Cert.MemRmsIdeal.main_arg0)
      ∧ r.2.mem ((c.tc : Thread Cert.MemRmsIdeal.nD Cert.MemRmsIdeal.τ).loc Cert.MemRmsIdeal.main_arg1) = m ((c.tc : Thread Cert.MemRmsIdeal.nD Cert.MemRmsIdeal.τ).loc Cert.MemRmsIdeal.main_arg1)
      ∧ r.2.mem ((c.tc : Thread Cert.MemRmsIdeal.nD Cert.MemRmsIdeal.τ).loc Cert.MemRmsIdeal.main_arg2) = m ((c.tc : Thread Cert.MemRmsIdeal.nD Cert.MemRmsIdeal.τ).loc Cert.MemRmsIdeal.main_arg2))
      ∧ r.2.sem = fun _ => 0)

def quiescent_MemRmsIdeal_pre_memrms_finite [hMemRmsIdeal : Cert.MemRmsIdeal.Facts] [hPre_memrms_finite : Cert.Pre_memrms_finite.Facts] : Prop :=
  ∀ (m : (ℓ : Loc Cert.MemRmsIdeal.nD Cert.MemRmsIdeal.τ Cert.MemRmsIdeal.sig) → Buf (Elt Ideal) ℓ) (g : Dev Cert.MemRmsIdeal.nD → PrngReg), Pre_MemRmsIdeal_memrms_finite m →
    θ_run (Cert.MemRmsIdeal.defs (F := Ideal)) (onTc (τ := Cert.MemRmsIdeal.τ) (Cert.MemRmsIdeal.main (F := Ideal))) ⟨m, fun _ => 0, g⟩ (fun r => (∀ c : Dev Cert.MemRmsIdeal.nD,
      r.2.mem ((c.tc : Thread Cert.MemRmsIdeal.nD Cert.MemRmsIdeal.τ).loc Cert.MemRmsIdeal.main_arg0) = m ((c.tc : Thread Cert.MemRmsIdeal.nD Cert.MemRmsIdeal.τ).loc Cert.MemRmsIdeal.main_arg0)
      ∧ r.2.mem ((c.tc : Thread Cert.MemRmsIdeal.nD Cert.MemRmsIdeal.τ).loc Cert.MemRmsIdeal.main_arg1) = m ((c.tc : Thread Cert.MemRmsIdeal.nD Cert.MemRmsIdeal.τ).loc Cert.MemRmsIdeal.main_arg1)
      ∧ r.2.mem ((c.tc : Thread Cert.MemRmsIdeal.nD Cert.MemRmsIdeal.τ).loc Cert.MemRmsIdeal.main_arg2) = m ((c.tc : Thread Cert.MemRmsIdeal.nD Cert.MemRmsIdeal.τ).loc Cert.MemRmsIdeal.main_arg2))
      ∧ r.2.sem = fun _ => 0)

def quiescent_MemRmsRefIdeal [hMemRmsRefIdeal : Cert.MemRmsRefIdeal.Facts] : Prop :=
  ∀ (m : (ℓ : Loc Cert.MemRmsRefIdeal.nD Cert.MemRmsRefIdeal.τ Cert.MemRmsRefIdeal.sig) → Buf (Elt Ideal) ℓ) (g : Dev Cert.MemRmsRefIdeal.nD → PrngReg), Pre_MemRmsRefIdeal m →
    θ_run (Cert.MemRmsRefIdeal.defs (F := Ideal)) (onTc (τ := Cert.MemRmsRefIdeal.τ) (Cert.MemRmsRefIdeal.main (F := Ideal))) ⟨m, fun _ => 0, g⟩ (fun r => (∀ c : Dev Cert.MemRmsRefIdeal.nD,
      r.2.mem ((c.tc : Thread Cert.MemRmsRefIdeal.nD Cert.MemRmsRefIdeal.τ).loc Cert.MemRmsRefIdeal.main_arg0) = m ((c.tc : Thread Cert.MemRmsRefIdeal.nD Cert.MemRmsRefIdeal.τ).loc Cert.MemRmsRefIdeal.main_arg0)
      ∧ r.2.mem ((c.tc : Thread Cert.MemRmsRefIdeal.nD Cert.MemRmsRefIdeal.τ).loc Cert.MemRmsRefIdeal.main_arg1) = m ((c.tc : Thread Cert.MemRmsRefIdeal.nD Cert.MemRmsRefIdeal.τ).loc Cert.MemRmsRefIdeal.main_arg1)
      ∧ r.2.mem ((c.tc : Thread Cert.MemRmsRefIdeal.nD Cert.MemRmsRefIdeal.τ).loc Cert.MemRmsRefIdeal.main_arg2) = m ((c.tc : Thread Cert.MemRmsRefIdeal.nD Cert.MemRmsRefIdeal.τ).loc Cert.MemRmsRefIdeal.main_arg2))
      ∧ r.2.sem = fun _ => 0)

def quiescent_MemRmsRefIdeal_pre_memrms_finite [hMemRmsRefIdeal : Cert.MemRmsRefIdeal.Facts] [hPre_memrms_finite : Cert.Pre_memrms_finite.Facts] : Prop :=
  ∀ (m : (ℓ : Loc Cert.MemRmsRefIdeal.nD Cert.MemRmsRefIdeal.τ Cert.MemRmsRefIdeal.sig) → Buf (Elt Ideal) ℓ) (g : Dev Cert.MemRmsRefIdeal.nD → PrngReg), Pre_MemRmsRefIdeal_memrms_finite m →
    θ_run (Cert.MemRmsRefIdeal.defs (F := Ideal)) (onTc (τ := Cert.MemRmsRefIdeal.τ) (Cert.MemRmsRefIdeal.main (F := Ideal))) ⟨m, fun _ => 0, g⟩ (fun r => (∀ c : Dev Cert.MemRmsRefIdeal.nD,
      r.2.mem ((c.tc : Thread Cert.MemRmsRefIdeal.nD Cert.MemRmsRefIdeal.τ).loc Cert.MemRmsRefIdeal.main_arg0) = m ((c.tc : Thread Cert.MemRmsRefIdeal.nD Cert.MemRmsRefIdeal.τ).loc Cert.MemRmsRefIdeal.main_arg0)
      ∧ r.2.mem ((c.tc : Thread Cert.MemRmsRefIdeal.nD Cert.MemRmsRefIdeal.τ).loc Cert.MemRmsRefIdeal.main_arg1) = m ((c.tc : Thread Cert.MemRmsRefIdeal.nD Cert.MemRmsRefIdeal.τ).loc Cert.MemRmsRefIdeal.main_arg1)
      ∧ r.2.mem ((c.tc : Thread Cert.MemRmsRefIdeal.nD Cert.MemRmsRefIdeal.τ).loc Cert.MemRmsRefIdeal.main_arg2) = m ((c.tc : Thread Cert.MemRmsRefIdeal.nD Cert.MemRmsRefIdeal.τ).loc Cert.MemRmsRefIdeal.main_arg2))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4)
      ∧ r.2.mem ((c.tc : Thread Cert.Dh.nD Cert.Dh.τ).loc Cert.Dh.main_arg5) = m ((c.tc : Thread Cert.Dh.nD Cert.Dh.τ).loc Cert.Dh.main_arg5)
      ∧ r.2.mem ((c.tc : Thread Cert.Dh.nD Cert.Dh.τ).loc Cert.Dh.main_arg6) = m ((c.tc : Thread Cert.Dh.nD Cert.Dh.τ).loc Cert.Dh.main_arg6))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
      ∧ r.2.mem ((c.tc : Thread Cert.DhIdeal.nD Cert.DhIdeal.τ).loc Cert.DhIdeal.main_arg6) = m ((c.tc : Thread Cert.DhIdeal.nD Cert.DhIdeal.τ).loc Cert.DhIdeal.main_arg6))
      ∧ r.2.sem = fun _ => 0)

def quiescent_DhIdeal_pre_dh_finite [hDhIdeal : Cert.DhIdeal.Facts] [hPre_dh_finite : Cert.Pre_dh_finite.Facts] : Prop :=
  ∀ (m : (ℓ : Loc Cert.DhIdeal.nD Cert.DhIdeal.τ Cert.DhIdeal.sig) → Buf (Elt Ideal) ℓ) (g : Dev Cert.DhIdeal.nD → PrngReg), Pre_DhIdeal_dh_finite m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
      ∧ r.2.mem ((c.tc : Thread Cert.DhIdeal.nD Cert.DhIdeal.τ).loc Cert.DhIdeal.main_arg6) = m ((c.tc : Thread Cert.DhIdeal.nD Cert.DhIdeal.τ).loc Cert.DhIdeal.main_arg6))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5)
      ∧ r.2.mem ((c.tc : Thread Cert.DhRefIdeal.nD Cert.DhRefIdeal.τ).loc Cert.DhRefIdeal.main_arg6) = m ((c.tc : Thread Cert.DhRefIdeal.nD Cert.DhRefIdeal.τ).loc Cert.DhRefIdeal.main_arg6))
      ∧ r.2.sem = fun _ => 0)

def quiescent_DhRefIdeal_pre_dh_finite [hDhRefIdeal : Cert.DhRefIdeal.Facts] [hPre_dh_finite : Cert.Pre_dh_finite.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal_dh_finite m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5)
      ∧ r.2.mem ((c.tc : Thread Cert.DhRefIdeal.nD Cert.DhRefIdeal.τ).loc Cert.DhRefIdeal.main_arg6) = m ((c.tc : Thread Cert.DhRefIdeal.nD Cert.DhRefIdeal.τ).loc Cert.DhRefIdeal.main_arg6))
      ∧ r.2.sem = fun _ => 0)

def quiescent_DhGate [hDhGate : Cert.DhGate.Facts] : Prop :=
  ∀ (m : (ℓ : Loc Cert.DhGate.nD Cert.DhGate.τ Cert.DhGate.sig) → Buf (Elt Bits) ℓ) (g : Dev Cert.DhGate.nD → PrngReg), Pre_DhGate m →
    θ_run (Cert.DhGate.defs (F := Bits)) (onTc (τ := Cert.DhGate.τ) (Cert.DhGate.main (F := Bits))) ⟨m, fun _ => 0, g⟩ (fun r => (∀ c : Dev Cert.DhGate.nD,
      r.2.mem ((c.tc : Thread Cert.DhGate.nD Cert.DhGate.τ).loc Cert.DhGate.main_arg0) = m ((c.tc : Thread Cert.DhGate.nD Cert.DhGate.τ).loc Cert.DhGate.main_arg0)
      ∧ r.2.mem ((c.tc : Thread Cert.DhGate.nD Cert.DhGate.τ).loc Cert.DhGate.main_arg1) = m ((c.tc : Thread Cert.DhGate.nD Cert.DhGate.τ).loc Cert.DhGate.main_arg1)
      ∧ r.2.mem ((c.tc : Thread Cert.DhGate.nD Cert.DhGate.τ).loc Cert.DhGate.main_arg2) = m ((c.tc : Thread Cert.DhGate.nD Cert.DhGate.τ).loc Cert.DhGate.main_arg2)
      ∧ r.2.mem ((c.tc : Thread Cert.DhGate.nD Cert.DhGate.τ).loc Cert.DhGate.main_arg3) = m ((c.tc : Thread Cert.DhGate.nD Cert.DhGate.τ).loc Cert.DhGate.main_arg3)
      ∧ r.2.mem ((c.tc : Thread Cert.DhGate.nD Cert.DhGate.τ).loc Cert.DhGate.main_arg4) = m ((c.tc : Thread Cert.DhGate.nD Cert.DhGate.τ).loc Cert.DhGate.main_arg4)
      ∧ r.2.mem ((c.tc : Thread Cert.DhGate.nD Cert.DhGate.τ).loc Cert.DhGate.main_arg5) = m ((c.tc : Thread Cert.DhGate.nD Cert.DhGate.τ).loc Cert.DhGate.main_arg5))
      ∧ r.2.sem = fun _ => 0)

def quiescent_DhGateIdeal [hDhGateIdeal : Cert.DhGateIdeal.Facts] : Prop :=
  ∀ (m : (ℓ : Loc Cert.DhGateIdeal.nD Cert.DhGateIdeal.τ Cert.DhGateIdeal.sig) → Buf (Elt Ideal) ℓ) (g : Dev Cert.DhGateIdeal.nD → PrngReg), Pre_DhGateIdeal m →
    θ_run (Cert.DhGateIdeal.defs (F := Ideal)) (onTc (τ := Cert.DhGateIdeal.τ) (Cert.DhGateIdeal.main (F := Ideal))) ⟨m, fun _ => 0, g⟩ (fun r => (∀ c : Dev Cert.DhGateIdeal.nD,
      r.2.mem ((c.tc : Thread Cert.DhGateIdeal.nD Cert.DhGateIdeal.τ).loc Cert.DhGateIdeal.main_arg0) = m ((c.tc : Thread Cert.DhGateIdeal.nD Cert.DhGateIdeal.τ).loc Cert.DhGateIdeal.main_arg0)
      ∧ r.2.mem ((c.tc : Thread Cert.DhGateIdeal.nD Cert.DhGateIdeal.τ).loc Cert.DhGateIdeal.main_arg1) = m ((c.tc : Thread Cert.DhGateIdeal.nD Cert.DhGateIdeal.τ).loc Cert.DhGateIdeal.main_arg1)
      ∧ r.2.mem ((c.tc : Thread Cert.DhGateIdeal.nD Cert.DhGateIdeal.τ).loc Cert.DhGateIdeal.main_arg2) = m ((c.tc : Thread Cert.DhGateIdeal.nD Cert.DhGateIdeal.τ).loc Cert.DhGateIdeal.main_arg2)
      ∧ r.2.mem ((c.tc : Thread Cert.DhGateIdeal.nD Cert.DhGateIdeal.τ).loc Cert.DhGateIdeal.main_arg3) = m ((c.tc : Thread Cert.DhGateIdeal.nD Cert.DhGateIdeal.τ).loc Cert.DhGateIdeal.main_arg3)
      ∧ r.2.mem ((c.tc : Thread Cert.DhGateIdeal.nD Cert.DhGateIdeal.τ).loc Cert.DhGateIdeal.main_arg4) = m ((c.tc : Thread Cert.DhGateIdeal.nD Cert.DhGateIdeal.τ).loc Cert.DhGateIdeal.main_arg4)
      ∧ r.2.mem ((c.tc : Thread Cert.DhGateIdeal.nD Cert.DhGateIdeal.τ).loc Cert.DhGateIdeal.main_arg5) = m ((c.tc : Thread Cert.DhGateIdeal.nD Cert.DhGateIdeal.τ).loc Cert.DhGateIdeal.main_arg5))
      ∧ r.2.sem = fun _ => 0)

def quiescent_DhGateIdeal_pre_dhgate_finite [hDhGateIdeal : Cert.DhGateIdeal.Facts] [hPre_dhgate_finite : Cert.Pre_dhgate_finite.Facts] : Prop :=
  ∀ (m : (ℓ : Loc Cert.DhGateIdeal.nD Cert.DhGateIdeal.τ Cert.DhGateIdeal.sig) → Buf (Elt Ideal) ℓ) (g : Dev Cert.DhGateIdeal.nD → PrngReg), Pre_DhGateIdeal_dhgate_finite m →
    θ_run (Cert.DhGateIdeal.defs (F := Ideal)) (onTc (τ := Cert.DhGateIdeal.τ) (Cert.DhGateIdeal.main (F := Ideal))) ⟨m, fun _ => 0, g⟩ (fun r => (∀ c : Dev Cert.DhGateIdeal.nD,
      r.2.mem ((c.tc : Thread Cert.DhGateIdeal.nD Cert.DhGateIdeal.τ).loc Cert.DhGateIdeal.main_arg0) = m ((c.tc : Thread Cert.DhGateIdeal.nD Cert.DhGateIdeal.τ).loc Cert.DhGateIdeal.main_arg0)
      ∧ r.2.mem ((c.tc : Thread Cert.DhGateIdeal.nD Cert.DhGateIdeal.τ).loc Cert.DhGateIdeal.main_arg1) = m ((c.tc : Thread Cert.DhGateIdeal.nD Cert.DhGateIdeal.τ).loc Cert.DhGateIdeal.main_arg1)
      ∧ r.2.mem ((c.tc : Thread Cert.DhGateIdeal.nD Cert.DhGateIdeal.τ).loc Cert.DhGateIdeal.main_arg2) = m ((c.tc : Thread Cert.DhGateIdeal.nD Cert.DhGateIdeal.τ).loc Cert.DhGateIdeal.main_arg2)
      ∧ r.2.mem ((c.tc : Thread Cert.DhGateIdeal.nD Cert.DhGateIdeal.τ).loc Cert.DhGateIdeal.main_arg3) = m ((c.tc : Thread Cert.DhGateIdeal.nD Cert.DhGateIdeal.τ).loc Cert.DhGateIdeal.main_arg3)
      ∧ r.2.mem ((c.tc : Thread Cert.DhGateIdeal.nD Cert.DhGateIdeal.τ).loc Cert.DhGateIdeal.main_arg4) = m ((c.tc : Thread Cert.DhGateIdeal.nD Cert.DhGateIdeal.τ).loc Cert.DhGateIdeal.main_arg4)
      ∧ r.2.mem ((c.tc : Thread Cert.DhGateIdeal.nD Cert.DhGateIdeal.τ).loc Cert.DhGateIdeal.main_arg5) = m ((c.tc : Thread Cert.DhGateIdeal.nD Cert.DhGateIdeal.τ).loc Cert.DhGateIdeal.main_arg5))
      ∧ r.2.sem = fun _ => 0)

def quiescent_DhGateRefIdeal [hDhGateRefIdeal : Cert.DhGateRefIdeal.Facts] : Prop :=
  ∀ (m : (ℓ : Loc Cert.DhGateRefIdeal.nD Cert.DhGateRefIdeal.τ Cert.DhGateRefIdeal.sig) → Buf (Elt Ideal) ℓ) (g : Dev Cert.DhGateRefIdeal.nD → PrngReg), Pre_DhGateRefIdeal m →
    θ_run (Cert.DhGateRefIdeal.defs (F := Ideal)) (onTc (τ := Cert.DhGateRefIdeal.τ) (Cert.DhGateRefIdeal.main (F := Ideal))) ⟨m, fun _ => 0, g⟩ (fun r => (∀ c : Dev Cert.DhGateRefIdeal.nD,
      r.2.mem ((c.tc : Thread Cert.DhGateRefIdeal.nD Cert.DhGateRefIdeal.τ).loc Cert.DhGateRefIdeal.main_arg0) = m ((c.tc : Thread Cert.DhGateRefIdeal.nD Cert.DhGateRefIdeal.τ).loc Cert.DhGateRefIdeal.main_arg0)
      ∧ r.2.mem ((c.tc : Thread Cert.DhGateRefIdeal.nD Cert.DhGateRefIdeal.τ).loc Cert.DhGateRefIdeal.main_arg1) = m ((c.tc : Thread Cert.DhGateRefIdeal.nD Cert.DhGateRefIdeal.τ).loc Cert.DhGateRefIdeal.main_arg1)
      ∧ r.2.mem ((c.tc : Thread Cert.DhGateRefIdeal.nD Cert.DhGateRefIdeal.τ).loc Cert.DhGateRefIdeal.main_arg2) = m ((c.tc : Thread Cert.DhGateRefIdeal.nD Cert.DhGateRefIdeal.τ).loc Cert.DhGateRefIdeal.main_arg2)
      ∧ r.2.mem ((c.tc : Thread Cert.DhGateRefIdeal.nD Cert.DhGateRefIdeal.τ).loc Cert.DhGateRefIdeal.main_arg3) = m ((c.tc : Thread Cert.DhGateRefIdeal.nD Cert.DhGateRefIdeal.τ).loc Cert.DhGateRefIdeal.main_arg3)
      ∧ r.2.mem ((c.tc : Thread Cert.DhGateRefIdeal.nD Cert.DhGateRefIdeal.τ).loc Cert.DhGateRefIdeal.main_arg4) = m ((c.tc : Thread Cert.DhGateRefIdeal.nD Cert.DhGateRefIdeal.τ).loc Cert.DhGateRefIdeal.main_arg4)
      ∧ r.2.mem ((c.tc : Thread Cert.DhGateRefIdeal.nD Cert.DhGateRefIdeal.τ).loc Cert.DhGateRefIdeal.main_arg5) = m ((c.tc : Thread Cert.DhGateRefIdeal.nD Cert.DhGateRefIdeal.τ).loc Cert.DhGateRefIdeal.main_arg5))
      ∧ r.2.sem = fun _ => 0)

def quiescent_DhGateRefIdeal_pre_dhgate_finite [hDhGateRefIdeal : Cert.DhGateRefIdeal.Facts] [hPre_dhgate_finite : Cert.Pre_dhgate_finite.Facts] : Prop :=
  ∀ (m : (ℓ : Loc Cert.DhGateRefIdeal.nD Cert.DhGateRefIdeal.τ Cert.DhGateRefIdeal.sig) → Buf (Elt Ideal) ℓ) (g : Dev Cert.DhGateRefIdeal.nD → PrngReg), Pre_DhGateRefIdeal_dhgate_finite m →
    θ_run (Cert.DhGateRefIdeal.defs (F := Ideal)) (onTc (τ := Cert.DhGateRefIdeal.τ) (Cert.DhGateRefIdeal.main (F := Ideal))) ⟨m, fun _ => 0, g⟩ (fun r => (∀ c : Dev Cert.DhGateRefIdeal.nD,
      r.2.mem ((c.tc : Thread Cert.DhGateRefIdeal.nD Cert.DhGateRefIdeal.τ).loc Cert.DhGateRefIdeal.main_arg0) = m ((c.tc : Thread Cert.DhGateRefIdeal.nD Cert.DhGateRefIdeal.τ).loc Cert.DhGateRefIdeal.main_arg0)
      ∧ r.2.mem ((c.tc : Thread Cert.DhGateRefIdeal.nD Cert.DhGateRefIdeal.τ).loc Cert.DhGateRefIdeal.main_arg1) = m ((c.tc : Thread Cert.DhGateRefIdeal.nD Cert.DhGateRefIdeal.τ).loc Cert.DhGateRefIdeal.main_arg1)
      ∧ r.2.mem ((c.tc : Thread Cert.DhGateRefIdeal.nD Cert.DhGateRefIdeal.τ).loc Cert.DhGateRefIdeal.main_arg2) = m ((c.tc : Thread Cert.DhGateRefIdeal.nD Cert.DhGateRefIdeal.τ).loc Cert.DhGateRefIdeal.main_arg2)
      ∧ r.2.mem ((c.tc : Thread Cert.DhGateRefIdeal.nD Cert.DhGateRefIdeal.τ).loc Cert.DhGateRefIdeal.main_arg3) = m ((c.tc : Thread Cert.DhGateRefIdeal.nD Cert.DhGateRefIdeal.τ).loc Cert.DhGateRefIdeal.main_arg3)
      ∧ r.2.mem ((c.tc : Thread Cert.DhGateRefIdeal.nD Cert.DhGateRefIdeal.τ).loc Cert.DhGateRefIdeal.main_arg4) = m ((c.tc : Thread Cert.DhGateRefIdeal.nD Cert.DhGateRefIdeal.τ).loc Cert.DhGateRefIdeal.main_arg4)
      ∧ r.2.mem ((c.tc : Thread Cert.DhGateRefIdeal.nD Cert.DhGateRefIdeal.τ).loc Cert.DhGateRefIdeal.main_arg5) = m ((c.tc : Thread Cert.DhGateRefIdeal.nD Cert.DhGateRefIdeal.τ).loc Cert.DhGateRefIdeal.main_arg5))
      ∧ r.2.sem = fun _ => 0)

def quiescent_MemAtt [hMemAtt : Cert.MemAtt.Facts] : Prop :=
  ∀ (m : (ℓ : Loc Cert.MemAtt.nD Cert.MemAtt.τ Cert.MemAtt.sig) → Buf (Elt Bits) ℓ) (g : Dev Cert.MemAtt.nD → PrngReg), Pre_MemAtt m →
    θ_run (Cert.MemAtt.defs (F := Bits)) (onTc (τ := Cert.MemAtt.τ) (Cert.MemAtt.main (F := Bits))) ⟨m, fun _ => 0, g⟩ (fun r => (∀ c : Dev Cert.MemAtt.nD,
      r.2.mem ((c.tc : Thread Cert.MemAtt.nD Cert.MemAtt.τ).loc Cert.MemAtt.main_arg0) = m ((c.tc : Thread Cert.MemAtt.nD Cert.MemAtt.τ).loc Cert.MemAtt.main_arg0)
      ∧ r.2.mem ((c.tc : Thread Cert.MemAtt.nD Cert.MemAtt.τ).loc Cert.MemAtt.main_arg1) = m ((c.tc : Thread Cert.MemAtt.nD Cert.MemAtt.τ).loc Cert.MemAtt.main_arg1)
      ∧ r.2.mem ((c.tc : Thread Cert.MemAtt.nD Cert.MemAtt.τ).loc Cert.MemAtt.main_arg2) = m ((c.tc : Thread Cert.MemAtt.nD Cert.MemAtt.τ).loc Cert.MemAtt.main_arg2)
      ∧ r.2.mem ((c.tc : Thread Cert.MemAtt.nD Cert.MemAtt.τ).loc Cert.MemAtt.main_arg3) = m ((c.tc : Thread Cert.MemAtt.nD Cert.MemAtt.τ).loc Cert.MemAtt.main_arg3))
      ∧ r.2.sem = fun _ => 0)

def quiescent_MemAttIdeal [hMemAttIdeal : Cert.MemAttIdeal.Facts] : Prop :=
  ∀ (m : (ℓ : Loc Cert.MemAttIdeal.nD Cert.MemAttIdeal.τ Cert.MemAttIdeal.sig) → Buf (Elt Ideal) ℓ) (g : Dev Cert.MemAttIdeal.nD → PrngReg), Pre_MemAttIdeal m →
    θ_run (Cert.MemAttIdeal.defs (F := Ideal)) (onTc (τ := Cert.MemAttIdeal.τ) (Cert.MemAttIdeal.main (F := Ideal))) ⟨m, fun _ => 0, g⟩ (fun r => (∀ c : Dev Cert.MemAttIdeal.nD,
      r.2.mem ((c.tc : Thread Cert.MemAttIdeal.nD Cert.MemAttIdeal.τ).loc Cert.MemAttIdeal.main_arg0) = m ((c.tc : Thread Cert.MemAttIdeal.nD Cert.MemAttIdeal.τ).loc Cert.MemAttIdeal.main_arg0)
      ∧ r.2.mem ((c.tc : Thread Cert.MemAttIdeal.nD Cert.MemAttIdeal.τ).loc Cert.MemAttIdeal.main_arg1) = m ((c.tc : Thread Cert.MemAttIdeal.nD Cert.MemAttIdeal.τ).loc Cert.MemAttIdeal.main_arg1)
      ∧ r.2.mem ((c.tc : Thread Cert.MemAttIdeal.nD Cert.MemAttIdeal.τ).loc Cert.MemAttIdeal.main_arg2) = m ((c.tc : Thread Cert.MemAttIdeal.nD Cert.MemAttIdeal.τ).loc Cert.MemAttIdeal.main_arg2)
      ∧ r.2.mem ((c.tc : Thread Cert.MemAttIdeal.nD Cert.MemAttIdeal.τ).loc Cert.MemAttIdeal.main_arg3) = m ((c.tc : Thread Cert.MemAttIdeal.nD Cert.MemAttIdeal.τ).loc Cert.MemAttIdeal.main_arg3))
      ∧ r.2.sem = fun _ => 0)

def quiescent_MemAttIdeal_pre_mem_finite [hMemAttIdeal : Cert.MemAttIdeal.Facts] [hPre_mem_finite : Cert.Pre_mem_finite.Facts] : Prop :=
  ∀ (m : (ℓ : Loc Cert.MemAttIdeal.nD Cert.MemAttIdeal.τ Cert.MemAttIdeal.sig) → Buf (Elt Ideal) ℓ) (g : Dev Cert.MemAttIdeal.nD → PrngReg), Pre_MemAttIdeal_mem_finite m →
    θ_run (Cert.MemAttIdeal.defs (F := Ideal)) (onTc (τ := Cert.MemAttIdeal.τ) (Cert.MemAttIdeal.main (F := Ideal))) ⟨m, fun _ => 0, g⟩ (fun r => (∀ c : Dev Cert.MemAttIdeal.nD,
      r.2.mem ((c.tc : Thread Cert.MemAttIdeal.nD Cert.MemAttIdeal.τ).loc Cert.MemAttIdeal.main_arg0) = m ((c.tc : Thread Cert.MemAttIdeal.nD Cert.MemAttIdeal.τ).loc Cert.MemAttIdeal.main_arg0)
      ∧ r.2.mem ((c.tc : Thread Cert.MemAttIdeal.nD Cert.MemAttIdeal.τ).loc Cert.MemAttIdeal.main_arg1) = m ((c.tc : Thread Cert.MemAttIdeal.nD Cert.MemAttIdeal.τ).loc Cert.MemAttIdeal.main_arg1)
      ∧ r.2.mem ((c.tc : Thread Cert.MemAttIdeal.nD Cert.MemAttIdeal.τ).loc Cert.MemAttIdeal.main_arg2) = m ((c.tc : Thread Cert.MemAttIdeal.nD Cert.MemAttIdeal.τ).loc Cert.MemAttIdeal.main_arg2)
      ∧ r.2.mem ((c.tc : Thread Cert.MemAttIdeal.nD Cert.MemAttIdeal.τ).loc Cert.MemAttIdeal.main_arg3) = m ((c.tc : Thread Cert.MemAttIdeal.nD Cert.MemAttIdeal.τ).loc Cert.MemAttIdeal.main_arg3))
      ∧ r.2.sem = fun _ => 0)

def quiescent_MemAttRefIdeal [hMemAttRefIdeal : Cert.MemAttRefIdeal.Facts] : Prop :=
  ∀ (m : (ℓ : Loc Cert.MemAttRefIdeal.nD Cert.MemAttRefIdeal.τ Cert.MemAttRefIdeal.sig) → Buf (Elt Ideal) ℓ) (g : Dev Cert.MemAttRefIdeal.nD → PrngReg), Pre_MemAttRefIdeal m →
    θ_run (Cert.MemAttRefIdeal.defs (F := Ideal)) (onTc (τ := Cert.MemAttRefIdeal.τ) (Cert.MemAttRefIdeal.main (F := Ideal))) ⟨m, fun _ => 0, g⟩ (fun r => (∀ c : Dev Cert.MemAttRefIdeal.nD,
      r.2.mem ((c.tc : Thread Cert.MemAttRefIdeal.nD Cert.MemAttRefIdeal.τ).loc Cert.MemAttRefIdeal.main_arg0) = m ((c.tc : Thread Cert.MemAttRefIdeal.nD Cert.MemAttRefIdeal.τ).loc Cert.MemAttRefIdeal.main_arg0)
      ∧ r.2.mem ((c.tc : Thread Cert.MemAttRefIdeal.nD Cert.MemAttRefIdeal.τ).loc Cert.MemAttRefIdeal.main_arg1) = m ((c.tc : Thread Cert.MemAttRefIdeal.nD Cert.MemAttRefIdeal.τ).loc Cert.MemAttRefIdeal.main_arg1)
      ∧ r.2.mem ((c.tc : Thread Cert.MemAttRefIdeal.nD Cert.MemAttRefIdeal.τ).loc Cert.MemAttRefIdeal.main_arg2) = m ((c.tc : Thread Cert.MemAttRefIdeal.nD Cert.MemAttRefIdeal.τ).loc Cert.MemAttRefIdeal.main_arg2)
      ∧ r.2.mem ((c.tc : Thread Cert.MemAttRefIdeal.nD Cert.MemAttRefIdeal.τ).loc Cert.MemAttRefIdeal.main_arg3) = m ((c.tc : Thread Cert.MemAttRefIdeal.nD Cert.MemAttRefIdeal.τ).loc Cert.MemAttRefIdeal.main_arg3))
      ∧ r.2.sem = fun _ => 0)

def quiescent_MemAttRefIdeal_pre_mem_finite [hMemAttRefIdeal : Cert.MemAttRefIdeal.Facts] [hPre_mem_finite : Cert.Pre_mem_finite.Facts] : Prop :=
  ∀ (m : (ℓ : Loc Cert.MemAttRefIdeal.nD Cert.MemAttRefIdeal.τ Cert.MemAttRefIdeal.sig) → Buf (Elt Ideal) ℓ) (g : Dev Cert.MemAttRefIdeal.nD → PrngReg), Pre_MemAttRefIdeal_mem_finite m →
    θ_run (Cert.MemAttRefIdeal.defs (F := Ideal)) (onTc (τ := Cert.MemAttRefIdeal.τ) (Cert.MemAttRefIdeal.main (F := Ideal))) ⟨m, fun _ => 0, g⟩ (fun r => (∀ c : Dev Cert.MemAttRefIdeal.nD,
      r.2.mem ((c.tc : Thread Cert.MemAttRefIdeal.nD Cert.MemAttRefIdeal.τ).loc Cert.MemAttRefIdeal.main_arg0) = m ((c.tc : Thread Cert.MemAttRefIdeal.nD Cert.MemAttRefIdeal.τ).loc Cert.MemAttRefIdeal.main_arg0)
      ∧ r.2.mem ((c.tc : Thread Cert.MemAttRefIdeal.nD Cert.MemAttRefIdeal.τ).loc Cert.MemAttRefIdeal.main_arg1) = m ((c.tc : Thread Cert.MemAttRefIdeal.nD Cert.MemAttRefIdeal.τ).loc Cert.MemAttRefIdeal.main_arg1)
      ∧ r.2.mem ((c.tc : Thread Cert.MemAttRefIdeal.nD Cert.MemAttRefIdeal.τ).loc Cert.MemAttRefIdeal.main_arg2) = m ((c.tc : Thread Cert.MemAttRefIdeal.nD Cert.MemAttRefIdeal.τ).loc Cert.MemAttRefIdeal.main_arg2)
      ∧ r.2.mem ((c.tc : Thread Cert.MemAttRefIdeal.nD Cert.MemAttRefIdeal.τ).loc Cert.MemAttRefIdeal.main_arg3) = m ((c.tc : Thread Cert.MemAttRefIdeal.nD Cert.MemAttRefIdeal.τ).loc Cert.MemAttRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_QkMem [hQkMem : Cert.QkMem.Facts] : Prop :=
  ∀ (m : (ℓ : Loc Cert.QkMem.nD Cert.QkMem.τ Cert.QkMem.sig) → Buf (Elt Bits) ℓ) (g : Dev Cert.QkMem.nD → PrngReg), Pre_QkMem m →
    θ_run (Cert.QkMem.defs (F := Bits)) (onTc (τ := Cert.QkMem.τ) (Cert.QkMem.main (F := Bits))) ⟨m, fun _ => 0, g⟩ (fun r => (∀ c : Dev Cert.QkMem.nD,
      r.2.mem ((c.tc : Thread Cert.QkMem.nD Cert.QkMem.τ).loc Cert.QkMem.main_arg0) = m ((c.tc : Thread Cert.QkMem.nD Cert.QkMem.τ).loc Cert.QkMem.main_arg0)
      ∧ r.2.mem ((c.tc : Thread Cert.QkMem.nD Cert.QkMem.τ).loc Cert.QkMem.main_arg1) = m ((c.tc : Thread Cert.QkMem.nD Cert.QkMem.τ).loc Cert.QkMem.main_arg1)
      ∧ r.2.mem ((c.tc : Thread Cert.QkMem.nD Cert.QkMem.τ).loc Cert.QkMem.main_arg2) = m ((c.tc : Thread Cert.QkMem.nD Cert.QkMem.τ).loc Cert.QkMem.main_arg2))
      ∧ r.2.sem = fun _ => 0)

def quiescent_QkMemIdeal [hQkMemIdeal : Cert.QkMemIdeal.Facts] : Prop :=
  ∀ (m : (ℓ : Loc Cert.QkMemIdeal.nD Cert.QkMemIdeal.τ Cert.QkMemIdeal.sig) → Buf (Elt Ideal) ℓ) (g : Dev Cert.QkMemIdeal.nD → PrngReg), Pre_QkMemIdeal m →
    θ_run (Cert.QkMemIdeal.defs (F := Ideal)) (onTc (τ := Cert.QkMemIdeal.τ) (Cert.QkMemIdeal.main (F := Ideal))) ⟨m, fun _ => 0, g⟩ (fun r => (∀ c : Dev Cert.QkMemIdeal.nD,
      r.2.mem ((c.tc : Thread Cert.QkMemIdeal.nD Cert.QkMemIdeal.τ).loc Cert.QkMemIdeal.main_arg0) = m ((c.tc : Thread Cert.QkMemIdeal.nD Cert.QkMemIdeal.τ).loc Cert.QkMemIdeal.main_arg0)
      ∧ r.2.mem ((c.tc : Thread Cert.QkMemIdeal.nD Cert.QkMemIdeal.τ).loc Cert.QkMemIdeal.main_arg1) = m ((c.tc : Thread Cert.QkMemIdeal.nD Cert.QkMemIdeal.τ).loc Cert.QkMemIdeal.main_arg1)
      ∧ r.2.mem ((c.tc : Thread Cert.QkMemIdeal.nD Cert.QkMemIdeal.τ).loc Cert.QkMemIdeal.main_arg2) = m ((c.tc : Thread Cert.QkMemIdeal.nD Cert.QkMemIdeal.τ).loc Cert.QkMemIdeal.main_arg2))
      ∧ r.2.sem = fun _ => 0)

def quiescent_QkMemIdeal_pre_qkmem_finite [hQkMemIdeal : Cert.QkMemIdeal.Facts] [hPre_qkmem_finite : Cert.Pre_qkmem_finite.Facts] : Prop :=
  ∀ (m : (ℓ : Loc Cert.QkMemIdeal.nD Cert.QkMemIdeal.τ Cert.QkMemIdeal.sig) → Buf (Elt Ideal) ℓ) (g : Dev Cert.QkMemIdeal.nD → PrngReg), Pre_QkMemIdeal_qkmem_finite m →
    θ_run (Cert.QkMemIdeal.defs (F := Ideal)) (onTc (τ := Cert.QkMemIdeal.τ) (Cert.QkMemIdeal.main (F := Ideal))) ⟨m, fun _ => 0, g⟩ (fun r => (∀ c : Dev Cert.QkMemIdeal.nD,
      r.2.mem ((c.tc : Thread Cert.QkMemIdeal.nD Cert.QkMemIdeal.τ).loc Cert.QkMemIdeal.main_arg0) = m ((c.tc : Thread Cert.QkMemIdeal.nD Cert.QkMemIdeal.τ).loc Cert.QkMemIdeal.main_arg0)
      ∧ r.2.mem ((c.tc : Thread Cert.QkMemIdeal.nD Cert.QkMemIdeal.τ).loc Cert.QkMemIdeal.main_arg1) = m ((c.tc : Thread Cert.QkMemIdeal.nD Cert.QkMemIdeal.τ).loc Cert.QkMemIdeal.main_arg1)
      ∧ r.2.mem ((c.tc : Thread Cert.QkMemIdeal.nD Cert.QkMemIdeal.τ).loc Cert.QkMemIdeal.main_arg2) = m ((c.tc : Thread Cert.QkMemIdeal.nD Cert.QkMemIdeal.τ).loc Cert.QkMemIdeal.main_arg2))
      ∧ r.2.sem = fun _ => 0)

def quiescent_QkMemRefIdeal [hQkMemRefIdeal : Cert.QkMemRefIdeal.Facts] : Prop :=
  ∀ (m : (ℓ : Loc Cert.QkMemRefIdeal.nD Cert.QkMemRefIdeal.τ Cert.QkMemRefIdeal.sig) → Buf (Elt Ideal) ℓ) (g : Dev Cert.QkMemRefIdeal.nD → PrngReg), Pre_QkMemRefIdeal m →
    θ_run (Cert.QkMemRefIdeal.defs (F := Ideal)) (onTc (τ := Cert.QkMemRefIdeal.τ) (Cert.QkMemRefIdeal.main (F := Ideal))) ⟨m, fun _ => 0, g⟩ (fun r => (∀ c : Dev Cert.QkMemRefIdeal.nD,
      r.2.mem ((c.tc : Thread Cert.QkMemRefIdeal.nD Cert.QkMemRefIdeal.τ).loc Cert.QkMemRefIdeal.main_arg0) = m ((c.tc : Thread Cert.QkMemRefIdeal.nD Cert.QkMemRefIdeal.τ).loc Cert.QkMemRefIdeal.main_arg0)
      ∧ r.2.mem ((c.tc : Thread Cert.QkMemRefIdeal.nD Cert.QkMemRefIdeal.τ).loc Cert.QkMemRefIdeal.main_arg1) = m ((c.tc : Thread Cert.QkMemRefIdeal.nD Cert.QkMemRefIdeal.τ).loc Cert.QkMemRefIdeal.main_arg1)
      ∧ r.2.mem ((c.tc : Thread Cert.QkMemRefIdeal.nD Cert.QkMemRefIdeal.τ).loc Cert.QkMemRefIdeal.main_arg2) = m ((c.tc : Thread Cert.QkMemRefIdeal.nD Cert.QkMemRefIdeal.τ).loc Cert.QkMemRefIdeal.main_arg2))
      ∧ r.2.sem = fun _ => 0)

def quiescent_QkMemRefIdeal_pre_qkmem_finite [hQkMemRefIdeal : Cert.QkMemRefIdeal.Facts] [hPre_qkmem_finite : Cert.Pre_qkmem_finite.Facts] : Prop :=
  ∀ (m : (ℓ : Loc Cert.QkMemRefIdeal.nD Cert.QkMemRefIdeal.τ Cert.QkMemRefIdeal.sig) → Buf (Elt Ideal) ℓ) (g : Dev Cert.QkMemRefIdeal.nD → PrngReg), Pre_QkMemRefIdeal_qkmem_finite m →
    θ_run (Cert.QkMemRefIdeal.defs (F := Ideal)) (onTc (τ := Cert.QkMemRefIdeal.τ) (Cert.QkMemRefIdeal.main (F := Ideal))) ⟨m, fun _ => 0, g⟩ (fun r => (∀ c : Dev Cert.QkMemRefIdeal.nD,
      r.2.mem ((c.tc : Thread Cert.QkMemRefIdeal.nD Cert.QkMemRefIdeal.τ).loc Cert.QkMemRefIdeal.main_arg0) = m ((c.tc : Thread Cert.QkMemRefIdeal.nD Cert.QkMemRefIdeal.τ).loc Cert.QkMemRefIdeal.main_arg0)
      ∧ r.2.mem ((c.tc : Thread Cert.QkMemRefIdeal.nD Cert.QkMemRefIdeal.τ).loc Cert.QkMemRefIdeal.main_arg1) = m ((c.tc : Thread Cert.QkMemRefIdeal.nD Cert.QkMemRefIdeal.τ).loc Cert.QkMemRefIdeal.main_arg1)
      ∧ r.2.mem ((c.tc : Thread Cert.QkMemRefIdeal.nD Cert.QkMemRefIdeal.τ).loc Cert.QkMemRefIdeal.main_arg2) = m ((c.tc : Thread Cert.QkMemRefIdeal.nD Cert.QkMemRefIdeal.τ).loc Cert.QkMemRefIdeal.main_arg2))
      ∧ r.2.sem = fun _ => 0)

def quiescent_QkRope [hQkRope : Cert.QkRope.Facts] : Prop :=
  ∀ (m : (ℓ : Loc Cert.QkRope.nD Cert.QkRope.τ Cert.QkRope.sig) → Buf (Elt Bits) ℓ) (g : Dev Cert.QkRope.nD → PrngReg), Pre_QkRope m →
    θ_run (Cert.QkRope.defs (F := Bits)) (onTc (τ := Cert.QkRope.τ) (Cert.QkRope.main (F := Bits))) ⟨m, fun _ => 0, g⟩ (fun r => (∀ c : Dev Cert.QkRope.nD,
      r.2.mem ((c.tc : Thread Cert.QkRope.nD Cert.QkRope.τ).loc Cert.QkRope.main_arg0) = m ((c.tc : Thread Cert.QkRope.nD Cert.QkRope.τ).loc Cert.QkRope.main_arg0)
      ∧ r.2.mem ((c.tc : Thread Cert.QkRope.nD Cert.QkRope.τ).loc Cert.QkRope.main_arg1) = m ((c.tc : Thread Cert.QkRope.nD Cert.QkRope.τ).loc Cert.QkRope.main_arg1)
      ∧ r.2.mem ((c.tc : Thread Cert.QkRope.nD Cert.QkRope.τ).loc Cert.QkRope.main_arg2) = m ((c.tc : Thread Cert.QkRope.nD Cert.QkRope.τ).loc Cert.QkRope.main_arg2)
      ∧ r.2.mem ((c.tc : Thread Cert.QkRope.nD Cert.QkRope.τ).loc Cert.QkRope.main_arg3) = m ((c.tc : Thread Cert.QkRope.nD Cert.QkRope.τ).loc Cert.QkRope.main_arg3)
      ∧ r.2.mem ((c.tc : Thread Cert.QkRope.nD Cert.QkRope.τ).loc Cert.QkRope.main_arg4) = m ((c.tc : Thread Cert.QkRope.nD Cert.QkRope.τ).loc Cert.QkRope.main_arg4))
      ∧ r.2.sem = fun _ => 0)

def quiescent_QkRopeIdeal [hQkRopeIdeal : Cert.QkRopeIdeal.Facts] : Prop :=
  ∀ (m : (ℓ : Loc Cert.QkRopeIdeal.nD Cert.QkRopeIdeal.τ Cert.QkRopeIdeal.sig) → Buf (Elt Ideal) ℓ) (g : Dev Cert.QkRopeIdeal.nD → PrngReg), Pre_QkRopeIdeal m →
    θ_run (Cert.QkRopeIdeal.defs (F := Ideal)) (onTc (τ := Cert.QkRopeIdeal.τ) (Cert.QkRopeIdeal.main (F := Ideal))) ⟨m, fun _ => 0, g⟩ (fun r => (∀ c : Dev Cert.QkRopeIdeal.nD,
      r.2.mem ((c.tc : Thread Cert.QkRopeIdeal.nD Cert.QkRopeIdeal.τ).loc Cert.QkRopeIdeal.main_arg0) = m ((c.tc : Thread Cert.QkRopeIdeal.nD Cert.QkRopeIdeal.τ).loc Cert.QkRopeIdeal.main_arg0)
      ∧ r.2.mem ((c.tc : Thread Cert.QkRopeIdeal.nD Cert.QkRopeIdeal.τ).loc Cert.QkRopeIdeal.main_arg1) = m ((c.tc : Thread Cert.QkRopeIdeal.nD Cert.QkRopeIdeal.τ).loc Cert.QkRopeIdeal.main_arg1)
      ∧ r.2.mem ((c.tc : Thread Cert.QkRopeIdeal.nD Cert.QkRopeIdeal.τ).loc Cert.QkRopeIdeal.main_arg2) = m ((c.tc : Thread Cert.QkRopeIdeal.nD Cert.QkRopeIdeal.τ).loc Cert.QkRopeIdeal.main_arg2)
      ∧ r.2.mem ((c.tc : Thread Cert.QkRopeIdeal.nD Cert.QkRopeIdeal.τ).loc Cert.QkRopeIdeal.main_arg3) = m ((c.tc : Thread Cert.QkRopeIdeal.nD Cert.QkRopeIdeal.τ).loc Cert.QkRopeIdeal.main_arg3)
      ∧ r.2.mem ((c.tc : Thread Cert.QkRopeIdeal.nD Cert.QkRopeIdeal.τ).loc Cert.QkRopeIdeal.main_arg4) = m ((c.tc : Thread Cert.QkRopeIdeal.nD Cert.QkRopeIdeal.τ).loc Cert.QkRopeIdeal.main_arg4))
      ∧ r.2.sem = fun _ => 0)

def quiescent_QkRopeIdeal_pre_qkrope_finite [hQkRopeIdeal : Cert.QkRopeIdeal.Facts] [hPre_qkrope_finite : Cert.Pre_qkrope_finite.Facts] : Prop :=
  ∀ (m : (ℓ : Loc Cert.QkRopeIdeal.nD Cert.QkRopeIdeal.τ Cert.QkRopeIdeal.sig) → Buf (Elt Ideal) ℓ) (g : Dev Cert.QkRopeIdeal.nD → PrngReg), Pre_QkRopeIdeal_qkrope_finite m →
    θ_run (Cert.QkRopeIdeal.defs (F := Ideal)) (onTc (τ := Cert.QkRopeIdeal.τ) (Cert.QkRopeIdeal.main (F := Ideal))) ⟨m, fun _ => 0, g⟩ (fun r => (∀ c : Dev Cert.QkRopeIdeal.nD,
      r.2.mem ((c.tc : Thread Cert.QkRopeIdeal.nD Cert.QkRopeIdeal.τ).loc Cert.QkRopeIdeal.main_arg0) = m ((c.tc : Thread Cert.QkRopeIdeal.nD Cert.QkRopeIdeal.τ).loc Cert.QkRopeIdeal.main_arg0)
      ∧ r.2.mem ((c.tc : Thread Cert.QkRopeIdeal.nD Cert.QkRopeIdeal.τ).loc Cert.QkRopeIdeal.main_arg1) = m ((c.tc : Thread Cert.QkRopeIdeal.nD Cert.QkRopeIdeal.τ).loc Cert.QkRopeIdeal.main_arg1)
      ∧ r.2.mem ((c.tc : Thread Cert.QkRopeIdeal.nD Cert.QkRopeIdeal.τ).loc Cert.QkRopeIdeal.main_arg2) = m ((c.tc : Thread Cert.QkRopeIdeal.nD Cert.QkRopeIdeal.τ).loc Cert.QkRopeIdeal.main_arg2)
      ∧ r.2.mem ((c.tc : Thread Cert.QkRopeIdeal.nD Cert.QkRopeIdeal.τ).loc Cert.QkRopeIdeal.main_arg3) = m ((c.tc : Thread Cert.QkRopeIdeal.nD Cert.QkRopeIdeal.τ).loc Cert.QkRopeIdeal.main_arg3)
      ∧ r.2.mem ((c.tc : Thread Cert.QkRopeIdeal.nD Cert.QkRopeIdeal.τ).loc Cert.QkRopeIdeal.main_arg4) = m ((c.tc : Thread Cert.QkRopeIdeal.nD Cert.QkRopeIdeal.τ).loc Cert.QkRopeIdeal.main_arg4))
      ∧ r.2.sem = fun _ => 0)

def quiescent_QkRopeRefIdeal [hQkRopeRefIdeal : Cert.QkRopeRefIdeal.Facts] : Prop :=
  ∀ (m : (ℓ : Loc Cert.QkRopeRefIdeal.nD Cert.QkRopeRefIdeal.τ Cert.QkRopeRefIdeal.sig) → Buf (Elt Ideal) ℓ) (g : Dev Cert.QkRopeRefIdeal.nD → PrngReg), Pre_QkRopeRefIdeal m →
    θ_run (Cert.QkRopeRefIdeal.defs (F := Ideal)) (onTc (τ := Cert.QkRopeRefIdeal.τ) (Cert.QkRopeRefIdeal.main (F := Ideal))) ⟨m, fun _ => 0, g⟩ (fun r => (∀ c : Dev Cert.QkRopeRefIdeal.nD,
      r.2.mem ((c.tc : Thread Cert.QkRopeRefIdeal.nD Cert.QkRopeRefIdeal.τ).loc Cert.QkRopeRefIdeal.main_arg0) = m ((c.tc : Thread Cert.QkRopeRefIdeal.nD Cert.QkRopeRefIdeal.τ).loc Cert.QkRopeRefIdeal.main_arg0)
      ∧ r.2.mem ((c.tc : Thread Cert.QkRopeRefIdeal.nD Cert.QkRopeRefIdeal.τ).loc Cert.QkRopeRefIdeal.main_arg1) = m ((c.tc : Thread Cert.QkRopeRefIdeal.nD Cert.QkRopeRefIdeal.τ).loc Cert.QkRopeRefIdeal.main_arg1)
      ∧ r.2.mem ((c.tc : Thread Cert.QkRopeRefIdeal.nD Cert.QkRopeRefIdeal.τ).loc Cert.QkRopeRefIdeal.main_arg2) = m ((c.tc : Thread Cert.QkRopeRefIdeal.nD Cert.QkRopeRefIdeal.τ).loc Cert.QkRopeRefIdeal.main_arg2)
      ∧ r.2.mem ((c.tc : Thread Cert.QkRopeRefIdeal.nD Cert.QkRopeRefIdeal.τ).loc Cert.QkRopeRefIdeal.main_arg3) = m ((c.tc : Thread Cert.QkRopeRefIdeal.nD Cert.QkRopeRefIdeal.τ).loc Cert.QkRopeRefIdeal.main_arg3)
      ∧ r.2.mem ((c.tc : Thread Cert.QkRopeRefIdeal.nD Cert.QkRopeRefIdeal.τ).loc Cert.QkRopeRefIdeal.main_arg4) = m ((c.tc : Thread Cert.QkRopeRefIdeal.nD Cert.QkRopeRefIdeal.τ).loc Cert.QkRopeRefIdeal.main_arg4))
      ∧ r.2.sem = fun _ => 0)

def quiescent_QkRopeRefIdeal_pre_qkrope_finite [hQkRopeRefIdeal : Cert.QkRopeRefIdeal.Facts] [hPre_qkrope_finite : Cert.Pre_qkrope_finite.Facts] : Prop :=
  ∀ (m : (ℓ : Loc Cert.QkRopeRefIdeal.nD Cert.QkRopeRefIdeal.τ Cert.QkRopeRefIdeal.sig) → Buf (Elt Ideal) ℓ) (g : Dev Cert.QkRopeRefIdeal.nD → PrngReg), Pre_QkRopeRefIdeal_qkrope_finite m →
    θ_run (Cert.QkRopeRefIdeal.defs (F := Ideal)) (onTc (τ := Cert.QkRopeRefIdeal.τ) (Cert.QkRopeRefIdeal.main (F := Ideal))) ⟨m, fun _ => 0, g⟩ (fun r => (∀ c : Dev Cert.QkRopeRefIdeal.nD,
      r.2.mem ((c.tc : Thread Cert.QkRopeRefIdeal.nD Cert.QkRopeRefIdeal.τ).loc Cert.QkRopeRefIdeal.main_arg0) = m ((c.tc : Thread Cert.QkRopeRefIdeal.nD Cert.QkRopeRefIdeal.τ).loc Cert.QkRopeRefIdeal.main_arg0)
      ∧ r.2.mem ((c.tc : Thread Cert.QkRopeRefIdeal.nD Cert.QkRopeRefIdeal.τ).loc Cert.QkRopeRefIdeal.main_arg1) = m ((c.tc : Thread Cert.QkRopeRefIdeal.nD Cert.QkRopeRefIdeal.τ).loc Cert.QkRopeRefIdeal.main_arg1)
      ∧ r.2.mem ((c.tc : Thread Cert.QkRopeRefIdeal.nD Cert.QkRopeRefIdeal.τ).loc Cert.QkRopeRefIdeal.main_arg2) = m ((c.tc : Thread Cert.QkRopeRefIdeal.nD Cert.QkRopeRefIdeal.τ).loc Cert.QkRopeRefIdeal.main_arg2)
      ∧ r.2.mem ((c.tc : Thread Cert.QkRopeRefIdeal.nD Cert.QkRopeRefIdeal.τ).loc Cert.QkRopeRefIdeal.main_arg3) = m ((c.tc : Thread Cert.QkRopeRefIdeal.nD Cert.QkRopeRefIdeal.τ).loc Cert.QkRopeRefIdeal.main_arg3)
      ∧ r.2.mem ((c.tc : Thread Cert.QkRopeRefIdeal.nD Cert.QkRopeRefIdeal.τ).loc Cert.QkRopeRefIdeal.main_arg4) = m ((c.tc : Thread Cert.QkRopeRefIdeal.nD Cert.QkRopeRefIdeal.τ).loc Cert.QkRopeRefIdeal.main_arg4))
      ∧ r.2.sem = fun _ => 0)

def quiescent_KMem [hKMem : Cert.KMem.Facts] : Prop :=
  ∀ (m : (ℓ : Loc Cert.KMem.nD Cert.KMem.τ Cert.KMem.sig) → Buf (Elt Bits) ℓ) (g : Dev Cert.KMem.nD → PrngReg), Pre_KMem m →
    θ_run (Cert.KMem.defs (F := Bits)) (onTc (τ := Cert.KMem.τ) (Cert.KMem.main (F := Bits))) ⟨m, fun _ => 0, g⟩ (fun r => (∀ c : Dev Cert.KMem.nD,
      r.2.mem ((c.tc : Thread Cert.KMem.nD Cert.KMem.τ).loc Cert.KMem.main_arg0) = m ((c.tc : Thread Cert.KMem.nD Cert.KMem.τ).loc Cert.KMem.main_arg0)
      ∧ r.2.mem ((c.tc : Thread Cert.KMem.nD Cert.KMem.τ).loc Cert.KMem.main_arg1) = m ((c.tc : Thread Cert.KMem.nD Cert.KMem.τ).loc Cert.KMem.main_arg1)
      ∧ r.2.mem ((c.tc : Thread Cert.KMem.nD Cert.KMem.τ).loc Cert.KMem.main_arg2) = m ((c.tc : Thread Cert.KMem.nD Cert.KMem.τ).loc Cert.KMem.main_arg2))
      ∧ r.2.sem = fun _ => 0)

def quiescent_KMemIdeal [hKMemIdeal : Cert.KMemIdeal.Facts] : Prop :=
  ∀ (m : (ℓ : Loc Cert.KMemIdeal.nD Cert.KMemIdeal.τ Cert.KMemIdeal.sig) → Buf (Elt Ideal) ℓ) (g : Dev Cert.KMemIdeal.nD → PrngReg), Pre_KMemIdeal m →
    θ_run (Cert.KMemIdeal.defs (F := Ideal)) (onTc (τ := Cert.KMemIdeal.τ) (Cert.KMemIdeal.main (F := Ideal))) ⟨m, fun _ => 0, g⟩ (fun r => (∀ c : Dev Cert.KMemIdeal.nD,
      r.2.mem ((c.tc : Thread Cert.KMemIdeal.nD Cert.KMemIdeal.τ).loc Cert.KMemIdeal.main_arg0) = m ((c.tc : Thread Cert.KMemIdeal.nD Cert.KMemIdeal.τ).loc Cert.KMemIdeal.main_arg0)
      ∧ r.2.mem ((c.tc : Thread Cert.KMemIdeal.nD Cert.KMemIdeal.τ).loc Cert.KMemIdeal.main_arg1) = m ((c.tc : Thread Cert.KMemIdeal.nD Cert.KMemIdeal.τ).loc Cert.KMemIdeal.main_arg1)
      ∧ r.2.mem ((c.tc : Thread Cert.KMemIdeal.nD Cert.KMemIdeal.τ).loc Cert.KMemIdeal.main_arg2) = m ((c.tc : Thread Cert.KMemIdeal.nD Cert.KMemIdeal.τ).loc Cert.KMemIdeal.main_arg2))
      ∧ r.2.sem = fun _ => 0)

def quiescent_KMemIdeal_pre_kmem_finite [hKMemIdeal : Cert.KMemIdeal.Facts] [hPre_kmem_finite : Cert.Pre_kmem_finite.Facts] : Prop :=
  ∀ (m : (ℓ : Loc Cert.KMemIdeal.nD Cert.KMemIdeal.τ Cert.KMemIdeal.sig) → Buf (Elt Ideal) ℓ) (g : Dev Cert.KMemIdeal.nD → PrngReg), Pre_KMemIdeal_kmem_finite m →
    θ_run (Cert.KMemIdeal.defs (F := Ideal)) (onTc (τ := Cert.KMemIdeal.τ) (Cert.KMemIdeal.main (F := Ideal))) ⟨m, fun _ => 0, g⟩ (fun r => (∀ c : Dev Cert.KMemIdeal.nD,
      r.2.mem ((c.tc : Thread Cert.KMemIdeal.nD Cert.KMemIdeal.τ).loc Cert.KMemIdeal.main_arg0) = m ((c.tc : Thread Cert.KMemIdeal.nD Cert.KMemIdeal.τ).loc Cert.KMemIdeal.main_arg0)
      ∧ r.2.mem ((c.tc : Thread Cert.KMemIdeal.nD Cert.KMemIdeal.τ).loc Cert.KMemIdeal.main_arg1) = m ((c.tc : Thread Cert.KMemIdeal.nD Cert.KMemIdeal.τ).loc Cert.KMemIdeal.main_arg1)
      ∧ r.2.mem ((c.tc : Thread Cert.KMemIdeal.nD Cert.KMemIdeal.τ).loc Cert.KMemIdeal.main_arg2) = m ((c.tc : Thread Cert.KMemIdeal.nD Cert.KMemIdeal.τ).loc Cert.KMemIdeal.main_arg2))
      ∧ r.2.sem = fun _ => 0)

def quiescent_KMemRefIdeal [hKMemRefIdeal : Cert.KMemRefIdeal.Facts] : Prop :=
  ∀ (m : (ℓ : Loc Cert.KMemRefIdeal.nD Cert.KMemRefIdeal.τ Cert.KMemRefIdeal.sig) → Buf (Elt Ideal) ℓ) (g : Dev Cert.KMemRefIdeal.nD → PrngReg), Pre_KMemRefIdeal m →
    θ_run (Cert.KMemRefIdeal.defs (F := Ideal)) (onTc (τ := Cert.KMemRefIdeal.τ) (Cert.KMemRefIdeal.main (F := Ideal))) ⟨m, fun _ => 0, g⟩ (fun r => (∀ c : Dev Cert.KMemRefIdeal.nD,
      r.2.mem ((c.tc : Thread Cert.KMemRefIdeal.nD Cert.KMemRefIdeal.τ).loc Cert.KMemRefIdeal.main_arg0) = m ((c.tc : Thread Cert.KMemRefIdeal.nD Cert.KMemRefIdeal.τ).loc Cert.KMemRefIdeal.main_arg0)
      ∧ r.2.mem ((c.tc : Thread Cert.KMemRefIdeal.nD Cert.KMemRefIdeal.τ).loc Cert.KMemRefIdeal.main_arg1) = m ((c.tc : Thread Cert.KMemRefIdeal.nD Cert.KMemRefIdeal.τ).loc Cert.KMemRefIdeal.main_arg1)
      ∧ r.2.mem ((c.tc : Thread Cert.KMemRefIdeal.nD Cert.KMemRefIdeal.τ).loc Cert.KMemRefIdeal.main_arg2) = m ((c.tc : Thread Cert.KMemRefIdeal.nD Cert.KMemRefIdeal.τ).loc Cert.KMemRefIdeal.main_arg2))
      ∧ r.2.sem = fun _ => 0)

def quiescent_KMemRefIdeal_pre_kmem_finite [hKMemRefIdeal : Cert.KMemRefIdeal.Facts] [hPre_kmem_finite : Cert.Pre_kmem_finite.Facts] : Prop :=
  ∀ (m : (ℓ : Loc Cert.KMemRefIdeal.nD Cert.KMemRefIdeal.τ Cert.KMemRefIdeal.sig) → Buf (Elt Ideal) ℓ) (g : Dev Cert.KMemRefIdeal.nD → PrngReg), Pre_KMemRefIdeal_kmem_finite m →
    θ_run (Cert.KMemRefIdeal.defs (F := Ideal)) (onTc (τ := Cert.KMemRefIdeal.τ) (Cert.KMemRefIdeal.main (F := Ideal))) ⟨m, fun _ => 0, g⟩ (fun r => (∀ c : Dev Cert.KMemRefIdeal.nD,
      r.2.mem ((c.tc : Thread Cert.KMemRefIdeal.nD Cert.KMemRefIdeal.τ).loc Cert.KMemRefIdeal.main_arg0) = m ((c.tc : Thread Cert.KMemRefIdeal.nD Cert.KMemRefIdeal.τ).loc Cert.KMemRefIdeal.main_arg0)
      ∧ r.2.mem ((c.tc : Thread Cert.KMemRefIdeal.nD Cert.KMemRefIdeal.τ).loc Cert.KMemRefIdeal.main_arg1) = m ((c.tc : Thread Cert.KMemRefIdeal.nD Cert.KMemRefIdeal.τ).loc Cert.KMemRefIdeal.main_arg1)
      ∧ r.2.mem ((c.tc : Thread Cert.KMemRefIdeal.nD Cert.KMemRefIdeal.τ).loc Cert.KMemRefIdeal.main_arg2) = m ((c.tc : Thread Cert.KMemRefIdeal.nD Cert.KMemRefIdeal.τ).loc Cert.KMemRefIdeal.main_arg2))
      ∧ r.2.sem = fun _ => 0)

def quiescent_KRope [hKRope : Cert.KRope.Facts] : Prop :=
  ∀ (m : (ℓ : Loc Cert.KRope.nD Cert.KRope.τ Cert.KRope.sig) → Buf (Elt Bits) ℓ) (g : Dev Cert.KRope.nD → PrngReg), Pre_KRope m →
    θ_run (Cert.KRope.defs (F := Bits)) (onTc (τ := Cert.KRope.τ) (Cert.KRope.main (F := Bits))) ⟨m, fun _ => 0, g⟩ (fun r => (∀ c : Dev Cert.KRope.nD,
      r.2.mem ((c.tc : Thread Cert.KRope.nD Cert.KRope.τ).loc Cert.KRope.main_arg0) = m ((c.tc : Thread Cert.KRope.nD Cert.KRope.τ).loc Cert.KRope.main_arg0)
      ∧ r.2.mem ((c.tc : Thread Cert.KRope.nD Cert.KRope.τ).loc Cert.KRope.main_arg1) = m ((c.tc : Thread Cert.KRope.nD Cert.KRope.τ).loc Cert.KRope.main_arg1)
      ∧ r.2.mem ((c.tc : Thread Cert.KRope.nD Cert.KRope.τ).loc Cert.KRope.main_arg2) = m ((c.tc : Thread Cert.KRope.nD Cert.KRope.τ).loc Cert.KRope.main_arg2)
      ∧ r.2.mem ((c.tc : Thread Cert.KRope.nD Cert.KRope.τ).loc Cert.KRope.main_arg3) = m ((c.tc : Thread Cert.KRope.nD Cert.KRope.τ).loc Cert.KRope.main_arg3)
      ∧ r.2.mem ((c.tc : Thread Cert.KRope.nD Cert.KRope.τ).loc Cert.KRope.main_arg4) = m ((c.tc : Thread Cert.KRope.nD Cert.KRope.τ).loc Cert.KRope.main_arg4))
      ∧ r.2.sem = fun _ => 0)

def quiescent_KRopeIdeal [hKRopeIdeal : Cert.KRopeIdeal.Facts] : Prop :=
  ∀ (m : (ℓ : Loc Cert.KRopeIdeal.nD Cert.KRopeIdeal.τ Cert.KRopeIdeal.sig) → Buf (Elt Ideal) ℓ) (g : Dev Cert.KRopeIdeal.nD → PrngReg), Pre_KRopeIdeal m →
    θ_run (Cert.KRopeIdeal.defs (F := Ideal)) (onTc (τ := Cert.KRopeIdeal.τ) (Cert.KRopeIdeal.main (F := Ideal))) ⟨m, fun _ => 0, g⟩ (fun r => (∀ c : Dev Cert.KRopeIdeal.nD,
      r.2.mem ((c.tc : Thread Cert.KRopeIdeal.nD Cert.KRopeIdeal.τ).loc Cert.KRopeIdeal.main_arg0) = m ((c.tc : Thread Cert.KRopeIdeal.nD Cert.KRopeIdeal.τ).loc Cert.KRopeIdeal.main_arg0)
      ∧ r.2.mem ((c.tc : Thread Cert.KRopeIdeal.nD Cert.KRopeIdeal.τ).loc Cert.KRopeIdeal.main_arg1) = m ((c.tc : Thread Cert.KRopeIdeal.nD Cert.KRopeIdeal.τ).loc Cert.KRopeIdeal.main_arg1)
      ∧ r.2.mem ((c.tc : Thread Cert.KRopeIdeal.nD Cert.KRopeIdeal.τ).loc Cert.KRopeIdeal.main_arg2) = m ((c.tc : Thread Cert.KRopeIdeal.nD Cert.KRopeIdeal.τ).loc Cert.KRopeIdeal.main_arg2)
      ∧ r.2.mem ((c.tc : Thread Cert.KRopeIdeal.nD Cert.KRopeIdeal.τ).loc Cert.KRopeIdeal.main_arg3) = m ((c.tc : Thread Cert.KRopeIdeal.nD Cert.KRopeIdeal.τ).loc Cert.KRopeIdeal.main_arg3)
      ∧ r.2.mem ((c.tc : Thread Cert.KRopeIdeal.nD Cert.KRopeIdeal.τ).loc Cert.KRopeIdeal.main_arg4) = m ((c.tc : Thread Cert.KRopeIdeal.nD Cert.KRopeIdeal.τ).loc Cert.KRopeIdeal.main_arg4))
      ∧ r.2.sem = fun _ => 0)

def quiescent_KRopeIdeal_pre_krope_finite [hKRopeIdeal : Cert.KRopeIdeal.Facts] [hPre_krope_finite : Cert.Pre_krope_finite.Facts] : Prop :=
  ∀ (m : (ℓ : Loc Cert.KRopeIdeal.nD Cert.KRopeIdeal.τ Cert.KRopeIdeal.sig) → Buf (Elt Ideal) ℓ) (g : Dev Cert.KRopeIdeal.nD → PrngReg), Pre_KRopeIdeal_krope_finite m →
    θ_run (Cert.KRopeIdeal.defs (F := Ideal)) (onTc (τ := Cert.KRopeIdeal.τ) (Cert.KRopeIdeal.main (F := Ideal))) ⟨m, fun _ => 0, g⟩ (fun r => (∀ c : Dev Cert.KRopeIdeal.nD,
      r.2.mem ((c.tc : Thread Cert.KRopeIdeal.nD Cert.KRopeIdeal.τ).loc Cert.KRopeIdeal.main_arg0) = m ((c.tc : Thread Cert.KRopeIdeal.nD Cert.KRopeIdeal.τ).loc Cert.KRopeIdeal.main_arg0)
      ∧ r.2.mem ((c.tc : Thread Cert.KRopeIdeal.nD Cert.KRopeIdeal.τ).loc Cert.KRopeIdeal.main_arg1) = m ((c.tc : Thread Cert.KRopeIdeal.nD Cert.KRopeIdeal.τ).loc Cert.KRopeIdeal.main_arg1)
      ∧ r.2.mem ((c.tc : Thread Cert.KRopeIdeal.nD Cert.KRopeIdeal.τ).loc Cert.KRopeIdeal.main_arg2) = m ((c.tc : Thread Cert.KRopeIdeal.nD Cert.KRopeIdeal.τ).loc Cert.KRopeIdeal.main_arg2)
      ∧ r.2.mem ((c.tc : Thread Cert.KRopeIdeal.nD Cert.KRopeIdeal.τ).loc Cert.KRopeIdeal.main_arg3) = m ((c.tc : Thread Cert.KRopeIdeal.nD Cert.KRopeIdeal.τ).loc Cert.KRopeIdeal.main_arg3)
      ∧ r.2.mem ((c.tc : Thread Cert.KRopeIdeal.nD Cert.KRopeIdeal.τ).loc Cert.KRopeIdeal.main_arg4) = m ((c.tc : Thread Cert.KRopeIdeal.nD Cert.KRopeIdeal.τ).loc Cert.KRopeIdeal.main_arg4))
      ∧ r.2.sem = fun _ => 0)

def quiescent_KRopeRefIdeal [hKRopeRefIdeal : Cert.KRopeRefIdeal.Facts] : Prop :=
  ∀ (m : (ℓ : Loc Cert.KRopeRefIdeal.nD Cert.KRopeRefIdeal.τ Cert.KRopeRefIdeal.sig) → Buf (Elt Ideal) ℓ) (g : Dev Cert.KRopeRefIdeal.nD → PrngReg), Pre_KRopeRefIdeal m →
    θ_run (Cert.KRopeRefIdeal.defs (F := Ideal)) (onTc (τ := Cert.KRopeRefIdeal.τ) (Cert.KRopeRefIdeal.main (F := Ideal))) ⟨m, fun _ => 0, g⟩ (fun r => (∀ c : Dev Cert.KRopeRefIdeal.nD,
      r.2.mem ((c.tc : Thread Cert.KRopeRefIdeal.nD Cert.KRopeRefIdeal.τ).loc Cert.KRopeRefIdeal.main_arg0) = m ((c.tc : Thread Cert.KRopeRefIdeal.nD Cert.KRopeRefIdeal.τ).loc Cert.KRopeRefIdeal.main_arg0)
      ∧ r.2.mem ((c.tc : Thread Cert.KRopeRefIdeal.nD Cert.KRopeRefIdeal.τ).loc Cert.KRopeRefIdeal.main_arg1) = m ((c.tc : Thread Cert.KRopeRefIdeal.nD Cert.KRopeRefIdeal.τ).loc Cert.KRopeRefIdeal.main_arg1)
      ∧ r.2.mem ((c.tc : Thread Cert.KRopeRefIdeal.nD Cert.KRopeRefIdeal.τ).loc Cert.KRopeRefIdeal.main_arg2) = m ((c.tc : Thread Cert.KRopeRefIdeal.nD Cert.KRopeRefIdeal.τ).loc Cert.KRopeRefIdeal.main_arg2)
      ∧ r.2.mem ((c.tc : Thread Cert.KRopeRefIdeal.nD Cert.KRopeRefIdeal.τ).loc Cert.KRopeRefIdeal.main_arg3) = m ((c.tc : Thread Cert.KRopeRefIdeal.nD Cert.KRopeRefIdeal.τ).loc Cert.KRopeRefIdeal.main_arg3)
      ∧ r.2.mem ((c.tc : Thread Cert.KRopeRefIdeal.nD Cert.KRopeRefIdeal.τ).loc Cert.KRopeRefIdeal.main_arg4) = m ((c.tc : Thread Cert.KRopeRefIdeal.nD Cert.KRopeRefIdeal.τ).loc Cert.KRopeRefIdeal.main_arg4))
      ∧ r.2.sem = fun _ => 0)

def quiescent_KRopeRefIdeal_pre_krope_finite [hKRopeRefIdeal : Cert.KRopeRefIdeal.Facts] [hPre_krope_finite : Cert.Pre_krope_finite.Facts] : Prop :=
  ∀ (m : (ℓ : Loc Cert.KRopeRefIdeal.nD Cert.KRopeRefIdeal.τ Cert.KRopeRefIdeal.sig) → Buf (Elt Ideal) ℓ) (g : Dev Cert.KRopeRefIdeal.nD → PrngReg), Pre_KRopeRefIdeal_krope_finite m →
    θ_run (Cert.KRopeRefIdeal.defs (F := Ideal)) (onTc (τ := Cert.KRopeRefIdeal.τ) (Cert.KRopeRefIdeal.main (F := Ideal))) ⟨m, fun _ => 0, g⟩ (fun r => (∀ c : Dev Cert.KRopeRefIdeal.nD,
      r.2.mem ((c.tc : Thread Cert.KRopeRefIdeal.nD Cert.KRopeRefIdeal.τ).loc Cert.KRopeRefIdeal.main_arg0) = m ((c.tc : Thread Cert.KRopeRefIdeal.nD Cert.KRopeRefIdeal.τ).loc Cert.KRopeRefIdeal.main_arg0)
      ∧ r.2.mem ((c.tc : Thread Cert.KRopeRefIdeal.nD Cert.KRopeRefIdeal.τ).loc Cert.KRopeRefIdeal.main_arg1) = m ((c.tc : Thread Cert.KRopeRefIdeal.nD Cert.KRopeRefIdeal.τ).loc Cert.KRopeRefIdeal.main_arg1)
      ∧ r.2.mem ((c.tc : Thread Cert.KRopeRefIdeal.nD Cert.KRopeRefIdeal.τ).loc Cert.KRopeRefIdeal.main_arg2) = m ((c.tc : Thread Cert.KRopeRefIdeal.nD Cert.KRopeRefIdeal.τ).loc Cert.KRopeRefIdeal.main_arg2)
      ∧ r.2.mem ((c.tc : Thread Cert.KRopeRefIdeal.nD Cert.KRopeRefIdeal.τ).loc Cert.KRopeRefIdeal.main_arg3) = m ((c.tc : Thread Cert.KRopeRefIdeal.nD Cert.KRopeRefIdeal.τ).loc Cert.KRopeRefIdeal.main_arg3)
      ∧ r.2.mem ((c.tc : Thread Cert.KRopeRefIdeal.nD Cert.KRopeRefIdeal.τ).loc Cert.KRopeRefIdeal.main_arg4) = m ((c.tc : Thread Cert.KRopeRefIdeal.nD Cert.KRopeRefIdeal.τ).loc Cert.KRopeRefIdeal.main_arg4))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1)
      ∧ r.2.mem ((c.tc : Thread Cert.MemFwd.nD Cert.MemFwd.τ).loc Cert.MemFwd.main_arg2) = m ((c.tc : Thread Cert.MemFwd.nD Cert.MemFwd.τ).loc Cert.MemFwd.main_arg2))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
      ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2))
      ∧ r.2.sem = fun _ => 0)

def quiescent_MemFwdRefIdeal [hMemFwdRefIdeal : Cert.MemFwdRefIdeal.Facts] : Prop :=
  ∀ (m : (ℓ : Loc Cert.MemFwdRefIdeal.nD Cert.MemFwdRefIdeal.τ Cert.MemFwdRefIdeal.sig) → Buf (Elt Ideal) ℓ) (g : Dev Cert.MemFwdRefIdeal.nD → PrngReg), Pre_MemFwdRefIdeal m →
    θ_run (Cert.MemFwdRefIdeal.defs (F := Ideal)) (onTc (τ := Cert.MemFwdRefIdeal.τ) (Cert.MemFwdRefIdeal.main (F := Ideal))) ⟨m, fun _ => 0, g⟩ (fun r => (∀ c : Dev Cert.MemFwdRefIdeal.nD,
      r.2.mem ((c.tc : Thread Cert.MemFwdRefIdeal.nD Cert.MemFwdRefIdeal.τ).loc Cert.MemFwdRefIdeal.main_arg0) = m ((c.tc : Thread Cert.MemFwdRefIdeal.nD Cert.MemFwdRefIdeal.τ).loc Cert.MemFwdRefIdeal.main_arg0)
      ∧ r.2.mem ((c.tc : Thread Cert.MemFwdRefIdeal.nD Cert.MemFwdRefIdeal.τ).loc Cert.MemFwdRefIdeal.main_arg1) = m ((c.tc : Thread Cert.MemFwdRefIdeal.nD Cert.MemFwdRefIdeal.τ).loc Cert.MemFwdRefIdeal.main_arg1)
      ∧ r.2.mem ((c.tc : Thread Cert.MemFwdRefIdeal.nD Cert.MemFwdRefIdeal.τ).loc Cert.MemFwdRefIdeal.main_arg2) = m ((c.tc : Thread Cert.MemFwdRefIdeal.nD Cert.MemFwdRefIdeal.τ).loc Cert.MemFwdRefIdeal.main_arg2))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1)
      ∧ r.2.mem ((c.tc : Thread Cert.UpFwd.nD Cert.UpFwd.τ).loc Cert.UpFwd.main_arg2) = m ((c.tc : Thread Cert.UpFwd.nD Cert.UpFwd.τ).loc Cert.UpFwd.main_arg2))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
      ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1)
      ∧ r.2.mem ((c.tc : Thread Cert.UpFwdRefIdeal.nD Cert.UpFwdRefIdeal.τ).loc Cert.UpFwdRefIdeal.main_arg2) = m ((c.tc : Thread Cert.UpFwdRefIdeal.nD Cert.UpFwdRefIdeal.τ).loc Cert.UpFwdRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3))
      ∧ r.2.sem = fun _ => 0)

def quiescent_QNormFwd [hQNormFwd : Cert.QNormFwd.Facts] : Prop :=
  ∀ (m : (ℓ : Loc Cert.QNormFwd.nD Cert.QNormFwd.τ Cert.QNormFwd.sig) → Buf (Elt Bits) ℓ) (g : Dev Cert.QNormFwd.nD → PrngReg), Pre_QNormFwd m →
    θ_run (Cert.QNormFwd.defs (F := Bits)) (onTc (τ := Cert.QNormFwd.τ) (Cert.QNormFwd.main (F := Bits))) ⟨m, fun _ => 0, g⟩ (fun r => (∀ c : Dev Cert.QNormFwd.nD,
      r.2.mem ((c.tc : Thread Cert.QNormFwd.nD Cert.QNormFwd.τ).loc Cert.QNormFwd.main_arg0) = m ((c.tc : Thread Cert.QNormFwd.nD Cert.QNormFwd.τ).loc Cert.QNormFwd.main_arg0)
      ∧ r.2.mem ((c.tc : Thread Cert.QNormFwd.nD Cert.QNormFwd.τ).loc Cert.QNormFwd.main_arg1) = m ((c.tc : Thread Cert.QNormFwd.nD Cert.QNormFwd.τ).loc Cert.QNormFwd.main_arg1))
      ∧ r.2.sem = fun _ => 0)

def quiescent_QNormFwdIdeal [hQNormFwdIdeal : Cert.QNormFwdIdeal.Facts] : Prop :=
  ∀ (m : (ℓ : Loc Cert.QNormFwdIdeal.nD Cert.QNormFwdIdeal.τ Cert.QNormFwdIdeal.sig) → Buf (Elt Ideal) ℓ) (g : Dev Cert.QNormFwdIdeal.nD → PrngReg), Pre_QNormFwdIdeal m →
    θ_run (Cert.QNormFwdIdeal.defs (F := Ideal)) (onTc (τ := Cert.QNormFwdIdeal.τ) (Cert.QNormFwdIdeal.main (F := Ideal))) ⟨m, fun _ => 0, g⟩ (fun r => (∀ c : Dev Cert.QNormFwdIdeal.nD,
      r.2.mem ((c.tc : Thread Cert.QNormFwdIdeal.nD Cert.QNormFwdIdeal.τ).loc Cert.QNormFwdIdeal.main_arg0) = m ((c.tc : Thread Cert.QNormFwdIdeal.nD Cert.QNormFwdIdeal.τ).loc Cert.QNormFwdIdeal.main_arg0)
      ∧ r.2.mem ((c.tc : Thread Cert.QNormFwdIdeal.nD Cert.QNormFwdIdeal.τ).loc Cert.QNormFwdIdeal.main_arg1) = m ((c.tc : Thread Cert.QNormFwdIdeal.nD Cert.QNormFwdIdeal.τ).loc Cert.QNormFwdIdeal.main_arg1))
      ∧ r.2.sem = fun _ => 0)

def quiescent_QNormFwdIdeal_pre_qnf_finite [hQNormFwdIdeal : Cert.QNormFwdIdeal.Facts] [hPre_qnf_finite : Cert.Pre_qnf_finite.Facts] : Prop :=
  ∀ (m : (ℓ : Loc Cert.QNormFwdIdeal.nD Cert.QNormFwdIdeal.τ Cert.QNormFwdIdeal.sig) → Buf (Elt Ideal) ℓ) (g : Dev Cert.QNormFwdIdeal.nD → PrngReg), Pre_QNormFwdIdeal_qnf_finite m →
    θ_run (Cert.QNormFwdIdeal.defs (F := Ideal)) (onTc (τ := Cert.QNormFwdIdeal.τ) (Cert.QNormFwdIdeal.main (F := Ideal))) ⟨m, fun _ => 0, g⟩ (fun r => (∀ c : Dev Cert.QNormFwdIdeal.nD,
      r.2.mem ((c.tc : Thread Cert.QNormFwdIdeal.nD Cert.QNormFwdIdeal.τ).loc Cert.QNormFwdIdeal.main_arg0) = m ((c.tc : Thread Cert.QNormFwdIdeal.nD Cert.QNormFwdIdeal.τ).loc Cert.QNormFwdIdeal.main_arg0)
      ∧ r.2.mem ((c.tc : Thread Cert.QNormFwdIdeal.nD Cert.QNormFwdIdeal.τ).loc Cert.QNormFwdIdeal.main_arg1) = m ((c.tc : Thread Cert.QNormFwdIdeal.nD Cert.QNormFwdIdeal.τ).loc Cert.QNormFwdIdeal.main_arg1))
      ∧ r.2.sem = fun _ => 0)

def quiescent_QNormFwdRefIdeal [hQNormFwdRefIdeal : Cert.QNormFwdRefIdeal.Facts] : Prop :=
  ∀ (m : (ℓ : Loc Cert.QNormFwdRefIdeal.nD Cert.QNormFwdRefIdeal.τ Cert.QNormFwdRefIdeal.sig) → Buf (Elt Ideal) ℓ) (g : Dev Cert.QNormFwdRefIdeal.nD → PrngReg), Pre_QNormFwdRefIdeal m →
    θ_run (Cert.QNormFwdRefIdeal.defs (F := Ideal)) (onTc (τ := Cert.QNormFwdRefIdeal.τ) (Cert.QNormFwdRefIdeal.main (F := Ideal))) ⟨m, fun _ => 0, g⟩ (fun r => (∀ c : Dev Cert.QNormFwdRefIdeal.nD,
      r.2.mem ((c.tc : Thread Cert.QNormFwdRefIdeal.nD Cert.QNormFwdRefIdeal.τ).loc Cert.QNormFwdRefIdeal.main_arg0) = m ((c.tc : Thread Cert.QNormFwdRefIdeal.nD Cert.QNormFwdRefIdeal.τ).loc Cert.QNormFwdRefIdeal.main_arg0)
      ∧ r.2.mem ((c.tc : Thread Cert.QNormFwdRefIdeal.nD Cert.QNormFwdRefIdeal.τ).loc Cert.QNormFwdRefIdeal.main_arg1) = m ((c.tc : Thread Cert.QNormFwdRefIdeal.nD Cert.QNormFwdRefIdeal.τ).loc Cert.QNormFwdRefIdeal.main_arg1))
      ∧ r.2.sem = fun _ => 0)

def quiescent_QNormFwdRefIdeal_pre_qnf_finite [hQNormFwdRefIdeal : Cert.QNormFwdRefIdeal.Facts] [hPre_qnf_finite : Cert.Pre_qnf_finite.Facts] : Prop :=
  ∀ (m : (ℓ : Loc Cert.QNormFwdRefIdeal.nD Cert.QNormFwdRefIdeal.τ Cert.QNormFwdRefIdeal.sig) → Buf (Elt Ideal) ℓ) (g : Dev Cert.QNormFwdRefIdeal.nD → PrngReg), Pre_QNormFwdRefIdeal_qnf_finite m →
    θ_run (Cert.QNormFwdRefIdeal.defs (F := Ideal)) (onTc (τ := Cert.QNormFwdRefIdeal.τ) (Cert.QNormFwdRefIdeal.main (F := Ideal))) ⟨m, fun _ => 0, g⟩ (fun r => (∀ c : Dev Cert.QNormFwdRefIdeal.nD,
      r.2.mem ((c.tc : Thread Cert.QNormFwdRefIdeal.nD Cert.QNormFwdRefIdeal.τ).loc Cert.QNormFwdRefIdeal.main_arg0) = m ((c.tc : Thread Cert.QNormFwdRefIdeal.nD Cert.QNormFwdRefIdeal.τ).loc Cert.QNormFwdRefIdeal.main_arg0)
      ∧ r.2.mem ((c.tc : Thread Cert.QNormFwdRefIdeal.nD Cert.QNormFwdRefIdeal.τ).loc Cert.QNormFwdRefIdeal.main_arg1) = m ((c.tc : Thread Cert.QNormFwdRefIdeal.nD Cert.QNormFwdRefIdeal.τ).loc Cert.QNormFwdRefIdeal.main_arg1))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)) (v4 : (c : Dev Cert.MergeIdeal.nD) → Buf (Elt Ideal) ((c.tc : Thread Cert.MergeIdeal.nD Cert.MergeIdeal.τ).loc Cert.MergeIdeal.main_v0_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_v0_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v46) = v0 c
          ∧ r.2.mem ((c.tc : Thread Cert.MergeRefIdeal.nD Cert.MergeRefIdeal.τ).loc Cert.MergeRefIdeal.main_v47) = v1 c
          ∧ r.2.mem ((c.tc : Thread Cert.MergeRefIdeal.nD Cert.MergeRefIdeal.τ).loc Cert.MergeRefIdeal.main_v48) = v2 c
          ∧ r.2.mem ((c.tc : Thread Cert.MergeRefIdeal.nD Cert.MergeRefIdeal.τ).loc Cert.MergeRefIdeal.main_v49) = v3 c
          ∧ r.2.mem ((c.tc : Thread Cert.MergeRefIdeal.nD Cert.MergeRefIdeal.τ).loc Cert.MergeRefIdeal.main_v45) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_Sb_SbIdeal : Prop :=
  IdealRules.named_const.Statement Cert.SbIdeal.κ "scale_log2e" .f32 0x3E38AA3B#32 (((Real.log 256)⁻¹ : ℝ) : EReal)
  ∧ IdealRules.named_const.Statement Cert.SbIdeal.κ "log2e" .f32 0x3FB8AA3B#32 (((Real.log 2)⁻¹ : ℝ) : EReal)
  ∧ IdealRules.named_const.Statement Cert.SbIdeal.κ "dead" .f32 0xC31EB24B#32 ⊥

def algebraic_SbIdeal_SbRefIdeal_pre_sb_finite [hSbIdeal : Cert.SbIdeal.Facts] [hSbRefIdeal : Cert.SbRefIdeal.Facts] [hPre_sb_finite : Cert.Pre_sb_finite.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_sb_finite m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)) →
    ∃ (v0 : (c : Dev Cert.SbIdeal.nD) → Buf (Elt Ideal) ((c.tc : Thread Cert.SbIdeal.nD Cert.SbIdeal.τ).loc Cert.SbIdeal.main_v33_0)) (v1 : (c : Dev Cert.SbIdeal.nD) → Buf (Elt Ideal) ((c.tc : Thread Cert.SbIdeal.nD Cert.SbIdeal.τ).loc Cert.SbIdeal.main_v33_1)) (v2 : (c : Dev Cert.SbIdeal.nD) → Buf (Elt Ideal) ((c.tc : Thread Cert.SbIdeal.nD Cert.SbIdeal.τ).loc Cert.SbIdeal.main_v33_2)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v33_0) = v0 c
          ∧ r.2.mem ((c.tc : Thread Cert.SbIdeal.nD Cert.SbIdeal.τ).loc Cert.SbIdeal.main_v33_1) = v1 c
          ∧ r.2.mem ((c.tc : Thread Cert.SbIdeal.nD Cert.SbIdeal.τ).loc Cert.SbIdeal.main_v33_2) = v2 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v59) = v0 c
          ∧ r.2.mem ((c.tc : Thread Cert.SbRefIdeal.nD Cert.SbRefIdeal.τ).loc Cert.SbRefIdeal.main_v56) = v1 c
          ∧ r.2.mem ((c.tc : Thread Cert.SbRefIdeal.nD Cert.SbRefIdeal.τ).loc Cert.SbRefIdeal.main_v54) = v2 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1))

def preserves_SbFwd_SbFwdIdeal : Prop :=
  IdealRules.named_const.Statement Cert.SbFwdIdeal.κ "scale_log2e" .f32 0x3E38AA3B#32 (((Real.log 256)⁻¹ : ℝ) : EReal)
  ∧ IdealRules.named_const.Statement Cert.SbFwdIdeal.κ "log2e" .f32 0x3FB8AA3B#32 (((Real.log 2)⁻¹ : ℝ) : EReal)
  ∧ IdealRules.named_const.Statement Cert.SbFwdIdeal.κ "dead" .f32 0xC31EB24B#32 ⊥

def algebraic_SbFwdIdeal_SbFwdRefIdeal_pre_sbfwd_finite [hSbFwdIdeal : Cert.SbFwdIdeal.Facts] [hSbFwdRefIdeal : Cert.SbFwdRefIdeal.Facts] [hPre_sbfwd_finite : Cert.Pre_sbfwd_finite.Facts] : Prop :=
  ∀ (m : (ℓ : Loc Cert.SbFwdIdeal.nD Cert.SbFwdIdeal.τ Cert.SbFwdIdeal.sig) → Buf (Elt Ideal) ℓ) (g : Dev Cert.SbFwdIdeal.nD → PrngReg)
    (m' : (ℓ : Loc Cert.SbFwdRefIdeal.nD Cert.SbFwdRefIdeal.τ Cert.SbFwdRefIdeal.sig) → Buf (Elt Ideal) ℓ) (g' : Dev Cert.SbFwdRefIdeal.nD → PrngReg), Pre_SbFwdIdeal_sbfwd_finite m →
    (∀ c : Dev Cert.SbFwdIdeal.nD,
      m' ((c.tc : Thread Cert.SbFwdRefIdeal.nD Cert.SbFwdRefIdeal.τ).loc Cert.SbFwdRefIdeal.main_arg0) = m ((c.tc : Thread Cert.SbFwdIdeal.nD Cert.SbFwdIdeal.τ).loc Cert.SbFwdIdeal.main_arg0)) →
    ∃ (v0 : (c : Dev Cert.SbFwdIdeal.nD) → Buf (Elt Ideal) ((c.tc : Thread Cert.SbFwdIdeal.nD Cert.SbFwdIdeal.τ).loc Cert.SbFwdIdeal.main_v0)),
      θ_run (Cert.SbFwdIdeal.defs (F := Ideal)) (onTc (τ := Cert.SbFwdIdeal.τ) (Cert.SbFwdIdeal.main (F := Ideal))) ⟨m, fun _ => 0, g⟩ (fun r => ∀ c : Dev Cert.SbFwdIdeal.nD,
          r.2.mem ((c.tc : Thread Cert.SbFwdIdeal.nD Cert.SbFwdIdeal.τ).loc Cert.SbFwdIdeal.main_v0) = v0 c
          ∧ r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ θ_run (Cert.SbFwdRefIdeal.defs (F := Ideal)) (onTc (τ := Cert.SbFwdRefIdeal.τ) (Cert.SbFwdRefIdeal.main (F := Ideal))) ⟨m', fun _ => 0, g'⟩ (fun r => ∀ c : Dev Cert.SbFwdRefIdeal.nD,
          r.2.mem ((c.tc : Thread Cert.SbFwdRefIdeal.nD Cert.SbFwdRefIdeal.τ).loc Cert.SbFwdRefIdeal.main_v32) = v0 c
          ∧ r.2.mem ((c.tc : Thread Cert.SbFwdRefIdeal.nD Cert.SbFwdRefIdeal.τ).loc Cert.SbFwdRefIdeal.main_arg0) = m' ((c.tc : Thread Cert.SbFwdRefIdeal.nD Cert.SbFwdRefIdeal.τ).loc Cert.SbFwdRefIdeal.main_arg0))

def preserves_Dact_DactIdeal : Prop :=
  True

def algebraic_DactIdeal_DactRefIdeal_pre_dact_finite [hDactIdeal : Cert.DactIdeal.Facts] [hDactRefIdeal : Cert.DactRefIdeal.Facts] [hPre_dact_finite : Cert.Pre_dact_finite.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal_dact_finite m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)
      ∧ m' ((c.tc : Thread Cert.DactRefIdeal.nD Cert.DactRefIdeal.τ).loc Cert.DactRefIdeal.main_arg3) = m ((c.tc : Thread Cert.DactIdeal.nD Cert.DactIdeal.τ).loc Cert.DactIdeal.main_arg3)) →
    ∃ (v0 : (c : Dev Cert.DactIdeal.nD) → Buf (Elt Ideal) ((c.tc : Thread Cert.DactIdeal.nD Cert.DactIdeal.τ).loc Cert.DactIdeal.main_v0_0)) (v1 : (c : Dev Cert.DactIdeal.nD) → Buf (Elt Ideal) ((c.tc : Thread Cert.DactIdeal.nD Cert.DactIdeal.τ).loc Cert.DactIdeal.main_v0_1)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0_0) = v0 c
          ∧ r.2.mem ((c.tc : Thread Cert.DactIdeal.nD Cert.DactIdeal.τ).loc Cert.DactIdeal.main_v0_1) = v1 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v15) = v0 c
          ∧ r.2.mem ((c.tc : Thread Cert.DactRefIdeal.nD Cert.DactRefIdeal.τ).loc Cert.DactRefIdeal.main_v16) = v1 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2)
          ∧ r.2.mem ((c.tc : Thread Cert.DactRefIdeal.nD Cert.DactRefIdeal.τ).loc Cert.DactRefIdeal.main_arg3) = m' ((c.tc : Thread Cert.DactRefIdeal.nD Cert.DactRefIdeal.τ).loc Cert.DactRefIdeal.main_arg3))

def preserves_MemRms_MemRmsIdeal : Prop :=
  True

def algebraic_MemRmsIdeal_MemRmsRefIdeal_pre_memrms_finite [hMemRmsIdeal : Cert.MemRmsIdeal.Facts] [hMemRmsRefIdeal : Cert.MemRmsRefIdeal.Facts] [hPre_memrms_finite : Cert.Pre_memrms_finite.Facts] : Prop :=
  ∀ (m : (ℓ : Loc Cert.MemRmsIdeal.nD Cert.MemRmsIdeal.τ Cert.MemRmsIdeal.sig) → Buf (Elt Ideal) ℓ) (g : Dev Cert.MemRmsIdeal.nD → PrngReg)
    (m' : (ℓ : Loc Cert.MemRmsRefIdeal.nD Cert.MemRmsRefIdeal.τ Cert.MemRmsRefIdeal.sig) → Buf (Elt Ideal) ℓ) (g' : Dev Cert.MemRmsRefIdeal.nD → PrngReg), Pre_MemRmsIdeal_memrms_finite m →
    (∀ c : Dev Cert.MemRmsIdeal.nD,
      m' ((c.tc : Thread Cert.MemRmsRefIdeal.nD Cert.MemRmsRefIdeal.τ).loc Cert.MemRmsRefIdeal.main_arg0) = m ((c.tc : Thread Cert.MemRmsIdeal.nD Cert.MemRmsIdeal.τ).loc Cert.MemRmsIdeal.main_arg0)
      ∧ m' ((c.tc : Thread Cert.MemRmsRefIdeal.nD Cert.MemRmsRefIdeal.τ).loc Cert.MemRmsRefIdeal.main_arg1) = m ((c.tc : Thread Cert.MemRmsIdeal.nD Cert.MemRmsIdeal.τ).loc Cert.MemRmsIdeal.main_arg1)
      ∧ m' ((c.tc : Thread Cert.MemRmsRefIdeal.nD Cert.MemRmsRefIdeal.τ).loc Cert.MemRmsRefIdeal.main_arg2) = m ((c.tc : Thread Cert.MemRmsIdeal.nD Cert.MemRmsIdeal.τ).loc Cert.MemRmsIdeal.main_arg2)) →
    ∃ (v0 : (c : Dev Cert.MemRmsIdeal.nD) → Buf (Elt Ideal) ((c.tc : Thread Cert.MemRmsIdeal.nD Cert.MemRmsIdeal.τ).loc Cert.MemRmsIdeal.main_v0_0)) (v1 : (c : Dev Cert.MemRmsIdeal.nD) → Buf (Elt Ideal) ((c.tc : Thread Cert.MemRmsIdeal.nD Cert.MemRmsIdeal.τ).loc Cert.MemRmsIdeal.main_v0_1)) (v2 : (c : Dev Cert.MemRmsIdeal.nD) → Buf (Elt Ideal) ((c.tc : Thread Cert.MemRmsIdeal.nD Cert.MemRmsIdeal.τ).loc Cert.MemRmsIdeal.main_v0_2)),
      θ_run (Cert.MemRmsIdeal.defs (F := Ideal)) (onTc (τ := Cert.MemRmsIdeal.τ) (Cert.MemRmsIdeal.main (F := Ideal))) ⟨m, fun _ => 0, g⟩ (fun r => ∀ c : Dev Cert.MemRmsIdeal.nD,
          r.2.mem ((c.tc : Thread Cert.MemRmsIdeal.nD Cert.MemRmsIdeal.τ).loc Cert.MemRmsIdeal.main_v0_0) = v0 c
          ∧ r.2.mem ((c.tc : Thread Cert.MemRmsIdeal.nD Cert.MemRmsIdeal.τ).loc Cert.MemRmsIdeal.main_v0_1) = v1 c
          ∧ r.2.mem ((c.tc : Thread Cert.MemRmsIdeal.nD Cert.MemRmsIdeal.τ).loc Cert.MemRmsIdeal.main_v0_2) = v2 c
          ∧ r.2.mem ((c.tc : Thread Cert.MemRmsIdeal.nD Cert.MemRmsIdeal.τ).loc Cert.MemRmsIdeal.main_arg0) = m ((c.tc : Thread Cert.MemRmsIdeal.nD Cert.MemRmsIdeal.τ).loc Cert.MemRmsIdeal.main_arg0)
          ∧ r.2.mem ((c.tc : Thread Cert.MemRmsIdeal.nD Cert.MemRmsIdeal.τ).loc Cert.MemRmsIdeal.main_arg1) = m ((c.tc : Thread Cert.MemRmsIdeal.nD Cert.MemRmsIdeal.τ).loc Cert.MemRmsIdeal.main_arg1)
          ∧ r.2.mem ((c.tc : Thread Cert.MemRmsIdeal.nD Cert.MemRmsIdeal.τ).loc Cert.MemRmsIdeal.main_arg2) = m ((c.tc : Thread Cert.MemRmsIdeal.nD Cert.MemRmsIdeal.τ).loc Cert.MemRmsIdeal.main_arg2))
      ∧ θ_run (Cert.MemRmsRefIdeal.defs (F := Ideal)) (onTc (τ := Cert.MemRmsRefIdeal.τ) (Cert.MemRmsRefIdeal.main (F := Ideal))) ⟨m', fun _ => 0, g'⟩ (fun r => ∀ c : Dev Cert.MemRmsRefIdeal.nD,
          r.2.mem ((c.tc : Thread Cert.MemRmsRefIdeal.nD Cert.MemRmsRefIdeal.τ).loc Cert.MemRmsRefIdeal.main_v33) = v0 c
          ∧ r.2.mem ((c.tc : Thread Cert.MemRmsRefIdeal.nD Cert.MemRmsRefIdeal.τ).loc Cert.MemRmsRefIdeal.main_v34) = v1 c
          ∧ r.2.mem ((c.tc : Thread Cert.MemRmsRefIdeal.nD Cert.MemRmsRefIdeal.τ).loc Cert.MemRmsRefIdeal.main_v17) = v2 c
          ∧ r.2.mem ((c.tc : Thread Cert.MemRmsRefIdeal.nD Cert.MemRmsRefIdeal.τ).loc Cert.MemRmsRefIdeal.main_arg0) = m' ((c.tc : Thread Cert.MemRmsRefIdeal.nD Cert.MemRmsRefIdeal.τ).loc Cert.MemRmsRefIdeal.main_arg0)
          ∧ r.2.mem ((c.tc : Thread Cert.MemRmsRefIdeal.nD Cert.MemRmsRefIdeal.τ).loc Cert.MemRmsRefIdeal.main_arg1) = m' ((c.tc : Thread Cert.MemRmsRefIdeal.nD Cert.MemRmsRefIdeal.τ).loc Cert.MemRmsRefIdeal.main_arg1)
          ∧ r.2.mem ((c.tc : Thread Cert.MemRmsRefIdeal.nD Cert.MemRmsRefIdeal.τ).loc Cert.MemRmsRefIdeal.main_arg2) = m' ((c.tc : Thread Cert.MemRmsRefIdeal.nD Cert.MemRmsRefIdeal.τ).loc Cert.MemRmsRefIdeal.main_arg2))

def preserves_Dh_DhIdeal : Prop :=
  True

def algebraic_DhIdeal_DhRefIdeal_pre_dh_finite [hDhIdeal : Cert.DhIdeal.Facts] [hDhRefIdeal : Cert.DhRefIdeal.Facts] [hPre_dh_finite : Cert.Pre_dh_finite.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal_dh_finite m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)
      ∧ m' ((c.tc : Thread Cert.DhRefIdeal.nD Cert.DhRefIdeal.τ).loc Cert.DhRefIdeal.main_arg5) = m ((c.tc : Thread Cert.DhIdeal.nD Cert.DhIdeal.τ).loc Cert.DhIdeal.main_arg5)
      ∧ m' ((c.tc : Thread Cert.DhRefIdeal.nD Cert.DhRefIdeal.τ).loc Cert.DhRefIdeal.main_arg6) = m ((c.tc : Thread Cert.DhIdeal.nD Cert.DhIdeal.τ).loc Cert.DhIdeal.main_arg6)) →
    ∃ (v0 : (c : Dev Cert.DhIdeal.nD) → Buf (Elt Ideal) ((c.tc : Thread Cert.DhIdeal.nD Cert.DhIdeal.τ).loc Cert.DhIdeal.main_v0_0)) (v1 : (c : Dev Cert.DhIdeal.nD) → Buf (Elt Ideal) ((c.tc : Thread Cert.DhIdeal.nD Cert.DhIdeal.τ).loc Cert.DhIdeal.main_v0_1)) (v2 : (c : Dev Cert.DhIdeal.nD) → Buf (Elt Ideal) ((c.tc : Thread Cert.DhIdeal.nD Cert.DhIdeal.τ).loc Cert.DhIdeal.main_v0_2)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0_0) = v0 c
          ∧ r.2.mem ((c.tc : Thread Cert.DhIdeal.nD Cert.DhIdeal.τ).loc Cert.DhIdeal.main_v0_1) = v1 c
          ∧ r.2.mem ((c.tc : Thread Cert.DhIdeal.nD Cert.DhIdeal.τ).loc Cert.DhIdeal.main_v0_2) = v2 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
          ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
          ∧ r.2.mem ((c.tc : Thread Cert.DhIdeal.nD Cert.DhIdeal.τ).loc Cert.DhIdeal.main_arg6) = m ((c.tc : Thread Cert.DhIdeal.nD Cert.DhIdeal.τ).loc Cert.DhIdeal.main_arg6))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v43) = v0 c
          ∧ r.2.mem ((c.tc : Thread Cert.DhRefIdeal.nD Cert.DhRefIdeal.τ).loc Cert.DhRefIdeal.main_v44) = v1 c
          ∧ r.2.mem ((c.tc : Thread Cert.DhRefIdeal.nD Cert.DhRefIdeal.τ).loc Cert.DhRefIdeal.main_v26) = v2 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4)
          ∧ r.2.mem ((c.tc : Thread Cert.DhRefIdeal.nD Cert.DhRefIdeal.τ).loc Cert.DhRefIdeal.main_arg5) = m' ((c.tc : Thread Cert.DhRefIdeal.nD Cert.DhRefIdeal.τ).loc Cert.DhRefIdeal.main_arg5)
          ∧ r.2.mem ((c.tc : Thread Cert.DhRefIdeal.nD Cert.DhRefIdeal.τ).loc Cert.DhRefIdeal.main_arg6) = m' ((c.tc : Thread Cert.DhRefIdeal.nD Cert.DhRefIdeal.τ).loc Cert.DhRefIdeal.main_arg6))

def preserves_DhGate_DhGateIdeal : Prop :=
  True

def algebraic_DhGateIdeal_DhGateRefIdeal_pre_dhgate_finite [hDhGateIdeal : Cert.DhGateIdeal.Facts] [hDhGateRefIdeal : Cert.DhGateRefIdeal.Facts] [hPre_dhgate_finite : Cert.Pre_dhgate_finite.Facts] : Prop :=
  ∀ (m : (ℓ : Loc Cert.DhGateIdeal.nD Cert.DhGateIdeal.τ Cert.DhGateIdeal.sig) → Buf (Elt Ideal) ℓ) (g : Dev Cert.DhGateIdeal.nD → PrngReg)
    (m' : (ℓ : Loc Cert.DhGateRefIdeal.nD Cert.DhGateRefIdeal.τ Cert.DhGateRefIdeal.sig) → Buf (Elt Ideal) ℓ) (g' : Dev Cert.DhGateRefIdeal.nD → PrngReg), Pre_DhGateIdeal_dhgate_finite m →
    (∀ c : Dev Cert.DhGateIdeal.nD,
      m' ((c.tc : Thread Cert.DhGateRefIdeal.nD Cert.DhGateRefIdeal.τ).loc Cert.DhGateRefIdeal.main_arg0) = m ((c.tc : Thread Cert.DhGateIdeal.nD Cert.DhGateIdeal.τ).loc Cert.DhGateIdeal.main_arg0)
      ∧ m' ((c.tc : Thread Cert.DhGateRefIdeal.nD Cert.DhGateRefIdeal.τ).loc Cert.DhGateRefIdeal.main_arg1) = m ((c.tc : Thread Cert.DhGateIdeal.nD Cert.DhGateIdeal.τ).loc Cert.DhGateIdeal.main_arg1)
      ∧ m' ((c.tc : Thread Cert.DhGateRefIdeal.nD Cert.DhGateRefIdeal.τ).loc Cert.DhGateRefIdeal.main_arg2) = m ((c.tc : Thread Cert.DhGateIdeal.nD Cert.DhGateIdeal.τ).loc Cert.DhGateIdeal.main_arg2)
      ∧ m' ((c.tc : Thread Cert.DhGateRefIdeal.nD Cert.DhGateRefIdeal.τ).loc Cert.DhGateRefIdeal.main_arg3) = m ((c.tc : Thread Cert.DhGateIdeal.nD Cert.DhGateIdeal.τ).loc Cert.DhGateIdeal.main_arg3)
      ∧ m' ((c.tc : Thread Cert.DhGateRefIdeal.nD Cert.DhGateRefIdeal.τ).loc Cert.DhGateRefIdeal.main_arg4) = m ((c.tc : Thread Cert.DhGateIdeal.nD Cert.DhGateIdeal.τ).loc Cert.DhGateIdeal.main_arg4)
      ∧ m' ((c.tc : Thread Cert.DhGateRefIdeal.nD Cert.DhGateRefIdeal.τ).loc Cert.DhGateRefIdeal.main_arg5) = m ((c.tc : Thread Cert.DhGateIdeal.nD Cert.DhGateIdeal.τ).loc Cert.DhGateIdeal.main_arg5)) →
    ∃ (v0 : (c : Dev Cert.DhGateIdeal.nD) → Buf (Elt Ideal) ((c.tc : Thread Cert.DhGateIdeal.nD Cert.DhGateIdeal.τ).loc Cert.DhGateIdeal.main_v0_0)) (v1 : (c : Dev Cert.DhGateIdeal.nD) → Buf (Elt Ideal) ((c.tc : Thread Cert.DhGateIdeal.nD Cert.DhGateIdeal.τ).loc Cert.DhGateIdeal.main_v0_1)) (v2 : (c : Dev Cert.DhGateIdeal.nD) → Buf (Elt Ideal) ((c.tc : Thread Cert.DhGateIdeal.nD Cert.DhGateIdeal.τ).loc Cert.DhGateIdeal.main_v0_2)),
      θ_run (Cert.DhGateIdeal.defs (F := Ideal)) (onTc (τ := Cert.DhGateIdeal.τ) (Cert.DhGateIdeal.main (F := Ideal))) ⟨m, fun _ => 0, g⟩ (fun r => ∀ c : Dev Cert.DhGateIdeal.nD,
          r.2.mem ((c.tc : Thread Cert.DhGateIdeal.nD Cert.DhGateIdeal.τ).loc Cert.DhGateIdeal.main_v0_0) = v0 c
          ∧ r.2.mem ((c.tc : Thread Cert.DhGateIdeal.nD Cert.DhGateIdeal.τ).loc Cert.DhGateIdeal.main_v0_1) = v1 c
          ∧ r.2.mem ((c.tc : Thread Cert.DhGateIdeal.nD Cert.DhGateIdeal.τ).loc Cert.DhGateIdeal.main_v0_2) = v2 c
          ∧ r.2.mem ((c.tc : Thread Cert.DhGateIdeal.nD Cert.DhGateIdeal.τ).loc Cert.DhGateIdeal.main_arg0) = m ((c.tc : Thread Cert.DhGateIdeal.nD Cert.DhGateIdeal.τ).loc Cert.DhGateIdeal.main_arg0)
          ∧ r.2.mem ((c.tc : Thread Cert.DhGateIdeal.nD Cert.DhGateIdeal.τ).loc Cert.DhGateIdeal.main_arg1) = m ((c.tc : Thread Cert.DhGateIdeal.nD Cert.DhGateIdeal.τ).loc Cert.DhGateIdeal.main_arg1)
          ∧ r.2.mem ((c.tc : Thread Cert.DhGateIdeal.nD Cert.DhGateIdeal.τ).loc Cert.DhGateIdeal.main_arg2) = m ((c.tc : Thread Cert.DhGateIdeal.nD Cert.DhGateIdeal.τ).loc Cert.DhGateIdeal.main_arg2)
          ∧ r.2.mem ((c.tc : Thread Cert.DhGateIdeal.nD Cert.DhGateIdeal.τ).loc Cert.DhGateIdeal.main_arg3) = m ((c.tc : Thread Cert.DhGateIdeal.nD Cert.DhGateIdeal.τ).loc Cert.DhGateIdeal.main_arg3)
          ∧ r.2.mem ((c.tc : Thread Cert.DhGateIdeal.nD Cert.DhGateIdeal.τ).loc Cert.DhGateIdeal.main_arg4) = m ((c.tc : Thread Cert.DhGateIdeal.nD Cert.DhGateIdeal.τ).loc Cert.DhGateIdeal.main_arg4)
          ∧ r.2.mem ((c.tc : Thread Cert.DhGateIdeal.nD Cert.DhGateIdeal.τ).loc Cert.DhGateIdeal.main_arg5) = m ((c.tc : Thread Cert.DhGateIdeal.nD Cert.DhGateIdeal.τ).loc Cert.DhGateIdeal.main_arg5))
      ∧ θ_run (Cert.DhGateRefIdeal.defs (F := Ideal)) (onTc (τ := Cert.DhGateRefIdeal.τ) (Cert.DhGateRefIdeal.main (F := Ideal))) ⟨m', fun _ => 0, g'⟩ (fun r => ∀ c : Dev Cert.DhGateRefIdeal.nD,
          r.2.mem ((c.tc : Thread Cert.DhGateRefIdeal.nD Cert.DhGateRefIdeal.τ).loc Cert.DhGateRefIdeal.main_v39) = v0 c
          ∧ r.2.mem ((c.tc : Thread Cert.DhGateRefIdeal.nD Cert.DhGateRefIdeal.τ).loc Cert.DhGateRefIdeal.main_v40) = v1 c
          ∧ r.2.mem ((c.tc : Thread Cert.DhGateRefIdeal.nD Cert.DhGateRefIdeal.τ).loc Cert.DhGateRefIdeal.main_v22) = v2 c
          ∧ r.2.mem ((c.tc : Thread Cert.DhGateRefIdeal.nD Cert.DhGateRefIdeal.τ).loc Cert.DhGateRefIdeal.main_arg0) = m' ((c.tc : Thread Cert.DhGateRefIdeal.nD Cert.DhGateRefIdeal.τ).loc Cert.DhGateRefIdeal.main_arg0)
          ∧ r.2.mem ((c.tc : Thread Cert.DhGateRefIdeal.nD Cert.DhGateRefIdeal.τ).loc Cert.DhGateRefIdeal.main_arg1) = m' ((c.tc : Thread Cert.DhGateRefIdeal.nD Cert.DhGateRefIdeal.τ).loc Cert.DhGateRefIdeal.main_arg1)
          ∧ r.2.mem ((c.tc : Thread Cert.DhGateRefIdeal.nD Cert.DhGateRefIdeal.τ).loc Cert.DhGateRefIdeal.main_arg2) = m' ((c.tc : Thread Cert.DhGateRefIdeal.nD Cert.DhGateRefIdeal.τ).loc Cert.DhGateRefIdeal.main_arg2)
          ∧ r.2.mem ((c.tc : Thread Cert.DhGateRefIdeal.nD Cert.DhGateRefIdeal.τ).loc Cert.DhGateRefIdeal.main_arg3) = m' ((c.tc : Thread Cert.DhGateRefIdeal.nD Cert.DhGateRefIdeal.τ).loc Cert.DhGateRefIdeal.main_arg3)
          ∧ r.2.mem ((c.tc : Thread Cert.DhGateRefIdeal.nD Cert.DhGateRefIdeal.τ).loc Cert.DhGateRefIdeal.main_arg4) = m' ((c.tc : Thread Cert.DhGateRefIdeal.nD Cert.DhGateRefIdeal.τ).loc Cert.DhGateRefIdeal.main_arg4)
          ∧ r.2.mem ((c.tc : Thread Cert.DhGateRefIdeal.nD Cert.DhGateRefIdeal.τ).loc Cert.DhGateRefIdeal.main_arg5) = m' ((c.tc : Thread Cert.DhGateRefIdeal.nD Cert.DhGateRefIdeal.τ).loc Cert.DhGateRefIdeal.main_arg5))

def preserves_MemAtt_MemAttIdeal : Prop :=
  True

def algebraic_MemAttIdeal_MemAttRefIdeal_pre_mem_finite [hMemAttIdeal : Cert.MemAttIdeal.Facts] [hMemAttRefIdeal : Cert.MemAttRefIdeal.Facts] [hPre_mem_finite : Cert.Pre_mem_finite.Facts] : Prop :=
  ∀ (m : (ℓ : Loc Cert.MemAttIdeal.nD Cert.MemAttIdeal.τ Cert.MemAttIdeal.sig) → Buf (Elt Ideal) ℓ) (g : Dev Cert.MemAttIdeal.nD → PrngReg)
    (m' : (ℓ : Loc Cert.MemAttRefIdeal.nD Cert.MemAttRefIdeal.τ Cert.MemAttRefIdeal.sig) → Buf (Elt Ideal) ℓ) (g' : Dev Cert.MemAttRefIdeal.nD → PrngReg), Pre_MemAttIdeal_mem_finite m →
    (∀ c : Dev Cert.MemAttIdeal.nD,
      m' ((c.tc : Thread Cert.MemAttRefIdeal.nD Cert.MemAttRefIdeal.τ).loc Cert.MemAttRefIdeal.main_arg0) = m ((c.tc : Thread Cert.MemAttIdeal.nD Cert.MemAttIdeal.τ).loc Cert.MemAttIdeal.main_arg0)
      ∧ m' ((c.tc : Thread Cert.MemAttRefIdeal.nD Cert.MemAttRefIdeal.τ).loc Cert.MemAttRefIdeal.main_arg1) = m ((c.tc : Thread Cert.MemAttIdeal.nD Cert.MemAttIdeal.τ).loc Cert.MemAttIdeal.main_arg1)
      ∧ m' ((c.tc : Thread Cert.MemAttRefIdeal.nD Cert.MemAttRefIdeal.τ).loc Cert.MemAttRefIdeal.main_arg2) = m ((c.tc : Thread Cert.MemAttIdeal.nD Cert.MemAttIdeal.τ).loc Cert.MemAttIdeal.main_arg2)
      ∧ m' ((c.tc : Thread Cert.MemAttRefIdeal.nD Cert.MemAttRefIdeal.τ).loc Cert.MemAttRefIdeal.main_arg3) = m ((c.tc : Thread Cert.MemAttIdeal.nD Cert.MemAttIdeal.τ).loc Cert.MemAttIdeal.main_arg3)) →
    ∃ (v0 : (c : Dev Cert.MemAttIdeal.nD) → Buf (Elt Ideal) ((c.tc : Thread Cert.MemAttIdeal.nD Cert.MemAttIdeal.τ).loc Cert.MemAttIdeal.main_v0_0)) (v1 : (c : Dev Cert.MemAttIdeal.nD) → Buf (Elt Ideal) ((c.tc : Thread Cert.MemAttIdeal.nD Cert.MemAttIdeal.τ).loc Cert.MemAttIdeal.main_v0_1)) (v2 : (c : Dev Cert.MemAttIdeal.nD) → Buf (Elt Ideal) ((c.tc : Thread Cert.MemAttIdeal.nD Cert.MemAttIdeal.τ).loc Cert.MemAttIdeal.main_v0_2)),
      θ_run (Cert.MemAttIdeal.defs (F := Ideal)) (onTc (τ := Cert.MemAttIdeal.τ) (Cert.MemAttIdeal.main (F := Ideal))) ⟨m, fun _ => 0, g⟩ (fun r => ∀ c : Dev Cert.MemAttIdeal.nD,
          r.2.mem ((c.tc : Thread Cert.MemAttIdeal.nD Cert.MemAttIdeal.τ).loc Cert.MemAttIdeal.main_v0_0) = v0 c
          ∧ r.2.mem ((c.tc : Thread Cert.MemAttIdeal.nD Cert.MemAttIdeal.τ).loc Cert.MemAttIdeal.main_v0_1) = v1 c
          ∧ r.2.mem ((c.tc : Thread Cert.MemAttIdeal.nD Cert.MemAttIdeal.τ).loc Cert.MemAttIdeal.main_v0_2) = v2 c
          ∧ r.2.mem ((c.tc : Thread Cert.MemAttIdeal.nD Cert.MemAttIdeal.τ).loc Cert.MemAttIdeal.main_arg0) = m ((c.tc : Thread Cert.MemAttIdeal.nD Cert.MemAttIdeal.τ).loc Cert.MemAttIdeal.main_arg0)
          ∧ r.2.mem ((c.tc : Thread Cert.MemAttIdeal.nD Cert.MemAttIdeal.τ).loc Cert.MemAttIdeal.main_arg1) = m ((c.tc : Thread Cert.MemAttIdeal.nD Cert.MemAttIdeal.τ).loc Cert.MemAttIdeal.main_arg1)
          ∧ r.2.mem ((c.tc : Thread Cert.MemAttIdeal.nD Cert.MemAttIdeal.τ).loc Cert.MemAttIdeal.main_arg2) = m ((c.tc : Thread Cert.MemAttIdeal.nD Cert.MemAttIdeal.τ).loc Cert.MemAttIdeal.main_arg2)
          ∧ r.2.mem ((c.tc : Thread Cert.MemAttIdeal.nD Cert.MemAttIdeal.τ).loc Cert.MemAttIdeal.main_arg3) = m ((c.tc : Thread Cert.MemAttIdeal.nD Cert.MemAttIdeal.τ).loc Cert.MemAttIdeal.main_arg3))
      ∧ θ_run (Cert.MemAttRefIdeal.defs (F := Ideal)) (onTc (τ := Cert.MemAttRefIdeal.τ) (Cert.MemAttRefIdeal.main (F := Ideal))) ⟨m', fun _ => 0, g'⟩ (fun r => ∀ c : Dev Cert.MemAttRefIdeal.nD,
          r.2.mem ((c.tc : Thread Cert.MemAttRefIdeal.nD Cert.MemAttRefIdeal.τ).loc Cert.MemAttRefIdeal.main_v71) = v0 c
          ∧ r.2.mem ((c.tc : Thread Cert.MemAttRefIdeal.nD Cert.MemAttRefIdeal.τ).loc Cert.MemAttRefIdeal.main_v69) = v1 c
          ∧ r.2.mem ((c.tc : Thread Cert.MemAttRefIdeal.nD Cert.MemAttRefIdeal.τ).loc Cert.MemAttRefIdeal.main_v51) = v2 c
          ∧ r.2.mem ((c.tc : Thread Cert.MemAttRefIdeal.nD Cert.MemAttRefIdeal.τ).loc Cert.MemAttRefIdeal.main_arg0) = m' ((c.tc : Thread Cert.MemAttRefIdeal.nD Cert.MemAttRefIdeal.τ).loc Cert.MemAttRefIdeal.main_arg0)
          ∧ r.2.mem ((c.tc : Thread Cert.MemAttRefIdeal.nD Cert.MemAttRefIdeal.τ).loc Cert.MemAttRefIdeal.main_arg1) = m' ((c.tc : Thread Cert.MemAttRefIdeal.nD Cert.MemAttRefIdeal.τ).loc Cert.MemAttRefIdeal.main_arg1)
          ∧ r.2.mem ((c.tc : Thread Cert.MemAttRefIdeal.nD Cert.MemAttRefIdeal.τ).loc Cert.MemAttRefIdeal.main_arg2) = m' ((c.tc : Thread Cert.MemAttRefIdeal.nD Cert.MemAttRefIdeal.τ).loc Cert.MemAttRefIdeal.main_arg2)
          ∧ r.2.mem ((c.tc : Thread Cert.MemAttRefIdeal.nD Cert.MemAttRefIdeal.τ).loc Cert.MemAttRefIdeal.main_arg3) = m' ((c.tc : Thread Cert.MemAttRefIdeal.nD Cert.MemAttRefIdeal.τ).loc Cert.MemAttRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v20) = v0 c
          ∧ r.2.mem ((c.tc : Thread Cert.LossRefIdeal.nD Cert.LossRefIdeal.τ).loc Cert.LossRefIdeal.main_v21) = v1 c
          ∧ r.2.mem ((c.tc : Thread Cert.LossRefIdeal.nD Cert.LossRefIdeal.τ).loc Cert.LossRefIdeal.main_v14) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_QkMem_QkMemIdeal : Prop :=
  True

def algebraic_QkMemIdeal_QkMemRefIdeal_pre_qkmem_finite [hQkMemIdeal : Cert.QkMemIdeal.Facts] [hQkMemRefIdeal : Cert.QkMemRefIdeal.Facts] [hPre_qkmem_finite : Cert.Pre_qkmem_finite.Facts] : Prop :=
  ∀ (m : (ℓ : Loc Cert.QkMemIdeal.nD Cert.QkMemIdeal.τ Cert.QkMemIdeal.sig) → Buf (Elt Ideal) ℓ) (g : Dev Cert.QkMemIdeal.nD → PrngReg)
    (m' : (ℓ : Loc Cert.QkMemRefIdeal.nD Cert.QkMemRefIdeal.τ Cert.QkMemRefIdeal.sig) → Buf (Elt Ideal) ℓ) (g' : Dev Cert.QkMemRefIdeal.nD → PrngReg), Pre_QkMemIdeal_qkmem_finite m →
    (∀ c : Dev Cert.QkMemIdeal.nD,
      m' ((c.tc : Thread Cert.QkMemRefIdeal.nD Cert.QkMemRefIdeal.τ).loc Cert.QkMemRefIdeal.main_arg0) = m ((c.tc : Thread Cert.QkMemIdeal.nD Cert.QkMemIdeal.τ).loc Cert.QkMemIdeal.main_arg0)
      ∧ m' ((c.tc : Thread Cert.QkMemRefIdeal.nD Cert.QkMemRefIdeal.τ).loc Cert.QkMemRefIdeal.main_arg1) = m ((c.tc : Thread Cert.QkMemIdeal.nD Cert.QkMemIdeal.τ).loc Cert.QkMemIdeal.main_arg1)
      ∧ m' ((c.tc : Thread Cert.QkMemRefIdeal.nD Cert.QkMemRefIdeal.τ).loc Cert.QkMemRefIdeal.main_arg2) = m ((c.tc : Thread Cert.QkMemIdeal.nD Cert.QkMemIdeal.τ).loc Cert.QkMemIdeal.main_arg2)) →
    ∃ (v0 : (c : Dev Cert.QkMemIdeal.nD) → Buf (Elt Ideal) ((c.tc : Thread Cert.QkMemIdeal.nD Cert.QkMemIdeal.τ).loc Cert.QkMemIdeal.main_v3_0)) (v1 : (c : Dev Cert.QkMemIdeal.nD) → Buf (Elt Ideal) ((c.tc : Thread Cert.QkMemIdeal.nD Cert.QkMemIdeal.τ).loc Cert.QkMemIdeal.main_v6)),
      θ_run (Cert.QkMemIdeal.defs (F := Ideal)) (onTc (τ := Cert.QkMemIdeal.τ) (Cert.QkMemIdeal.main (F := Ideal))) ⟨m, fun _ => 0, g⟩ (fun r => ∀ c : Dev Cert.QkMemIdeal.nD,
          r.2.mem ((c.tc : Thread Cert.QkMemIdeal.nD Cert.QkMemIdeal.τ).loc Cert.QkMemIdeal.main_v3_0) = v0 c
          ∧ r.2.mem ((c.tc : Thread Cert.QkMemIdeal.nD Cert.QkMemIdeal.τ).loc Cert.QkMemIdeal.main_v6) = v1 c
          ∧ r.2.mem ((c.tc : Thread Cert.QkMemIdeal.nD Cert.QkMemIdeal.τ).loc Cert.QkMemIdeal.main_arg0) = m ((c.tc : Thread Cert.QkMemIdeal.nD Cert.QkMemIdeal.τ).loc Cert.QkMemIdeal.main_arg0)
          ∧ r.2.mem ((c.tc : Thread Cert.QkMemIdeal.nD Cert.QkMemIdeal.τ).loc Cert.QkMemIdeal.main_arg1) = m ((c.tc : Thread Cert.QkMemIdeal.nD Cert.QkMemIdeal.τ).loc Cert.QkMemIdeal.main_arg1)
          ∧ r.2.mem ((c.tc : Thread Cert.QkMemIdeal.nD Cert.QkMemIdeal.τ).loc Cert.QkMemIdeal.main_arg2) = m ((c.tc : Thread Cert.QkMemIdeal.nD Cert.QkMemIdeal.τ).loc Cert.QkMemIdeal.main_arg2))
      ∧ θ_run (Cert.QkMemRefIdeal.defs (F := Ideal)) (onTc (τ := Cert.QkMemRefIdeal.τ) (Cert.QkMemRefIdeal.main (F := Ideal))) ⟨m', fun _ => 0, g'⟩ (fun r => ∀ c : Dev Cert.QkMemRefIdeal.nD,
          r.2.mem ((c.tc : Thread Cert.QkMemRefIdeal.nD Cert.QkMemRefIdeal.τ).loc Cert.QkMemRefIdeal.main_v47) = v0 c
          ∧ r.2.mem ((c.tc : Thread Cert.QkMemRefIdeal.nD Cert.QkMemRefIdeal.τ).loc Cert.QkMemRefIdeal.main_v30) = v1 c
          ∧ r.2.mem ((c.tc : Thread Cert.QkMemRefIdeal.nD Cert.QkMemRefIdeal.τ).loc Cert.QkMemRefIdeal.main_arg0) = m' ((c.tc : Thread Cert.QkMemRefIdeal.nD Cert.QkMemRefIdeal.τ).loc Cert.QkMemRefIdeal.main_arg0)
          ∧ r.2.mem ((c.tc : Thread Cert.QkMemRefIdeal.nD Cert.QkMemRefIdeal.τ).loc Cert.QkMemRefIdeal.main_arg1) = m' ((c.tc : Thread Cert.QkMemRefIdeal.nD Cert.QkMemRefIdeal.τ).loc Cert.QkMemRefIdeal.main_arg1)
          ∧ r.2.mem ((c.tc : Thread Cert.QkMemRefIdeal.nD Cert.QkMemRefIdeal.τ).loc Cert.QkMemRefIdeal.main_arg2) = m' ((c.tc : Thread Cert.QkMemRefIdeal.nD Cert.QkMemRefIdeal.τ).loc Cert.QkMemRefIdeal.main_arg2))

def preserves_QkRope_QkRopeIdeal : Prop :=
  True

def algebraic_QkRopeIdeal_QkRopeRefIdeal_pre_qkrope_finite [hQkRopeIdeal : Cert.QkRopeIdeal.Facts] [hQkRopeRefIdeal : Cert.QkRopeRefIdeal.Facts] [hPre_qkrope_finite : Cert.Pre_qkrope_finite.Facts] : Prop :=
  ∀ (m : (ℓ : Loc Cert.QkRopeIdeal.nD Cert.QkRopeIdeal.τ Cert.QkRopeIdeal.sig) → Buf (Elt Ideal) ℓ) (g : Dev Cert.QkRopeIdeal.nD → PrngReg)
    (m' : (ℓ : Loc Cert.QkRopeRefIdeal.nD Cert.QkRopeRefIdeal.τ Cert.QkRopeRefIdeal.sig) → Buf (Elt Ideal) ℓ) (g' : Dev Cert.QkRopeRefIdeal.nD → PrngReg), Pre_QkRopeIdeal_qkrope_finite m →
    (∀ c : Dev Cert.QkRopeIdeal.nD,
      m' ((c.tc : Thread Cert.QkRopeRefIdeal.nD Cert.QkRopeRefIdeal.τ).loc Cert.QkRopeRefIdeal.main_arg0) = m ((c.tc : Thread Cert.QkRopeIdeal.nD Cert.QkRopeIdeal.τ).loc Cert.QkRopeIdeal.main_arg0)
      ∧ m' ((c.tc : Thread Cert.QkRopeRefIdeal.nD Cert.QkRopeRefIdeal.τ).loc Cert.QkRopeRefIdeal.main_arg1) = m ((c.tc : Thread Cert.QkRopeIdeal.nD Cert.QkRopeIdeal.τ).loc Cert.QkRopeIdeal.main_arg1)
      ∧ m' ((c.tc : Thread Cert.QkRopeRefIdeal.nD Cert.QkRopeRefIdeal.τ).loc Cert.QkRopeRefIdeal.main_arg2) = m ((c.tc : Thread Cert.QkRopeIdeal.nD Cert.QkRopeIdeal.τ).loc Cert.QkRopeIdeal.main_arg2)
      ∧ m' ((c.tc : Thread Cert.QkRopeRefIdeal.nD Cert.QkRopeRefIdeal.τ).loc Cert.QkRopeRefIdeal.main_arg3) = m ((c.tc : Thread Cert.QkRopeIdeal.nD Cert.QkRopeIdeal.τ).loc Cert.QkRopeIdeal.main_arg3)
      ∧ m' ((c.tc : Thread Cert.QkRopeRefIdeal.nD Cert.QkRopeRefIdeal.τ).loc Cert.QkRopeRefIdeal.main_arg4) = m ((c.tc : Thread Cert.QkRopeIdeal.nD Cert.QkRopeIdeal.τ).loc Cert.QkRopeIdeal.main_arg4)) →
    ∃ (v0 : (c : Dev Cert.QkRopeIdeal.nD) → Buf (Elt Ideal) ((c.tc : Thread Cert.QkRopeIdeal.nD Cert.QkRopeIdeal.τ).loc Cert.QkRopeIdeal.main_v23_0)) (v1 : (c : Dev Cert.QkRopeIdeal.nD) → Buf (Elt Ideal) ((c.tc : Thread Cert.QkRopeIdeal.nD Cert.QkRopeIdeal.τ).loc Cert.QkRopeIdeal.main_v26)),
      θ_run (Cert.QkRopeIdeal.defs (F := Ideal)) (onTc (τ := Cert.QkRopeIdeal.τ) (Cert.QkRopeIdeal.main (F := Ideal))) ⟨m, fun _ => 0, g⟩ (fun r => ∀ c : Dev Cert.QkRopeIdeal.nD,
          r.2.mem ((c.tc : Thread Cert.QkRopeIdeal.nD Cert.QkRopeIdeal.τ).loc Cert.QkRopeIdeal.main_v23_0) = v0 c
          ∧ r.2.mem ((c.tc : Thread Cert.QkRopeIdeal.nD Cert.QkRopeIdeal.τ).loc Cert.QkRopeIdeal.main_v26) = v1 c
          ∧ r.2.mem ((c.tc : Thread Cert.QkRopeIdeal.nD Cert.QkRopeIdeal.τ).loc Cert.QkRopeIdeal.main_arg0) = m ((c.tc : Thread Cert.QkRopeIdeal.nD Cert.QkRopeIdeal.τ).loc Cert.QkRopeIdeal.main_arg0)
          ∧ r.2.mem ((c.tc : Thread Cert.QkRopeIdeal.nD Cert.QkRopeIdeal.τ).loc Cert.QkRopeIdeal.main_arg1) = m ((c.tc : Thread Cert.QkRopeIdeal.nD Cert.QkRopeIdeal.τ).loc Cert.QkRopeIdeal.main_arg1)
          ∧ r.2.mem ((c.tc : Thread Cert.QkRopeIdeal.nD Cert.QkRopeIdeal.τ).loc Cert.QkRopeIdeal.main_arg2) = m ((c.tc : Thread Cert.QkRopeIdeal.nD Cert.QkRopeIdeal.τ).loc Cert.QkRopeIdeal.main_arg2)
          ∧ r.2.mem ((c.tc : Thread Cert.QkRopeIdeal.nD Cert.QkRopeIdeal.τ).loc Cert.QkRopeIdeal.main_arg3) = m ((c.tc : Thread Cert.QkRopeIdeal.nD Cert.QkRopeIdeal.τ).loc Cert.QkRopeIdeal.main_arg3)
          ∧ r.2.mem ((c.tc : Thread Cert.QkRopeIdeal.nD Cert.QkRopeIdeal.τ).loc Cert.QkRopeIdeal.main_arg4) = m ((c.tc : Thread Cert.QkRopeIdeal.nD Cert.QkRopeIdeal.τ).loc Cert.QkRopeIdeal.main_arg4))
      ∧ θ_run (Cert.QkRopeRefIdeal.defs (F := Ideal)) (onTc (τ := Cert.QkRopeRefIdeal.τ) (Cert.QkRopeRefIdeal.main (F := Ideal))) ⟨m', fun _ => 0, g'⟩ (fun r => ∀ c : Dev Cert.QkRopeRefIdeal.nD,
          r.2.mem ((c.tc : Thread Cert.QkRopeRefIdeal.nD Cert.QkRopeRefIdeal.τ).loc Cert.QkRopeRefIdeal.main_v96) = v0 c
          ∧ r.2.mem ((c.tc : Thread Cert.QkRopeRefIdeal.nD Cert.QkRopeRefIdeal.τ).loc Cert.QkRopeRefIdeal.main_v79) = v1 c
          ∧ r.2.mem ((c.tc : Thread Cert.QkRopeRefIdeal.nD Cert.QkRopeRefIdeal.τ).loc Cert.QkRopeRefIdeal.main_arg0) = m' ((c.tc : Thread Cert.QkRopeRefIdeal.nD Cert.QkRopeRefIdeal.τ).loc Cert.QkRopeRefIdeal.main_arg0)
          ∧ r.2.mem ((c.tc : Thread Cert.QkRopeRefIdeal.nD Cert.QkRopeRefIdeal.τ).loc Cert.QkRopeRefIdeal.main_arg1) = m' ((c.tc : Thread Cert.QkRopeRefIdeal.nD Cert.QkRopeRefIdeal.τ).loc Cert.QkRopeRefIdeal.main_arg1)
          ∧ r.2.mem ((c.tc : Thread Cert.QkRopeRefIdeal.nD Cert.QkRopeRefIdeal.τ).loc Cert.QkRopeRefIdeal.main_arg2) = m' ((c.tc : Thread Cert.QkRopeRefIdeal.nD Cert.QkRopeRefIdeal.τ).loc Cert.QkRopeRefIdeal.main_arg2)
          ∧ r.2.mem ((c.tc : Thread Cert.QkRopeRefIdeal.nD Cert.QkRopeRefIdeal.τ).loc Cert.QkRopeRefIdeal.main_arg3) = m' ((c.tc : Thread Cert.QkRopeRefIdeal.nD Cert.QkRopeRefIdeal.τ).loc Cert.QkRopeRefIdeal.main_arg3)
          ∧ r.2.mem ((c.tc : Thread Cert.QkRopeRefIdeal.nD Cert.QkRopeRefIdeal.τ).loc Cert.QkRopeRefIdeal.main_arg4) = m' ((c.tc : Thread Cert.QkRopeRefIdeal.nD Cert.QkRopeRefIdeal.τ).loc Cert.QkRopeRefIdeal.main_arg4))

def preserves_KMem_KMemIdeal : Prop :=
  True

def algebraic_KMemIdeal_KMemRefIdeal_pre_kmem_finite [hKMemIdeal : Cert.KMemIdeal.Facts] [hKMemRefIdeal : Cert.KMemRefIdeal.Facts] [hPre_kmem_finite : Cert.Pre_kmem_finite.Facts] : Prop :=
  ∀ (m : (ℓ : Loc Cert.KMemIdeal.nD Cert.KMemIdeal.τ Cert.KMemIdeal.sig) → Buf (Elt Ideal) ℓ) (g : Dev Cert.KMemIdeal.nD → PrngReg)
    (m' : (ℓ : Loc Cert.KMemRefIdeal.nD Cert.KMemRefIdeal.τ Cert.KMemRefIdeal.sig) → Buf (Elt Ideal) ℓ) (g' : Dev Cert.KMemRefIdeal.nD → PrngReg), Pre_KMemIdeal_kmem_finite m →
    (∀ c : Dev Cert.KMemIdeal.nD,
      m' ((c.tc : Thread Cert.KMemRefIdeal.nD Cert.KMemRefIdeal.τ).loc Cert.KMemRefIdeal.main_arg0) = m ((c.tc : Thread Cert.KMemIdeal.nD Cert.KMemIdeal.τ).loc Cert.KMemIdeal.main_arg0)
      ∧ m' ((c.tc : Thread Cert.KMemRefIdeal.nD Cert.KMemRefIdeal.τ).loc Cert.KMemRefIdeal.main_arg1) = m ((c.tc : Thread Cert.KMemIdeal.nD Cert.KMemIdeal.τ).loc Cert.KMemIdeal.main_arg1)
      ∧ m' ((c.tc : Thread Cert.KMemRefIdeal.nD Cert.KMemRefIdeal.τ).loc Cert.KMemRefIdeal.main_arg2) = m ((c.tc : Thread Cert.KMemIdeal.nD Cert.KMemIdeal.τ).loc Cert.KMemIdeal.main_arg2)) →
    ∃ (v0 : (c : Dev Cert.KMemIdeal.nD) → Buf (Elt Ideal) ((c.tc : Thread Cert.KMemIdeal.nD Cert.KMemIdeal.τ).loc Cert.KMemIdeal.main_v3_0)) (v1 : (c : Dev Cert.KMemIdeal.nD) → Buf (Elt Ideal) ((c.tc : Thread Cert.KMemIdeal.nD Cert.KMemIdeal.τ).loc Cert.KMemIdeal.main_v6)),
      θ_run (Cert.KMemIdeal.defs (F := Ideal)) (onTc (τ := Cert.KMemIdeal.τ) (Cert.KMemIdeal.main (F := Ideal))) ⟨m, fun _ => 0, g⟩ (fun r => ∀ c : Dev Cert.KMemIdeal.nD,
          r.2.mem ((c.tc : Thread Cert.KMemIdeal.nD Cert.KMemIdeal.τ).loc Cert.KMemIdeal.main_v3_0) = v0 c
          ∧ r.2.mem ((c.tc : Thread Cert.KMemIdeal.nD Cert.KMemIdeal.τ).loc Cert.KMemIdeal.main_v6) = v1 c
          ∧ r.2.mem ((c.tc : Thread Cert.KMemIdeal.nD Cert.KMemIdeal.τ).loc Cert.KMemIdeal.main_arg0) = m ((c.tc : Thread Cert.KMemIdeal.nD Cert.KMemIdeal.τ).loc Cert.KMemIdeal.main_arg0)
          ∧ r.2.mem ((c.tc : Thread Cert.KMemIdeal.nD Cert.KMemIdeal.τ).loc Cert.KMemIdeal.main_arg1) = m ((c.tc : Thread Cert.KMemIdeal.nD Cert.KMemIdeal.τ).loc Cert.KMemIdeal.main_arg1)
          ∧ r.2.mem ((c.tc : Thread Cert.KMemIdeal.nD Cert.KMemIdeal.τ).loc Cert.KMemIdeal.main_arg2) = m ((c.tc : Thread Cert.KMemIdeal.nD Cert.KMemIdeal.τ).loc Cert.KMemIdeal.main_arg2))
      ∧ θ_run (Cert.KMemRefIdeal.defs (F := Ideal)) (onTc (τ := Cert.KMemRefIdeal.τ) (Cert.KMemRefIdeal.main (F := Ideal))) ⟨m', fun _ => 0, g'⟩ (fun r => ∀ c : Dev Cert.KMemRefIdeal.nD,
          r.2.mem ((c.tc : Thread Cert.KMemRefIdeal.nD Cert.KMemRefIdeal.τ).loc Cert.KMemRefIdeal.main_v47) = v0 c
          ∧ r.2.mem ((c.tc : Thread Cert.KMemRefIdeal.nD Cert.KMemRefIdeal.τ).loc Cert.KMemRefIdeal.main_v30) = v1 c
          ∧ r.2.mem ((c.tc : Thread Cert.KMemRefIdeal.nD Cert.KMemRefIdeal.τ).loc Cert.KMemRefIdeal.main_arg0) = m' ((c.tc : Thread Cert.KMemRefIdeal.nD Cert.KMemRefIdeal.τ).loc Cert.KMemRefIdeal.main_arg0)
          ∧ r.2.mem ((c.tc : Thread Cert.KMemRefIdeal.nD Cert.KMemRefIdeal.τ).loc Cert.KMemRefIdeal.main_arg1) = m' ((c.tc : Thread Cert.KMemRefIdeal.nD Cert.KMemRefIdeal.τ).loc Cert.KMemRefIdeal.main_arg1)
          ∧ r.2.mem ((c.tc : Thread Cert.KMemRefIdeal.nD Cert.KMemRefIdeal.τ).loc Cert.KMemRefIdeal.main_arg2) = m' ((c.tc : Thread Cert.KMemRefIdeal.nD Cert.KMemRefIdeal.τ).loc Cert.KMemRefIdeal.main_arg2))

def preserves_KRope_KRopeIdeal : Prop :=
  True

def algebraic_KRopeIdeal_KRopeRefIdeal_pre_krope_finite [hKRopeIdeal : Cert.KRopeIdeal.Facts] [hKRopeRefIdeal : Cert.KRopeRefIdeal.Facts] [hPre_krope_finite : Cert.Pre_krope_finite.Facts] : Prop :=
  ∀ (m : (ℓ : Loc Cert.KRopeIdeal.nD Cert.KRopeIdeal.τ Cert.KRopeIdeal.sig) → Buf (Elt Ideal) ℓ) (g : Dev Cert.KRopeIdeal.nD → PrngReg)
    (m' : (ℓ : Loc Cert.KRopeRefIdeal.nD Cert.KRopeRefIdeal.τ Cert.KRopeRefIdeal.sig) → Buf (Elt Ideal) ℓ) (g' : Dev Cert.KRopeRefIdeal.nD → PrngReg), Pre_KRopeIdeal_krope_finite m →
    (∀ c : Dev Cert.KRopeIdeal.nD,
      m' ((c.tc : Thread Cert.KRopeRefIdeal.nD Cert.KRopeRefIdeal.τ).loc Cert.KRopeRefIdeal.main_arg0) = m ((c.tc : Thread Cert.KRopeIdeal.nD Cert.KRopeIdeal.τ).loc Cert.KRopeIdeal.main_arg0)
      ∧ m' ((c.tc : Thread Cert.KRopeRefIdeal.nD Cert.KRopeRefIdeal.τ).loc Cert.KRopeRefIdeal.main_arg1) = m ((c.tc : Thread Cert.KRopeIdeal.nD Cert.KRopeIdeal.τ).loc Cert.KRopeIdeal.main_arg1)
      ∧ m' ((c.tc : Thread Cert.KRopeRefIdeal.nD Cert.KRopeRefIdeal.τ).loc Cert.KRopeRefIdeal.main_arg2) = m ((c.tc : Thread Cert.KRopeIdeal.nD Cert.KRopeIdeal.τ).loc Cert.KRopeIdeal.main_arg2)
      ∧ m' ((c.tc : Thread Cert.KRopeRefIdeal.nD Cert.KRopeRefIdeal.τ).loc Cert.KRopeRefIdeal.main_arg3) = m ((c.tc : Thread Cert.KRopeIdeal.nD Cert.KRopeIdeal.τ).loc Cert.KRopeIdeal.main_arg3)
      ∧ m' ((c.tc : Thread Cert.KRopeRefIdeal.nD Cert.KRopeRefIdeal.τ).loc Cert.KRopeRefIdeal.main_arg4) = m ((c.tc : Thread Cert.KRopeIdeal.nD Cert.KRopeIdeal.τ).loc Cert.KRopeIdeal.main_arg4)) →
    ∃ (v0 : (c : Dev Cert.KRopeIdeal.nD) → Buf (Elt Ideal) ((c.tc : Thread Cert.KRopeIdeal.nD Cert.KRopeIdeal.τ).loc Cert.KRopeIdeal.main_v23_0)) (v1 : (c : Dev Cert.KRopeIdeal.nD) → Buf (Elt Ideal) ((c.tc : Thread Cert.KRopeIdeal.nD Cert.KRopeIdeal.τ).loc Cert.KRopeIdeal.main_v26)),
      θ_run (Cert.KRopeIdeal.defs (F := Ideal)) (onTc (τ := Cert.KRopeIdeal.τ) (Cert.KRopeIdeal.main (F := Ideal))) ⟨m, fun _ => 0, g⟩ (fun r => ∀ c : Dev Cert.KRopeIdeal.nD,
          r.2.mem ((c.tc : Thread Cert.KRopeIdeal.nD Cert.KRopeIdeal.τ).loc Cert.KRopeIdeal.main_v23_0) = v0 c
          ∧ r.2.mem ((c.tc : Thread Cert.KRopeIdeal.nD Cert.KRopeIdeal.τ).loc Cert.KRopeIdeal.main_v26) = v1 c
          ∧ r.2.mem ((c.tc : Thread Cert.KRopeIdeal.nD Cert.KRopeIdeal.τ).loc Cert.KRopeIdeal.main_arg0) = m ((c.tc : Thread Cert.KRopeIdeal.nD Cert.KRopeIdeal.τ).loc Cert.KRopeIdeal.main_arg0)
          ∧ r.2.mem ((c.tc : Thread Cert.KRopeIdeal.nD Cert.KRopeIdeal.τ).loc Cert.KRopeIdeal.main_arg1) = m ((c.tc : Thread Cert.KRopeIdeal.nD Cert.KRopeIdeal.τ).loc Cert.KRopeIdeal.main_arg1)
          ∧ r.2.mem ((c.tc : Thread Cert.KRopeIdeal.nD Cert.KRopeIdeal.τ).loc Cert.KRopeIdeal.main_arg2) = m ((c.tc : Thread Cert.KRopeIdeal.nD Cert.KRopeIdeal.τ).loc Cert.KRopeIdeal.main_arg2)
          ∧ r.2.mem ((c.tc : Thread Cert.KRopeIdeal.nD Cert.KRopeIdeal.τ).loc Cert.KRopeIdeal.main_arg3) = m ((c.tc : Thread Cert.KRopeIdeal.nD Cert.KRopeIdeal.τ).loc Cert.KRopeIdeal.main_arg3)
          ∧ r.2.mem ((c.tc : Thread Cert.KRopeIdeal.nD Cert.KRopeIdeal.τ).loc Cert.KRopeIdeal.main_arg4) = m ((c.tc : Thread Cert.KRopeIdeal.nD Cert.KRopeIdeal.τ).loc Cert.KRopeIdeal.main_arg4))
      ∧ θ_run (Cert.KRopeRefIdeal.defs (F := Ideal)) (onTc (τ := Cert.KRopeRefIdeal.τ) (Cert.KRopeRefIdeal.main (F := Ideal))) ⟨m', fun _ => 0, g'⟩ (fun r => ∀ c : Dev Cert.KRopeRefIdeal.nD,
          r.2.mem ((c.tc : Thread Cert.KRopeRefIdeal.nD Cert.KRopeRefIdeal.τ).loc Cert.KRopeRefIdeal.main_v96) = v0 c
          ∧ r.2.mem ((c.tc : Thread Cert.KRopeRefIdeal.nD Cert.KRopeRefIdeal.τ).loc Cert.KRopeRefIdeal.main_v79) = v1 c
          ∧ r.2.mem ((c.tc : Thread Cert.KRopeRefIdeal.nD Cert.KRopeRefIdeal.τ).loc Cert.KRopeRefIdeal.main_arg0) = m' ((c.tc : Thread Cert.KRopeRefIdeal.nD Cert.KRopeRefIdeal.τ).loc Cert.KRopeRefIdeal.main_arg0)
          ∧ r.2.mem ((c.tc : Thread Cert.KRopeRefIdeal.nD Cert.KRopeRefIdeal.τ).loc Cert.KRopeRefIdeal.main_arg1) = m' ((c.tc : Thread Cert.KRopeRefIdeal.nD Cert.KRopeRefIdeal.τ).loc Cert.KRopeRefIdeal.main_arg1)
          ∧ r.2.mem ((c.tc : Thread Cert.KRopeRefIdeal.nD Cert.KRopeRefIdeal.τ).loc Cert.KRopeRefIdeal.main_arg2) = m' ((c.tc : Thread Cert.KRopeRefIdeal.nD Cert.KRopeRefIdeal.τ).loc Cert.KRopeRefIdeal.main_arg2)
          ∧ r.2.mem ((c.tc : Thread Cert.KRopeRefIdeal.nD Cert.KRopeRefIdeal.τ).loc Cert.KRopeRefIdeal.main_arg3) = m' ((c.tc : Thread Cert.KRopeRefIdeal.nD Cert.KRopeRefIdeal.τ).loc Cert.KRopeRefIdeal.main_arg3)
          ∧ r.2.mem ((c.tc : Thread Cert.KRopeRefIdeal.nD Cert.KRopeRefIdeal.τ).loc Cert.KRopeRefIdeal.main_arg4) = m' ((c.tc : Thread Cert.KRopeRefIdeal.nD Cert.KRopeRefIdeal.τ).loc Cert.KRopeRefIdeal.main_arg4))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v24) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v12) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_MemFwd_MemFwdIdeal : Prop :=
  True

def algebraic_MemFwdIdeal_MemFwdRefIdeal [hMemFwdIdeal : Cert.MemFwdIdeal.Facts] [hMemFwdRefIdeal : Cert.MemFwdRefIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemFwdRefIdeal.nD Cert.MemFwdRefIdeal.τ Cert.MemFwdRefIdeal.sig) → Buf (Elt Ideal) ℓ) (g' : Dev Cert.MemFwdRefIdeal.nD → PrngReg), Pre_MemFwdIdeal m →
    (∀ c : Dev Cert.MemFwdIdeal.nD,
      m' ((c.tc : Thread Cert.MemFwdRefIdeal.nD Cert.MemFwdRefIdeal.τ).loc Cert.MemFwdRefIdeal.main_arg0) = m ((c.tc : Thread Cert.MemFwdIdeal.nD Cert.MemFwdIdeal.τ).loc Cert.MemFwdIdeal.main_arg0)
      ∧ m' ((c.tc : Thread Cert.MemFwdRefIdeal.nD Cert.MemFwdRefIdeal.τ).loc Cert.MemFwdRefIdeal.main_arg1) = m ((c.tc : Thread Cert.MemFwdIdeal.nD Cert.MemFwdIdeal.τ).loc Cert.MemFwdIdeal.main_arg1)
      ∧ m' ((c.tc : Thread Cert.MemFwdRefIdeal.nD Cert.MemFwdRefIdeal.τ).loc Cert.MemFwdRefIdeal.main_arg2) = m ((c.tc : Thread Cert.MemFwdIdeal.nD Cert.MemFwdIdeal.τ).loc Cert.MemFwdIdeal.main_arg2)) →
    ∃ (v0 : (c : Dev Cert.MemFwdIdeal.nD) → Buf (Elt Ideal) ((c.tc : Thread Cert.MemFwdIdeal.nD Cert.MemFwdIdeal.τ).loc Cert.MemFwdIdeal.main_v0)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v0) = v0 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
          ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2))
      ∧ θ_run (Cert.MemFwdRefIdeal.defs (F := Ideal)) (onTc (τ := Cert.MemFwdRefIdeal.τ) (Cert.MemFwdRefIdeal.main (F := Ideal))) ⟨m', fun _ => 0, g'⟩ (fun r => ∀ c : Dev Cert.MemFwdRefIdeal.nD,
          r.2.mem ((c.tc : Thread Cert.MemFwdRefIdeal.nD Cert.MemFwdRefIdeal.τ).loc Cert.MemFwdRefIdeal.main_v26) = v0 c
          ∧ r.2.mem ((c.tc : Thread Cert.MemFwdRefIdeal.nD Cert.MemFwdRefIdeal.τ).loc Cert.MemFwdRefIdeal.main_arg0) = m' ((c.tc : Thread Cert.MemFwdRefIdeal.nD Cert.MemFwdRefIdeal.τ).loc Cert.MemFwdRefIdeal.main_arg0)
          ∧ r.2.mem ((c.tc : Thread Cert.MemFwdRefIdeal.nD Cert.MemFwdRefIdeal.τ).loc Cert.MemFwdRefIdeal.main_arg1) = m' ((c.tc : Thread Cert.MemFwdRefIdeal.nD Cert.MemFwdRefIdeal.τ).loc Cert.MemFwdRefIdeal.main_arg1)
          ∧ r.2.mem ((c.tc : Thread Cert.MemFwdRefIdeal.nD Cert.MemFwdRefIdeal.τ).loc Cert.MemFwdRefIdeal.main_arg2) = m' ((c.tc : Thread Cert.MemFwdRefIdeal.nD Cert.MemFwdRefIdeal.τ).loc Cert.MemFwdRefIdeal.main_arg2))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)
      ∧ m' ((c.tc : Thread Cert.UpFwdRefIdeal.nD Cert.UpFwdRefIdeal.τ).loc Cert.UpFwdRefIdeal.main_arg2) = m ((c.tc : Thread Cert.UpFwdIdeal.nD Cert.UpFwdIdeal.τ).loc Cert.UpFwdIdeal.main_arg2)) →
    ∃ (v0 : (c : Dev Cert.UpFwdIdeal.nD) → Buf (Elt Ideal) ((c.tc : Thread Cert.UpFwdIdeal.nD Cert.UpFwdIdeal.τ).loc Cert.UpFwdIdeal.main_v0_0)) (v1 : (c : Dev Cert.UpFwdIdeal.nD) → Buf (Elt Ideal) ((c.tc : Thread Cert.UpFwdIdeal.nD Cert.UpFwdIdeal.τ).loc Cert.UpFwdIdeal.main_v0_1)) (v2 : (c : Dev Cert.UpFwdIdeal.nD) → Buf (Elt Ideal) ((c.tc : Thread Cert.UpFwdIdeal.nD Cert.UpFwdIdeal.τ).loc Cert.UpFwdIdeal.main_v0_2)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0_0) = v0 c
          ∧ r.2.mem ((c.tc : Thread Cert.UpFwdIdeal.nD Cert.UpFwdIdeal.τ).loc Cert.UpFwdIdeal.main_v0_1) = v1 c
          ∧ r.2.mem ((c.tc : Thread Cert.UpFwdIdeal.nD Cert.UpFwdIdeal.τ).loc Cert.UpFwdIdeal.main_v0_2) = v2 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
          ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v6) = v0 c
          ∧ r.2.mem ((c.tc : Thread Cert.UpFwdRefIdeal.nD Cert.UpFwdRefIdeal.τ).loc Cert.UpFwdRefIdeal.main_v7) = v1 c
          ∧ r.2.mem ((c.tc : Thread Cert.UpFwdRefIdeal.nD Cert.UpFwdRefIdeal.τ).loc Cert.UpFwdRefIdeal.main_v10) = v2 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1)
          ∧ r.2.mem ((c.tc : Thread Cert.UpFwdRefIdeal.nD Cert.UpFwdRefIdeal.τ).loc Cert.UpFwdRefIdeal.main_arg2) = m' ((c.tc : Thread Cert.UpFwdRefIdeal.nD Cert.UpFwdRefIdeal.τ).loc Cert.UpFwdRefIdeal.main_arg2))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v0_0)) (v1 : (c : Dev Cert.OutFwdIdeal.nD) → Buf (Elt Ideal) ((c.tc : Thread Cert.OutFwdIdeal.nD Cert.OutFwdIdeal.τ).loc Cert.OutFwdIdeal.main_v0_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0_0) = v0 c
          ∧ r.2.mem ((c.tc : Thread Cert.OutFwdIdeal.nD Cert.OutFwdIdeal.τ).loc Cert.OutFwdIdeal.main_v0_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v3) = v0 c
          ∧ r.2.mem ((c.tc : Thread Cert.OutFwdRefIdeal.nD Cert.OutFwdRefIdeal.τ).loc Cert.OutFwdRefIdeal.main_v16) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3))

def preserves_QNormFwd_QNormFwdIdeal : Prop :=
  True

def algebraic_QNormFwdIdeal_QNormFwdRefIdeal_pre_qnf_finite [hQNormFwdIdeal : Cert.QNormFwdIdeal.Facts] [hQNormFwdRefIdeal : Cert.QNormFwdRefIdeal.Facts] [hPre_qnf_finite : Cert.Pre_qnf_finite.Facts] : Prop :=
  ∀ (m : (ℓ : Loc Cert.QNormFwdIdeal.nD Cert.QNormFwdIdeal.τ Cert.QNormFwdIdeal.sig) → Buf (Elt Ideal) ℓ) (g : Dev Cert.QNormFwdIdeal.nD → PrngReg)
    (m' : (ℓ : Loc Cert.QNormFwdRefIdeal.nD Cert.QNormFwdRefIdeal.τ Cert.QNormFwdRefIdeal.sig) → Buf (Elt Ideal) ℓ) (g' : Dev Cert.QNormFwdRefIdeal.nD → PrngReg), Pre_QNormFwdIdeal_qnf_finite m →
    (∀ c : Dev Cert.QNormFwdIdeal.nD,
      m' ((c.tc : Thread Cert.QNormFwdRefIdeal.nD Cert.QNormFwdRefIdeal.τ).loc Cert.QNormFwdRefIdeal.main_arg0) = m ((c.tc : Thread Cert.QNormFwdIdeal.nD Cert.QNormFwdIdeal.τ).loc Cert.QNormFwdIdeal.main_arg0)
      ∧ m' ((c.tc : Thread Cert.QNormFwdRefIdeal.nD Cert.QNormFwdRefIdeal.τ).loc Cert.QNormFwdRefIdeal.main_arg1) = m ((c.tc : Thread Cert.QNormFwdIdeal.nD Cert.QNormFwdIdeal.τ).loc Cert.QNormFwdIdeal.main_arg1)) →
    ∃ (v0 : (c : Dev Cert.QNormFwdIdeal.nD) → Buf (Elt Ideal) ((c.tc : Thread Cert.QNormFwdIdeal.nD Cert.QNormFwdIdeal.τ).loc Cert.QNormFwdIdeal.main_v3)),
      θ_run (Cert.QNormFwdIdeal.defs (F := Ideal)) (onTc (τ := Cert.QNormFwdIdeal.τ) (Cert.QNormFwdIdeal.main (F := Ideal))) ⟨m, fun _ => 0, g⟩ (fun r => ∀ c : Dev Cert.QNormFwdIdeal.nD,
          r.2.mem ((c.tc : Thread Cert.QNormFwdIdeal.nD Cert.QNormFwdIdeal.τ).loc Cert.QNormFwdIdeal.main_v3) = v0 c
          ∧ r.2.mem ((c.tc : Thread Cert.QNormFwdIdeal.nD Cert.QNormFwdIdeal.τ).loc Cert.QNormFwdIdeal.main_arg0) = m ((c.tc : Thread Cert.QNormFwdIdeal.nD Cert.QNormFwdIdeal.τ).loc Cert.QNormFwdIdeal.main_arg0)
          ∧ r.2.mem ((c.tc : Thread Cert.QNormFwdIdeal.nD Cert.QNormFwdIdeal.τ).loc Cert.QNormFwdIdeal.main_arg1) = m ((c.tc : Thread Cert.QNormFwdIdeal.nD Cert.QNormFwdIdeal.τ).loc Cert.QNormFwdIdeal.main_arg1))
      ∧ θ_run (Cert.QNormFwdRefIdeal.defs (F := Ideal)) (onTc (τ := Cert.QNormFwdRefIdeal.τ) (Cert.QNormFwdRefIdeal.main (F := Ideal))) ⟨m', fun _ => 0, g'⟩ (fun r => ∀ c : Dev Cert.QNormFwdRefIdeal.nD,
          r.2.mem ((c.tc : Thread Cert.QNormFwdRefIdeal.nD Cert.QNormFwdRefIdeal.τ).loc Cert.QNormFwdRefIdeal.main_v19) = v0 c
          ∧ r.2.mem ((c.tc : Thread Cert.QNormFwdRefIdeal.nD Cert.QNormFwdRefIdeal.τ).loc Cert.QNormFwdRefIdeal.main_arg0) = m' ((c.tc : Thread Cert.QNormFwdRefIdeal.nD Cert.QNormFwdRefIdeal.τ).loc Cert.QNormFwdRefIdeal.main_arg0)
          ∧ r.2.mem ((c.tc : Thread Cert.QNormFwdRefIdeal.nD Cert.QNormFwdRefIdeal.τ).loc Cert.QNormFwdRefIdeal.main_arg1) = m' ((c.tc : Thread Cert.QNormFwdRefIdeal.nD Cert.QNormFwdRefIdeal.τ).loc Cert.QNormFwdRefIdeal.main_arg1))

def Claim : Prop :=
  ∃ (hMerge : Cert.Merge.Facts) (hMergeIdeal : Cert.MergeIdeal.Facts) (hMergeRefIdeal : Cert.MergeRefIdeal.Facts) (hSb : Cert.Sb.Facts) (hSbIdeal : Cert.SbIdeal.Facts) (hSbRefIdeal : Cert.SbRefIdeal.Facts) (hSbFwd : Cert.SbFwd.Facts) (hSbFwdIdeal : Cert.SbFwdIdeal.Facts) (hSbFwdRefIdeal : Cert.SbFwdRefIdeal.Facts) (hDact : Cert.Dact.Facts) (hDactIdeal : Cert.DactIdeal.Facts) (hDactRefIdeal : Cert.DactRefIdeal.Facts) (hMemRms : Cert.MemRms.Facts) (hMemRmsIdeal : Cert.MemRmsIdeal.Facts) (hMemRmsRefIdeal : Cert.MemRmsRefIdeal.Facts) (hDh : Cert.Dh.Facts) (hDhIdeal : Cert.DhIdeal.Facts) (hDhRefIdeal : Cert.DhRefIdeal.Facts) (hDhGate : Cert.DhGate.Facts) (hDhGateIdeal : Cert.DhGateIdeal.Facts) (hDhGateRefIdeal : Cert.DhGateRefIdeal.Facts) (hMemAtt : Cert.MemAtt.Facts) (hMemAttIdeal : Cert.MemAttIdeal.Facts) (hMemAttRefIdeal : Cert.MemAttRefIdeal.Facts) (hLoss : Cert.Loss.Facts) (hLossIdeal : Cert.LossIdeal.Facts) (hLossRefIdeal : Cert.LossRefIdeal.Facts) (hQkMem : Cert.QkMem.Facts) (hQkMemIdeal : Cert.QkMemIdeal.Facts) (hQkMemRefIdeal : Cert.QkMemRefIdeal.Facts) (hQkRope : Cert.QkRope.Facts) (hQkRopeIdeal : Cert.QkRopeIdeal.Facts) (hQkRopeRefIdeal : Cert.QkRopeRefIdeal.Facts) (hKMem : Cert.KMem.Facts) (hKMemIdeal : Cert.KMemIdeal.Facts) (hKMemRefIdeal : Cert.KMemRefIdeal.Facts) (hKRope : Cert.KRope.Facts) (hKRopeIdeal : Cert.KRopeIdeal.Facts) (hKRopeRefIdeal : Cert.KRopeRefIdeal.Facts) (hMergeFwd : Cert.MergeFwd.Facts) (hMergeFwdIdeal : Cert.MergeFwdIdeal.Facts) (hMergeFwdRefIdeal : Cert.MergeFwdRefIdeal.Facts) (hRmsFwd : Cert.RmsFwd.Facts) (hRmsFwdIdeal : Cert.RmsFwdIdeal.Facts) (hRmsFwdRefIdeal : Cert.RmsFwdRefIdeal.Facts) (hMemFwd : Cert.MemFwd.Facts) (hMemFwdIdeal : Cert.MemFwdIdeal.Facts) (hMemFwdRefIdeal : Cert.MemFwdRefIdeal.Facts) (hUpFwd : Cert.UpFwd.Facts) (hUpFwdIdeal : Cert.UpFwdIdeal.Facts) (hUpFwdRefIdeal : Cert.UpFwdRefIdeal.Facts) (hOutFwd : Cert.OutFwd.Facts) (hOutFwdIdeal : Cert.OutFwdIdeal.Facts) (hOutFwdRefIdeal : Cert.OutFwdRefIdeal.Facts) (hQNormFwd : Cert.QNormFwd.Facts) (hQNormFwdIdeal : Cert.QNormFwdIdeal.Facts) (hQNormFwdRefIdeal : Cert.QNormFwdRefIdeal.Facts) (hPre_sb_finite : Cert.Pre_sb_finite.Facts) (hPre_sbfwd_finite : Cert.Pre_sbfwd_finite.Facts) (hPre_dact_finite : Cert.Pre_dact_finite.Facts) (hPre_memrms_finite : Cert.Pre_memrms_finite.Facts) (hPre_dh_finite : Cert.Pre_dh_finite.Facts) (hPre_dhgate_finite : Cert.Pre_dhgate_finite.Facts) (hPre_mem_finite : Cert.Pre_mem_finite.Facts) (hPre_qkmem_finite : Cert.Pre_qkmem_finite.Facts) (hPre_qkrope_finite : Cert.Pre_qkrope_finite.Facts) (hPre_kmem_finite : Cert.Pre_kmem_finite.Facts) (hPre_krope_finite : Cert.Pre_krope_finite.Facts) (hPre_qnf_finite : Cert.Pre_qnf_finite.Facts),
    quiescent_Merge (hMerge := hMerge)
    ∧ quiescent_MergeIdeal (hMergeIdeal := hMergeIdeal)
    ∧ quiescent_MergeRefIdeal (hMergeRefIdeal := hMergeRefIdeal)
    ∧ quiescent_Sb (hSb := hSb)
    ∧ quiescent_SbIdeal (hSbIdeal := hSbIdeal)
    ∧ quiescent_SbIdeal_pre_sb_finite (hSbIdeal := hSbIdeal) (hPre_sb_finite := hPre_sb_finite)
    ∧ quiescent_SbRefIdeal (hSbRefIdeal := hSbRefIdeal)
    ∧ quiescent_SbRefIdeal_pre_sb_finite (hSbRefIdeal := hSbRefIdeal) (hPre_sb_finite := hPre_sb_finite)
    ∧ quiescent_SbFwd (hSbFwd := hSbFwd)
    ∧ quiescent_SbFwdIdeal (hSbFwdIdeal := hSbFwdIdeal)
    ∧ quiescent_SbFwdIdeal_pre_sbfwd_finite (hSbFwdIdeal := hSbFwdIdeal) (hPre_sbfwd_finite := hPre_sbfwd_finite)
    ∧ quiescent_SbFwdRefIdeal (hSbFwdRefIdeal := hSbFwdRefIdeal)
    ∧ quiescent_SbFwdRefIdeal_pre_sbfwd_finite (hSbFwdRefIdeal := hSbFwdRefIdeal) (hPre_sbfwd_finite := hPre_sbfwd_finite)
    ∧ quiescent_Dact (hDact := hDact)
    ∧ quiescent_DactIdeal (hDactIdeal := hDactIdeal)
    ∧ quiescent_DactIdeal_pre_dact_finite (hDactIdeal := hDactIdeal) (hPre_dact_finite := hPre_dact_finite)
    ∧ quiescent_DactRefIdeal (hDactRefIdeal := hDactRefIdeal)
    ∧ quiescent_DactRefIdeal_pre_dact_finite (hDactRefIdeal := hDactRefIdeal) (hPre_dact_finite := hPre_dact_finite)
    ∧ quiescent_MemRms (hMemRms := hMemRms)
    ∧ quiescent_MemRmsIdeal (hMemRmsIdeal := hMemRmsIdeal)
    ∧ quiescent_MemRmsIdeal_pre_memrms_finite (hMemRmsIdeal := hMemRmsIdeal) (hPre_memrms_finite := hPre_memrms_finite)
    ∧ quiescent_MemRmsRefIdeal (hMemRmsRefIdeal := hMemRmsRefIdeal)
    ∧ quiescent_MemRmsRefIdeal_pre_memrms_finite (hMemRmsRefIdeal := hMemRmsRefIdeal) (hPre_memrms_finite := hPre_memrms_finite)
    ∧ quiescent_Dh (hDh := hDh)
    ∧ quiescent_DhIdeal (hDhIdeal := hDhIdeal)
    ∧ quiescent_DhIdeal_pre_dh_finite (hDhIdeal := hDhIdeal) (hPre_dh_finite := hPre_dh_finite)
    ∧ quiescent_DhRefIdeal (hDhRefIdeal := hDhRefIdeal)
    ∧ quiescent_DhRefIdeal_pre_dh_finite (hDhRefIdeal := hDhRefIdeal) (hPre_dh_finite := hPre_dh_finite)
    ∧ quiescent_DhGate (hDhGate := hDhGate)
    ∧ quiescent_DhGateIdeal (hDhGateIdeal := hDhGateIdeal)
    ∧ quiescent_DhGateIdeal_pre_dhgate_finite (hDhGateIdeal := hDhGateIdeal) (hPre_dhgate_finite := hPre_dhgate_finite)
    ∧ quiescent_DhGateRefIdeal (hDhGateRefIdeal := hDhGateRefIdeal)
    ∧ quiescent_DhGateRefIdeal_pre_dhgate_finite (hDhGateRefIdeal := hDhGateRefIdeal) (hPre_dhgate_finite := hPre_dhgate_finite)
    ∧ quiescent_MemAtt (hMemAtt := hMemAtt)
    ∧ quiescent_MemAttIdeal (hMemAttIdeal := hMemAttIdeal)
    ∧ quiescent_MemAttIdeal_pre_mem_finite (hMemAttIdeal := hMemAttIdeal) (hPre_mem_finite := hPre_mem_finite)
    ∧ quiescent_MemAttRefIdeal (hMemAttRefIdeal := hMemAttRefIdeal)
    ∧ quiescent_MemAttRefIdeal_pre_mem_finite (hMemAttRefIdeal := hMemAttRefIdeal) (hPre_mem_finite := hPre_mem_finite)
    ∧ quiescent_Loss (hLoss := hLoss)
    ∧ quiescent_LossIdeal (hLossIdeal := hLossIdeal)
    ∧ quiescent_LossRefIdeal (hLossRefIdeal := hLossRefIdeal)
    ∧ quiescent_QkMem (hQkMem := hQkMem)
    ∧ quiescent_QkMemIdeal (hQkMemIdeal := hQkMemIdeal)
    ∧ quiescent_QkMemIdeal_pre_qkmem_finite (hQkMemIdeal := hQkMemIdeal) (hPre_qkmem_finite := hPre_qkmem_finite)
    ∧ quiescent_QkMemRefIdeal (hQkMemRefIdeal := hQkMemRefIdeal)
    ∧ quiescent_QkMemRefIdeal_pre_qkmem_finite (hQkMemRefIdeal := hQkMemRefIdeal) (hPre_qkmem_finite := hPre_qkmem_finite)
    ∧ quiescent_QkRope (hQkRope := hQkRope)
    ∧ quiescent_QkRopeIdeal (hQkRopeIdeal := hQkRopeIdeal)
    ∧ quiescent_QkRopeIdeal_pre_qkrope_finite (hQkRopeIdeal := hQkRopeIdeal) (hPre_qkrope_finite := hPre_qkrope_finite)
    ∧ quiescent_QkRopeRefIdeal (hQkRopeRefIdeal := hQkRopeRefIdeal)
    ∧ quiescent_QkRopeRefIdeal_pre_qkrope_finite (hQkRopeRefIdeal := hQkRopeRefIdeal) (hPre_qkrope_finite := hPre_qkrope_finite)
    ∧ quiescent_KMem (hKMem := hKMem)
    ∧ quiescent_KMemIdeal (hKMemIdeal := hKMemIdeal)
    ∧ quiescent_KMemIdeal_pre_kmem_finite (hKMemIdeal := hKMemIdeal) (hPre_kmem_finite := hPre_kmem_finite)
    ∧ quiescent_KMemRefIdeal (hKMemRefIdeal := hKMemRefIdeal)
    ∧ quiescent_KMemRefIdeal_pre_kmem_finite (hKMemRefIdeal := hKMemRefIdeal) (hPre_kmem_finite := hPre_kmem_finite)
    ∧ quiescent_KRope (hKRope := hKRope)
    ∧ quiescent_KRopeIdeal (hKRopeIdeal := hKRopeIdeal)
    ∧ quiescent_KRopeIdeal_pre_krope_finite (hKRopeIdeal := hKRopeIdeal) (hPre_krope_finite := hPre_krope_finite)
    ∧ quiescent_KRopeRefIdeal (hKRopeRefIdeal := hKRopeRefIdeal)
    ∧ quiescent_KRopeRefIdeal_pre_krope_finite (hKRopeRefIdeal := hKRopeRefIdeal) (hPre_krope_finite := hPre_krope_finite)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_MemFwd (hMemFwd := hMemFwd)
    ∧ quiescent_MemFwdIdeal (hMemFwdIdeal := hMemFwdIdeal)
    ∧ quiescent_MemFwdRefIdeal (hMemFwdRefIdeal := hMemFwdRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_QNormFwd (hQNormFwd := hQNormFwd)
    ∧ quiescent_QNormFwdIdeal (hQNormFwdIdeal := hQNormFwdIdeal)
    ∧ quiescent_QNormFwdIdeal_pre_qnf_finite (hQNormFwdIdeal := hQNormFwdIdeal) (hPre_qnf_finite := hPre_qnf_finite)
    ∧ quiescent_QNormFwdRefIdeal (hQNormFwdRefIdeal := hQNormFwdRefIdeal)
    ∧ quiescent_QNormFwdRefIdeal_pre_qnf_finite (hQNormFwdRefIdeal := hQNormFwdRefIdeal) (hPre_qnf_finite := hPre_qnf_finite)
    ∧ preserves_Merge_MergeIdeal
    ∧ algebraic_MergeIdeal_MergeRefIdeal (hMergeIdeal := hMergeIdeal) (hMergeRefIdeal := hMergeRefIdeal)
    ∧ preserves_Sb_SbIdeal
    ∧ algebraic_SbIdeal_SbRefIdeal_pre_sb_finite (hSbIdeal := hSbIdeal) (hSbRefIdeal := hSbRefIdeal) (hPre_sb_finite := hPre_sb_finite)
    ∧ preserves_SbFwd_SbFwdIdeal
    ∧ algebraic_SbFwdIdeal_SbFwdRefIdeal_pre_sbfwd_finite (hSbFwdIdeal := hSbFwdIdeal) (hSbFwdRefIdeal := hSbFwdRefIdeal) (hPre_sbfwd_finite := hPre_sbfwd_finite)
    ∧ preserves_Dact_DactIdeal
    ∧ algebraic_DactIdeal_DactRefIdeal_pre_dact_finite (hDactIdeal := hDactIdeal) (hDactRefIdeal := hDactRefIdeal) (hPre_dact_finite := hPre_dact_finite)
    ∧ preserves_MemRms_MemRmsIdeal
    ∧ algebraic_MemRmsIdeal_MemRmsRefIdeal_pre_memrms_finite (hMemRmsIdeal := hMemRmsIdeal) (hMemRmsRefIdeal := hMemRmsRefIdeal) (hPre_memrms_finite := hPre_memrms_finite)
    ∧ preserves_Dh_DhIdeal
    ∧ algebraic_DhIdeal_DhRefIdeal_pre_dh_finite (hDhIdeal := hDhIdeal) (hDhRefIdeal := hDhRefIdeal) (hPre_dh_finite := hPre_dh_finite)
    ∧ preserves_DhGate_DhGateIdeal
    ∧ algebraic_DhGateIdeal_DhGateRefIdeal_pre_dhgate_finite (hDhGateIdeal := hDhGateIdeal) (hDhGateRefIdeal := hDhGateRefIdeal) (hPre_dhgate_finite := hPre_dhgate_finite)
    ∧ preserves_MemAtt_MemAttIdeal
    ∧ algebraic_MemAttIdeal_MemAttRefIdeal_pre_mem_finite (hMemAttIdeal := hMemAttIdeal) (hMemAttRefIdeal := hMemAttRefIdeal) (hPre_mem_finite := hPre_mem_finite)
    ∧ preserves_Loss_LossIdeal
    ∧ algebraic_LossIdeal_LossRefIdeal (hLossIdeal := hLossIdeal) (hLossRefIdeal := hLossRefIdeal)
    ∧ preserves_QkMem_QkMemIdeal
    ∧ algebraic_QkMemIdeal_QkMemRefIdeal_pre_qkmem_finite (hQkMemIdeal := hQkMemIdeal) (hQkMemRefIdeal := hQkMemRefIdeal) (hPre_qkmem_finite := hPre_qkmem_finite)
    ∧ preserves_QkRope_QkRopeIdeal
    ∧ algebraic_QkRopeIdeal_QkRopeRefIdeal_pre_qkrope_finite (hQkRopeIdeal := hQkRopeIdeal) (hQkRopeRefIdeal := hQkRopeRefIdeal) (hPre_qkrope_finite := hPre_qkrope_finite)
    ∧ preserves_KMem_KMemIdeal
    ∧ algebraic_KMemIdeal_KMemRefIdeal_pre_kmem_finite (hKMemIdeal := hKMemIdeal) (hKMemRefIdeal := hKMemRefIdeal) (hPre_kmem_finite := hPre_kmem_finite)
    ∧ preserves_KRope_KRopeIdeal
    ∧ algebraic_KRopeIdeal_KRopeRefIdeal_pre_krope_finite (hKRopeIdeal := hKRopeIdeal) (hKRopeRefIdeal := hKRopeRefIdeal) (hPre_krope_finite := hPre_krope_finite)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_MemFwd_MemFwdIdeal
    ∧ algebraic_MemFwdIdeal_MemFwdRefIdeal (hMemFwdIdeal := hMemFwdIdeal) (hMemFwdRefIdeal := hMemFwdRefIdeal)
    ∧ preserves_UpFwd_UpFwdIdeal
    ∧ algebraic_UpFwdIdeal_UpFwdRefIdeal (hUpFwdIdeal := hUpFwdIdeal) (hUpFwdRefIdeal := hUpFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_QNormFwd_QNormFwdIdeal
    ∧ algebraic_QNormFwdIdeal_QNormFwdRefIdeal_pre_qnf_finite (hQNormFwdIdeal := hQNormFwdIdeal) (hQNormFwdRefIdeal := hQNormFwdRefIdeal) (hPre_qnf_finite := hPre_qnf_finite)
-- ==== Pre_dact_finite.lean ====
abbrev S16384x1024 : Shape := ⟨2, ![16384, 1024]⟩
abbrev S2816x1024 : Shape := ⟨2, ![2816, 1024]⟩
abbrev S16384x2816 : Shape := ⟨2, ![16384, 2816]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S16384x2816 : S_.BroadcastsInDim S16384x2816 (![] : Fin 0 → Fin S16384x2816.rank)
  reducesTo_S16384x2816_S_d0_1 : S16384x2816.ReducesTo [0, 1] S_

variable [Facts]

def fn {F : FTy → Type} [FloatOps F] (main_arg0 : FVec F S16384x1024 .bf16) (main_arg1 : FVec F S2816x1024 .bf16) (main_arg2 : FVec F S16384x2816 .bf16) (main_arg3 : FVec F S16384x2816 .bf16) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S16384x2816 .f32 := (extf .f32 · bitsLt_bf16_f32) main_arg3
  let main_v12 : FVec F S16384x2816 .f32 := Host.absf main_v11
  let main_cst_2 : FVec F S_ .f32 := constant S_ .f32 0x7F800000#32
  let main_v13 : FVec F S16384x2816 .f32 := broadcastInDim S16384x2816 ![] bcast_S_S16384x2816 main_cst_2
  let main_v14 : IVec S16384x2816 1 := cmpf .olt main_v12 main_v13
  let main_c_3 : IVec S_ 1 := constantI S_ 1 1#1
  let main_v15 : IVec S_ 1 := (fun x v => Host.reduce IntOp.andi x v reducesTo_S16384x2816_S_d0_1 h_S_) main_v14 main_c_3
  let main_v16 : IVec S_ 1 := andi main_v10 main_v15
  main_v16
-- ==== Pre_dh_finite.lean ====
abbrev S16384x2816 : Shape := ⟨2, ![16384, 2816]⟩
abbrev S1024x2816 : Shape := ⟨2, ![1024, 2816]⟩
abbrev S16384x1024 : Shape := ⟨2, ![16384, 1024]⟩
abbrev S1x1024 : Shape := ⟨2, ![1, 1024]⟩
abbrev S_ : Shape := ⟨0, ![]⟩

class Facts : Prop where
  bitsLt_bf16_f32 : FTy.bits .bf16 < FTy.bits .f32
  bcast_S_S16384x2816 : S_.BroadcastsInDim S16384x2816 (![] : Fin 0 → Fin S16384x2816.rank)
  reducesTo_S16384x2816_S_d0_1 : S16384x2816.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S16384x1024 : S_.BroadcastsInDim S16384x1024 (![] : Fin 0 → Fin S16384x1024.rank)
  reducesTo_S16384x1024_S_d0_1 : S16384x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S16384x1024 .f32) (main_arg6 : FVec F S1x1024 .f32) (main_v16 : IVec S_ 1) (main_v17 : FVec F S1024x2816 .f32) : IVec S_ 1 :=
  let main_v18 : FVec F S1024x2816 .f32 := Host.absf main_v17
  let main_cst_4 : FVec F S_ .f32 := constant S_ .f32 0x7F800000#32
  let main_v19 : FVec F S1024x2816 .f32 := broadcastInDim S1024x2816 ![] bcast_S_S1024x2816 main_cst_4
  let main_v20 : IVec S1024x2816 1 := cmpf .olt main_v18 main_v19
  let main_c_5 : IVec S_ 1 := constantI S_ 1 1#1
  let main_v21 : IVec S_ 1 := (fun x v => Host.reduce IntOp.andi x v reducesTo_S1024x2816_S_d0_1 h_S_) main_v20 main_c_5
  let main_v22 : IVec S_ 1 := andi main_v16 main_v21
  let main_v23 : FVec F S16384x1024 .f32 := Host.absf main_arg4
  let main_cst_6 : FVec F S_ .f32 := constant S_ .f32 0x7F800000#32
  let main_v24 : FVec F S16384x1024 .f32 := broadcastInDim S16384x1024 ![] bcast_S_S16384x1024 main_cst_6
  let main_v25 : IVec S16384x1024 1 := cmpf .olt main_v23 main_v24
  let main_c_7 : IVec S_ 1 := constantI S_ 1 1#1
  let main_v26 : IVec S_ 1 := (fun x v => Host.reduce IntOp.andi x v reducesTo_S16384x1024_S_d0_1 h_S_) main_v25 main_c_7
  let main_v27 : IVec S_ 1 := andi main_v22 main_v26
  let main_v28 : FVec F S1x1024 .f32 := Host.absf main_arg6
  let main_cst_8 : FVec F S_ .f32 := constant S_ .f32 0x7F800000#32
  let main_v29 : FVec F S1x1024 .f32 := broadcastInDim S1x1024 ![] bcast_S_S1x1024 main_cst_8
  let main_v30 : IVec S1x1024 1 := cmpf .olt main_v28 main_v29
  let main_c_9 : IVec S_ 1 := constantI S_ 1 1#1
  let main_v31 : IVec S_ 1 := (fun x v => Host.reduce IntOp.andi x v reducesTo_S1x1024_S_d0_1 h_S_) main_v30 main_c_9
  let main_v32 : IVec S_ 1 := andi main_v27 main_v31
  main_v32

def fn {F : FTy → Type} [FloatOps F] (main_arg0 : FVec F S16384x2816 .bf16) (main_arg1 : FVec F S16384x2816 .bf16) (main_arg2 : FVec F S1024x2816 .bf16) (main_arg3 : FVec F S1024x2816 .bf16) (main_arg4 : FVec F S16384x1024 .f32) (main_arg5 : FVec F S16384x1024 .f32) (main_arg6 : FVec F S1x1024 .f32) : IVec S_ 1 :=
  let main_v0 : FVec F S16384x2816 .f32 := (extf .f32 · bitsLt_bf16_f32) main_arg0
  let main_v1 : FVec F S16384x2816 .f32 := Host.absf main_v0
  let main_cst : FVec F S_ .f32 := constant S_ .f32 0x7F800000#32
  let main_v2 : FVec F S16384x2816 .f32 := broadcastInDim S16384x2816 ![] bcast_S_S16384x2816 main_cst
  let main_v3 : IVec S16384x2816 1 := cmpf .olt main_v1 main_v2
  let main_c : IVec S_ 1 := constantI S_ 1 1#1
  let main_v4 : IVec S_ 1 := (fun x v => Host.reduce IntOp.andi x v reducesTo_S16384x2816_S_d0_1 h_S_) main_v3 main_c
  let main_v5 : FVec F S16384x2816 .f32 := (extf .f32 · bitsLt_bf16_f32) main_arg1
  let main_v6 : FVec F S16384x2816 .f32 := Host.absf main_v5
  let main_cst_0 : FVec F S_ .f32 := constant S_ .f32 0x7F800000#32
  let main_v7 : FVec F S16384x2816 .f32 := broadcastInDim S16384x2816 ![] bcast_S_S16384x2816 main_cst_0
  let main_v8 : IVec S16384x2816 1 := cmpf .olt main_v6 main_v7
  let main_c_1 : IVec S_ 1 := constantI S_ 1 1#1
  let main_v9 : IVec S_ 1 := (fun x v => Host.reduce IntOp.andi x v reducesTo_S16384x2816_S_d0_1 h_S_) main_v8 main_c_1
  let main_v10 : IVec S_ 1 := andi main_v4 main_v9
  let main_v11 : FVec F S1024x2816 .f32 := (extf .f32 · bitsLt_bf16_f32) main_arg2
  let main_v12 : FVec F S1024x2816 .f32 := Host.absf main_v11
  let main_cst_2 : FVec F S_ .f32 := constant S_ .f32 0x7F800000#32
  let main_v13 : FVec F S1024x2816 .f32 := broadcastInDim S1024x2816 ![] bcast_S_S1024x2816 main_cst_2
  let main_v14 : IVec S1024x2816 1 := cmpf .olt main_v12 main_v13
  let main_c_3 : IVec S_ 1 := constantI S_ 1 1#1
  let main_v15 : IVec S_ 1 := (fun x v => Host.reduce IntOp.andi x v reducesTo_S1024x2816_S_d0_1 h_S_) main_v14 main_c_3
  let main_v16 : IVec S_ 1 := andi main_v10 main_v15
  let main_v17 : FVec F S1024x2816 .f32 := (extf .f32 · bitsLt_bf16_f32) main_arg3
  fn_part1 (F := F) main_arg4 main_arg6 main_v16 main_v17
-- ==== Pre_dhgate_finite.lean ====
abbrev S16384x3072 : Shape := ⟨2, ![16384, 3072]⟩
abbrev S1024x3072 : Shape := ⟨2, ![1024, 3072]⟩
abbrev S16384x1024 : Shape := ⟨2, ![16384, 1024]⟩
abbrev S1x1024 : Shape := ⟨2, ![1, 1024]⟩
abbrev S_ : Shape := ⟨0, ![]⟩

class Facts : Prop where
  bitsLt_bf16_f32 : FTy.bits .bf16 < FTy.bits .f32
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S16384x1024 : S_.BroadcastsInDim S16384x1024 (![] : Fin 0 → Fin S16384x1024.rank)
  reducesTo_S16384x1024_S_d0_1 : S16384x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S1x1024 .f32) (main_v15 : IVec S_ 1) (main_v16 : FVec F S16384x1024 .f32) (main_cst_4 : FVec F S_ .f32) : IVec S_ 1 :=
  let main_v17 : FVec F S16384x1024 .f32 := broadcastInDim S16384x1024 ![] bcast_S_S16384x1024 main_cst_4
  let main_v18 : IVec S16384x1024 1 := cmpf .olt main_v16 main_v17
  let main_c_5 : IVec S_ 1 := constantI S_ 1 1#1
  let main_v19 : IVec S_ 1 := (fun x v => Host.reduce IntOp.andi x v reducesTo_S16384x1024_S_d0_1 h_S_) main_v18 main_c_5
  let main_v20 : IVec S_ 1 := andi main_v15 main_v19
  let main_v21 : FVec F S1x1024 .f32 := Host.absf main_arg5
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_c_7 : IVec S_ 1 := constantI S_ 1 1#1
  let main_v24 : IVec S_ 1 := (fun x v => Host.reduce IntOp.andi x v reducesTo_S1x1024_S_d0_1 h_S_) main_v23 main_c_7
  let main_v25 : IVec S_ 1 := andi main_v20 main_v24
  main_v25

def fn {F : FTy → Type} [FloatOps F] (main_arg0 : FVec F S16384x3072 .bf16) (main_arg1 : FVec F S1024x3072 .bf16) (main_arg2 : FVec F S16384x1024 .f32) (main_arg3 : FVec F S16384x1024 .f32) (main_arg4 : FVec F S16384x1024 .f32) (main_arg5 : FVec F S1x1024 .f32) : IVec S_ 1 :=
  let main_v0 : FVec F S16384x3072 .f32 := (extf .f32 · bitsLt_bf16_f32) main_arg0
  let main_v1 : FVec F S16384x3072 .f32 := Host.absf main_v0
  let main_cst : FVec F S_ .f32 := constant S_ .f32 0x7F800000#32
  let main_v2 : FVec F S16384x3072 .f32 := broadcastInDim S16384x3072 ![] bcast_S_S16384x3072 main_cst
  let main_v3 : IVec S16384x3072 1 := cmpf .olt main_v1 main_v2
  let main_c : IVec S_ 1 := constantI S_ 1 1#1
  let main_v4 : IVec S_ 1 := (fun x v => Host.reduce IntOp.andi x v reducesTo_S16384x3072_S_d0_1 h_S_) main_v3 main_c
  let main_v5 : FVec F S1024x3072 .f32 := (extf .f32 · bitsLt_bf16_f32) main_arg1
  let main_v6 : FVec F S1024x3072 .f32 := Host.absf main_v5
  let main_cst_0 : FVec F S_ .f32 := constant S_ .f32 0x7F800000#32
  let main_v7 : FVec F S1024x3072 .f32 := broadcastInDim S1024x3072 ![] bcast_S_S1024x3072 main_cst_0
  let main_v8 : IVec S1024x3072 1 := cmpf .olt main_v6 main_v7
  let main_c_1 : IVec S_ 1 := constantI S_ 1 1#1
  let main_v9 : IVec S_ 1 := (fun x v => Host.reduce IntOp.andi x v reducesTo_S1024x3072_S_d0_1 h_S_) main_v8 main_c_1
  let main_v10 : IVec S_ 1 := andi main_v4 main_v9
  let main_v11 : FVec F S16384x1024 .f32 := Host.absf main_arg2
  let main_cst_2 : FVec F S_ .f32 := constant S_ .f32 0x7F800000#32
  let main_v12 : FVec F S16384x1024 .f32 := broadcastInDim S16384x1024 ![] bcast_S_S16384x1024 main_cst_2
  let main_v13 : IVec S16384x1024 1 := cmpf .olt main_v11 main_v12
  let main_c_3 : IVec S_ 1 := constantI S_ 1 1#1
  let main_v14 : IVec S_ 1 := (fun x v => Host.reduce IntOp.andi x v reducesTo_S16384x1024_S_d0_1 h_S_) main_v13 main_c_3
  let main_v15 : IVec S_ 1 := andi main_v10 main_v14
  let main_v16 : FVec F S16384x1024 .f32 := Host.absf main_arg3
  let main_cst_4 : FVec F S_ .f32 := constant S_ .f32 0x7F800000#32
  fn_part1 (F := F) main_arg5 main_v15 main_v16 main_cst_4
-- ==== Pre_kmem_finite.lean ====
abbrev S256x512 : Shape := ⟨2, ![256, 512]⟩
abbrev S1x64 : Shape := ⟨2, ![1, 64]⟩
abbrev S256x256 : Shape := ⟨2, ![256, 256]⟩
abbrev S_ : Shape := ⟨0, ![]⟩

class Facts : Prop where
  slices_S256x512_S256x256_0_0 : S256x512.Slices ![0, 0] S256x256
  bitsLt_bf16_f32 : FTy.bits .bf16 < FTy.bits .f32
  bcast_S_S256x256 : S_.BroadcastsInDim S256x256 (![] : Fin 0 → Fin S256x256.rank)
  reducesTo_S256x256_S_d0_1 : S256x256.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn {F : FTy → Type} [FloatOps F] (main_arg0 : FVec F S256x512 .bf16) (main_arg1 : FVec F S1x64 .f32) (main_arg2 : FVec F S256x256 .f32) : IVec S_ 1 :=
  let main_v0 : FVec F S256x256 .bf16 := (extractStridedSlice S256x256 ![0, 0] · slices_S256x512_S256x256_0_0) main_arg0
  let main_v1 : FVec F S256x256 .f32 := (extf .f32 · bitsLt_bf16_f32) main_v0
  let main_v2 : FVec F S256x256 .f32 := Host.absf main_v1
  let main_cst : FVec F S_ .f32 := constant S_ .f32 0x7F800000#32
  let main_v3 : FVec F S256x256 .f32 := broadcastInDim S256x256 ![] bcast_S_S256x256 main_cst
  let main_v4 : IVec S256x256 1 := cmpf .olt main_v2 main_v3
  let main_c : IVec S_ 1 := constantI S_ 1 1#1
  let main_v5 : IVec S_ 1 := (fun x v => Host.reduce IntOp.andi x v reducesTo_S256x256_S_d0_1 h_S_) main_v4 main_c
  let main_v6 : FVec F S1x64 .f32 := Host.absf main_arg1
  let main_cst_0 : FVec F S_ .f32 := constant S_ .f32 0x7F800000#32
  let main_v7 : FVec F S1x64 .f32 := broadcastInDim S1x64 ![] bcast_S_S1x64 main_cst_0
  let main_v8 : IVec S1x64 1 := cmpf .olt main_v6 main_v7
  let main_c_1 : IVec S_ 1 := constantI S_ 1 1#1
  let main_v9 : IVec S_ 1 := (fun x v => Host.reduce IntOp.andi x v reducesTo_S1x64_S_d0_1 h_S_) main_v8 main_c_1
  let main_v10 : IVec S_ 1 := andi main_v5 main_v9
  let main_v11 : FVec F S256x256 .f32 := Host.absf main_arg2
  let main_cst_2 : FVec F S_ .f32 := constant S_ .f32 0x7F800000#32
  let main_v12 : FVec F S256x256 .f32 := broadcastInDim S256x256 ![] bcast_S_S256x256 main_cst_2
  let main_v13 : IVec S256x256 1 := cmpf .olt main_v11 main_v12
  let main_c_3 : IVec S_ 1 := constantI S_ 1 1#1
  let main_v14 : IVec S_ 1 := (fun x v => Host.reduce IntOp.andi x v reducesTo_S256x256_S_d0_1 h_S_) main_v13 main_c_3
  let main_v15 : IVec S_ 1 := andi main_v10 main_v14
  main_v15
-- ==== Pre_krope_finite.lean ====
abbrev S16384x4096 : Shape := ⟨2, ![16384, 4096]⟩
abbrev S1x64 : Shape := ⟨2, ![1, 64]⟩
abbrev S16384x256 : Shape := ⟨2, ![16384, 256]⟩
abbrev S16384x768 : Shape := ⟨2, ![16384, 768]⟩
abbrev S_ : Shape := ⟨0, ![]⟩

class Facts : Prop where
  slices_S16384x4096_S16384x768_0_2304 : S16384x4096.Slices ![0, 2304] S16384x768
  bitsLt_bf16_f32 : FTy.bits .bf16 < FTy.bits .f32
  bcast_S_S16384x768 : S_.BroadcastsInDim S16384x768 (![] : Fin 0 → Fin S16384x768.rank)
  reducesTo_S16384x768_S_d0_1 : S16384x768.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S16384x256 : S_.BroadcastsInDim S16384x256 (![] : Fin 0 → Fin S16384x256.rank)
  reducesTo_S16384x256_S_d0_1 : S16384x256.ReducesTo [0, 1] S_

variable [Facts]

def fn_part1 {F : FTy → Type} [FloatOps F] (main_arg4 : FVec F S16384x256 .f32) (main_v15 : IVec S_ 1) (main_v16 : FVec F S16384x256 .f32) (main_cst_4 : FVec F S_ .f32) : IVec S_ 1 :=
  let main_v17 : FVec F S16384x256 .f32 := broadcastInDim S16384x256 ![] bcast_S_S16384x256 main_cst_4
  let main_v18 : IVec S16384x256 1 := cmpf .olt main_v16 main_v17
  let main_c_5 : IVec S_ 1 := constantI S_ 1 1#1
  let main_v19 : IVec S_ 1 := (fun x v => Host.reduce IntOp.andi x v reducesTo_S16384x256_S_d0_1 h_S_) main_v18 main_c_5
  let main_v20 : IVec S_ 1 := andi main_v15 main_v19
  let main_v21 : FVec F S16384x256 .f32 := Host.absf main_arg4
  let main_cst_6 : FVec F S_ .f32 := constant S_ .f32 0x7F800000#32
  let main_v22 : FVec F S16384x256 .f32 := broadcastInDim S16384x256 ![] bcast_S_S16384x256 main_cst_6
  let main_v23 : IVec S16384x256 1 := cmpf .olt main_v21 main_v22
  let main_c_7 : IVec S_ 1 := constantI S_ 1 1#1
  let main_v24 : IVec S_ 1 := (fun x v => Host.reduce IntOp.andi x v reducesTo_S16384x256_S_d0_1 h_S_) main_v23 main_c_7
  let main_v25 : IVec S_ 1 := andi main_v20 main_v24
  main_v25

def fn {F : FTy → Type} [FloatOps F] (main_arg0 : FVec F S16384x4096 .bf16) (main_arg1 : FVec F S1x64 .f32) (main_arg2 : FVec F S16384x256 .f32) (main_arg3 : FVec F S16384x256 .f32) (main_arg4 : FVec F S16384x256 .f32) : IVec S_ 1 :=
  let main_v0 : FVec F S16384x768 .bf16 := (extractStridedSlice S16384x768 ![0, 2304] · slices_S16384x4096_S16384x768_0_2304) main_arg0
  let main_v1 : FVec F S16384x768 .f32 := (extf .f32 · bitsLt_bf16_f32) main_v0
  let main_v2 : FVec F S16384x768 .f32 := Host.absf main_v1
  let main_cst : FVec F S_ .f32 := constant S_ .f32 0x7F800000#32
  let main_v3 : FVec F S16384x768 .f32 := broadcastInDim S16384x768 ![] bcast_S_S16384x768 main_cst
  let main_v4 : IVec S16384x768 1 := cmpf .olt main_v2 main_v3
  let main_c : IVec S_ 1 := constantI S_ 1 1#1
  let main_v5 : IVec S_ 1 := (fun x v => Host.reduce IntOp.andi x v reducesTo_S16384x768_S_d0_1 h_S_) main_v4 main_c
  let main_v6 : FVec F S1x64 .f32 := Host.absf main_arg1
  let main_cst_0 : FVec F S_ .f32 := constant S_ .f32 0x7F800000#32
  let main_v7 : FVec F S1x64 .f32 := broadcastInDim S1x64 ![] bcast_S_S1x64 main_cst_0
  let main_v8 : IVec S1x64 1 := cmpf .olt main_v6 main_v7
  let main_c_1 : IVec S_ 1 := constantI S_ 1 1#1
  let main_v9 : IVec S_ 1 := (fun x v => Host.reduce IntOp.andi x v reducesTo_S1x64_S_d0_1 h_S_) main_v8 main_c_1
  let main_v10 : IVec S_ 1 := andi main_v5 main_v9
  let main_v11 : FVec F S16384x256 .f32 := Host.absf main_arg2
  let main_cst_2 : FVec F S_ .f32 := constant S_ .f32 0x7F800000#32
  let main_v12 : FVec F S16384x256 .f32 := broadcastInDim S16384x256 ![] bcast_S_S16384x256 main_cst_2
  let main_v13 : IVec S16384x256 1 := cmpf .olt main_v11 main_v12
  let main_c_3 : IVec S_ 1 := constantI S_ 1 1#1
  let main_v14 : IVec S_ 1 := (fun x v => Host.reduce IntOp.andi x v reducesTo_S16384x256_S_d0_1 h_S_) main_v13 main_c_3
  let main_v15 : IVec S_ 1 := andi main_v10 main_v14
  let main_v16 : FVec F S16384x256 .f32 := Host.absf main_arg3
  let main_cst_4 : FVec F S_ .f32 := constant S_ .f32 0x7F800000#32
  fn_part1 (F := F) main_arg4 main_v15 main_v16 main_cst_4
-- ==== Pre_mem_finite.lean ====
abbrev S16384x256 : Shape := ⟨2, ![16384, 256]⟩
abbrev S256x256 : Shape := ⟨2, ![256, 256]⟩
abbrev S256x512 : Shape := ⟨2, ![256, 512]⟩
abbrev S_ : Shape := ⟨0, ![]⟩

class Facts : Prop where
  bitsLt_bf16_f32 : FTy.bits .bf16 < FTy.bits .f32
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  slices_S256x512_S256x256_0_256 : S256x512.Slices ![0, 256] S256x256

variable [Facts]

def fn_part1 {F : FTy → Type} [FloatOps F] (main_arg3 : FVec F S16384x256 .bf16) (main_v17 : IVec S_ 1) : IVec S_ 1 :=
  let main_v18 : FVec F S16384x256 .f32 := (extf .f32 · bitsLt_bf16_f32) main_arg3
  let main_v19 : FVec F S16384x256 .f32 := Host.absf main_v18
  let main_cst_4 : FVec F S_ .f32 := constant S_ .f32 0x7F800000#32
  let main_v20 : FVec F S16384x256 .f32 := broadcastInDim S16384x256 ![] bcast_S_S16384x256 main_cst_4
  let main_v21 : IVec S16384x256 1 := cmpf .olt main_v19 main_v20
  let main_c_5 : IVec S_ 1 := constantI S_ 1 1#1
  let main_v22 : IVec S_ 1 := (fun x v => Host.reduce IntOp.andi x v reducesTo_S16384x256_S_d0_1 h_S_) main_v21 main_c_5
  let main_v23 : IVec S_ 1 := andi main_v17 main_v22
  main_v23

def fn {F : FTy → Type} [FloatOps F] (main_arg0 : FVec F S16384x256 .bf16) (main_arg1 : FVec F S256x256 .bf16) (main_arg2 : FVec F S256x512 .bf16) (main_arg3 : FVec F S16384x256 .bf16) : IVec S_ 1 :=
  let main_v0 : FVec F S16384x256 .f32 := (extf .f32 · bitsLt_bf16_f32) main_arg0
  let main_v1 : FVec F S16384x256 .f32 := Host.absf main_v0
  let main_cst : FVec F S_ .f32 := constant S_ .f32 0x7F800000#32
  let main_v2 : FVec F S16384x256 .f32 := broadcastInDim S16384x256 ![] bcast_S_S16384x256 main_cst
  let main_v3 : IVec S16384x256 1 := cmpf .olt main_v1 main_v2
  let main_c : IVec S_ 1 := constantI S_ 1 1#1
  let main_v4 : IVec S_ 1 := (fun x v => Host.reduce IntOp.andi x v reducesTo_S16384x256_S_d0_1 h_S_) main_v3 main_c
  let main_v5 : FVec F S256x256 .f32 := (extf .f32 · bitsLt_bf16_f32) main_arg1
  let main_v6 : FVec F S256x256 .f32 := Host.absf main_v5
  let main_cst_0 : FVec F S_ .f32 := constant S_ .f32 0x7F800000#32
  let main_v7 : FVec F S256x256 .f32 := broadcastInDim S256x256 ![] bcast_S_S256x256 main_cst_0
  let main_v8 : IVec S256x256 1 := cmpf .olt main_v6 main_v7
  let main_c_1 : IVec S_ 1 := constantI S_ 1 1#1
  let main_v9 : IVec S_ 1 := (fun x v => Host.reduce IntOp.andi x v reducesTo_S256x256_S_d0_1 h_S_) main_v8 main_c_1
  let main_v10 : IVec S_ 1 := andi main_v4 main_v9
  let main_v11 : FVec F S256x256 .bf16 := (extractStridedSlice S256x256 ![0, 256] · slices_S256x512_S256x256_0_256) main_arg2
  let main_v12 : FVec F S256x256 .f32 := (extf .f32 · bitsLt_bf16_f32) main_v11
  let main_v13 : FVec F S256x256 .f32 := Host.absf main_v12
  let main_cst_2 : FVec F S_ .f32 := constant S_ .f32 0x7F800000#32
  let main_v14 : FVec F S256x256 .f32 := broadcastInDim S256x256 ![] bcast_S_S256x256 main_cst_2
  let main_v15 : IVec S256x256 1 := cmpf .olt main_v13 main_v14
  let main_c_3 : IVec S_ 1 := constantI S_ 1 1#1
  let main_v16 : IVec S_ 1 := (fun x v => Host.reduce IntOp.andi x v reducesTo_S256x256_S_d0_1 h_S_) main_v15 main_c_3
  let main_v17 : IVec S_ 1 := andi main_v10 main_v16
  fn_part1 (F := F) main_arg3 main_v17
-- ==== Pre_memrms_finite.lean ====
abbrev S256x1024 : Shape := ⟨2, ![256, 1024]⟩
abbrev S1x1024 : Shape := ⟨2, ![1, 1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S256x1024 .f32) (main_arg1 : FVec F S1x1024 .f32) (main_arg2 : FVec F S256x1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  main_v13
-- ==== Pre_qkmem_finite.lean ====
abbrev S16384x4096 : Shape := ⟨2, ![16384, 4096]⟩
abbrev S1x64 : Shape := ⟨2, ![1, 64]⟩
abbrev S16384x256 : Shape := ⟨2, ![16384, 256]⟩
abbrev S_ : Shape := ⟨0, ![]⟩

class Facts : Prop where
  slices_S16384x4096_S16384x256_0_3840 : S16384x4096.Slices ![0, 3840] S16384x256
  bitsLt_bf16_f32 : FTy.bits .bf16 < FTy.bits .f32
  bcast_S_S16384x256 : S_.BroadcastsInDim S16384x256 (![] : Fin 0 → Fin S16384x256.rank)
  reducesTo_S16384x256_S_d0_1 : S16384x256.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn {F : FTy → Type} [FloatOps F] (main_arg0 : FVec F S16384x4096 .bf16) (main_arg1 : FVec F S1x64 .f32) (main_arg2 : FVec F S16384x256 .f32) : IVec S_ 1 :=
  let main_v0 : FVec F S16384x256 .bf16 := (extractStridedSlice S16384x256 ![0, 3840] · slices_S16384x4096_S16384x256_0_3840) main_arg0
  let main_v1 : FVec F S16384x256 .f32 := (extf .f32 · bitsLt_bf16_f32) main_v0
  let main_v2 : FVec F S16384x256 .f32 := Host.absf main_v1
  let main_cst : FVec F S_ .f32 := constant S_ .f32 0x7F800000#32
  let main_v3 : FVec F S16384x256 .f32 := broadcastInDim S16384x256 ![] bcast_S_S16384x256 main_cst
  let main_v4 : IVec S16384x256 1 := cmpf .olt main_v2 main_v3
  let main_c : IVec S_ 1 := constantI S_ 1 1#1
  let main_v5 : IVec S_ 1 := (fun x v => Host.reduce IntOp.andi x v reducesTo_S16384x256_S_d0_1 h_S_) main_v4 main_c
  let main_v6 : FVec F S1x64 .f32 := Host.absf main_arg1
  let main_cst_0 : FVec F S_ .f32 := constant S_ .f32 0x7F800000#32
  let main_v7 : FVec F S1x64 .f32 := broadcastInDim S1x64 ![] bcast_S_S1x64 main_cst_0
  let main_v8 : IVec S1x64 1 := cmpf .olt main_v6 main_v7
  let main_c_1 : IVec S_ 1 := constantI S_ 1 1#1
  let main_v9 : IVec S_ 1 := (fun x v => Host.reduce IntOp.andi x v reducesTo_S1x64_S_d0_1 h_S_) main_v8 main_c_1
  let main_v10 : IVec S_ 1 := andi main_v5 main_v9
  let main_v11 : FVec F S16384x256 .f32 := Host.absf main_arg2
  let main_cst_2 : FVec F S_ .f32 := constant S_ .f32 0x7F800000#32
  let main_v12 : FVec F S16384x256 .f32 := broadcastInDim S16384x256 ![] bcast_S_S16384x256 main_cst_2
  let main_v13 : IVec S16384x256 1 := cmpf .olt main_v11 main_v12
  let main_c_3 : IVec S_ 1 := constantI S_ 1 1#1
  let main_v14 : IVec S_ 1 := (fun x v => Host.reduce IntOp.andi x v reducesTo_S16384x256_S_d0_1 h_S_) main_v13 main_c_3
  let main_v15 : IVec S_ 1 := andi main_v10 main_v14
  main_v15
-- ==== Pre_qkrope_finite.lean ====
abbrev S16384x4096 : Shape := ⟨2, ![16384, 4096]⟩
abbrev S1x64 : Shape := ⟨2, ![1, 64]⟩
abbrev S16384x256 : Shape := ⟨2, ![16384, 256]⟩
abbrev S16384x768 : Shape := ⟨2, ![16384, 768]⟩
abbrev S_ : Shape := ⟨0, ![]⟩

class Facts : Prop where
  slices_S16384x4096_S16384x768_0_1536 : S16384x4096.Slices ![0, 1536] S16384x768
  bitsLt_bf16_f32 : FTy.bits .bf16 < FTy.bits .f32
  bcast_S_S16384x768 : S_.BroadcastsInDim S16384x768 (![] : Fin 0 → Fin S16384x768.rank)
  reducesTo_S16384x768_S_d0_1 : S16384x768.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S16384x256 : S_.BroadcastsInDim S16384x256 (![] : Fin 0 → Fin S16384x256.rank)
  reducesTo_S16384x256_S_d0_1 : S16384x256.ReducesTo [0, 1] S_

variable [Facts]

def fn_part1 {F : FTy → Type} [FloatOps F] (main_arg4 : FVec F S16384x256 .f32) (main_v15 : IVec S_ 1) (main_v16 : FVec F S16384x256 .f32) (main_cst_4 : FVec F S_ .f32) : IVec S_ 1 :=
  let main_v17 : FVec F S16384x256 .f32 := broadcastInDim S16384x256 ![] bcast_S_S16384x256 main_cst_4
  let main_v18 : IVec S16384x256 1 := cmpf .olt main_v16 main_v17
  let main_c_5 : IVec S_ 1 := constantI S_ 1 1#1
  let main_v19 : IVec S_ 1 := (fun x v => Host.reduce IntOp.andi x v reducesTo_S16384x256_S_d0_1 h_S_) main_v18 main_c_5
  let main_v20 : IVec S_ 1 := andi main_v15 main_v19
  let main_v21 : FVec F S16384x256 .f32 := Host.absf main_arg4
  let main_cst_6 : FVec F S_ .f32 := constant S_ .f32 0x7F800000#32
  let main_v22 : FVec F S16384x256 .f32 := broadcastInDim S16384x256 ![] bcast_S_S16384x256 main_cst_6
  let main_v23 : IVec S16384x256 1 := cmpf .olt main_v21 main_v22
  let main_c_7 : IVec S_ 1 := constantI S_ 1 1#1
  let main_v24 : IVec S_ 1 := (fun x v => Host.reduce IntOp.andi x v reducesTo_S16384x256_S_d0_1 h_S_) main_v23 main_c_7
  let main_v25 : IVec S_ 1 := andi main_v20 main_v24
  main_v25

def fn {F : FTy → Type} [FloatOps F] (main_arg0 : FVec F S16384x4096 .bf16) (main_arg1 : FVec F S1x64 .f32) (main_arg2 : FVec F S16384x256 .f32) (main_arg3 : FVec F S16384x256 .f32) (main_arg4 : FVec F S16384x256 .f32) : IVec S_ 1 :=
  let main_v0 : FVec F S16384x768 .bf16 := (extractStridedSlice S16384x768 ![0, 1536] · slices_S16384x4096_S16384x768_0_1536) main_arg0
  let main_v1 : FVec F S16384x768 .f32 := (extf .f32 · bitsLt_bf16_f32) main_v0
  let main_v2 : FVec F S16384x768 .f32 := Host.absf main_v1
  let main_cst : FVec F S_ .f32 := constant S_ .f32 0x7F800000#32
  let main_v3 : FVec F S16384x768 .f32 := broadcastInDim S16384x768 ![] bcast_S_S16384x768 main_cst
  let main_v4 : IVec S16384x768 1 := cmpf .olt main_v2 main_v3
  let main_c : IVec S_ 1 := constantI S_ 1 1#1
  let main_v5 : IVec S_ 1 := (fun x v => Host.reduce IntOp.andi x v reducesTo_S16384x768_S_d0_1 h_S_) main_v4 main_c
  let main_v6 : FVec F S1x64 .f32 := Host.absf main_arg1
  let main_cst_0 : FVec F S_ .f32 := constant S_ .f32 0x7F800000#32
  let main_v7 : FVec F S1x64 .f32 := broadcastInDim S1x64 ![] bcast_S_S1x64 main_cst_0
  let main_v8 : IVec S1x64 1 := cmpf .olt main_v6 main_v7
  let main_c_1 : IVec S_ 1 := constantI S_ 1 1#1
  let main_v9 : IVec S_ 1 := (fun x v => Host.reduce IntOp.andi x v reducesTo_S1x64_S_d0_1 h_S_) main_v8 main_c_1
  let main_v10 : IVec S_ 1 := andi main_v5 main_v9
  let main_v11 : FVec F S16384x256 .f32 := Host.absf main_arg2
  let main_cst_2 : FVec F S_ .f32 := constant S_ .f32 0x7F800000#32
  let main_v12 : FVec F S16384x256 .f32 := broadcastInDim S16384x256 ![] bcast_S_S16384x256 main_cst_2
  let main_v13 : IVec S16384x256 1 := cmpf .olt main_v11 main_v12
  let main_c_3 : IVec S_ 1 := constantI S_ 1 1#1
  let main_v14 : IVec S_ 1 := (fun x v => Host.reduce IntOp.andi x v reducesTo_S16384x256_S_d0_1 h_S_) main_v13 main_c_3
  let main_v15 : IVec S_ 1 := andi main_v10 main_v14
  let main_v16 : FVec F S16384x256 .f32 := Host.absf main_arg3
  let main_cst_4 : FVec F S_ .f32 := constant S_ .f32 0x7F800000#32
  fn_part1 (F := F) main_arg4 main_v15 main_v16 main_cst_4
-- ==== Pre_qnf_finite.lean ====
abbrev S16384x4096 : Shape := ⟨2, ![16384, 4096]⟩
abbrev S1x64 : Shape := ⟨2, ![1, 64]⟩
abbrev S16384x256 : Shape := ⟨2, ![16384, 256]⟩
abbrev S_ : Shape := ⟨0, ![]⟩

class Facts : Prop where
  slices_S16384x4096_S16384x256_0_3840 : S16384x4096.Slices ![0, 3840] S16384x256
  bitsLt_bf16_f32 : FTy.bits .bf16 < FTy.bits .f32
  bcast_S_S16384x256 : S_.BroadcastsInDim S16384x256 (![] : Fin 0 → Fin S16384x256.rank)
  reducesTo_S16384x256_S_d0_1 : S16384x256.ReducesTo [0, 1] S_
  h_S_ : 0 < S_.numel

variable [Facts]

def fn {F : FTy → Type} [FloatOps F] (main_arg0 : FVec F S16384x4096 .bf16) (main_arg1 : FVec F S1x64 .f32) : IVec S_ 1 :=
  let main_v0 : FVec F S16384x256 .bf16 := (extractStridedSlice S16384x256 ![0, 3840] · slices_S16384x4096_S16384x256_0_3840) main_arg0
  let main_v1 : FVec F S16384x256 .f32 := (extf .f32 · bitsLt_bf16_f32) main_v0
  let main_v2 : FVec F S16384x256 .f32 := Host.absf main_v1
  let main_cst : FVec F S_ .f32 := constant S_ .f32 0x7F800000#32
  let main_v3 : FVec F S16384x256 .f32 := broadcastInDim S16384x256 ![] bcast_S_S16384x256 main_cst
  let main_v4 : IVec S16384x256 1 := cmpf .olt main_v2 main_v3
  let main_c : IVec S_ 1 := constantI S_ 1 1#1
  let main_v5 : IVec S_ 1 := (fun x v => Host.reduce IntOp.andi x v reducesTo_S16384x256_S_d0_1 h_S_) main_v4 main_c
  main_v5
-- ==== Pre_sb_finite.lean ====
abbrev S16384x4096 : Shape := ⟨2, ![16384, 4096]⟩
abbrev S16384x512 : Shape := ⟨2, ![16384, 512]⟩
abbrev S16384x1536 : Shape := ⟨2, ![16384, 1536]⟩
abbrev S_ : Shape := ⟨0, ![]⟩

class Facts : Prop where
  slices_S16384x4096_S16384x1536_0_0 : S16384x4096.Slices ![0, 0] S16384x1536
  bitsLt_bf16_f32 : FTy.bits .bf16 < FTy.bits .f32
  bcast_S_S16384x1536 : S_.BroadcastsInDim S16384x1536 (![] : Fin 0 → Fin S16384x1536.rank)
  reducesTo_S16384x1536_S_d0_1 : S16384x1536.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_

variable [Facts]

def fn {F : FTy → Type} [FloatOps F] (main_arg0 : FVec F S16384x4096 .bf16) (main_arg1 : FVec F S16384x512 .bf16) : IVec S_ 1 :=
  let main_v0 : FVec F S16384x1536 .bf16 := (extractStridedSlice S16384x1536 ![0, 0] · slices_S16384x4096_S16384x1536_0_0) main_arg0
  let main_v1 : FVec F S16384x1536 .f32 := (extf .f32 · bitsLt_bf16_f32) main_v0
  let main_v2 : FVec F S16384x1536 .f32 := Host.absf main_v1
  let main_cst : FVec F S_ .f32 := constant S_ .f32 0x7F800000#32
  let main_v3 : FVec F S16384x1536 .f32 := broadcastInDim S16384x1536 ![] bcast_S_S16384x1536 main_cst
  let main_v4 : IVec S16384x1536 1 := cmpf .olt main_v2 main_v3
  let main_c : IVec S_ 1 := constantI S_ 1 1#1
  let main_v5 : IVec S_ 1 := (fun x v => Host.reduce IntOp.andi x v reducesTo_S16384x1536_S_d0_1 h_S_) main_v4 main_c
  let main_v6 : FVec F S16384x512 .f32 := (extf .f32 · bitsLt_bf16_f32) main_arg1
  let main_v7 : FVec F S16384x512 .f32 := Host.absf main_v6
  let main_cst_0 : FVec F S_ .f32 := constant S_ .f32 0x7F800000#32
  let main_v8 : FVec F S16384x512 .f32 := broadcastInDim S16384x512 ![] bcast_S_S16384x512 main_cst_0
  let main_v9 : IVec S16384x512 1 := cmpf .olt main_v7 main_v8
  let main_c_1 : IVec S_ 1 := constantI S_ 1 1#1
  let main_v10 : IVec S_ 1 := (fun x v => Host.reduce IntOp.andi x v reducesTo_S16384x512_S_d0_1 h_S_) main_v9 main_c_1
  let main_v11 : IVec S_ 1 := andi main_v5 main_v10
  main_v11
-- ==== Pre_sbfwd_finite.lean ====
abbrev S16384x4096 : Shape := ⟨2, ![16384, 4096]⟩
abbrev S16384x1536 : Shape := ⟨2, ![16384, 1536]⟩
abbrev S_ : Shape := ⟨0, ![]⟩

class Facts : Prop where
  slices_S16384x4096_S16384x1536_0_0 : S16384x4096.Slices ![0, 0] S16384x1536
  bitsLt_bf16_f32 : FTy.bits .bf16 < FTy.bits .f32
  bcast_S_S16384x1536 : S_.BroadcastsInDim S16384x1536 (![] : Fin 0 → Fin S16384x1536.rank)
  reducesTo_S16384x1536_S_d0_1 : S16384x1536.ReducesTo [0, 1] S_
  h_S_ : 0 < S_.numel

variable [Facts]

def fn {F : FTy → Type} [FloatOps F] (main_arg0 : FVec F S16384x4096 .bf16) : IVec S_ 1 :=
  let main_v0 : FVec F S16384x1536 .bf16 := (extractStridedSlice S16384x1536 ![0, 0] · slices_S16384x4096_S16384x1536_0_0) main_arg0
  let main_v1 : FVec F S16384x1536 .f32 := (extf .f32 · bitsLt_bf16_f32) main_v0
  let main_v2 : FVec F S16384x1536 .f32 := Host.absf main_v1
  let main_cst : FVec F S_ .f32 := constant S_ .f32 0x7F800000#32
  let main_v3 : FVec F S16384x1536 .f32 := broadcastInDim S16384x1536 ![] bcast_S_S16384x1536 main_cst
  let main_v4 : IVec S16384x1536 1 := cmpf .olt main_v2 main_v3
  let main_c : IVec S_ 1 := constantI S_ 1 1#1
  let main_v5 : IVec S_ 1 := (fun x v => Host.reduce IntOp.andi x v reducesTo_S16384x1536_S_d0_1 h_S_) main_v4 main_c
  main_v5
-- ==== Merge.lean ====
abbrev S16384x3072 : Shape := ⟨2, ![16384, 3072]⟩
abbrev S1x3072 : Shape := ⟨2, ![1, 3072]⟩
abbrev S16384x1024 : Shape := ⟨2, ![16384, 1024]⟩
abbrev S512x1024 : Shape := ⟨2, ![512, 1024]⟩
abbrev S1x1024 : Shape := ⟨2, ![1, 1024]⟩
abbrev S512x3072 : Shape := ⟨2, ![512, 3072]⟩
abbrev S1024 : Shape := ⟨1, ![1024]⟩

abbrev nBuf : Space → Nat
  | .hbm => 11
  | .vmem => 26
  | .smem => 0
  | _ => 0

abbrev bufTy : (tb : Table) → Fin (tcTables nBuf tb) → BufTy
  | .hbm, ⟨0, _⟩ => ⟨S16384x3072, .bf16⟩
  | .hbm, ⟨1, _⟩ => ⟨S1x3072, .f32⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S16384x1024, .bf16⟩
  | .hbm, ⟨8, _⟩ => ⟨S16384x1024, .bf16⟩
  | .hbm, ⟨9, _⟩ => ⟨S16384x3072, .bf16⟩
  | .hbm, ⟨10, _⟩ => ⟨S1x3072, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x3072, .bf16⟩
  | .local _ .vmem, ⟨24, _⟩ => ⟨S512x3072, .bf16⟩
  | .local _ .vmem, ⟨25, _⟩ => ⟨S1x3072, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x3072 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MergeRefIdeal.lean ====
abbrev S16384x3072 : Shape := ⟨2, ![16384, 3072]⟩
abbrev S1x3072 : Shape := ⟨2, ![1, 3072]⟩
abbrev S16384x1024 : Shape := ⟨2, ![16384, 1024]⟩
abbrev S_ : Shape := ⟨0, ![]⟩
abbrev S16384x3x1024 : Shape := ⟨3, ![16384, 3, 1024]⟩
abbrev S16384x1x1024 : Shape := ⟨3, ![16384, 1, 1024]⟩
abbrev S3072 : Shape := ⟨1, ![3072]⟩

abbrev nBuf : Space → Nat
  | .hbm => 63
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S1x3072, .f32⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S16384x3072, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x3072, .f32⟩
  | .hbm, ⟨11, _⟩ => ⟨S16384x3072, .f32⟩
  | .hbm, ⟨12, _⟩ => ⟨S16384x3072, .f32⟩
  | .hbm, ⟨13, _⟩ => ⟨S16384x3072, .f32⟩
  | .hbm, ⟨14, _⟩ => ⟨S_, .f32⟩
  | .hbm, ⟨15, _⟩ => ⟨S16384x3072, .f32⟩
  | .hbm, ⟨16, _⟩ => ⟨S16384x3072, .f32⟩
  | .hbm, ⟨17, _⟩ => ⟨S_, .f32⟩
  | .hbm, ⟨18, _⟩ => ⟨S16384x3072, .f32⟩
  | .hbm, ⟨19, _⟩ => ⟨S16384x3072, .f32⟩
  | .hbm, ⟨20, _⟩ => ⟨S_, .f32⟩
  | .hbm, ⟨21, _⟩ => ⟨S16384x3072, .f32⟩
  | .hbm, ⟨22, _⟩ => ⟨S16384x3072, .f32⟩
  | .hbm, ⟨23, _⟩ => ⟨S16384x3072, .f32⟩
  | .hbm, ⟨24, _⟩ => ⟨S16384x3x1024, .f32⟩
  | .hbm, ⟨25, _⟩ => ⟨S16384x1x1024, .f32⟩
  | .hbm, ⟨26, _⟩ => ⟨S16384x1024, .f32⟩
  | .hbm, ⟨27, _⟩ => ⟨S16384x1024, .f32⟩
  | .hbm, ⟨28, _⟩ => ⟨S16384x1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1x1024, .f32⟩
  | .hbm, ⟨40, _⟩ => ⟨S_, .f32⟩
  | .hbm, ⟨41, _⟩ => ⟨S16384x3x1024, .f32⟩
  | .hbm, ⟨42, _⟩ => ⟨S16384x1024, .f32⟩
  | .hbm, ⟨43, _⟩ => ⟨S16384x1024, .f32⟩
  | .hbm, ⟨44, _⟩ => ⟨S16384x1x1024, .f32⟩
  | .hbm, ⟨45, _⟩ => ⟨S_, .f32⟩
  | .hbm, ⟨46, _⟩ => ⟨S16384x3x1024, .f32⟩
  | .hbm, ⟨47, _⟩ => ⟨S16384x3x1024, .f32⟩
  | .hbm, ⟨48, _⟩ => ⟨S16384x1024, .f32⟩
  | .hbm, ⟨49, _⟩ => ⟨S16384x1024, .f32⟩
  | .hbm, ⟨50, _⟩ => ⟨S16384x1x1024, .f32⟩
  | .hbm, ⟨51, _⟩ => ⟨S_, .f32⟩
  | .hbm, ⟨52, _⟩ => ⟨S16384x3x1024, .f32⟩
  | .hbm, ⟨53, _⟩ => ⟨S16384x3x1024, .f32⟩
  | .hbm, ⟨54, _⟩ => ⟨S16384x3072, .f32⟩
  | .hbm, ⟨55, _⟩ => ⟨S16384x3072, .f32⟩
  | .hbm, ⟨56, _⟩ => ⟨S_, .f32⟩
  | .hbm, ⟨57, _⟩ => ⟨S3072, .f32⟩
  | .hbm, ⟨58, _⟩ => ⟨S1x3072, .f32⟩
  | .hbm, ⟨59, _⟩ => ⟨S16384x1024, .bf16⟩
  | .hbm, ⟨60, _⟩ => ⟨S16384x1024, .bf16⟩
  | .hbm, ⟨61, _⟩ => ⟨S16384x1024, .bf16⟩
  | .hbm, ⟨62, _⟩ => ⟨S16384x3072, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]
-- ==== Sb.lean ====
abbrev S16384x4096 : Shape := ⟨2, ![16384, 4096]⟩
abbrev S16384x512 : Shape := ⟨2, ![16384, 512]⟩
abbrev S16384x1536 : Shape := ⟨2, ![16384, 1536]⟩
abbrev S16384x8x64 : Shape := ⟨3, ![16384, 8, 64]⟩
abbrev S8x16384x64 : Shape := ⟨3, ![8, 16384, 64]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S256x128 : Shape := ⟨2, ![256, 128]⟩
abbrev S16384x128 : Shape := ⟨2, ![16384, 128]⟩
abbrev S2 : Shape := ⟨1, ![2]⟩
abbrev S512x128 : Shape := ⟨2, ![512, 128]⟩
abbrev S512 : Shape := ⟨1, ![512]⟩
abbrev S512x1 : Shape := ⟨2, ![512, 1]⟩
abbrev S128x128 : Shape := ⟨2, ![128, 128]⟩
abbrev S512x256 : Shape := ⟨2, ![512, 256]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 79
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S16384x512, .bf16⟩
  | .hbm, ⟨2, _⟩ => ⟨S16384x1536, .bf16⟩
  | .hbm, ⟨3, _⟩ => ⟨S16384x1536, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x8x64, .f32⟩
  | .hbm, ⟨8, _⟩ => ⟨S8x16384x64, .f32⟩
  | .hbm, ⟨9, _⟩ => ⟨S16384x8x64, .f32⟩
  | .hbm, ⟨10, _⟩ => ⟨S8x16384x64, .f32⟩
  | .hbm, ⟨11, _⟩ => ⟨S16384x8x64, .f32⟩
  | .hbm, ⟨12, _⟩ => ⟨S8x16384x64, .f32⟩
  | .hbm, ⟨13, _⟩ => ⟨S8x16384x16384, .f32⟩
  | .hbm, ⟨14, _⟩ => ⟨S_, .f32⟩
  | .hbm, ⟨15, _⟩ => ⟨S8x16384x16384, .f32⟩
  | .hbm, ⟨16, _⟩ => ⟨S8x16384x16384, .f32⟩
  | .hbm, ⟨17, _⟩ => ⟨S16384, .i32⟩
  | .hbm, ⟨18, _⟩ => ⟨S1x16384, .i32⟩
  | .hbm, ⟨19, _⟩ => ⟨S16384, .i32⟩
  | .hbm, ⟨20, _⟩ => ⟨S16384x1, .i32⟩
  | .hbm, ⟨21, _⟩ => ⟨S16384x16384, .i32⟩
  | .hbm, ⟨22, _⟩ => ⟨S16384x16384, .i32⟩
  | .hbm, ⟨23, _⟩ => ⟨S16384x16384, .i1⟩
  | .hbm, ⟨24, _⟩ => ⟨S8x16384x16384, .f32⟩
  | .hbm, ⟨25, _⟩ => ⟨S8x16384x16384, .f32⟩
  | .hbm, ⟨26, _⟩ => ⟨S_, .f32⟩
  | .hbm, ⟨27, _⟩ => ⟨S8x16384x16384, .f32⟩
  | .hbm, ⟨28, _⟩ => ⟨S8x16384x16384, .f32⟩
  | .hbm, ⟨29, _⟩ => ⟨S8x16384x16384, .f32⟩
  | .hbm, ⟨30, _⟩ => ⟨S8x16384x16384, .f32⟩
  | .hbm, ⟨31, _⟩ => ⟨S8x16384x16384, .i1⟩
  | .hbm, ⟨32, _⟩ => ⟨S8x16384x16384, .f32⟩
  | .hbm, ⟨33, _⟩ => ⟨S8x16384x16384, .f32⟩
  | .hbm, ⟨34, _⟩ => ⟨S8x16384x16384, .f32⟩
  | .hbm, ⟨35, _⟩ => ⟨S8x16384x16384, .f32⟩
  | .hbm, ⟨36, _⟩ => ⟨S8x16384x16384, .f32⟩
  | .hbm, ⟨37, _⟩ => ⟨S8x16384x16384, .f32⟩
  | .hbm, ⟨38, _⟩ => ⟨S8x16384x16384, .f32⟩
  | .hbm, ⟨39, _⟩ => ⟨S8x16384x16384, .f32⟩
  | .hbm, ⟨40, _⟩ => ⟨S8x16384x16384, .f32⟩
  | .hbm, ⟨41, _⟩ => ⟨S_, .f32⟩
  | .hbm, ⟨42, _⟩ => ⟨S_, .f32⟩
  | .hbm, ⟨43, _⟩ => ⟨S8x16384x16384, .i1⟩
  | .hbm, ⟨44, _⟩ => ⟨S8x16384x16384, .f32⟩
  | .hbm, ⟨45, _⟩ => ⟨S8x16384x16384, .f32⟩
  | .hbm, ⟨46, _⟩ => ⟨S_, .f32⟩
  | .hbm, ⟨47, _⟩ => ⟨S_, .f32⟩
  | .hbm, ⟨48, _⟩ => ⟨S8x16384x16384, .f32⟩
  | .hbm, ⟨49, _⟩ => ⟨S8x16384x16384, .f32⟩
  | .hbm, ⟨50, _⟩ => ⟨S8x16384x16384, .f32⟩
  | .hbm, ⟨51, _⟩ => ⟨S_, .f32⟩
  | .hbm, ⟨52, _⟩ => ⟨S8x16384x16384, .f32⟩
  | .hbm, ⟨53, _⟩ => ⟨S8x16384x16384, .f32⟩
  | .hbm, ⟨54, _⟩ => ⟨S8x16384x16384, .f32⟩
  | .hbm, ⟨55, _⟩ => ⟨S8x16384x16384, .f32⟩
  | .hbm, ⟨56, _⟩ => ⟨S8x16384x16384, .i1⟩
  | .hbm, ⟨57, _⟩ => ⟨S8x16384x16384, .f32⟩
  | .hbm, ⟨58, _⟩ => ⟨S8x16384x16384, .f32⟩
  | .hbm, ⟨59, _⟩ => ⟨S8x16384x16384, .f32⟩
  | .hbm, ⟨60, _⟩ => ⟨S8x16384x16384, .f32⟩
  | .hbm, ⟨61, _⟩ => ⟨S8x16384x16384, .f32⟩
  | .hbm, ⟨62, _⟩ => ⟨S8x16384x16384, .f32⟩
  | .hbm, ⟨63, _⟩ => ⟨S8x16384x16384, .f32⟩
  | .hbm, ⟨64, _⟩ => ⟨S8x16384x16384, .f32⟩
  | .hbm, ⟨65, _⟩ => ⟨S8x16384x16384, .f32⟩
  | .hbm, ⟨66, _⟩ => ⟨S8x16384x16384, .f32⟩
  | .hbm, ⟨67, _⟩ => ⟨S8x16384x16384, .f32⟩
  | .hbm, ⟨68, _⟩ => ⟨S_, .f32⟩
  | .hbm, ⟨69, _⟩ => ⟨S_, .f32⟩
  | .hbm, ⟨70, _⟩ => ⟨S8x16384x16384, .i1⟩
  | .hbm, ⟨71, _⟩ => ⟨S8x16384x16384, .f32⟩
  | .hbm, ⟨72, _⟩ => ⟨S8x16384x16384, .f32⟩
  | .hbm, ⟨73, _⟩ => ⟨S8x16384x64, .f32⟩
  | .hbm, ⟨74, _⟩ => ⟨S16384x8x64, .f32⟩
  | .hbm, ⟨75, _⟩ => ⟨S16384x512, .f32⟩
  | .hbm, ⟨76, _⟩ => ⟨S16384x512, .bf16⟩
  | .hbm, ⟨77, _⟩ => ⟨S16384x512, .f32⟩
  | .hbm, ⟨78, _⟩ => ⟨S16384x512, .f32⟩
  | .local _ .vmem, ⟨0, _⟩ => ⟨S256x128, .bf16⟩
  | .local _ .vmem, ⟨1, _⟩ => ⟨S256x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S256x128, .f32⟩
  | .local _ .vmem, ⟨7, _⟩ => ⟨S256x128, .f32⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S16384x128, .f32⟩
  | .local _ .vmem, ⟨13, _⟩ => ⟨S16384x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v22 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v23 : Ref sig .tc := ⟨.hbm, 45, rfl⟩
abbrev main_call2_cst : Ref sig .tc := ⟨.hbm, 46, rfl⟩
abbrev main_call2_v0 : Ref sig .tc := ⟨.hbm, 47, rfl⟩
abbrev main_v24 : Ref sig .tc := ⟨.hbm, 48, rfl⟩
abbrev main_v25 : Ref sig .tc := ⟨.hbm, 49, rfl⟩
abbrev main_call3_v0 : Ref sig .tc := ⟨.hbm, 50, rfl⟩
abbrev main_call3_call0_cst : Ref sig .tc := ⟨.hbm, 51, rfl⟩
abbrev main_call3_call0_v0 : Ref sig .tc := ⟨.hbm, 52, rfl⟩
abbrev main_call3_call0_v1 : Ref sig .tc := ⟨.hbm, 53, rfl⟩
abbrev main_call3_call0_v2 : Ref sig .tc := ⟨.hbm, 54, rfl⟩
abbrev main_call3_call0_v3 : Ref sig .tc := ⟨.hbm, 55, rfl⟩
abbrev main_call3_call0_v4 : Ref sig .tc := ⟨.hbm, 56, rfl⟩
abbrev main_call3_call0_v5 : Ref sig .tc := ⟨.hbm, 57, rfl⟩
abbrev main_call3_call0_v6 : Ref sig .tc := ⟨.hbm, 58, rfl⟩
abbrev main_call3_call0_v7 : Ref sig .tc := ⟨.hbm, 59, rfl⟩
abbrev main_call3_call0_v8 : Ref sig .tc := ⟨.hbm, 60, rfl⟩
abbrev main_call3_call0_v9 : Ref sig .tc := ⟨.hbm, 61, rfl⟩
abbrev main_call3_call0_v10 : Ref sig .tc := ⟨.hbm, 62, rfl⟩
abbrev main_call3_call0_v11 : Ref sig .tc := ⟨.hbm, 63, rfl⟩
abbrev main_call3_v1 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_1 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33_0 : Ref sig .tc := ⟨.hbm, 76, rfl⟩
abbrev main_v33_1 : Ref sig .tc := ⟨.hbm, 77, rfl⟩
abbrev main_v33_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 64], ![false, false]⟩

def k0_mult1 (i : grid0.Coords) : BitVec 32 :=
  let arg1 : BitVec 32 := BitVec.ofNat 32 (i 1).val
  let c2_i32 : BitVec 32 := 2#32
  let v90 : BitVec 32 := Scalar.muli arg1 c2_i32
  let c1_i32_29 : BitVec 32 := 1#32
  let v91 : BitVec 32 := Scalar.addi v90 c1_i32_29
  let c128_i32_30 : BitVec 32 := 128#32
  let v92 : BitVec 32 := Scalar.muli v91 c128_i32_30
  v92
def k0_off1 (i : grid0.Coords) (c1_i32_29 : BitVec 32) : Fin 2 → Nat :=
  let arg1 : BitVec 32 := BitVec.ofNat 32 (i 1).val
  let c2_i32 : BitVec 32 := 2#32
  let v90 : BitVec 32 := Scalar.muli arg1 c2_i32
  let v91 : BitVec 32 := Scalar.addi v90 c1_i32_29
  let c128_i32_30 : BitVec 32 := 128#32
  let v92 : BitVec 32 := Scalar.muli v91 c128_i32_30
  let v93 : BitVec 32 := v92
  let v94 : Index := Scalar.indexCast v93
  let c0_31 : Index := 0#32
  ![v94.toNat, 0]
def k0_mult2 (i : grid0.Coords) : BitVec 32 :=
  let arg1 : BitVec 32 := BitVec.ofNat 32 (i 1).val
  let c2_i32_59 : BitVec 32 := 2#32
  let v185 : BitVec 32 := Scalar.muli arg1 c2_i32_59
  let c0_i32_60 : BitVec 32 := 0#32
  let v186 : BitVec 32 := Scalar.addi v185 c0_i32_60
  let c128_i32_61 : BitVec 32 := 128#32
  let v187 : BitVec 32 := Scalar.muli v186 c128_i32_61
  v187
def k0_mult3 (arg13 : BitVec 32) : BitVec 32 :=
  let c128_i32_96 : BitVec 32 := 128#32
  let v291 : BitVec 32 := Scalar.muli arg13 c128_i32_96
  v291

def k0_off2 (arg13 : BitVec 32) : Fin 2 → Nat :=
  let c128_i32_96 : BitVec 32 := 128#32
  let v291 : BitVec 32 := Scalar.muli arg13 c128_i32_96
  let v292 : BitVec 32 := v291
  let v293 : Index := Scalar.indexCast v292
  let c0_97 : Index := 0#32
  ![v293.toNat, 0]

def k0_chk1 (arg13 : BitVec 32) : Prop :=
  (128 ∣ (k0_mult3 arg13).toNat) ∧
  (∀ a, (k0_off2 arg13) a + S128x128.size a ≤ S16384x128.size a)
theorem k0_mult3_dvd : ∀ (arg13 : BitVec 32) (k0_hw1 : k0_chk1 arg13), 128 ∣ (k0_mult3 arg13).toNat := fun arg13 k0_hw1 => k0_hw1.1
theorem k0_off2_inb : ∀ (arg13 : BitVec 32) (k0_hw1 : k0_chk1 arg13), ∀ a, (k0_off2 arg13) a + S128x128.size a ≤ S16384x128.size a := fun arg13 k0_hw1 => k0_hw1.2

def k0_cond2 (i : grid0.Coords) : BitVec 1 :=
  let arg1 : BitVec 32 := BitVec.ofNat 32 (i 1).val
  let c63_i32 : BitVec 32 := 63#32
  let v288 : BitVec 1 := Scalar.cmpi .eq arg1 c63_i32
  let v289 : BitVec 32 := Scalar.extui v288
  let c0_i32_95 : BitVec 32 := 0#32
  let v290 : BitVec 1 := Scalar.cmpi .ne v289 c0_i32_95
  v290

def k0_mult4 (i : grid0.Coords) : BitVec 32 :=
  let arg0 : BitVec 32 := BitVec.ofNat 32 (i 0).val
  let c128_i32_96 : BitVec 32 := 128#32
  let v291 : BitVec 32 := Scalar.muli arg0 c128_i32_96
  v291
def k0_off3 (i : grid0.Coords) : Fin 2 → Nat :=
  let c0_i32_98 : BitVec 32 := 0#32
  let arg0 : BitVec 32 := BitVec.ofNat 32 (i 0).val
  let c128_i32_96 : BitVec 32 := 128#32
  let v291 : BitVec 32 := Scalar.muli arg0 c128_i32_96
  let v292 : BitVec 32 := v291
  ![0, v292.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SbIdeal.lean ====
variable {F : FTy → Type} [FloatOps F] [Named F]
def κ : String → Option EReal := fun
  | "dead" => some ⊥
  | "log2e" => some (((Real.log 2)⁻¹ : ℝ) : EReal)
  | "scale_log2e" => some (((Real.log 256)⁻¹ : ℝ) : EReal)
  | _ => none
-- ==== SbRefIdeal.lean ====
abbrev S16384x4096 : Shape := ⟨2, ![16384, 4096]⟩
abbrev S16384x512 : Shape := ⟨2, ![16384, 512]⟩
abbrev S16384x1536 : Shape := ⟨2, ![16384, 1536]⟩
abbrev S16384x8x64 : Shape := ⟨3, ![16384, 8, 64]⟩
abbrev S8x16384x64 : Shape := ⟨3, ![8, 16384, 64]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x64x16384 : Shape := ⟨3, ![8, 64, 16384]⟩

abbrev nBuf : Space → Nat
  | .hbm => 182
  | .vmem => 0
  | .smem => 0
  | _ => 0

abbrev hbmTy0_0 (i : Nat) : BufTy := match i % 128 with
  | 0 => ⟨S16384x4096, .bf16⟩
  | 1 => ⟨S16384x512, .bf16⟩
  | 2 => ⟨S16384x1536, .bf16⟩
  | 3 => ⟨S16384x1536, .f32⟩
  | 4 => ⟨S16384x512, .f32⟩
  | 5 => ⟨S16384x512, .f32⟩
  | 6 => ⟨S16384x512, .f32⟩
  | 7 => ⟨S16384x8x64, .f32⟩
  | 8 => ⟨S8x16384x64, .f32⟩
  | 9 => ⟨S16384x8x64, .f32⟩
  | 10 => ⟨S8x16384x64, .f32⟩
  | 11 => ⟨S16384x8x64, .f32⟩
  | 12 => ⟨S8x16384x64, .f32⟩
  | 13 => ⟨S8x16384x16384, .f32⟩
  | 14 => ⟨S_, .f32⟩
  | 15 => ⟨S8x16384x16384, .f32⟩
  | 16 => ⟨S8x16384x16384, .f32⟩
  | 17 => ⟨S16384, .i32⟩
  | 18 => ⟨S1x16384, .i32⟩
  | 19 => ⟨S16384, .i32⟩
  | 20 => ⟨S16384x1, .i32⟩
  | 21 => ⟨S16384x16384, .i32⟩
  | 22 => ⟨S16384x16384, .i32⟩
  | 23 => ⟨S16384x16384, .i1⟩
  | 24 => ⟨S8x16384x16384, .f32⟩
  | 25 => ⟨S8x16384x16384, .f32⟩
  | 26 => ⟨S_, .f32⟩
  | 27 => ⟨S8x16384x16384, .f32⟩
  | 28 => ⟨S8x16384x16384, .f32⟩
  | 29 => ⟨S8x16384x16384, .f32⟩
  | 30 => ⟨S8x16384x16384, .f32⟩
  | 31 => ⟨S8x16384x16384, .i1⟩
  | 32 => ⟨S8x16384x16384, .f32⟩
  | 33 => ⟨S8x16384x16384, .f32⟩
  | 34 => ⟨S8x16384x16384, .f32⟩
  | 35 => ⟨S8x16384x16384, .f32⟩
  | 36 => ⟨S8x16384x16384, .f32⟩
  | 37 => ⟨S8x16384x16384, .f32⟩
  | 38 => ⟨S8x16384x16384, .f32⟩
  | 39 => ⟨S8x16384x16384, .f32⟩
  | 40 => ⟨S_, .f32⟩
  | 41 => ⟨S8x16384x16384, .f32⟩
  | 42 => ⟨S8x16384x16384, .i1⟩
  | 43 => ⟨S_, .f32⟩
  | 44 => ⟨S8x16384x16384, .f32⟩
  | 45 => ⟨S8x16384x16384, .f32⟩
  | 46 => ⟨S_, .f32⟩
  | 47 => ⟨S8x16384x16384, .f32⟩
  | 48 => ⟨S8x16384x16384, .i1⟩
  | 49 => ⟨S_, .f32⟩
  | 50 => ⟨S8x16384x16384, .f32⟩
  | 51 => ⟨S8x16384x16384, .f32⟩
  | 52 => ⟨S8x16384x16384, .f32⟩
  | 53 => ⟨S8x16384x16384, .f32⟩
  | 54 => ⟨S_, .f32⟩
  | 55 => ⟨S_, .f32⟩
  | 56 => ⟨S_, .i1⟩
  | 57 => ⟨S_, .f32⟩
  | 58 => ⟨S_, .f32⟩
  | 59 => ⟨S_, .f32⟩
  | 60 => ⟨S_, .f32⟩
  | 61 => ⟨S8x16384x16384, .f32⟩
  | 62 => ⟨S8x16384x16384, .i1⟩
  | 63 => ⟨S_, .f32⟩
  | 64 => ⟨S8x16384x16384, .f32⟩
  | 65 => ⟨S8x16384x16384, .f32⟩
  | 66 => ⟨S8x16384x16384, .f32⟩
  | 67 => ⟨S8x16384x16384, .f32⟩
  | 68 => ⟨S8x16384x16384, .f32⟩
  | 69 => ⟨S_, .f32⟩
  | 70 => ⟨S8x16384x16384, .f32⟩
  | 71 => ⟨S8x16384x16384, .f32⟩
  | 72 => ⟨S8x16384x16384, .f32⟩
  | 73 => ⟨S_, .f32⟩
  | 74 => ⟨S_, .f32⟩
  | 75 => ⟨S8x16384x16384, .i1⟩
  | 76 => ⟨S8x16384x16384, .f32⟩
  | 77 => ⟨S8x16384x16384, .f32⟩
  | 78 => ⟨S_, .f32⟩
  | 79 => ⟨S8x16384x16384, .f32⟩
  | 80 => ⟨S_, .f32⟩
  | 81 => ⟨S_, .f32⟩
  | 82 => ⟨S8x16384x16384, .f32⟩
  | 83 => ⟨S8x16384x16384, .f32⟩
  | 84 => ⟨S8x16384x16384, .f32⟩
  | 85 => ⟨S_, .f32⟩
  | 86 => ⟨S8x16384x16384, .f32⟩
  | 87 => ⟨S8x16384x16384, .f32⟩
  | 88 => ⟨S8x16384x16384, .f32⟩
  | 89 => ⟨S8x16384x16384, .f32⟩
  | 90 => ⟨S8x16384x16384, .i1⟩
  | 91 => ⟨S8x16384x16384, .f32⟩
  | 92 => ⟨S8x16384x16384, .f32⟩
  | 93 => ⟨S8x16384x16384, .f32⟩
  | 94 => ⟨S8x16384x16384, .f32⟩
  | 95 => ⟨S8x16384x16384, .f32⟩
  | 96 => ⟨S8x16384x16384, .f32⟩
  | 97 => ⟨S8x16384x16384, .f32⟩
  | 98 => ⟨S8x16384x16384, .f32⟩
  | 99 => ⟨S_, .f32⟩
  | 100 => ⟨S8x16384x16384, .f32⟩
  | 101 => ⟨S8x16384x16384, .i1⟩
  | 102 => ⟨S_, .f32⟩
  | 103 => ⟨S8x16384x16384, .f32⟩
  | 104 => ⟨S8x16384x16384, .f32⟩
  | 105 => ⟨S_, .f32⟩
  | 106 => ⟨S8x16384x16384, .f32⟩
  | 107 => ⟨S8x16384x16384, .i1⟩
  | 108 => ⟨S_, .f32⟩
  | 109 => ⟨S8x16384x16384, .f32⟩
  | 110 => ⟨S8x16384x16384, .f32⟩
  | 111 => ⟨S8x16384x16384, .f32⟩
  | 112 => ⟨S8x16384x16384, .f32⟩
  | 113 => ⟨S_, .f32⟩
  | 114 => ⟨S_, .f32⟩
  | 115 => ⟨S_, .i1⟩
  | 116 => ⟨S_, .f32⟩
  | 117 => ⟨S_, .f32⟩
  | 118 => ⟨S_, .f32⟩
  | 119 => ⟨S_, .f32⟩
  | 120 => ⟨S8x16384x16384, .f32⟩
  | 121 => ⟨S8x16384x16384, .i1⟩
  | 122 => ⟨S_, .f32⟩
  | 123 => ⟨S8x16384x16384, .f32⟩
  | 124 => ⟨S8x16384x16384, .f32⟩
  | 125 => ⟨S8x16384x16384, .f32⟩
  | 126 => ⟨S8x16384x16384, .f32⟩
  | 127 => ⟨S8x16384x16384, .f32⟩
  | _ => ⟨S16384x4096, .bf16⟩

abbrev hbmTy0_1 (i : Nat) : BufTy := match i % 128 with
  | 0 => ⟨S_, .f32⟩
  | 1 => ⟨S8x16384x16384, .f32⟩
  | 2 => ⟨S8x16384x16384, .f32⟩
  | 3 => ⟨S8x16384x16384, .f32⟩
  | 4 => ⟨S8x16384x16384, .f32⟩
  | 5 => ⟨S8x16384x16384, .f32⟩
  | 6 => ⟨S_, .f32⟩
  | 7 => ⟨S_, .f32⟩
  | 8 => ⟨S8x16384x16384, .i1⟩
  | 9 => ⟨S8x16384x16384, .f32⟩
  | 10 => ⟨S8x16384x16384, .f32⟩
  | 11 => ⟨S_, .f32⟩
  | 12 => ⟨S8x16384x16384, .f32⟩
  | 13 => ⟨S8x16384x64, .f32⟩
  | 14 => ⟨S16384x8x64, .f32⟩
  | 15 => ⟨S16384x512, .f32⟩
  | 16 => ⟨S16384x512, .f32⟩
  | 17 => ⟨S16384x8x64, .f32⟩
  | 18 => ⟨S8x16384x64, .f32⟩
  | 19 => ⟨S8x64x16384, .f32⟩
  | 20 => ⟨S8x16384x64, .f32⟩
  | 21 => ⟨S8x16384x16384, .f32⟩
  | 22 => ⟨S_, .f32⟩
  | 23 => ⟨S8x16384x16384, .f32⟩
  | 24 => ⟨S8x16384x16384, .f32⟩
  | 25 => ⟨S8x16384x16384, .f32⟩
  | 26 => ⟨S8x16384x16384, .f32⟩
  | 27 => ⟨S8x16384x16384, .f32⟩
  | 28 => ⟨S8x16384x16384, .f32⟩
  | 29 => ⟨S8x16384x16384, .f32⟩
  | 30 => ⟨S_, .f32⟩
  | 31 => ⟨S_, .f32⟩
  | 32 => ⟨S8x16384x16384, .f32⟩
  | 33 => ⟨S8x16384x16384, .f32⟩
  | 34 => ⟨S_, .f32⟩
  | 35 => ⟨S8x16384x16384, .f32⟩
  | 36 => ⟨S8x16384x16384, .f32⟩
  | 37 => ⟨S8x16384x16384, .f32⟩
  | 38 => ⟨S8x16384x16384, .f32⟩
  | 39 => ⟨S8x16384x16384, .f32⟩
  | 40 => ⟨S8x16384x16384, .f32⟩
  | 41 => ⟨S8x16384x16384, .f32⟩
  | 42 => ⟨S_, .f32⟩
  | 43 => ⟨S8x16384x16384, .f32⟩
  | 44 => ⟨S8x16384x16384, .f32⟩
  | 45 => ⟨S8x16384x64, .f32⟩
  | 46 => ⟨S8x16384x64, .f32⟩
  | 47 => ⟨S16384x8x64, .f32⟩
  | 48 => ⟨S16384x512, .f32⟩
  | 49 => ⟨S16384x8x64, .f32⟩
  | 50 => ⟨S16384x512, .f32⟩
  | 51 => ⟨S16384x8x64, .f32⟩
  | 52 => ⟨S16384x512, .f32⟩
  | 53 => ⟨S16384x512, .bf16⟩
  | _ => ⟨S16384x4096, .bf16⟩

abbrev hbmTy (i : Nat) : BufTy := match i / 128 with
  | 0 => hbmTy0_0 i
  | 1 => hbmTy0_1 i
  | _ => ⟨S16384x4096, .bf16⟩

abbrev bufTy : (tb : Table) → Fin (tcTables nBuf tb) → BufTy
  | .hbm, ⟨i, _⟩ => hbmTy i
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1_0 : Ref sig .tc := ⟨.hbm, 39, rfl⟩
abbrev main_call0_call0_cst_0 : Ref sig .tc := ⟨.hbm, 40, rfl⟩
abbrev main_call0_call0_v13 : Ref sig .tc := ⟨.hbm, 41, rfl⟩
abbrev main_call0_call0_v14 : Ref sig .tc := ⟨.hbm, 42, rfl⟩
abbrev main_call0_call0_cst_1 : Ref sig .tc := ⟨.hbm, 43, rfl⟩
abbrev main_call0_call0_v15 : Ref sig .tc := ⟨.hbm, 44, rfl⟩
abbrev main_call0_call0_v16 : Ref sig .tc := ⟨.hbm, 45, rfl⟩
abbrev main_call0_call0_cst_2 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_cst_3 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_v21 : Ref sig .tc := ⟨.hbm, 52, rfl⟩
abbrev main_v22_1 : Ref sig .tc := ⟨.hbm, 53, rfl⟩
abbrev main_call0_call0_cst_4 : Ref sig .tc := ⟨.hbm, 54, rfl⟩
abbrev main_call0_call0_cst_5 : Ref sig .tc := ⟨.hbm, 55, rfl⟩
abbrev main_call0_call0_v23 : Ref sig .tc := ⟨.hbm, 56, rfl⟩
abbrev main_call0_call0_cst_6 : Ref sig .tc := ⟨.hbm, 57, rfl⟩
abbrev main_call0_call0_cst_7 : Ref sig .tc := ⟨.hbm, 58, rfl⟩
abbrev main_call0_call0_v24 : Ref sig .tc := ⟨.hbm, 59, rfl⟩
abbrev main_call0_call0_cst_8 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_cst_9 : Ref sig .tc := ⟨.hbm, 63, rfl⟩
abbrev main_call0_call0_v27 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_cst_10 : Ref sig .tc := ⟨.hbm, 69, rfl⟩
abbrev main_call0_call0_v32 : Ref sig .tc := ⟨.hbm, 70, rfl⟩
abbrev main_v22_2 : Ref sig .tc := ⟨.hbm, 71, rfl⟩
abbrev main_v22_0 : Ref sig .tc := ⟨.hbm, 72, rfl⟩
abbrev main_cst_0 : Ref sig .tc := ⟨.hbm, 73, rfl⟩
abbrev main_call1_v0 : Ref sig .tc := ⟨.hbm, 74, rfl⟩
abbrev main_v23_1 : Ref sig .tc := ⟨.hbm, 75, rfl⟩
abbrev main_call1_v2 : Ref sig .tc := ⟨.hbm, 76, rfl⟩
abbrev main_v23_0 : Ref sig .tc := ⟨.hbm, 77, rfl⟩
abbrev main_call1_cst : Ref sig .tc := ⟨.hbm, 78, rfl⟩
abbrev main_v23_2 : Ref sig .tc := ⟨.hbm, 79, rfl⟩
abbrev main_call2_cst : Ref sig .tc := ⟨.hbm, 80, rfl⟩
abbrev main_call2_v0 : Ref sig .tc := ⟨.hbm, 81, rfl⟩
abbrev main_v24 : Ref sig .tc := ⟨.hbm, 82, rfl⟩
abbrev main_v25 : Ref sig .tc := ⟨.hbm, 83, rfl⟩
abbrev main_call3_v0 : Ref sig .tc := ⟨.hbm, 84, rfl⟩
abbrev main_call3_call0_cst : Ref sig .tc := ⟨.hbm, 85, rfl⟩
abbrev main_call3_call0_v0 : Ref sig .tc := ⟨.hbm, 86, rfl⟩
abbrev main_call3_call0_v1 : Ref sig .tc := ⟨.hbm, 87, rfl⟩
abbrev main_call3_call0_v2 : Ref sig .tc := ⟨.hbm, 88, rfl⟩
abbrev main_call3_call0_v3 : Ref sig .tc := ⟨.hbm, 89, rfl⟩
abbrev main_call3_call0_v4 : Ref sig .tc := ⟨.hbm, 90, rfl⟩
abbrev main_call3_call0_v5 : Ref sig .tc := ⟨.hbm, 91, rfl⟩
abbrev main_call3_call0_v6 : Ref sig .tc := ⟨.hbm, 92, rfl⟩
abbrev main_call3_call0_v7 : Ref sig .tc := ⟨.hbm, 93, rfl⟩
abbrev main_call3_call0_v8 : Ref sig .tc := ⟨.hbm, 94, rfl⟩
abbrev main_call3_call0_v9 : Ref sig .tc := ⟨.hbm, 95, rfl⟩
abbrev main_call3_call0_v10 : Ref sig .tc := ⟨.hbm, 96, rfl⟩
abbrev main_call3_call0_v11 : Ref sig .tc := ⟨.hbm, 97, rfl⟩
abbrev main_call3_v1_0 : Ref sig .tc := ⟨.hbm, 98, rfl⟩
abbrev main_call3_call0_cst_0 : Ref sig .tc := ⟨.hbm, 99, rfl⟩
abbrev main_call3_call0_v13 : Ref sig .tc := ⟨.hbm, 100, rfl⟩
abbrev main_call3_call0_v14 : Ref sig .tc := ⟨.hbm, 101, rfl⟩
abbrev main_call3_call0_cst_1 : Ref sig .tc := ⟨.hbm, 102, rfl⟩
abbrev main_call3_call0_v15 : Ref sig .tc := ⟨.hbm, 103, rfl⟩
abbrev main_call3_call0_v16 : Ref sig .tc := ⟨.hbm, 104, rfl⟩
abbrev main_call3_call0_cst_2 : Ref sig .tc := ⟨.hbm, 105, rfl⟩
abbrev main_call3_call0_v17 : Ref sig .tc := ⟨.hbm, 106, rfl⟩
abbrev main_call3_call0_v18 : Ref sig .tc := ⟨.hbm, 107, rfl⟩
abbrev main_call3_call0_cst_3 : Ref sig .tc := ⟨.hbm, 108, rfl⟩
abbrev main_call3_call0_v19 : Ref sig .tc := ⟨.hbm, 109, rfl⟩
abbrev main_call3_call0_v20 : Ref sig .tc := ⟨.hbm, 110, rfl⟩
abbrev main_call3_call0_v21 : Ref sig .tc := ⟨.hbm, 111, rfl⟩
abbrev main_v26_1 : Ref sig .tc := ⟨.hbm, 112, rfl⟩
abbrev main_call3_call0_cst_4 : Ref sig .tc := ⟨.hbm, 113, rfl⟩
abbrev main_call3_call0_cst_5 : Ref sig .tc := ⟨.hbm, 114, rfl⟩
abbrev main_call3_call0_v23 : Ref sig .tc := ⟨.hbm, 115, rfl⟩
abbrev main_call3_call0_cst_6 : Ref sig .tc := ⟨.hbm, 116, rfl⟩
abbrev main_call3_call0_cst_7 : Ref sig .tc := ⟨.hbm, 117, rfl⟩
abbrev main_call3_call0_v24 : Ref sig .tc := ⟨.hbm, 118, rfl⟩
abbrev main_call3_call0_cst_8 : Ref sig .tc := ⟨.hbm, 119, rfl⟩
abbrev main_call3_call0_v25 : Ref sig .tc := ⟨.hbm, 120, rfl⟩
abbrev main_call3_call0_v26 : Ref sig .tc := ⟨.hbm, 121, rfl⟩
abbrev main_call3_call0_cst_9 : Ref sig .tc := ⟨.hbm, 122, rfl⟩
abbrev main_call3_call0_v27 : Ref sig .tc := ⟨.hbm, 123, rfl⟩
abbrev main_call3_call0_v28 : Ref sig .tc := ⟨.hbm, 124, rfl⟩
abbrev main_call3_call0_v29 : Ref sig .tc := ⟨.hbm, 125, rfl⟩
abbrev main_call3_call0_v30 : Ref sig .tc := ⟨.hbm, 126, rfl⟩
abbrev main_call3_call0_v31 : Ref sig .tc := ⟨.hbm, 127, rfl⟩
abbrev main_call3_call0_cst_10 : Ref sig .tc := ⟨.hbm, 128, rfl⟩
abbrev main_call3_call0_v32 : Ref sig .tc := ⟨.hbm, 129, rfl⟩
abbrev main_v26_2 : Ref sig .tc := ⟨.hbm, 130, rfl⟩
abbrev main_v26_0 : Ref sig .tc := ⟨.hbm, 131, rfl⟩
abbrev main_v27 : Ref sig .tc := ⟨.hbm, 132, rfl⟩
abbrev main_v28 : Ref sig .tc := ⟨.hbm, 133, rfl⟩
abbrev main_cst_1 : Ref sig .tc := ⟨.hbm, 134, rfl⟩
abbrev main_call4_v0 : Ref sig .tc := ⟨.hbm, 135, rfl⟩
abbrev main_v29_1 : Ref sig .tc := ⟨.hbm, 136, rfl⟩
abbrev main_call4_v2 : Ref sig .tc := ⟨.hbm, 137, rfl⟩
abbrev main_v29_0 : Ref sig .tc := ⟨.hbm, 138, rfl⟩
abbrev main_call4_cst : Ref sig .tc := ⟨.hbm, 139, rfl⟩
abbrev main_v29_2 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_call5_cst : Ref sig .tc := ⟨.hbm, 150, rfl⟩
abbrev main_call5_v0 : Ref sig .tc := ⟨.hbm, 151, rfl⟩
abbrev main_v39 : Ref sig .tc := ⟨.hbm, 152, rfl⟩
abbrev main_v40 : Ref sig .tc := ⟨.hbm, 153, rfl⟩
abbrev main_call6_v0 : Ref sig .tc := ⟨.hbm, 154, rfl⟩
abbrev main_call6_v1 : Ref sig .tc := ⟨.hbm, 155, rfl⟩
abbrev main_v41 : Ref sig .tc := ⟨.hbm, 156, rfl⟩
abbrev main_v42 : Ref sig .tc := ⟨.hbm, 157, rfl⟩
abbrev main_call7_cst : Ref sig .tc := ⟨.hbm, 158, rfl⟩
abbrev main_call7_v0 : Ref sig .tc := ⟨.hbm, 159, rfl⟩
abbrev main_v43 : Ref sig .tc := ⟨.hbm, 160, rfl⟩
abbrev main_v44 : Ref sig .tc := ⟨.hbm, 161, rfl⟩
abbrev main_call8_cst : Ref sig .tc := ⟨.hbm, 162, rfl⟩
abbrev main_call8_v0 : Ref sig .tc := ⟨.hbm, 163, rfl⟩
abbrev main_v45 : Ref sig .tc := ⟨.hbm, 164, rfl⟩
abbrev main_call9_v0 : Ref sig .tc := ⟨.hbm, 165, rfl⟩
abbrev main_call9_v1 : Ref sig .tc := ⟨.hbm, 166, rfl⟩
abbrev main_v46 : Ref sig .tc := ⟨.hbm, 167, rfl⟩
abbrev main_v47 : Ref sig .tc := ⟨.hbm, 168, rfl⟩
abbrev main_v48 : Ref sig .tc := ⟨.hbm, 169, rfl⟩
abbrev main_cst_2 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩

abbrev nD : Nat := 1
abbrev τ : Topo := Topo.v7x

variable {F : FTy → Type} [FloatOps F]
-- ==== SbFwd.lean ====
abbrev S16384x4096 : Shape := ⟨2, ![16384, 4096]⟩
abbrev S16384x512 : Shape := ⟨2, ![16384, 512]⟩
abbrev S256x128 : Shape := ⟨2, ![256, 128]⟩
abbrev S16384x128 : Shape := ⟨2, ![16384, 128]⟩
abbrev S512x128 : Shape := ⟨2, ![512, 128]⟩
abbrev S512x1 : Shape := ⟨2, ![512, 1]⟩
abbrev S128x128 : Shape := ⟨2, ![128, 128]⟩
abbrev S512x256 : Shape := ⟨2, ![512, 256]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 2
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S16384x512, .f32⟩
  | .local _ .vmem, ⟨0, _⟩ => ⟨S256x128, .bf16⟩
  | .local _ .vmem, ⟨1, _⟩ => ⟨S256x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S256x128, .f32⟩
  | .local _ .vmem, ⟨7, _⟩ => ⟨S256x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 64], ![false, false]⟩

def k0_mult1 (i : grid0.Coords) : BitVec 32 :=
  let arg1 : BitVec 32 := BitVec.ofNat 32 (i 1).val
  let c2_i32 : BitVec 32 := 2#32
  let v52 : BitVec 32 := Scalar.muli arg1 c2_i32
  let c1_i32_13 : BitVec 32 := 1#32
  let v53 : BitVec 32 := Scalar.addi v52 c1_i32_13
  let c128_i32_14 : BitVec 32 := 128#32
  let v54 : BitVec 32 := Scalar.muli v53 c128_i32_14
  v54
def k0_off1 (i : grid0.Coords) (c1_i32_13 : BitVec 32) : Fin 2 → Nat :=
  let arg1 : BitVec 32 := BitVec.ofNat 32 (i 1).val
  let c2_i32 : BitVec 32 := 2#32
  let v52 : BitVec 32 := Scalar.muli arg1 c2_i32
  let v53 : BitVec 32 := Scalar.addi v52 c1_i32_13
  let c128_i32_14 : BitVec 32 := 128#32
  let v54 : BitVec 32 := Scalar.muli v53 c128_i32_14
  let v55 : BitVec 32 := v54
  let v56 : Index := Scalar.indexCast v55
  let c0_15 : Index := 0#32
  ![v56.toNat, 0]
def k0_mult2 (i : grid0.Coords) : BitVec 32 :=
  let arg1 : BitVec 32 := BitVec.ofNat 32 (i 1).val
  let c2_i32_31 : BitVec 32 := 2#32
  let v103 : BitVec 32 := Scalar.muli arg1 c2_i32_31
  let c0_i32_32 : BitVec 32 := 0#32
  let v104 : BitVec 32 := Scalar.addi v103 c0_i32_32
  let c128_i32_33 : BitVec 32 := 128#32
  let v105 : BitVec 32 := Scalar.muli v104 c128_i32_33
  v105
def k0_mult3 (arg6 : BitVec 32) : BitVec 32 :=
  let c128_i32_55 : BitVec 32 := 128#32
  let v161 : BitVec 32 := Scalar.muli arg6 c128_i32_55
  v161

def k0_off2 (arg6 : BitVec 32) : Fin 2 → Nat :=
  let c128_i32_55 : BitVec 32 := 128#32
  let v161 : BitVec 32 := Scalar.muli arg6 c128_i32_55
  let v162 : BitVec 32 := v161
  let v163 : Index := Scalar.indexCast v162
  let c0_56 : Index := 0#32
  ![v163.toNat, 0]

def k0_chk1 (arg6 : BitVec 32) : Prop :=
  (128 ∣ (k0_mult3 arg6).toNat) ∧
  (∀ a, (k0_off2 arg6) a + S128x128.size a ≤ S16384x128.size a)
theorem k0_mult3_dvd : ∀ (arg6 : BitVec 32) (k0_hw1 : k0_chk1 arg6), 128 ∣ (k0_mult3 arg6).toNat := fun arg6 k0_hw1 => k0_hw1.1
theorem k0_off2_inb : ∀ (arg6 : BitVec 32) (k0_hw1 : k0_chk1 arg6), ∀ a, (k0_off2 arg6) a + S128x128.size a ≤ S16384x128.size a := fun arg6 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SbFwdIdeal.lean ====
variable {F : FTy → Type} [FloatOps F] [Named F]
def κ : String → Option EReal := fun
  | "dead" => some ⊥
  | "log2e" => some (((Real.log 2)⁻¹ : ℝ) : EReal)
  | "scale_log2e" => some (((Real.log 256)⁻¹ : ℝ) : EReal)
  | _ => none
-- ==== SbFwdRefIdeal.lean ====
abbrev S16384x4096 : Shape := ⟨2, ![16384, 4096]⟩
abbrev S16384x1536 : Shape := ⟨2, ![16384, 1536]⟩
abbrev S16384x512 : Shape := ⟨2, ![16384, 512]⟩
abbrev S16384x8x64 : Shape := ⟨3, ![16384, 8, 64]⟩
abbrev S8x16384x64 : Shape := ⟨3, ![8, 16384, 64]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩

abbrev nBuf : Space → Nat
  | .hbm => 75
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1536, .bf16⟩
  | .hbm, ⟨2, _⟩ => ⟨S16384x1536, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x8x64, .f32⟩
  | .hbm, ⟨7, _⟩ => ⟨S8x16384x64, .f32⟩
  | .hbm, ⟨8, _⟩ => ⟨S16384x8x64, .f32⟩
  | .hbm, ⟨9, _⟩ => ⟨S8x16384x64, .f32⟩
  | .hbm, ⟨10, _⟩ => ⟨S16384x8x64, .f32⟩
  | .hbm, ⟨11, _⟩ => ⟨S8x16384x64, .f32⟩
  | .hbm, ⟨12, _⟩ => ⟨S8x16384x16384, .f32⟩
  | .hbm, ⟨13, _⟩ => ⟨S_, .f32⟩
  | .hbm, ⟨14, _⟩ => ⟨S8x16384x16384, .f32⟩
  | .hbm, ⟨15, _⟩ => ⟨S8x16384x16384, .f32⟩
  | .hbm, ⟨16, _⟩ => ⟨S16384, .i32⟩
  | .hbm, ⟨17, _⟩ => ⟨S1x16384, .i32⟩
  | .hbm, ⟨18, _⟩ => ⟨S16384, .i32⟩
  | .hbm, ⟨19, _⟩ => ⟨S16384x1, .i32⟩
  | .hbm, ⟨20, _⟩ => ⟨S16384x16384, .i32⟩
  | .hbm, ⟨21, _⟩ => ⟨S16384x16384, .i32⟩
  | .hbm, ⟨22, _⟩ => ⟨S16384x16384, .i1⟩
  | .hbm, ⟨23, _⟩ => ⟨S8x16384x16384, .f32⟩
  | .hbm, ⟨24, _⟩ => ⟨S8x16384x16384, .f32⟩
  | .hbm, ⟨25, _⟩ => ⟨S_, .f32⟩
  | .hbm, ⟨26, _⟩ => ⟨S8x16384x16384, .f32⟩
  | .hbm, ⟨27, _⟩ => ⟨S8x16384x16384, .f32⟩
  | .hbm, ⟨28, _⟩ => ⟨S8x16384x16384, .f32⟩
  | .hbm, ⟨29, _⟩ => ⟨S8x16384x16384, .f32⟩
  | .hbm, ⟨30, _⟩ => ⟨S8x16384x16384, .i1⟩
  | .hbm, ⟨31, _⟩ => ⟨S8x16384x16384, .f32⟩
  | .hbm, ⟨32, _⟩ => ⟨S8x16384x16384, .f32⟩
  | .hbm, ⟨33, _⟩ => ⟨S8x16384x16384, .f32⟩
  | .hbm, ⟨34, _⟩ => ⟨S8x16384x16384, .f32⟩
  | .hbm, ⟨35, _⟩ => ⟨S8x16384x16384, .f32⟩
  | .hbm, ⟨36, _⟩ => ⟨S8x16384x16384, .f32⟩
  | .hbm, ⟨37, _⟩ => ⟨S8x16384x16384, .f32⟩
  | .hbm, ⟨38, _⟩ => ⟨S8x16384x16384, .f32⟩
  | .hbm, ⟨39, _⟩ => ⟨S8x16384x16384, .f32⟩
  | .hbm, ⟨40, _⟩ => ⟨S_, .f32⟩
  | .hbm, ⟨41, _⟩ => ⟨S_, .f32⟩
  | .hbm, ⟨42, _⟩ => ⟨S8x16384x16384, .i1⟩
  | .hbm, ⟨43, _⟩ => ⟨S8x16384x16384, .f32⟩
  | .hbm, ⟨44, _⟩ => ⟨S8x16384x16384, .f32⟩
  | .hbm, ⟨45, _⟩ => ⟨S_, .f32⟩
  | .hbm, ⟨46, _⟩ => ⟨S_, .f32⟩
  | .hbm, ⟨47, _⟩ => ⟨S8x16384x16384, .f32⟩
  | .hbm, ⟨48, _⟩ => ⟨S8x16384x16384, .f32⟩
  | .hbm, ⟨49, _⟩ => ⟨S8x16384x16384, .f32⟩
  | .hbm, ⟨50, _⟩ => ⟨S_, .f32⟩
  | .hbm, ⟨51, _⟩ => ⟨S8x16384x16384, .f32⟩
  | .hbm, ⟨52, _⟩ => ⟨S8x16384x16384, .f32⟩
  | .hbm, ⟨53, _⟩ => ⟨S8x16384x16384, .f32⟩
  | .hbm, ⟨54, _⟩ => ⟨S8x16384x16384, .f32⟩
  | .hbm, ⟨55, _⟩ => ⟨S8x16384x16384, .i1⟩
  | .hbm, ⟨56, _⟩ => ⟨S8x16384x16384, .f32⟩
  | .hbm, ⟨57, _⟩ => ⟨S8x16384x16384, .f32⟩
  | .hbm, ⟨58, _⟩ => ⟨S8x16384x16384, .f32⟩
  | .hbm, ⟨59, _⟩ => ⟨S8x16384x16384, .f32⟩
  | .hbm, ⟨60, _⟩ => ⟨S8x16384x16384, .f32⟩
  | .hbm, ⟨61, _⟩ => ⟨S8x16384x16384, .f32⟩
  | .hbm, ⟨62, _⟩ => ⟨S8x16384x16384, .f32⟩
  | .hbm, ⟨63, _⟩ => ⟨S8x16384x16384, .f32⟩
  | .hbm, ⟨64, _⟩ => ⟨S8x16384x16384, .f32⟩
  | .hbm, ⟨65, _⟩ => ⟨S8x16384x16384, .f32⟩
  | .hbm, ⟨66, _⟩ => ⟨S8x16384x16384, .f32⟩
  | .hbm, ⟨67, _⟩ => ⟨S_, .f32⟩
  | .hbm, ⟨68, _⟩ => ⟨S_, .f32⟩
  | .hbm, ⟨69, _⟩ => ⟨S8x16384x16384, .i1⟩
  | .hbm, ⟨70, _⟩ => ⟨S8x16384x16384, .f32⟩
  | .hbm, ⟨71, _⟩ => ⟨S8x16384x16384, .f32⟩
  | .hbm, ⟨72, _⟩ => ⟨S8x16384x64, .f32⟩
  | .hbm, ⟨73, _⟩ => ⟨S16384x8x64, .f32⟩
  | .hbm, ⟨74, _⟩ => ⟨S16384x512, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v22 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v23 : Ref sig .tc := ⟨.hbm, 44, rfl⟩
abbrev main_call2_cst : Ref sig .tc := ⟨.hbm, 45, rfl⟩
abbrev main_call2_v0 : Ref sig .tc := ⟨.hbm, 46, rfl⟩
abbrev main_v24 : Ref sig .tc := ⟨.hbm, 47, rfl⟩
abbrev main_v25 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩

abbrev nD : Nat := 1
abbrev τ : Topo := Topo.v7x

variable {F : FTy → Type} [FloatOps F]
-- ==== Dact.lean ====
abbrev S16384x1024 : Shape := ⟨2, ![16384, 1024]⟩
abbrev S2816x1024 : Shape := ⟨2, ![2816, 1024]⟩
abbrev S16384x2816 : Shape := ⟨2, ![16384, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S16384x2816, .bf16⟩
  | .hbm, ⟨3, _⟩ => ⟨S16384x2816, .bf16⟩
  | .hbm, ⟨4, _⟩ => ⟨S16384x2816, .bf16⟩
  | .hbm, ⟨5, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DactRefIdeal.lean ====
abbrev S16384x1024 : Shape := ⟨2, ![16384, 1024]⟩
abbrev S2816x1024 : Shape := ⟨2, ![2816, 1024]⟩
abbrev S16384x2816 : Shape := ⟨2, ![16384, 2816]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S16384x2816, .bf16⟩
  | .hbm, ⟨3, _⟩ => ⟨S16384x2816, .bf16⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S2816x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .bf16⟩
  | .hbm, ⟨37, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== MemRms.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S256x1024, .bf16⟩
  | .hbm, ⟨5, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MemRmsRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x1024, .f32⟩
  | .hbm, ⟨33, _⟩ => ⟨S256x1024, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Dh.lean ====
abbrev S16384x2816 : Shape := ⟨2, ![16384, 2816]⟩
abbrev S1024x2816 : Shape := ⟨2, ![1024, 2816]⟩
abbrev S16384x1024 : Shape := ⟨2, ![16384, 1024]⟩
abbrev S1x1024 : Shape := ⟨2, ![1, 1024]⟩
abbrev S512x1408 : Shape := ⟨2, ![512, 1408]⟩
abbrev S1024x1408 : Shape := ⟨2, ![1024, 1408]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 19
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x2816, .bf16⟩
  | .hbm, ⟨3, _⟩ => ⟨S1024x2816, .bf16⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S16384x1024, .f32⟩
  | .hbm, ⟨8, _⟩ => ⟨S16384x1024, .bf16⟩
  | .hbm, ⟨9, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S1024x1408, .bf16⟩
  | .local _ .vmem, ⟨3, _⟩ => ⟨S1024x1408, .bf16⟩
  | .local _ .vmem, ⟨4, _⟩ => ⟨S512x1408, .bf16⟩
  | .local _ .vmem, ⟨5, _⟩ => ⟨S512x1408, .bf16⟩
  | .local _ .vmem, ⟨6, _⟩ => ⟨S1024x1408, .bf16⟩
  | .local _ .vmem, ⟨7, _⟩ => ⟨S1024x1408, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨3, ![32, 1, 2], ![false, false, false]⟩

def k0_cond2 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_13 : BitVec 32 := 0#32
  let v17 : BitVec 1 := Scalar.cmpi .ne v16 c0_i32_13
  v17

def k0_cond3 (i : grid0.Coords) : BitVec 1 :=
  let arg0 : BitVec 32 := BitVec.ofNat 32 (i 0).val
  let c0_i32_32 : BitVec 32 := 0#32
  let v51 : BitVec 1 := Scalar.cmpi .eq arg0 c0_i32_32
  let v52 : BitVec 32 := Scalar.extui v51
  let c0_i32_33 : BitVec 32 := 0#32
  let v53 : BitVec 1 := Scalar.cmpi .ne v52 c0_i32_33
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]
-- ==== DhRefIdeal.lean ====
abbrev S16384x2816 : Shape := ⟨2, ![16384, 2816]⟩
abbrev S1024x2816 : Shape := ⟨2, ![1024, 2816]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x2816, .bf16⟩
  | .hbm, ⟨3, _⟩ => ⟨S1024x2816, .bf16⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S1024x2816, .f32⟩
  | .hbm, ⟨27, _⟩ => ⟨S16384x2816, .f32⟩
  | .hbm, ⟨28, _⟩ => ⟨S1024x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== DhGate.lean ====
abbrev S16384x3072 : Shape := ⟨2, ![16384, 3072]⟩
abbrev S1024x3072 : Shape := ⟨2, ![1024, 3072]⟩
abbrev S16384x1024 : Shape := ⟨2, ![16384, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S16384x3072, .bf16⟩
  | .hbm, ⟨1, _⟩ => ⟨S1024x3072, .bf16⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S16384x1024, .bf16⟩
  | .hbm, ⟨8, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== DhGateRefIdeal.lean ====
abbrev S16384x3072 : Shape := ⟨2, ![16384, 3072]⟩
abbrev S1024x3072 : Shape := ⟨2, ![1024, 3072]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S1024x3072, .bf16⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S1024x3072, .f32⟩
  | .hbm, ⟨26, _⟩ => ⟨S16384x3072, .f32⟩
  | .hbm, ⟨27, _⟩ => ⟨S16384x3072, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== MemAtt.lean ====
abbrev S16384x256 : Shape := ⟨2, ![16384, 256]⟩
abbrev S256x256 : Shape := ⟨2, ![256, 256]⟩
abbrev S256x512 : Shape := ⟨2, ![256, 512]⟩
abbrev S2048x128 : Shape := ⟨2, ![2048, 128]⟩
abbrev S256x128 : Shape := ⟨2, ![256, 128]⟩
abbrev S4096x128 : Shape := ⟨2, ![4096, 128]⟩
abbrev S4096x256 : Shape := ⟨2, ![4096, 256]⟩
abbrev S4096 : Shape := ⟨1, ![4096]⟩
abbrev S4096x1 : Shape := ⟨2, ![4096, 1]⟩

abbrev nBuf : Space → Nat
  | .hbm => 7
  | .vmem => 14
  | .smem => 0
  | _ => 0

abbrev bufTy : (tb : Table) → Fin (tcTables nBuf tb) → BufTy
  | .hbm, ⟨0, _⟩ => ⟨S16384x256, .bf16⟩
  | .hbm, ⟨1, _⟩ => ⟨S256x256, .bf16⟩
  | .hbm, ⟨2, _⟩ => ⟨S256x512, .bf16⟩
  | .hbm, ⟨3, _⟩ => ⟨S16384x256, .bf16⟩
  | .hbm, ⟨4, _⟩ => ⟨S16384x256, .f32⟩
  | .hbm, ⟨5, _⟩ => ⟨S256x256, .f32⟩
  | .hbm, ⟨6, _⟩ => ⟨S256x256, .f32⟩
  | .local _ .vmem, ⟨0, _⟩ => ⟨S2048x128, .bf16⟩
  | .local _ .vmem, ⟨1, _⟩ => ⟨S2048x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MemAttRefIdeal.lean ====
abbrev S16384x256 : Shape := ⟨2, ![16384, 256]⟩
abbrev S256x256 : Shape := ⟨2, ![256, 256]⟩
abbrev S256x512 : Shape := ⟨2, ![256, 512]⟩
abbrev S16384x4x64 : Shape := ⟨3, ![16384, 4, 64]⟩
abbrev S4x16384x64 : Shape := ⟨3, ![4, 16384, 64]⟩
abbrev S256x4x64 : Shape := ⟨3, ![256, 4, 64]⟩
abbrev S4x256x64 : Shape := ⟨3, ![4, 256, 64]⟩
abbrev S4x16384x256 : Shape := ⟨3, ![4, 16384, 256]⟩
abbrev S_ : Shape := ⟨0, ![]⟩
abbrev S4x16384 : Shape := ⟨2, ![4, 16384]⟩
abbrev S4x16384x1 : Shape := ⟨3, ![4, 16384, 1]⟩
abbrev S4x64x256 : Shape := ⟨3, ![4, 64, 256]⟩

abbrev nBuf : Space → Nat
  | .hbm => 90
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S256x256, .bf16⟩
  | .hbm, ⟨2, _⟩ => ⟨S256x512, .bf16⟩
  | .hbm, ⟨3, _⟩ => ⟨S16384x256, .bf16⟩
  | .hbm, ⟨4, _⟩ => ⟨S16384x256, .f32⟩
  | .hbm, ⟨5, _⟩ => ⟨S256x256, .f32⟩
  | .hbm, ⟨6, _⟩ => ⟨S256x512, .f32⟩
  | .hbm, ⟨7, _⟩ => ⟨S256x256, .f32⟩
  | .hbm, ⟨8, _⟩ => ⟨S16384x4x64, .f32⟩
  | .hbm, ⟨9, _⟩ => ⟨S4x16384x64, .f32⟩
  | .hbm, ⟨10, _⟩ => ⟨S256x4x64, .f32⟩
  | .hbm, ⟨11, _⟩ => ⟨S4x256x64, .f32⟩
  | .hbm, ⟨12, _⟩ => ⟨S4x16384x256, .f32⟩
  | .hbm, ⟨13, _⟩ => ⟨S_, .f32⟩
  | .hbm, ⟨14, _⟩ => ⟨S4x16384x256, .f32⟩
  | .hbm, ⟨15, _⟩ => ⟨S4x16384x256, .f32⟩
  | .hbm, ⟨16, _⟩ => ⟨S_, .f32⟩
  | .hbm, ⟨17, _⟩ => ⟨S4x16384, .f32⟩
  | .hbm, ⟨18, _⟩ => ⟨S4x16384x1, .f32⟩
  | .hbm, ⟨19, _⟩ => ⟨S4x16384x256, .f32⟩
  | .hbm, ⟨20, _⟩ => ⟨S4x16384x256, .i1⟩
  | .hbm, ⟨21, _⟩ => ⟨S4x16384x256, .f32⟩
  | .hbm, ⟨22, _⟩ => ⟨S_, .f32⟩
  | .hbm, ⟨23, _⟩ => ⟨S4x16384, .f32⟩
  | .hbm, ⟨24, _⟩ => ⟨S_, .f32⟩
  | .hbm, ⟨25, _⟩ => ⟨S4x16384, .f32⟩
  | .hbm, ⟨26, _⟩ => ⟨S4x16384, .f32⟩
  | .hbm, ⟨27, _⟩ => ⟨S_, .f32⟩
  | .hbm, ⟨28, _⟩ => ⟨S4x16384, .f32⟩
  | .hbm, ⟨29, _⟩ => ⟨S4x16384, .i1⟩
  | .hbm, ⟨30, _⟩ => ⟨S_, .f32⟩
  | .hbm, ⟨31, _⟩ => ⟨S4x16384, .f32⟩
  | .hbm, ⟨32, _⟩ => ⟨S4x16384, .i1⟩
  | .hbm, ⟨33, _⟩ => ⟨S_, .f32⟩
  | .hbm, ⟨34, _⟩ => ⟨S4x16384, .f32⟩
  | .hbm, ⟨35, _⟩ => ⟨S_, .f32⟩
  | .hbm, ⟨36, _⟩ => ⟨S4x16384, .f32⟩
  | .hbm, ⟨37, _⟩ => ⟨S_, .f32⟩
  | .hbm, ⟨38, _⟩ => ⟨S4x16384, .f32⟩
  | .hbm, ⟨39, _⟩ => ⟨S4x16384, .f32⟩
  | .hbm, ⟨40, _⟩ => ⟨S4x16384, .f32⟩
  | .hbm, ⟨41, _⟩ => ⟨S4x16384x1, .f32⟩
  | .hbm, ⟨42, _⟩ => ⟨S4x16384x256, .f32⟩
  | .hbm, ⟨43, _⟩ => ⟨S4x16384x256, .f32⟩
  | .hbm, ⟨44, _⟩ => ⟨S4x16384x256, .f32⟩
  | .hbm, ⟨45, _⟩ => ⟨S_, .f32⟩
  | .hbm, ⟨46, _⟩ => ⟨S4x16384, .f32⟩
  | .hbm, ⟨47, _⟩ => ⟨S4x16384x1, .f32⟩
  | .hbm, ⟨48, _⟩ => ⟨S4x16384x256, .f32⟩
  | .hbm, ⟨49, _⟩ => ⟨S4x16384x256, .f32⟩
  | .hbm, ⟨50, _⟩ => ⟨S4x16384x1, .f32⟩
  | .hbm, ⟨51, _⟩ => ⟨S_, .f32⟩
  | .hbm, ⟨52, _⟩ => ⟨S4x16384x1, .f32⟩
  | .hbm, ⟨53, _⟩ => ⟨S4x16384x1, .f32⟩
  | .hbm, ⟨54, _⟩ => ⟨S256x4x64, .f32⟩
  | .hbm, ⟨55, _⟩ => ⟨S4x256x64, .f32⟩
  | .hbm, ⟨56, _⟩ => ⟨S4x16384x64, .f32⟩
  | .hbm, ⟨57, _⟩ => ⟨S16384x4x64, .f32⟩
  | .hbm, ⟨58, _⟩ => ⟨S16384x256, .f32⟩
  | .hbm, ⟨59, _⟩ => ⟨S16384x256, .f32⟩
  | .hbm, ⟨60, _⟩ => ⟨S16384x4x64, .f32⟩
  | .hbm, ⟨61, _⟩ => ⟨S4x16384x64, .f32⟩
  | .hbm, ⟨62, _⟩ => ⟨S4x64x256, .f32⟩
  | .hbm, ⟨63, _⟩ => ⟨S4x256x64, .f32⟩
  | .hbm, ⟨64, _⟩ => ⟨S4x16384x256, .f32⟩
  | .hbm, ⟨65, _⟩ => ⟨S256x4x64, .f32⟩
  | .hbm, ⟨66, _⟩ => ⟨S256x256, .f32⟩
  | .hbm, ⟨67, _⟩ => ⟨S4x16384x256, .f32⟩
  | .hbm, ⟨68, _⟩ => ⟨S4x16384x256, .f32⟩
  | .hbm, ⟨69, _⟩ => ⟨S4x16384x256, .f32⟩
  | .hbm, ⟨70, _⟩ => ⟨S_, .f32⟩
  | .hbm, ⟨71, _⟩ => ⟨S4x16384, .f32⟩
  | .hbm, ⟨72, _⟩ => ⟨S4x16384x1, .f32⟩
  | .hbm, ⟨73, _⟩ => ⟨S4x16384x1, .f32⟩
  | .hbm, ⟨74, _⟩ => ⟨S4x16384x256, .f32⟩
  | .hbm, ⟨75, _⟩ => ⟨S4x16384x256, .f32⟩
  | .hbm, ⟨76, _⟩ => ⟨S_, .f32⟩
  | .hbm, ⟨77, _⟩ => ⟨S4x16384, .f32⟩
  | .hbm, ⟨78, _⟩ => ⟨S4x16384x256, .f32⟩
  | .hbm, ⟨79, _⟩ => ⟨S4x16384x256, .f32⟩
  | .hbm, ⟨80, _⟩ => ⟨S4x16384x256, .f32⟩
  | .hbm, ⟨81, _⟩ => ⟨S_, .f32⟩
  | .hbm, ⟨82, _⟩ => ⟨S4x16384x256, .f32⟩
  | .hbm, ⟨83, _⟩ => ⟨S4x16384x256, .f32⟩
  | .hbm, ⟨84, _⟩ => ⟨S4x256x64, .f32⟩
  | .hbm, ⟨85, _⟩ => ⟨S4x16384x64, .f32⟩
  | .hbm, ⟨86, _⟩ => ⟨S256x4x64, .f32⟩
  | .hbm, ⟨87, _⟩ => ⟨S256x256, .f32⟩
  | .hbm, ⟨88, _⟩ => ⟨S16384x4x64, .f32⟩
  | .hbm, ⟨89, _⟩ => ⟨S16384x256, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_11 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Loss.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S512x2816 : Shape := ⟨2, ![512, 2816]⟩
abbrev S512x1024 : Shape := ⟨2, ![512, 1024]⟩
abbrev S1024 : Shape := ⟨1, ![1024]⟩
abbrev S_ : Shape := ⟨0, ![]⟩

abbrev nBuf : Space → Nat
  | .hbm => 11
  | .vmem => 12
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .bf16⟩
  | .hbm, ⟨6, _⟩ => ⟨S1x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== LossRefIdeal.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩
abbrev S16384 : Shape := ⟨1, ![16384]⟩

abbrev nBuf : Space → Nat
  | .hbm => 35
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .f32⟩
  | .hbm, ⟨4, _⟩ => ⟨S16384x2816, .f32⟩
  | .hbm, ⟨5, _⟩ => ⟨S2816x1024, .f32⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S16384, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S16384x1024, .f32⟩
  | .hbm, ⟨33, _⟩ => ⟨S16384x1024, .f32⟩
  | .hbm, ⟨34, _⟩ => ⟨S16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_cst_5 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== QkMem.lean ====
abbrev S16384x4096 : Shape := ⟨2, ![16384, 4096]⟩
abbrev S1x64 : Shape := ⟨2, ![1, 64]⟩
abbrev S16384x256 : Shape := ⟨2, ![16384, 256]⟩
abbrev S1x1x1x64 : Shape := ⟨4, ![1, 1, 1, 64]⟩
abbrev S1x1x4x64 : Shape := ⟨4, ![1, 1, 4, 64]⟩
abbrev S1x256 : Shape := ⟨2, ![1, 256]⟩
abbrev S1024x256 : Shape := ⟨2, ![1024, 256]⟩
abbrev S256x128 : Shape := ⟨2, ![256, 128]⟩
abbrev S1024x128 : Shape := ⟨2, ![1024, 128]⟩
abbrev S256 : Shape := ⟨1, ![256]⟩
abbrev S4x64 : Shape := ⟨2, ![4, 64]⟩
abbrev S_ : Shape := ⟨0, ![]⟩
abbrev S64 : Shape := ⟨1, ![64]⟩

abbrev nBuf : Space → Nat
  | .hbm => 12
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S1x64, .f32⟩
  | .hbm, ⟨2, _⟩ => ⟨S16384x256, .f32⟩
  | .hbm, ⟨3, _⟩ => ⟨S1x1x1x64, .f32⟩
  | .hbm, ⟨4, _⟩ => ⟨S1x1x4x64, .f32⟩
  | .hbm, ⟨5, _⟩ => ⟨S1x256, .f32⟩
  | .hbm, ⟨6, _⟩ => ⟨S16384x256, .bf16⟩
  | .hbm, ⟨7, _⟩ => ⟨S1x256, .f32⟩
  | .hbm, ⟨8, _⟩ => ⟨S4x64, .f32⟩
  | .hbm, ⟨9, _⟩ => ⟨S_, .f32⟩
  | .hbm, ⟨10, _⟩ => ⟨S64, .f32⟩
  | .hbm, ⟨11, _⟩ => ⟨S1x64, .f32⟩
  | .local _ .vmem, ⟨0, _⟩ => ⟨S1024x256, .bf16⟩
  | .local _ .vmem, ⟨1, _⟩ => ⟨S1024x256, .bf16⟩
  | .local _ .vmem, ⟨2, _⟩ => ⟨S1x256, .f32⟩
  | .local _ .vmem, ⟨3, _⟩ => ⟨S1024x256, .f32⟩
  | .local _ .vmem, ⟨4, _⟩ => ⟨S1024x256, .f32⟩
  | .local _ .vmem, ⟨5, _⟩ => ⟨S1024x256, .bf16⟩
  | .local _ .vmem, ⟨6, _⟩ => ⟨S1024x256, .bf16⟩
  | .local _ .vmem, ⟨7, _⟩ => ⟨S1x256, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== QkMemRefIdeal.lean ====
abbrev S16384x4096 : Shape := ⟨2, ![16384, 4096]⟩
abbrev S1x64 : Shape := ⟨2, ![1, 64]⟩
abbrev S16384x256 : Shape := ⟨2, ![16384, 256]⟩
abbrev S16384x4x64 : Shape := ⟨3, ![16384, 4, 64]⟩
abbrev S4x16384x64 : Shape := ⟨3, ![4, 16384, 64]⟩
abbrev S_ : Shape := ⟨0, ![]⟩
abbrev S4x16384 : Shape := ⟨2, ![4, 16384]⟩
abbrev S4x16384x1 : Shape := ⟨3, ![4, 16384, 1]⟩
abbrev S1x1x64 : Shape := ⟨3, ![1, 1, 64]⟩
abbrev S64 : Shape := ⟨1, ![64]⟩

abbrev nBuf : Space → Nat
  | .hbm => 60
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x64, .f32⟩
  | .hbm, ⟨2, _⟩ => ⟨S16384x256, .f32⟩
  | .hbm, ⟨3, _⟩ => ⟨S16384x256, .bf16⟩
  | .hbm, ⟨4, _⟩ => ⟨S16384x256, .f32⟩
  | .hbm, ⟨5, _⟩ => ⟨S16384x4x64, .f32⟩
  | .hbm, ⟨6, _⟩ => ⟨S4x16384x64, .f32⟩
  | .hbm, ⟨7, _⟩ => ⟨S4x16384x64, .f32⟩
  | .hbm, ⟨8, _⟩ => ⟨S_, .f32⟩
  | .hbm, ⟨9, _⟩ => ⟨S4x16384, .f32⟩
  | .hbm, ⟨10, _⟩ => ⟨S4x16384x1, .f32⟩
  | .hbm, ⟨11, _⟩ => ⟨S_, .f32⟩
  | .hbm, ⟨12, _⟩ => ⟨S4x16384x1, .f32⟩
  | .hbm, ⟨13, _⟩ => ⟨S4x16384x1, .f32⟩
  | .hbm, ⟨14, _⟩ => ⟨S_, .f32⟩
  | .hbm, ⟨15, _⟩ => ⟨S4x16384x1, .f32⟩
  | .hbm, ⟨16, _⟩ => ⟨S4x16384x1, .f32⟩
  | .hbm, ⟨17, _⟩ => ⟨S4x16384x1, .f32⟩
  | .hbm, ⟨18, _⟩ => ⟨S4x16384x1, .f32⟩
  | .hbm, ⟨19, _⟩ => ⟨S_, .f32⟩
  | .hbm, ⟨20, _⟩ => ⟨S4x16384x1, .f32⟩
  | .hbm, ⟨21, _⟩ => ⟨S4x16384x1, .f32⟩
  | .hbm, ⟨22, _⟩ => ⟨S4x16384x64, .f32⟩
  | .hbm, ⟨23, _⟩ => ⟨S4x16384x64, .f32⟩
  | .hbm, ⟨24, _⟩ => ⟨S1x1x64, .f32⟩
  | .hbm, ⟨25, _⟩ => ⟨S4x16384x64, .f32⟩
  | .hbm, ⟨26, _⟩ => ⟨S4x16384x64, .f32⟩
  | .hbm, ⟨27, _⟩ => ⟨S16384x4x64, .f32⟩
  | .hbm, ⟨28, _⟩ => ⟨S16384x256, .f32⟩
  | .hbm, ⟨29, _⟩ => ⟨S16384x4x64, .f32⟩
  | .hbm, ⟨30, _⟩ => ⟨S4x16384x64, .f32⟩
  | .hbm, ⟨31, _⟩ => ⟨S4x16384x64, .f32⟩
  | .hbm, ⟨32, _⟩ => ⟨S_, .f32⟩
  | .hbm, ⟨33, _⟩ => ⟨S64, .f32⟩
  | .hbm, ⟨34, _⟩ => ⟨S1x1x64, .f32⟩
  | .hbm, ⟨35, _⟩ => ⟨S4x16384x64, .f32⟩
  | .hbm, ⟨36, _⟩ => ⟨S4x16384x64, .f32⟩
  | .hbm, ⟨37, _⟩ => ⟨S_, .f32⟩
  | .hbm, ⟨38, _⟩ => ⟨S64, .f32⟩
  | .hbm, ⟨39, _⟩ => ⟨S1x64, .f32⟩
  | .hbm, ⟨40, _⟩ => ⟨S4x16384x64, .f32⟩
  | .hbm, ⟨41, _⟩ => ⟨S_, .f32⟩
  | .hbm, ⟨42, _⟩ => ⟨S4x16384, .f32⟩
  | .hbm, ⟨43, _⟩ => ⟨S4x16384x1, .f32⟩
  | .hbm, ⟨44, _⟩ => ⟨S4x16384x64, .f32⟩
  | .hbm, ⟨45, _⟩ => ⟨S4x16384x64, .f32⟩
  | .hbm, ⟨46, _⟩ => ⟨S4x16384x1, .f32⟩
  | .hbm, ⟨47, _⟩ => ⟨S_, .f32⟩
  | .hbm, ⟨48, _⟩ => ⟨S4x16384x1, .f32⟩
  | .hbm, ⟨49, _⟩ => ⟨S4x16384x1, .f32⟩
  | .hbm, ⟨50, _⟩ => ⟨S_, .f32⟩
  | .hbm, ⟨51, _⟩ => ⟨S4x16384, .f32⟩
  | .hbm, ⟨52, _⟩ => ⟨S4x16384x64, .f32⟩
  | .hbm, ⟨53, _⟩ => ⟨S4x16384x64, .f32⟩
  | .hbm, ⟨54, _⟩ => ⟨S4x16384x64, .f32⟩
  | .hbm, ⟨55, _⟩ => ⟨S4x16384x64, .f32⟩
  | .hbm, ⟨56, _⟩ => ⟨S4x16384x64, .f32⟩
  | .hbm, ⟨57, _⟩ => ⟨S16384x4x64, .f32⟩
  | .hbm, ⟨58, _⟩ => ⟨S16384x256, .f32⟩
  | .hbm, ⟨59, _⟩ => ⟨S16384x256, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]
-- ==== QkRope.lean ====
abbrev S16384x4096 : Shape := ⟨2, ![16384, 4096]⟩
abbrev S1x64 : Shape := ⟨2, ![1, 64]⟩
abbrev S16384x256 : Shape := ⟨2, ![16384, 256]⟩
abbrev S32 : Shape := ⟨1, ![32]⟩
abbrev S_ : Shape := ⟨0, ![]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩
abbrev S1x1x1x64 : Shape := ⟨4, ![1, 1, 1, 64]⟩
abbrev S1x1x12x64 : Shape := ⟨4, ![1, 1, 12, 64]⟩
abbrev S1x768 : Shape := ⟨2, ![1, 768]⟩
abbrev S16384x768 : Shape := ⟨2, ![16384, 768]⟩
abbrev S1024x768 : Shape := ⟨2, ![1024, 768]⟩
abbrev S1024x128 : Shape := ⟨2, ![1024, 128]⟩
abbrev S1024x256 : Shape := ⟨2, ![1024, 256]⟩
abbrev S256x128 : Shape := ⟨2, ![256, 128]⟩
abbrev S768 : Shape := ⟨1, ![768]⟩
abbrev S12x64 : Shape := ⟨2, ![12, 64]⟩
abbrev S64 : Shape := ⟨1, ![64]⟩

abbrev nBuf : Space → Nat
  | .hbm => 37
  | .vmem => 16
  | .smem => 0
  | _ => 0

abbrev bufTy : (tb : Table) → Fin (tcTables nBuf tb) → BufTy
  | .hbm, ⟨0, _⟩ => ⟨S16384x4096, .bf16⟩
  | .hbm, ⟨1, _⟩ => ⟨S1x64, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S16384, .i32⟩
  | .hbm, ⟨14, _⟩ => ⟨S16384, .f32⟩
  | .hbm, ⟨15, _⟩ => ⟨S16384x1, .f32⟩
  | .hbm, ⟨16, _⟩ => ⟨S1x32, .f32⟩
  | .hbm, ⟨17, _⟩ => ⟨S16384x32, .f32⟩
  | .hbm, ⟨18, _⟩ => ⟨S16384x32, .f32⟩
  | .hbm, ⟨19, _⟩ => ⟨S16384x32, .f32⟩
  | .hbm, ⟨20, _⟩ => ⟨S16384x32, .f32⟩
  | .hbm, ⟨21, _⟩ => ⟨S16384x32, .f32⟩
  | .hbm, ⟨22, _⟩ => ⟨S16384x32, .f32⟩
  | .hbm, ⟨23, _⟩ => ⟨S16384x32, .f32⟩
  | .hbm, ⟨24, _⟩ => ⟨S16384x128, .f32⟩
  | .hbm, ⟨25, _⟩ => ⟨S16384x32, .f32⟩
  | .hbm, ⟨26, _⟩ => ⟨S16384x32, .f32⟩
  | .hbm, ⟨27, _⟩ => ⟨S16384x128, .f32⟩
  | .hbm, ⟨28, _⟩ => ⟨S1x1x1x64, .f32⟩
  | .hbm, ⟨29, _⟩ => ⟨S1x1x12x64, .f32⟩
  | .hbm, ⟨30, _⟩ => ⟨S1x768, .f32⟩
  | .hbm, ⟨31, _⟩ => ⟨S16384x768, .bf16⟩
  | .hbm, ⟨32, _⟩ => ⟨S1x768, .f32⟩
  | .hbm, ⟨33, _⟩ => ⟨S12x64, .f32⟩
  | .hbm, ⟨34, _⟩ => ⟨S_, .f32⟩
  | .hbm, ⟨35, _⟩ => ⟨S64, .f32⟩
  | .hbm, ⟨36, _⟩ => ⟨S1x64, .f32⟩
  | .local _ .vmem, ⟨0, _⟩ => ⟨S1024x768, .bf16⟩
  | .local _ .vmem, ⟨1, _⟩ => ⟨S1024x768, .bf16⟩
  | .local _ .vmem, ⟨2, _⟩ => ⟨S1x768, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x768, .bf16⟩
  | .local _ .vmem, ⟨14, _⟩ => ⟨S1024x768, .bf16⟩
  | .local _ .vmem, ⟨15, _⟩ => ⟨S1x768, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== QkRopeRefIdeal.lean ====
abbrev S16384x4096 : Shape := ⟨2, ![16384, 4096]⟩
abbrev S1x64 : Shape := ⟨2, ![1, 64]⟩
abbrev S16384x256 : Shape := ⟨2, ![16384, 256]⟩
abbrev S16384x768 : Shape := ⟨2, ![16384, 768]⟩
abbrev S16384x12x64 : Shape := ⟨3, ![16384, 12, 64]⟩
abbrev S12x16384x64 : Shape := ⟨3, ![12, 16384, 64]⟩
abbrev S_ : Shape := ⟨0, ![]⟩
abbrev S12x16384 : Shape := ⟨2, ![12, 16384]⟩
abbrev S12x16384x1 : Shape := ⟨3, ![12, 16384, 1]⟩
abbrev S1x1x64 : Shape := ⟨3, ![1, 1, 64]⟩
abbrev S16384 : Shape := ⟨1, ![16384]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S12x16384x32 : Shape := ⟨3, ![12, 16384, 32]⟩
abbrev S1x16384x32 : Shape := ⟨3, ![1, 16384, 32]⟩
abbrev S64 : Shape := ⟨1, ![64]⟩

abbrev nBuf : Space → Nat
  | .hbm => 115
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x64, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S16384x768, .bf16⟩
  | .hbm, ⟨6, _⟩ => ⟨S16384x768, .f32⟩
  | .hbm, ⟨7, _⟩ => ⟨S16384x12x64, .f32⟩
  | .hbm, ⟨8, _⟩ => ⟨S12x16384x64, .f32⟩
  | .hbm, ⟨9, _⟩ => ⟨S12x16384x64, .f32⟩
  | .hbm, ⟨10, _⟩ => ⟨S_, .f32⟩
  | .hbm, ⟨11, _⟩ => ⟨S12x16384, .f32⟩
  | .hbm, ⟨12, _⟩ => ⟨S12x16384x1, .f32⟩
  | .hbm, ⟨13, _⟩ => ⟨S_, .f32⟩
  | .hbm, ⟨14, _⟩ => ⟨S12x16384x1, .f32⟩
  | .hbm, ⟨15, _⟩ => ⟨S12x16384x1, .f32⟩
  | .hbm, ⟨16, _⟩ => ⟨S_, .f32⟩
  | .hbm, ⟨17, _⟩ => ⟨S12x16384x1, .f32⟩
  | .hbm, ⟨18, _⟩ => ⟨S12x16384x1, .f32⟩
  | .hbm, ⟨19, _⟩ => ⟨S12x16384x1, .f32⟩
  | .hbm, ⟨20, _⟩ => ⟨S12x16384x1, .f32⟩
  | .hbm, ⟨21, _⟩ => ⟨S_, .f32⟩
  | .hbm, ⟨22, _⟩ => ⟨S12x16384x1, .f32⟩
  | .hbm, ⟨23, _⟩ => ⟨S12x16384x1, .f32⟩
  | .hbm, ⟨24, _⟩ => ⟨S12x16384x64, .f32⟩
  | .hbm, ⟨25, _⟩ => ⟨S12x16384x64, .f32⟩
  | .hbm, ⟨26, _⟩ => ⟨S1x1x64, .f32⟩
  | .hbm, ⟨27, _⟩ => ⟨S12x16384x64, .f32⟩
  | .hbm, ⟨28, _⟩ => ⟨S12x16384x64, .f32⟩
  | .hbm, ⟨29, _⟩ => ⟨S16384, .i32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S16384, .f32⟩
  | .hbm, ⟨39, _⟩ => ⟨S16384x1, .f32⟩
  | .hbm, ⟨40, _⟩ => ⟨S1x32, .f32⟩
  | .hbm, ⟨41, _⟩ => ⟨S16384x32, .f32⟩
  | .hbm, ⟨42, _⟩ => ⟨S16384x32, .f32⟩
  | .hbm, ⟨43, _⟩ => ⟨S16384x32, .f32⟩
  | .hbm, ⟨44, _⟩ => ⟨S16384x32, .f32⟩
  | .hbm, ⟨45, _⟩ => ⟨S16384x32, .f32⟩
  | .hbm, ⟨46, _⟩ => ⟨S12x16384x32, .f32⟩
  | .hbm, ⟨47, _⟩ => ⟨S12x16384x32, .f32⟩
  | .hbm, ⟨48, _⟩ => ⟨S1x16384x32, .f32⟩
  | .hbm, ⟨49, _⟩ => ⟨S12x16384x32, .f32⟩
  | .hbm, ⟨50, _⟩ => ⟨S12x16384x32, .f32⟩
  | .hbm, ⟨51, _⟩ => ⟨S1x16384x32, .f32⟩
  | .hbm, ⟨52, _⟩ => ⟨S12x16384x32, .f32⟩
  | .hbm, ⟨53, _⟩ => ⟨S12x16384x32, .f32⟩
  | .hbm, ⟨54, _⟩ => ⟨S12x16384x32, .f32⟩
  | .hbm, ⟨55, _⟩ => ⟨S1x16384x32, .f32⟩
  | .hbm, ⟨56, _⟩ => ⟨S12x16384x32, .f32⟩
  | .hbm, ⟨57, _⟩ => ⟨S12x16384x32, .f32⟩
  | .hbm, ⟨58, _⟩ => ⟨S1x16384x32, .f32⟩
  | .hbm, ⟨59, _⟩ => ⟨S12x16384x32, .f32⟩
  | .hbm, ⟨60, _⟩ => ⟨S12x16384x32, .f32⟩
  | .hbm, ⟨61, _⟩ => ⟨S12x16384x32, .f32⟩
  | .hbm, ⟨62, _⟩ => ⟨S12x16384x64, .f32⟩
  | .hbm, ⟨63, _⟩ => ⟨S16384x12x64, .f32⟩
  | .hbm, ⟨64, _⟩ => ⟨S16384x768, .f32⟩
  | .hbm, ⟨65, _⟩ => ⟨S16384x768, .f32⟩
  | .hbm, ⟨66, _⟩ => ⟨S16384x12x64, .f32⟩
  | .hbm, ⟨67, _⟩ => ⟨S12x16384x64, .f32⟩
  | .hbm, ⟨68, _⟩ => ⟨S12x16384x32, .f32⟩
  | .hbm, ⟨69, _⟩ => ⟨S12x16384x32, .f32⟩
  | .hbm, ⟨70, _⟩ => ⟨S12x16384x32, .f32⟩
  | .hbm, ⟨71, _⟩ => ⟨S12x16384x32, .f32⟩
  | .hbm, ⟨72, _⟩ => ⟨S12x16384x32, .f32⟩
  | .hbm, ⟨73, _⟩ => ⟨S12x16384x32, .f32⟩
  | .hbm, ⟨74, _⟩ => ⟨S12x16384x32, .f32⟩
  | .hbm, ⟨75, _⟩ => ⟨S12x16384x32, .f32⟩
  | .hbm, ⟨76, _⟩ => ⟨S12x16384x32, .f32⟩
  | .hbm, ⟨77, _⟩ => ⟨S12x16384x32, .f32⟩
  | .hbm, ⟨78, _⟩ => ⟨S12x16384x32, .f32⟩
  | .hbm, ⟨79, _⟩ => ⟨S12x16384x32, .f32⟩
  | .hbm, ⟨80, _⟩ => ⟨S12x16384x32, .f32⟩
  | .hbm, ⟨81, _⟩ => ⟨S_, .f32⟩
  | .hbm, ⟨82, _⟩ => ⟨S12x16384x64, .f32⟩
  | .hbm, ⟨83, _⟩ => ⟨S_, .f32⟩
  | .hbm, ⟨84, _⟩ => ⟨S12x16384x64, .f32⟩
  | .hbm, ⟨85, _⟩ => ⟨S12x16384x64, .f32⟩
  | .hbm, ⟨86, _⟩ => ⟨S12x16384x64, .f32⟩
  | .hbm, ⟨87, _⟩ => ⟨S_, .f32⟩
  | .hbm, ⟨88, _⟩ => ⟨S64, .f32⟩
  | .hbm, ⟨89, _⟩ => ⟨S1x1x64, .f32⟩
  | .hbm, ⟨90, _⟩ => ⟨S12x16384x64, .f32⟩
  | .hbm, ⟨91, _⟩ => ⟨S12x16384x64, .f32⟩
  | .hbm, ⟨92, _⟩ => ⟨S_, .f32⟩
  | .hbm, ⟨93, _⟩ => ⟨S64, .f32⟩
  | .hbm, ⟨94, _⟩ => ⟨S1x64, .f32⟩
  | .hbm, ⟨95, _⟩ => ⟨S12x16384x64, .f32⟩
  | .hbm, ⟨96, _⟩ => ⟨S_, .f32⟩
  | .hbm, ⟨97, _⟩ => ⟨S12x16384, .f32⟩
  | .hbm, ⟨98, _⟩ => ⟨S12x16384x1, .f32⟩
  | .hbm, ⟨99, _⟩ => ⟨S12x16384x64, .f32⟩
  | .hbm, ⟨100, _⟩ => ⟨S12x16384x64, .f32⟩
  | .hbm, ⟨101, _⟩ => ⟨S12x16384x1, .f32⟩
  | .hbm, ⟨102, _⟩ => ⟨S_, .f32⟩
  | .hbm, ⟨103, _⟩ => ⟨S12x16384x1, .f32⟩
  | .hbm, ⟨104, _⟩ => ⟨S12x16384x1, .f32⟩
  | .hbm, ⟨105, _⟩ => ⟨S_, .f32⟩
  | .hbm, ⟨106, _⟩ => ⟨S12x16384, .f32⟩
  | .hbm, ⟨107, _⟩ => ⟨S12x16384x64, .f32⟩
  | .hbm, ⟨108, _⟩ => ⟨S12x16384x64, .f32⟩
  | .hbm, ⟨109, _⟩ => ⟨S12x16384x64, .f32⟩
  | .hbm, ⟨110, _⟩ => ⟨S12x16384x64, .f32⟩
  | .hbm, ⟨111, _⟩ => ⟨S12x16384x64, .f32⟩
  | .hbm, ⟨112, _⟩ => ⟨S16384x12x64, .f32⟩
  | .hbm, ⟨113, _⟩ => ⟨S16384x768, .f32⟩
  | .hbm, ⟨114, _⟩ => ⟨S16384x768, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_cst_5 : Ref sig .tc := ⟨.hbm, 81, rfl⟩
abbrev main_v70 : Ref sig .tc := ⟨.hbm, 82, rfl⟩
abbrev main_cst_6 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_cst_7 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_8 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_9 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_10 : Ref sig .tc := ⟨.hbm, 102, rfl⟩
abbrev main_v86 : Ref sig .tc := ⟨.hbm, 103, rfl⟩
abbrev main_v87 : Ref sig .tc := ⟨.hbm, 104, rfl⟩
abbrev main_cst_11 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩

abbrev nD : Nat := 1
abbrev τ : Topo := Topo.v7x

variable {F : FTy → Type} [FloatOps F]
-- ==== KMem.lean ====
abbrev S256x512 : Shape := ⟨2, ![256, 512]⟩
abbrev S1x64 : Shape := ⟨2, ![1, 64]⟩
abbrev S256x256 : Shape := ⟨2, ![256, 256]⟩
abbrev S1x1x1x64 : Shape := ⟨4, ![1, 1, 1, 64]⟩
abbrev S1x1x4x64 : Shape := ⟨4, ![1, 1, 4, 64]⟩
abbrev S1x256 : Shape := ⟨2, ![1, 256]⟩
abbrev S256x128 : Shape := ⟨2, ![256, 128]⟩
abbrev S256 : Shape := ⟨1, ![256]⟩
abbrev S4x64 : Shape := ⟨2, ![4, 64]⟩
abbrev S_ : Shape := ⟨0, ![]⟩
abbrev S64 : Shape := ⟨1, ![64]⟩

abbrev nBuf : Space → Nat
  | .hbm => 12
  | .vmem => 5
  | .smem => 0
  | _ => 0

abbrev bufTy : (tb : Table) → Fin (tcTables nBuf tb) → BufTy
  | .hbm, ⟨0, _⟩ => ⟨S256x512, .bf16⟩
  | .hbm, ⟨1, _⟩ => ⟨S1x64, .f32⟩
  | .hbm, ⟨2, _⟩ => ⟨S256x256, .f32⟩
  | .hbm, ⟨3, _⟩ => ⟨S1x1x1x64, .f32⟩
  | .hbm, ⟨4, _⟩ => ⟨S1x1x4x64, .f32⟩
  | .hbm, ⟨5, _⟩ => ⟨S1x256, .f32⟩
  | .hbm, ⟨6, _⟩ => ⟨S256x256, .bf16⟩
  | .hbm, ⟨7, _⟩ => ⟨S1x256, .f32⟩
  | .hbm, ⟨8, _⟩ => ⟨S4x64, .f32⟩
  | .hbm, ⟨9, _⟩ => ⟨S_, .f32⟩
  | .hbm, ⟨10, _⟩ => ⟨S64, .f32⟩
  | .hbm, ⟨11, _⟩ => ⟨S1x64, .f32⟩
  | .local _ .vmem, ⟨0, _⟩ => ⟨S256x256, .bf16⟩
  | .local _ .vmem, ⟨1, _⟩ => ⟨S1x256, .f32⟩
  | .local _ .vmem, ⟨2, _⟩ => ⟨S256x256, .f32⟩
  | .local _ .vmem, ⟨3, _⟩ => ⟨S256x256, .bf16⟩
  | .local _ .vmem, ⟨4, _⟩ => ⟨S1x256, .f32⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KMemRefIdeal.lean ====
abbrev S256x512 : Shape := ⟨2, ![256, 512]⟩
abbrev S1x64 : Shape := ⟨2, ![1, 64]⟩
abbrev S256x256 : Shape := ⟨2, ![256, 256]⟩
abbrev S256x4x64 : Shape := ⟨3, ![256, 4, 64]⟩
abbrev S4x256x64 : Shape := ⟨3, ![4, 256, 64]⟩
abbrev S_ : Shape := ⟨0, ![]⟩
abbrev S4x256 : Shape := ⟨2, ![4, 256]⟩
abbrev S4x256x1 : Shape := ⟨3, ![4, 256, 1]⟩
abbrev S1x1x64 : Shape := ⟨3, ![1, 1, 64]⟩
abbrev S64 : Shape := ⟨1, ![64]⟩

abbrev nBuf : Space → Nat
  | .hbm => 60
  | .vmem => 0
  | .smem => 0
  | _ => 0

abbrev bufTy : (tb : Table) → Fin (tcTables nBuf tb) → BufTy
  | .hbm, ⟨0, _⟩ => ⟨S256x512, .bf16⟩
  | .hbm, ⟨1, _⟩ => ⟨S1x64, .f32⟩
  | .hbm, ⟨2, _⟩ => ⟨S256x256, .f32⟩
  | .hbm, ⟨3, _⟩ => ⟨S256x256, .bf16⟩
  | .hbm, ⟨4, _⟩ => ⟨S256x256, .f32⟩
  | .hbm, ⟨5, _⟩ => ⟨S256x4x64, .f32⟩
  | .hbm, ⟨6, _⟩ => ⟨S4x256x64, .f32⟩
  | .hbm, ⟨7, _⟩ => ⟨S4x256x64, .f32⟩
  | .hbm, ⟨8, _⟩ => ⟨S_, .f32⟩
  | .hbm, ⟨9, _⟩ => ⟨S4x256, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S_, .f32⟩
  | .hbm, ⟨15, _⟩ => ⟨S4x256x1, .f32⟩
  | .hbm, ⟨16, _⟩ => ⟨S4x256x1, .f32⟩
  | .hbm, ⟨17, _⟩ => ⟨S4x256x1, .f32⟩
  | .hbm, ⟨18, _⟩ => ⟨S4x256x1, .f32⟩
  | .hbm, ⟨19, _⟩ => ⟨S_, .f32⟩
  | .hbm, ⟨20, _⟩ => ⟨S4x256x1, .f32⟩
  | .hbm, ⟨21, _⟩ => ⟨S4x256x1, .f32⟩
  | .hbm, ⟨22, _⟩ => ⟨S4x256x64, .f32⟩
  | .hbm, ⟨23, _⟩ => ⟨S4x256x64, .f32⟩
  | .hbm, ⟨24, _⟩ => ⟨S1x1x64, .f32⟩
  | .hbm, ⟨25, _⟩ => ⟨S4x256x64, .f32⟩
  | .hbm, ⟨26, _⟩ => ⟨S4x256x64, .f32⟩
  | .hbm, ⟨27, _⟩ => ⟨S256x4x64, .f32⟩
  | .hbm, ⟨28, _⟩ => ⟨S256x256, .f32⟩
  | .hbm, ⟨29, _⟩ => ⟨S256x4x64, .f32⟩
  | .hbm, ⟨30, _⟩ => ⟨S4x256x64, .f32⟩
  | .hbm, ⟨31, _⟩ => ⟨S4x256x64, .f32⟩
  | .hbm, ⟨32, _⟩ => ⟨S_, .f32⟩
  | .hbm, ⟨33, _⟩ => ⟨S64, .f32⟩
  | .hbm, ⟨34, _⟩ => ⟨S1x1x64, .f32⟩
  | .hbm, ⟨35, _⟩ => ⟨S4x256x64, .f32⟩
  | .hbm, ⟨36, _⟩ => ⟨S4x256x64, .f32⟩
  | .hbm, ⟨37, _⟩ => ⟨S_, .f32⟩
  | .hbm, ⟨38, _⟩ => ⟨S64, .f32⟩
  | .hbm, ⟨39, _⟩ => ⟨S1x64, .f32⟩
  | .hbm, ⟨40, _⟩ => ⟨S4x256x64, .f32⟩
  | .hbm, ⟨41, _⟩ => ⟨S_, .f32⟩
  | .hbm, ⟨42, _⟩ => ⟨S4x256, .f32⟩
  | .hbm, ⟨43, _⟩ => ⟨S4x256x1, .f32⟩
  | .hbm, ⟨44, _⟩ => ⟨S4x256x64, .f32⟩
  | .hbm, ⟨45, _⟩ => ⟨S4x256x64, .f32⟩
  | .hbm, ⟨46, _⟩ => ⟨S4x256x1, .f32⟩
  | .hbm, ⟨47, _⟩ => ⟨S_, .f32⟩
  | .hbm, ⟨48, _⟩ => ⟨S4x256x1, .f32⟩
  | .hbm, ⟨49, _⟩ => ⟨S4x256x1, .f32⟩
  | .hbm, ⟨50, _⟩ => ⟨S_, .f32⟩
  | .hbm, ⟨51, _⟩ => ⟨S4x256, .f32⟩
  | .hbm, ⟨52, _⟩ => ⟨S4x256x64, .f32⟩
  | .hbm, ⟨53, _⟩ => ⟨S4x256x64, .f32⟩
  | .hbm, ⟨54, _⟩ => ⟨S4x256x64, .f32⟩
  | .hbm, ⟨55, _⟩ => ⟨S4x256x64, .f32⟩
  | .hbm, ⟨56, _⟩ => ⟨S4x256x64, .f32⟩
  | .hbm, ⟨57, _⟩ => ⟨S256x4x64, .f32⟩
  | .hbm, ⟨58, _⟩ => ⟨S256x256, .f32⟩
  | .hbm, ⟨59, _⟩ => ⟨S256x256, .bf16⟩
  | _, _ => ⟨S256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]
-- ==== KRope.lean ====
abbrev S16384x4096 : Shape := ⟨2, ![16384, 4096]⟩
abbrev S1x64 : Shape := ⟨2, ![1, 64]⟩
abbrev S16384x256 : Shape := ⟨2, ![16384, 256]⟩
abbrev S32 : Shape := ⟨1, ![32]⟩
abbrev S_ : Shape := ⟨0, ![]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩
abbrev S1x1x1x64 : Shape := ⟨4, ![1, 1, 1, 64]⟩
abbrev S1x1x12x64 : Shape := ⟨4, ![1, 1, 12, 64]⟩
abbrev S1x768 : Shape := ⟨2, ![1, 768]⟩
abbrev S16384x768 : Shape := ⟨2, ![16384, 768]⟩
abbrev S1024x768 : Shape := ⟨2, ![1024, 768]⟩
abbrev S1024x128 : Shape := ⟨2, ![1024, 128]⟩
abbrev S1024x256 : Shape := ⟨2, ![1024, 256]⟩
abbrev S256x128 : Shape := ⟨2, ![256, 128]⟩
abbrev S768 : Shape := ⟨1, ![768]⟩
abbrev S12x64 : Shape := ⟨2, ![12, 64]⟩
abbrev S64 : Shape := ⟨1, ![64]⟩

abbrev nBuf : Space → Nat
  | .hbm => 37
  | .vmem => 16
  | .smem => 0
  | _ => 0

abbrev bufTy : (tb : Table) → Fin (tcTables nBuf tb) → BufTy
  | .hbm, ⟨0, _⟩ => ⟨S16384x4096, .bf16⟩
  | .hbm, ⟨1, _⟩ => ⟨S1x64, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S16384, .i32⟩
  | .hbm, ⟨14, _⟩ => ⟨S16384, .f32⟩
  | .hbm, ⟨15, _⟩ => ⟨S16384x1, .f32⟩
  | .hbm, ⟨16, _⟩ => ⟨S1x32, .f32⟩
  | .hbm, ⟨17, _⟩ => ⟨S16384x32, .f32⟩
  | .hbm, ⟨18, _⟩ => ⟨S16384x32, .f32⟩
  | .hbm, ⟨19, _⟩ => ⟨S16384x32, .f32⟩
  | .hbm, ⟨20, _⟩ => ⟨S16384x32, .f32⟩
  | .hbm, ⟨21, _⟩ => ⟨S16384x32, .f32⟩
  | .hbm, ⟨22, _⟩ => ⟨S16384x32, .f32⟩
  | .hbm, ⟨23, _⟩ => ⟨S16384x32, .f32⟩
  | .hbm, ⟨24, _⟩ => ⟨S16384x128, .f32⟩
  | .hbm, ⟨25, _⟩ => ⟨S16384x32, .f32⟩
  | .hbm, ⟨26, _⟩ => ⟨S16384x32, .f32⟩
  | .hbm, ⟨27, _⟩ => ⟨S16384x128, .f32⟩
  | .hbm, ⟨28, _⟩ => ⟨S1x1x1x64, .f32⟩
  | .hbm, ⟨29, _⟩ => ⟨S1x1x12x64, .f32⟩
  | .hbm, ⟨30, _⟩ => ⟨S1x768, .f32⟩
  | .hbm, ⟨31, _⟩ => ⟨S16384x768, .bf16⟩
  | .hbm, ⟨32, _⟩ => ⟨S1x768, .f32⟩
  | .hbm, ⟨33, _⟩ => ⟨S12x64, .f32⟩
  | .hbm, ⟨34, _⟩ => ⟨S_, .f32⟩
  | .hbm, ⟨35, _⟩ => ⟨S64, .f32⟩
  | .hbm, ⟨36, _⟩ => ⟨S1x64, .f32⟩
  | .local _ .vmem, ⟨0, _⟩ => ⟨S1024x768, .bf16⟩
  | .local _ .vmem, ⟨1, _⟩ => ⟨S1024x768, .bf16⟩
  | .local _ .vmem, ⟨2, _⟩ => ⟨S1x768, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x768, .bf16⟩
  | .local _ .vmem, ⟨14, _⟩ => ⟨S1024x768, .bf16⟩
  | .local _ .vmem, ⟨15, _⟩ => ⟨S1x768, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KRopeRefIdeal.lean ====
abbrev S16384x4096 : Shape := ⟨2, ![16384, 4096]⟩
abbrev S1x64 : Shape := ⟨2, ![1, 64]⟩
abbrev S16384x256 : Shape := ⟨2, ![16384, 256]⟩
abbrev S16384x768 : Shape := ⟨2, ![16384, 768]⟩
abbrev S16384x12x64 : Shape := ⟨3, ![16384, 12, 64]⟩
abbrev S12x16384x64 : Shape := ⟨3, ![12, 16384, 64]⟩
abbrev S_ : Shape := ⟨0, ![]⟩
abbrev S12x16384 : Shape := ⟨2, ![12, 16384]⟩
abbrev S12x16384x1 : Shape := ⟨3, ![12, 16384, 1]⟩
abbrev S1x1x64 : Shape := ⟨3, ![1, 1, 64]⟩
abbrev S16384 : Shape := ⟨1, ![16384]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S12x16384x32 : Shape := ⟨3, ![12, 16384, 32]⟩
abbrev S1x16384x32 : Shape := ⟨3, ![1, 16384, 32]⟩
abbrev S64 : Shape := ⟨1, ![64]⟩

abbrev nBuf : Space → Nat
  | .hbm => 115
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x64, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S16384x768, .bf16⟩
  | .hbm, ⟨6, _⟩ => ⟨S16384x768, .f32⟩
  | .hbm, ⟨7, _⟩ => ⟨S16384x12x64, .f32⟩
  | .hbm, ⟨8, _⟩ => ⟨S12x16384x64, .f32⟩
  | .hbm, ⟨9, _⟩ => ⟨S12x16384x64, .f32⟩
  | .hbm, ⟨10, _⟩ => ⟨S_, .f32⟩
  | .hbm, ⟨11, _⟩ => ⟨S12x16384, .f32⟩
  | .hbm, ⟨12, _⟩ => ⟨S12x16384x1, .f32⟩
  | .hbm, ⟨13, _⟩ => ⟨S_, .f32⟩
  | .hbm, ⟨14, _⟩ => ⟨S12x16384x1, .f32⟩
  | .hbm, ⟨15, _⟩ => ⟨S12x16384x1, .f32⟩
  | .hbm, ⟨16, _⟩ => ⟨S_, .f32⟩
  | .hbm, ⟨17, _⟩ => ⟨S12x16384x1, .f32⟩
  | .hbm, ⟨18, _⟩ => ⟨S12x16384x1, .f32⟩
  | .hbm, ⟨19, _⟩ => ⟨S12x16384x1, .f32⟩
  | .hbm, ⟨20, _⟩ => ⟨S12x16384x1, .f32⟩
  | .hbm, ⟨21, _⟩ => ⟨S_, .f32⟩
  | .hbm, ⟨22, _⟩ => ⟨S12x16384x1, .f32⟩
  | .hbm, ⟨23, _⟩ => ⟨S12x16384x1, .f32⟩
  | .hbm, ⟨24, _⟩ => ⟨S12x16384x64, .f32⟩
  | .hbm, ⟨25, _⟩ => ⟨S12x16384x64, .f32⟩
  | .hbm, ⟨26, _⟩ => ⟨S1x1x64, .f32⟩
  | .hbm, ⟨27, _⟩ => ⟨S12x16384x64, .f32⟩
  | .hbm, ⟨28, _⟩ => ⟨S12x16384x64, .f32⟩
  | .hbm, ⟨29, _⟩ => ⟨S16384, .i32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S16384, .f32⟩
  | .hbm, ⟨39, _⟩ => ⟨S16384x1, .f32⟩
  | .hbm, ⟨40, _⟩ => ⟨S1x32, .f32⟩
  | .hbm, ⟨41, _⟩ => ⟨S16384x32, .f32⟩
  | .hbm, ⟨42, _⟩ => ⟨S16384x32, .f32⟩
  | .hbm, ⟨43, _⟩ => ⟨S16384x32, .f32⟩
  | .hbm, ⟨44, _⟩ => ⟨S16384x32, .f32⟩
  | .hbm, ⟨45, _⟩ => ⟨S16384x32, .f32⟩
  | .hbm, ⟨46, _⟩ => ⟨S12x16384x32, .f32⟩
  | .hbm, ⟨47, _⟩ => ⟨S12x16384x32, .f32⟩
  | .hbm, ⟨48, _⟩ => ⟨S1x16384x32, .f32⟩
  | .hbm, ⟨49, _⟩ => ⟨S12x16384x32, .f32⟩
  | .hbm, ⟨50, _⟩ => ⟨S12x16384x32, .f32⟩
  | .hbm, ⟨51, _⟩ => ⟨S1x16384x32, .f32⟩
  | .hbm, ⟨52, _⟩ => ⟨S12x16384x32, .f32⟩
  | .hbm, ⟨53, _⟩ => ⟨S12x16384x32, .f32⟩
  | .hbm, ⟨54, _⟩ => ⟨S12x16384x32, .f32⟩
  | .hbm, ⟨55, _⟩ => ⟨S1x16384x32, .f32⟩
  | .hbm, ⟨56, _⟩ => ⟨S12x16384x32, .f32⟩
  | .hbm, ⟨57, _⟩ => ⟨S12x16384x32, .f32⟩
  | .hbm, ⟨58, _⟩ => ⟨S1x16384x32, .f32⟩
  | .hbm, ⟨59, _⟩ => ⟨S12x16384x32, .f32⟩
  | .hbm, ⟨60, _⟩ => ⟨S12x16384x32, .f32⟩
  | .hbm, ⟨61, _⟩ => ⟨S12x16384x32, .f32⟩
  | .hbm, ⟨62, _⟩ => ⟨S12x16384x64, .f32⟩
  | .hbm, ⟨63, _⟩ => ⟨S16384x12x64, .f32⟩
  | .hbm, ⟨64, _⟩ => ⟨S16384x768, .f32⟩
  | .hbm, ⟨65, _⟩ => ⟨S16384x768, .f32⟩
  | .hbm, ⟨66, _⟩ => ⟨S16384x12x64, .f32⟩
  | .hbm, ⟨67, _⟩ => ⟨S12x16384x64, .f32⟩
  | .hbm, ⟨68, _⟩ => ⟨S12x16384x32, .f32⟩
  | .hbm, ⟨69, _⟩ => ⟨S12x16384x32, .f32⟩
  | .hbm, ⟨70, _⟩ => ⟨S12x16384x32, .f32⟩
  | .hbm, ⟨71, _⟩ => ⟨S12x16384x32, .f32⟩
  | .hbm, ⟨72, _⟩ => ⟨S12x16384x32, .f32⟩
  | .hbm, ⟨73, _⟩ => ⟨S12x16384x32, .f32⟩
  | .hbm, ⟨74, _⟩ => ⟨S12x16384x32, .f32⟩
  | .hbm, ⟨75, _⟩ => ⟨S12x16384x32, .f32⟩
  | .hbm, ⟨76, _⟩ => ⟨S12x16384x32, .f32⟩
  | .hbm, ⟨77, _⟩ => ⟨S12x16384x32, .f32⟩
  | .hbm, ⟨78, _⟩ => ⟨S12x16384x32, .f32⟩
  | .hbm, ⟨79, _⟩ => ⟨S12x16384x32, .f32⟩
  | .hbm, ⟨80, _⟩ => ⟨S12x16384x32, .f32⟩
  | .hbm, ⟨81, _⟩ => ⟨S_, .f32⟩
  | .hbm, ⟨82, _⟩ => ⟨S12x16384x64, .f32⟩
  | .hbm, ⟨83, _⟩ => ⟨S_, .f32⟩
  | .hbm, ⟨84, _⟩ => ⟨S12x16384x64, .f32⟩
  | .hbm, ⟨85, _⟩ => ⟨S12x16384x64, .f32⟩
  | .hbm, ⟨86, _⟩ => ⟨S12x16384x64, .f32⟩
  | .hbm, ⟨87, _⟩ => ⟨S_, .f32⟩
  | .hbm, ⟨88, _⟩ => ⟨S64, .f32⟩
  | .hbm, ⟨89, _⟩ => ⟨S1x1x64, .f32⟩
  | .hbm, ⟨90, _⟩ => ⟨S12x16384x64, .f32⟩
  | .hbm, ⟨91, _⟩ => ⟨S12x16384x64, .f32⟩
  | .hbm, ⟨92, _⟩ => ⟨S_, .f32⟩
  | .hbm, ⟨93, _⟩ => ⟨S64, .f32⟩
  | .hbm, ⟨94, _⟩ => ⟨S1x64, .f32⟩
  | .hbm, ⟨95, _⟩ => ⟨S12x16384x64, .f32⟩
  | .hbm, ⟨96, _⟩ => ⟨S_, .f32⟩
  | .hbm, ⟨97, _⟩ => ⟨S12x16384, .f32⟩
  | .hbm, ⟨98, _⟩ => ⟨S12x16384x1, .f32⟩
  | .hbm, ⟨99, _⟩ => ⟨S12x16384x64, .f32⟩
  | .hbm, ⟨100, _⟩ => ⟨S12x16384x64, .f32⟩
  | .hbm, ⟨101, _⟩ => ⟨S12x16384x1, .f32⟩
  | .hbm, ⟨102, _⟩ => ⟨S_, .f32⟩
  | .hbm, ⟨103, _⟩ => ⟨S12x16384x1, .f32⟩
  | .hbm, ⟨104, _⟩ => ⟨S12x16384x1, .f32⟩
  | .hbm, ⟨105, _⟩ => ⟨S_, .f32⟩
  | .hbm, ⟨106, _⟩ => ⟨S12x16384, .f32⟩
  | .hbm, ⟨107, _⟩ => ⟨S12x16384x64, .f32⟩
  | .hbm, ⟨108, _⟩ => ⟨S12x16384x64, .f32⟩
  | .hbm, ⟨109, _⟩ => ⟨S12x16384x64, .f32⟩
  | .hbm, ⟨110, _⟩ => ⟨S12x16384x64, .f32⟩
  | .hbm, ⟨111, _⟩ => ⟨S12x16384x64, .f32⟩
  | .hbm, ⟨112, _⟩ => ⟨S16384x12x64, .f32⟩
  | .hbm, ⟨113, _⟩ => ⟨S16384x768, .f32⟩
  | .hbm, ⟨114, _⟩ => ⟨S16384x768, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_cst_5 : Ref sig .tc := ⟨.hbm, 81, rfl⟩
abbrev main_v70 : Ref sig .tc := ⟨.hbm, 82, rfl⟩
abbrev main_cst_6 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_cst_7 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_8 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_9 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_10 : Ref sig .tc := ⟨.hbm, 102, rfl⟩
abbrev main_v86 : Ref sig .tc := ⟨.hbm, 103, rfl⟩
abbrev main_v87 : Ref sig .tc := ⟨.hbm, 104, rfl⟩
abbrev main_cst_11 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩

abbrev nD : Nat := 1
abbrev τ : Topo := Topo.v7x

variable {F : FTy → Type} [FloatOps F]
-- ==== MergeFwd.lean ====
abbrev S16384x3072 : Shape := ⟨2, ![16384, 3072]⟩
abbrev S1x3072 : Shape := ⟨2, ![1, 3072]⟩
abbrev S16384x1024 : Shape := ⟨2, ![16384, 1024]⟩
abbrev S1024x1024 : Shape := ⟨2, ![1024, 1024]⟩
abbrev S1x1024 : Shape := ⟨2, ![1, 1024]⟩

abbrev nBuf : Space → Nat
  | .hbm => 6
  | .vmem => 17
  | .smem => 0
  | _ => 0

abbrev bufTy : (tb : Table) → Fin (tcTables nBuf tb) → BufTy
  | .hbm, ⟨0, _⟩ => ⟨S16384x3072, .bf16⟩
  | .hbm, ⟨1, _⟩ => ⟨S1x3072, .f32⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeFwdRefIdeal.lean ====
abbrev S16384x3072 : Shape := ⟨2, ![16384, 3072]⟩
abbrev S1x3072 : Shape := ⟨2, ![1, 3072]⟩
abbrev S16384x1024 : Shape := ⟨2, ![16384, 1024]⟩
abbrev S_ : Shape := ⟨0, ![]⟩
abbrev S16384x3x1024 : Shape := ⟨3, ![16384, 3, 1024]⟩
abbrev S16384x1x1024 : Shape := ⟨3, ![16384, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S1x3072, .f32⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x3072, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x3072, .f32⟩
  | .hbm, ⟨10, _⟩ => ⟨S16384x3072, .f32⟩
  | .hbm, ⟨11, _⟩ => ⟨S16384x3072, .f32⟩
  | .hbm, ⟨12, _⟩ => ⟨S16384x3072, .f32⟩
  | .hbm, ⟨13, _⟩ => ⟨S_, .f32⟩
  | .hbm, ⟨14, _⟩ => ⟨S16384x3072, .f32⟩
  | .hbm, ⟨15, _⟩ => ⟨S16384x3072, .f32⟩
  | .hbm, ⟨16, _⟩ => ⟨S_, .f32⟩
  | .hbm, ⟨17, _⟩ => ⟨S16384x3072, .f32⟩
  | .hbm, ⟨18, _⟩ => ⟨S16384x3072, .f32⟩
  | .hbm, ⟨19, _⟩ => ⟨S16384x3x1024, .f32⟩
  | .hbm, ⟨20, _⟩ => ⟨S16384x1x1024, .f32⟩
  | .hbm, ⟨21, _⟩ => ⟨S16384x1024, .f32⟩
  | .hbm, ⟨22, _⟩ => ⟨S16384x1024, .f32⟩
  | .hbm, ⟨23, _⟩ => ⟨S16384x1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== RmsFwd.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RmsFwdRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MemFwd.lean ====
abbrev S16384x256 : Shape := ⟨2, ![16384, 256]⟩
abbrev S256x256 : Shape := ⟨2, ![256, 256]⟩
abbrev S256x512 : Shape := ⟨2, ![256, 512]⟩
abbrev S2048x128 : Shape := ⟨2, ![2048, 128]⟩
abbrev S256x128 : Shape := ⟨2, ![256, 128]⟩
abbrev S4096x128 : Shape := ⟨2, ![4096, 128]⟩
abbrev S4096x256 : Shape := ⟨2, ![4096, 256]⟩
abbrev S4096 : Shape := ⟨1, ![4096]⟩
abbrev S4096x1 : Shape := ⟨2, ![4096, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x256, .bf16⟩
  | .hbm, ⟨1, _⟩ => ⟨S256x256, .bf16⟩
  | .hbm, ⟨2, _⟩ => ⟨S256x512, .bf16⟩
  | .hbm, ⟨3, _⟩ => ⟨S16384x256, .f32⟩
  | .local _ .vmem, ⟨0, _⟩ => ⟨S2048x128, .bf16⟩
  | .local _ .vmem, ⟨1, _⟩ => ⟨S2048x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S2048x128, .f32⟩
  | .local _ .vmem, ⟨7, _⟩ => ⟨S2048x128, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemFwdRefIdeal.lean ====
abbrev S16384x256 : Shape := ⟨2, ![16384, 256]⟩
abbrev S256x256 : Shape := ⟨2, ![256, 256]⟩
abbrev S256x512 : Shape := ⟨2, ![256, 512]⟩
abbrev S16384x4x64 : Shape := ⟨3, ![16384, 4, 64]⟩
abbrev S4x16384x64 : Shape := ⟨3, ![4, 16384, 64]⟩
abbrev S256x4x64 : Shape := ⟨3, ![256, 4, 64]⟩
abbrev S4x256x64 : Shape := ⟨3, ![4, 256, 64]⟩
abbrev S4x16384x256 : Shape := ⟨3, ![4, 16384, 256]⟩
abbrev S_ : Shape := ⟨0, ![]⟩
abbrev S4x16384 : Shape := ⟨2, ![4, 16384]⟩
abbrev S4x16384x1 : Shape := ⟨3, ![4, 16384, 1]⟩

abbrev nBuf : Space → Nat
  | .hbm => 34
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S256x256, .bf16⟩
  | .hbm, ⟨2, _⟩ => ⟨S256x512, .bf16⟩
  | .hbm, ⟨3, _⟩ => ⟨S16384x256, .f32⟩
  | .hbm, ⟨4, _⟩ => ⟨S16384x4x64, .f32⟩
  | .hbm, ⟨5, _⟩ => ⟨S4x16384x64, .f32⟩
  | .hbm, ⟨6, _⟩ => ⟨S256x256, .f32⟩
  | .hbm, ⟨7, _⟩ => ⟨S256x4x64, .f32⟩
  | .hbm, ⟨8, _⟩ => ⟨S4x256x64, .f32⟩
  | .hbm, ⟨9, _⟩ => ⟨S4x16384x256, .f32⟩
  | .hbm, ⟨10, _⟩ => ⟨S_, .f32⟩
  | .hbm, ⟨11, _⟩ => ⟨S4x16384x256, .f32⟩
  | .hbm, ⟨12, _⟩ => ⟨S4x16384x256, .f32⟩
  | .hbm, ⟨13, _⟩ => ⟨S_, .f32⟩
  | .hbm, ⟨14, _⟩ => ⟨S4x16384, .f32⟩
  | .hbm, ⟨15, _⟩ => ⟨S_, .f32⟩
  | .hbm, ⟨16, _⟩ => ⟨S4x16384, .f32⟩
  | .hbm, ⟨17, _⟩ => ⟨S4x16384, .f32⟩
  | .hbm, ⟨18, _⟩ => ⟨S4x16384x1, .f32⟩
  | .hbm, ⟨19, _⟩ => ⟨S4x16384x256, .f32⟩
  | .hbm, ⟨20, _⟩ => ⟨S4x16384x256, .f32⟩
  | .hbm, ⟨21, _⟩ => ⟨S4x16384x256, .f32⟩
  | .hbm, ⟨22, _⟩ => ⟨S_, .f32⟩
  | .hbm, ⟨23, _⟩ => ⟨S4x16384, .f32⟩
  | .hbm, ⟨24, _⟩ => ⟨S4x16384x1, .f32⟩
  | .hbm, ⟨25, _⟩ => ⟨S4x16384x256, .f32⟩
  | .hbm, ⟨26, _⟩ => ⟨S4x16384x256, .f32⟩
  | .hbm, ⟨27, _⟩ => ⟨S256x512, .f32⟩
  | .hbm, ⟨28, _⟩ => ⟨S256x256, .f32⟩
  | .hbm, ⟨29, _⟩ => ⟨S256x4x64, .f32⟩
  | .hbm, ⟨30, _⟩ => ⟨S4x256x64, .f32⟩
  | .hbm, ⟨31, _⟩ => ⟨S4x16384x64, .f32⟩
  | .hbm, ⟨32, _⟩ => ⟨S16384x4x64, .f32⟩
  | .hbm, ⟨33, _⟩ => ⟨S16384x256, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== UpFwd.lean ====
abbrev S16384x1024 : Shape := ⟨2, ![16384, 1024]⟩
abbrev S1024x2816 : Shape := ⟨2, ![1024, 2816]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .bf16⟩
  | .hbm, ⟨2, _⟩ => ⟨S1024x2816, .bf16⟩
  | .hbm, ⟨3, _⟩ => ⟨S16384x2816, .bf16⟩
  | .hbm, ⟨4, _⟩ => ⟨S16384x2816, .bf16⟩
  | .hbm, ⟨5, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpFwdRefIdeal.lean ====
abbrev S16384x1024 : Shape := ⟨2, ![16384, 1024]⟩
abbrev S1024x2816 : Shape := ⟨2, ![1024, 2816]⟩
abbrev S16384x2816 : Shape := ⟨2, ![16384, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .bf16⟩
  | .hbm, ⟨2, _⟩ => ⟨S1024x2816, .bf16⟩
  | .hbm, ⟨3, _⟩ => ⟨S16384x1024, .f32⟩
  | .hbm, ⟨4, _⟩ => ⟨S1024x2816, .f32⟩
  | .hbm, ⟨5, _⟩ => ⟨S16384x2816, .f32⟩
  | .hbm, ⟨6, _⟩ => ⟨S16384x1024, .f32⟩
  | .hbm, ⟨7, _⟩ => ⟨S1024x2816, .f32⟩
  | .hbm, ⟨8, _⟩ => ⟨S16384x2816, .f32⟩
  | .hbm, ⟨9, _⟩ => ⟨S16384x2816, .bf16⟩
  | .hbm, ⟨10, _⟩ => ⟨S16384x2816, .bf16⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S_, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== OutFwd.lean ====
abbrev S16384x1024 : Shape := ⟨2, ![16384, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutFwdRefIdeal.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== QNormFwd.lean ====
abbrev S16384x4096 : Shape := ⟨2, ![16384, 4096]⟩
abbrev S1x64 : Shape := ⟨2, ![1, 64]⟩
abbrev S1x1x1x64 : Shape := ⟨4, ![1, 1, 1, 64]⟩
abbrev S1x1x4x64 : Shape := ⟨4, ![1, 1, 4, 64]⟩
abbrev S1x256 : Shape := ⟨2, ![1, 256]⟩
abbrev S16384x256 : Shape := ⟨2, ![16384, 256]⟩
abbrev S1024x256 : Shape := ⟨2, ![1024, 256]⟩
abbrev S256x128 : Shape := ⟨2, ![256, 128]⟩
abbrev S1024x128 : Shape := ⟨2, ![1024, 128]⟩

abbrev nBuf : Space → Nat
  | .hbm => 6
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S1x64, .f32⟩
  | .hbm, ⟨2, _⟩ => ⟨S1x1x1x64, .f32⟩
  | .hbm, ⟨3, _⟩ => ⟨S1x1x4x64, .f32⟩
  | .hbm, ⟨4, _⟩ => ⟨S1x256, .f32⟩
  | .hbm, ⟨5, _⟩ => ⟨S16384x256, .bf16⟩
  | .local _ .vmem, ⟨0, _⟩ => ⟨S1024x256, .bf16⟩
  | .local _ .vmem, ⟨1, _⟩ => ⟨S1024x256, .bf16⟩
  | .local _ .vmem, ⟨2, _⟩ => ⟨S1x256, .f32⟩
  | .local _ .vmem, ⟨3, _⟩ => ⟨S1024x256, .bf16⟩
  | .local _ .vmem, ⟨4, _⟩ => ⟨S1024x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QNormFwdRefIdeal.lean ====
abbrev S16384x4096 : Shape := ⟨2, ![16384, 4096]⟩
abbrev S1x64 : Shape := ⟨2, ![1, 64]⟩
abbrev S16384x256 : Shape := ⟨2, ![16384, 256]⟩
abbrev S16384x4x64 : Shape := ⟨3, ![16384, 4, 64]⟩
abbrev S4x16384x64 : Shape := ⟨3, ![4, 16384, 64]⟩
abbrev S_ : Shape := ⟨0, ![]⟩
abbrev S4x16384 : Shape := ⟨2, ![4, 16384]⟩
abbrev S4x16384x1 : Shape := ⟨3, ![4, 16384, 1]⟩
abbrev S1x1x64 : Shape := ⟨3, ![1, 1, 64]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x64, .f32⟩
  | .hbm, ⟨2, _⟩ => ⟨S16384x256, .bf16⟩
  | .hbm, ⟨3, _⟩ => ⟨S16384x256, .f32⟩
  | .hbm, ⟨4, _⟩ => ⟨S16384x4x64, .f32⟩
  | .hbm, ⟨5, _⟩ => ⟨S4x16384x64, .f32⟩
  | .hbm, ⟨6, _⟩ => ⟨S4x16384x64, .f32⟩
  | .hbm, ⟨7, _⟩ => ⟨S_, .f32⟩
  | .hbm, ⟨8, _⟩ => ⟨S4x16384, .f32⟩
  | .hbm, ⟨9, _⟩ => ⟨S4x16384x1, .f32⟩
  | .hbm, ⟨10, _⟩ => ⟨S_, .f32⟩
  | .hbm, ⟨11, _⟩ => ⟨S4x16384x1, .f32⟩
  | .hbm, ⟨12, _⟩ => ⟨S4x16384x1, .f32⟩
  | .hbm, ⟨13, _⟩ => ⟨S_, .f32⟩
  | .hbm, ⟨14, _⟩ => ⟨S4x16384x1, .f32⟩
  | .hbm, ⟨15, _⟩ => ⟨S4x16384x1, .f32⟩
  | .hbm, ⟨16, _⟩ => ⟨S4x16384x1, .f32⟩
  | .hbm, ⟨17, _⟩ => ⟨S4x16384x64, .f32⟩
  | .hbm, ⟨18, _⟩ => ⟨S4x16384x64, .f32⟩
  | .hbm, ⟨19, _⟩ => ⟨S1x1x64, .f32⟩
  | .hbm, ⟨20, _⟩ => ⟨S4x16384x64, .f32⟩
  | .hbm, ⟨21, _⟩ => ⟨S4x16384x64, .f32⟩
  | .hbm, ⟨22, _⟩ => ⟨S16384x4x64, .f32⟩
  | .hbm, ⟨23, _⟩ => ⟨S16384x256, .f32⟩
  | .hbm, ⟨24, _⟩ => ⟨S16384x256, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Proof.Merge.lean ====
/-
  The gradient of the gated merge, `m = Σ_b y_b · sigmoid(logits_b + bias_b)`.

  The kernel walks 32 blocks of 512 rows. Of each it writes the three branches' gradients, the gradient of
  the logits in three column stores, and adds the column sums of the last to the bias' gradient, which it
  keeps over the grid. The reference differentiates the whole merge at once: the three branches' parts
  arrive padded into one array and added.
-/
module

public import proofs.«01_k».proof.Proof.Gen.MergeIdeal.Value
public import proofs.«01_k».proof.Proof.Gen.MergeRefIdeal.Read
public import proofs.«01_k».proof.Defs
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MergeIdeal.Value

open Cert.MergeIdeal Cert.MergeIdeal.Gen Idealize.ShloMosaic Idealize.ShloMosaic.TcCoe Idealize.SL.Sem
open Idealize.ShloMosaic.Pipeline (Dat)
open Cert.MergeRefIdeal.Read

variable (m : (ℓ : Loc nD τ sig) → Buf (Elt Ideal) ℓ)

theorem idx : ∀ t : Fin cfg0.N, win0_0.index t = ![t.val, 0] ∧ win0_1.index t = ![t.val, 1] ∧ win0_2.index t = ![t.val, 2]
    ∧ win0_3.index t = ![0, 0] ∧ win0_4.index t = ![0, 1] ∧ win0_5.index t = ![0, 2]
    ∧ win0_6.index t = ![t.val, 0] ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0] ∧ win0_13.index t = ![t.val, 0] ∧ win0_14.index t = ![0, 0] :=
  (by decide +kernel : ∀ t : Fin grid0.N, _)

/-- The sigmoid, as both programs spell it. -/
def sg (u : EReal) : EReal := Ideal.div 1 (1 + Ideal.exp (0 - u))

/-- One entry of the gradient of a branch's logits: the cotangent, the branch, the gate and its complement. -/
def dl (L B y d : EReal) : EReal := d * y * sg (L + B) * (1 - sg (L + B))

section
variable (x0 : (⟨Cert.MergeRefIdeal.S16384x3072, .bf16⟩ : BufTy).Contents (Elt Ideal)) (x1 : (⟨Cert.MergeRefIdeal.S1x3072, .f32⟩ : BufTy).Contents (Elt Ideal))
  (x2 x3 x4 x5 : (⟨Cert.MergeRefIdeal.S16384x1024, .bf16⟩ : BufTy).Contents (Elt Ideal))

theorem ref46 (r : Fin 16384) (j : Fin 1024) : val_main_v46 (F := Ideal) x0 x1 x5 (ix2 r j)
    = (x5 (ix2 r j) : EReal) * sg (x0 (ix2 r ⟨j.val, by omega⟩) + x1 (ix2 0 ⟨j.val, by omega⟩)) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v46, val_main_v47, val_main_v48, val_main_cst, val_main_cst_0, val_main_cst_1, val_main_cst_2, val_main_cst_3, val_main_cst_4, val_main_cst_5, sg]
  simp only [zero_sub, mul_comm]

theorem ref47 (r : Fin 16384) (j : Fin 1024) : val_main_v47 (F := Ideal) x0 x1 x5 (ix2 r j)
    = (x5 (ix2 r j) : EReal) * sg (x0 (ix2 r ⟨1024 + j.val, by omega⟩) + x1 (ix2 0 ⟨1024 + j.val, by omega⟩)) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v46, val_main_v47, val_main_v48, val_main_cst, val_main_cst_0, val_main_cst_1, val_main_cst_2, val_main_cst_3, val_main_cst_4, val_main_cst_5, sg]
  simp only [zero_sub, mul_comm]

theorem ref48 (r : Fin 16384) (j : Fin 1024) : val_main_v48 (F := Ideal) x0 x1 x5 (ix2 r j)
    = (x5 (ix2 r j) : EReal) * sg (x0 (ix2 r ⟨2048 + j.val, by omega⟩) + x1 (ix2 0 ⟨2048 + j.val, by omega⟩)) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v46, val_main_v47, val_main_v48, val_main_cst, val_main_cst_0, val_main_cst_1, val_main_cst_2, val_main_cst_3, val_main_cst_4, val_main_cst_5, sg]
  simp only [zero_sub, mul_comm]

/-- The reference's gradient of the logits, of branch 0. -/
theorem ref43_0 (r : Fin 16384) (j : Fin 1024) : val_main_v43 (F := Ideal) x0 x1 x2 x3 x4 x5 (ix2 r ⟨j.val, by omega⟩)
    = dl (x0 (ix2 r ⟨j.val, by omega⟩)) (x1 (ix2 0 ⟨j.val, by omega⟩)) (x2 (ix2 r j)) (x5 (ix2 r j)) := by
  pointwise [val_main_v43, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v46, val_main_v47, val_main_v48, val_main_cst, val_main_cst_0, val_main_cst_1, val_main_cst_2, val_main_cst_3, val_main_cst_4, val_main_cst_5, dl, sg]
  have h0 : (j.val) / 1024 = 0 := by omega
  have h1 : j.val % 1024 = j.val := Nat.mod_eq_of_lt j.isLt
  simp [h0, h1, mul_assoc]

/-- The reference's gradient of the logits, of branch 1. -/
theorem ref43_1 (r : Fin 16384) (j : Fin 1024) : val_main_v43 (F := Ideal) x0 x1 x2 x3 x4 x5 (ix2 r ⟨1024 + j.val, by omega⟩)
    = dl (x0 (ix2 r ⟨1024 + j.val, by omega⟩)) (x1 (ix2 0 ⟨1024 + j.val, by omega⟩)) (x3 (ix2 r j)) (x5 (ix2 r j)) := by
  pointwise [val_main_v43, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v46, val_main_v47, val_main_v48, val_main_cst, val_main_cst_0, val_main_cst_1, val_main_cst_2, val_main_cst_3, val_main_cst_4, val_main_cst_5, dl, sg]
  have h0 : (1024 + j.val) / 1024 = 1 := by omega
  simp [h0, mul_assoc]

/-- The reference's gradient of the logits, of branch 2. -/
theorem ref43_2 (r : Fin 16384) (j : Fin 1024) : val_main_v43 (F := Ideal) x0 x1 x2 x3 x4 x5 (ix2 r ⟨2048 + j.val, by omega⟩)
    = dl (x0 (ix2 r ⟨2048 + j.val, by omega⟩)) (x1 (ix2 0 ⟨2048 + j.val, by omega⟩)) (x4 (ix2 r j)) (x5 (ix2 r j)) := by
  pointwise [val_main_v43, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v46, val_main_v47, val_main_v48, val_main_cst, val_main_cst_0, val_main_cst_1, val_main_cst_2, val_main_cst_3, val_main_cst_4, val_main_cst_5, dl, sg]
  have h0 : (2048 + j.val) / 1024 = 2 := by omega
  simp [h0, mul_assoc]

theorem ref45 (j : Fin 3072) : val_main_v45 (F := Ideal) x0 x1 x2 x3 x4 x5 (ix2 0 j)
    = ∑ r : Fin 16384, val_main_v43 (F := Ideal) x0 x1 x2 x3 x4 x5 (ix2 r j) := by
  pointwise [val_main_v45, val_main_v44, val_main_cst_5]
end

theorem cfgN : cfg0.N = 32 := by decide +kernel

/-- Row `i` of the block of grid point `t`. -/
def row (t : Fin cfg0.N) (i : Fin 512) : Fin 16384 := ⟨t.val * 512 + i.val, by have := t.isLt; have := cfgN; omega⟩

theorem rd0 (c : Dev nD) (t : Fin cfg0.N) (i : Fin 512) (j : Fin 1024) : iblk m c 0 t (ix2 i j) = (m ((c.tc : Thread nD τ).loc main_arg0)) (ix2 (row t i) ⟨j.val, by omega⟩) := by
  blk_ext [iblk, V, idx t, row]
theorem rd1 (c : Dev nD) (t : Fin cfg0.N) (i : Fin 512) (j : Fin 1024) : iblk m c 1 t (ix2 i j) = (m ((c.tc : Thread nD τ).loc main_arg0)) (ix2 (row t i) ⟨1024 + j.val, by omega⟩) := by
  blk_ext [iblk, V, idx t, row]
theorem rd2 (c : Dev nD) (t : Fin cfg0.N) (i : Fin 512) (j : Fin 1024) : iblk m c 2 t (ix2 i j) = (m ((c.tc : Thread nD τ).loc main_arg0)) (ix2 (row t i) ⟨2048 + j.val, by omega⟩) := by
  blk_ext [iblk, V, idx t, row]
theorem rd6 (c : Dev nD) (t : Fin cfg0.N) (i : Fin 512) (j : Fin 1024) : iblk m c 6 t (ix2 i j) = (m ((c.tc : Thread nD τ).loc main_arg2)) (ix2 (row t i) j) := by
  blk_ext [iblk, V, idx t, row]
theorem rd7 (c : Dev nD) (t : Fin cfg0.N) (i : Fin 512) (j : Fin 1024) : iblk m c 7 t (ix2 i j) = (m ((c.tc : Thread nD τ).loc main_arg3)) (ix2 (row t i) j) := by
  blk_ext [iblk, V, idx t, row]
theorem rd8 (c : Dev nD) (t : Fin cfg0.N) (i : Fin 512) (j : Fin 1024) : iblk m c 8 t (ix2 i j) = (m ((c.tc : Thread nD τ).loc main_arg4)) (ix2 (row t i) j) := by
  blk_ext [iblk, V, idx t, row]
theorem rd9 (c : Dev nD) (t : Fin cfg0.N) (i : Fin 512) (j : Fin 1024) : iblk m c 9 t (ix2 i j) = (m ((c.tc : Thread nD τ).loc main_arg5)) (ix2 (row t i) j) := by
  blk_ext [iblk, V, idx t, row]
theorem rd3 (c : Dev nD) (t : Fin cfg0.N) (j : Fin 1024) : iblk m c 3 t (ix2 0 j) = (m ((c.tc : Thread nD τ).loc main_arg1)) (ix2 0 ⟨j.val, by omega⟩) := by
  blk_ext [iblk, V, idx t]
theorem rd4 (c : Dev nD) (t : Fin cfg0.N) (j : Fin 1024) : iblk m c 4 t (ix2 0 j) = (m ((c.tc : Thread nD τ).loc main_arg1)) (ix2 0 ⟨1024 + j.val, by omega⟩) := by
  blk_ext [iblk, V, idx t]
theorem rd5 (c : Dev nD) (t : Fin cfg0.N) (j : Fin 1024) : iblk m c 5 t (ix2 0 j) = (m ((c.tc : Thread nD τ).loc main_arg1)) (ix2 0 ⟨2048 + j.val, by omega⟩) := by
  blk_ext [iblk, V, idx t]
theorem emb10 (t : Fin cfg0.N) (y : S512x1024.Idx) : (win0_10.blk t).view.emb y = ix2 (row t (y 0)) (y 1) := by
  blk_ext [idx t, row]
theorem emb11 (t : Fin cfg0.N) (y : S512x1024.Idx) : (win0_11.blk t).view.emb y = ix2 (row t (y 0)) (y 1) := by
  blk_ext [idx t, row]
theorem emb12 (t : Fin cfg0.N) (y : S512x1024.Idx) : (win0_12.blk t).view.emb y = ix2 (row t (y 0)) (y 1) := by
  blk_ext [idx t, row]
theorem emb13 (t : Fin cfg0.N) (y : S512x3072.Idx) : (win0_13.blk t).view.emb y = ix2 (row t (y 0)) (y 1) := by
  blk_ext [idx t, row]
theorem emb14 (t : Fin cfg0.N) (y : S1x3072.Idx) : (win0_14.blk t).view.emb y = ix2 0 (y 1) := by
  blk_ext [idx t]

/-- The reference's gradient of the logits, of the device's arguments. -/
abbrev REF (c : Dev nD) : (⟨Cert.MergeRefIdeal.S16384x3072, .f32⟩ : BufTy).Contents (Elt Ideal) := val_main_v43 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- What the body computes of branch 0 is the block of the reference. -/
theorem pt0 (c : Dev nD) (t : Fin cfg0.N) (i : Fin 512) (j : Fin 1024) : k0_pay10 (iblk m c 9 t) (iblk m c 0 t) (iblk m c 3 t) (iblk m c 6 t) (ix2 i j) = REF m c (ix2 (row t i) ⟨j.val, by omega⟩) := by
  rw [REF, ref43_0]
  pointwise [k0_pay10, k0_pay6, k0_pay8, dl, sg]
  rw [rd9, rd0, rd3, rd6]
theorem dl0 (c : Dev nD) (t : Fin cfg0.N) (x : S512x1024.Idx) (k : Fin 3072) (hk : k.val = 0 + (x 1).val) :
    k0_pay11 (iblk m c 9 t) (iblk m c 0 t) (iblk m c 3 t) (iblk m c 6 t) x = REF m c (ix2 (row t (x 0)) k) := by
  obtain ⟨i, j, rfl⟩ : ∃ i j, x = ix2 i j := ⟨x 0, x 1, eq_ix2 x⟩
  have hb : 0 + j.val < 3072 := by omega
  obtain rfl : k = ⟨0 + j.val, hb⟩ := Fin.ext hk
  pointwise [k0_pay11]
  exact (pt0 m c t i j).trans (by simp only [Nat.zero_add])
theorem sm0 (c : Dev nD) (t : Fin cfg0.N) (A : Vec Ideal S1x1024 .f32) (x : S1x1024.Idx) (k : Fin 3072) (hk : k.val = 0 + (x 1).val) :
    k0_pay12 (iblk m c 9 t) (iblk m c 0 t) (iblk m c 3 t) (iblk m c 6 t) A x = (A x + ∑ i : Fin 512, REF m c (ix2 (row t i) k) : EReal) := by
  obtain ⟨i, j, rfl⟩ : ∃ i j, x = ix2 i j := ⟨x 0, x 1, eq_ix2 x⟩
  have hb : 0 + j.val < 3072 := by omega
  obtain rfl : k = ⟨0 + j.val, hb⟩ := Fin.ext hk
  pointwise [k0_pay12]
  exact congrArg _ (Finset.sum_congr rfl fun i _ => (pt0 m c t i j).trans (by simp only [Nat.zero_add]))
/-- What the body computes of branch 1 is the block of the reference. -/
theorem pt1 (c : Dev nD) (t : Fin cfg0.N) (i : Fin 512) (j : Fin 1024) : k0_pay15 (k0_pay6 (iblk m c 9 t)) (iblk m c 1 t) (iblk m c 4 t) (iblk m c 7 t) (ix2 i j) = REF m c (ix2 (row t i) ⟨1024 + j.val, by omega⟩) := by
  rw [REF, ref43_1]
  pointwise [k0_pay15, k0_pay13, k0_pay6, dl, sg]
  rw [rd9, rd1, rd4, rd7]
theorem dl1 (c : Dev nD) (t : Fin cfg0.N) (x : S512x1024.Idx) (k : Fin 3072) (hk : k.val = 1024 + (x 1).val) :
    k0_pay16 (k0_pay6 (iblk m c 9 t)) (iblk m c 1 t) (iblk m c 4 t) (iblk m c 7 t) x = REF m c (ix2 (row t (x 0)) k) := by
  obtain ⟨i, j, rfl⟩ : ∃ i j, x = ix2 i j := ⟨x 0, x 1, eq_ix2 x⟩
  have hb : 1024 + j.val < 3072 := by omega
  obtain rfl : k = ⟨1024 + j.val, hb⟩ := Fin.ext hk
  pointwise [k0_pay16]
  exact (pt1 m c t i j).trans (by simp only [Nat.zero_add])
theorem sm1 (c : Dev nD) (t : Fin cfg0.N) (A : Vec Ideal S1x1024 .f32) (x : S1x1024.Idx) (k : Fin 3072) (hk : k.val = 1024 + (x 1).val) :
    k0_pay17 (k0_pay6 (iblk m c 9 t)) (iblk m c 1 t) (iblk m c 4 t) (iblk m c 7 t) A x = (A x + ∑ i : Fin 512, REF m c (ix2 (row t i) k) : EReal) := by
  obtain ⟨i, j, rfl⟩ : ∃ i j, x = ix2 i j := ⟨x 0, x 1, eq_ix2 x⟩
  have hb : 1024 + j.val < 3072 := by omega
  obtain rfl : k = ⟨1024 + j.val, hb⟩ := Fin.ext hk
  pointwise [k0_pay17]
  exact congrArg _ (Finset.sum_congr rfl fun i _ => (pt1 m c t i j).trans (by simp only [Nat.zero_add]))
/-- What the body computes of branch 2 is the block of the reference. -/
theorem pt2 (c : Dev nD) (t : Fin cfg0.N) (i : Fin 512) (j : Fin 1024) : k0_pay3 (k0_pay6 (iblk m c 9 t)) (k0_pay18 (iblk m c 2 t)) (iblk m c 5 t) (iblk m c 8 t) (ix2 i j) = REF m c (ix2 (row t i) ⟨2048 + j.val, by omega⟩) := by
  rw [REF, ref43_2]
  pointwise [k0_pay3, k0_pay1, k0_pay18, k0_pay6, dl, sg]
  rw [rd9, rd2, rd5, rd8]
theorem dl2 (c : Dev nD) (t : Fin cfg0.N) (x : S512x1024.Idx) (k : Fin 3072) (hk : k.val = 2048 + (x 1).val) :
    k0_pay4 (k0_pay6 (iblk m c 9 t)) (k0_pay18 (iblk m c 2 t)) (iblk m c 5 t) (iblk m c 8 t) x = REF m c (ix2 (row t (x 0)) k) := by
  obtain ⟨i, j, rfl⟩ : ∃ i j, x = ix2 i j := ⟨x 0, x 1, eq_ix2 x⟩
  have hb : 2048 + j.val < 3072 := by omega
  obtain rfl : k = ⟨2048 + j.val, hb⟩ := Fin.ext hk
  pointwise [k0_pay4]
  exact (pt2 m c t i j).trans (by simp only [Nat.zero_add])
theorem sm2 (c : Dev nD) (t : Fin cfg0.N) (A : Vec Ideal S1x1024 .f32) (x : S1x1024.Idx) (k : Fin 3072) (hk : k.val = 2048 + (x 1).val) :
    k0_pay5 (k0_pay6 (iblk m c 9 t)) (k0_pay18 (iblk m c 2 t)) (iblk m c 5 t) (iblk m c 8 t) A x = (A x + ∑ i : Fin 512, REF m c (ix2 (row t i) k) : EReal) := by
  obtain ⟨i, j, rfl⟩ : ∃ i j, x = ix2 i j := ⟨x 0, x 1, eq_ix2 x⟩
  have hb : 2048 + j.val < 3072 := by omega
  obtain rfl : k = ⟨2048 + j.val, hb⟩ := Fin.ext hk
  pointwise [k0_pay5]
  exact congrArg _ (Finset.sum_congr rfl fun i _ => (pt2 m c t i j).trans (by simp only [Nat.zero_add]))

/-- The gradient of branch 0. -/
theorem final10 (c : Dev nD) : (dats m 0 c).arrAt 10 cfg0.N
    = val_main_v46 (F := Ideal) (m ((c.tc : Thread nD τ).loc main_arg0)) (m ((c.tc : Thread nD τ).loc main_arg1)) (m ((c.tc : Thread nD τ).loc main_arg5)) := by
  refine (dats m 0 c).arrAt_eq_of_covers 10 _ (by decide +kernel) fun t _ y => ?_
  blk_simp
  have hp : ∀ y : S512x1024.Idx, k0_pay9 (iblk m c 9 t) (iblk m c 0 t) (iblk m c 3 t) y = val_main_v46 (F := Ideal) (m ((c.tc : Thread nD τ).loc main_arg0)) (m ((c.tc : Thread nD τ).loc main_arg1)) (m ((c.tc : Thread nD τ).loc main_arg5)) ((win0_10.blk t).view.emb y) := fun y => by
    obtain ⟨i, j, rfl⟩ : ∃ i j, y = ix2 i j := ⟨y 0, y 1, eq_ix2 y⟩
    rw [emb10]
    refine Eq.trans ?_ (ref46 _ _ _ (row t i) j).symm
    pointwise [k0_pay9, k0_pay6, k0_pay8, sg]
    rw [rd9, rd0, rd3]
  refine Eq.trans ?_ (hp y)
  rw [after0_10]
  by_cases h : t.val % 32 = 0
  · rw [outsAt0_A m c t h]; frame_out
  · rw [outsAt0_B m c t h]; frame_out

/-- The gradient of branch 1. -/
theorem final11 (c : Dev nD) : (dats m 0 c).arrAt 11 cfg0.N
    = val_main_v47 (F := Ideal) (m ((c.tc : Thread nD τ).loc main_arg0)) (m ((c.tc : Thread nD τ).loc main_arg1)) (m ((c.tc : Thread nD τ).loc main_arg5)) := by
  refine (dats m 0 c).arrAt_eq_of_covers 11 _ (by decide +kernel) fun t _ y => ?_
  blk_simp
  have hp : ∀ y : S512x1024.Idx, k0_pay14 (k0_pay6 (iblk m c 9 t)) (iblk m c 1 t) (iblk m c 4 t) y = val_main_v47 (F := Ideal) (m ((c.tc : Thread nD τ).loc main_arg0)) (m ((c.tc : Thread nD τ).loc main_arg1)) (m ((c.tc : Thread nD τ).loc main_arg5)) ((win0_11.blk t).view.emb y) := fun y => by
    obtain ⟨i, j, rfl⟩ : ∃ i j, y = ix2 i j := ⟨y 0, y 1, eq_ix2 y⟩
    rw [emb11]
    refine Eq.trans ?_ (ref47 _ _ _ (row t i) j).symm
    pointwise [k0_pay14, k0_pay13, k0_pay6, sg]
    rw [rd9, rd1, rd4]
  refine Eq.trans ?_ (hp y)
  rw [after0_11]
  by_cases h : t.val % 32 = 0
  · rw [outsAt0_A m c t h]; frame_out
  · rw [outsAt0_B m c t h]; frame_out

/-- The gradient of branch 2. -/
theorem final12 (c : Dev nD) : (dats m 0 c).arrAt 12 cfg0.N
    = val_main_v48 (F := Ideal) (m ((c.tc : Thread nD τ).loc main_arg0)) (m ((c.tc : Thread nD τ).loc main_arg1)) (m ((c.tc : Thread nD τ).loc main_arg5)) := by
  refine (dats m 0 c).arrAt_eq_of_covers 12 _ (by decide +kernel) fun t _ y => ?_
  blk_simp
  have hp : ∀ y : S512x1024.Idx, k0_pay2 (k0_pay6 (iblk m c 9 t)) (k0_pay18 (iblk m c 2 t)) (iblk m c 5 t) y = val_main_v48 (F := Ideal) (m ((c.tc : Thread nD τ).loc main_arg0)) (m ((c.tc : Thread nD τ).loc main_arg1)) (m ((c.tc : Thread nD τ).loc main_arg5)) ((win0_12.blk t).view.emb y) := fun y => by
    obtain ⟨i, j, rfl⟩ : ∃ i j, y = ix2 i j := ⟨y 0, y 1, eq_ix2 y⟩
    rw [emb12]
    refine Eq.trans ?_ (ref48 _ _ _ (row t i) j).symm
    pointwise [k0_pay2, k0_pay1, k0_pay18, k0_pay6, sg]
    rw [rd9, rd2, rd5]
  refine Eq.trans ?_ (hp y)
  rw [after0_12]
  by_cases h : t.val % 32 = 0
  · rw [outsAt0_A m c t h]; frame_out
  · rw [outsAt0_B m c t h]; frame_out

/-- The gradient of the logits, from the three column stores of each block. -/
theorem final13 (c : Dev nD) : (dats m 0 c).arrAt 13 cfg0.N
    = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 13 _ (by decide +kernel) fun t _ z => ?_
  blk_simp
  refine Eq.trans ?_ (congrArg (REF m c) (emb13 t z).symm)
  rw [after0_13]
  by_cases h : t.val % 32 = 0
  · rw [outsAt0_A m c t h]; frame_out
    canon_tiles z q
    · exact (dl2 m c t _ _ q1).trans (by rw [Fin.ext q0]; rfl)
    · exact (dl1 m c t _ _ q1).trans (by rw [Fin.ext q0]; rfl)
    · exact (dl0 m c t _ _ (q1.trans (Nat.zero_add _).symm)).trans (by rw [Fin.ext q0]; rfl)
  · rw [outsAt0_B m c t h]; frame_out
    canon_tiles z q
    · exact (dl2 m c t _ _ q1).trans (by rw [Fin.ext q0]; rfl)
    · exact (dl1 m c t _ _ q1).trans (by rw [Fin.ext q0]; rfl)
    · exact (dl0 m c t _ _ (q1.trans (Nat.zero_add _).symm)).trans (by rw [Fin.ext q0]; rfl)

/-- A column store's rectangle places column `j` at `o + j`. -/
theorem col_val (o : ℕ) (inb) (x : S1x1024.Idx) : ((Rect.unit (s := S1x3072) ![0, o] ![1, 1024] inb).idx x 1).val = o + (x 1).val := by
  simp [Rect.emb, LoadRect.idx]

/-- The bias' gradient after a point: what it was plus the column sums of the point's block. -/
theorem stepB (c : Dev nD) (t : Fin cfg0.N) (h : ¬ t.val % 32 = 0) (z : S1x3072.Idx) : (outsAt0 m c t.val t.isLt).2.2.2.2 z
    = ((outsAt0 m c (t.val - 1) (by omega)).2.2.2.2 z + ∑ i : Fin 512, REF m c (ix2 (row t i) (z 1)) : EReal) := by
  rw [outsAt0_B m c t h]; frame_out
  canon_tiles z q
  · rw [sm2 m c t _ _ _ q1]
    refine congrArg (· + _) ?_
    blk_ext [View.ld]
    exact (col_val _ _ _).trans (by omega)
  · rw [sm1 m c t _ _ _ q1]
    refine congrArg (· + _) ?_
    blk_ext [View.ld]
    exact (col_val _ _ _).trans (by omega)
  · rw [sm0 m c t _ _ _ (q1.trans (Nat.zero_add _).symm)]
    refine congrArg (· + _) ?_
    blk_ext [View.ld]
    exact (col_val _ _ _).trans (by omega)

/-- The column sums of the block of grid point `t`. -/
def colsum (c : Dev nD) (t : Fin cfg0.N) : Vec Ideal S1x3072 .f32 := fun z => (0 + ∑ i : Fin 512, REF m c (ix2 (row t i) (z 1)) : EReal)

/-- The bias' gradient after the first point: the column sums of its block. -/
theorem stepA (c : Dev nD) (t : Fin cfg0.N) (h : t.val % 32 = 0) (z : S1x3072.Idx) : (outsAt0 m c t.val t.isLt).2.2.2.2 z
    = (0 + ∑ i : Fin 512, REF m c (ix2 (row t i) (z 1)) : EReal) := by
  rw [outsAt0_A m c t h]; frame_open
  simp (disch := decide) only [↓ View.readCov_skip, View.readCov_fill]
  frame_out
  refine View.canon_append_of_piecesOf (colsum m c t) [_] [_, _, _]
    ⟨fun x => ?_, fun x => ?_, fun x => ?_, trivial⟩ z ?_
  · exact (sm2 m c t _ x _ (col_val 2048 inb_S1x3072_S1x1024_0_2048 x)).trans (congrArg (· + _) (by pointwise [k0_pay7]))
  · exact (sm1 m c t _ x _ (col_val 1024 inb_S1x3072_S1x1024_0_1024 x)).trans (congrArg (· + _) (by pointwise [k0_pay7]))
  · exact (sm0 m c t _ x _ (col_val 0 inb_S1x3072_S1x1024_0_0 x)).trans (congrArg (· + _) (by pointwise [k0_pay7]))
  · have h0 := (z 0).isLt
    have h1 : (z 1).val < 3072 := (z 1).isLt
    have hc : ∀ (o : ℕ) (inb), o ≤ (z 1).val → (z 1).val < o + 1024 → z ∈ (Rect.unit (s := S1x3072) ![0, o] ![1, 1024] inb).set := fun o inb h2 h3 =>
      Rect.mem_set_unit.mpr (by intro a; match a with | ⟨0, _⟩ => exact ⟨Nat.zero_le _, by simpa using h0⟩ | ⟨1, _⟩ => exact ⟨h2, h3⟩)
    by_cases h2 : 2048 ≤ (z 1).val
    · exact ⟨_, .head _, hc _ inb_S1x3072_S1x1024_0_2048 h2 (by omega)⟩
    · by_cases h3 : 1024 ≤ (z 1).val
      · exact ⟨_, .tail _ (.head _), hc _ inb_S1x3072_S1x1024_0_1024 h3 (by omega)⟩
      · exact ⟨_, .tail _ (.tail _ (.head _)), hc _ inb_S1x3072_S1x1024_0_0 (Nat.zero_le _) (by omega)⟩

/-- The rows of the 32 blocks are all rows. -/
theorem sum_blocks (f : Fin 16384 → EReal) (q : ℕ) (hq : q = 0) (h : ∀ s : Fin 32, 32 * q + s.val < cfg0.N) :
    ∑ s : Fin 32, ∑ i : Fin 512, f (row ⟨32 * q + s.val, h s⟩ i) = ∑ r : Fin 16384, f r := by
  subst hq
  rw [Fin.sum_univ_tiles 32 512 rfl]
  refine Finset.sum_congr rfl fun s _ => Finset.sum_congr rfl fun k _ => congrArg f (Fin.ext ?_)
  simp only [row]
  omega

/-- The bias' gradient: the sums over the blocks are the reference's sum over all rows. -/
theorem final14 (c : Dev nD) : (dats m 0 c).arrAt 14 cfg0.N
    = val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 14 _ (by decide +kernel) fun t hf z => ?_
  blk_simp
  refine Eq.trans ?_ ((congrArg _ (emb14 t z)).trans (ref45 _ _ _ _ _ _ (z 1))).symm
  rw [after0_14, Pipeline.eq_sum_fin_of_reset_step_apply_of_flush (fun n h => (outsAt0 m c n h).2.2.2.2) 32 (fun _ => (0 : EReal))
    (fun t z => (∑ i : Fin 512, REF m c (ix2 (row t i) (z 1)) : EReal)) (fun t h z => stepA m c t h z) (fun t h z => stepB m c t h z)
    t ((flush0_14 t).mp hf) z, zero_add]
  exact sum_blocks (fun r => REF m c (ix2 r (z 1))) _ (Nat.div_eq_of_lt (lt_of_lt_of_eq t.isLt cfgN)) _

/-- The kernel's merge gradient and the reference's are the same function over the extended reals. -/
theorem algebraic : Cert.algebraic_MergeIdeal_MergeRefIdeal := fun m ρ m' ρ' _ hag =>
  ⟨fun c => val_main_v46 (F := Ideal) (m ((c.tc : Thread nD τ).loc main_arg0)) (m ((c.tc : Thread nD τ).loc main_arg1)) (m ((c.tc : Thread nD τ).loc main_arg5)), fun c => val_main_v47 (F := Ideal) (m ((c.tc : Thread nD τ).loc main_arg0)) (m ((c.tc : Thread nD τ).loc main_arg1)) (m ((c.tc : Thread nD τ).loc main_arg5)),
   fun c => val_main_v48 (F := Ideal) (m ((c.tc : Thread nD τ).loc main_arg0)) (m ((c.tc : Thread nD τ).loc main_arg1)) (m ((c.tc : Thread nD τ).loc main_arg5)), fun c => val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)), fun c => val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)),
   (θ_run Cert.MergeIdeal.defs _ _).mono (fun r h c => by
      obtain ⟨h0, h1, h2, h3, h4, ha⟩ := h c
      exact ⟨h0.trans (final10 m c), h1.trans (final11 m c), h2.trans (final12 m c), h3.trans (final13 m c), h4.trans (final14 m c), ha⟩)
    (run_blocks m ρ),
   (θ_run Cert.MergeRefIdeal.defs _ _).mono (fun r h c => by
      obtain ⟨e0, e1, e2, e3, e4, e5⟩ := hag c
      obtain ⟨h0, h1, h2, h3, h4, ha⟩ := h c
      rw [val_main_v46_eq, e0, e1, e5] at h0
      rw [val_main_v47_eq, e0, e1, e5] at h1
      rw [val_main_v48_eq, e0, e1, e5] at h2
      rw [val_main_v49_eq, e0, e1, e2, e3, e4, e5] at h3
      rw [val_main_v45_eq, e0, e1, e2, e3, e4, e5] at h4
      exact ⟨h0, h1, h2, h3, h4, ha⟩)
    (Cert.MergeRefIdeal.Value.run m' ρ')⟩

/-- The reference runs and leaves its arguments as they were; it has no semaphore. -/
theorem frame_ref : Cert.quiescent_MergeRefIdeal := fun m ρ _ =>
  (θ_run Cert.MergeRefIdeal.defs _ _).mono (fun r h => ⟨fun c => (h c).2.2.2.2.2, Idealize.ShloMosaic.sem_eq_zero_of_no_sems (by decide) r.2⟩)
    (Cert.MergeRefIdeal.Value.run m ρ)

end Cert.MergeIdeal.Value

end
-- ==== Proof.Sb.Loop.lean ====
/-
  The key loop of the stick-breaking attention's backward kernel: what one tile of keys does, what the loop leaves
  after its tiles, and that the loop's label, entered with `k` tiles still to visit, leaves exactly that.
-/
module

public import proofs.«01_k».proof.Proof.Gen.SbIdeal
public import proofs.«01_k».proof.Proof.Gen.SbIdeal.Skeleton
public import Idealize.ShloMosaic.Lib.Tactic
public import Idealize.ShloMosaic.Lib.Pipeline.Kit

@[expose] public section

noncomputable section

namespace Cert.SbIdeal.Sb

open Cert.SbIdeal Cert.SbIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resource algebra: the rounds library's for the staging cells, beside the counters of the kernel's own copies. -/
abbrev UU (nD : Nat) (τ : Topo) : Type := UR sig nD τ × Counters

local notation "𝕄" => MT nD τ sig Unit (Elt F) ℕ (UU nD τ) ℕ

/-- The loop's variants: the tiles still to visit. -/
abbrev 𝒱₀ : Variants := Variants.nat

/-- A memref's buffer on core `c`, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two accumulators in scratch memory: the gradients of the keys and of the values. -/
abbrev MK : Memref sig .tc .vmem S16384x128 .f32 := Memref.whole cc0_scratch0
abbrev MV : Memref sig .tc .vmem S16384x128 .f32 := Memref.whole cc0_scratch1

/-- The word of the tile visited when `k` tiles remain: `k - 1`. -/
abbrev jw (k : ℕ) : BitVec 32 := Scalar.subi (BitVec.ofNat 32 k) 1#32

/-- Every tile the loop visits lies inside the arrays. -/
theorem chk_of_le (k : ℕ) (hk : k < 128) : k0_chk1 (jw (k + 1)) := by
  have h : ∀ k : Fin 128, k0_chk1 (jw (k.val + 1)) := by decide +kernel
  exact h ⟨k, hk⟩

theorem jw_succ (k : ℕ) (hk : k < 128) : Scalar.subi (jw (k + 1)) 1#32 = jw k := by
  have h : ∀ k : Fin 128, Scalar.subi (jw (k.val + 1)) 1#32 = jw k.val := by decide +kernel
  exact h ⟨k, hk⟩

theorem jw_nonneg (k : ℕ) (hk : k < 128) : Scalar.cmpi .sge (jw (k + 1)) 0#32 = 1#1 := by
  have h : ∀ k : Fin 128, Scalar.cmpi .sge (jw (k.val + 1)) 0#32 = 1#1 := by decide +kernel
  exact h ⟨k, hk⟩

theorem jw_zero : Scalar.cmpi .sge (jw 0) 0#32 = 0#1 := by decide

section Loop

variable (c : Dev nD) (i : grid0.Coords)
  (M3 : Memref sig .tc .vmem S16384x128 .bf16) (h3 : M3.IsWhole) (M4 : Memref sig .tc .vmem S16384x128 .bf16) (h4 : M4.IsWhole)
  (q2 do2 : FVec F S512x128 .bf16) (ts ti : FVec F S256x128 .bf16) (ds : FVec F S512x1 .f32)
  (fk : Bf (F := F) c M3) (fv : Bf (F := F) c M4)

/-- The rectangle of the tile visited when `k + 1` tiles remain: rows `128 k … 128 k + 127`. -/
abbrev rJ (k : ℕ) (hk : k < 128) : Rect S16384x128 :=
  Rect.unit (s := S16384x128) (k0_off2 (jw (k + 1))) S128x128.size (k0_off2_inb _ (chk_of_le k hk))

/-- What one tile makes of the carried log-sum, -/
def tCa (q2 : FVec F S512x128 .bf16) (ca : FVec F S512x1 .f32) (kb : Vec F S128x128 .bf16) : FVec F S512x1 .f32 :=
  k0_pay56 ca (k0_pay48 q2 kb)
/-- of the carried sum of gradients, -/
def tGa (q2 do2 : FVec F S512x128 .bf16) (ts : FVec F S256x128 .bf16) (ca ga : FVec F S512x1 .f32) (kb vb : Vec F S128x128 .bf16) :
    FVec F S512x1 .f32 :=
  k0_pay57 ga (k0_pay51 q2 ts do2 ca kb vb)
/-- of the queries' gradient, -/
def tDq (q2 do2 : FVec F S512x128 .bf16) (ts ti : FVec F S256x128 .bf16) (ds ca ga : FVec F S512x1 .f32) (dq : FVec F S512x128 .f32)
    (kb vb : Vec F S128x128 .bf16) : FVec F S512x128 .f32 :=
  k0_pay58 ds dq kb (k0_pay49 q2 kb) (k0_pay51 q2 ts do2 ca kb vb) (k0_pay52 q2 ts do2 ti ca ga kb vb)
/-- of its rows of the keys' gradient, -/
def tK (q2 do2 : FVec F S512x128 .bf16) (ts ti : FVec F S256x128 .bf16) (ds ca ga : FVec F S512x1 .f32)
    (kb vb : Vec F S128x128 .bf16) (Kb : Vec F S128x128 .f32) : Vec F S128x128 .f32 :=
  k0_pay54 q2 ds (k0_pay49 q2 kb) (k0_pay51 q2 ts do2 ca kb vb) (k0_pay52 q2 ts do2 ti ca ga kb vb) Kb
/-- of its rows of the values' gradient, -/
def tV (q2 do2 : FVec F S512x128 .bf16) (ts : FVec F S256x128 .bf16) (ca : FVec F S512x1 .f32)
    (kb : Vec F S128x128 .bf16) (Vb : Vec F S128x128 .f32) : Vec F S128x128 .f32 :=
  k0_pay55 do2 (k0_pay50 q2 ts ca kb) Vb
/-- and of the flag: whether some row's carried log-sum is still above the threshold. -/
def tFl (q2 : FVec F S512x128 .bf16) (ca : FVec F S512x1 .f32) (kb : Vec F S128x128 .bf16) : BitVec 32 :=
  Scalar.extui (Scalar.cmpf .ogt (k0_pay59 ca (k0_pay48 q2 kb)) (Named.named κ "dead" 0xC31EB24B#32))

/-- What the loop carries: the flag, the two row carries, the queries' gradient, and the two accumulators. -/
structure St (F : FTy → Type) [FloatOps F] (c : Dev nD) where
  fl : BitVec 32
  ca : FVec F S512x1 .f32
  ga : FVec F S512x1 .f32
  dq : FVec F S512x128 .f32
  K : Bf (F := F) c MK
  V : Bf (F := F) c MV

/-- The tile's keys and values, out of their staging buffers. -/
abbrev kT (k : ℕ) (hk : k < 128) : Vec F S128x128 .bf16 := M3.view.readAt (Elt F) (rJ k hk).toLoadRect fk
abbrev vT (k : ℕ) (hk : k < 128) : Vec F S128x128 .bf16 := M4.view.readAt (Elt F) (rJ k hk).toLoadRect fv

/-- One tile's step. -/
def tile (k : ℕ) (hk : k < 128) (s : St F c) : St F c where
  fl := tFl q2 s.ca (kT c M3 fk k hk)
  ca := tCa q2 s.ca (kT c M3 fk k hk)
  ga := tGa q2 do2 ts s.ca s.ga (kT c M3 fk k hk) (vT c M4 fv k hk)
  dq := tDq q2 do2 ts ti ds s.ca s.ga s.dq (kT c M3 fk k hk) (vT c M4 fv k hk)
  K := MK.view.writes (Elt F) s.K [⟨rJ k hk, tK q2 do2 ts ti ds s.ca s.ga (kT c M3 fk k hk) (vT c M4 fv k hk)
    (MK.view.readAt (Elt F) (rJ k hk).toLoadRect s.K)⟩]
  V := MV.view.writes (Elt F) s.V [⟨rJ k hk, tV q2 do2 ts s.ca (kT c M3 fk k hk)
    (MV.view.readAt (Elt F) (rJ k hk).toLoadRect s.V)⟩]

/-- The loop with `k` tiles to visit, downwards, as long as the flag is up. -/
def loop : ℕ → St F c → St F c
  | 0, s => s
  | k + 1, s => if hk : k < 128 then
      if Scalar.cmpi .sgt s.fl 0#32 = 1#1 then loop k (tile c M3 M4 q2 do2 ts ti ds fk fv k hk s) else s
    else s

/-- The four buffers the loop touches, held whole. -/
def held (s : St F c) : sProp 𝕄 := iprop(pt c M3 fk ∗ pt c M4 fv ∗ pt c MK s.K ∗ pt c MV s.V)

/-- The loop's specification with `k` tiles to visit from state `s`. -/
def spec (k : ℕ) (s : St F c) : sWPT 𝕄 (BitVec 32 × BitVec 32 × FVec F S512x1 .f32 × FVec F S512x1 .f32 × FVec F S512x128 .f32) := do
  sWPT.consume (held c M3 M4 fk fv s)
  let r ← sWPT.arbitrary
  sWPT.assume (r.2.2.2.2 = (loop c M3 M4 q2 do2 ts ti ds fk fv k s).dq)
  sWPT.produce (held c M3 M4 fk fv (loop c M3 M4 q2 do2 ts ti ds fk fv k s))
  pure r

theorem spec_apply (k : ℕ) (s : St F c) (K) :
    spec c M3 M4 q2 do2 ts ti ds fk fv k s K
      = iprop(held c M3 M4 fk fv s ∗ ∀ r : BitVec 32 × BitVec 32 × FVec F S512x1 .f32 × FVec F S512x1 .f32 × FVec F S512x128 .f32,
          ⌜r.2.2.2.2 = (loop c M3 M4 q2 do2 ts ti ds fk fv k s).dq⌝ -∗ (held c M3 M4 fk fv (loop c M3 M4 q2 do2 ts ti ds fk fv k s) -∗ K r)) := rfl

theorem loop_succ (k : ℕ) (hk : k < 128) (s : St F c) (h : Scalar.cmpi .sgt s.fl 0#32 = 1#1) :
    loop c M3 M4 q2 do2 ts ti ds fk fv (k + 1) s
      = loop c M3 M4 q2 do2 ts ti ds fk fv k (tile c M3 M4 q2 do2 ts ti ds fk fv k hk s) := by
  rw [loop, dif_pos hk, if_pos h]

theorem loop_stop (k : ℕ) (s : St F c) (h : ¬ Scalar.cmpi .sgt s.fl 0#32 = 1#1) :
    loop c M3 M4 q2 do2 ts ti ds fk fv k s = s := by
  cases k with
  | zero => rfl
  | succ k => simp [loop, h]

theorem andi_one (a b : BitVec 1) : Scalar.andi a b = 1#1 ↔ a = 1#1 ∧ b = 1#1 := by
  revert a b; decide

/-- The label's body meets the specification, by induction on the tiles to visit: the test fails when none remains or
    the flag is down, and otherwise the tile is done and the label called again with one tile fewer. -/
theorem spec_le (E : Set ℕ) :
    ∀ (k : ℕ), k ≤ 128 → ∀ (s : St F c) K, spec c M3 M4 q2 do2 ts ti ds fk fv k s K ⊢
      wp frame (wpE (defs₀ (F := F)) 𝒱₀ (c : Thread nD τ) (some k)) E
        (defs₀ (F := F) .tc 1 ⟨i, M3, h3, q2, ts, M4, h4, do2, ti, ds, MK, Memref.isWhole_whole _, MV, Memref.isWhole_whole _, jw k, s.fl, s.ca, s.ga, s.dq⟩) K := by
  intro k
  induction k with
  | zero =>
    intro _ s K
    rw [spec_apply]
    show _ ⊢ wp frame (wpE (defs₀ (F := F)) 𝒱₀ (c : Thread nD τ) (some 0)) E
        (cc0_while1 i M3 h3 q2 ts M4 h4 do2 ti ds MK (Memref.isWhole_whole _) MV (Memref.isWhole_whole _) (jw 0) s.fl s.ca s.ga s.dq) K
    simp only [cc0_while1_eq_skeleton]; unfold cc0_while1_skel
    have htest : ¬ Scalar.andi (Scalar.cmpi .sge (jw 0) 0#32) (Scalar.cmpi .sgt s.fl 0#32) = 1#1 := by
      rw [jw_zero, andi_one]; rintro ⟨h, -⟩; exact absurd h (by decide)
    simp only [htest, ↓reduceIte, Prog.pure_eq_ret]
    iintro ⟨H, Hk⟩
    rw [wp_ret]; imodintro
    iapply Hk
    · ipureintro; rfl
    · simp only [loop]; iexact H
  | succ k ih =>
    intro hk1 s K
    have hk : k < 128 := by omega
    rw [spec_apply]
    show _ ⊢ wp frame (wpE (defs₀ (F := F)) 𝒱₀ (c : Thread nD τ) (some (k + 1))) E
        (cc0_while1 i M3 h3 q2 ts M4 h4 do2 ti ds MK (Memref.isWhole_whole _) MV (Memref.isWhole_whole _) (jw (k + 1)) s.fl s.ca s.ga s.dq) K
    simp only [cc0_while1_eq_skeleton]; unfold cc0_while1_skel
    have hchk := chk_of_le k hk
    have h1 := jw_nonneg k hk
    by_cases hf : Scalar.andi (Scalar.cmpi .sge (jw (k + 1)) 0#32) (Scalar.cmpi .sgt s.fl 0#32) = 1#1
    · have hfl := ((andi_one _ _).mp hf).2
      rw [loop_succ (hk := hk) (h := hfl)]
      unfold held
      iintro ⟨⟨H3, H4, HK, HV⟩, Hk⟩
      sl_exec_parts
      have e : (spec_le.sl.v373 k) = jw k := jw_succ k hk
      rw [e]
      iapply (wp_call_spec 𝒱₀ (c : Thread nD τ) (some (k + 1)) E
        (spec c M3 M4 q2 do2 ts ti ds fk fv k (tile c M3 M4 q2 do2 ts ti ds fk fv k hk s)) k
        (fun u hu => by cases hu; exact Nat.lt_succ_self k) (ih (by omega) _))
      rw [spec_apply]; unfold held
      isplitl [H3 H4 HK HV]
      · isplitl [H3]; · iexact H3
        isplitl [H4]; · iexact H4
        isplitl [HK]; · iexact HK
        iexact HV
      iintro %r %hr ⟨H3, H4, HK, HV⟩
      rw [wp_ret]; imodintro
      iapply Hk
      · ipureintro; exact hr
      · isplitl [H3]; · iexact H3
        isplitl [H4]; · iexact H4
        isplitl [HK]; · iexact HK
        iexact HV
    · have hfl : ¬ Scalar.cmpi .sgt s.fl 0#32 = 1#1 := fun h => hf ((andi_one _ _).mpr ⟨h1, h⟩)
      rw [loop_stop (h := hfl)]
      simp only [hf, ↓reduceIte, Prog.pure_eq_ret]
      iintro ⟨H, Hk⟩
      rw [wp_ret]; imodintro
      iapply Hk
      · ipureintro; rfl
      · iexact H

end Loop

end Cert.SbIdeal.Sb

end
-- ==== Proof.Sb.Body.lean ====
/-
  The stick-breaking attention's backward kernel at one grid point: the accumulators cleared at a head pair's first
  row block, the two masked tiles on the diagonal, the loop over the earlier tiles, the queries' gradient stored, and
  at the head pair's last row block the two accumulators copied out.
-/
module

public import proofs.«01_k».proof.Proof.Sb.Loop

@[expose] public section

noncomputable section

namespace Cert.SbIdeal.Sb

open Cert.SbIdeal Cert.SbIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-- The kernel's own semaphores: one for each of its two copies. -/
abbrev osem : Fin 2 → SemLoc sig := fun | 0 => .dma 12 | 1 => .dma 13

/-- The two counters at zero. -/
abbrev sems0 (c : Dev nD) : sProp 𝕄 :=
  iprop(semVal ((c : Thread nD τ), osem 0) 0 ∗ semVal ((c : Thread nD τ), osem 1) 0)

/-! ## The two masked tiles on the diagonal -/

section Diag

variable (a1 : BitVec 32) (q2 do2 : FVec F S512x128 .bf16) (ds : FVec F S512x1 .f32)
  (kb1 vb1 kb0 vb0 : Vec F S128x128 .bf16) (Kb Vb : Vec F S128x128 .f32)

/-- The lane numbers. -/
abbrev lane : IVec S512x128 32 := iota .tc S512x128 32 [1] iota_S512x128_d1_w32
/-- The two triangular matrices that sum within a tile: strictly later keys, and keys from this one on. -/
def ts : FVec F S256x128 .bf16 := k0_pay15 k0_pay12 k0_pay13 k0_pay14
def ti : FVec F S256x128 .bf16 := k0_pay16
/-- A query row's number within its block less the key's lane. -/
def rel : IVec S512x128 32 := k0_pay20 lane 256#32 k0_pay17 k0_pay18 k0_pay19
abbrev zero512 : FVec F S512x128 .f32 := constant S512x128 .f32 0x00000000#32
abbrev zeroS : F .f32 := Scalar.ofBits .f32 0x00000000#32

/-- The later of the two tiles: its log-sigmoids, its mask, its masked log-sums, -/
def lf1 : FVec F S512x128 .f32 := k0_pay25 q2 kb1
def mk1 : IVec S512x128 1 := k0_pay26 a1 lane 256#32 k0_pay17 k0_pay18 k0_pay19
def ls1 : FVec F S512x128 .f32 := k0_pay27 a1 q2 lane 256#32 k0_pay17 k0_pay18 k0_pay19 kb1
def sp1 : FVec F S512x256 .bf16 := k0_pay28 a1 q2 lane 256#32 k0_pay17 k0_pay18 k0_pay19 kb1
/-- its weights' gradients, the scores' gradients, and what it makes of the accumulators and the carries. -/
def g1 : FVec F S512x128 .f32 := k0_pay30 do2 ts k0_pay21 (lf1 q2 kb1) (mk1 a1) (sp1 a1 q2 kb1) zero512 vb1
def dz1 : FVec F S512x128 .f32 := k0_pay31 do2 ds ts ti k0_pay21 (lf1 q2 kb1) (mk1 a1) (sp1 a1 q2 kb1) zero512 vb1
def K1 : Vec F S128x128 .f32 := k0_pay32 q2 do2 ds ts ti k0_pay21 (lf1 q2 kb1) (mk1 a1) (sp1 a1 q2 kb1) zero512 vb1 Kb
def V1 : Vec F S128x128 .f32 := k0_pay34 (k0_pay33 do2 ts k0_pay21 (lf1 q2 kb1) (mk1 a1) (sp1 a1 q2 kb1) zero512 Vb)
def ca1 : FVec F S512x1 .f32 := k0_pay35 k0_pay21 (ls1 a1 q2 kb1)
def ga1 : FVec F S512x1 .f32 := k0_pay36 k0_pay21 (g1 a1 q2 do2 kb1 vb1)
def dq1 : FVec F S512x128 .f32 := k0_pay37 k0_pay22 kb1 (dz1 a1 q2 do2 ds kb1 vb1)

/-- The earlier of the two tiles, likewise. -/
def lf0 : FVec F S512x128 .f32 := k0_pay39 q2 kb0
def lg0 : FVec F S512x128 .f32 := k0_pay40 q2 kb0
def mk0 : IVec S512x128 1 := k0_pay41 a1 rel
def ls0 : FVec F S512x128 .f32 := k0_pay42 (lf0 q2 kb0) (mk0 a1) zeroS
def w0 : FVec F S512x128 .bf16 := k0_pay43 ts (ca1 a1 q2 kb1) (lf0 q2 kb0) (lg0 q2 kb0) (mk0 a1) zeroS
def g0 : FVec F S512x128 .f32 := k0_pay44 do2 ts (ca1 a1 q2 kb1) (lf0 q2 kb0) (lg0 q2 kb0) (mk0 a1) zeroS vb0
def dz0 : FVec F S512x128 .f32 :=
  k0_pay45 do2 ds ts ti (ca1 a1 q2 kb1) (ga1 a1 q2 do2 kb1 vb1) (lf0 q2 kb0) (lg0 q2 kb0) (mk0 a1) zeroS vb0
def K0 : Vec F S128x128 .f32 :=
  k0_pay46 q2 do2 ds ts ti (ca1 a1 q2 kb1) (ga1 a1 q2 do2 kb1 vb1) (lf0 q2 kb0) (lg0 q2 kb0) (mk0 a1) zeroS vb0 Kb
def V0 : Vec F S128x128 .f32 := k0_pay1 do2 (w0 a1 q2 kb1 kb0) Vb
def ca0 : FVec F S512x1 .f32 := k0_pay2 (ca1 a1 q2 kb1) (ls0 a1 q2 kb0)
def ga0 : FVec F S512x1 .f32 := k0_pay3 (ga1 a1 q2 do2 kb1 vb1) (g0 a1 q2 do2 kb1 kb0 vb0)
def dq0 : FVec F S512x128 .f32 := k0_pay4 (dq1 a1 q2 do2 ds kb1 vb1) kb0 (dz0 a1 q2 do2 ds kb1 vb1 kb0 vb0)

end Diag

section Point

variable (c : Dev nD) (i : grid0.Coords)
  (M2 : Memref sig .tc .vmem S256x128 .bf16) (h2 : M2.IsWhole)
  (M3 : Memref sig .tc .vmem S16384x128 .bf16) (h3 : M3.IsWhole) (M4 : Memref sig .tc .vmem S16384x128 .bf16) (h4 : M4.IsWhole)
  (M5 : Memref sig .tc .vmem S256x128 .f32) (h5 : M5.IsWhole)
  (M6 : Memref sig .tc .vmem S256x128 .bf16) (h6 : M6.IsWhole)
  (M7 : Memref sig .tc .vmem S256x128 .bf16) (h7 : M7.IsWhole)
  (f2 : Bf (F := F) c M2) (f3 : Bf (F := F) c M3) (f4 : Bf (F := F) c M4) (f5 : Bf (F := F) c M5) (f6 : Bf (F := F) c M6)

/-- The two results left in device memory. -/
abbrev MdK : Memref sig .tc .hbm S16384x512 .f32 := Memref.whole main_v33_1
abbrev MdV : Memref sig .tc .hbm S16384x512 .f32 := Memref.whole main_v33_2

/-- A whole block, and the diagonal's two tiles of a whole column. -/
abbrev rB : Rect S256x128 := Rect.unit (s := S256x128) ![0, 0] S256x128.size inb_S256x128_S256x128_0_0
abbrev rA : Rect S16384x128 := Rect.unit (s := S16384x128) ![0, 0] S16384x128.size inb_S16384x128_S16384x128_0_0
abbrev rD1 : Rect S16384x128 := Rect.unit (s := S16384x128) (k0_off1 i 1#32) S128x128.size (k0_off1_inb i 1)
abbrev rD0 : Rect S16384x128 := Rect.unit (s := S16384x128) (k0_off1 i 0#32) S128x128.size (k0_off1_inb i 0)

/-- The row block's number, and whether it is the first of its head pair. -/
abbrev rowW : BitVec 32 := BitVec.ofNat 32 (i 1).val
def isFirst : BitVec 1 := Scalar.cmpi .ne (Scalar.extui (Scalar.cmpi .eq (rowW i) 0#32) : BitVec 32) 0#32

abbrev q2 : FVec F S512x128 .bf16 := k0_pay9 (M2.view.readAt (Elt F) rB.toLoadRect f2)
abbrev do2 : FVec F S512x128 .bf16 := k0_pay10 (M6.view.readAt (Elt F) rB.toLoadRect f6)
abbrev ds : FVec F S512x1 .f32 := k0_pay11 (M6.view.readAt (Elt F) rB.toLoadRect f6) (M5.view.readAt (Elt F) rB.toLoadRect f5)
abbrev kD1 : Vec F S128x128 .bf16 := M3.view.readAt (Elt F) (rD1 i).toLoadRect f3
abbrev vD1 : Vec F S128x128 .bf16 := M4.view.readAt (Elt F) (rD1 i).toLoadRect f4
abbrev kD0 : Vec F S128x128 .bf16 := M3.view.readAt (Elt F) (rD0 i).toLoadRect f3
abbrev vD0 : Vec F S128x128 .bf16 := M4.view.readAt (Elt F) (rD0 i).toLoadRect f4

/-- The accumulators as the diagonal's tiles find them: cleared at a head pair's first row block. -/
def startK (fK : Bf (F := F) c MK) : Bf (F := F) c MK :=
  if isFirst i = 1#1 then MK.view.writes (Elt F) fK [⟨rA, k0_pay6⟩] else fK
def startV (fV : Bf (F := F) c MV) : Bf (F := F) c MV :=
  if isFirst i = 1#1 then MV.view.writes (Elt F) fV [⟨rA, k0_pay7⟩] else fV

/-- What the loop starts from: the diagonal's two tiles done. -/
def start (fK : Bf (F := F) c MK) (fV : Bf (F := F) c MV) : St F c where
  fl := 1#32
  ca := ca0 (rowW i) (q2 c M2 f2) (kD1 c i M3 f3) (kD0 c i M3 f3)
  ga := ga0 (rowW i) (q2 c M2 f2) (do2 c M6 f6) (kD1 c i M3 f3) (vD1 c i M4 f4) (kD0 c i M3 f3) (vD0 c i M4 f4)
  dq := dq0 (rowW i) (q2 c M2 f2) (do2 c M6 f6) (ds c M5 M6 f5 f6) (kD1 c i M3 f3) (vD1 c i M4 f4) (kD0 c i M3 f3) (vD0 c i M4 f4)
  K := MK.view.writes (Elt F) (startK c i fK)
    [⟨rD0 i, K0 (rowW i) (q2 c M2 f2) (do2 c M6 f6) (ds c M5 M6 f5 f6) (kD1 c i M3 f3) (vD1 c i M4 f4) (kD0 c i M3 f3) (vD0 c i M4 f4)
        (MK.view.readAt (Elt F) (rD0 i).toLoadRect (startK c i fK))⟩,
     ⟨rD1 i, K1 (rowW i) (q2 c M2 f2) (do2 c M6 f6) (ds c M5 M6 f5 f6) (kD1 c i M3 f3) (vD1 c i M4 f4)
        (MK.view.readAt (Elt F) (rD1 i).toLoadRect (startK c i fK))⟩]
  V := MV.view.writes (Elt F) (startV c i fV)
    [⟨rD0 i, V0 (rowW i) (q2 c M2 f2) (do2 c M6 f6) (kD1 c i M3 f3) (kD0 c i M3 f3)
        (MV.view.readAt (Elt F) (rD0 i).toLoadRect (startV c i fV))⟩,
     ⟨rD1 i, V1 (rowW i) (q2 c M2 f2) (do2 c M6 f6) (kD1 c i M3 f3)
        (MV.view.readAt (Elt F) (rD1 i).toLoadRect (startV c i fV))⟩]

/-- What the loop leaves. -/
def fin (fK : Bf (F := F) c MK) (fV : Bf (F := F) c MV) : St F c :=
  loop c M3 M4 (q2 c M2 f2) (do2 c M6 f6) ts ti (ds c M5 M6 f5 f6) f3 f4 (2 * (i 1).val)
    (start c i M2 M3 M4 M5 M6 f2 f3 f4 f5 f6 fK fV)

/-- The columns of a head pair in the two results. -/
abbrev rC (h : k0_cond2 i = 1#1) : Rect S16384x512 :=
  Rect.unit (s := S16384x512) (k0_off3 i) S16384x128.size (k0_off3_inb i h)

theorem jw_start : Scalar.subi (Scalar.muli (rowW i) 2#32) 1#32 = jw (2 * (i 1).val) := by
  have h : ∀ a : Fin 64, Scalar.subi (Scalar.muli (BitVec.ofNat 32 a.val) 2#32) 1#32 = jw (2 * a.val) := by decide +kernel
  exact h (i 1)

theorem row_lt : (i 1).val < 64 := (i 1).isLt

/-- The head pair's columns of the two results, once its last row block is done. -/
def outK (fdk : Bf (F := F) c MdK) (s : St F c) : Bf (F := F) c MdK :=
  if h : k0_cond2 i = 1#1 then
    View.write (Elt F) (MdK.slice (rC i h) (fun _ => rfl)).view fdk (ReadAs.same.apply (View.read (Elt F) MK.view s.K)) Finset.univ
  else fdk
def outV (fdv : Bf (F := F) c MdV) (s : St F c) : Bf (F := F) c MdV :=
  if h : k0_cond2 i = 1#1 then
    View.write (Elt F) (MdV.slice (rC i h) (fun _ => rfl)).view fdv (ReadAs.same.apply (View.read (Elt F) MV.view s.V)) Finset.univ
  else fdv

set_option maxHeartbeats 1000000 in
/-- THE POINT: the queries' gradient stored, the accumulators at what the loop leaves, and the two results with the head
    pair's columns at its last row block; the copies' counters are back at zero. -/
theorem sound_point (f7 : Bf (F := F) c M7) (fdk : Bf (F := F) c MdK) (fdv : Bf (F := F) c MdV)
    (fK : Bf (F := F) c MK) (fV : Bf (F := F) c MV) (W : Waits sig Unit) (Q : PUnit → sProp 𝕄) :
    iprop(pt c M2 f2 ∗ pt c M3 f3 ∗ pt c M4 f4 ∗ pt c M5 f5 ∗ pt c M6 f6 ∗ pt c M7 f7 ∗ pt c MdK fdk ∗ pt c MdV fdv
        ∗ pt c MK fK ∗ pt c MV fV ∗ sems0 c ∗ owes (c : Thread nD τ) 0 W
        ∗ (iprop(pt c M2 f2 ∗ pt c M3 f3 ∗ pt c M4 f4 ∗ pt c M5 f5 ∗ pt c M6 f6
            ∗ pt c M7 (M7.view.writes (Elt F) f7
                [⟨rB, k0_pay5 k0_pay8 (fin c i M2 M3 M4 M5 M6 f2 f3 f4 f5 f6 fK fV).dq⟩])
            ∗ pt c MdK (outK c i fdk (fin c i M2 M3 M4 M5 M6 f2 f3 f4 f5 f6 fK fV))
            ∗ pt c MdV (outV c i fdv (fin c i M2 M3 M4 M5 M6 f2 f3 f4 f5 f6 fK fV))
            ∗ pt c MK (fin c i M2 M3 M4 M5 M6 f2 f3 f4 f5 f6 fK fV).K ∗ pt c MV (fin c i M2 M3 M4 M5 M6 f2 f3 f4 f5 f6 fK fV).V
            ∗ sems0 c ∗ ∃ W', owes (c : Thread nD τ) 0 W') -∗ Q ⟨⟩)) ⊢
      wp frame (wpE (defs₀ (F := F)) 𝒱₀ (c : Thread nD τ) none) Set.univ
        (cc0_sb_bwd i M2 h2 M3 h3 M4 h4 M5 h5 M6 h6 M7 h7 MdK (Memref.isWhole_whole _) MdV (Memref.isWhole_whole _)
          MK (Memref.isWhole_whole _) MV (Memref.isWhole_whole _) cc0_scratch2) Q := by
  simp only [cc0_sb_bwd_eq_skeleton]; unfold cc0_sb_bwd_skel
  iintro ⟨H2, H3, H4, H5, H6, H7, HdK, HdV, HK, HV, ⟨Hs0, Hs1⟩, HO, HQ⟩
  sl_exec_parts
  rw [show sound_point.sl.v281 i = jw (2 * (i 1).val) from jw_start i]
  have hT := spec_le (F := F) c i M3 h3 M4 h4 (q2 c M2 f2) (do2 c M6 f6) ts ti (ds c M5 M6 f5 f6) f3 f4 Set.univ
    (2 * (i 1).val) (by have := row_lt i; omega) (start c i M2 M3 M4 M5 M6 f2 f3 f4 f5 f6 fK fV)
  iapply (wp_call_spec 𝒱₀ (c : Thread nD τ) none Set.univ (spec c M3 M4 (q2 c M2 f2) (do2 c M6 f6) ts ti (ds c M5 M6 f5 f6) f3 f4
      (2 * (i 1).val) (start c i M2 M3 M4 M5 M6 f2 f3 f4 f5 f6 fK fV))
      (2 * (i 1).val) (fun u hu => nomatch hu) hT)
  rw [spec_apply]; unfold held
  isplitl [H3 H4 HK HV]
  · isplitl [H3]; · iexact H3
    isplitl [H4]; · iexact H4
    isplitl [HK]; · iexact HK
    iexact HV
  iintro %r %hr ⟨H3, H4, HK, HV⟩
  obtain ⟨r0, r1, r2, r3, r4⟩ := r
  dsimp only at hr
  subst hr
  unfold outK outV
  by_cases hc2 : k0_cond2 i = 1#1
  · rw [dif_pos hc2, dif_pos hc2]
    sl_exec
    rw [wp_ret]; imodintro; iapply HQ
    isplitl [H2]; · iexact H2
    isplitl [H3]; · iexact H3
    isplitl [H4]; · iexact H4
    isplitl [H5]; · iexact H5
    isplitl [H6]; · iexact H6
    isplitl [H7]; · iexact H7
    isplitl [HdK]; · iexact HdK
    isplitl [HdV]; · iexact HdV
    isplitl [HK]; · iexact HK
    isplitl [HV]; · iexact HV
    isplitl [Hs0 Hs1]; · (isplitl [Hs0]; · iexact Hs0); iexact Hs1
    iexists _; iexact HO
  · rw [dif_neg hc2, dif_neg hc2]
    sl_exec
    rw [wp_ret]; imodintro; iapply HQ
    isplitl [H2]; · iexact H2
    isplitl [H3]; · iexact H3
    isplitl [H4]; · iexact H4
    isplitl [H5]; · iexact H5
    isplitl [H6]; · iexact H6
    isplitl [H7]; · iexact H7
    isplitl [HdK]; · iexact HdK
    isplitl [HdV]; · iexact HdV
    isplitl [HK]; · iexact HK
    isplitl [HV]; · iexact HV
    isplitl [Hs0 Hs1]; · (isplitl [Hs0]; · iexact Hs0); iexact Hs1
    iexists _; iexact HO

end Point

end Cert.SbIdeal.Sb

end
-- ==== Proof.Sb.Run.lean ====
/-
  The stick-breaking attention's backward kernel over its grid: what each point finds and leaves, the two accumulators
  and the two results left in device memory carried from point to point, and the run of the whole program.
-/
module

public import proofs.«01_k».proof.Proof.Sb.Body
public import proofs.«01_k».proof.Proof.Gen.SbIdeal.Launch
public import proofs.«01_k».proof.Proof.Gen.SbIdeal.Points
public import Idealize.ShloMosaic.Lib.Pipeline.KitQuiescent
public import Idealize.ShloMosaic.Lib.Pipeline.Frame
public import Idealize.ShloMosaic.Lib.Pipeline.FrameBody
public import Idealize.ShloMosaic.Lib.VecWindow

@[expose] public section

set_option maxRecDepth 16384

noncomputable section

namespace Cert.SbIdeal.Sb

open Cert.SbIdeal Cert.SbIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

/-! ## A whole buffer, owned through its memref -/

section Whole

variable {sp : Space} {S : Shape} {e : EltTy} (c : Dev nD) {M : Memref sig .tc sp S e} (h : M.IsWhole)

theorem owns_open (X : S.Idx → Elt F e) : (owns (c : Thread nD τ) M fullShare X : sProp 𝕄) ⊢ pt c M (h.unread X) := by
  have hs : M.view.set = Finset.univ := by
    obtain ⟨b, rfl, rfl, rfl, hm⟩ := h; cases hm; exact View.set_whole _
  unfold owns
  iintro ⟨%f, %hf, H⟩
  obtain rfl := h.eq_unread hf
  rw [hs]
  iexact H

include h in
theorem owns_close (f : Bf (F := F) c M) (X : S.Idx → Elt F e) (hf : M.view.read (Elt F) f = X) :
    (pt c M f : sProp 𝕄) ⊢ owns (c : Thread nD τ) M fullShare X := by
  have hs : M.view.set = Finset.univ := by
    obtain ⟨b, rfl, rfl, rfl, hm⟩ := h; cases hm; exact View.set_whole _
  unfold owns
  iintro H
  iexists f
  isplitr; · ipureintro; exact hf
  rw [hs]
  iexact H

end Whole

/-! ## The queries' gradient does not depend on the accumulators -/

section Dq

variable (c : Dev nD) (M3 : Memref sig .tc .vmem S16384x128 .bf16) (M4 : Memref sig .tc .vmem S16384x128 .bf16)
  (q2 do2 : FVec F S512x128 .bf16) (ts ti : FVec F S256x128 .bf16) (ds : FVec F S512x1 .f32)
  (fk : Bf (F := F) c M3) (fv : Bf (F := F) c M4)

theorem loop_dq_congr : ∀ (k : ℕ) (s s' : St F c), s.fl = s'.fl → s.ca = s'.ca → s.ga = s'.ga → s.dq = s'.dq →
    (loop c M3 M4 q2 do2 ts ti ds fk fv k s).dq = (loop c M3 M4 q2 do2 ts ti ds fk fv k s').dq
  | 0, s, s', _, _, _, h => h
  | k + 1, s, s', h1, h2, h3, h4 => by
    unfold loop
    rw [h1]
    split
    · split
      · exact loop_dq_congr k _ _ (by simp only [tile, h2]) (by simp only [tile, h2]) (by simp only [tile, h2, h3])
          (by simp only [tile, h2, h3, h4])
      · exact h4
    · exact h4

end Dq

/-! ## What the region finds -/

variable (m : (ℓ : Loc nD τ sig) → Buf (Elt F) ℓ) (ρ : Dev nD → PrngReg)

/-- The host operations before the kernel. -/
abbrev opss : List (List (HloOp τ sig (Elt F))) :=
  [hostOps0, hostOps0_1, hostOps0_2, hostOps0_3, hostOps0_4, hostOps0_5, hostOps0_6, hostOps0_7, hostOps0_8, hostOps0_9]

/-- The buffers' contents when the kernel starts. -/
def V (c : Dev nD) (b : Ref sig .tc) : Buf (Elt F) ((c : Thread nD τ).loc b) :=
  StableHlo.after (opss (F := F)).flatten (fun b => m (c, b)) b

theorem opss_fresh : (opss (F := F)).Forall fun ops => ops.Forall fun op => op.fresh = ∅ := by
  simp only [List.Forall]
  refine ⟨?_, ?_, ?_, ?_, ?_, ?_, ?_, ?_, ?_, ?_⟩ <;> (repeat' constructor)

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub,
    hostOps0_7_sub, hostOps0_8_sub, hostOps0_9_sub⟩

theorem hmain : Pipeline.HMain (Ix := Unit) (Name := ℕ) (U := UU nD τ) (Lvl := ℕ) cfgs 0 defs₀ 𝒱₀ m (main (F := F)) (V m) :=
  Pipeline.hmain_prefixes cfgs 0 defs₀ 𝒱₀ m main opss opss_sub opss_fresh fun c => main_chain c

/-- The block of window `w` at point `t`. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-! ## A point's state -/

/-- The accumulators and the two results. -/
structure Acc (F : FTy → Type) [FloatOps F] (c : Dev nD) where
  K : Bf (F := F) c MK
  V : Bf (F := F) c MV
  dk : Bf (F := F) c MdK
  dv : Bf (F := F) c MdV

section At

variable (c : Dev nD) (t : Fin (cfg0 (F := F)).N)

abbrev ms0_0 : Memref sig .tc .vmem S256x128 .bf16 := win0_0.stage ((cfg0 (F := F)).slots t 0)
abbrev hs0_0 : (ms0_0 t).IsWhole := hstage0_0 (((cfg0 (F := F)).slots t 0).cast nbuf0_0)
abbrev ms0_1 : Memref sig .tc .vmem S16384x128 .bf16 := win0_1.stage ((cfg0 (F := F)).slots t 1)
abbrev hs0_1 : (ms0_1 t).IsWhole := hstage0_1 (((cfg0 (F := F)).slots t 1).cast nbuf0_1)
abbrev ms0_2 : Memref sig .tc .vmem S16384x128 .bf16 := win0_2.stage ((cfg0 (F := F)).slots t 2)
abbrev hs0_2 : (ms0_2 t).IsWhole := hstage0_2 (((cfg0 (F := F)).slots t 2).cast nbuf0_2)
abbrev ms0_3 : Memref sig .tc .vmem S256x128 .f32 := win0_3.stage ((cfg0 (F := F)).slots t 3)
abbrev hs0_3 : (ms0_3 t).IsWhole := hstage0_3 (((cfg0 (F := F)).slots t 3).cast nbuf0_3)
abbrev ms0_4 : Memref sig .tc .vmem S256x128 .bf16 := win0_4.stage ((cfg0 (F := F)).slots t 4)
abbrev hs0_4 : (ms0_4 t).IsWhole := hstage0_4 (((cfg0 (F := F)).slots t 4).cast nbuf0_4)
abbrev ms0_5 : Memref sig .tc .vmem S256x128 .bf16 := win0_5.stage ((cfg0 (F := F)).slots t 5)
abbrev hs0_5 : (ms0_5 t).IsWhole := hstage0_5 (((cfg0 (F := F)).slots t 5).cast nbuf0_5)

/-- What the loop leaves at point `t`. -/
def finAt (fK : Bf (F := F) c MK) (fV : Bf (F := F) c MV) : St F c :=
  fin c (grid0.coords t) (ms0_0 t) (ms0_1 t) (ms0_2 t) (ms0_3 t) (ms0_4 t)
    ((hs0_0 t).unread (iblk m c 0 t)) ((hs0_1 t).unread (iblk m c 1 t)) ((hs0_2 t).unread (iblk m c 2 t))
    ((hs0_3 t).unread (iblk m c 3 t)) ((hs0_4 t).unread (iblk m c 4 t)) fK fV

/-- The queries' gradient at point `t`. -/
def dqAt : FVec F S256x128 .bf16 := k0_pay5 k0_pay8 (finAt m c t (V m c cc0_scratch0) (V m c cc0_scratch1)).dq

theorem dqAt_eq (fK : Bf (F := F) c MK) (fV : Bf (F := F) c MV) : k0_pay5 k0_pay8 (finAt m c t fK fV).dq = dqAt m c t := by
  unfold dqAt finAt fin
  exact congrArg _ (loop_dq_congr c _ _ _ _ _ _ _ _ _ _ _ _ rfl rfl rfl rfl)

/-- One point. -/
def step (a : Acc F c) : Acc F c where
  K := (finAt m c t a.K a.V).K
  V := (finAt m c t a.K a.V).V
  dk := outK c (grid0.coords t) a.dk (finAt m c t a.K a.V)
  dv := outV c (grid0.coords t) a.dv (finAt m c t a.K a.V)

end At

/-- The state after `n` points, from accumulators holding anything. -/
def accs (c : Dev nD) (fK : Bf (F := F) c MK) (fV : Bf (F := F) c MV) : ℕ → Acc F c
  | 0 => ⟨fK, fV, V m c main_v33_1, V m c main_v33_2⟩
  | n + 1 => if h : n < (cfg0 (F := F)).N then step m c ⟨n, h⟩ (accs c fK fV n) else accs c fK fV n

theorem accs_succ (c : Dev nD) (fK : Bf (F := F) c MK) (fV : Bf (F := F) c MV) (t : Fin (cfg0 (F := F)).N) :
    accs m c fK fV (t.val + 1) = step m c t (accs m c fK fV t.val) := by
  rw [accs, dif_pos t.isLt]

/-- What is carried from point to point. -/
def Inv (c : Dev nD) (n : ℕ) : sProp 𝕄 :=
  iprop(∃ fK fV, pt c MK (accs m c fK fV n).K ∗ pt c MV (accs m c fK fV n).V ∗ pt c MdK (accs m c fK fV n).dk
    ∗ pt c MdV (accs m c fK fV n).dv ∗ sems0 c)

/-- The same at a position within the grid. -/
abbrev InvAt (c : Dev nD) (n : ℕ) (_ : n ≤ (cfg0 (F := F)).N) : sProp 𝕄 := Inv m c n

/-! ## The pipeline's proof data -/

def dats (_ : Fin 1) (c : Dev nD) : Dat τ (Elt F) Unit ℕ (UU nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqAt m c t
  Φ t := InvAt m c t.val (Nat.le_of_lt_succ t.isLt)
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = dqAt m c t := by dsimp only [dats]; rfl
theorem Phi_castSucc (c : Dev nD) (t : Fin (cfg0 (F := F)).N) : (dats m 0 c).Φ t.castSucc = Inv m c t.val := by
  dsimp only [dats]; exact Pipeline.Dat.Φ_castSucc (InvAt m c) t
theorem Phi_succ (c : Dev nD) (t : Fin (cfg0 (F := F)).N) : (dats m 0 c).Φ t.succ = Inv m c (t.val + 1) := by
  dsimp only [dats]; rfl

/-- An input window's buffer holds its block at every point, fetched there or not. -/
theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin (cfg0 (F := F)).N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The one store of the queries' gradient covers its block. -/
theorem read_block (v : View sig .tc .vmem S256x128 .bf16) (f : v.ty.Contents (Elt F)) (X : FVec F S256x128 .bf16) :
    v.read (Elt F) (v.writes (Elt F) f [⟨rB, X⟩]) = X :=
  View.read_writes_full v f inb_S256x128_S256x128_0_0 X []

theorem read_dq (t : Fin (cfg0 (F := F)).N) (c : Dev nD) (f : Bf (F := F) c (ms0_5 t)) (X : FVec F S256x128 .bf16) :
    (ms0_5 t).view.read (Elt F) ((ms0_5 t).view.writes (Elt F) f [⟨rB, X⟩]) = X :=
  read_block (ms0_5 t).view f X

/-- A point's staging buffers: each input's block, and anything in the result's. -/
theorem sound_body (c : Dev nD) (t : Fin (cfg0 (F := F)).N) :
    iprop(Inv m c t.val ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ d, owns (c : Thread nD τ) (ms0_4 t) fullShare ((dats m 0 c).before 4 t d))
        ∗ (∃ d, owns (c : Thread nD τ) (ms0_5 t) fullShare ((dats m 0 c).before 5 t d)))
      ⊢ wp frame (wpE (defs₀ (F := F)) 𝒱₀ (c : Thread nD τ) none) Set.univ (bodyAt0 t) (fun _ =>
        iprop(Inv m c (t.val + 1) ∗ (dats m 0 c).owesAt () t.succ
          ∗ owns (c : Thread nD τ) (ms0_0 t) fullShare ((dats m 0 c).after 0 t)
          ∗ owns (c : Thread nD τ) (ms0_1 t) fullShare ((dats m 0 c).after 1 t)
          ∗ owns (c : Thread nD τ) (ms0_2 t) fullShare ((dats m 0 c).after 2 t)
          ∗ owns (c : Thread nD τ) (ms0_3 t) fullShare ((dats m 0 c).after 3 t)
          ∗ owns (c : Thread nD τ) (ms0_4 t) fullShare ((dats m 0 c).after 4 t)
          ∗ owns (c : Thread nD τ) (ms0_5 t) fullShare ((dats m 0 c).after 5 t))) := by
  rw [after0_0, after0_1, after0_2, after0_3, after0_4, after0_5]
  simp only [before0_0, before0_1, before0_2, before0_3, before0_4]
  unfold Inv Dat.owesAt Pipeline.owesWithin
  iintro ⟨⟨%fK, %fV, HK, HV, HdK, HdV, HS⟩, ⟨%W, %hW, HO⟩, ⟨%d0, H0⟩, ⟨%d1, H1⟩, ⟨%d2, H2⟩, ⟨%d3, H3⟩, ⟨%d4, H4⟩, ⟨%d5, H5⟩⟩
  ihave H0 := (owns_open c (hs0_0 t) (iblk m c 0 t)) $$ H0
  ihave H1 := (owns_open c (hs0_1 t) (iblk m c 1 t)) $$ H1
  ihave H2 := (owns_open c (hs0_2 t) (iblk m c 2 t)) $$ H2
  ihave H3 := (owns_open c (hs0_3 t) (iblk m c 3 t)) $$ H3
  ihave H4 := (owns_open c (hs0_4 t) (iblk m c 4 t)) $$ H4
  ihave H5 := (owns_open c (hs0_5 t) ((dats m 0 c).before 5 t d5)) $$ H5
  iapply (sound_point c (grid0.coords t) (ms0_0 t) (hs0_0 t) (ms0_1 t) (hs0_1 t) (ms0_2 t) (hs0_2 t) (ms0_3 t) (hs0_3 t)
    (ms0_4 t) (hs0_4 t) (ms0_5 t) (hs0_5 t) _ _ _ _ _ _ _ _ _ _ W)
  isplitl [H0]; · iexact H0
  isplitl [H1]; · iexact H1
  isplitl [H2]; · iexact H2
  isplitl [H3]; · iexact H3
  isplitl [H4]; · iexact H4
  isplitl [H5]; · iexact H5
  isplitl [HdK]; · iexact HdK
  isplitl [HdV]; · iexact HdV
  isplitl [HK]; · iexact HK
  isplitl [HV]; · iexact HV
  isplitl [HS]; · iexact HS
  isplitl [HO]; · iexact HO
  iintro ⟨H0, H1, H2, H3, H4, H5, HdK, HdV, HK, HV, HS, ⟨%W', HO⟩⟩
  isplitl [HK HV HdK HdV HS]
  · iexists fK; iexists fV
    rw [accs_succ]
    isplitl [HK]; · iexact HK
    isplitl [HV]; · iexact HV
    isplitl [HdK]; · iexact HdK
    isplitl [HdV]; · iexact HdV
    iexact HS
  isplitl [HO]
  · iexists W'
    isplitr; · ipureintro; exact fun _ _ => Or.inl trivial
    iexact HO
  isplitl [H0]; · iapply (owns_close c (hs0_0 t) _ _ ((hs0_0 t).read_unread _)); iexact H0
  isplitl [H1]; · iapply (owns_close c (hs0_1 t) _ _ ((hs0_1 t).read_unread _)); iexact H1
  isplitl [H2]; · iapply (owns_close c (hs0_2 t) _ _ ((hs0_2 t).read_unread _)); iexact H2
  isplitl [H3]; · iapply (owns_close c (hs0_3 t) _ _ ((hs0_3 t).read_unread _)); iexact H3
  isplitl [H4]; · iapply (owns_close c (hs0_4 t) _ _ ((hs0_4 t).read_unread _)); iexact H4
  iapply (owns_close c (hs0_5 t) _ _ ((read_dq t c _ _).trans (dqAt_eq m c t _ _))); iexact H5

/-- The body obligation at every point. -/
theorem body_obligation (c : Dev nD) : BodyObligation (dats (F := F) m 0 c) (defs₀ (F := F)) 𝒱₀ () Set.univ := fun t => by
  rw [bigSep_W0, bigSep_W0, defs₀_row, Phi_castSucc, Phi_succ]
  exact triple_restated (sound_body m c t) rfl .rfl fun _ => .rfl

end Cert.SbIdeal.Sb

end
-- ==== Proof.Sb.Frame.lean ====
/-
  The run of the stick-breaking attention's backward program: the launch of its one kernel, what every final state
  holds, and the frames of the program over the extended reals and of the kernel itself.
-/
module

public import proofs.«01_k».proof.Proof.Sb.Run
public import proofs.«01_k».proof.Proof.Gen.Sb
public import proofs.«01_k».proof.Defs

@[expose] public section

set_option maxRecDepth 16384

noncomputable section

namespace Cert.SbIdeal.Sb

open Cert.SbIdeal Cert.SbIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

/-- The kernel's own semaphores are none of the pipeline's. -/
theorem ownSems : Pipeline.OwnSemFacts spec0 osem := by decide

/-- The two results that the kernel writes itself. -/
abbrev outs : Finset (Ref sig .tc) := {main_v33_1, main_v33_2}

theorem outs_sub : outs ⊆ Pipeline.restRefs sig spec0 := by decide +kernel

/-- What the run leaves in the two results that the kernel writes itself. -/
def Out (c : Dev nD) (s : MemSt nD τ sig (Elt F)) : Prop :=
  ∃ fK fV, s.mem ((c : Thread nD τ).loc main_v33_1) = (accs m c fK fV (cfg0 (F := F)).N).dk
    ∧ s.mem ((c : Thread nD τ).loc main_v33_2) = (accs m c fK fV (cfg0 (F := F)).N).dv

theorem ownSems_eq (c : Dev nD) : (Pipeline.ownSems0 osem c : sProp 𝕄) = sems0 c :=
  Pipeline.ownSems0_eq_of_list c osem [0, 1] (by decide) (by decide)

theorem enter (c : Dev nD) :
    iprop((pt c MdK (V m c main_v33_1) ∗ pt c MdV (V m c main_v33_2) ∗ Pipeline.ownSems0 osem c)
      ∗ Pipeline.prefHeld ((cfgs (F := F) 0).toPCfg (Val := Elt F)).pre c (fun _ => fullShare.right) (cfgs (F := F) 0).toPCfg_adm.1
      ∗ Pipeline.scopedRest spec0 c) ⊢ (dats m 0 c).Φ 0 := by
  rw [show (dats m 0 c).Φ 0 = Inv m c 0 from rfl, scopedRest0_eq,
    ownSems_eq]
  unfold Inv
  iintro ⟨⟨HdK, HdV, HS⟩, -, ⟨⟨%fK, HK⟩, ⟨%fV, HV⟩⟩⟩
  iexists fK; iexists fV
  isplitl [HK]; · iexact HK
  isplitl [HV]; · iexact HV
  isplitl [HdK]; · iexact HdK
  isplitl [HdV]; · iexact HdV
  iexact HS

theorem leave (c : Dev nD) :
    (dats m 0 c).Φ (Fin.last (cfg0 (F := F)).N)
      ⊢ iprop((∃ fK fV, pt c MdK (accs m c fK fV (cfg0 (F := F)).N).dk ∗ pt c MdV (accs m c fK fV (cfg0 (F := F)).N).dv)
        ∗ Pipeline.ownSems0 osem c ∗ Pipeline.scopedRest spec0 c) := by
  rw [show (dats m 0 c).Φ (Fin.last (cfg0 (F := F)).N) = Inv m c (cfg0 (F := F)).N from rfl, scopedRest0_eq,
    ownSems_eq]
  unfold Inv
  iintro ⟨%fK, %fV, HK, HV, HdK, HdV, HS⟩
  isplitl [HdK HdV]
  · iexists fK; iexists fV
    isplitl [HdK]; · iexact HdK
    iexact HdV
  isplitl [HS]; · iexact HS
  isplitl [HK]; · iexists _; iexact HK
  iexists _; iexact HV

theorem read_back (c : Dev nD) (s' : Phys nD τ sig (Elt F)) :
    iprop((∃ fK fV, pt c MdK (accs m c fK fV (cfg0 (F := F)).N).dk ∗ pt c MdV (accs m c fK fV (cfg0 (F := F)).N).dv)
      ∗ emp ∗ SI s') ⊢ |={Set.univ}=> (iprop(⌜Out m c s'.mem⌝ ∗ SI s') : sProp 𝕄) := by
  iintro ⟨⟨%fK, %fV, HdK, HdV⟩, -, HSI⟩
  icombine HSI HdK gives %h1
  icombine HSI HdV gives %h2
  imodintro
  isplitr
  · ipureintro
    exact ⟨fK, fV, Buf.eq_of_forall_mem_univ h1, Buf.eq_of_forall_mem_univ h2⟩
  iexact HSI

/-- The launch's ownership: the pipeline's own, and nothing else. -/
theorem launch_split :
    (ownU (initOf (Pipeline.cells (cfgs (F := F)) cellOf_inj) (Pipeline.launchToks (cfgs (F := F)) cellOf_inj), (1 : Counters)) : sProp 𝕄)
      ⊢ |={Set.univ}=> iprop(BI.own (embL (initOf (Pipeline.cells (cfgs (F := F)) cellOf_inj) (Pipeline.launchToks (cfgs (F := F)) cellOf_inj)))
        ∗ bigSep Finset.univ (fun _ : Dev nD => (BI.emp : sProp 𝕄))) := by
  iintro Hu
  ihave H' := (ownU_pair _ _) $$ Hu
  icases H' with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

theorem outs_eq (c : Dev nD) : (bigSep outs (fun b => ((c : Thread nD τ).loc b) ↦{fullShare} V m c b) : sProp 𝕄)
    = iprop(pt c MdK (V m c main_v33_1) ∗ pt c MdV (V m c main_v33_2)) :=
  BI.bigSep_eq_bigSepL_of_eq [main_v33_1, main_v33_2] (by decide) (by decide) _

/-- What the kernel is handed: its two results' buffers and its semaphores. -/
theorem handed (c : Dev nD) :
    iprop(Pipeline.unscopedRest spec0 c (V m c) ∗ Pipeline.ownSems0 osem c ∗ levels0 c ∗ prngReg c (ρ c) ∗ emp)
      ⊢ |={Set.univ}=> (iprop((pt c MdK (V m c main_v33_1) ∗ pt c MdV (V m c main_v33_2) ∗ Pipeline.ownSems0 osem c) ∗ emp) : sProp 𝕄) := by
  iintro ⟨HU, Ho, -, -, -⟩; imodintro
  ihave HU' := (Entails.of_eq (Pipeline.unscopedRest_sdiff spec0 outs outs_sub c (V m c))) $$ HU
  icases HU' with ⟨HH, -⟩
  ihave HH' := (Entails.of_eq (outs_eq m c)) $$ HH
  icases HH' with ⟨HdK, HdV⟩
  isplitl [HdK HdV Ho]
  · isplitl [HdK]; · iexact HdK
    isplitl [HdV]; · iexact HdV
    iexact Ho
  iempintro

set_option maxHeartbeats 1000000 in
set_option backward.isDefEq.respectTransparency.types false in
/-- Every execution ends, the windows' arrays as the pipeline computes them, the two other results as `Out` says, and
    every semaphore counter at zero. -/
theorem run_main : θ_run defs (onTc (τ := τ) (main (F := F))) ⟨m, fun _ => 0, ρ⟩ (fun r =>
    (∀ c : Dev nD, (∀ w, r.2.mem (((cfg0 (F := F)).win w).arr.view.loc (c : Thread nD τ)) = (dats m 0 c).arrAt w (cfg0 (F := F)).N)
      ∧ Out m c r.2) ∧ r.2.sem = fun _ => 0) :=
  Pipeline.θ_run_region_pf_quiescent (fun p => (cfgs p).toPCfg) (fun p => (cfgs p).toPCfg_adm) (dats m) () cellOf_inj 0
    winFacts₀0 ownSems (Pipeline.PreFacts.none _) embL defs₀ 𝒱₀ m ρ main
    (fun c => (body_obligation m c).loose) block_pos0 arr_whole0 stage_whole0 (fun _ _ => rfl)
    (fun _ => iprop(emp))
    (initOf (Pipeline.cells (cfgs (F := F)) cellOf_inj) (Pipeline.launchToks (cfgs (F := F)) cellOf_inj), 1)
    launch_split
    (V m) (hmain m)
    (fun c => (dats m 0 c).arrays_split_shared sharedIn0 arr_whole0 (fun _ _ => rfl) (V m c) _ (A_eq m c))
    (fun _ k => k.elim0)
    (fun c => iprop(pt c MdK (V m c main_v33_1) ∗ pt c MdV (V m c main_v33_2) ∗ Pipeline.ownSems0 osem c))
    (fun c => iprop(∃ fK fV, pt c MdK (accs m c fK fV (cfg0 (F := F)).N).dk ∗ pt c MdV (accs m c fK fV (cfg0 (F := F)).N).dv))
    (fun _ => iprop(emp))
    (fun c => by rw [Pipeline.unscopedRestP_none]; exact handed m ρ c)
    (enter m) (leave m) (Out m) (read_back m)
    (fun s h hz => ⟨fun c => ⟨(h c).1, (h c).2.2⟩, hz⟩)

/-- No host operation before the kernel writes an argument. -/
theorem not_written (b : Ref sig .tc) (hb : b = main_arg0 ∨ b = main_arg1) :
    ∀ op ∈ (opss (F := F)).flatten, Proc.devRef .tc b ∉ op.writes :=
  List.forall_iff_forall_mem.mp (by
    rcases hb with rfl | rfl <;>
    · simp only [opss, hostOps0, hostOps0_1, hostOps0_2, hostOps0_3, hostOps0_4, hostOps0_5, hostOps0_6, hostOps0_7, hostOps0_8,
        hostOps0_9, List.flatten_cons, List.flatten_nil, List.append_nil, List.cons_append, List.nil_append, List.Forall]
      repeat' apply And.intro
      all_goals exact fun h => absurd (Finset.mem_singleton.mp h) (StableHlo.devRef_ne_of_ne (by decide)))

theorem V_arg0 (c : Dev nD) : V m c main_arg0 = m ((c : Thread nD τ).loc main_arg0) :=
  StableHlo.after_of_forall_not_mem (b := Proc.devRef .tc main_arg0) _ _ (not_written main_arg0 (Or.inl rfl))
theorem V_arg1 (c : Dev nD) : V m c main_arg1 = m ((c : Thread nD τ).loc main_arg1) :=
  StableHlo.after_of_forall_not_mem (b := Proc.devRef .tc main_arg1) _ _ (not_written main_arg1 (Or.inr rfl))

/-- The run, read at the two arguments and at the three results. -/
theorem run_results : θ_run defs (onTc (τ := τ) (main (F := F))) ⟨m, fun _ => 0, ρ⟩ (fun r =>
    (∀ c : Dev nD, r.2.mem ((c : Thread nD τ).loc main_v33_0) = (dats m 0 c).arrAt 5 (cfg0 (F := F)).N
      ∧ Out m c r.2
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c => ⟨(h.1 c).1 5, (h.1 c).2,
    (((h.1 c).1 0).trans ((dats m 0 c).arrAt_in 0 rfl _)).trans ((A_eq m c 0).trans (V_arg0 m c)),
    (((h.1 c).1 4).trans ((dats m 0 c).arrAt_in 4 rfl _)).trans ((A_eq m c 4).trans (V_arg1 m c))⟩, h.2⟩) (run_main m ρ)

/-- The frame, at any float values. -/
theorem frame : θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run _ _ _).mono (fun _ h => ⟨fun c => (h.1 c).2.2, h.2⟩) (run_results m ρ)

end Cert.SbIdeal.Sb

end
-- ==== Proof.Sb.Tile.lean ====
/-
  One tile of keys at the ideal instance: what the kernel's operations compute of 512 query rows and 128 keys, read as
  real numbers when every array holds real numbers.
-/
module

public import proofs.«01_k».proof.Proof.Sb.Body
public import Idealize.ShloMosaic.Lib.Pointwise

@[expose] public section

set_option maxRecDepth 16384

noncomputable section

namespace Cert.SbIdeal.Sb

open Cert.SbIdeal Cert.SbIdeal.Gen

open Idealize.ShloMosaic
open Idealize.ShloMosaic.TcCoe

/-! ## The integer words: the triangles and the diagonal's masks -/

/-- The row's number within its half, as the kernel's words compute it. -/
theorem row_word128 : ∀ r : Fin 256, Scalar.select
          (IntOp.andi
            (IntOp.xori
              (IntOp.cmpi CmpIPredicate.slt
                (IntOp.remsi ArithUnit.vector (BitVec.ofNat 32 r.val)
                  (Scalar.select (Scalar.cmpi CmpIPredicate.eq 128#32 0#32) 1#32 128#32))
                0#32)
              (Scalar.cmpi CmpIPredicate.slt (Scalar.select (Scalar.cmpi CmpIPredicate.eq 128#32 0#32) 1#32 128#32)
                0#32))
            (IntOp.cmpi CmpIPredicate.ne
              (IntOp.remsi ArithUnit.vector (BitVec.ofNat 32 r.val)
                (Scalar.select (Scalar.cmpi CmpIPredicate.eq 128#32 0#32) 1#32 128#32))
              0#32))
          (IntOp.addi
            (IntOp.remsi ArithUnit.vector (BitVec.ofNat 32 r.val)
              (Scalar.select (Scalar.cmpi CmpIPredicate.eq 128#32 0#32) 1#32 128#32))
            (Scalar.select (Scalar.cmpi CmpIPredicate.eq 128#32 0#32) 1#32 128#32))
          (IntOp.remsi ArithUnit.vector (BitVec.ofNat 32 r.val)
            (Scalar.select (Scalar.cmpi CmpIPredicate.eq 128#32 0#32) 1#32 128#32)) = BitVec.ofNat 32 (r.val % 128) := by
  decide +kernel

theorem row_word256 : ∀ r : Fin 512, Scalar.select
          (IntOp.andi
            (IntOp.xori
              (IntOp.cmpi CmpIPredicate.slt
                (IntOp.remsi ArithUnit.vector (BitVec.ofNat 32 r.val)
                  (Scalar.select (Scalar.cmpi CmpIPredicate.eq 256#32 0#32) 1#32 256#32))
                0#32)
              (Scalar.cmpi CmpIPredicate.slt (Scalar.select (Scalar.cmpi CmpIPredicate.eq 256#32 0#32) 1#32 256#32)
                0#32))
            (IntOp.cmpi CmpIPredicate.ne
              (IntOp.remsi ArithUnit.vector (BitVec.ofNat 32 r.val)
                (Scalar.select (Scalar.cmpi CmpIPredicate.eq 256#32 0#32) 1#32 256#32))
              0#32))
          (IntOp.addi
            (IntOp.remsi ArithUnit.vector (BitVec.ofNat 32 r.val)
              (Scalar.select (Scalar.cmpi CmpIPredicate.eq 256#32 0#32) 1#32 256#32))
            256#32)
          (IntOp.remsi ArithUnit.vector (BitVec.ofNat 32 r.val)
            (Scalar.select (Scalar.cmpi CmpIPredicate.eq 256#32 0#32) 1#32 256#32)) = BitVec.ofNat 32 (r.val % 256) := by
  decide +kernel

theorem toInt_small (n : ℕ) (h : n < 512) : (BitVec.ofNat 32 n).toInt = n := by
  rw [BitVec.toInt_eq_toNat_of_lt (by rw [BitVec.toNat_ofNat]; omega), BitVec.toNat_ofNat]; omega

/-- Two small words compared as the numbers they hold. -/
theorem sgt_small (a b : ℕ) (ha : a < 512) (hb : b < 512) :
    IntOp.cmpi CmpIPredicate.sgt (BitVec.ofNat 32 a) (BitVec.ofNat 32 b) = if b < a then 1#1 else 0#1 := by
  simp only [IntOp.cmpi, BitVec.slt, toInt_small a ha, toInt_small b hb]
  by_cases h : b < a
  · rw [if_pos h, decide_eq_true (by exact_mod_cast h)]; rfl
  · rw [if_neg h, decide_eq_false (by exact_mod_cast h)]; rfl
theorem sge_small (a b : ℕ) (ha : a < 512) (hb : b < 512) :
    IntOp.cmpi CmpIPredicate.sge (BitVec.ofNat 32 a) (BitVec.ofNat 32 b) = if b ≤ a then 1#1 else 0#1 := by
  simp only [IntOp.cmpi, BitVec.sle, toInt_small a ha, toInt_small b hb]
  by_cases h : b ≤ a
  · rw [if_pos h, decide_eq_true (by exact_mod_cast h)]; rfl
  · rw [if_neg h, decide_eq_false (by exact_mod_cast h)]; rfl

/-- The difference of two small words compared with the word of a small number of lanes. -/
theorem slt_diff (l r : ℕ) (hl : l < 128) (hr : r < 256) (w : BitVec 32) :
    IntOp.cmpi CmpIPredicate.slt (IntOp.subi (BitVec.ofNat 32 l) (BitVec.ofNat 32 r)) w
      = if (l : ℤ) - r < w.toInt then 1#1 else 0#1 := by
  simp only [IntOp.cmpi, IntOp.subi, BitVec.slt, BitVec.toInt_sub, toInt_small l (by omega), toInt_small r (by omega)]
  rw [Int.bmod_eq_of_le (by norm_num; omega) (by norm_num; omega)]
  by_cases h : (l : ℤ) - r < w.toInt
  · rw [if_pos h, decide_eq_true h]; rfl
  · rw [if_neg h, decide_eq_false h]; rfl

theorem off1 (b : Fin 64) : (Scalar.subi (Scalar.muli (BitVec.ofNat 32 b.val) 256#32) (Scalar.muli (Scalar.addi (Scalar.muli (BitVec.ofNat 32 b.val) 2#32) 1#32) 128#32)).toInt = -128 := by
  revert b; decide +kernel
theorem off0 (b : Fin 64) : (Scalar.subi (Scalar.muli (BitVec.ofNat 32 b.val) 256#32) (Scalar.muli (Scalar.addi (Scalar.muli (BitVec.ofNat 32 b.val) 2#32) 0#32) 128#32)).toInt = 0 := by
  revert b; decide +kernel

theorem select_ite (p : Prop) [Decidable p] (x y : EReal) : Scalar.select (if p then 1#1 else 0#1) x y = if p then x else y := by
  split <;> rfl

/-- The strict triangle, in two copies. -/
theorem ts_apply (r : Fin 256) (l : Fin 128) : (ts (F := Ideal)) (ix2 r l) = if l.val < r.val % 128 then 1 else 0 := by
  pointwise [ts, k0_pay15, k0_pay12, k0_pay13, k0_pay14]
  rw [row_word128, sgt_small _ _ (by omega) (by omega), select_ite]

/-- The triangle with its diagonal, in two copies. -/
theorem ti_apply (r : Fin 256) (l : Fin 128) : (ti (F := Ideal)) (ix2 r l) = if l.val ≤ r.val % 128 then 1 else 0 := by
  pointwise [ti, k0_pay16]
  rw [row_word128, sge_small _ _ (by omega) (by omega), select_ite]

/-- The mask of the later of the diagonal's tiles: the key comes before the row. -/
theorem mk1_apply (b : Fin 64) (r : Fin 512) (l : Fin 128) :
    mk1 (BitVec.ofNat 32 b.val) (ix2 r l) = if 128 + l.val < r.val % 256 then 1#1 else 0#1 := by
  pointwise [mk1, k0_pay26, k0_pay20, k0_pay17, k0_pay18, k0_pay19, lane]
  rw [row_word256, slt_diff _ _ (by omega) (by omega), off1]
  exact if_congr (by omega) rfl rfl

/-- The mask of the earlier one. -/
theorem mk0_apply (b : Fin 64) (r : Fin 512) (l : Fin 128) :
    mk0 (BitVec.ofNat 32 b.val) (ix2 r l) = if l.val < r.val % 256 then 1#1 else 0#1 := by
  pointwise [mk0, k0_pay41, rel, k0_pay20, k0_pay17, k0_pay18, k0_pay19, lane]
  rw [row_word256, slt_diff _ _ (by omega) (by omega), off0]
  exact if_congr (by omega) rfl rfl

/-! ## A tile over the reals -/

section Real

variable (qr dor : Fin 512 → Fin 128 → ℝ) (kr vr : Fin 128 → Fin 128 → ℝ) (M : Fin 512 → Fin 128 → Prop)
  [∀ ρ l, Decidable (M ρ l)] (dsr ca ga : Fin 512 → ℝ)

/-- The scores, in units of `log 2`. -/
def rz (ρ : Fin 512) (l : Fin 128) : ℝ := (∑ x, qr ρ x * kr l x) * (Real.log 256)⁻¹
/-- The log-sigmoids of their negatives. -/
def rlf (ρ : Fin 512) (l : Fin 128) : ℝ :=
  0 - (max (rz qr kr ρ l) 0 + Real.log (1 + Real.rpow 2 (0 - |rz qr kr ρ l|)) * (Real.log 2)⁻¹)
/-- The same under the mask. -/
def rls (ρ : Fin 512) (l : Fin 128) : ℝ := if M ρ l then rlf qr kr ρ l else 0
/-- The attention's weights. -/
def rw' (ρ : Fin 512) (l : Fin 128) : ℝ :=
  if M ρ l then Real.rpow 2 (rz qr kr ρ l + rlf qr kr ρ l + (∑ x : Fin 128, rls qr kr M ρ x * (if l.val < x.val then 1 else 0)) + ca ρ) else 0
/-- The weights times their gradients. -/
def rg (ρ : Fin 512) (l : Fin 128) : ℝ := (∑ x, dor ρ x * vr l x) * rw' qr kr M ca ρ l
/-- The scores' gradients. -/
def rdz (ρ : Fin 512) (l : Fin 128) : ℝ :=
  (if M ρ l then rg qr dor kr vr M ca ρ l * (1 - Real.rpow 2 (rz qr kr ρ l + rlf qr kr ρ l))
      - Real.rpow 2 (rz qr kr ρ l + rlf qr kr ρ l)
        * (dsr ρ - ((∑ x : Fin 128, rg qr dor kr vr M ca ρ x * (if l.val ≤ x.val then 1 else 0)) + ga ρ)) else 0) * (1 / 8)

end Real

theorem scale_eq : (Named.named κ "scale_log2e" 0x3E38AA3B#32 : Ideal .f32) = (((Real.log 256)⁻¹ : ℝ) : EReal) := by
  simp [Named.named, κ]
theorem log2e_eq : (Named.named κ "log2e" 0x3FB8AA3B#32 : Ideal .f32) = (((Real.log 2)⁻¹ : ℝ) : EReal) := by
  simp [Named.named, κ]
theorem dead_eq : (Named.named κ "dead" 0xC31EB24B#32 : Ideal .f32) = ⊥ := by
  simp [Named.named, κ]
theorem eighth_eq : Ideal.ofBits .f32 0x3E000000#32 = ((1 / 8 : ℝ) : EReal) := by
  simp [Ideal.ofBits, Ideal.ieee]
  rw [← EReal.coe_mul]; norm_num

/-- A finite sum of real numbers is one. -/
theorem coe_sum {ι : Type*} (s : Finset ι) (f : ι → ℝ) : ∑ i ∈ s, ((f i : ℝ) : EReal) = ((∑ i ∈ s, f i : ℝ) : EReal) :=
  (map_sum (⟨⟨Real.toEReal, EReal.coe_zero⟩, EReal.coe_add⟩ : ℝ →+ EReal) f s).symm

theorem coe_select (p : Prop) [Decidable p] (x y : ℝ) : (if p then ((x : ℝ) : EReal) else (y : EReal)) = ((if p then x else y : ℝ) : EReal) := by
  split <;> rfl

/-- The log-sigmoid at a real score. -/
theorem softplus_real (z c : ℝ) :
    (0 : EReal) - (max (z : EReal) 0 + Ideal.log (1 + FloatOps.exp2 (F := Ideal) (φ := .f32) (0 - FloatOps.absf (F := Ideal) (φ := .f32) (z : EReal))) * (c : EReal))
      = ((0 - (max z 0 + Real.log (1 + Real.rpow 2 (0 - |z|)) * c) : ℝ) : EReal) := by
  have h1 : FloatOps.absf (F := Ideal) (φ := .f32) (z : EReal) = ((|z| : ℝ) : EReal) := by
    show max (z : EReal) (-(z : EReal)) = _
    rw [← EReal.coe_neg, ← EReal.coe_strictMono.monotone.map_max]; rfl
  have h2 : (0 : EReal) - ((|z| : ℝ) : EReal) = ((0 - |z| : ℝ) : EReal) := by rw [EReal.coe_sub]; rfl
  have h3 : FloatOps.exp2 (F := Ideal) (φ := .f32) ((0 - |z| : ℝ) : EReal) = ((Real.rpow 2 (0 - |z|) : ℝ) : EReal) := Ideal.exp2_coe _
  have hp : (0 : ℝ) < 1 + Real.rpow 2 (0 - |z|) := add_pos one_pos (Real.rpow_pos_of_pos two_pos _)
  rw [h1, h2, h3, ← EReal.coe_one, ← EReal.coe_add, Ideal.log_coe, if_neg (not_le.mpr hp), ← EReal.coe_zero, ← EReal.coe_strictMono.monotone.map_max,
    ← EReal.coe_mul, ← EReal.coe_add, ← EReal.coe_sub]

/-- A sum within a tile through the two halves of a real array: the high half is the array, the low half nothing. -/
theorem split_real (f : Fin 128 → ℝ) (p : ℕ → Prop) [DecidablePred p] :
    ((∑ x : Fin 128, (f x : EReal) * if p (x.val % 128) then 1 else 0)
        + ∑ x : Fin 128, ((f x : EReal) - (f x : EReal)) * if p ((128 + x.val) % 128) then 1 else 0)
      = ((∑ x : Fin 128, f x * if p x.val then 1 else 0 : ℝ) : EReal) := by
  have h1 : ∀ x : Fin 128, ((f x : EReal) * if p (x.val % 128) then 1 else 0) = ((f x * if p x.val then 1 else 0 : ℝ) : EReal) := fun x => by
    rw [Nat.mod_eq_of_lt x.isLt]; split <;> simp
  have h2 : ∀ x : Fin 128, (((f x : EReal) - (f x : EReal)) * if p ((128 + x.val) % 128) then 1 else 0) = 0 := fun x => by
    rw [← EReal.coe_sub, sub_self, EReal.coe_zero, zero_mul]
  rw [Finset.sum_congr rfl fun x _ => h1 x, Finset.sum_eq_zero fun x _ => h2 x, add_zero, coe_sum]

/-- The scores' gradient at real numbers. -/
theorem dz_real (g lg d c : ℝ) :
    (g : EReal) * (1 - FloatOps.exp2 (F := Ideal) (φ := .f32) (lg : EReal)) - FloatOps.exp2 (F := Ideal) (φ := .f32) (lg : EReal) * ((d : EReal) - (c : EReal))
      = ((g * (1 - Real.rpow 2 lg) - Real.rpow 2 lg * (d - c) : ℝ) : EReal) := by
  have h : FloatOps.exp2 (F := Ideal) (φ := .f32) (lg : EReal) = ((Real.rpow 2 lg : ℝ) : EReal) := Ideal.exp2_coe _
  rw [h, ← EReal.coe_one, ← EReal.coe_sub, ← EReal.coe_sub, ← EReal.coe_mul, ← EReal.coe_mul, ← EReal.coe_sub]

section Lift

variable {q2 do2 : FVec Ideal S512x128 .bf16} {kb vb : Vec Ideal S128x128 .bf16} {ds ca ga : FVec Ideal S512x1 .f32}
  {qr dor : Fin 512 → Fin 128 → ℝ} {kr vr : Fin 128 → Fin 128 → ℝ} (M : Fin 512 → Fin 128 → Prop)
  [∀ ρ l, Decidable (M ρ l)] {dsr car gar : Fin 512 → ℝ}
  (hq : ∀ ρ e, q2 (ix2 ρ e) = (qr ρ e : EReal)) (hdo : ∀ ρ e, do2 (ix2 ρ e) = (dor ρ e : EReal))
  (hk : ∀ ρ e, kb (ix2 ρ e) = (kr ρ e : EReal)) (hv : ∀ ρ e, vb (ix2 ρ e) = (vr ρ e : EReal))
  (hds : ∀ ρ, ds (ix2 ρ 0) = (dsr ρ : EReal)) (hca : ∀ ρ, ca (ix2 ρ 0) = (car ρ : EReal)) (hga : ∀ ρ, ga (ix2 ρ 0) = (gar ρ : EReal))

include hq hk

theorem z_real (ρ : Fin 512) (l : Fin 128) : k0_pay47 q2 kb (ix2 ρ l) = (rz qr kr ρ l : EReal) := by
  pointwise [k0_pay47]
  rw [scale_eq]
  simp only [hq, hk, ← EReal.coe_mul, coe_sum]
  rfl

theorem lf_real (ρ : Fin 512) (l : Fin 128) : k0_pay48 q2 kb (ix2 ρ l) = (rlf qr kr ρ l : EReal) := by
  pointwise [k0_pay48]
  rw [log2e_eq, z_real hq hk, softplus_real]
  rfl

theorem lg_real (ρ : Fin 512) (l : Fin 128) : k0_pay49 q2 kb (ix2 ρ l) = ((rz qr kr ρ l + rlf qr kr ρ l : ℝ) : EReal) := by
  pointwise [k0_pay49]
  rw [z_real hq hk, lf_real hq hk, EReal.coe_add]

omit hq hk in
theorem rls_true (ρ : Fin 512) (l : Fin 128) : rls qr kr (fun _ _ => True) ρ l = rlf qr kr ρ l := if_pos trivial

include hca in
theorem w_real (ρ : Fin 512) (l : Fin 128) :
    k0_pay50 q2 ts ca kb (ix2 ρ l) = (rw' qr kr (fun _ _ => True) car ρ l : EReal) := by
  pointwise [k0_pay50]
  rw [lg_real hq hk, hca]
  simp only [lf_real hq hk, ts_apply]
  rw [split_real (rlf qr kr ρ) (fun x => l.val < x), ← EReal.coe_add, ← EReal.coe_add]
  refine (Ideal.exp2_coe _).trans ?_
  rw [rw', if_pos trivial]
  simp only [rls_true]

include hca hdo hv in
theorem g_real (ρ : Fin 512) (l : Fin 128) :
    k0_pay51 q2 ts do2 ca kb vb (ix2 ρ l) = (rg qr dor kr vr (fun _ _ => True) car ρ l : EReal) := by
  pointwise [k0_pay51]
  rw [w_real hq hk hca]
  simp only [hdo, hv, ← EReal.coe_mul, coe_sum]
  rfl

include hca hdo hv hga in
theorem G_real (ρ : Fin 512) (l : Fin 128) :
    k0_pay52 q2 ts do2 ti ca ga kb vb (ix2 ρ l)
      = ((∑ x : Fin 128, rg qr dor kr vr (fun _ _ => True) car ρ x * (if l.val ≤ x.val then 1 else 0)) + gar ρ : ℝ) := by
  pointwise [k0_pay52]
  simp only [g_real hq hdo hk hv hca, ti_apply, hga]
  rw [split_real (rg qr dor kr vr (fun _ _ => True) car ρ) (fun x => l.val ≤ x), ← EReal.coe_add]

include hca hdo hv hga hds in
theorem dz_loop (ρ : Fin 512) (l : Fin 128) :
    k0_pay53 ds (k0_pay49 q2 kb) (k0_pay51 q2 ts do2 ca kb vb) (k0_pay52 q2 ts do2 ti ca ga kb vb) (ix2 ρ l)
      = (rdz qr dor kr vr (fun _ _ => True) dsr car gar ρ l : EReal) := by
  pointwise [k0_pay53]
  rw [G_real hq hdo hk hv hca hga, g_real hq hdo hk hv hca, lg_real hq hk, hds, dz_real, eighth_eq, ← EReal.coe_mul, rdz, if_pos trivial]

include hca in
theorem tCa_real (ρ : Fin 512) : tCa q2 ca kb (ix2 ρ 0) = ((car ρ + ∑ l, rls qr kr (fun _ _ => True) ρ l : ℝ) : EReal) := by
  pointwise [tCa, k0_pay56]
  simp only [lf_real hq hk, hca, coe_sum, ← EReal.coe_add, rls_true]

include hca hdo hv hga in
theorem tGa_real (ρ : Fin 512) :
    tGa q2 do2 ts ca ga kb vb (ix2 ρ 0) = ((gar ρ + ∑ l, rg qr dor kr vr (fun _ _ => True) car ρ l : ℝ) : EReal) := by
  pointwise [tGa, k0_pay57]
  simp only [g_real hq hdo hk hv hca, hga, coe_sum, ← EReal.coe_add]

include hca hdo hv hga hds in
theorem tDq_real {dq : FVec Ideal S512x128 .f32} {dqr : Fin 512 → Fin 128 → ℝ} (hdq : ∀ ρ e, dq (ix2 ρ e) = (dqr ρ e : EReal)) (ρ : Fin 512) (e : Fin 128) :
    tDq q2 do2 ts ti ds ca ga dq kb vb (ix2 ρ e)
      = ((dqr ρ e + ∑ l, rdz qr dor kr vr (fun _ _ => True) dsr car gar ρ l * kr l e : ℝ) : EReal) := by
  pointwise [tDq, k0_pay58]
  simp only [dz_loop hq hdo hk hv hds hca hga, hdq, hk, ← EReal.coe_mul, coe_sum, ← EReal.coe_add]

include hca hdo hv hga hds in
theorem tK_real {Kb : Vec Ideal S128x128 .f32} {Kr : Fin 128 → Fin 128 → ℝ} (hK : ∀ l e, Kb (ix2 l e) = (Kr l e : EReal)) (l e : Fin 128) :
    tK q2 do2 ts ti ds ca ga kb vb Kb (ix2 l e)
      = ((Kr l e + ∑ ρ, rdz qr dor kr vr (fun _ _ => True) dsr car gar ρ l * qr ρ e : ℝ) : EReal) := by
  pointwise [tK, k0_pay54]
  simp only [dz_loop hq hdo hk hv hds hca hga, hK, hq, ← EReal.coe_mul, coe_sum, ← EReal.coe_add]

include hca hdo in
theorem tV_real {Vb : Vec Ideal S128x128 .f32} {Vr : Fin 128 → Fin 128 → ℝ} (hV : ∀ l e, Vb (ix2 l e) = (Vr l e : EReal)) (l e : Fin 128) :
    tV q2 do2 ts ca kb Vb (ix2 l e)
      = ((Vr l e + ∑ ρ, rw' qr kr (fun _ _ => True) car ρ l * dor ρ e : ℝ) : EReal) := by
  pointwise [tV, k0_pay55]
  simp only [w_real hq hk hca, hV, hdo, ← EReal.coe_mul, coe_sum, ← EReal.coe_add]

include hca in
/-- The flag stays up: a real log-sum is above −∞. -/
theorem tFl_up : Scalar.cmpi .sgt (tFl q2 ca kb) 0#32 = 1#1 := by
  have h : (⊥ : EReal) < k0_pay59 ca (k0_pay48 q2 kb) := by
    pointwise [k0_pay59, k0_pay56]
    rw [Finset.lt_fold_max]
    refine Or.inr ⟨0, Finset.mem_univ _, ?_⟩
    simp only [lf_real hq hk, hca, coe_sum, ← EReal.coe_add]
    exact EReal.bot_lt_coe _
  have h2 : Scalar.cmpf .ogt (k0_pay59 ca (k0_pay48 q2 kb)) (⊥ : Ideal .f32) = 1#1 := by
    show Ideal.cmp .ogt _ _ = 1#1
    unfold Ideal.cmp
    rw [decide_eq_true h]; rfl
  unfold tFl
  rw [dead_eq, h2]
  rfl

end Lift

/-! ## The diagonal's tiles -/

/-- The key of the later tile comes before the row; the key of the earlier one does. -/
abbrev M1 (ρ : Fin 512) (l : Fin 128) : Prop := 128 + l.val < ρ.val % 256
abbrev M0 (ρ : Fin 512) (l : Fin 128) : Prop := l.val < ρ.val % 256

theorem lf1_eq (q : FVec Ideal S512x128 .bf16) (kb : Vec Ideal S128x128 .bf16) : k0_pay24 q kb = k0_pay48 q kb := rfl
theorem lg1_eq (q : FVec Ideal S512x128 .bf16) (kb : Vec Ideal S128x128 .bf16) : k0_pay25 q kb = k0_pay49 q kb := rfl
theorem lf0_eq (q : FVec Ideal S512x128 .bf16) (kb : Vec Ideal S128x128 .bf16) : k0_pay39 q kb = k0_pay48 q kb := rfl
theorem lg0_eq (q : FVec Ideal S512x128 .bf16) (kb : Vec Ideal S128x128 .bf16) : k0_pay40 q kb = k0_pay49 q kb := rfl

theorem pay21_apply (ρ : Fin 512) : k0_pay21 (F := Ideal) (ix2 ρ 0) = 0 := by
  pointwise [k0_pay21]

section Diagonal

variable (b : Fin 64) {q2 do2 : FVec Ideal S512x128 .bf16} {kb vb kb0 vb0 : Vec Ideal S128x128 .bf16} {ds : FVec Ideal S512x1 .f32}
  {qr dor : Fin 512 → Fin 128 → ℝ} {kr vr kr0 vr0 : Fin 128 → Fin 128 → ℝ} {dsr : Fin 512 → ℝ}
  (hq : ∀ ρ e, q2 (ix2 ρ e) = (qr ρ e : EReal)) (hdo : ∀ ρ e, do2 (ix2 ρ e) = (dor ρ e : EReal))
  (hk : ∀ ρ e, kb (ix2 ρ e) = (kr ρ e : EReal)) (hv : ∀ ρ e, vb (ix2 ρ e) = (vr ρ e : EReal))
  (hk0 : ∀ ρ e, kb0 (ix2 ρ e) = (kr0 ρ e : EReal)) (hv0 : ∀ ρ e, vb0 (ix2 ρ e) = (vr0 ρ e : EReal))
  (hds : ∀ ρ, ds (ix2 ρ 0) = (dsr ρ : EReal))

/-- The carries before the first tile. -/
abbrev zr : Fin 512 → ℝ := fun _ => 0

local notation "B" => BitVec.ofNat 32 (Fin.val b)

include hq hk

theorem ls1_real (ρ : Fin 512) (l : Fin 128) : ls1 B q2 kb (ix2 ρ l) = (rls qr kr M1 ρ l : EReal) := by
  have hm := mk1_apply b
  unfold mk1 at hm
  pointwise [ls1, k0_pay27]
  rw [hm, lf1_eq, lf_real hq hk, select_ite, ← EReal.coe_zero, coe_select]
  rfl

theorem w1_real (ρ : Fin 512) (l : Fin 128) :
    k0_pay29 ts k0_pay21 (lf1 q2 kb) (mk1 B) (sp1 B q2 kb) zero512 (ix2 ρ l) = (rw' qr kr M1 zr ρ l : EReal) := by
  have h := ls1_real b hq hk
  unfold ls1 at h
  pointwise [k0_pay29, sp1, k0_pay28, k0_pay21, lf1]
  simp only [h, mk1_apply, ts_apply, lg1_eq, lg_real hq hk, select_ite]
  rw [split_real (rls qr kr M1 ρ) (fun x => l.val < x), ← EReal.coe_add, ← EReal.coe_zero]
  refine (congrArg (fun y => if M1 ρ l then y else (0 : ℝ).toEReal) (Ideal.exp2_coe _)).trans ?_
  rw [coe_select, rw', zr, add_zero]

include hdo hv in
theorem g1_real (ρ : Fin 512) (l : Fin 128) : g1 B q2 do2 kb vb (ix2 ρ l) = (rg qr dor kr vr M1 zr ρ l : EReal) := by
  pointwise [g1, k0_pay30]
  rw [w1_real b hq hk]
  simp only [hdo, hv, ← EReal.coe_mul, coe_sum]
  rfl

include hdo hv hds in
theorem dz1_real (ρ : Fin 512) (l : Fin 128) :
    dz1 B q2 do2 ds kb vb (ix2 ρ l) = (rdz qr dor kr vr M1 dsr zr zr ρ l : EReal) := by
  have h := g1_real b hq hdo hk hv
  unfold g1 at h
  pointwise [dz1, k0_pay31]
  simp only [h, mk1_apply, ti_apply, pay21_apply, hds]
  have hl : lf1 q2 kb (ix2 ρ l) = _ := lg_real hq hk ρ l
  rw [hl, split_real (rg qr dor kr vr M1 zr ρ) (fun x => l.val ≤ x), ← EReal.coe_zero, ← EReal.coe_add, dz_real, eighth_eq, select_ite, ← EReal.coe_mul, coe_select, rdz, ite_mul, zero_mul]

theorem ca1_real (ρ : Fin 512) : ca1 B q2 kb (ix2 ρ 0) = ((0 + ∑ l, rls qr kr M1 ρ l : ℝ) : EReal) := by
  pointwise [ca1, k0_pay35, k0_pay21]
  simp only [ls1_real b hq hk, coe_sum, zero_add]

include hdo hv in
theorem ga1_real (ρ : Fin 512) : ga1 B q2 do2 kb vb (ix2 ρ 0) = ((0 + ∑ l, rg qr dor kr vr M1 zr ρ l : ℝ) : EReal) := by
  pointwise [ga1, k0_pay36, k0_pay21]
  simp only [g1_real b hq hdo hk hv, coe_sum, zero_add]

include hdo hv hds in
theorem dq1_real (ρ : Fin 512) (e : Fin 128) :
    dq1 B q2 do2 ds kb vb (ix2 ρ e) = ((0 + ∑ l, rdz qr dor kr vr M1 dsr zr zr ρ l * kr l e : ℝ) : EReal) := by
  pointwise [dq1, k0_pay37, k0_pay22]
  simp only [dz1_real b hq hdo hk hv hds, hk, ← EReal.coe_mul, coe_sum, zero_add]

include hdo hv hds in
theorem K1_real {Kb : Vec Ideal S128x128 .f32} {Kr : Fin 128 → Fin 128 → ℝ} (hK : ∀ l e, Kb (ix2 l e) = (Kr l e : EReal)) (l e : Fin 128) :
    K1 B q2 do2 ds kb vb Kb (ix2 l e) = ((Kr l e + ∑ ρ, rdz qr dor kr vr M1 dsr zr zr ρ l * qr ρ e : ℝ) : EReal) := by
  have h := dz1_real b hq hdo hk hv hds
  unfold dz1 at h
  pointwise [K1, k0_pay32]
  simp only [h, hK, hq, ← EReal.coe_mul, coe_sum, ← EReal.coe_add]

include hdo in
theorem V1_real {Vb : Vec Ideal S128x128 .f32} {Vr : Fin 128 → Fin 128 → ℝ} (hV : ∀ l e, Vb (ix2 l e) = (Vr l e : EReal)) (l e : Fin 128) :
    V1 B q2 do2 kb Vb (ix2 l e) = ((Vr l e + ∑ ρ, rw' qr kr M1 zr ρ l * dor ρ e : ℝ) : EReal) := by
  pointwise [V1, k0_pay34, k0_pay33]
  simp only [w1_real b hq hk, hV, hdo, ← EReal.coe_mul, coe_sum, ← EReal.coe_add]

end Diagonal

section Diagonal0

variable (b : Fin 64) {q2 do2 : FVec Ideal S512x128 .bf16} {kb vb : Vec Ideal S128x128 .bf16} {ds ca ga : FVec Ideal S512x1 .f32}
  {qr dor : Fin 512 → Fin 128 → ℝ} {kr vr : Fin 128 → Fin 128 → ℝ} {dsr car gar : Fin 512 → ℝ}
  (hq : ∀ ρ e, q2 (ix2 ρ e) = (qr ρ e : EReal)) (hdo : ∀ ρ e, do2 (ix2 ρ e) = (dor ρ e : EReal))
  (hk : ∀ ρ e, kb (ix2 ρ e) = (kr ρ e : EReal)) (hv : ∀ ρ e, vb (ix2 ρ e) = (vr ρ e : EReal))
  (hds : ∀ ρ, ds (ix2 ρ 0) = (dsr ρ : EReal)) (hca : ∀ ρ, ca (ix2 ρ 0) = (car ρ : EReal)) (hga : ∀ ρ, ga (ix2 ρ 0) = (gar ρ : EReal))

local notation "B" => BitVec.ofNat 32 (Fin.val b)

include hq hk

theorem ls0_real (ρ : Fin 512) (l : Fin 128) : k0_pay42 (lf0 q2 kb) (mk0 B) (0 : EReal) (ix2 ρ l) = (rls qr kr M0 ρ l : EReal) := by
  pointwise [k0_pay42]
  rw [mk0_apply, lf0, lf0_eq, lf_real hq hk, select_ite, ← EReal.coe_zero, coe_select]
  rfl

include hca in
theorem w0_real (ρ : Fin 512) (l : Fin 128) :
    k0_pay43 ts ca (lf0 q2 kb) (lg0 q2 kb) (mk0 B) (0 : EReal) (ix2 ρ l) = (rw' qr kr M0 car ρ l : EReal) := by
  have hl : ∀ ρ l, lg0 q2 kb (ix2 ρ l) = _ := lg_real hq hk
  pointwise [k0_pay43]
  simp only [ls0_real b hq hk, mk0_apply, ts_apply, hl, select_ite, hca]
  rw [split_real (rls qr kr M0 ρ) (fun x => l.val < x), ← EReal.coe_add, ← EReal.coe_add, ← EReal.coe_zero]
  refine (congrArg (fun y => if M0 ρ l then y else (0 : ℝ).toEReal) (Ideal.exp2_coe _)).trans ?_
  rw [coe_select, rw']

include hca hdo hv in
theorem g0_real (ρ : Fin 512) (l : Fin 128) :
    k0_pay44 do2 ts ca (lf0 q2 kb) (lg0 q2 kb) (mk0 B) (0 : EReal) vb (ix2 ρ l) = (rg qr dor kr vr M0 car ρ l : EReal) := by
  pointwise [k0_pay44]
  rw [w0_real b hq hk hca]
  simp only [hdo, hv, ← EReal.coe_mul, coe_sum]
  rfl

include hca hga hdo hv hds in
theorem dz0_real (ρ : Fin 512) (l : Fin 128) :
    k0_pay45 do2 ds ts ti ca ga (lf0 q2 kb) (lg0 q2 kb) (mk0 B) (0 : EReal) vb (ix2 ρ l)
      = (rdz qr dor kr vr M0 dsr car gar ρ l : EReal) := by
  have hl : ∀ ρ l, lg0 q2 kb (ix2 ρ l) = _ := lg_real hq hk
  pointwise [k0_pay45]
  simp only [g0_real b hq hdo hk hv hca, mk0_apply, ti_apply, hl, hga, hds]
  rw [split_real (rg qr dor kr vr M0 car ρ) (fun x => l.val ≤ x), ← EReal.coe_zero, ← EReal.coe_add, dz_real, eighth_eq, select_ite, ← EReal.coe_mul, coe_select, rdz, ite_mul, zero_mul]

include hca in
theorem ca0_real (ρ : Fin 512) :
    k0_pay2 ca (k0_pay42 (lf0 q2 kb) (mk0 B) (0 : EReal)) (ix2 ρ 0) = ((car ρ + ∑ l, rls qr kr M0 ρ l : ℝ) : EReal) := by
  pointwise [k0_pay2]
  simp only [ls0_real b hq hk, hca, coe_sum, ← EReal.coe_add]

include hca hga hdo hv in
theorem ga0_real (ρ : Fin 512) :
    k0_pay3 ga (k0_pay44 do2 ts ca (lf0 q2 kb) (lg0 q2 kb) (mk0 B) (0 : EReal) vb) (ix2 ρ 0)
      = ((gar ρ + ∑ l, rg qr dor kr vr M0 car ρ l : ℝ) : EReal) := by
  pointwise [k0_pay3]
  simp only [g0_real b hq hdo hk hv hca, hga, coe_sum, ← EReal.coe_add]

include hca hga hdo hv hds in
theorem dq0_real {dq : FVec Ideal S512x128 .f32} {dqr : Fin 512 → Fin 128 → ℝ} (hdq : ∀ ρ e, dq (ix2 ρ e) = (dqr ρ e : EReal)) (ρ : Fin 512) (e : Fin 128) :
    k0_pay4 dq kb (k0_pay45 do2 ds ts ti ca ga (lf0 q2 kb) (lg0 q2 kb) (mk0 B) (0 : EReal) vb) (ix2 ρ e)
      = ((dqr ρ e + ∑ l, rdz qr dor kr vr M0 dsr car gar ρ l * kr l e : ℝ) : EReal) := by
  pointwise [k0_pay4]
  simp only [dz0_real b hq hdo hk hv hds hca hga, hk, hdq, ← EReal.coe_mul, coe_sum, ← EReal.coe_add]

include hca hga hdo hv hds in
theorem K0_real {Kb : Vec Ideal S128x128 .f32} {Kr : Fin 128 → Fin 128 → ℝ} (hK : ∀ l e, Kb (ix2 l e) = (Kr l e : EReal)) (l e : Fin 128) :
    k0_pay46 q2 do2 ds ts ti ca ga (lf0 q2 kb) (lg0 q2 kb) (mk0 B) (0 : EReal) vb Kb (ix2 l e)
      = ((Kr l e + ∑ ρ, rdz qr dor kr vr M0 dsr car gar ρ l * qr ρ e : ℝ) : EReal) := by
  pointwise [k0_pay46]
  simp only [dz0_real b hq hdo hk hv hds hca hga, hK, hq, ← EReal.coe_mul, coe_sum, ← EReal.coe_add]

include hca hdo in
theorem V0_real {Vb : Vec Ideal S128x128 .f32} {Vr : Fin 128 → Fin 128 → ℝ} (hV : ∀ l e, Vb (ix2 l e) = (Vr l e : EReal)) (l e : Fin 128) :
    k0_pay1 do2 (k0_pay43 ts ca (lf0 q2 kb) (lg0 q2 kb) (mk0 B) (0 : EReal)) Vb (ix2 l e)
      = ((Vr l e + ∑ ρ, rw' qr kr M0 car ρ l * dor ρ e : ℝ) : EReal) := by
  pointwise [k0_pay1]
  simp only [w0_real b hq hk hca, hV, hdo, ← EReal.coe_mul, coe_sum, ← EReal.coe_add]

end Diagonal0

/-! ## The two heads of a pair, one above the other -/

/-- Row `ρ` of the doubled block: the row of the block at the lanes of the row's own head, nothing at the other's. -/
def lanes (x : Fin 256 → Fin 128 → ℝ) (ρ : Fin 512) (e : Fin 128) : ℝ :=
  if e.val / 64 = ρ.val / 256 then x ⟨ρ.val % 256, by omega⟩ e else 0

theorem pay8_apply (r : Fin 256) (e : Fin 128) : k0_pay8 (ix2 r e) = if e.val < 64 then 1#1 else 0#1 := by
  have h : ∀ e : Fin 128, IntOp.cmpi CmpIPredicate.slt (BitVec.ofNat 32 e.val) 64#32 = if e.val < 64 then 1#1 else 0#1 := by
    decide +kernel
  pointwise [k0_pay8]
  exact h e

section Double

variable {x : Vec Ideal S256x128 .bf16} {xr : Fin 256 → Fin 128 → ℝ} (hx : ∀ r e, x (ix2 r e) = (xr r e : EReal))
include hx
theorem q2_real (ρ : Fin 512) (e : Fin 128) : k0_pay9 x (ix2 ρ e) = (lanes xr ρ e : EReal) := by
  pointwise [k0_pay9]
  simp only [pay8_apply, select_ite, hx]
  unfold lanes
  by_cases hρ : ρ.val < 256
  · have h1 : (⟨ρ.val % 256, by omega⟩ : Fin 256) = ⟨ρ.val, hρ⟩ := Fin.ext (Nat.mod_eq_of_lt hρ)
    rw [dif_pos hρ, h1, ← EReal.coe_zero, coe_select]
    exact congrArg _ (if_congr (by omega) rfl rfl)
  · have h1 : (⟨ρ.val % 256, by omega⟩ : Fin 256) = ⟨ρ.val - 256, by omega⟩ := Fin.ext (by show ρ.val % 256 = ρ.val - 256; omega)
    rw [dif_neg hρ, h1, ← EReal.coe_zero, coe_select]
    by_cases he : e.val < 64
    · have h2 : ¬ e.val / 64 = ρ.val / 256 := by omega
      simp only [he, h2, if_true, if_false]
    · have h2 : e.val / 64 = ρ.val / 256 := by omega
      simp only [he, h2, if_true, if_false]

theorem do2_real (ρ : Fin 512) (e : Fin 128) : k0_pay10 x (ix2 ρ e) = (lanes xr ρ e : EReal) := q2_real hx ρ e

theorem ds_real {o : Vec Ideal S256x128 .f32} {or : Fin 256 → Fin 128 → ℝ} (ho : ∀ r e, o (ix2 r e) = (or r e : EReal)) (ρ : Fin 512) :
    k0_pay11 x o (ix2 ρ 0) = ((∑ e, lanes xr ρ e * or ⟨ρ.val % 256, by omega⟩ e : ℝ) : EReal) := by
  pointwise [k0_pay11]
  simp only [do2_real hx, ho]
  by_cases hρ : ρ.val < 256
  · have h1 : (⟨ρ.val % 256, by omega⟩ : Fin 256) = ⟨ρ.val, hρ⟩ := Fin.ext (Nat.mod_eq_of_lt hρ)
    simp only [dif_pos hρ, h1, ← EReal.coe_mul, coe_sum]
  · have h1 : (⟨ρ.val % 256, by omega⟩ : Fin 256) = ⟨ρ.val - 256, by omega⟩ := Fin.ext (by show ρ.val % 256 = ρ.val - 256; omega)
    simp only [dif_neg hρ, h1, ← EReal.coe_mul, coe_sum]

end Double

theorem pay5_real {d : FVec Ideal S512x128 .f32} {dr : Fin 512 → Fin 128 → ℝ} (hd : ∀ ρ e, d (ix2 ρ e) = (dr ρ e : EReal)) (r : Fin 256) (e : Fin 128) :
    k0_pay5 k0_pay8 d (ix2 r e) = (dr ⟨256 * (e.val / 64) + r.val, by omega⟩ e : EReal) := by
  pointwise [k0_pay5]
  rw [pay8_apply, select_ite]
  simp only [hd]
  rw [coe_select]
  by_cases he : e.val < 64
  · rw [if_pos he]; exact congrArg (fun z => ((dr z e : ℝ) : EReal)) (Fin.ext (by show r.val = 256 * (e.val / 64) + r.val; omega))
  · rw [if_neg he]; exact congrArg (fun z => ((dr z e : ℝ) : EReal)) (Fin.ext (by show 256 + r.val = 256 * (e.val / 64) + r.val; omega))

end Cert.SbIdeal.Sb
end
-- ==== Proof.Sb.Spec.lean ====
/-
  The stick-breaking attention's gradients as real numbers, and how a row's sums over all the keys are met by the
  kernel's tiles of 128 keys, taken from the last key to the first.
-/
module

public import Mathlib.Analysis.SpecialFunctions.Pow.Real
public import Mathlib.Algebra.BigOperators.Fin
public import Mathlib.Algebra.BigOperators.Intervals
public import Mathlib.Algebra.BigOperators.Field

@[expose] public section

noncomputable section

namespace Cert.SbIdeal.Sb

/-! ## One row -/

/-- `log (1 + exp x)`, as the reference writes it. -/
def sp (x : ℝ) : ℝ := max x 0 + Real.log (1 + Real.exp (-|x|))

theorem sp_eq (x : ℝ) : sp x = Real.log (1 + Real.exp x) := by
  unfold sp
  rcases le_or_gt 0 x with h | h
  · have e : 1 + Real.exp x = Real.exp x * (1 + Real.exp (-x)) := by
      rw [mul_add, mul_one, ← Real.exp_add, add_neg_cancel, Real.exp_zero, add_comm]
    rw [max_eq_left h, abs_of_nonneg h, e, Real.log_mul (Real.exp_pos _).ne' (by positivity), Real.log_exp]
  · rw [max_eq_right h.le, abs_of_neg h, neg_neg, zero_add]

theorem sub_sp (x : ℝ) : x - sp x = -sp (-x) := by
  unfold sp
  rw [abs_neg]
  rcases le_total 0 x with h | h
  · rw [max_eq_left h, max_eq_right (by linarith)]; ring
  · rw [max_eq_right h, max_eq_left (by linarith)]; ring

theorem exp_sub_sp (x : ℝ) : Real.exp (x - sp x) = Real.exp x / (1 + Real.exp x) := by
  rw [sp_eq, Real.exp_sub, Real.exp_log (by positivity)]

theorem one_sub_exp (x : ℝ) : 1 - Real.exp (x - sp x) = Real.exp (-x - sp (-x)) := by
  rw [exp_sub_sp, exp_sub_sp, Real.exp_neg]
  have h := Real.exp_pos x
  field_simp
  ring

theorem two_rpow (x : ℝ) : Real.rpow 2 (x / Real.log 2) = Real.exp x := by
  have h2 : Real.log 2 ≠ 0 := (Real.log_pos one_lt_two).ne'
  show (2 : ℝ) ^ (x / Real.log 2) = _
  rw [Real.rpow_def_of_pos two_pos, mul_div_cancel₀ _ h2]

theorem sp_two (x : ℝ) :
    0 - (max (x / Real.log 2) 0 + Real.log (1 + Real.rpow 2 (0 - |x / Real.log 2|)) * (Real.log 2)⁻¹) = -sp x / Real.log 2 := by
  have h2 : 0 < Real.log 2 := Real.log_pos one_lt_two
  have h3 : 0 - |x / Real.log 2| = -|x| / Real.log 2 := by rw [abs_div, abs_of_pos h2]; ring
  have h4 : max (x / Real.log 2) 0 = max x 0 / Real.log 2 := by
    rw [← zero_div (Real.log 2), max_div_div_right h2.le, zero_div]
  rw [h3, two_rpow, h4, sp]
  ring

/-- The sum over the keys from `128 k` on. -/
def tail (f : Fin 16384 → ℝ) (k : ℕ) : ℝ := ∑ s : Fin 16384, if 128 * k ≤ s.val then f s else 0

/-- The key at lane `l` of tile `k`. -/
abbrev key (k : ℕ) (hk : k < 128) (l : Fin 128) : Fin 16384 := ⟨128 * k + l.val, by omega⟩

/-- A sum over all the keys, tile `k` apart. -/
theorem sum_tile (f : Fin 16384 → ℝ) (k : ℕ) (hk : k < 128) :
    (∑ s : Fin 16384, if 128 * k ≤ s.val ∧ s.val < 128 * (k + 1) then f s else 0) = ∑ l : Fin 128, f (key k hk l) := by
  rw [← Finset.sum_filter]
  refine (Finset.sum_bij (fun l _ => key k hk l) ?_ ?_ ?_ ?_).symm
  · intro l _
    simp only [Finset.mem_filter, Finset.mem_univ, true_and, key]
    omega
  · intro a _ b _ h
    have := congrArg Fin.val h
    simp only [key] at this
    exact Fin.ext (by omega)
  · intro s hs
    simp only [Finset.mem_filter, Finset.mem_univ, true_and] at hs
    exact ⟨⟨s.val - 128 * k, by omega⟩, Finset.mem_univ _, Fin.ext (by simp only [key]; omega)⟩
  · intro l _; rfl

theorem tail_succ (f : Fin 16384 → ℝ) (k : ℕ) (hk : k < 128) : tail f k = tail f (k + 1) + ∑ l : Fin 128, f (key k hk l) := by
  rw [← sum_tile, tail, tail, ← Finset.sum_add_distrib]
  refine Finset.sum_congr rfl fun s _ => ?_
  by_cases h1 : 128 * (k + 1) ≤ s.val
  · rw [if_pos (by omega), if_pos h1, if_neg (by omega), add_zero]
  · by_cases h2 : 128 * k ≤ s.val
    · rw [if_pos h2, if_neg h1, if_pos (by omega), zero_add]
    · rw [if_neg h2, if_neg h1, if_neg (by omega), zero_add]

theorem tail_zero (f : Fin 16384 → ℝ) : tail f 0 = ∑ s, f s :=
  Finset.sum_congr rfl fun s _ => if_pos (by omega)

theorem tail_eq_zero (f : Fin 16384 → ℝ) (k : ℕ) (h : ∀ s : Fin 16384, 128 * k ≤ s.val → f s = 0) : tail f k = 0 :=
  Finset.sum_eq_zero fun s _ => by split; exacts [h s ‹_›, rfl]

/-- The sum over the keys from a key of tile `k` on: within the tile, and after it. -/
theorem sum_from (f : Fin 16384 → ℝ) (k : ℕ) (hk : k < 128) (l : Fin 128) :
    (∑ s : Fin 16384, if (key k hk l).val ≤ s.val then f s else 0)
      = tail f (k + 1) + ∑ x : Fin 128, f (key k hk x) * (if l.val ≤ x.val then 1 else 0) := by
  have h := sum_tile (fun s => if 128 * k + l.val ≤ s.val then f s else 0) k hk
  have e : ∀ x : Fin 128, (if 128 * k + l.val ≤ (key k hk x).val then f (key k hk x) else 0) = f (key k hk x) * (if l.val ≤ x.val then 1 else 0) := fun x => by
    by_cases hx : l.val ≤ x.val
    · rw [if_pos hx, if_pos (by simp only [key]; omega), mul_one]
    · rw [if_neg hx, if_neg (by simp only [key]; omega), mul_zero]
  rw [← Finset.sum_congr rfl fun x _ => e x, ← h, tail, ← Finset.sum_add_distrib]
  refine Finset.sum_congr rfl fun s _ => ?_
  simp only [key]
  by_cases h1 : 128 * (k + 1) ≤ s.val
  · rw [if_pos (by omega), if_pos h1, if_neg (by omega), add_zero]
  · rw [if_neg h1, zero_add]
    by_cases h2 : 128 * k + l.val ≤ s.val
    · rw [if_pos h2, if_pos (by omega)]
    · rw [if_neg h2, ite_self]

section Row

variable (i : ℕ) (z p : Fin 16384 → ℝ)

/-- The masked log-sigmoids of row `i`'s negated scores, -/
def lf (j : Fin 16384) : ℝ := if j.val < i then -sp (z j) else 0
/-- the weight of a key before the mask, -/
def wt (j : Fin 16384) : ℝ :=
  Real.exp (-sp (-z j) + ((∑ s : Fin 16384, if j.val ≤ s.val then lf i z s else 0) - lf i z j))
/-- and after it, -/
def w (j : Fin 16384) : ℝ := if j.val < i then wt i z j else 0
/-- the weight times its gradient, -/
def g (j : Fin 16384) : ℝ := (if j.val < i then p j else 0) * wt i z j
/-- and the gradient of the product of a query and a key. -/
def dz (j : Fin 16384) : ℝ :=
  (g i z p j * Real.exp (-z j - sp (-z j))
    - (if j.val < i then -g i z p j + ∑ t : Fin 16384, (if t.val ≤ j.val then g i z p t else 0) else 0) * Real.exp (z j - sp (z j))) * (1 / 8)

theorem lf_out (j : Fin 16384) (h : i ≤ j.val) : lf i z j = 0 := if_neg (by omega)
theorem w_out (j : Fin 16384) (h : i ≤ j.val) : w i z j = 0 := if_neg (by omega)
theorem g_out (j : Fin 16384) (h : i ≤ j.val) : g i z p j = 0 := by rw [g, if_neg (by omega), zero_mul]
theorem dz_out (j : Fin 16384) (h : i ≤ j.val) : dz i z p j = 0 := by
  rw [dz, g_out i z p j h, if_neg (by omega)]; ring
theorem g_eq (j : Fin 16384) : g i z p j = p j * w i z j := by
  unfold g w; split <;> simp

/-- Summed from the first key or from the last, less the key itself. -/
theorem prefix_eq (f : Fin 16384 → ℝ) (j : Fin 16384) :
    -f j + ∑ t : Fin 16384, (if t.val ≤ j.val then f t else 0) = (∑ t, f t) - ∑ t : Fin 16384, if j.val ≤ t.val then f t else 0 := by
  have h1 : f j = ∑ t : Fin 16384, if t = j then f t else 0 := by rw [Finset.sum_ite_eq' Finset.univ j f, if_pos (Finset.mem_univ j)]
  rw [h1, ← Finset.sum_neg_distrib, ← Finset.sum_add_distrib, ← Finset.sum_sub_distrib]
  refine Finset.sum_congr rfl fun t _ => ?_
  rcases lt_trichotomy t j with h | h | h
  · have h' : t.val < j.val := h
    rw [if_neg h.ne, if_pos h'.le, if_neg (by omega)]; ring
  · subst h; rw [if_pos rfl, if_pos le_rfl]; ring
  · have h' : j.val < t.val := h
    rw [if_neg h.ne', if_neg (by omega), if_pos h'.le]; ring

end Row

/-! ## One tile of a row -/

section Tile

variable {i : ℕ} {z p : Fin 16384 → ℝ} {k : ℕ} (hk : k < 128) {zt pt : Fin 128 → ℝ} {ca ga : ℝ}
  (hz : ∀ l, zt l = z (key k hk l) / Real.log 2) (hp : ∀ l, pt l = p (key k hk l))
  (hca : ca = tail (lf i z) (k + 1) / Real.log 2) (hga : ga = tail (g i z p) (k + 1))

/-- A tile's log-sigmoids in units of `log 2`, without the mask and with it. -/
def lfT (zt : Fin 128 → ℝ) (l : Fin 128) : ℝ := 0 - (max (zt l) 0 + Real.log (1 + Real.rpow 2 (0 - |zt l|)) * (Real.log 2)⁻¹)

include hz in
theorem lfT_eq (l : Fin 128) : lfT zt l = -sp (z (key k hk l)) / Real.log 2 := by
  rw [lfT, hz, sp_two]

include hz in
theorem lsT_eq (l : Fin 128) : (if (key k hk l).val < i then lfT zt l else 0) = lf i z (key k hk l) / Real.log 2 := by
  rw [lfT_eq hk hz, lf]; split <;> simp

include hz in
theorem lgT_eq (l : Fin 128) : Real.rpow 2 (zt l + lfT zt l) = Real.exp (z (key k hk l) - sp (z (key k hk l))) := by
  rw [lfT_eq hk hz, hz, ← add_div, two_rpow, sub_eq_add_neg]

include hz hca in
theorem wT_eq (l : Fin 128) :
    (if (key k hk l).val < i then Real.rpow 2 (zt l + lfT zt l
        + (∑ x : Fin 128, (if (key k hk x).val < i then lfT zt x else 0) * (if l.val < x.val then 1 else 0)) + ca) else 0)
      = w i z (key k hk l) := by
  rw [w]
  refine if_congr Iff.rfl ?_ rfl
  have h1 : ∀ x : Fin 128, lf i z (key k hk x) * (if l.val ≤ x.val then 1 else 0)
      = lf i z (key k hk x) * (if l.val < x.val then 1 else 0) + (if x = l then lf i z (key k hk x) else 0) := fun x => by
    rcases lt_trichotomy l x with h | h | h
    · have h' : l.val < x.val := h
      rw [if_pos h'.le, if_pos h', if_neg h.ne']; ring
    · subst h; rw [if_pos le_rfl, if_neg (lt_irrefl _), if_pos rfl]; ring
    · have h' : x.val < l.val := h
      rw [if_neg (by omega), if_neg (by omega), if_neg h.ne]; ring
  have h2 := sum_from (lf i z) k hk l
  rw [Finset.sum_congr rfl fun x _ => h1 x, Finset.sum_add_distrib, Finset.sum_ite_eq' Finset.univ l (fun x => lf i z (key k hk x)),
    if_pos (Finset.mem_univ l)] at h2
  rw [Finset.sum_congr rfl fun x _ => by rw [lsT_eq hk hz x, div_mul_eq_mul_div], ← Finset.sum_div, lfT_eq hk hz, hz, hca, ← add_div, ← add_div, ← add_div, two_rpow, wt, h2,
    ← sub_sp]
  refine congrArg Real.exp ?_
  generalize tail (lf i z) (k + 1) = T
  ring

include hz hp hca in
theorem gT_eq (l : Fin 128) {wT : ℝ} (hw : wT = w i z (key k hk l)) : pt l * wT = g i z p (key k hk l) := by
  rw [g_eq, hw, hp]

include hz hga in
theorem dzT_eq (l : Fin 128) {gT : Fin 128 → ℝ} (hg : ∀ x, gT x = g i z p (key k hk x)) {ds : ℝ} (hds : ds = ∑ t, g i z p t) :
    (if (key k hk l).val < i then gT l * (1 - Real.rpow 2 (zt l + lfT zt l))
        - Real.rpow 2 (zt l + lfT zt l) * (ds - ((∑ x : Fin 128, gT x * (if l.val ≤ x.val then 1 else 0)) + ga)) else 0) * (1 / 8)
      = dz i z p (key k hk l) := by
  by_cases h : (key k hk l).val < i
  · simp only [hg]
    rw [if_pos h, dz, if_pos h, prefix_eq, sum_from (g i z p) k hk l, lgT_eq hk hz, one_sub_exp, hds, hga,
      add_comm (tail (g i z p) (k + 1))]
    ring
  · rw [if_neg h, dz_out _ _ _ _ (by omega), zero_mul]

end Tile

end Cert.SbIdeal.Sb
end
-- ==== Proof.Sb.Point.lean ====
/-
  One grid point at the ideal instance: from the diagonal's two tiles through the loop, what the carries, the queries'
  gradient and the two accumulators hold after each tile, as real numbers.
-/
module

public import proofs.«01_k».proof.Proof.Sb.Tile
public import proofs.«01_k».proof.Proof.Sb.Spec
public import Idealize.ShloMosaic.Lib.WritesUnit
public import Idealize.ShloMosaic.Lib.VecWindow

@[expose] public section

set_option maxRecDepth 16384

noncomputable section

namespace Cert.SbIdeal.Sb

open Cert.SbIdeal Cert.SbIdeal.Gen

open Idealize.ShloMosaic
open Idealize.ShloMosaic.TcCoe

/-! ## A tile of a column -/

section Access

variable {sp : Space} {e : EltTy} (v : View sig .tc sp S16384x128 e) (f : v.ty.Contents (Elt Ideal))
  {off : Fin 2 → ℕ} (inb : ∀ a : Fin 2, off a + S128x128.size a ≤ S16384x128.size a) (k : ℕ) (hk : k < 128) (hoff : off = ![128 * k, 0])

include hoff in
theorem readAt_tile (l x : Fin 128) :
    v.readAt (Elt Ideal) (Rect.unit (s := S16384x128) off S128x128.size inb).toLoadRect f (ix2 l x)
      = v.read (Elt Ideal) f (ix2 (key k hk l) x) := by
  subst hoff
  refine congrArg (v.read (Elt Ideal) f) ?_
  funext a
  match a with
  | ⟨0, _⟩ => exact Fin.ext (by show 128 * k + 1 * l.val = 128 * k + l.val; omega)
  | ⟨1, _⟩ => exact Fin.ext (by show 0 + 1 * x.val = x.val; omega)

include hoff in
theorem writes_tile_mem (X : FVec Ideal S128x128 .f32) {v : View sig .tc sp S16384x128 .f32} {f : v.ty.Contents (Elt Ideal)}
    (L : List (View.Piece (Elt Ideal) S16384x128 .f32)) (l x : Fin 128) :
    v.read (Elt Ideal) (v.writes (Elt Ideal) f (⟨Rect.unit (s := S16384x128) off S128x128.size inb, X⟩ :: L)) (ix2 (key k hk l) x) = X (ix2 l x) :=
  View.read_writes_cons_rows_of_mem v f inb X L (ix2 (key k hk l) x) (ix2 l x) hoff rfl rfl

include hoff in
theorem writes_tile_not_mem (X : FVec Ideal S128x128 .f32) {v : View sig .tc sp S16384x128 .f32} {f : v.ty.Contents (Elt Ideal)}
    (L : List (View.Piece (Elt Ideal) S16384x128 .f32)) (j : Fin 16384) (x : Fin 128) (h : j.val < 128 * k ∨ 128 * k + 128 ≤ j.val) :
    v.read (Elt Ideal) (v.writes (Elt Ideal) f (⟨Rect.unit (s := S16384x128) off S128x128.size inb, X⟩ :: L)) (ix2 j x)
      = v.read (Elt Ideal) (v.writes (Elt Ideal) f L) (ix2 j x) :=
  View.read_writes_cons_rows_of_not_mem v f inb X L (ix2 j x) hoff rfl h

end Access

/-- The tile's rows of an accumulator before and after: with `A` their old values and `X` what the tile's rows get. -/
theorem acc_tile {sp : Space} {v : View sig .tc sp S16384x128 .f32} {f : v.ty.Contents (Elt Ideal)} {off : Fin 2 → ℕ}
    (inb : ∀ a : Fin 2, off a + S128x128.size a ≤ S16384x128.size a) (k : ℕ) (hk : k < 128) (hoff : off = ![128 * k, 0])
    (Y : FVec Ideal S128x128 .f32) (L : List (View.Piece (Elt Ideal) S16384x128 .f32)) (A X : Fin 16384 → Fin 128 → ℝ)
    (hL : ∀ j e, v.read (Elt Ideal) (v.writes (Elt Ideal) f L) (ix2 j e) = ((A j e + (if 128 * (k + 1) ≤ j.val then X j e else 0) : ℝ) : EReal))
    (hY : ∀ l e, Y (ix2 l e) = ((A (key k hk l) e + X (key k hk l) e : ℝ) : EReal)) (j : Fin 16384) (e : Fin 128) :
    v.read (Elt Ideal) (v.writes (Elt Ideal) f (⟨Rect.unit (s := S16384x128) off S128x128.size inb, Y⟩ :: L)) (ix2 j e)
      = ((A j e + (if 128 * k ≤ j.val then X j e else 0) : ℝ) : EReal) := by
  by_cases h : 128 * k ≤ j.val ∧ j.val < 128 * k + 128
  · obtain ⟨l, rfl⟩ : ∃ l, j = key k hk l := ⟨⟨j.val - 128 * k, by omega⟩, Fin.ext (by show j.val = 128 * k + (j.val - 128 * k); omega)⟩
    rw [writes_tile_mem inb k hk hoff, hY, if_pos h.1]
  · rw [writes_tile_not_mem inb k hoff Y L j e (by omega), hL]
    exact congrArg (fun y : ℝ => ((A j e + y : ℝ) : EReal)) (if_congr (by omega) rfl rfl)

theorem off2_eq (k : ℕ) (hk : k < 128) : k0_off2 (jw (k + 1)) = ![128 * k, 0] := by
  have h : ∀ k : Fin 128, k0_off2 (jw (k.val + 1)) = ![128 * k.val, 0] := by decide +kernel
  exact h ⟨k, hk⟩

/-! ## The rows of a point -/

section Rows

variable (b : ℕ) (qb dob : Fin 256 → Fin 128 → ℝ) (kc vc : Fin 16384 → Fin 128 → ℝ)

/-- Row `ρ` of the doubled block: its number, its scores, and its weights' gradients. -/
def rowI (ρ : Fin 512) : ℕ := 256 * b + ρ.val % 256
def rowZ (ρ : Fin 512) (j : Fin 16384) : ℝ := (∑ e, lanes qb ρ e * kc j e) * (1 / 8)
def rowP (ρ : Fin 512) (j : Fin 16384) : ℝ := ∑ e, lanes dob ρ e * vc j e
/-- Its log-sigmoids, weights, gradients and scores' gradients. -/
abbrev rowLf (ρ : Fin 512) : Fin 16384 → ℝ := lf (rowI b ρ) (rowZ qb kc ρ)
abbrev rowWt (ρ : Fin 512) : Fin 16384 → ℝ := w (rowI b ρ) (rowZ qb kc ρ)
abbrev rowG (ρ : Fin 512) : Fin 16384 → ℝ := g (rowI b ρ) (rowZ qb kc ρ) (rowP dob vc ρ)
abbrev rowDz (ρ : Fin 512) : Fin 16384 → ℝ := dz (rowI b ρ) (rowZ qb kc ρ) (rowP dob vc ρ)

variable {b} {dsr : Fin 512 → ℝ} (k : ℕ) (hk : k < 128) (M : Fin 512 → Fin 128 → Prop) [∀ ρ l, Decidable (M ρ l)] {ca ga : Fin 512 → ℝ}
  (hM : ∀ ρ l, M ρ l ↔ (key k hk l).val < rowI b ρ)
  (hca : ∀ ρ, ca ρ = tail (rowLf b qb kc ρ) (k + 1) / Real.log 2)
  (hga : ∀ ρ, ga ρ = tail (rowG b qb dob kc vc ρ) (k + 1))
  (hds : ∀ ρ, dsr ρ = ∑ j, rowG b qb dob kc vc ρ j)

/-- The tile's keys and values. -/
abbrev kt (l e : Fin 128) : ℝ := kc (key k hk l) e

theorem rz_eq (ρ : Fin 512) (l : Fin 128) : rz (lanes qb) (kt kc k hk) ρ l = rowZ qb kc ρ (key k hk l) / Real.log 2 := by
  have h : Real.log 256 = 8 * Real.log 2 := by
    rw [show (256 : ℝ) = 2 ^ 8 by norm_num, Real.log_pow]; norm_num
  rw [rz, rowZ, h, mul_inv]; ring

include hM in
theorem rls_eq (ρ : Fin 512) (l : Fin 128) :
    rls (lanes qb) (kt kc k hk) M ρ l = rowLf b qb kc ρ (key k hk l) / Real.log 2 := by
  refine Eq.trans ?_ (lsT_eq hk (rz_eq qb kc k hk ρ) l)
  exact if_congr (hM ρ l) rfl rfl

include hM hca in
theorem rw_eq (ρ : Fin 512) (l : Fin 128) : rw' (lanes qb) (kt kc k hk) M ca ρ l = rowWt b qb kc ρ (key k hk l) := by
  refine Eq.trans ?_ (wT_eq hk (rz_eq qb kc k hk ρ) (hca ρ) l)
  refine if_congr (hM ρ l) ?_ rfl
  refine congrArg (fun y => Real.rpow 2 (_ + y + _)) (Finset.sum_congr rfl fun x _ => ?_)
  exact congrArg (· * _) (if_congr (hM ρ x) rfl rfl)

include hM hca in
theorem rg_eq (ρ : Fin 512) (l : Fin 128) :
    rg (lanes qb) (lanes dob) (kt kc k hk) (kt vc k hk) M ca ρ l = rowG b qb dob kc vc ρ (key k hk l) := by
  rw [rg, rw_eq qb kc k hk M hM hca, rowG, g_eq]
  rfl

include hM hca hga hds in
theorem rdz_eq (ρ : Fin 512) (l : Fin 128) :
    rdz (lanes qb) (lanes dob) (kt kc k hk) (kt vc k hk) M dsr ca ga ρ l = rowDz b qb dob kc vc ρ (key k hk l) := by
  refine Eq.trans ?_ (dzT_eq hk (rz_eq qb kc k hk ρ) (hga ρ) l (rg_eq qb dob kc vc k hk M hM hca ρ) (hds ρ))
  exact congrArg (· * (1 / 8 : ℝ)) (if_congr (hM ρ l) rfl rfl)

end Rows

/-! ## The state after each tile -/

section State

variable (c : Dev nD) (b : ℕ) (qb dob : Fin 256 → Fin 128 → ℝ) (kc vc K0 V0 : Fin 16384 → Fin 128 → ℝ)

/-- With the tiles from `k` on done: the carries hold the sums over the keys from `128 k` on, the queries' gradient
    the products with those keys, and the accumulators' rows from `128 k` on have their terms. -/
structure Good (k : ℕ) (s : St Ideal c) : Prop where
  fl : Scalar.cmpi .sgt s.fl 0#32 = 1#1
  ca : ∀ ρ, s.ca (ix2 ρ 0) = ((tail (rowLf b qb kc ρ) k / Real.log 2 : ℝ) : EReal)
  ga : ∀ ρ, s.ga (ix2 ρ 0) = ((tail (rowG b qb dob kc vc ρ) k : ℝ) : EReal)
  dq : ∀ ρ e, s.dq (ix2 ρ e) = ((tail (fun j => rowDz b qb dob kc vc ρ j * kc j e) k : ℝ) : EReal)
  K : ∀ j e, MK.view.read (Elt Ideal) s.K (ix2 j e)
    = ((K0 j e + (if 128 * k ≤ j.val then ∑ ρ, rowDz b qb dob kc vc ρ j * lanes qb ρ e else 0) : ℝ) : EReal)
  V : ∀ j e, MV.view.read (Elt Ideal) s.V (ix2 j e)
    = ((V0 j e + (if 128 * k ≤ j.val then ∑ ρ, rowWt b qb kc ρ j * lanes dob ρ e else 0) : ℝ) : EReal)

variable {c b qb dob kc vc K0 V0} {q2 do2 : FVec Ideal S512x128 .bf16} {ds : FVec Ideal S512x1 .f32} {dsr : Fin 512 → ℝ}
  (hq : ∀ ρ e, q2 (ix2 ρ e) = (lanes qb ρ e : EReal)) (hdo : ∀ ρ e, do2 (ix2 ρ e) = (lanes dob ρ e : EReal))
  (hds : ∀ ρ, ds (ix2 ρ 0) = (dsr ρ : EReal)) (hdsr : ∀ ρ, dsr ρ = ∑ j, rowG b qb dob kc vc ρ j)
  (M3 : Memref sig .tc .vmem S16384x128 .bf16) (M4 : Memref sig .tc .vmem S16384x128 .bf16)
  (fk : Bf (F := Ideal) c M3) (fv : Bf (F := Ideal) c M4)
  (hfk : ∀ j e, M3.view.read (Elt Ideal) fk (ix2 j e) = (kc j e : EReal)) (hfv : ∀ j e, M4.view.read (Elt Ideal) fv (ix2 j e) = (vc j e : EReal))

include hfk in
theorem kT_real (k : ℕ) (hk : k < 128) (l e : Fin 128) : kT c M3 fk k hk (ix2 l e) = ((kt kc k hk l e : ℝ) : EReal) :=
  (readAt_tile M3.view fk _ k hk (off2_eq k hk) l e).trans (hfk _ _)

set_option maxHeartbeats 1000000 in
include hq hdo hds hdsr hfk hfv in
/-- A tile before the row block keeps the state good. -/
theorem tile_good (k : ℕ) (hk : k < 128) (hb : k < 2 * b) (s : St Ideal c) (h : Good c b qb dob kc vc K0 V0 (k + 1) s) :
    Good c b qb dob kc vc K0 V0 k (tile c M3 M4 q2 do2 ts ti ds fk fv k hk s) := by
  have hM : ∀ (ρ : Fin 512) (l : Fin 128), (fun _ _ => True : Fin 512 → Fin 128 → Prop) ρ l ↔ (key k hk l).val < rowI b ρ :=
    fun ρ l => ⟨fun _ => by show 128 * k + l.val < 256 * b + ρ.val % 256; omega, fun _ => trivial⟩
  have hk' := kT_real (c := c) M3 fk hfk k hk
  have hv' := kT_real (c := c) M4 fv hfv k hk
  have eW := rw_eq qb kc k hk _ hM (fun _ => rfl)
  have eG := rg_eq qb dob kc vc k hk _ hM (fun _ => rfl)
  have eD := rdz_eq qb dob kc vc k hk _ hM (fun _ => rfl) (fun _ => rfl) hdsr
  refine ⟨?_, ?_, ?_, ?_, ?_, ?_⟩
  · exact tFl_up hq hk' h.ca
  · intro ρ
    refine (tCa_real hq hk' h.ca ρ).trans (congrArg _ ?_)
    rw [tail_succ _ k hk, add_div, Finset.sum_div]
    exact congrArg _ (Finset.sum_congr rfl fun l _ => rls_eq qb kc k hk _ hM ρ l)
  · intro ρ
    refine (tGa_real hq hdo hk' hv' h.ca h.ga ρ).trans (congrArg _ ?_)
    rw [tail_succ _ k hk]
    exact congrArg _ (Finset.sum_congr rfl fun l _ => eG ρ l)
  · intro ρ e
    refine (tDq_real hq hdo hk' hv' hds h.ca h.ga h.dq ρ e).trans (congrArg _ ?_)
    rw [tail_succ _ k hk]
    exact congrArg _ (Finset.sum_congr rfl fun l _ => by rw [eD ρ l])
  · refine acc_tile _ k hk (off2_eq k hk) _ [] K0 (fun j e => ∑ ρ, rowDz b qb dob kc vc ρ j * lanes qb ρ e) h.K (fun l e => ?_)
    refine (tK_real hq hdo hk' hv' hds h.ca h.ga (Kr := fun l e => K0 (key k hk l) e) (Kb := MK.view.readAt (Elt Ideal) (rJ k hk).toLoadRect s.K) (fun l e => ?_) l e).trans (congrArg _ ?_)
    · rw [readAt_tile MK.view s.K _ k hk (off2_eq k hk), h.K, if_neg (by show ¬ 128 * (k + 1) ≤ 128 * k + l.val; omega), add_zero]
    · exact congrArg _ (Finset.sum_congr rfl fun ρ _ => by rw [eD ρ l])
  · refine acc_tile _ k hk (off2_eq k hk) _ [] V0 (fun j e => ∑ ρ, rowWt b qb kc ρ j * lanes dob ρ e) h.V (fun l e => ?_)
    refine (tV_real hq hdo hk' h.ca (Vr := fun l e => V0 (key k hk l) e) (Vb := MV.view.readAt (Elt Ideal) (rJ k hk).toLoadRect s.V) (fun l e => ?_) l e).trans (congrArg _ ?_)
    · rw [readAt_tile MV.view s.V _ k hk (off2_eq k hk), h.V, if_neg (by show ¬ 128 * (k + 1) ≤ 128 * k + l.val; omega), add_zero]
    · exact congrArg _ (Finset.sum_congr rfl fun ρ _ => by rw [eW ρ l])

include hq hdo hds hdsr hfk hfv in
/-- The loop from a good state visits every tile before the row block. -/
theorem loop_good (k : ℕ) (hk : k ≤ 128) (hb : k ≤ 2 * b) (s : St Ideal c) (h : Good c b qb dob kc vc K0 V0 k s) :
    Good c b qb dob kc vc K0 V0 0 (loop c M3 M4 q2 do2 ts ti ds fk fv k s) := by
  induction k generalizing s with
  | zero => exact h
  | succ k ih =>
    rw [loop_succ c M3 M4 q2 do2 ts ti ds fk fv k (by omega) s h.fl]
    exact ih (by omega) (by omega) _ (tile_good hq hdo hds hdsr M3 M4 fk fv hfk hfv k (by omega) (by omega) s h)

end State

/-! ## The point -/

/-- The row of the block that a doubled row stands for. -/
def lr (ρ : Fin 512) : Fin 256 := ⟨ρ.val % 256, by omega⟩

section Whole

variable (c : Dev nD) (i : grid0.Coords) (M2 : Memref sig .tc .vmem S256x128 .bf16) (M3 M4 : Memref sig .tc .vmem S16384x128 .bf16)
  (M5 : Memref sig .tc .vmem S256x128 .f32) (M6 : Memref sig .tc .vmem S256x128 .bf16)
  (f2 : Bf (F := Ideal) c M2) (f3 : Bf (F := Ideal) c M3) (f4 : Bf (F := Ideal) c M4) (f5 : Bf (F := Ideal) c M5) (f6 : Bf (F := Ideal) c M6)
  (fK : Bf (F := Ideal) c MK) (fV : Bf (F := Ideal) c MV)
  {qb dob ob : Fin 256 → Fin 128 → ℝ} {kc vc K0r V0r : Fin 16384 → Fin 128 → ℝ}
  (hx2 : ∀ r e, M2.view.readAt (Elt Ideal) rB.toLoadRect f2 (ix2 r e) = (qb r e : EReal))
  (hx6 : ∀ r e, M6.view.readAt (Elt Ideal) rB.toLoadRect f6 (ix2 r e) = (dob r e : EReal))
  (hx5 : ∀ r e, M5.view.readAt (Elt Ideal) rB.toLoadRect f5 (ix2 r e) = (ob r e : EReal))
  (hf3 : ∀ j e, M3.view.read (Elt Ideal) f3 (ix2 j e) = (kc j e : EReal)) (hf4 : ∀ j e, M4.view.read (Elt Ideal) f4 (ix2 j e) = (vc j e : EReal))
  (hfK : ∀ j e, MK.view.read (Elt Ideal) (startK c i fK) (ix2 j e) = (K0r j e : EReal))
  (hfV : ∀ j e, MV.view.read (Elt Ideal) (startV c i fV) (ix2 j e) = (V0r j e : EReal))
  (hds : ∀ ρ : Fin 512, ∑ e, lanes dob ρ e * ob (lr ρ) e = ∑ j, rowG (i 1).val qb dob kc vc ρ j)

theorem offD1 : k0_off1 i 1#32 = ![128 * (2 * (i 1).val + 1), 0] :=
  (k0_off1_eq i ⟨1, by decide⟩).trans (congrArg (fun n => ![n, 0]) (by show 256 * (i 1).val + 128 * 1 = 128 * (2 * (i 1).val + 1); omega))
theorem offD0 : k0_off1 i 0#32 = ![128 * (2 * (i 1).val), 0] :=
  (k0_off1_eq i ⟨0, by decide⟩).trans (congrArg (fun n => ![n, 0]) (by show 256 * (i 1).val + 128 * 0 = 128 * (2 * (i 1).val); omega))

theorem zeroS_eq : (zeroS : Ideal .f32) = (0 : EReal) := Ideal.ofBits_zero_f32

set_option maxHeartbeats 1000000 in
include hx2 hx6 hx5 hf3 hf4 hfK hfV hds in
/-- The diagonal's two tiles leave a good state. -/
theorem start_good : Good c (i 1).val qb dob kc vc K0r V0r (2 * (i 1).val) (start c i M2 M3 M4 M5 M6 f2 f3 f4 f5 f6 fK fV) := by
  have hi := row_lt i
  have k1 : 2 * (i 1).val + 1 < 128 := by omega
  have k0 : 2 * (i 1).val < 128 := by omega
  have hq := q2_real hx2
  have hdo := do2_real hx6
  have hd : ∀ ρ, ds c M5 M6 f5 f6 (ix2 ρ 0) = ((∑ e, lanes dob ρ e * ob (lr ρ) e : ℝ) : EReal) := ds_real hx6 hx5
  have m1 : ∀ ρ l, M1 ρ l ↔ (key (2 * (i 1).val + 1) k1 l).val < rowI (i 1).val ρ := fun ρ l => by
    show 128 + l.val < ρ.val % 256 ↔ 128 * (2 * (i 1).val + 1) + l.val < 256 * (i 1).val + ρ.val % 256; omega
  have m0 : ∀ ρ l, M0 ρ l ↔ (key (2 * (i 1).val) k0 l).val < rowI (i 1).val ρ := fun ρ l => by
    show l.val < ρ.val % 256 ↔ 128 * (2 * (i 1).val) + l.val < 256 * (i 1).val + ρ.val % 256; omega
  have out : ∀ ρ (s : Fin 16384), 128 * (2 * (i 1).val + 1 + 1) ≤ s.val → rowI (i 1).val ρ ≤ s.val := fun ρ s h => by
    show 256 * (i 1).val + ρ.val % 256 ≤ s.val; omega
  have tca : ∀ ρ, zr ρ = tail (rowLf (i 1).val qb kc ρ) (2 * (i 1).val + 1 + 1) / Real.log 2 := fun ρ => by
    rw [tail_eq_zero _ _ (fun s h => lf_out _ _ s (out ρ s h)), zero_div]
  have tga : ∀ ρ, zr ρ = tail (rowG (i 1).val qb dob kc vc ρ) (2 * (i 1).val + 1 + 1) := fun ρ => by
    rw [tail_eq_zero _ _ (fun s h => g_out _ _ _ s (out ρ s h))]
  have hk1 : ∀ l e, kD1 c i M3 f3 (ix2 l e) = (kt kc _ k1 l e : EReal) := fun l e => (readAt_tile M3.view f3 _ _ k1 (offD1 i) l e).trans (hf3 _ _)
  have hv1 : ∀ l e, vD1 c i M4 f4 (ix2 l e) = (kt vc _ k1 l e : EReal) := fun l e => (readAt_tile M4.view f4 _ _ k1 (offD1 i) l e).trans (hf4 _ _)
  have hk0 : ∀ l e, kD0 c i M3 f3 (ix2 l e) = (kt kc _ k0 l e : EReal) := fun l e => (readAt_tile M3.view f3 _ _ k0 (offD0 i) l e).trans (hf3 _ _)
  have hv0 : ∀ l e, vD0 c i M4 f4 (ix2 l e) = (kt vc _ k0 l e : EReal) := fun l e => (readAt_tile M4.view f4 _ _ k0 (offD0 i) l e).trans (hf4 _ _)
  have eL1 := rls_eq qb kc _ k1 _ m1
  have eW1 := rw_eq qb kc _ k1 _ m1 tca
  have eG1 := rg_eq qb dob kc vc _ k1 _ m1 tca
  have eD1 := rdz_eq qb dob kc vc _ k1 _ m1 tca tga hds
  have hca : ∀ ρ, ca1 (rowW i) (q2 c M2 f2) (kD1 c i M3 f3) (ix2 ρ 0) = ((tail (rowLf (i 1).val qb kc ρ) (2 * (i 1).val + 1) / Real.log 2 : ℝ) : EReal) := fun ρ => by
    refine (ca1_real (i 1) hq hk1 ρ).trans (congrArg _ ?_)
    rw [tail_succ _ _ k1, add_div, ← tca ρ, Finset.sum_div]
    exact congrArg _ (Finset.sum_congr rfl fun l _ => eL1 ρ l)
  have hga : ∀ ρ, ga1 (rowW i) (q2 c M2 f2) (do2 c M6 f6) (kD1 c i M3 f3) (vD1 c i M4 f4) (ix2 ρ 0) = ((tail (rowG (i 1).val qb dob kc vc ρ) (2 * (i 1).val + 1) : ℝ) : EReal) := fun ρ => by
    refine (ga1_real (i 1) hq hdo hk1 hv1 ρ).trans (congrArg _ ?_)
    rw [tail_succ _ _ k1, ← tga ρ]
    exact congrArg _ (Finset.sum_congr rfl fun l _ => eG1 ρ l)
  have hdq : ∀ ρ e, dq1 (rowW i) (q2 c M2 f2) (do2 c M6 f6) (ds c M5 M6 f5 f6) (kD1 c i M3 f3) (vD1 c i M4 f4) (ix2 ρ e)
      = ((tail (fun j => rowDz (i 1).val qb dob kc vc ρ j * kc j e) (2 * (i 1).val + 1) : ℝ) : EReal) := fun ρ e => by
    refine (dq1_real (i 1) hq hdo hk1 hv1 hd ρ e).trans (congrArg _ ?_)
    rw [tail_succ _ _ k1, tail_eq_zero _ _ (fun s h => by rw [rowDz, dz_out _ _ _ s (out ρ s h), zero_mul])]
    exact congrArg _ (Finset.sum_congr rfl fun l _ => by rw [eD1 ρ l])
  have eL0 := rls_eq qb kc _ k0 _ m0
  have eW0 := rw_eq qb kc _ k0 _ m0 (fun _ => rfl)
  have eG0 := rg_eq qb dob kc vc _ k0 _ m0 (fun _ => rfl)
  have eD0 := rdz_eq qb dob kc vc _ k0 _ m0 (fun _ => rfl) (fun _ => rfl) hds
  refine ⟨rfl, fun ρ => ?_, fun ρ => ?_, fun ρ e => ?_, ?_, ?_⟩
  · refine Eq.trans ?_ ((ca0_real (i 1) hq hk0 hca ρ).trans (congrArg _ ?_))
    · rw [← zeroS_eq]; rfl
    · rw [tail_succ _ _ k0, add_div, Finset.sum_div]
      exact congrArg _ (Finset.sum_congr rfl fun l _ => eL0 ρ l)
  · refine Eq.trans ?_ ((ga0_real (i 1) hq hdo hk0 hv0 hca hga ρ).trans (congrArg _ ?_))
    · rw [← zeroS_eq]; rfl
    · rw [tail_succ _ _ k0]
      exact congrArg _ (Finset.sum_congr rfl fun l _ => eG0 ρ l)
  · refine Eq.trans ?_ ((dq0_real (i 1) hq hdo hk0 hv0 hd hca hga hdq ρ e).trans (congrArg _ ?_))
    · rw [← zeroS_eq]; rfl
    · rw [tail_succ _ _ k0]
      exact congrArg _ (Finset.sum_congr rfl fun l _ => by rw [eD0 ρ l])
  · refine acc_tile _ _ k0 (offD0 i) _ _ K0r (fun j e => ∑ ρ, rowDz (i 1).val qb dob kc vc ρ j * lanes qb ρ e) ?_ (fun l e => ?_)
    · refine acc_tile _ _ k1 (offD1 i) _ [] K0r (fun j e => ∑ ρ, rowDz (i 1).val qb dob kc vc ρ j * lanes qb ρ e) (fun j e => ?_) (fun l e => ?_)
      · refine (hfK j e).trans (congrArg _ ?_)
        split
        · rename_i h
          rw [Finset.sum_eq_zero (fun ρ _ => by rw [rowDz, dz_out _ _ _ j (out ρ j h), zero_mul]), add_zero]
        · rw [add_zero]
      · refine (K1_real (i 1) hq hdo hk1 hv1 hd (Kr := fun l e => K0r (key _ k1 l) e)
          (fun l e => (readAt_tile MK.view _ _ _ k1 (offD1 i) l e).trans (hfK _ _)) l e).trans (congrArg _ ?_)
        exact congrArg _ (Finset.sum_congr rfl fun ρ _ => by rw [eD1 ρ l])
    · refine Eq.trans ?_ ((K0_real (i 1) hq hdo hk0 hv0 hd hca hga (Kr := fun l e => K0r (key _ k0 l) e)
          (Kb := MK.view.readAt (Elt Ideal) (rD0 i).toLoadRect (startK c i fK))
          (fun l e => (readAt_tile MK.view _ _ _ k0 (offD0 i) l e).trans (hfK _ _)) l e).trans (congrArg _ ?_))
      · rw [← zeroS_eq]; rfl
      · exact congrArg _ (Finset.sum_congr rfl fun ρ _ => by rw [eD0 ρ l])
  · refine acc_tile _ _ k0 (offD0 i) _ _ V0r (fun j e => ∑ ρ, rowWt (i 1).val qb kc ρ j * lanes dob ρ e) ?_ (fun l e => ?_)
    · refine acc_tile _ _ k1 (offD1 i) _ [] V0r (fun j e => ∑ ρ, rowWt (i 1).val qb kc ρ j * lanes dob ρ e) (fun j e => ?_) (fun l e => ?_)
      · refine (hfV j e).trans (congrArg _ ?_)
        split
        · rename_i h
          rw [Finset.sum_eq_zero (fun ρ _ => by rw [rowWt, w_out _ _ j (out ρ j h), zero_mul]), add_zero]
        · rw [add_zero]
      · refine (V1_real (i 1) hq hdo hk1 (Vr := fun l e => V0r (key _ k1 l) e)
          (fun l e => (readAt_tile MV.view _ _ _ k1 (offD1 i) l e).trans (hfV _ _)) l e).trans (congrArg _ ?_)
        exact congrArg _ (Finset.sum_congr rfl fun ρ _ => by rw [eW1 ρ l])
    · refine Eq.trans ?_ ((V0_real (i 1) hq hdo hk0 hca (Vr := fun l e => V0r (key _ k0 l) e)
          (Vb := MV.view.readAt (Elt Ideal) (rD0 i).toLoadRect (startV c i fV))
          (fun l e => (readAt_tile MV.view _ _ _ k0 (offD0 i) l e).trans (hfV _ _)) l e).trans (congrArg _ ?_))
      · rw [← zeroS_eq]; rfl
      · exact congrArg _ (Finset.sum_congr rfl fun ρ _ => by rw [eW0 ρ l])

include hx2 hx6 hx5 hf3 hf4 hfK hfV hds in
/-- The point leaves a state with every tile done. -/
theorem fin_good : Good c (i 1).val qb dob kc vc K0r V0r 0 (fin c i M2 M3 M4 M5 M6 f2 f3 f4 f5 f6 fK fV) :=
  loop_good (q2_real hx2) (do2_real hx6) (ds_real hx6 hx5) hds M3 M4 f3 f4 hf3 hf4 _ (by have := row_lt i; omega) le_rfl _
    (start_good c i M2 M3 M4 M5 M6 f2 f3 f4 f5 f6 fK fV hx2 hx6 hx5 hf3 hf4 hfK hfV hds)

end Whole

end Cert.SbIdeal.Sb
end
-- ==== Proof.Sb.Heads.lean ====
/-
  The attention's gradients over whole arrays of real numbers: eight heads of 64 columns each, and how the kernel's
  doubled blocks (two heads of a pair, one above the other) cut them.
-/
module

public import proofs.«01_k».proof.Proof.Sb.Point

@[expose] public section

set_option maxRecDepth 16384

noncomputable section

namespace Cert.SbIdeal.Sb

open Cert.SbIdeal Cert.SbIdeal.Gen
open Idealize.ShloMosaic

/-- Column `e` of head `h`, and the head of a column. -/
def hc (h : Fin 8) (e : Fin 64) : Fin 512 := ⟨64 * h.val + e.val, by omega⟩
def hd (x : Fin 512) : Fin 8 := ⟨x.val / 64, by omega⟩
/-- Column `e` of head pair `a`, and row `r` of row block `b`. -/
def pc (a : Fin 4) (e : Fin 128) : Fin 512 := ⟨128 * a.val + e.val, by omega⟩
def pr (b : Fin 64) (r : Fin 256) : Fin 16384 := ⟨256 * b.val + r.val, by omega⟩

section Arrays

variable (Q K W D : Fin 16384 → Fin 512 → ℝ)

/-- The scores of a query row under head `h`, the products of its cotangent with the values, -/
def zz (h : Fin 8) (i j : Fin 16384) : ℝ := (∑ e : Fin 64, Q i (hc h e) * K j (hc h e)) * (1 / 8)
def pp (h : Fin 8) (i j : Fin 16384) : ℝ := ∑ e : Fin 64, D i (hc h e) * W j (hc h e)
/-- its attention weights and its scores' gradients, -/
def aw (h : Fin 8) (i j : Fin 16384) : ℝ := w i.val (zz Q K h i) j
def az (h : Fin 8) (i j : Fin 16384) : ℝ := dz i.val (zz Q K h i) (pp W D h i) j
/-- the attention's output and the gradients of its queries, keys and values. -/
def OO (i : Fin 16384) (x : Fin 512) : ℝ := ∑ j, aw Q K (hd x) i j * W j x
def DQ (i : Fin 16384) (x : Fin 512) : ℝ := ∑ j, az Q K W D (hd x) i j * K j x
def DK (j : Fin 16384) (x : Fin 512) : ℝ := ∑ i, az Q K W D (hd x) i j * Q i x
def DV (j : Fin 16384) (x : Fin 512) : ℝ := ∑ i, aw Q K (hd x) i j * D i x

/-- A block of an array, and a head pair's columns of it. -/
abbrev blockOf (X : Fin 16384 → Fin 512 → ℝ) (a : Fin 4) (b : Fin 64) (r : Fin 256) (e : Fin 128) : ℝ := X (pr b r) (pc a e)
abbrev colOf (X : Fin 16384 → Fin 512 → ℝ) (a : Fin 4) (j : Fin 16384) (e : Fin 128) : ℝ := X j (pc a e)

/-- The head and the row that row `ρ` of a doubled block stands for. -/
def rh (a : Fin 4) (ρ : Fin 512) : Fin 8 := ⟨2 * a.val + ρ.val / 256, by omega⟩
def rr (b : Fin 64) (ρ : Fin 512) : Fin 16384 := pr b ⟨ρ.val % 256, by omega⟩

end Arrays

/-- A sum over the lanes of a doubled row is one over its head's columns. -/
theorem sum_lanes (x : Fin 256 → Fin 128 → ℝ) (ρ : Fin 512) (f : Fin 128 → ℝ) :
    ∑ e, lanes x ρ e * f e = ∑ e : Fin 64, x ⟨ρ.val % 256, by omega⟩ ⟨64 * (ρ.val / 256) + e.val, by omega⟩ * f ⟨64 * (ρ.val / 256) + e.val, by omega⟩ := by
  rw [Fin.sum_univ_tiles 2 64 rfl, Finset.sum_eq_single (⟨ρ.val / 256, by omega⟩ : Fin 2)]
  · refine Finset.sum_congr rfl fun e _ => ?_
    have h : (⟨ρ.val / 256 * 64 + e.val, by omega⟩ : Fin 128) = ⟨64 * (ρ.val / 256) + e.val, by omega⟩ := Fin.ext (by show ρ.val / 256 * 64 + e.val = 64 * (ρ.val / 256) + e.val; omega)
    show lanes x ρ ⟨ρ.val / 256 * 64 + e.val, by omega⟩ * f ⟨ρ.val / 256 * 64 + e.val, by omega⟩ = _
    rw [h]
    exact congrArg (· * _) (if_pos (by show (64 * (ρ.val / 256) + e.val) / 64 = ρ.val / 256; omega))
  · intro j _ hj
    refine Finset.sum_eq_zero fun e _ => ?_
    have hne : ¬ (j.val * 64 + e.val) / 64 = ρ.val / 256 := fun h => hj (Fin.ext (by show j.val = ρ.val / 256; omega))
    show lanes x ρ ⟨j.val * 64 + e.val, by omega⟩ * _ = 0
    rw [lanes, if_neg hne, zero_mul]
  · exact fun h => absurd (Finset.mem_univ _) h

/-- A sum over the doubled rows, of a column, is one over the rows of the column's head. -/
theorem sum_rows (x : Fin 256 → Fin 128 → ℝ) (f : Fin 512 → ℝ) (e : Fin 128) :
    ∑ ρ, f ρ * lanes x ρ e = ∑ r : Fin 256, f ⟨256 * (e.val / 64) + r.val, by omega⟩ * x r e := by
  rw [Fin.sum_univ_tiles 2 256 rfl, Finset.sum_eq_single (⟨e.val / 64, by omega⟩ : Fin 2)]
  · refine Finset.sum_congr rfl fun r _ => ?_
    have h : (⟨e.val / 64 * 256 + r.val, by omega⟩ : Fin 512) = ⟨256 * (e.val / 64) + r.val, by omega⟩ := Fin.ext (by show e.val / 64 * 256 + r.val = 256 * (e.val / 64) + r.val; omega)
    show f ⟨e.val / 64 * 256 + r.val, by omega⟩ * lanes x ⟨e.val / 64 * 256 + r.val, by omega⟩ e = _
    rw [h]
    refine congrArg (_ * ·) ((if_pos (by show e.val / 64 = (256 * (e.val / 64) + r.val) / 256; omega)).trans ?_)
    exact congrArg (x · e) (Fin.ext (by show (256 * (e.val / 64) + r.val) % 256 = r.val; omega))
  · intro j _ hj
    refine Finset.sum_eq_zero fun r _ => ?_
    have hne : ¬ e.val / 64 = (j.val * 256 + r.val) / 256 := fun h => hj (Fin.ext (by show j.val = e.val / 64; omega))
    show _ * lanes x ⟨j.val * 256 + r.val, by omega⟩ e = 0
    rw [lanes, if_neg hne, mul_zero]
  · exact fun h => absurd (Finset.mem_univ _) h

/-- A sum over the blocks and their rows is one over all rows. -/
theorem sum_pr (f : Fin 16384 → ℝ) : ∑ b : Fin 64, ∑ r : Fin 256, f (pr b r) = ∑ i, f i := by
  rw [Fin.sum_univ_tiles 64 256 rfl]
  exact Finset.sum_congr rfl fun b _ => Finset.sum_congr rfl fun r _ =>
    congrArg f (Fin.ext (by show 256 * b.val + r.val = b.val * 256 + r.val; omega))

section Blocks

variable (Q K W D : Fin 16384 → Fin 512 → ℝ) (a : Fin 4) (b : Fin 64)

theorem rowI_eq (ρ : Fin 512) : rowI b.val ρ = (rr b ρ).val := rfl

theorem rowZ_eq (ρ : Fin 512) : rowZ (blockOf Q a b) (colOf K a) ρ = zz Q K (rh a ρ) (rr b ρ) := by
  funext j
  unfold rowZ zz
  rw [sum_lanes]
  refine congrArg (· * (1 / 8 : ℝ)) (Finset.sum_congr rfl fun e _ => ?_)
  have h : pc a ⟨64 * (ρ.val / 256) + e.val, by omega⟩ = hc (rh a ρ) e :=
    Fin.ext (by show 128 * a.val + (64 * (ρ.val / 256) + e.val) = 64 * (2 * a.val + ρ.val / 256) + e.val; omega)
  show Q (pr b _) (pc a _) * K j (pc a _) = _
  rw [h]; rfl

theorem rowP_eq (ρ : Fin 512) : rowP (blockOf D a b) (colOf W a) ρ = pp W D (rh a ρ) (rr b ρ) := by
  funext j
  unfold rowP pp
  rw [sum_lanes]
  refine Finset.sum_congr rfl fun e _ => ?_
  have h : pc a ⟨64 * (ρ.val / 256) + e.val, by omega⟩ = hc (rh a ρ) e :=
    Fin.ext (by show 128 * a.val + (64 * (ρ.val / 256) + e.val) = 64 * (2 * a.val + ρ.val / 256) + e.val; omega)
  show D (pr b _) (pc a _) * W j (pc a _) = _
  rw [h]; rfl

theorem rowWt_eq (ρ : Fin 512) : rowWt b.val (blockOf Q a b) (colOf K a) ρ = aw Q K (rh a ρ) (rr b ρ) := by
  unfold aw rowWt
  rw [rowZ_eq, rowI_eq]

theorem rowDz_eq (ρ : Fin 512) :
    rowDz b.val (blockOf Q a b) (blockOf D a b) (colOf K a) (colOf W a) ρ = az Q K W D (rh a ρ) (rr b ρ) := by
  unfold az rowDz
  rw [rowZ_eq, rowP_eq, rowI_eq]

/-- The row's sum of cotangent times output is the sum of its weights' gradients. -/
theorem rowG_sum (ρ : Fin 512) :
    ∑ e, lanes (blockOf D a b) ρ e * blockOf (OO Q K W) a b ⟨ρ.val % 256, by omega⟩ e
      = ∑ j, rowG b.val (blockOf Q a b) (blockOf D a b) (colOf K a) (colOf W a) ρ j := by
  have hG : ∀ j, rowG b.val (blockOf Q a b) (blockOf D a b) (colOf K a) (colOf W a) ρ j = pp W D (rh a ρ) (rr b ρ) j * aw Q K (rh a ρ) (rr b ρ) j := fun j => by
    rw [← rowWt_eq, ← rowP_eq]; exact g_eq _ _ _ j
  rw [sum_lanes]
  simp only [hG]
  unfold pp
  simp only [Finset.sum_mul]
  rw [Finset.sum_comm]
  refine Finset.sum_congr rfl fun e _ => ?_
  have h : pc a ⟨64 * (ρ.val / 256) + e.val, by omega⟩ = hc (rh a ρ) e :=
    Fin.ext (by show 128 * a.val + (64 * (ρ.val / 256) + e.val) = 64 * (2 * a.val + ρ.val / 256) + e.val; omega)
  have h2 : hd (hc (rh a ρ) e) = rh a ρ := Fin.ext (by show (64 * (rh a ρ).val + e.val) / 64 = (rh a ρ).val; omega)
  show D (rr b ρ) (pc a _) * OO Q K W (rr b ρ) (pc a _) = _
  rw [h, OO, h2, Finset.mul_sum]
  exact Finset.sum_congr rfl fun j _ => by ring

theorem hd_pc (e : Fin 128) (r : Fin 256) : rh a ⟨256 * (e.val / 64) + r.val, by omega⟩ = hd (pc a e) :=
  Fin.ext (by show 2 * a.val + (256 * (e.val / 64) + r.val) / 256 = (128 * a.val + e.val) / 64; omega)
theorem rr_eq (e : Fin 128) (r : Fin 256) : rr b ⟨256 * (e.val / 64) + r.val, by omega⟩ = pr b r :=
  Fin.ext (by show 256 * b.val + (256 * (e.val / 64) + r.val) % 256 = 256 * b.val + r.val; omega)

/-- A block of the queries' gradient, -/
theorem dq_block (r : Fin 256) (e : Fin 128) :
    tail (fun j => rowDz b.val (blockOf Q a b) (blockOf D a b) (colOf K a) (colOf W a) ⟨256 * (e.val / 64) + r.val, by omega⟩ j * colOf K a j e) 0
      = DQ Q K W D (pr b r) (pc a e) := by
  rw [tail_zero, rowDz_eq, hd_pc, rr_eq]; rfl

/-- a block's terms of the keys' gradient, -/
theorem dk_block (j : Fin 16384) (e : Fin 128) :
    ∑ ρ, rowDz b.val (blockOf Q a b) (blockOf D a b) (colOf K a) (colOf W a) ρ j * lanes (blockOf Q a b) ρ e
      = ∑ r, az Q K W D (hd (pc a e)) (pr b r) j * Q (pr b r) (pc a e) := by
  rw [sum_rows]
  exact Finset.sum_congr rfl fun r _ => by rw [rowDz_eq, hd_pc, rr_eq]

/-- and of the values'. -/
theorem dv_block (j : Fin 16384) (e : Fin 128) :
    ∑ ρ, rowWt b.val (blockOf Q a b) (colOf K a) ρ j * lanes (blockOf D a b) ρ e
      = ∑ r, aw Q K (hd (pc a e)) (pr b r) j * D (pr b r) (pc a e) := by
  rw [sum_rows]
  exact Finset.sum_congr rfl fun r _ => by rw [rowWt_eq, hd_pc, rr_eq]

end Blocks

end Cert.SbIdeal.Sb
end
-- ==== Proof.Sb.Grid.lean ====
/-
  The grid of the stick-breaking attention's backward kernel at the ideal instance: what its windows hold, the two
  accumulators after every point, and the three gradients' arrays at the end.
-/
module

public import proofs.«01_k».proof.Proof.Sb.Heads
public import proofs.«01_k».proof.Proof.Sb.Run
public import Idealize.ShloMosaic.Lib.Pipeline.ValueKit

@[expose] public section

set_option maxRecDepth 16384

noncomputable section

namespace Cert.SbIdeal.Sb

open Cert.SbIdeal Cert.SbIdeal.Gen

open Idealize.ShloMosaic
open Idealize.ShloMosaic.TcCoe Idealize.ShloMosaic.Tactic
open Idealize.ShloMosaic.Pipeline (Dat)

theorem cfgN : (cfg0 (F := Ideal)).N = 256 := by decide +kernel

/-- The head pair and the row block of a point. -/
def pa (t : Fin (cfg0 (F := Ideal)).N) : Fin 4 := ⟨t.val / 64, by have := t.isLt; have := cfgN; omega⟩
def pb (t : Fin (cfg0 (F := Ideal)).N) : Fin 64 := ⟨t.val % 64, by omega⟩

theorem coords_eq : ∀ t : Fin (cfg0 (F := Ideal)).N, ((grid0.coords t) 0).val = t.val / 64 ∧ ((grid0.coords t) 1).val = t.val % 64 :=
  (by decide +kernel : ∀ t : Fin grid0.N, _)

theorem idx : ∀ t : Fin (cfg0 (F := Ideal)).N, win0_0.index t = ![t.val % 64, t.val / 64] ∧ win0_1.index t = ![0, 4 + t.val / 64]
    ∧ win0_2.index t = ![0, 8 + t.val / 64] ∧ win0_3.index t = ![t.val % 64, t.val / 64] ∧ win0_4.index t = ![t.val % 64, t.val / 64]
    ∧ win0_5.index t = ![t.val % 64, t.val / 64] :=
  (by decide +kernel : ∀ t : Fin grid0.N, _)

theorem first_iff (b : ℕ) (hb : b < 64) (i : grid0.Coords) (h : (i 1).val = b) : isFirst i = 1#1 ↔ b = 0 := by
  have H : ∀ b : Fin 64, (Scalar.cmpi .ne (Scalar.extui (Scalar.cmpi .eq (BitVec.ofNat 32 b.val) 0#32) : BitVec 32) 0#32 = 1#1 ↔ b.val = 0) := by decide +kernel
  unfold isFirst rowW
  rw [h]; exact H ⟨b, hb⟩
theorem last_iff (b : ℕ) (hb : b < 64) (i : grid0.Coords) (h : (i 1).val = b) : k0_cond2 i = 1#1 ↔ b = 63 := by
  have H : ∀ b : Fin 64, (Scalar.cmpi .ne (Scalar.extui (Scalar.cmpi .eq (BitVec.ofNat 32 b.val) 63#32) : BitVec 32) 0#32 = 1#1 ↔ b.val = 63) := by decide +kernel
  unfold k0_cond2
  rw [h]; exact H ⟨b, hb⟩

variable (m : (ℓ : Loc nD τ sig) → Buf (Elt Ideal) ℓ) (c : Dev nD) (t : Fin (cfg0 (F := Ideal)).N)

theorem rd0 (r : Fin 256) (e : Fin 128) : iblk m c 0 t (ix2 r e) = V m c main_arg0 (ix2 (pr (pb t) r) ⟨128 * (pa t).val + e.val, by omega⟩) := by
  blk_ext [iblk, idx t, pr, pa, pb]
theorem rd1 (j : Fin 16384) (e : Fin 128) : iblk m c 1 t (ix2 j e) = V m c main_arg0 (ix2 j ⟨512 + 128 * (pa t).val + e.val, by omega⟩) := by
  blk_ext [iblk, idx t, pa]
theorem rd2 (j : Fin 16384) (e : Fin 128) : iblk m c 2 t (ix2 j e) = V m c main_arg0 (ix2 j ⟨1024 + 128 * (pa t).val + e.val, by omega⟩) := by
  blk_ext [iblk, idx t, pa]
theorem read3 (f : (win0_3.blk t).view.ty.Contents (Elt Ideal)) (r : Fin 256) (e : Fin 128) :
    (win0_3.blk t).view.read (Elt Ideal) f (ix2 r e) = f (ix2 (pr (pb t) r) (pc (pa t) e)) := by
  blk_ext [idx t, pr, pa, pb, pc]
theorem rd3 (r : Fin 256) (e : Fin 128) : iblk m c 3 t (ix2 r e) = V m c main_v32 (ix2 (pr (pb t) r) (pc (pa t) e)) :=
  read3 t (V m c main_v32) r e
theorem rd4 (r : Fin 256) (e : Fin 128) : iblk m c 4 t (ix2 r e) = V m c main_arg1 (ix2 (pr (pb t) r) (pc (pa t) e)) := by
  blk_ext [iblk, idx t, pr, pa, pb, pc]
theorem emb5 (y : S256x128.Idx) : (win0_5.blk t).view.emb y = ix2 (pr (pb t) (y 0)) (pc (pa t) (y 1)) := by
  blk_ext [idx t, pr, pa, pb, pc]

/-- A whole block read back. -/
theorem readAt_block {e : EltTy} (v : View sig .tc .vmem S256x128 e) (f : v.ty.Contents (Elt Ideal)) :
    v.readAt (Elt Ideal) (rB).toLoadRect f = v.read (Elt Ideal) f :=
  View.readAt_full v f inb_S256x128_S256x128_0_0

/-! ## What the kernel is given -/

/-- The kernel's arrays hold real numbers: queries, keys, values and cotangents, and the forward pass' output. -/
structure Given (Q K W D : Fin 16384 → Fin 512 → ℝ) : Prop where
  q : ∀ i (x : Fin 512), V m c main_arg0 (ix2 i ⟨x.val, by omega⟩) = (Q i x : EReal)
  k : ∀ i (x : Fin 512), V m c main_arg0 (ix2 i ⟨512 + x.val, by omega⟩) = (K i x : EReal)
  v : ∀ i (x : Fin 512), V m c main_arg0 (ix2 i ⟨1024 + x.val, by omega⟩) = (W i x : EReal)
  d : ∀ i (x : Fin 512), V m c main_arg1 (ix2 i x) = (D i x : EReal)
  o : ∀ i (x : Fin 512), V m c main_v32 (ix2 i x) = (OO Q K W i x : EReal)

variable {m c} {Q K W D : Fin 16384 → Fin 512 → ℝ} (G : Given m c Q K W D)

include G in
/-- The point's state, from accumulators that hold `K0r` and `V0r` once cleared where they are to be. -/
theorem finAt_good (fK : Bf (F := Ideal) c MK) (fV : Bf (F := Ideal) c MV) {K0r V0r : Fin 16384 → Fin 128 → ℝ}
    (hfK : ∀ j e, MK.view.read (Elt Ideal) (startK c (grid0.coords t) fK) (ix2 j e) = (K0r j e : EReal))
    (hfV : ∀ j e, MV.view.read (Elt Ideal) (startV c (grid0.coords t) fV) (ix2 j e) = (V0r j e : EReal)) :
    Good c (pb t).val (blockOf Q (pa t) (pb t)) (blockOf D (pa t) (pb t)) (colOf K (pa t)) (colOf W (pa t)) K0r V0r 0 (finAt m c t fK fV) := by
  have hb : ((grid0.coords t) 1).val = (pb t).val := (coords_eq t).2
  unfold finAt
  have H := fin_good c (grid0.coords t) (ms0_0 t) (ms0_1 t) (ms0_2 t) (ms0_3 t) (ms0_4 t)
    ((hs0_0 t).unread (iblk m c 0 t)) ((hs0_1 t).unread (iblk m c 1 t)) ((hs0_2 t).unread (iblk m c 2 t))
    ((hs0_3 t).unread (iblk m c 3 t)) ((hs0_4 t).unread (iblk m c 4 t)) fK fV
    (qb := blockOf Q (pa t) (pb t)) (dob := blockOf D (pa t) (pb t)) (ob := blockOf (OO Q K W) (pa t) (pb t)) (kc := colOf K (pa t)) (vc := colOf W (pa t))
    (fun r e => by rw [readAt_block, (hs0_0 t).read_unread, rd0]; exact G.q _ (pc (pa t) e))
    (fun r e => by rw [readAt_block, (hs0_4 t).read_unread, rd4]; exact G.d _ (pc (pa t) e))
    (fun r e => by rw [readAt_block, (hs0_3 t).read_unread, rd3]; exact G.o _ (pc (pa t) e))
    (fun j e => by
      rw [(hs0_1 t).read_unread, rd1]
      exact (congrArg (fun x => V m c main_arg0 (ix2 j x)) (Fin.ext (by show 512 + 128 * (pa t).val + e.val = 512 + (128 * (pa t).val + e.val); omega))).trans (G.k j (pc (pa t) e)))
    (fun j e => by
      rw [(hs0_2 t).read_unread, rd2]
      exact (congrArg (fun x => V m c main_arg0 (ix2 j x)) (Fin.ext (by show 1024 + 128 * (pa t).val + e.val = 1024 + (128 * (pa t).val + e.val); omega))).trans (G.v j (pc (pa t) e)))
    hfK hfV (fun ρ => (rowG_sum Q K W D (pa t) (pb t) ρ).trans (by rw [hb]))
  rw [hb] at H
  exact H

/-! ## The accumulators -/

/-- What block `b` of head pair `a` adds to row `j` and column `e` of the two accumulators. -/
def addK (Q K W D : Fin 16384 → Fin 512 → ℝ) (a : Fin 4) (j : Fin 16384) (e : Fin 128) (b : ℕ) : ℝ :=
  if h : b < 64 then ∑ r, az Q K W D (hd (pc a e)) (pr ⟨b, h⟩ r) j * Q (pr ⟨b, h⟩ r) (pc a e) else 0
def addV (Q K D : Fin 16384 → Fin 512 → ℝ) (a : Fin 4) (j : Fin 16384) (e : Fin 128) (b : ℕ) : ℝ :=
  if h : b < 64 then ∑ r, aw Q K (hd (pc a e)) (pr ⟨b, h⟩ r) j * D (pr ⟨b, h⟩ r) (pc a e) else 0

theorem sum_addK (a : Fin 4) (j : Fin 16384) (e : Fin 128) : ∑ b ∈ Finset.range 64, addK Q K W D a j e b = DK Q K W D j (pc a e) := by
  rw [Finset.sum_range, DK, ← sum_pr]
  exact Finset.sum_congr rfl fun b _ => dif_pos b.isLt
theorem sum_addV (a : Fin 4) (j : Fin 16384) (e : Fin 128) : ∑ b ∈ Finset.range 64, addV Q K D a j e b = DV Q K D j (pc a e) := by
  rw [Finset.sum_range, DV, ← sum_pr]
  exact Finset.sum_congr rfl fun b _ => dif_pos b.isLt

/-- The accumulators cleared. -/
theorem read_zeroK (v : View sig .tc .vmem S16384x128 .f32) (f : v.ty.Contents (Elt Ideal)) (j : Fin 16384) (e : Fin 128) :
    v.read (Elt Ideal) (v.writes (Elt Ideal) f [⟨rA, k0_pay6 (F := Ideal)⟩]) (ix2 j e) = ((0 : ℝ) : EReal) := by
  refine (congrFun (View.read_writes_full v f inb_S16384x128_S16384x128_0_0 (k0_pay6 (F := Ideal)) []) (ix2 j e)).trans ?_
  pointwise [k0_pay6]
  exact EReal.coe_zero.symm
theorem read_zeroV (v : View sig .tc .vmem S16384x128 .f32) (f : v.ty.Contents (Elt Ideal)) (j : Fin 16384) (e : Fin 128) :
    v.read (Elt Ideal) (v.writes (Elt Ideal) f [⟨rA, k0_pay7 (F := Ideal)⟩]) (ix2 j e) = ((0 : ℝ) : EReal) := by
  refine (congrFun (View.read_writes_full v f inb_S16384x128_S16384x128_0_0 (k0_pay7 (F := Ideal)) []) (ix2 j e)).trans ?_
  pointwise [k0_pay7]
  exact EReal.coe_zero.symm

/-- A head pair's columns put over a whole array. -/
theorem read_cols (v : View sig .tc .hbm S16384x512 .f32) (f : v.ty.Contents (Elt Ideal)) {off : Fin 2 → ℕ}
    (inb : ∀ a : Fin 2, off a + S16384x128.size a ≤ S16384x512.size a) (a : Fin 4) (hoff : off = ![0, 128 * a.val])
    (X : FVec Ideal S16384x128 .f32) (j : Fin 16384) (a' : Fin 4) (e : Fin 128) :
    v.read (Elt Ideal) (v.writes (Elt Ideal) f [⟨Rect.unit (s := S16384x512) off S16384x128.size inb, X⟩]) (ix2 j (pc a' e))
      = if a' = a then X (ix2 j e) else v.read (Elt Ideal) f (ix2 j (pc a' e)) := by
  by_cases h : a' = a
  · subst h
    rw [if_pos rfl]
    refine View.read_writes_cons_unit_of_mem v f inb X [] _ (ix2 j e) hoff (fun x => ?_)
    match x with
    | ⟨0, _⟩ => show j.val = 0 + j.val; omega
    | ⟨1, _⟩ => show 128 * a'.val + e.val = 128 * a'.val + e.val; rfl
  · rw [if_neg h]
    refine View.read_writes_cons_unit_of_not_mem v f inb X [] _ hoff ⟨1, by decide⟩ ?_
    have hne : a'.val ≠ a.val := fun h' => h (Fin.ext h')
    show 128 * a'.val + e.val < 128 * a.val ∨ 128 * a.val + 128 ≤ 128 * a'.val + e.val
    omega

/-- The state before point `n`: the accumulators hold the head pair's blocks so far, the results the pairs done. -/
structure AccGood (Q K W D : Fin 16384 → Fin 512 → ℝ) (n : ℕ) (s : Acc Ideal c) : Prop where
  ka : n % 64 ≠ 0 → ∀ (a : Fin 4), a.val = n / 64 → ∀ j e, MK.view.read (Elt Ideal) s.K (ix2 j e)
    = ((∑ b ∈ Finset.range (n % 64), addK Q K W D a j e b : ℝ) : EReal)
  va : n % 64 ≠ 0 → ∀ (a : Fin 4), a.val = n / 64 → ∀ j e, MV.view.read (Elt Ideal) s.V (ix2 j e)
    = ((∑ b ∈ Finset.range (n % 64), addV Q K D a j e b : ℝ) : EReal)
  dk : ∀ (a : Fin 4), a.val < n / 64 → ∀ j e, MdK.view.read (Elt Ideal) s.dk (ix2 j (pc a e)) = (DK Q K W D j (pc a e) : EReal)
  dv : ∀ (a : Fin 4), a.val < n / 64 → ∀ j e, MdV.view.read (Elt Ideal) s.dv (ix2 j (pc a e)) = (DV Q K D j (pc a e) : EReal)

theorem startK_real (s : Acc Ideal c) (h : AccGood Q K W D t.val s) (j : Fin 16384) (e : Fin 128) :
    MK.view.read (Elt Ideal) (startK c (grid0.coords t) s.K) (ix2 j e) = ((∑ b ∈ Finset.range (pb t).val, addK Q K W D (pa t) j e b : ℝ) : EReal) := by
  unfold startK
  by_cases h0 : t.val % 64 = 0
  · rw [if_pos ((first_iff _ (pb t).isLt _ (coords_eq t).2).mpr h0), read_zeroK]
    rw [show (pb t).val = 0 from h0, Finset.sum_range_zero]
  · rw [if_neg (fun h' => h0 ((first_iff _ (pb t).isLt _ (coords_eq t).2).mp h'))]
    exact h.ka h0 (pa t) rfl j e
theorem startV_real (s : Acc Ideal c) (h : AccGood Q K W D t.val s) (j : Fin 16384) (e : Fin 128) :
    MV.view.read (Elt Ideal) (startV c (grid0.coords t) s.V) (ix2 j e) = ((∑ b ∈ Finset.range (pb t).val, addV Q K D (pa t) j e b : ℝ) : EReal) := by
  unfold startV
  by_cases h0 : t.val % 64 = 0
  · rw [if_pos ((first_iff _ (pb t).isLt _ (coords_eq t).2).mpr h0), read_zeroV]
    rw [show (pb t).val = 0 from h0, Finset.sum_range_zero]
  · rw [if_neg (fun h' => h0 ((first_iff _ (pb t).isLt _ (coords_eq t).2).mp h'))]
    exact h.va h0 (pa t) rfl j e

include G in
/-- A point adds its block to the accumulators, -/
theorem finAt_K (s : Acc Ideal c) (h : AccGood Q K W D t.val s) (j : Fin 16384) (e : Fin 128) :
    MK.view.read (Elt Ideal) (finAt m c t s.K s.V).K (ix2 j e) = ((∑ b ∈ Finset.range ((pb t).val + 1), addK Q K W D (pa t) j e b : ℝ) : EReal) := by
  rw [(finAt_good t G s.K s.V (startK_real t s h) (startV_real t s h)).K j e, if_pos (by omega), dk_block, Finset.sum_range_succ]
  rw [show addK Q K W D (pa t) j e (pb t).val = _ from dif_pos (pb t).isLt]
include G in
theorem finAt_V (s : Acc Ideal c) (h : AccGood Q K W D t.val s) (j : Fin 16384) (e : Fin 128) :
    MV.view.read (Elt Ideal) (finAt m c t s.K s.V).V (ix2 j e) = ((∑ b ∈ Finset.range ((pb t).val + 1), addV Q K D (pa t) j e b : ℝ) : EReal) := by
  rw [(finAt_good t G s.K s.V (startK_real t s h) (startV_real t s h)).V j e, if_pos (by omega), dv_block, Finset.sum_range_succ]
  rw [show addV Q K D (pa t) j e (pb t).val = _ from dif_pos (pb t).isLt]

theorem outK_read (f : Bf (F := Ideal) c MdK) (s : St Ideal c) (j : Fin 16384) (a' : Fin 4) (e : Fin 128) :
    MdK.view.read (Elt Ideal) (outK c (grid0.coords t) f s) (ix2 j (pc a' e))
      = if (pb t).val = 63 ∧ a' = pa t then MK.view.read (Elt Ideal) s.K (ix2 j e) else MdK.view.read (Elt Ideal) f (ix2 j (pc a' e)) := by
  unfold outK
  by_cases h : k0_cond2 (grid0.coords t) = 1#1
  · have h63 := (last_iff _ (pb t).isLt _ (coords_eq t).2).mp h
    rw [dif_pos h, if_congr (and_iff_right h63) rfl rfl]
    exact read_cols MdK.view f (k0_off3_inb _ h) (pa t) ((k0_off3_eq _).trans (by rw [(coords_eq t).1]; rfl)) _ j a' e
  · have h63 : ¬ (pb t).val = 63 := fun h' => h ((last_iff _ (pb t).isLt _ (coords_eq t).2).mpr h')
    rw [dif_neg h, if_neg (fun h' => h63 h'.1)]
theorem outV_read (f : Bf (F := Ideal) c MdV) (s : St Ideal c) (j : Fin 16384) (a' : Fin 4) (e : Fin 128) :
    MdV.view.read (Elt Ideal) (outV c (grid0.coords t) f s) (ix2 j (pc a' e))
      = if (pb t).val = 63 ∧ a' = pa t then MV.view.read (Elt Ideal) s.V (ix2 j e) else MdV.view.read (Elt Ideal) f (ix2 j (pc a' e)) := by
  unfold outV
  by_cases h : k0_cond2 (grid0.coords t) = 1#1
  · have h63 := (last_iff _ (pb t).isLt _ (coords_eq t).2).mp h
    rw [dif_pos h, if_congr (and_iff_right h63) rfl rfl]
    exact read_cols MdV.view f (k0_off3_inb _ h) (pa t) ((k0_off3_eq _).trans (by rw [(coords_eq t).1]; rfl)) _ j a' e
  · have h63 : ¬ (pb t).val = 63 := fun h' => h ((last_iff _ (pb t).isLt _ (coords_eq t).2).mpr h')
    rw [dif_neg h, if_neg (fun h' => h63 h'.1)]

include G in
/-- and keeps the state good. -/
theorem step_good (s : Acc Ideal c) (h : AccGood Q K W D t.val s) : AccGood Q K W D (t.val + 1) (step m c t s) := by
  have ht : t.val < 256 := lt_of_lt_of_eq t.isLt cfgN
  have hpa : (pa t).val = t.val / 64 := rfl
  have hpb : (pb t).val = t.val % 64 := rfl
  refine ⟨fun h0 a ha j e => ?_, fun h0 a ha j e => ?_, fun a ha j e => ?_, fun a ha j e => ?_⟩
  · obtain rfl : a = pa t := Fin.ext (by omega)
    rw [show (t.val + 1) % 64 = (pb t).val + 1 by omega]
    exact finAt_K t G s h j e
  · obtain rfl : a = pa t := Fin.ext (by omega)
    rw [show (t.val + 1) % 64 = (pb t).val + 1 by omega]
    exact finAt_V t G s h j e
  · refine (outK_read t s.dk (finAt m c t s.K s.V) j a e).trans ?_
    by_cases hl : (pb t).val = 63 ∧ a = pa t
    · obtain ⟨h63, rfl⟩ := hl
      rw [if_pos ⟨h63, rfl⟩, finAt_K t G s h j e, h63, sum_addK]
    · rw [if_neg hl]
      refine h.dk a ?_ j e
      by_contra hlt
      exact hl ⟨by omega, Fin.ext (by omega)⟩
  · refine (outV_read t s.dv (finAt m c t s.K s.V) j a e).trans ?_
    by_cases hl : (pb t).val = 63 ∧ a = pa t
    · obtain ⟨h63, rfl⟩ := hl
      rw [if_pos ⟨h63, rfl⟩, finAt_V t G s h j e, h63, sum_addV]
    · rw [if_neg hl]
      refine h.dv a ?_ j e
      by_contra hlt
      exact hl ⟨by omega, Fin.ext (by omega)⟩

include G in
/-- After `n` points, from accumulators holding anything. -/
theorem accs_good (fK : Bf (F := Ideal) c MK) (fV : Bf (F := Ideal) c MV) : ∀ n, n ≤ 256 → AccGood Q K W D n (accs m c fK fV n)
  | 0, _ => ⟨fun h => absurd rfl h, fun h => absurd rfl h, fun a h => absurd h (by omega), fun a h => absurd h (by omega)⟩
  | n + 1, hn => by
    have hlt : n < (cfg0 (F := Ideal)).N := by rw [cfgN]; omega
    have e := accs_succ m c fK fV ⟨n, hlt⟩
    rw [show accs m c fK fV (n + 1) = _ from e]
    exact step_good ⟨n, hlt⟩ G _ (accs_good fK fV n (by omega))

theorem col_split (x : Fin 512) : x = pc ⟨x.val / 128, by omega⟩ ⟨x.val % 128, by omega⟩ :=
  Fin.ext (by show x.val = 128 * (x.val / 128) + x.val % 128; omega)

include G in
/-- The keys' and the values' gradients at the end. -/
theorem dk_real (fK : Bf (F := Ideal) c MK) (fV : Bf (F := Ideal) c MV) (j : Fin 16384) (x : Fin 512) :
    (accs m c fK fV (cfg0 (F := Ideal)).N).dk (ix2 j x) = (DK Q K W D j x : EReal) := by
  rw [cfgN, col_split x]
  exact (accs_good G fK fV 256 le_rfl).dk _ (by show x.val / 128 < 256 / 64; omega) j _
include G in
theorem dv_real (fK : Bf (F := Ideal) c MK) (fV : Bf (F := Ideal) c MV) (j : Fin 16384) (x : Fin 512) :
    (accs m c fK fV (cfg0 (F := Ideal)).N).dv (ix2 j x) = (DV Q K D j x : EReal) := by
  rw [cfgN, col_split x]
  exact (accs_good G fK fV 256 le_rfl).dv _ (by show x.val / 128 < 256 / 64; omega) j _

/-! ## The queries' gradient -/

/-- Every point stores its block of the queries' gradient, whatever the accumulators held. -/
theorem dqAt_real (hG : Given m c Q K W D) (fK : Bf (F := Ideal) c MK) (fV : Bf (F := Ideal) c MV) (r : Fin 256) (e : Fin 128) :
    dqAt m c t (ix2 r e) = (DQ Q K W D (pr (pb t) r) (pc (pa t) e) : EReal) := by
  have ht : t.val ≤ 256 := le_of_lt (lt_of_lt_of_eq t.isLt cfgN)
  have h := accs_good hG fK fV t.val ht
  have H := finAt_good t hG _ _ (startK_real t _ h) (startV_real t _ h)
  rw [← dqAt_eq m c t (accs m c fK fV t.val).K (accs m c fK fV t.val).V, pay5_real H.dq, dq_block]

/-- The array of the queries' gradient. -/
def dqArr (Q K W D : Fin 16384 → Fin 512 → ℝ) : FVec Ideal S16384x512 .bf16 := fun x => (DQ Q K W D (x 0) (x 1) : EReal)

include G in
theorem dq_final : (dats m 0 c).arrAt 5 (cfg0 (F := Ideal)).N = dqArr Q K W D := by
  refine (dats m 0 c).arrAt_eq_of_covers 5 _ (by decide +kernel) fun t _ y => ?_
  blk_simp
  rw [after0_5]
  obtain ⟨r, e, rfl⟩ : ∃ r e, y = ix2 r e := ⟨y 0, y 1, eq_ix2 y⟩
  have h := dqAt_real t G (V m c cc0_scratch0) (V m c cc0_scratch1) r e
  have h5 := congrArg (dqArr Q K W D) (emb5 t (ix2 r e)).symm
  exact h.trans h5

end Cert.SbIdeal.Sb
end
-- ==== Proof.Sb.Window.lean ====
/-
  A running sum along the last of three axes, from either end, read at an index.
-/
module

public import Idealize.ShloMosaic.Lib.Pointwise

@[expose] public section

noncomputable section

namespace Cert.SbIdeal.Sb

open Idealize.ShloMosaic

/-- A fold of additions from zero is a sum. -/
theorem foldl_add {n : ℕ} (f : Fin n → EReal) : (List.finRange n).foldl (fun acc i => acc + f i) 0 = ∑ i, f i := by
  rw [Fin.sum_univ_def, List.sum_eq_foldl, List.foldl_map]

/-- The indices of one row of windows. -/
def winEquiv (N : ℕ) : (⟨3, ![1, 1, N]⟩ : Shape).Idx ≃ Fin N where
  toFun w := w 2
  invFun l := ix3 (0 : Fin 1) (0 : Fin 1) l
  left_inv w := funext fun a => match a with
    | ⟨0, _⟩ => Subsingleton.elim (α := Fin 1) _ _
    | ⟨1, _⟩ => Subsingleton.elim (α := Fin 1) _ _
    | ⟨2, _⟩ => rfl
  right_inv _ := rfl

/-- A window of the last axis' whole length sums what it covers of the array. -/
theorem window_sum {H M N lo hi : ℕ} (x : (⟨3, ![H, M, N]⟩ : Shape).Idx → EReal)
    (h : (⟨3, ![H, M, N]⟩ : Shape).ReduceWindows (![1, 1, N] : Fin 3 → Nat) ![1, 1, 1] ![0, 0, lo] ![0, 0, hi] ⟨3, ![H, M, N]⟩)
    (a : Fin H) (i : Fin M) (j : Fin N) :
    Ideal.hostReduceWindowAdd (![1, 1, N] : Fin 3 → Nat) ![1, 1, 1] ![0, 0, lo] ![0, 0, hi] h x 0 (ix3 a i j)
      = ∑ l : Fin N, if hl : lo ≤ j.val + l.val ∧ j.val + l.val - lo < N then x (ix3 a i ⟨j.val + l.val - lo, hl.2⟩) else 0 := by
  unfold Ideal.hostReduceWindowAdd Host.reduceWindow
  refine (foldl_add _).trans ?_
  refine Eq.trans ?_ (((winEquiv N).sum_comp (fun l : Fin N => if hl : lo ≤ j.val + l.val ∧ j.val + l.val - lo < N
    then x (ix3 a i ⟨j.val + l.val - lo, hl.2⟩) else 0)))
  refine Eq.trans (Finset.sum_congr rfl fun n _ => ?_) (Equiv.sum_comp (Shape.rowMajor (⟨3, ![1, 1, N]⟩ : Shape)).symm _)
  have h0 : ((Shape.rowMajor (⟨3, ![1, 1, N]⟩ : Shape)).symm n 0).val = 0 := Nat.lt_one_iff.mp (((Shape.rowMajor (⟨3, ![1, 1, N]⟩ : Shape)).symm n) 0).isLt
  have h1 : ((Shape.rowMajor (⟨3, ![1, 1, N]⟩ : Shape)).symm n 1).val = 0 := Nat.lt_one_iff.mp (((Shape.rowMajor (⟨3, ![1, 1, N]⟩ : Shape)).symm n) 1).isLt
  have ha := a.isLt
  have hi := i.isLt
  by_cases hl : lo ≤ j.val + ((winEquiv N) ((Shape.rowMajor (⟨3, ![1, 1, N]⟩ : Shape)).symm n)).val ∧ j.val + ((winEquiv N) ((Shape.rowMajor (⟨3, ![1, 1, N]⟩ : Shape)).symm n)).val - lo < N
  · rw [dif_pos hl]
    refine (dif_pos (fun b => match b with
      | ⟨0, _⟩ => by
        show 0 ≤ a.val * 1 + ((Shape.rowMajor (⟨3, ![1, 1, N]⟩ : Shape)).symm n 0).val ∧ a.val * 1 + ((Shape.rowMajor (⟨3, ![1, 1, N]⟩ : Shape)).symm n 0).val - 0 < H
        omega
      | ⟨1, _⟩ => by
        show 0 ≤ i.val * 1 + ((Shape.rowMajor (⟨3, ![1, 1, N]⟩ : Shape)).symm n 1).val ∧ i.val * 1 + ((Shape.rowMajor (⟨3, ![1, 1, N]⟩ : Shape)).symm n 1).val - 0 < M
        omega
      | ⟨2, _⟩ => by
        show lo ≤ j.val * 1 + ((winEquiv N) ((Shape.rowMajor (⟨3, ![1, 1, N]⟩ : Shape)).symm n)).val ∧ j.val * 1 + ((winEquiv N) ((Shape.rowMajor (⟨3, ![1, 1, N]⟩ : Shape)).symm n)).val - lo < N
        rwa [Nat.mul_one])).trans ?_
    refine congrArg x (funext fun b => Fin.ext ?_)
    match b with
    | ⟨0, _⟩ =>
      show a.val * 1 + ((Shape.rowMajor (⟨3, ![1, 1, N]⟩ : Shape)).symm n 0).val - 0 = a.val
      omega
    | ⟨1, _⟩ =>
      show i.val * 1 + ((Shape.rowMajor (⟨3, ![1, 1, N]⟩ : Shape)).symm n 1).val - 0 = i.val
      omega
    | ⟨2, _⟩ =>
      show j.val * 1 + ((winEquiv N) ((Shape.rowMajor (⟨3, ![1, 1, N]⟩ : Shape)).symm n)).val - lo = j.val + ((winEquiv N) ((Shape.rowMajor (⟨3, ![1, 1, N]⟩ : Shape)).symm n)).val - lo
      rw [Nat.mul_one]
  · rw [dif_neg hl]
    refine dif_neg fun hb => hl ?_
    have h2 : lo ≤ j.val * 1 + ((winEquiv N) ((Shape.rowMajor (⟨3, ![1, 1, N]⟩ : Shape)).symm n)).val ∧ j.val * 1 + ((winEquiv N) ((Shape.rowMajor (⟨3, ![1, 1, N]⟩ : Shape)).symm n)).val - lo < N := hb 2
    rwa [Nat.mul_one] at h2

/-- Summed from an index on: the last axis padded above. -/
theorem sum_above {N : ℕ} (f : Fin N → EReal) (j : Fin N) :
    (∑ l : Fin N, if hl : 0 ≤ j.val + l.val ∧ j.val + l.val - 0 < N then f ⟨j.val + l.val - 0, hl.2⟩ else 0)
      = ∑ s : Fin N, if j.val ≤ s.val then f s else 0 := by
  have hj := j.isLt
  rw [← Finset.sum_filter, ← Finset.sum_subset (Finset.subset_univ (Finset.univ.filter fun l : Fin N => j.val + l.val < N))
    (fun l _ hl => by
      have : ¬ j.val + l.val < N := by simpa using hl
      rw [dif_neg (by omega)])]
  refine Finset.sum_bij (fun l hl => ⟨j.val + l.val, (Finset.mem_filter.mp hl).2⟩) (fun l hl => ?_) (fun l hl l' hl' e => ?_) (fun s hs => ?_) (fun l hl => ?_)
  · exact Finset.mem_filter.mpr ⟨Finset.mem_univ _, by dsimp only; omega⟩
  · have := congrArg Fin.val e
    exact Fin.ext (by dsimp only at this; omega)
  · have hs' : j.val ≤ s.val := by simpa using hs
    have := s.isLt
    exact ⟨⟨s.val - j.val, by omega⟩, by simp; omega, Fin.ext (by dsimp only; omega)⟩
  · have := (Finset.mem_filter.mp hl).2
    rw [dif_pos (by omega)]
    rfl

/-- Summed up to an index: the last axis padded below. -/
theorem sum_below {N lo : ℕ} (hN : lo + 1 = N) (f : Fin N → EReal) (j : Fin N) :
    (∑ l : Fin N, if hl : lo ≤ j.val + l.val ∧ j.val + l.val - lo < N then f ⟨j.val + l.val - lo, hl.2⟩ else 0)
      = ∑ t : Fin N, if t.val ≤ j.val then f t else 0 := by
  have hj := j.isLt
  rw [← Finset.sum_filter, ← Finset.sum_subset (Finset.subset_univ (Finset.univ.filter fun l : Fin N => lo ≤ j.val + l.val))
    (fun l _ hl => by
      have : ¬ lo ≤ j.val + l.val := by simpa using hl
      rw [dif_neg (by omega)])]
  refine Finset.sum_bij (fun l hl => ⟨j.val + l.val - lo, by have := l.isLt; omega⟩) (fun l hl => ?_) (fun l hl l' hl' e => ?_) (fun s hs => ?_) (fun l hl => ?_)
  · have := l.isLt
    have := (Finset.mem_filter.mp hl).2
    exact Finset.mem_filter.mpr ⟨Finset.mem_univ _, by dsimp only; omega⟩
  · have := congrArg Fin.val e
    have h1 := (Finset.mem_filter.mp hl).2
    have h2 := (Finset.mem_filter.mp hl').2
    exact Fin.ext (by dsimp only at this; omega)
  · have hs' : s.val ≤ j.val := by simpa using hs
    exact ⟨⟨s.val + lo - j.val, by omega⟩, by simp; omega, Fin.ext (by dsimp only; omega)⟩
  · have := (Finset.mem_filter.mp hl).2
    have := l.isLt
    rw [dif_pos (by omega)]

/-- The running sum from the end, and from the start. -/
theorem cumsum_above {H M N hi : ℕ} (x : (⟨3, ![H, M, N]⟩ : Shape).Idx → EReal)
    (h : (⟨3, ![H, M, N]⟩ : Shape).ReduceWindows (![1, 1, N] : Fin 3 → Nat) ![1, 1, 1] ![0, 0, 0] ![0, 0, hi] ⟨3, ![H, M, N]⟩)
    (a : Fin H) (i : Fin M) (j : Fin N) :
    Ideal.hostReduceWindowAdd (![1, 1, N] : Fin 3 → Nat) ![1, 1, 1] ![0, 0, 0] ![0, 0, hi] h x 0 (ix3 a i j)
      = ∑ s : Fin N, if j.val ≤ s.val then x (ix3 a i s) else 0 :=
  (window_sum x h a i j).trans (sum_above (fun s => x (ix3 a i s)) j)

theorem cumsum_below {H M N lo hi : ℕ} (hN : lo + 1 = N) (x : (⟨3, ![H, M, N]⟩ : Shape).Idx → EReal)
    (h : (⟨3, ![H, M, N]⟩ : Shape).ReduceWindows (![1, 1, N] : Fin 3 → Nat) ![1, 1, 1] ![0, 0, lo] ![0, 0, hi] ⟨3, ![H, M, N]⟩)
    (a : Fin H) (i : Fin M) (j : Fin N) :
    Ideal.hostReduceWindowAdd (![1, 1, N] : Fin 3 → Nat) ![1, 1, 1] ![0, 0, lo] ![0, 0, hi] h x 0 (ix3 a i j)
      = ∑ t : Fin N, if t.val ≤ j.val then x (ix3 a i t) else 0 :=
  (window_sum x h a i j).trans (sum_below hN (fun s => x (ix3 a i s)) j)

end Cert.SbIdeal.Sb
-- ==== Proof.Sb.Ref.lean ====
/-
  What the reference computes, at arguments that are real numbers.
-/
module

public import proofs.«01_k».proof.Proof.Gen.SbRefIdeal.Read
public import proofs.«01_k».proof.Proof.Sb.Heads
public import proofs.«01_k».proof.Proof.Sb.Window
public import Idealize.ShloMosaic.Lib.Pointwise

@[expose] public section

set_option maxRecDepth 16384

noncomputable section

namespace Cert.SbIdeal.Sb

open Idealize.ShloMosaic
open Cert.SbRefIdeal.Read

/-- The arguments: queries, keys and values are columns of one array, the cotangent is another. -/
abbrev Arr0 : Type := (⟨Cert.SbRefIdeal.S16384x4096, .bf16⟩ : BufTy).Contents (Elt Ideal)
abbrev Arr1 : Type := (⟨Cert.SbRefIdeal.S16384x512, .bf16⟩ : BufTy).Contents (Elt Ideal)

/-- They hold real numbers. -/
structure Fed (x0 : Arr0) (x1 : Arr1) (Q K W D : Fin 16384 → Fin 512 → ℝ) : Prop where
  q : ∀ (i : Fin 16384) (x : Fin 512), x0 (ix2 i (⟨x.val, by omega⟩ : Fin 4096)) = ((Q i x : ℝ) : EReal)
  k : ∀ (i : Fin 16384) (x : Fin 512), x0 (ix2 i (⟨512 + x.val, by omega⟩ : Fin 4096)) = ((K i x : ℝ) : EReal)
  v : ∀ (i : Fin 16384) (x : Fin 512), x0 (ix2 i (⟨1024 + x.val, by omega⟩ : Fin 4096)) = ((W i x : ℝ) : EReal)
  d : ∀ (i : Fin 16384) (x : Fin 512), x1 (ix2 i x) = ((D i x : ℝ) : EReal)

variable {x0 : Arr0} {x1 : Arr1} {Q K W D : Fin 16384 → Fin 512 → ℝ}

/-- One eighth, and the word of infinity. -/
theorem eighth_real : (Ideal.ofBits FTy.f32 0x3E000000#32 : EReal) = ((1 / 8 : ℝ) : EReal) := by
  simp [Ideal.ofBits, Ideal.ieee, -EReal.coe_mul]; norm_num
theorem top_real : (Ideal.ofBits FTy.f32 0x7F800000#32 : EReal) = ⊤ := by
  simp [Ideal.ofBits, Ideal.ieee]

/-- A sum of real numbers, of products of them, and of some of them. -/
theorem sum_real {n : ℕ} (f : Fin n → EReal) (g : Fin n → ℝ) (h : ∀ i, f i = ((g i : ℝ) : EReal)) : ∑ i, f i = ((∑ i, g i : ℝ) : EReal) := by
  rw [Finset.sum_congr rfl fun i _ => h i]
  exact (map_sum (⟨⟨fun x : ℝ => (x : EReal), rfl⟩, EReal.coe_add⟩ : ℝ →+ EReal) g Finset.univ).symm
theorem dot_real {n : ℕ} (f f' : Fin n → EReal) (g g' : Fin n → ℝ) (h : ∀ i, f i = ((g i : ℝ) : EReal)) (h' : ∀ i, f' i = ((g' i : ℝ) : EReal)) :
    ∑ i, f i * f' i = ((∑ i, g i * g' i : ℝ) : EReal) :=
  sum_real _ _ fun i => by rw [h i, h' i, EReal.coe_mul]
theorem ite_real (p : Prop) [Decidable p] (x : EReal) (y : ℝ) (h : x = (y : EReal)) : (if p then x else 0) = ((if p then y else 0 : ℝ) : EReal) := by
  split
  · exact h
  · exact EReal.coe_zero.symm

/-- The host's softplus of a real number, its guard against a value unequal to itself included. -/
theorem soft_real (x : ℝ) : (if (x : EReal) ≠ (x : EReal) then (x : EReal) else max (x : EReal) 0 + Ideal.log1p (Ideal.exp (-FloatOps.absf (F := Ideal) (φ := .f32) (x : EReal))))
    = ((sp x : ℝ) : EReal) := by
  rw [if_neg (fun h => h rfl)]
  have e : FloatOps.absf (F := Ideal) (φ := .f32) (x : EReal) = ((|x| : ℝ) : EReal) := by
    show max (x : EReal) (-(x : EReal)) = _
    rw [← EReal.coe_neg, ← EReal.coe_strictMono.monotone.map_max]; rfl
  have hp : (0 : ℝ) < 1 + Real.exp (-|x|) := by positivity
  rw [e, ← EReal.coe_neg, Ideal.exp_coe, ← EReal.coe_zero, ← EReal.coe_strictMono.monotone.map_max, Ideal.log1p, ← EReal.coe_one, ← EReal.coe_add,
    Ideal.log_coe, if_neg (not_le.mpr hp), ← EReal.coe_add]
  rfl
/-- A selection by the mask. -/
theorem mask_real (p : Prop) [Decidable p] {x z : EReal} {y : ℝ} (hx : x = (y : EReal)) (hz : z = 0) :
    Scalar.select (BitVec.ofBool (decide p)) x z = ((if p then y else 0 : ℝ) : EReal) := by
  by_cases h : p <;> simp [Scalar.select, h, hx, hz]

theorem hc_hd (x : Fin 512) : hc (hd x) (⟨x.val % 64, by omega⟩ : Fin 64) = x := Fin.ext (by simp only [hc, hd]; omega)

theorem v6_real (G : Fed x0 x1 Q K W D) (h : Fin 8) (i : Fin 16384) (e : Fin 64) : val_main_v6 (F := Ideal) x0 (ix3 h i e) = ((Q i (hc h e) : ℝ) : EReal) := by
  pointwise [val_main_v6, val_main_v5, val_main_v4, val_main_v3, val_main_v2, val_main_v1, val_main_v0]
  refine Eq.trans (congrArg (fun x => x0 (ix2 i x)) (Fin.ext ?_)) (G.q i (hc h e))
  simp only [hc]; omega
theorem v8_real (G : Fed x0 x1 Q K W D) (h : Fin 8) (i : Fin 16384) (e : Fin 64) : val_main_v8 (F := Ideal) x0 (ix3 h i e) = ((K i (hc h e) : ℝ) : EReal) := by
  pointwise [val_main_v8, val_main_v7, val_main_v6, val_main_v5, val_main_v4, val_main_v3, val_main_v2, val_main_v1, val_main_v0]
  refine Eq.trans (congrArg (fun x => x0 (ix2 i x)) (Fin.ext ?_)) (G.k i (hc h e))
  simp only [hc]; omega
theorem v10_real (G : Fed x0 x1 Q K W D) (h : Fin 8) (i : Fin 16384) (e : Fin 64) : val_main_v10 (F := Ideal) x0 (ix3 h i e) = ((W i (hc h e) : ℝ) : EReal) := by
  pointwise [val_main_v10, val_main_v9, val_main_v6, val_main_v5, val_main_v4, val_main_v3, val_main_v2, val_main_v1, val_main_v0]
  refine Eq.trans (congrArg (fun x => x0 (ix2 i x)) (Fin.ext ?_)) (G.v i (hc h e))
  simp only [hc]; omega
theorem v35_real (G : Fed x0 x1 Q K W D) (h : Fin 8) (i : Fin 16384) (e : Fin 64) : val_main_v35 (F := Ideal) x1 (ix3 h i e) = ((D i (hc h e) : ℝ) : EReal) := by
  pointwise [val_main_v35, val_main_v34, val_main_v33]
  refine Eq.trans (congrArg (fun x => x1 (ix2 i x)) (Fin.ext ?_)) (G.d i (hc h e))
  simp only [hc]; omega
/-- The scores, -/
theorem v13_real (G : Fed x0 x1 Q K W D) (h : Fin 8) (i : Fin 16384) (j : Fin 16384) : val_main_v13 (F := Ideal) x0 (ix3 h i j) = ((zz Q K h i j : ℝ) : EReal) := by
  pointwise [val_main_v13, val_main_v12, val_main_v11, val_main_cst]
  rw [dot_real _ _ _ _ (fun e => v6_real G h i e) (fun e => v8_real G h j e), eighth_real, ← EReal.coe_mul]
  rfl
/-- the mask, -/
theorem v20_real (i : Fin 16384) (j : Fin 16384) : val_main_v20 (F := Ideal) (ix2 i j) = BitVec.ofBool (decide (j.val < i.val)) := by
  pointwise [val_main_v20, val_main_v19, val_main_v18, val_main_v17, val_main_v16, val_main_v15, val_main_v14]
  show BitVec.ofBool (BitVec.slt _ _) = _
  congr 1
  have hi := i.isLt
  have hj := j.isLt
  simp only [BitVec.slt, decide_eq_decide]
  rw [BitVec.toInt_eq_toNat_of_lt (by simp; omega), BitVec.toInt_eq_toNat_of_lt (by simp; omega)]
  simp
  omega
/-- the softplus of a score, -/
theorem call0_real (G : Fed x0 x1 Q K W D) (h : Fin 8) (i : Fin 16384) (j : Fin 16384) : val_main_call0_v1_0 (F := Ideal) x0 (ix3 h i j) = ((sp (zz Q K h i j) : ℝ) : EReal) := by
  pointwise [val_main_call0_v1_0, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v0, val_main_v21, val_main_call0_call0_cst]
  rw [neg_neg, v13_real G h i j]
  exact soft_real _
theorem v22_0_real (G : Fed x0 x1 Q K W D) (h : Fin 8) (i : Fin 16384) (j : Fin 16384) : val_main_v22_0 (F := Ideal) x0 (ix3 h i j) = ((-sp (zz Q K h i j) : ℝ) : EReal) := by
  pointwise [val_main_v22_0]
  rw [call0_real G h i j, EReal.coe_neg]
/-- its derivative, -/
theorem v22_1_real (G : Fed x0 x1 Q K W D) (h : Fin 8) (i : Fin 16384) (j : Fin 16384) : val_main_v22_1 (F := Ideal) x0 (ix3 h i j) = ((Real.exp (zz Q K h i j - sp (zz Q K h i j)) : ℝ) : EReal) := by
  pointwise [val_main_v22_1, val_main_call0_call0_v21, val_main_call0_call0_v20, val_main_call0_call0_v19, val_main_call0_call0_v18, val_main_call0_call0_v17, val_main_call0_call0_v16, val_main_call0_call0_v15, val_main_call0_call0_v14, val_main_call0_call0_v13, val_main_call0_v0, val_main_v21, val_main_call0_call0_cst_0, val_main_call0_call0_cst_1, val_main_call0_call0_cst_2, val_main_call0_call0_cst_3]
  rw [neg_neg, call0_real G h i j, v13_real G h i j, top_real, if_neg (EReal.coe_ne_top _), if_neg (EReal.coe_ne_top _), ← EReal.coe_sub, Ideal.exp_coe]
/-- and the masked log-sigmoids with their sums from a key on. -/
theorem v23_0_real (G : Fed x0 x1 Q K W D) (h : Fin 8) (i : Fin 16384) (j : Fin 16384) : val_main_v23_0 (F := Ideal) x0 (ix3 h i j) = ((lf i.val (zz Q K h i) j : ℝ) : EReal) := by
  pointwise [val_main_v23_0, val_main_v23_1, val_main_call1_v2, val_main_call1_v0, val_main_cst_0]
  rw [v20_real]
  exact mask_real _ (v22_0_real G h i j) Ideal.ofBits_zero_f32
theorem v24_real (G : Fed x0 x1 Q K W D) (h : Fin 8) (i : Fin 16384) (j : Fin 16384) :
    val_main_v24 (F := Ideal) x0 (ix3 h i j) = ((∑ s : Fin 16384, if j.val ≤ s.val then lf i.val (zz Q K h i) s else 0 : ℝ) : EReal) := by
  refine Eq.trans ?_ (sum_real _ _ fun s => ite_real _ _ _ (v23_0_real G h i s))
  have e : val_main_call2_v0 (F := Ideal) (Shape.Idx.first Cert.SbRefIdeal.Gen.h_S_) = 0 := by
    rw [val_main_call2_v0_apply, val_main_call2_cst_apply]
    exact Ideal.ofBits_zero_f32
  unfold val_main_v24 Host.reduceWindowAdd
  rw [e]
  exact cumsum_above (val_main_v23_0 (F := Ideal) x0) Cert.SbRefIdeal.Gen.reduceWindows_S8x16384x16384_S8x16384x16384_w1s1p0_0_w1s1p0_0_w16384s1p0_16383 h i j

/-- The softplus of a negated score, -/
theorem call3_real (G : Fed x0 x1 Q K W D) (h : Fin 8) (i : Fin 16384) (j : Fin 16384) : val_main_call3_v1_0 (F := Ideal) x0 (ix3 h i j) = ((sp (-zz Q K h i j) : ℝ) : EReal) := by
  pointwise [val_main_call3_v1_0, val_main_call3_call0_v0, val_main_call3_call0_v1, val_main_call3_call0_v2, val_main_call3_call0_v3, val_main_call3_call0_v4, val_main_call3_call0_v5, val_main_call3_call0_v6, val_main_call3_call0_v7, val_main_call3_call0_v8, val_main_call3_call0_v9, val_main_call3_call0_v10, val_main_call3_call0_v11, val_main_call3_v0, val_main_call3_call0_cst]
  rw [v13_real G h i j, ← EReal.coe_neg]
  exact soft_real _
theorem v26_0_real (G : Fed x0 x1 Q K W D) (h : Fin 8) (i : Fin 16384) (j : Fin 16384) : val_main_v26_0 (F := Ideal) x0 (ix3 h i j) = ((-sp (-zz Q K h i j) : ℝ) : EReal) := by
  pointwise [val_main_v26_0]
  rw [call3_real G h i j, EReal.coe_neg]
/-- its derivative, -/
theorem v26_1_real (G : Fed x0 x1 Q K W D) (h : Fin 8) (i : Fin 16384) (j : Fin 16384) : val_main_v26_1 (F := Ideal) x0 (ix3 h i j) = ((Real.exp (-zz Q K h i j - sp (-zz Q K h i j)) : ℝ) : EReal) := by
  pointwise [val_main_v26_1, val_main_call3_call0_v21, val_main_call3_call0_v20, val_main_call3_call0_v19, val_main_call3_call0_v18, val_main_call3_call0_v17, val_main_call3_call0_v16, val_main_call3_call0_v15, val_main_call3_call0_v14, val_main_call3_call0_v13, val_main_call3_v0, val_main_call3_call0_cst_0, val_main_call3_call0_cst_1, val_main_call3_call0_cst_2, val_main_call3_call0_cst_3]
  rw [call3_real G h i j, v13_real G h i j, ← EReal.coe_neg, top_real, if_neg (EReal.coe_ne_top _), if_neg (EReal.coe_ne_top _), ← EReal.coe_sub, Ideal.exp_coe]
/-- the weights before the mask and after it, -/
theorem v28_real (G : Fed x0 x1 Q K W D) (h : Fin 8) (i : Fin 16384) (j : Fin 16384) : val_main_v28 (F := Ideal) x0 (ix3 h i j) = ((wt i.val (zz Q K h i) j : ℝ) : EReal) := by
  pointwise [val_main_v28, val_main_v27, val_main_v25]
  rw [v26_0_real G h i j, v24_real G h i j, v23_0_real G h i j, ← EReal.coe_sub, ← EReal.coe_add, Ideal.exp_coe]
  rfl
theorem v29_0_real (G : Fed x0 x1 Q K W D) (h : Fin 8) (i : Fin 16384) (j : Fin 16384) : val_main_v29_0 (F := Ideal) x0 (ix3 h i j) = ((aw Q K h i j : ℝ) : EReal) := by
  pointwise [val_main_v29_0, val_main_v29_1, val_main_call4_v2, val_main_call4_v0, val_main_cst_1]
  rw [v20_real]
  exact mask_real _ (v28_real G h i j) Ideal.ofBits_zero_f32
/-- the attention's output, -/
theorem v32_real (G : Fed x0 x1 Q K W D) (i : Fin 16384) (x : Fin 512) : val_main_v32 (F := Ideal) x0 (ix2 i x) = ((OO Q K W i x : ℝ) : EReal) := by
  pointwise [val_main_v32, val_main_v31, val_main_v30]
  refine (dot_real _ _ _ _ (fun k => v29_0_real G (hd x) i k) (fun k => v10_real G (hd x) k ⟨x.val % 64, by omega⟩)).trans (congrArg _ (Finset.sum_congr rfl fun k _ => ?_))
  rw [hc_hd]
/-- the gradient of a weight, that times the weight, and its sums up to a key, -/
theorem v38_real (G : Fed x0 x1 Q K W D) (h : Fin 8) (i : Fin 16384) (j : Fin 16384) : val_main_v38 (F := Ideal) x0 x1 (ix3 h i j) = ((pp W D h i j : ℝ) : EReal) := by
  pointwise [val_main_v38]
  exact dot_real _ _ _ _ (fun e => v35_real G h i e) (fun e => v10_real G h j e)
theorem v40_real (G : Fed x0 x1 Q K W D) (h : Fin 8) (i : Fin 16384) (j : Fin 16384) : val_main_v40 (F := Ideal) x0 x1 (ix3 h i j) = ((g i.val (zz Q K h i) (pp W D h i) j : ℝ) : EReal) := by
  pointwise [val_main_v40, val_main_v39, val_main_v29_1, val_main_call5_v0, val_main_call5_cst]
  rw [v20_real, v28_real G h i j, v38_real G h i j, ← EReal.coe_mul]
  refine (mask_real _ rfl rfl).trans (congrArg _ ?_)
  unfold g
  split <;> simp
theorem v43_real (G : Fed x0 x1 Q K W D) (h : Fin 8) (i : Fin 16384) (j : Fin 16384) :
    val_main_v43 (F := Ideal) x0 x1 (ix3 h i j) = ((∑ t : Fin 16384, if t.val ≤ j.val then g i.val (zz Q K h i) (pp W D h i) t else 0 : ℝ) : EReal) := by
  refine Eq.trans ?_ (sum_real _ _ fun s => ite_real _ _ _ (v40_real G h i s))
  have e : val_main_call7_v0 (F := Ideal) (Shape.Idx.first Cert.SbRefIdeal.Gen.h_S_) = 0 := by
    rw [val_main_call7_v0_apply, val_main_call7_cst_apply]
    exact Ideal.ofBits_zero_f32
  unfold val_main_v43 Host.reduceWindowAdd
  rw [e]
  exact cumsum_below (lo := 16383) rfl (val_main_v40 (F := Ideal) x0 x1) Cert.SbRefIdeal.Gen.reduceWindows_S8x16384x16384_S8x16384x16384_w1s1p0_0_w1s1p0_0_w16384s1p16383_0 h i j
/-- what of it a score's log-sigmoid gets, -/
theorem v45_real (G : Fed x0 x1 Q K W D) (h : Fin 8) (i : Fin 16384) (j : Fin 16384) : val_main_v45 (F := Ideal) x0 x1 (ix3 h i j)
    = ((if j.val < i.val then -g i.val (zz Q K h i) (pp W D h i) j + ∑ t : Fin 16384, (if t.val ≤ j.val then g i.val (zz Q K h i) (pp W D h i) t else 0) else 0 : ℝ) : EReal) := by
  pointwise [val_main_v45, val_main_v44, val_main_v42, val_main_v23_1, val_main_call8_v0, val_main_call8_cst]
  rw [v20_real, v40_real G h i j, v43_real G h i j, ← EReal.coe_neg, ← EReal.coe_add]
  exact mask_real _ rfl rfl
/-- and the gradient of a product of a query and a key. -/
theorem v50_real (G : Fed x0 x1 Q K W D) (h : Fin 8) (i : Fin 16384) (j : Fin 16384) : val_main_v50 (F := Ideal) x0 x1 (ix3 h i j) = ((az Q K W D h i j : ℝ) : EReal) := by
  pointwise [val_main_v50, val_main_v49, val_main_cst_2, val_main_v48, val_main_v47, val_main_v46, val_main_call9_v1, val_main_call9_v0, val_main_v41, val_main_call6_v1, val_main_call6_v0]
  rw [v40_real G h i j, v45_real G h i j, v26_1_real G h i j, v22_1_real G h i j, eighth_real]
  simp only [← EReal.coe_neg, ← EReal.coe_mul, ← EReal.coe_add]
  refine congrArg _ ?_
  unfold az dz
  ring
theorem v54_real (G : Fed x0 x1 Q K W D) (i : Fin 16384) (x : Fin 512) : val_main_v54 (F := Ideal) x0 x1 (ix2 i x) = ((DV Q K D i x : ℝ) : EReal) := by
  pointwise [val_main_v54, val_main_v53, val_main_v37, val_main_v36]
  refine (dot_real _ _ _ _ (fun k => v35_real G (hd x) k ⟨x.val % 64, by omega⟩) (fun k => v29_0_real G (hd x) k i)).trans (congrArg _ (Finset.sum_congr rfl fun k _ => ?_))
  rw [hc_hd]
  exact mul_comm _ _
theorem v56_real (G : Fed x0 x1 Q K W D) (i : Fin 16384) (x : Fin 512) : val_main_v56 (F := Ideal) x0 x1 (ix2 i x) = ((DK Q K W D i x : ℝ) : EReal) := by
  pointwise [val_main_v56, val_main_v55, val_main_v51]
  refine (dot_real _ _ _ _ (fun k => v50_real G (hd x) k i) (fun k => v6_real G (hd x) k ⟨x.val % 64, by omega⟩)).trans (congrArg _ (Finset.sum_congr rfl fun k _ => ?_))
  rw [hc_hd]
theorem v59_real (G : Fed x0 x1 Q K W D) (i : Fin 16384) (x : Fin 512) : val_main_v59 (F := Ideal) x0 x1 (ix2 i x) = ((DQ Q K W D i x : ℝ) : EReal) := by
  pointwise [val_main_v59, val_main_v58, val_main_v57, val_main_v52]
  refine (dot_real _ _ _ _ (fun k => v50_real G (hd x) i k) (fun k => v8_real G (hd x) k ⟨x.val % 64, by omega⟩)).trans (congrArg _ (Finset.sum_congr rfl fun k _ => ?_))
  rw [hc_hd]

end Cert.SbIdeal.Sb
-- ==== Proof.Sb.Host.lean ====
/-
  The forward pass' output, as the kernel's host lines compute it.
-/
module

public import proofs.«01_k».proof.Proof.Gen.SbRefIdeal.Read
public import proofs.«01_k».proof.Proof.Sb.Frame

@[expose] public section

set_option maxRecDepth 16384

noncomputable section

namespace Cert.SbIdeal.Sb

open Cert.SbIdeal Cert.SbIdeal.Gen
open Idealize.ShloMosaic Idealize.ShloMosaic.TcCoe Idealize.SL.Sem
open Idealize.ShloMosaic.StableHlo

variable {F : FTy → Type} [FloatOps F] [Named F]
variable (m : (ℓ : Loc nD τ sig) → Buf (Elt F) ℓ)

set_option maxHeartbeats 2000000 in
/-- The host computes it from the packed array as the reference does. -/
theorem V_o (c : Dev nD) : V m c main_v32 = Cert.SbRefIdeal.Read.val_main_v32 (F := F) (m ((c : Thread nD τ).loc main_arg0)) := by
  unfold V
  simp only [opss, List.flatten_cons, List.flatten_nil, List.append_nil, hostOps0, hostOps0_1, hostOps0_2, hostOps0_3, hostOps0_4, hostOps0_5, hostOps0_6, hostOps0_7, hostOps0_8, hostOps0_9,
    List.cons_append, List.nil_append, TRef.binary, TRef.nullary, TRef.ternary, TRef.unary, TRef.toBuf, TRef.ofBuf, cast_eq]
  after_results_simp
  rfl

end Cert.SbIdeal.Sb
-- ==== Proof.Sb.Value.lean ====
/-
  The attention's backward call and the derivative of its forward lines compute the same three gradients where the
  packed queries, keys and values and the cotangent are finite.
-/
module

public import proofs.«01_k».proof.Defs
public import proofs.«01_k».proof.Proof.Gen.SbIdeal
public import proofs.«01_k».proof.Proof.Sb.Grid
public import proofs.«01_k».proof.Proof.Sb.Ref
public import proofs.«01_k».proof.Proof.Sb.Host
public import Idealize.ShloMosaic.Lib.ReduceAll
public import Idealize.ShloMosaic.Lib.Pipeline.ValueKit

@[expose] public section

set_option maxRecDepth 16384

noncomputable section

namespace Cert.SbIdeal.Sb

open Cert.SbIdeal Cert.SbIdeal.Gen
open Idealize.ShloMosaic Idealize.ShloMosaic.TcCoe Idealize.SL.Sem

/-- The precondition's own side conditions. -/
theorem pre_facts : Cert.Pre_sb_finite.Facts :=
  ⟨by decide, by decide, by decide, by decide, by decide, by decide, by decide⟩

/-- An extended real smaller than infinity in absolute value is a real number. -/
theorem real_of_lt (x : EReal) (h : FloatOps.cmpf (F := Ideal) (φ := .f32) .olt (FloatOps.absf (F := Ideal) (φ := .f32) x) (Ideal.ofBits .f32 0x7F800000#32) = 1#1) :
    x = ((x.toReal : ℝ) : EReal) := by
  rw [top_real] at h
  have h' : BitVec.ofBool (decide (max x (-x) < ⊤)) = 1#1 := h
  have h2 : max x (-x) < ⊤ := by
    by_contra hn
    rw [decide_eq_false hn] at h'
    exact absurd h' (by decide)
  refine (EReal.coe_toReal (fun e => ?_) (fun e => ?_)).symm
  · rw [e] at h2; simp at h2
  · rw [e] at h2; simp at h2

section Lift

attribute [local instance] pre_facts

/-- The precondition makes the arguments real numbers. -/
theorem fed_of_pre (x0 : Arr0) (x1 : Arr1) (h : Cert.Pre_sb_finite.fn (F := Ideal) x0 x1 = fun _ => 1#1) :
    Fed x0 x1 (fun i x => (x0 (ix2 i (⟨x.val, by omega⟩ : Fin 4096))).toReal) (fun i x => (x0 (ix2 i (⟨512 + x.val, by omega⟩ : Fin 4096))).toReal)
      (fun i x => (x0 (ix2 i (⟨1024 + x.val, by omega⟩ : Fin 4096))).toReal) (fun i x => (x1 (ix2 i x)).toReal) := by
  have h0 := congrFun h (Shape.Idx.first Cert.Pre_sb_finite.Facts.h_S_)
  unfold Cert.Pre_sb_finite.fn at h0
  dsimp only at h0
  obtain ⟨ha, hb⟩ := IntOp.andi_eq_one.1 h0
  have : Subsingleton Cert.Pre_sb_finite.S_.Idx := ⟨fun a b => funext fun k => k.elim0⟩
  have qa := fun i : Cert.Pre_sb_finite.S16384x1536.Idx => Host.reduce_andi_all _ _ _ _ _ ha i
  have qb := fun i : Cert.Pre_sb_finite.S16384x512.Idx => Host.reduce_andi_all _ _ _ _ _ hb i
  refine ⟨fun i x => ?_, fun i x => ?_, fun i x => ?_, fun i x => ?_⟩
  · refine real_of_lt _ ?_
    have := qa (ix2 i (⟨x.val, by omega⟩ : Fin 1536))
    pointwise at this
    exact this
  · refine real_of_lt _ ?_
    have := qa (ix2 i (⟨512 + x.val, by omega⟩ : Fin 1536))
    pointwise at this
    exact this
  · refine real_of_lt _ ?_
    have := qa (ix2 i (⟨1024 + x.val, by omega⟩ : Fin 1536))
    pointwise at this
    exact this
  · refine real_of_lt _ ?_
    have := qb (ix2 i x)
    pointwise at this
    exact this

/-- Kernel and reference end with the same three gradients. -/
theorem algebraic : Cert.algebraic_SbIdeal_SbRefIdeal_pre_sb_finite := by
  intro m ρ m' ρ' hpre hag
  have fed := fun c => fed_of_pre _ _ (hpre c)
  have giv : ∀ c, Given m c _ _ _ _ := fun c => ⟨fun i x => (congrFun (V_arg0 m c) _).trans ((fed c).q i x), fun i x => (congrFun (V_arg0 m c) _).trans ((fed c).k i x),
    fun i x => (congrFun (V_arg0 m c) _).trans ((fed c).v i x), fun i x => (congrFun (V_arg1 m c) _).trans ((fed c).d i x),
    fun i x => (congrFun (V_o m c) _).trans (v32_real (fed c) i x)⟩
  refine ⟨fun c => Cert.SbRefIdeal.Read.val_main_v59 (F := Ideal) (m (c.tc.loc main_arg0)) (m (c.tc.loc main_arg1)),
    fun c => Cert.SbRefIdeal.Read.val_main_v56 (F := Ideal) (m (c.tc.loc main_arg0)) (m (c.tc.loc main_arg1)),
    fun c => Cert.SbRefIdeal.Read.val_main_v54 (F := Ideal) (m (c.tc.loc main_arg0)) (m (c.tc.loc main_arg1)),
    (θ_run Cert.SbIdeal.defs _ _).mono (fun r h c => ?_) (run_results m ρ),
    (θ_run Cert.SbRefIdeal.defs _ _).mono (fun r h c => ?_) (Cert.SbRefIdeal.Value.run m' ρ')⟩
  · obtain ⟨h0, ⟨fK, fV, h1, h2⟩, ha⟩ := h.1 c
    refine ⟨h0.trans ((dq_final (giv c)).trans (funext fun y => ?_)), h1.trans (funext fun y => ?_), h2.trans (funext fun y => ?_), ha⟩
    · obtain ⟨i, x, rfl⟩ : ∃ i x, y = ix2 i x := ⟨y 0, y 1, eq_ix2 y⟩
      exact (v59_real (fed c) i x).symm
    · obtain ⟨i, x, rfl⟩ : ∃ i x, y = ix2 i x := ⟨y 0, y 1, eq_ix2 y⟩
      exact (dk_real (giv c) fK fV i x).trans (v56_real (fed c) i x).symm
    · obtain ⟨i, x, rfl⟩ : ∃ i x, y = ix2 i x := ⟨y 0, y 1, eq_ix2 y⟩
      exact (dv_real (giv c) fK fV i x).trans (v54_real (fed c) i x).symm
  · obtain ⟨e0, e1⟩ := hag c
    obtain ⟨h0, h1, h2, ha⟩ := h c
    rw [Cert.SbRefIdeal.Read.val_main_v59_eq, e0, e1] at h0
    rw [Cert.SbRefIdeal.Read.val_main_v56_eq, e0, e1] at h1
    rw [Cert.SbRefIdeal.Read.val_main_v54_eq, e0, e1] at h2
    exact ⟨h0, h1, h2, ha⟩

/-- The reference's frame. -/
theorem frame_ref : Cert.quiescent_SbRefIdeal := fun m ρ _ =>
  (θ_run Cert.SbRefIdeal.defs _ _).mono (fun r h => ⟨fun c => (h c).2.2.2, sem_eq_zero_of_no_sems (by decide) r.2⟩) (Cert.SbRefIdeal.Value.run m ρ)

/-- The named constants' values. -/
theorem preserves : Cert.preserves_Sb_SbIdeal :=
  ⟨IdealRules.named_const.statement _ _ _ _ _ rfl, IdealRules.named_const.statement _ _ _ _ _ rfl, IdealRules.named_const.statement _ _ _ _ _ rfl⟩

end Lift

end Cert.SbIdeal.Sb
-- ==== Proof.SbFwd.Run.lean ====
/-
  The stick-breaking attention's forward kernel: what one tile of keys does, what the key loop leaves after its tiles,
  what a grid point stores, and the run of the whole program with its frame.
-/
module

public import proofs.«01_k».proof.Proof.Gen.SbFwdIdeal
public import proofs.«01_k».proof.Proof.Gen.SbFwdIdeal.Skeleton
public import proofs.«01_k».proof.Proof.Gen.SbFwdIdeal.Launch
public import proofs.«01_k».proof.Proof.Gen.SbFwdIdeal.Points
public import Idealize.ShloMosaic.Lib.Tactic
public import Idealize.ShloMosaic.Lib.Pipeline.Kit
public import Idealize.ShloMosaic.Lib.Pipeline.Frame
public import Idealize.ShloMosaic.Lib.Pipeline.FrameBody
public import Idealize.ShloMosaic.Lib.VecWindow

@[expose] public section

set_option maxRecDepth 16384

noncomputable section

namespace Cert.SbFwdIdeal.Sb

open Cert.SbFwdIdeal Cert.SbFwdIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The loop's variants: the tiles still to visit. -/
abbrev 𝒱₀ : Variants := Variants.nat

/-- A memref's buffer on core `c`, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## The words of the tiles -/

/-- The word of the tile visited when `k` tiles remain: `k - 1`. -/
abbrev jw (k : ℕ) : BitVec 32 := Scalar.subi (BitVec.ofNat 32 k) 1#32

/-- Every tile the loop visits lies inside the arrays, its number is not negative, and the next one is one less. -/
theorem jw_facts (k : ℕ) (hk : k < 128) :
    k0_chk1 (jw (k + 1)) ∧ Scalar.subi (jw (k + 1)) 1#32 = jw k ∧ Scalar.cmpi .sge (jw (k + 1)) 0#32 = 1#1 := by
  have h : ∀ k : Fin 128, k0_chk1 (jw (k.val + 1)) ∧ Scalar.subi (jw (k.val + 1)) 1#32 = jw k.val
      ∧ Scalar.cmpi .sge (jw (k.val + 1)) 0#32 = 1#1 := by decide +kernel
  exact h ⟨k, hk⟩

theorem jw_zero : Scalar.cmpi .sge (jw 0) 0#32 = 0#1 := by decide

theorem andi_one (a b : BitVec 1) : Scalar.andi a b = 1#1 ↔ a = 1#1 ∧ b = 1#1 := by
  revert a b; decide

/-! ## The key loop -/

section Loop

variable (c : Dev nD) (i : grid0.Coords)
  (M3 : Memref sig .tc .vmem S16384x128 .bf16) (h3 : M3.IsWhole) (M4 : Memref sig .tc .vmem S16384x128 .bf16) (h4 : M4.IsWhole)
  (q2 : FVec F S512x128 .bf16) (tri : FVec F S256x128 .bf16)
  (fk : Bf (F := F) c M3) (fv : Bf (F := F) c M4)

/-- The rectangle of the tile visited when `k + 1` tiles remain: rows `128 k … 128 k + 127`. -/
abbrev rJ (k : ℕ) (hk : k < 128) : Rect S16384x128 :=
  Rect.unit (s := S16384x128) (k0_off2 (jw (k + 1))) S128x128.size (k0_off2_inb _ (jw_facts k hk).1)

/-- What the loop carries: the flag, the log-sum of each row, and the output so far. -/
structure St (F : FTy → Type) [FloatOps F] where
  fl : BitVec 32
  ca : FVec F S512x1 .f32
  acc : FVec F S512x128 .f32

/-- The flag after a tile: whether some row's carried log-sum is still above the threshold. -/
def tFl (q2 : FVec F S512x128 .bf16) (ca : FVec F S512x1 .f32) (kb : Vec F S128x128 .bf16) : BitVec 32 :=
  Scalar.extui (Scalar.cmpf .ogt (k0_pay6 (k0_pay31 q2 ca kb)) (Named.named κ "dead" 0xC31EB24B#32))

/-- The tile's keys and values, out of their staging buffers. -/
abbrev kT (k : ℕ) (hk : k < 128) : Vec F S128x128 .bf16 := M3.view.readAt (Elt F) (rJ k hk).toLoadRect fk
abbrev vT (k : ℕ) (hk : k < 128) : Vec F S128x128 .bf16 := M4.view.readAt (Elt F) (rJ k hk).toLoadRect fv

/-- One tile's step. -/
def tile (k : ℕ) (hk : k < 128) (s : St F) : St F where
  fl := tFl q2 s.ca (kT c M3 fk k hk)
  ca := k0_pay29 q2 s.ca (kT c M3 fk k hk)
  acc := k0_pay30 q2 tri s.ca s.acc (kT c M3 fk k hk) (vT c M4 fv k hk)

/-- The loop with `k` tiles to visit, downwards, as long as the flag is up. -/
def loop : ℕ → St F → St F
  | 0, s => s
  | k + 1, s => if hk : k < 128 then
      if Scalar.cmpi .sgt s.fl 0#32 = 1#1 then loop k (tile c M3 M4 q2 tri fk fv k hk s) else s
    else s

/-- The two buffers the loop reads, held whole. -/
def held : sProp 𝕄 := iprop(pt c M3 fk ∗ pt c M4 fv)

/-- The loop's specification with `k` tiles to visit from state `s`. -/
def spec (k : ℕ) (s : St F) : sWPT 𝕄 (BitVec 32 × BitVec 32 × FVec F S512x1 .f32 × FVec F S512x128 .f32) := do
  sWPT.consume (held c M3 M4 fk fv)
  let r ← sWPT.arbitrary
  sWPT.assume (r.2.2.2 = (loop c M3 M4 q2 tri fk fv k s).acc)
  sWPT.produce (held c M3 M4 fk fv)
  pure r

theorem spec_apply (k : ℕ) (s : St F) (K) :
    spec c M3 M4 q2 tri fk fv k s K
      = iprop(held c M3 M4 fk fv ∗ ∀ r : BitVec 32 × BitVec 32 × FVec F S512x1 .f32 × FVec F S512x128 .f32,
          ⌜r.2.2.2 = (loop c M3 M4 q2 tri fk fv k s).acc⌝ -∗ (held c M3 M4 fk fv -∗ K r)) := rfl

theorem loop_succ (k : ℕ) (hk : k < 128) (s : St F) (h : Scalar.cmpi .sgt s.fl 0#32 = 1#1) :
    loop c M3 M4 q2 tri fk fv (k + 1) s = loop c M3 M4 q2 tri fk fv k (tile c M3 M4 q2 tri fk fv k hk s) := by
  rw [loop, dif_pos hk, if_pos h]

theorem loop_stop (k : ℕ) (s : St F) (h : ¬ Scalar.cmpi .sgt s.fl 0#32 = 1#1) : loop c M3 M4 q2 tri fk fv k s = s := by
  cases k with
  | zero => rfl
  | succ k => simp [loop, h]

/-- The label's body meets the specification, by induction on the tiles to visit: the test fails when none remains or
    the flag is down, and otherwise the tile is done and the label called again with one tile fewer. -/
theorem spec_le (E : Set ℕ) :
    ∀ (k : ℕ), k ≤ 128 → ∀ (s : St F) K, spec c M3 M4 q2 tri fk fv k s K ⊢
      wp frame (wpE (defs₀ (F := F)) 𝒱₀ (c : Thread nD τ) (some k)) E
        (defs₀ (F := F) .tc 1 ⟨i, M3, h3, q2, tri, M4, h4, jw k, s.fl, s.ca, s.acc⟩) K := by
  intro k
  induction k with
  | zero =>
    intro _ s K
    rw [spec_apply]
    show _ ⊢ wp frame (wpE (defs₀ (F := F)) 𝒱₀ (c : Thread nD τ) (some 0)) E
        (cc0_while1 i M3 h3 q2 tri M4 h4 (jw 0) s.fl s.ca s.acc) K
    simp only [cc0_while1_eq_skeleton]; unfold cc0_while1_skel
    have htest : ¬ Scalar.andi (Scalar.cmpi .sge (jw 0) 0#32) (Scalar.cmpi .sgt s.fl 0#32) = 1#1 := by
      rw [jw_zero, andi_one]; rintro ⟨h, -⟩; exact absurd h (by decide)
    simp only [htest, ↓reduceIte, Prog.pure_eq_ret]
    iintro ⟨H, Hk⟩
    rw [wp_ret]; imodintro
    iapply Hk
    · ipureintro; rfl
    · iexact H
  | succ k ih =>
    intro hk1 s K
    have hk : k < 128 := by omega
    rw [spec_apply]
    show _ ⊢ wp frame (wpE (defs₀ (F := F)) 𝒱₀ (c : Thread nD τ) (some (k + 1))) E
        (cc0_while1 i M3 h3 q2 tri M4 h4 (jw (k + 1)) s.fl s.ca s.acc) K
    simp only [cc0_while1_eq_skeleton]; unfold cc0_while1_skel
    obtain ⟨hchk, hsucc, h1⟩ := jw_facts k hk
    by_cases hf : Scalar.andi (Scalar.cmpi .sge (jw (k + 1)) 0#32) (Scalar.cmpi .sgt s.fl 0#32) = 1#1
    · have hfl := ((andi_one _ _).mp hf).2
      rw [loop_succ (hk := hk) (h := hfl)]
      unfold held
      iintro ⟨⟨H3, H4⟩, Hk⟩
      sl_exec_parts
      have e : (spec_le.sl.v201 k) = jw k := hsucc
      rw [e]
      iapply (wp_call_spec 𝒱₀ (c : Thread nD τ) (some (k + 1)) E
        (spec c M3 M4 q2 tri fk fv k (tile c M3 M4 q2 tri fk fv k hk s)) k
        (fun u hu => by cases hu; exact Nat.lt_succ_self k) (ih (by omega) _))
      rw [spec_apply]; unfold held
      isplitl [H3 H4]
      · isplitl [H3]; · iexact H3
        iexact H4
      iintro %r %hr ⟨H3, H4⟩
      rw [wp_ret]; imodintro
      iapply Hk
      · ipureintro; exact hr
      · isplitl [H3]; · iexact H3
        iexact H4
    · have hfl : ¬ Scalar.cmpi .sgt s.fl 0#32 = 1#1 := fun h => hf ((andi_one _ _).mpr ⟨h1, h⟩)
      rw [loop_stop (h := hfl)]
      simp only [hf, ↓reduceIte, Prog.pure_eq_ret]
      iintro ⟨H, Hk⟩
      rw [wp_ret]; imodintro
      iapply Hk
      · ipureintro; rfl
      · iexact H

end Loop

/-! ## The two masked tiles on the diagonal -/

section Diag

variable (a1 : BitVec 32) (q2 : FVec F S512x128 .bf16) (kb1 vb1 kb0 vb0 : Vec F S128x128 .bf16)

/-- The lane numbers, and a query row's number within its block less the key's lane. -/
abbrev lane : IVec S512x128 32 := iota .tc S512x128 32 [1] iota_S512x128_d1_w32
def rel : IVec S512x128 32 := k0_pay13 lane 256#32 k0_pay10 k0_pay11 k0_pay12
/-- The triangular matrix that sums over the strictly later keys of a tile. -/
def tri : FVec F S256x128 .bf16 := k0_pay9

/-- The later of the two tiles: its mask, its masked log-sigmoids, and what it makes of the carry and the output. -/
def mk1 : IVec S512x128 1 := k0_pay19 a1 lane 256#32 k0_pay10 k0_pay11 k0_pay12
def ls1 : FVec F S512x128 .f32 := k0_pay20 a1 q2 lane 256#32 k0_pay10 k0_pay11 k0_pay12 kb1
def lh1 : FVec F S512x128 .bf16 := k0_pay21 a1 q2 lane 256#32 k0_pay10 k0_pay11 k0_pay12 kb1
def ca1 : FVec F S512x1 .f32 := k0_pay22 k0_pay14 (ls1 a1 q2 kb1)
def acc1 : FVec F S512x128 .f32 := k0_pay23 tri k0_pay14 k0_pay15 (k0_pay18 q2 kb1) (mk1 a1) (ls1 a1 q2 kb1) (lh1 a1 q2 kb1) vb1

/-- The earlier of the two tiles, likewise. -/
abbrev j0 : BitVec 32 := Scalar.addi (Scalar.muli a1 2#32) 0#32
def ca0 : FVec F S512x1 .f32 := k0_pay3 a1 rel (ca1 a1 q2 kb1) (j0 a1) (k0_pay25 q2 kb0) 256#32
def acc0 : FVec F S512x128 .f32 :=
  k0_pay4 a1 tri rel (ca1 a1 q2 kb1) (acc1 a1 q2 kb1 vb1) (j0 a1) (k0_pay25 q2 kb0) (k0_pay26 q2 kb0) 256#32 vb0

end Diag

/-! ## A grid point -/

section Point

variable (c : Dev nD) (i : grid0.Coords)
  (M2 : Memref sig .tc .vmem S256x128 .bf16) (h2 : M2.IsWhole)
  (M3 : Memref sig .tc .vmem S16384x128 .bf16) (h3 : M3.IsWhole) (M4 : Memref sig .tc .vmem S16384x128 .bf16) (h4 : M4.IsWhole)
  (M5 : Memref sig .tc .vmem S256x128 .f32) (h5 : M5.IsWhole)
  (f2 : Bf (F := F) c M2) (f3 : Bf (F := F) c M3) (f4 : Bf (F := F) c M4)

/-- A whole block, and the diagonal's two tiles of a whole column. -/
abbrev rB : Rect S256x128 := Rect.unit (s := S256x128) ![0, 0] S256x128.size inb_S256x128_S256x128_0_0
abbrev rD1 : Rect S16384x128 := Rect.unit (s := S16384x128) (k0_off1 i 1#32) S128x128.size (k0_off1_inb i 1)
abbrev rD0 : Rect S16384x128 := Rect.unit (s := S16384x128) (k0_off1 i 0#32) S128x128.size (k0_off1_inb i 0)

/-- The row block's number, the two heads' queries, and the diagonal's keys and values. -/
abbrev rowW : BitVec 32 := BitVec.ofNat 32 (i 1).val
abbrev q2 : FVec F S512x128 .bf16 := k0_pay8 (M2.view.readAt (Elt F) rB.toLoadRect f2)
abbrev kD1 : Vec F S128x128 .bf16 := M3.view.readAt (Elt F) (rD1 i).toLoadRect f3
abbrev vD1 : Vec F S128x128 .bf16 := M4.view.readAt (Elt F) (rD1 i).toLoadRect f4
abbrev kD0 : Vec F S128x128 .bf16 := M3.view.readAt (Elt F) (rD0 i).toLoadRect f3
abbrev vD0 : Vec F S128x128 .bf16 := M4.view.readAt (Elt F) (rD0 i).toLoadRect f4

/-- What the loop starts from: the diagonal's two tiles done. -/
def start : St F where
  fl := 1#32
  ca := ca0 (rowW i) (q2 c M2 f2) (kD1 c i M3 f3) (kD0 c i M3 f3)
  acc := acc0 (rowW i) (q2 c M2 f2) (kD1 c i M3 f3) (vD1 c i M4 f4) (kD0 c i M3 f3) (vD0 c i M4 f4)

/-- What the loop leaves. -/
def fin : St F := loop c M3 M4 (q2 c M2 f2) tri f3 f4 (2 * (i 1).val) (start c i M2 M3 M4 f2 f3 f4)

theorem jw_start : Scalar.subi (Scalar.muli (rowW i) 2#32) 1#32 = jw (2 * (i 1).val) := by
  have h : ∀ a : Fin 64, Scalar.subi (Scalar.muli (BitVec.ofNat 32 a.val) 2#32) 1#32 = jw (2 * a.val) := by decide +kernel
  exact h (i 1)

theorem row_lt : (i 1).val < 64 := (i 1).isLt

set_option maxHeartbeats 1000000 in
/-- THE POINT: the output of the two heads' query block is stored, and nothing else changes. -/
theorem sound_point (f5 : Bf (F := F) c M5) (Q : PUnit → sProp 𝕄) :
    iprop(pt c M2 f2 ∗ pt c M3 f3 ∗ pt c M4 f4 ∗ pt c M5 f5
        ∗ (iprop(pt c M2 f2 ∗ pt c M3 f3 ∗ pt c M4 f4
            ∗ pt c M5 (M5.view.writes (Elt F) f5 [⟨rB, k0_pay5 k0_pay7 (fin c i M2 M3 M4 f2 f3 f4).acc⟩])) -∗ Q ⟨⟩)) ⊢
      wp frame (wpE (defs₀ (F := F)) 𝒱₀ (c : Thread nD τ) none) Set.univ
        (cc0_sb_fwd i M2 h2 M3 h3 M4 h4 M5 h5) Q := by
  simp only [cc0_sb_fwd_eq_skeleton]; unfold cc0_sb_fwd_skel
  iintro ⟨H2, H3, H4, H5, HQ⟩
  sl_exec_parts
  rw [show sound_point.sl.v155 i = jw (2 * (i 1).val) from jw_start i]
  have hT := spec_le (F := F) c i M3 h3 M4 h4 (q2 c M2 f2) tri f3 f4 Set.univ
    (2 * (i 1).val) (by have := row_lt i; omega) (start c i M2 M3 M4 f2 f3 f4)
  iapply (wp_call_spec 𝒱₀ (c : Thread nD τ) none Set.univ (spec c M3 M4 (q2 c M2 f2) tri f3 f4
      (2 * (i 1).val) (start c i M2 M3 M4 f2 f3 f4)) (2 * (i 1).val) (fun u hu => nomatch hu) hT)
  rw [spec_apply]; unfold held
  isplitl [H3 H4]
  · isplitl [H3]; · iexact H3
    iexact H4
  iintro %r %hr ⟨H3, H4⟩
  obtain ⟨r0, r1, r2, r3⟩ := r
  dsimp only at hr
  subst hr
  sl_exec
  rw [wp_ret]; imodintro; iapply HQ
  isplitl [H2]; · iexact H2
  isplitl [H3]; · iexact H3
  isplitl [H4]; · iexact H4
  iexact H5

end Point

/-! ## A whole buffer, owned through its memref -/

section Whole

variable {sp : Space} {S : Shape} {e : EltTy} (c : Dev nD) {M : Memref sig .tc sp S e} (h : M.IsWhole)

include h in
theorem whole_set : M.view.set = Finset.univ := by
  obtain ⟨b, rfl, rfl, rfl, hm⟩ := h; cases hm; exact View.set_whole _

theorem owns_open (X : S.Idx → Elt F e) : (owns (c : Thread nD τ) M fullShare X : sProp 𝕄) ⊢ pt c M (h.unread X) := by
  unfold owns
  iintro ⟨%f, %hf, H⟩
  obtain rfl := h.eq_unread hf
  rw [whole_set h]
  iexact H

include h in
theorem owns_close (f : Bf (F := F) c M) (X : S.Idx → Elt F e) (hf : M.view.read (Elt F) f = X) :
    (pt c M f : sProp 𝕄) ⊢ owns (c : Thread nD τ) M fullShare X := by
  unfold owns
  iintro H
  iexists f
  isplitr; · ipureintro; exact hf
  rw [whole_set h]
  iexact H

end Whole

/-! ## The grid -/

variable (m : (ℓ : Loc nD τ sig) → Buf (Elt F) ℓ) (ρ : Dev nD → PrngReg)

/-- The buffers' contents when the kernel starts: no host operation runs before it. -/
def V (c : Dev nD) (b : Ref sig .tc) : Buf (Elt F) ((c : Thread nD τ).loc b) := m ((c : Thread nD τ).loc b)

/-- The block of window `w` at point `t`. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

section At

variable (c : Dev nD) (t : Fin (cfg0 (F := F)).N)

abbrev ms0_0 : Memref sig .tc .vmem S256x128 .bf16 := win0_0.stage ((cfg0 (F := F)).slots t 0)
abbrev hs0_0 : (ms0_0 t).IsWhole := hstage0_0 (((cfg0 (F := F)).slots t 0).cast nbuf0_0)
abbrev ms0_1 : Memref sig .tc .vmem S16384x128 .bf16 := win0_1.stage ((cfg0 (F := F)).slots t 1)
abbrev hs0_1 : (ms0_1 t).IsWhole := hstage0_1 (((cfg0 (F := F)).slots t 1).cast nbuf0_1)
abbrev ms0_2 : Memref sig .tc .vmem S16384x128 .bf16 := win0_2.stage ((cfg0 (F := F)).slots t 2)
abbrev hs0_2 : (ms0_2 t).IsWhole := hstage0_2 (((cfg0 (F := F)).slots t 2).cast nbuf0_2)
abbrev ms0_3 : Memref sig .tc .vmem S256x128 .f32 := win0_3.stage ((cfg0 (F := F)).slots t 3)
abbrev hs0_3 : (ms0_3 t).IsWhole := hstage0_3 (((cfg0 (F := F)).slots t 3).cast nbuf0_3)

/-- The output block of point `t`. -/
def oAt : FVec F S256x128 .f32 :=
  k0_pay5 k0_pay7 (fin c (grid0.coords t) (ms0_0 t) (ms0_1 t) (ms0_2 t)
    ((hs0_0 t).unread (iblk m c 0 t)) ((hs0_1 t).unread (iblk m c 1 t)) ((hs0_2 t).unread (iblk m c 2 t))).acc

end At

/-- The pipeline's proof data. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => oAt m c t
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = oAt m c t := by dsimp only [dats]; rfl

/-- An input window's buffer holds its block at every point, fetched there or not. -/
theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The one store of the output covers its block. -/
theorem read_out (t : Fin (cfg0 (F := F)).N) (c : Dev nD) (f : Bf (F := F) c (ms0_3 t)) (X : FVec F S256x128 .f32) :
    (ms0_3 t).view.read (Elt F) ((ms0_3 t).view.writes (Elt F) f [⟨rB, X⟩]) = X :=
  View.read_writes_full (ms0_3 t).view f inb_S256x128_S256x128_0_0 X []

/-- A point's staging buffers: each input's block, and anything in the result's. -/
theorem sound_body (c : Dev nD) (t : Fin (cfg0 (F := F)).N) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d)))
      ⊢ wp frame (wpE (defs₀ (F := F)) 𝒱₀ (c : Thread nD τ) none) Set.univ (bodyAt0 t) (fun _ =>
        iprop((dats m 0 c).Φ t.succ ∗ (dats m 0 c).owesAt () t.succ
          ∗ owns (c : Thread nD τ) (ms0_0 t) fullShare ((dats m 0 c).after 0 t)
          ∗ owns (c : Thread nD τ) (ms0_1 t) fullShare ((dats m 0 c).after 1 t)
          ∗ owns (c : Thread nD τ) (ms0_2 t) fullShare ((dats m 0 c).after 2 t)
          ∗ owns (c : Thread nD τ) (ms0_3 t) fullShare ((dats m 0 c).after 3 t))) := by
  rw [after0_0, after0_1, after0_2, after0_3,
    show (dats m 0 c).Φ t.succ = (dats m 0 c).Φ t.castSucc from rfl,
    show (dats m 0 c).owesAt () t.succ = (dats m 0 c).owesAt () t.castSucc from rfl]
  simp only [before0_0, before0_1, before0_2]
  iintro ⟨HΦ, HO, ⟨%d0, H0⟩, ⟨%d1, H1⟩, ⟨%d2, H2⟩, ⟨%d3, H3⟩⟩
  ihave H0 := (owns_open c (hs0_0 t) (iblk m c 0 t)) $$ H0
  ihave H1 := (owns_open c (hs0_1 t) (iblk m c 1 t)) $$ H1
  ihave H2 := (owns_open c (hs0_2 t) (iblk m c 2 t)) $$ H2
  ihave H3 := (owns_open c (hs0_3 t) ((dats m 0 c).before 3 t d3)) $$ H3
  iapply (sound_point c (grid0.coords t) (ms0_0 t) (hs0_0 t) (ms0_1 t) (hs0_1 t) (ms0_2 t) (hs0_2 t) (ms0_3 t) (hs0_3 t))
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iapply (owns_close c (hs0_0 t) _ _ ((hs0_0 t).read_unread _)); iexact H0
  isplitl [H1]; · iapply (owns_close c (hs0_1 t) _ _ ((hs0_1 t).read_unread _)); iexact H1
  isplitl [H2]; · iapply (owns_close c (hs0_2 t) _ _ ((hs0_2 t).read_unread _)); iexact H2
  iapply (owns_close c (hs0_3 t) _ _ (read_out t c _ _)); iexact H3

/-- The body obligation at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [] trivial trivial fun c => main_chain c

set_option backward.isDefEq.respectTransparency.types false in
/-- Every execution ends with the windows' arrays as the pipeline computes them and every semaphore counter at zero. -/
theorem run_main : θ_run defs (onTc (τ := τ) (main (F := F))) ⟨m, fun _ => 0, ρ⟩
    (fun r => (Pipeline.FramePost cfgs (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m) (hA := A_eq m) (hΦ := fun _ _ => rfl)

/-- The run, read at the argument and at the result. -/
theorem run_results : θ_run defs (onTc (τ := τ) (main (F := F))) ⟨m, fun _ => 0, ρ⟩ (fun r =>
    (∀ c : Dev nD, r.2.mem ((c : Thread nD τ).loc main_v0) = (dats m 0 c).arrAt 3 (cfg0 (F := F)).N
      ∧ r.2.mem ((c : Thread nD τ).loc main_arg0) = m ((c : Thread nD τ).loc main_arg0)) ∧ r.2.sem = fun _ => 0) :=
  (θ_run defs _ _).mono (fun r h => ⟨fun c => ⟨(h.1 c).1 3,
    (((h.1 c).1 0).trans ((dats m 0 c).arrAt_in 0 rfl _)).trans (A_eq m c 0)⟩, h.2⟩) (run_main m ρ)

/-- The frame, at any float values. -/
theorem frame : θ_run (defs (F := F)) (onTc (τ := τ) (main (F := F))) ⟨m, fun _ => 0, ρ⟩ (fun r => (∀ c : Dev nD,
      r.2.mem ((c : Thread nD τ).loc main_arg0) = m ((c : Thread nD τ).loc main_arg0)) ∧ r.2.sem = fun _ => 0) :=
  (θ_run _ _ _).mono (fun _ h => ⟨fun c => (h.1 c).2, h.2⟩) (run_results m ρ)

end Cert.SbFwdIdeal.Sb

end
-- ==== Proof.SbFwd.Tile.lean ====
/-
  The forward kernel's tiles at the ideal instance: what its operations compute of 512 query rows and 128 keys, as the
  real numbers that Sb/Tile.lean names.
-/
module

public import proofs.«01_k».proof.Proof.SbFwd.Run
public import proofs.«01_k».proof.Proof.Sb.Tile
public import Idealize.ShloMosaic.Lib.Pointwise

@[expose] public section

set_option maxRecDepth 16384

noncomputable section

namespace Cert.SbFwdIdeal.Sb

open Cert.SbFwdIdeal Cert.SbFwdIdeal.Gen

open Idealize.ShloMosaic
open Idealize.ShloMosaic.TcCoe
open Cert.SbIdeal.Sb (row_word128 row_word256 sgt_small slt_diff off1 off0 select_ite coe_sum coe_select softplus_real split_real
  rz rlf rls rw' rls_true M1 M0 zr lanes)

/-! ## The integer words -/

/-- The strict triangle, in two copies. -/
theorem tri_apply (r : Fin 256) (l : Fin 128) : (tri (F := Ideal)) (ix2 r l) = if l.val < r.val % 128 then 1 else 0 := by
  pointwise [tri, k0_pay9]
  rw [row_word128, sgt_small _ _ (by omega) (by omega), select_ite]

/-- The width is not negative, read either way. -/
theorem width_word : Scalar.cmpi CmpIPredicate.slt 256#32 0#32
    = Scalar.cmpi CmpIPredicate.slt (Scalar.select (Scalar.cmpi CmpIPredicate.eq 256#32 0#32) 1#32 256#32) 0#32 := by decide

/-- The mask of the later of the diagonal's tiles. -/
theorem mk1_apply (b : Fin 64) (r : Fin 512) (l : Fin 128) :
    mk1 (BitVec.ofNat 32 b.val) (ix2 r l) = if 128 + l.val < r.val % 256 then 1#1 else 0#1 := by
  pointwise [mk1, k0_pay19, k0_pay13, k0_pay10, k0_pay11, k0_pay12, lane]
  rw [width_word, row_word256, slt_diff _ _ (by omega) (by omega), off1]
  exact if_congr (by omega) rfl rfl

/-- The mask of the earlier one. -/
theorem mk0_apply (b : Fin 64) (r : Fin 512) (l : Fin 128) :
    k0_pay1 (BitVec.ofNat 32 b.val) rel (j0 (BitVec.ofNat 32 b.val)) 256#32 (ix2 r l) = if l.val < r.val % 256 then 1#1 else 0#1 := by
  pointwise [k0_pay1, rel, k0_pay13, k0_pay10, k0_pay11, k0_pay12, lane]
  rw [width_word, row_word256, slt_diff _ _ (by omega) (by omega)]
  unfold j0
  rw [off0]
  exact if_congr (by omega) rfl rfl

/-! ## The constants -/

theorem scale_eq : (Named.named κ "scale_log2e" 0x3E38AA3B#32 : Ideal .f32) = (((Real.log 256)⁻¹ : ℝ) : EReal) := by
  simp [Named.named, κ]
theorem log2e_eq : (Named.named κ "log2e" 0x3FB8AA3B#32 : Ideal .f32) = (((Real.log 2)⁻¹ : ℝ) : EReal) := by
  simp [Named.named, κ]
theorem dead_eq : (Named.named κ "dead" 0xC31EB24B#32 : Ideal .f32) = ⊥ := by
  simp [Named.named, κ]

/-! ## A tile -/

section Lift

variable {q2 : FVec Ideal S512x128 .bf16} {kb vb : Vec Ideal S128x128 .bf16} {ca : FVec Ideal S512x1 .f32} {acc : FVec Ideal S512x128 .f32}
  {qr : Fin 512 → Fin 128 → ℝ} {kr vr : Fin 128 → Fin 128 → ℝ} {car : Fin 512 → ℝ} {accr : Fin 512 → Fin 128 → ℝ} (b : Fin 64)
  (hq : ∀ ρ e, q2 (ix2 ρ e) = (qr ρ e : EReal)) (hk : ∀ ρ e, kb (ix2 ρ e) = (kr ρ e : EReal)) (hv : ∀ ρ e, vb (ix2 ρ e) = (vr ρ e : EReal))
  (hca : ∀ ρ, ca (ix2 ρ 0) = (car ρ : EReal)) (hacc : ∀ ρ e, acc (ix2 ρ e) = (accr ρ e : EReal))

local notation "B" => BitVec.ofNat 32 (Fin.val b)

include hq hk

theorem z_real (ρ : Fin 512) (l : Fin 128) : k0_pay27 q2 kb (ix2 ρ l) = (rz qr kr ρ l : EReal) := by
  pointwise [k0_pay27]
  rw [scale_eq]
  simp only [hq, hk, ← EReal.coe_mul, coe_sum]
  rfl

theorem lf_real (ρ : Fin 512) (l : Fin 128) : k0_pay28 q2 kb (ix2 ρ l) = (rlf qr kr ρ l : EReal) := by
  pointwise [k0_pay28]
  rw [log2e_eq, z_real hq hk, softplus_real]
  rfl

/-- The same sums at the diagonal's tiles. -/
theorem lf1_real (ρ : Fin 512) (l : Fin 128) : k0_pay17 q2 kb (ix2 ρ l) = (rlf qr kr ρ l : EReal) := lf_real hq hk ρ l
theorem lf0_real (ρ : Fin 512) (l : Fin 128) : k0_pay25 q2 kb (ix2 ρ l) = (rlf qr kr ρ l : EReal) := lf_real hq hk ρ l
theorem lg1_real (ρ : Fin 512) (l : Fin 128) : k0_pay18 q2 kb (ix2 ρ l) = ((rz qr kr ρ l + rlf qr kr ρ l : ℝ) : EReal) :=
  (congrArg₂ (fun x y : EReal => x + y) (z_real hq hk ρ l) (lf_real hq hk ρ l)).trans (EReal.coe_add _ _).symm
theorem lg0_real (ρ : Fin 512) (l : Fin 128) : k0_pay26 q2 kb (ix2 ρ l) = ((rz qr kr ρ l + rlf qr kr ρ l : ℝ) : EReal) :=
  lg1_real hq hk ρ l

include hca in
theorem tCa_real (ρ : Fin 512) : k0_pay29 q2 ca kb (ix2 ρ 0) = ((car ρ + ∑ l, rls qr kr (fun _ _ => True) ρ l : ℝ) : EReal) := by
  pointwise [k0_pay29]
  simp only [lf_real hq hk, hca, coe_sum, ← EReal.coe_add, rls_true]

include hca hv hacc in
theorem tAcc_real (ρ : Fin 512) (e : Fin 128) :
    k0_pay30 q2 tri ca acc kb vb (ix2 ρ e) = ((accr ρ e + ∑ l, rw' qr kr (fun _ _ => True) car ρ l * vr l e : ℝ) : EReal) := by
  pointwise [k0_pay30]
  simp only [z_real hq hk, lf_real hq hk, hca, hv, hacc, tri_apply]
  refine Eq.trans (congrArg (fun y : EReal => (accr ρ e : EReal) + y)
    (Finset.sum_congr rfl (g := fun l => ((rw' qr kr (fun _ _ => True) car ρ l * vr l e : ℝ) : EReal)) fun l _ => ?_)) ?_
  · rw [split_real (rlf qr kr ρ) (fun x => l.val < x), ← EReal.coe_add, ← EReal.coe_add, ← EReal.coe_add]
    refine (congrArg (fun y : EReal => y * (vr l e : EReal)) (Ideal.exp2_coe _)).trans ?_
    rw [← EReal.coe_mul, rw', if_pos trivial]
    simp only [rls_true]
  · rw [coe_sum, ← EReal.coe_add]

include hca in
/-- The flag stays up: a real log-sum is above −∞. -/
theorem tFl_up : Scalar.cmpi .sgt (tFl q2 ca kb) 0#32 = 1#1 := by
  have h : (⊥ : EReal) < k0_pay6 (k0_pay31 q2 ca kb) := by
    pointwise [k0_pay6, k0_pay31]
    rw [Finset.lt_fold_max]
    refine Or.inr ⟨0, Finset.mem_univ _, ?_⟩
    rw [tCa_real hq hk hca]
    exact EReal.bot_lt_coe _
  have h2 : Scalar.cmpf .ogt (k0_pay6 (k0_pay31 q2 ca kb)) (⊥ : Ideal .f32) = 1#1 := by
    show Ideal.cmp .ogt _ _ = 1#1
    unfold Ideal.cmp
    rw [decide_eq_true h]; rfl
  unfold tFl
  rw [dead_eq, h2]
  rfl

/-! ## The diagonal's tiles -/

theorem ls1_real (ρ : Fin 512) (l : Fin 128) : ls1 B q2 kb (ix2 ρ l) = (rls qr kr M1 ρ l : EReal) := by
  have hm := mk1_apply b
  unfold mk1 at hm
  pointwise [ls1, k0_pay20]
  rw [hm, lf1_real hq hk, select_ite, ← EReal.coe_zero, coe_select]
  rfl

theorem ca1_real (ρ : Fin 512) : ca1 B q2 kb (ix2 ρ 0) = ((0 + ∑ l, rls qr kr M1 ρ l : ℝ) : EReal) := by
  pointwise [ca1, k0_pay22, k0_pay14]
  simp only [ls1_real b hq hk, coe_sum, zero_add]

include hv in
theorem acc1_real (ρ : Fin 512) (e : Fin 128) :
    acc1 B q2 kb vb (ix2 ρ e) = ((0 + ∑ l, rw' qr kr M1 zr ρ l * vr l e : ℝ) : EReal) := by
  have h := ls1_real b hq hk
  have hh : ∀ ρ l, lh1 B q2 kb (ix2 ρ l) = (rls qr kr M1 ρ l : EReal) := h
  pointwise [acc1, k0_pay23, k0_pay14, k0_pay15]
  simp only [h, hh, mk1_apply, tri_apply, lg1_real hq hk, hv, select_ite]
  rw [← coe_sum]
  refine Finset.sum_congr rfl fun l _ => ?_
  rw [split_real (rls qr kr M1 ρ) (fun x => l.val < x), ← EReal.coe_add, ← EReal.coe_zero]
  refine (congrArg (fun y : EReal => if M1 ρ l then y * (vr l e : EReal) else (0 : ℝ).toEReal) (Ideal.exp2_coe _)).trans ?_
  rw [← EReal.coe_mul, coe_select, rw', zr, add_zero, ite_mul, zero_mul]

theorem ls0_real (ρ : Fin 512) (l : Fin 128) :
    k0_pay2 B rel (j0 B) (k0_pay25 q2 kb) 256#32 (ix2 ρ l) = (rls qr kr M0 ρ l : EReal) := by
  pointwise [k0_pay2]
  rw [mk0_apply, lf0_real hq hk, select_ite, ← EReal.coe_zero, coe_select]
  rfl

include hca in
theorem ca0_real (ρ : Fin 512) :
    k0_pay3 B rel ca (j0 B) (k0_pay25 q2 kb) 256#32 (ix2 ρ 0) = ((car ρ + ∑ l, rls qr kr M0 ρ l : ℝ) : EReal) := by
  pointwise [k0_pay3]
  simp only [ls0_real b hq hk, hca, coe_sum, ← EReal.coe_add]

include hca hv hacc in
theorem acc0_real (ρ : Fin 512) (e : Fin 128) :
    k0_pay4 B tri rel ca acc (j0 B) (k0_pay25 q2 kb) (k0_pay26 q2 kb) 256#32 vb (ix2 ρ e)
      = ((accr ρ e + ∑ l, rw' qr kr M0 car ρ l * vr l e : ℝ) : EReal) := by
  pointwise [k0_pay4]
  simp only [ls0_real b hq hk, mk0_apply, tri_apply, lg0_real hq hk, hv, hca, hacc, select_ite]
  rw [EReal.coe_add, ← coe_sum]
  refine congrArg _ (Finset.sum_congr rfl fun l _ => ?_)
  rw [split_real (rls qr kr M0 ρ) (fun x => l.val < x), ← EReal.coe_add, ← EReal.coe_add, ← EReal.coe_zero]
  refine (congrArg (fun y : EReal => if M0 ρ l then y * (vr l e : EReal) else (0 : ℝ).toEReal) (Ideal.exp2_coe _)).trans ?_
  rw [← EReal.coe_mul, coe_select, rw', ite_mul, zero_mul]

end Lift

/-! ## The two heads of a pair, one above the other -/

theorem pay7_apply (r : Fin 256) (e : Fin 128) : k0_pay7 (ix2 r e) = if e.val < 64 then 1#1 else 0#1 :=
  Cert.SbIdeal.Sb.pay8_apply r e

theorem q2_real {x : Vec Ideal S256x128 .bf16} {xr : Fin 256 → Fin 128 → ℝ} (hx : ∀ r e, x (ix2 r e) = (xr r e : EReal)) (ρ : Fin 512) (e : Fin 128) :
    k0_pay8 x (ix2 ρ e) = (lanes xr ρ e : EReal) :=
  Cert.SbIdeal.Sb.q2_real hx ρ e

/-- Of the doubled block each column keeps the rows of its own head. -/
theorem pay5_real {d : FVec Ideal S512x128 .f32} {dr : Fin 512 → Fin 128 → ℝ} (hd : ∀ ρ e, d (ix2 ρ e) = (dr ρ e : EReal)) (r : Fin 256) (e : Fin 128) :
    k0_pay5 k0_pay7 d (ix2 r e) = (dr ⟨256 * (e.val / 64) + r.val, by omega⟩ e : EReal) :=
  Cert.SbIdeal.Sb.pay5_real hd r e

end Cert.SbFwdIdeal.Sb
end
-- ==== Proof.SbFwd.Value.lean ====
/-
  The attention's forward call and its forward lines compute the same output where the packed queries, keys and values
  are finite.
-/
module

public import proofs.«01_k».proof.Defs
public import proofs.«01_k».proof.Proof.SbFwd.Tile
public import proofs.«01_k».proof.Proof.Sb.Value
public import proofs.«01_k».proof.Proof.Gen.SbFwdRefIdeal.Run
public import proofs.«01_k».proof.Proof.Gen.SbFwdRefIdeal.Read

@[expose] public section

set_option maxRecDepth 16384

noncomputable section

namespace Cert.SbFwdIdeal.Sb

open Cert.SbFwdIdeal Cert.SbFwdIdeal.Gen

open Idealize.ShloMosaic
open Idealize.ShloMosaic.TcCoe Idealize.ShloMosaic.Tactic Idealize.SL.Sem
open Idealize.ShloMosaic.Pipeline (Dat)
open Cert.SbIdeal.Sb (rls rw' M1 M0 zr lanes key kt tail tail_succ tail_eq_zero tail_zero rowI rowLf rowWt rls_eq rw_eq lf_out w_out
  readAt_tile pc pr hd blockOf colOf OO rowWt_eq hd_pc rr_eq Fed v32_real real_of_lt)

/-! ## The state after each tile -/

section State

variable (b : ℕ) (qb : Fin 256 → Fin 128 → ℝ) (kc vc : Fin 16384 → Fin 128 → ℝ)

/-- With the tiles from `k` on done: the carry holds the log-sigmoids' sum over the keys from `128 k` on, and the output
    the weighted sum of those keys' values. -/
structure Good (k : ℕ) (s : St Ideal) : Prop where
  fl : Scalar.cmpi .sgt s.fl 0#32 = 1#1
  ca : ∀ ρ, s.ca (ix2 ρ 0) = ((tail (rowLf b qb kc ρ) k / Real.log 2 : ℝ) : EReal)
  acc : ∀ ρ e, s.acc (ix2 ρ e) = ((tail (fun j => rowWt b qb kc ρ j * vc j e) k : ℝ) : EReal)

variable {b qb kc vc} {c : Dev nD} {q2 : FVec Ideal S512x128 .bf16} (hq : ∀ ρ e, q2 (ix2 ρ e) = (lanes qb ρ e : EReal))
  (M3 : Memref sig .tc .vmem S16384x128 .bf16) (M4 : Memref sig .tc .vmem S16384x128 .bf16)
  (fk : Bf (F := Ideal) c M3) (fv : Bf (F := Ideal) c M4)
  (hfk : ∀ j e, M3.view.read (Elt Ideal) fk (ix2 j e) = (kc j e : EReal)) (hfv : ∀ j e, M4.view.read (Elt Ideal) fv (ix2 j e) = (vc j e : EReal))

theorem off2_eq (k : ℕ) (hk : k < 128) : k0_off2 (jw (k + 1)) = ![128 * k, 0] := by
  have h : ∀ k : Fin 128, k0_off2 (jw (k.val + 1)) = ![128 * k.val, 0] := by decide +kernel
  exact h ⟨k, hk⟩

/-- A tile of a column of the state's arrays. -/
theorem tile_at {M : Memref sig .tc .vmem S16384x128 .bf16} {f : Bf (F := Ideal) c M} {x : Fin 16384 → Fin 128 → ℝ}
    (hf : ∀ j e, M.view.read (Elt Ideal) f (ix2 j e) = (x j e : EReal)) {off : Fin 2 → ℕ}
    (inb : ∀ a : Fin 2, off a + S128x128.size a ≤ S16384x128.size a) (k : ℕ) (hk : k < 128) (hoff : off = ![128 * k, 0]) (l e : Fin 128) :
    M.view.readAt (Elt Ideal) (Rect.unit (s := S16384x128) off S128x128.size inb).toLoadRect f (ix2 l e) = ((kt x k hk l e : ℝ) : EReal) := by
  subst hoff
  refine Eq.trans (congrArg (M.view.read (Elt Ideal) f) ?_) (hf (key k hk l) e)
  funext a
  match a with
  | ⟨0, _⟩ => exact Fin.ext (by show 128 * k + 1 * l.val = 128 * k + l.val; omega)
  | ⟨1, _⟩ => exact Fin.ext (by show 0 + 1 * e.val = e.val; omega)

include hq hfk hfv in
/-- A tile before the row block keeps the state good. -/
theorem tile_good (k : ℕ) (hk : k < 128) (hb : k < 2 * b) (s : St Ideal) (h : Good b qb kc vc (k + 1) s) :
    Good b qb kc vc k (tile c M3 M4 q2 tri fk fv k hk s) := by
  have hM : ∀ (ρ : Fin 512) (l : Fin 128), (fun _ _ => True : Fin 512 → Fin 128 → Prop) ρ l ↔ (key k hk l).val < rowI b ρ :=
    fun ρ l => ⟨fun _ => by show 128 * k + l.val < 256 * b + ρ.val % 256; omega, fun _ => trivial⟩
  have hk' : ∀ l e, kT c M3 fk k hk (ix2 l e) = _ := tile_at hfk _ k hk (off2_eq k hk)
  have hv' : ∀ l e, vT c M4 fv k hk (ix2 l e) = _ := tile_at hfv _ k hk (off2_eq k hk)
  refine ⟨tFl_up hq hk' h.ca, fun ρ => ?_, fun ρ e => ?_⟩
  · refine (tCa_real hq hk' h.ca ρ).trans (congrArg _ ?_)
    rw [tail_succ _ k hk, add_div, Finset.sum_div]
    exact congrArg _ (Finset.sum_congr rfl fun l _ => rls_eq qb kc k hk _ hM ρ l)
  · refine (tAcc_real hq hk' hv' h.ca h.acc ρ e).trans (congrArg _ ?_)
    rw [tail_succ _ k hk]
    exact congrArg _ (Finset.sum_congr rfl fun l _ => by rw [rw_eq qb kc k hk _ hM (fun _ => rfl) ρ l])

include hq hfk hfv in
/-- The loop from a good state visits every tile before the row block. -/
theorem loop_good (k : ℕ) (hk : k ≤ 128) (hb : k ≤ 2 * b) (s : St Ideal) (h : Good b qb kc vc k s) :
    Good b qb kc vc 0 (loop c M3 M4 q2 tri fk fv k s) := by
  induction k generalizing s with
  | zero => exact h
  | succ k ih =>
    rw [loop_succ c M3 M4 q2 tri fk fv k (by omega) s h.fl]
    exact ih (by omega) (by omega) _ (tile_good hq M3 M4 fk fv hfk hfv k (by omega) (by omega) s h)

end State

/-! ## The point -/

section Whole

variable (c : Dev nD) (i : grid0.Coords) (M2 : Memref sig .tc .vmem S256x128 .bf16) (M3 M4 : Memref sig .tc .vmem S16384x128 .bf16)
  (f2 : Bf (F := Ideal) c M2) (f3 : Bf (F := Ideal) c M3) (f4 : Bf (F := Ideal) c M4)
  {qb : Fin 256 → Fin 128 → ℝ} {kc vc : Fin 16384 → Fin 128 → ℝ}
  (hx2 : ∀ r e, M2.view.readAt (Elt Ideal) rB.toLoadRect f2 (ix2 r e) = (qb r e : EReal))
  (hf3 : ∀ j e, M3.view.read (Elt Ideal) f3 (ix2 j e) = (kc j e : EReal)) (hf4 : ∀ j e, M4.view.read (Elt Ideal) f4 (ix2 j e) = (vc j e : EReal))

theorem offD1 : k0_off1 i 1#32 = ![128 * (2 * (i 1).val + 1), 0] :=
  (k0_off1_eq i ⟨1, by decide⟩).trans (congrArg (fun n => ![n, 0]) (by show 256 * (i 1).val + 128 * 1 = 128 * (2 * (i 1).val + 1); omega))
theorem offD0 : k0_off1 i 0#32 = ![128 * (2 * (i 1).val), 0] :=
  (k0_off1_eq i ⟨0, by decide⟩).trans (congrArg (fun n => ![n, 0]) (by show 256 * (i 1).val + 128 * 0 = 128 * (2 * (i 1).val); omega))

include hx2 hf3 hf4 in
/-- The diagonal's two tiles leave a good state. -/
theorem start_good : Good (i 1).val qb kc vc (2 * (i 1).val) (start c i M2 M3 M4 f2 f3 f4) := by
  have hi := row_lt i
  have k1 : 2 * (i 1).val + 1 < 128 := by omega
  have k0 : 2 * (i 1).val < 128 := by omega
  have hq : ∀ ρ e, q2 c M2 f2 (ix2 ρ e) = (lanes qb ρ e : EReal) := q2_real hx2
  have m1 : ∀ ρ l, M1 ρ l ↔ (key (2 * (i 1).val + 1) k1 l).val < rowI (i 1).val ρ := fun ρ l => by
    show 128 + l.val < ρ.val % 256 ↔ 128 * (2 * (i 1).val + 1) + l.val < 256 * (i 1).val + ρ.val % 256; omega
  have m0 : ∀ ρ l, M0 ρ l ↔ (key (2 * (i 1).val) k0 l).val < rowI (i 1).val ρ := fun ρ l => by
    show l.val < ρ.val % 256 ↔ 128 * (2 * (i 1).val) + l.val < 256 * (i 1).val + ρ.val % 256; omega
  have out : ∀ ρ (s : Fin 16384), 128 * (2 * (i 1).val + 1 + 1) ≤ s.val → rowI (i 1).val ρ ≤ s.val := fun ρ s h => by
    show 256 * (i 1).val + ρ.val % 256 ≤ s.val; omega
  have tca : ∀ ρ, zr ρ = tail (rowLf (i 1).val qb kc ρ) (2 * (i 1).val + 1 + 1) / Real.log 2 := fun ρ => by
    rw [tail_eq_zero _ _ (fun s h => lf_out _ _ s (out ρ s h)), zero_div]
  have hk1 : ∀ l e, kD1 c i M3 f3 (ix2 l e) = _ := tile_at hf3 _ _ k1 (offD1 i)
  have hv1 : ∀ l e, vD1 c i M4 f4 (ix2 l e) = _ := tile_at hf4 _ _ k1 (offD1 i)
  have hk0 : ∀ l e, kD0 c i M3 f3 (ix2 l e) = _ := tile_at hf3 _ _ k0 (offD0 i)
  have hv0 : ∀ l e, vD0 c i M4 f4 (ix2 l e) = _ := tile_at hf4 _ _ k0 (offD0 i)
  have hca : ∀ ρ, ca1 (rowW i) (q2 c M2 f2) (kD1 c i M3 f3) (ix2 ρ 0) = ((tail (rowLf (i 1).val qb kc ρ) (2 * (i 1).val + 1) / Real.log 2 : ℝ) : EReal) := fun ρ => by
    refine (ca1_real (i 1) hq hk1 ρ).trans (congrArg _ ?_)
    rw [tail_succ _ _ k1, add_div, ← tca ρ, Finset.sum_div]
    exact congrArg _ (Finset.sum_congr rfl fun l _ => rls_eq qb kc _ k1 _ m1 ρ l)
  have hacc : ∀ ρ e, acc1 (rowW i) (q2 c M2 f2) (kD1 c i M3 f3) (vD1 c i M4 f4) (ix2 ρ e)
      = ((tail (fun j => rowWt (i 1).val qb kc ρ j * vc j e) (2 * (i 1).val + 1) : ℝ) : EReal) := fun ρ e => by
    refine (acc1_real (i 1) hq hk1 hv1 ρ e).trans (congrArg _ ?_)
    rw [tail_succ _ _ k1, tail_eq_zero _ _ (fun s h => by rw [rowWt, w_out _ _ s (out ρ s h), zero_mul])]
    exact congrArg _ (Finset.sum_congr rfl fun l _ => by rw [rw_eq qb kc _ k1 _ m1 tca ρ l])
  refine ⟨rfl, fun ρ => ?_, fun ρ e => ?_⟩
  · refine (ca0_real (i 1) hq hk0 hca ρ).trans (congrArg _ ?_)
    rw [tail_succ _ _ k0, add_div, Finset.sum_div]
    exact congrArg _ (Finset.sum_congr rfl fun l _ => rls_eq qb kc _ k0 _ m0 ρ l)
  · refine (acc0_real (i 1) hq hk0 hv0 hca hacc ρ e).trans (congrArg _ ?_)
    rw [tail_succ _ _ k0]
    exact congrArg _ (Finset.sum_congr rfl fun l _ => by rw [rw_eq qb kc _ k0 _ m0 (fun _ => rfl) ρ l])

include hx2 hf3 hf4 in
/-- The point leaves a state with every tile done. -/
theorem fin_good : Good (i 1).val qb kc vc 0 (fin c i M2 M3 M4 f2 f3 f4) :=
  loop_good (q2_real hx2) M3 M4 f3 f4 hf3 hf4 _ (by have := row_lt i; omega) le_rfl _ (start_good c i M2 M3 M4 f2 f3 f4 hx2 hf3 hf4)

end Whole

/-! ## The grid -/

theorem cfgN : (cfg0 (F := Ideal)).N = 256 := by decide +kernel

/-- The head pair and the row block of a point. -/
def pa (t : Fin (cfg0 (F := Ideal)).N) : Fin 4 := ⟨t.val / 64, by have := t.isLt; have := cfgN; omega⟩
def pb (t : Fin (cfg0 (F := Ideal)).N) : Fin 64 := ⟨t.val % 64, by omega⟩

theorem row_eq : ∀ t : Fin (cfg0 (F := Ideal)).N, ((grid0.coords t) 1).val = t.val % 64 :=
  (by decide +kernel : ∀ t : Fin grid0.N, _)

theorem idx : ∀ t : Fin (cfg0 (F := Ideal)).N, win0_0.index t = ![t.val % 64, t.val / 64] ∧ win0_1.index t = ![0, 4 + t.val / 64]
    ∧ win0_2.index t = ![0, 8 + t.val / 64] ∧ win0_3.index t = ![t.val % 64, t.val / 64] :=
  (by decide +kernel : ∀ t : Fin grid0.N, _)

variable (m : (ℓ : Loc nD τ sig) → Buf (Elt Ideal) ℓ) (c : Dev nD) (t : Fin (cfg0 (F := Ideal)).N)

theorem rd0 (r : Fin 256) (e : Fin 128) : iblk m c 0 t (ix2 r e) = V m c main_arg0 (ix2 (pr (pb t) r) ⟨128 * (pa t).val + e.val, by omega⟩) := by
  blk_ext [iblk, idx t, pr, pa, pb]
theorem rd1 (j : Fin 16384) (e : Fin 128) : iblk m c 1 t (ix2 j e) = V m c main_arg0 (ix2 j ⟨512 + 128 * (pa t).val + e.val, by omega⟩) := by
  blk_ext [iblk, idx t, pa]
theorem rd2 (j : Fin 16384) (e : Fin 128) : iblk m c 2 t (ix2 j e) = V m c main_arg0 (ix2 j ⟨1024 + 128 * (pa t).val + e.val, by omega⟩) := by
  blk_ext [iblk, idx t, pa]
theorem emb3 (y : S256x128.Idx) : (win0_3.blk t).view.emb y = ix2 (pr (pb t) (y 0)) (pc (pa t) (y 1)) := by
  blk_ext [idx t, pr, pa, pb, pc]

/-- A whole block read back. -/
theorem readAt_block {e : EltTy} (v : View sig .tc .vmem S256x128 e) (f : v.ty.Contents (Elt Ideal)) :
    v.readAt (Elt Ideal) (rB).toLoadRect f = v.read (Elt Ideal) f :=
  View.readAt_full v f inb_S256x128_S256x128_0_0

variable {m c} {x1 : Cert.SbIdeal.Sb.Arr1} {Q K W D : Fin 16384 → Fin 512 → ℝ} (G : Fed (V m c main_arg0) x1 Q K W D)

include G in
/-- A point's block of the output. -/
theorem oAt_real (r : Fin 256) (e : Fin 128) : oAt m c t (ix2 r e) = (OO Q K W (pr (pb t) r) (pc (pa t) e) : EReal) := by
  have hb : ((grid0.coords t) 1).val = (pb t).val := row_eq t
  have H := fin_good c (grid0.coords t) (ms0_0 t) (ms0_1 t) (ms0_2 t)
    ((hs0_0 t).unread (iblk m c 0 t)) ((hs0_1 t).unread (iblk m c 1 t)) ((hs0_2 t).unread (iblk m c 2 t))
    (qb := blockOf Q (pa t) (pb t)) (kc := colOf K (pa t)) (vc := colOf W (pa t))
    (fun r e => by
      refine (congrFun ((readAt_block _ _).trans ((hs0_0 t).read_unread (iblk m c 0 t))) (ix2 r e)).trans ?_
      rw [rd0]
      exact G.q _ (pc (pa t) e))
    (fun j e => by
      rw [(hs0_1 t).read_unread, rd1]
      exact (congrArg (fun x => V m c main_arg0 (ix2 j x)) (Fin.ext (by show 512 + 128 * (pa t).val + e.val = 512 + (128 * (pa t).val + e.val); omega))).trans (G.k j (pc (pa t) e)))
    (fun j e => by
      rw [(hs0_2 t).read_unread, rd2]
      exact (congrArg (fun x => V m c main_arg0 (ix2 j x)) (Fin.ext (by show 1024 + 128 * (pa t).val + e.val = 1024 + (128 * (pa t).val + e.val); omega))).trans (G.v j (pc (pa t) e)))
  rw [hb] at H
  refine (pay5_real H.acc r e).trans (congrArg _ ?_)
  rw [tail_zero, rowWt_eq, hd_pc, rr_eq]; rfl

/-- The output as an array. -/
def oArr (Q K W : Fin 16384 → Fin 512 → ℝ) : FVec Ideal S16384x512 .f32 := fun x => (OO Q K W (x 0) (x 1) : EReal)

include G in
theorem o_final : (dats m 0 c).arrAt 3 (cfg0 (F := Ideal)).N = oArr Q K W := by
  refine (dats m 0 c).arrAt_eq_of_covers 3 _ (by decide +kernel) fun t _ y => ?_
  blk_simp
  rw [after0_3]
  obtain ⟨r, e, rfl⟩ : ∃ r e, y = ix2 r e := ⟨y 0, y 1, eq_ix2 y⟩
  have h := oAt_real t G r e
  have h3 := congrArg (oArr Q K W) (emb3 t (ix2 r e)).symm
  exact h.trans h3

/-! ## The claim -/

set_option maxHeartbeats 2000000 in
/-- The reference's output is the one that the backward pair's reference starts from. -/
theorem v32_eq (x0 : Cert.SbIdeal.Sb.Arr0) :
    Cert.SbFwdRefIdeal.Read.val_main_v32 (F := Ideal) x0 = Cert.SbRefIdeal.Read.val_main_v32 (F := Ideal) x0 := rfl

/-- The precondition's own side conditions. -/
theorem pre_facts : Cert.Pre_sbfwd_finite.Facts := by constructor <;> decide

section Lift

attribute [local instance] pre_facts

/-- The precondition makes the packed array's queries, keys and values real numbers. -/
theorem fed_of_pre (x0 : Cert.SbIdeal.Sb.Arr0) (h : Cert.Pre_sbfwd_finite.fn (F := Ideal) x0 = fun _ => 1#1) :
    Fed x0 (fun _ => (0 : EReal)) (fun i x => (x0 (ix2 i (⟨x.val, by omega⟩ : Fin 4096))).toReal)
      (fun i x => (x0 (ix2 i (⟨512 + x.val, by omega⟩ : Fin 4096))).toReal)
      (fun i x => (x0 (ix2 i (⟨1024 + x.val, by omega⟩ : Fin 4096))).toReal) (fun _ _ => 0) := by
  have h0 := congrFun h (Shape.Idx.first Cert.Pre_sbfwd_finite.Facts.h_S_)
  unfold Cert.Pre_sbfwd_finite.fn at h0
  dsimp only at h0
  have : Subsingleton Cert.Pre_sbfwd_finite.S_.Idx := ⟨fun a b => funext fun k => k.elim0⟩
  have qa := fun i : Cert.Pre_sbfwd_finite.S16384x1536.Idx => Host.reduce_andi_all _ _ _ _ _ h0 i
  refine ⟨fun i x => ?_, fun i x => ?_, fun i x => ?_, fun i x => EReal.coe_zero.symm⟩
  · refine real_of_lt _ ?_
    have := qa (ix2 i (⟨x.val, by omega⟩ : Fin 1536))
    pointwise at this
    exact this
  · refine real_of_lt _ ?_
    have := qa (ix2 i (⟨512 + x.val, by omega⟩ : Fin 1536))
    pointwise at this
    exact this
  · refine real_of_lt _ ?_
    have := qa (ix2 i (⟨1024 + x.val, by omega⟩ : Fin 1536))
    pointwise at this
    exact this

/-- Kernel and reference end with the same output. -/
theorem algebraic : Cert.algebraic_SbFwdIdeal_SbFwdRefIdeal_pre_sbfwd_finite := by
  intro m ρ m' ρ' hpre hag
  have fed := fun c => fed_of_pre _ (hpre c)
  refine ⟨fun c => Cert.SbFwdRefIdeal.Read.val_main_v32 (F := Ideal) (m (c.tc.loc main_arg0)),
    (θ_run Cert.SbFwdIdeal.defs _ _).mono (fun r h c => ?_) (run_results m ρ),
    (θ_run Cert.SbFwdRefIdeal.defs _ _).mono (fun r h c => ?_) (Cert.SbFwdRefIdeal.Value.run m' ρ')⟩
  · obtain ⟨h0, ha⟩ := h.1 c
    refine ⟨h0.trans ((o_final (m := m) (c := c) (fed c)).trans (funext fun y => ?_)), ha⟩
    obtain ⟨i, x, rfl⟩ : ∃ i x, y = ix2 i x := ⟨y 0, y 1, eq_ix2 y⟩
    exact ((congrFun (v32_eq _) _).trans (v32_real (fed c) i x)).symm
  · obtain ⟨h0, ha⟩ := h c
    rw [Cert.SbFwdRefIdeal.Read.val_main_v32_eq, hag c] at h0
    exact ⟨h0, ha⟩

/-- The reference's frame. -/
theorem frame_ref : Cert.quiescent_SbFwdRefIdeal := fun m ρ _ =>
  (θ_run Cert.SbFwdRefIdeal.defs _ _).mono (fun r h => ⟨fun c => (h c).2, sem_eq_zero_of_no_sems (by decide) r.2⟩) (Cert.SbFwdRefIdeal.Value.run m ρ)

/-- The named constants' values. -/
theorem preserves : Cert.preserves_SbFwd_SbFwdIdeal :=
  ⟨IdealRules.named_const.statement _ _ _ _ _ rfl, IdealRules.named_const.statement _ _ _ _ _ rfl, IdealRules.named_const.statement _ _ _ _ _ rfl⟩

end Lift

end Cert.SbFwdIdeal.Sb
end
-- ==== Proof.Finite.lean ====
/-
  Extended reals that are real numbers: what a finite argument is, and the sums and products of real numbers.
-/
module

public import Idealize.ShloMosaic.PureOps
public import Idealize.ShloMosaic.PureOps.Ideal
public import Mathlib.Data.EReal.Operations
public import Mathlib.Data.EReal.Inv

@[expose] public section

noncomputable section

namespace Cert.Finite

open Idealize.ShloMosaic

/-- The word of infinity. -/
theorem top_word : (Ideal.ofBits FTy.f32 0x7F800000#32 : EReal) = ⊤ := by
  simp [Ideal.ofBits, Ideal.ieee]

/-- An extended real smaller than infinity in absolute value is a real number. -/
theorem of_lt (x : EReal) (h : FloatOps.cmpf (F := Ideal) (φ := .f32) .olt (FloatOps.absf (F := Ideal) (φ := .f32) x) (Ideal.ofBits .f32 0x7F800000#32) = 1#1) :
    x = ((x.toReal : ℝ) : EReal) := by
  rw [top_word] at h
  have h' : BitVec.ofBool (decide (max x (-x) < ⊤)) = 1#1 := h
  have h2 : max x (-x) < ⊤ := by
    by_contra hn
    rw [decide_eq_false hn] at h'
    exact absurd h' (by decide)
  refine (EReal.coe_toReal (fun e => ?_) (fun e => ?_)).symm
  · rw [e] at h2; simp at h2
  · rw [e] at h2; simp at h2

/-- A sum of real numbers is the real numbers' sum. -/
theorem sum {ι : Type} [Fintype ι] {f : ι → EReal} (g : ι → ℝ) (h : ∀ i, f i = ((g i : ℝ) : EReal)) : ∑ i, f i = ((∑ i, g i : ℝ) : EReal) := by
  rw [Finset.sum_congr rfl fun i _ => h i]
  exact (map_sum (⟨⟨fun x : ℝ => (x : EReal), rfl⟩, EReal.coe_add⟩ : ℝ →+ EReal) g Finset.univ).symm

/-- A product of two rows of real numbers. -/
theorem dot {ι : Type} [Fintype ι] {f f' : ι → EReal} (g g' : ι → ℝ) (h : ∀ i, f i = ((g i : ℝ) : EReal)) (h' : ∀ i, f' i = ((g' i : ℝ) : EReal)) :
    ∑ i, f i * f' i = ((∑ i, g i * g' i : ℝ) : EReal) :=
  sum _ fun i => by rw [h i, h' i, EReal.coe_mul]

/-- The word of one half. -/
theorem half_word : (Ideal.ofBits FTy.f32 0x3F000000#32 : EReal) = ((1 / 2 : ℝ) : EReal) := by
  simp [Ideal.ofBits, Ideal.ieee, -EReal.coe_mul]; norm_num

end Cert.Finite

end
-- ==== Proof.Dact.lean ====
/-
  The gradient of the second FFN's gate, `f = silu(a) * b` with `silu(a) = a * sigmoid(a)`, behind the product with `w2` and the half step.

  The kernel walks 32 blocks of rows by 2 blocks of columns. Of each it forms the cotangent of `f` by one product and
  multiplies it by the gate's two derivatives. The reference scales the cotangent first and adds the derivative of
  `a * sigmoid(a)` in two parts.
-/
module

public import proofs.«01_k».proof.Proof.Gen.DactIdeal.Value
public import proofs.«01_k».proof.Proof.Gen.DactRefIdeal.Read
public import proofs.«01_k».proof.Proof.Gen.DactRefIdeal.Run
public import proofs.«01_k».proof.Proof.Finite
public import proofs.«01_k».proof.Defs
public import Idealize.ShloMosaic.Lib.Pointwise
public import Idealize.ShloMosaic.Lib.ReduceAll
public import Idealize.ShloMosaic.Lib.Pipeline.ValueKit

@[expose] public section

set_option maxRecDepth 16384

noncomputable section

namespace Cert.DactIdeal.Value

open Cert.DactIdeal Cert.DactIdeal.Gen Idealize.ShloMosaic Idealize.ShloMosaic.TcCoe Idealize.SL.Sem
open Idealize.ShloMosaic.Pipeline (Dat)
open Cert.DactRefIdeal.Read

/-- The sigmoid, as both programs spell it. -/
def sg (u : EReal) : EReal := Ideal.div 1 (1 + Ideal.exp (0 - u))

theorem sg_coe (x : ℝ) : sg (x : EReal) = (((1 + Real.exp (-x))⁻¹ : ℝ) : EReal) := by
  have h : (1 + Real.exp (-x)) ≠ 0 := (add_pos one_pos (Real.exp_pos _)).ne'
  rw [sg, zero_sub, ← EReal.coe_neg, Ideal.exp_coe, ← EReal.coe_one, ← EReal.coe_add, Ideal.div_coe h, ← EReal.coe_mul, one_mul, one_div]

/-- A real factor of the gate's derivative may be multiplied in before or after the two parts are added. -/
theorem gate (u : ℝ) (a : EReal) : (u : EReal) * (sg a + a * sg a * (1 - sg a)) = (u : EReal) * sg a + a * u * (sg a * (1 - sg a)) := by
  induction a using EReal.rec with
  | bot =>
    have h : sg ⊥ = 0 := by
      have e : Ideal.exp (0 - ⊥) = ⊤ := by rw [zero_sub, EReal.neg_bot]; rfl
      rw [sg, e, ← EReal.coe_one, EReal.coe_add_top]; simp [Ideal.div]
    rw [h]; simp
  | coe x =>
    rw [sg_coe, ← EReal.coe_one]
    simp only [← EReal.coe_mul, ← EReal.coe_sub, ← EReal.coe_add]
    exact congrArg _ (by ring)
  | top =>
    have h : sg ⊤ = 1 := by
      have e : Ideal.exp (0 - ⊤) = 0 := by rw [zero_sub, EReal.neg_top]; rfl
      rw [sg, e, add_zero, ← EReal.coe_one, Ideal.div_coe one_ne_zero]; simp
    rw [h, ← EReal.coe_one, ← EReal.coe_sub]; simp

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2]
    ∧ win0_3.index t = ![t.val / 2, t.val % 2] ∧ win0_4.index t = ![t.val / 2, t.val % 2] ∧ win0_5.index t = ![t.val / 2, t.val % 2] :=
  (by decide +kernel : ∀ t : Fin grid0.N, _)

theorem cfgN : cfg0.N = 64 := by decide +kernel

/-- Row `i` and column `j` of the block of grid point `t`. -/
def row (t : Fin cfg0.N) (i : Fin 512) : Fin 16384 := ⟨t.val / 2 * 512 + i.val, by have := t.isLt; have := cfgN; omega⟩
def col (t : Fin cfg0.N) (j : Fin 1408) : Fin 2816 := ⟨t.val % 2 * 1408 + j.val, by omega⟩

theorem rd0 (c : Dev nD) (t : Fin cfg0.N) (i : Fin 512) (j : Fin 1024) : iblk m c 0 t (ix2 i j) = (m ((c.tc : Thread nD τ).loc main_arg0)) (ix2 (row t i) j) := by
  blk_ext [iblk, V, idx t, row]
theorem rd1 (c : Dev nD) (t : Fin cfg0.N) (i : Fin 1408) (j : Fin 1024) : iblk m c 1 t (ix2 i j) = (m ((c.tc : Thread nD τ).loc main_arg1)) (ix2 (col t i) j) := by
  blk_ext [iblk, V, idx t, col]
theorem rd2 (c : Dev nD) (t : Fin cfg0.N) (i : Fin 512) (j : Fin 1408) : iblk m c 2 t (ix2 i j) = (m ((c.tc : Thread nD τ).loc main_arg2)) (ix2 (row t i) (col t j)) := by
  blk_ext [iblk, V, idx t, row, col]
theorem rd3 (c : Dev nD) (t : Fin cfg0.N) (i : Fin 512) (j : Fin 1408) : iblk m c 3 t (ix2 i j) = (m ((c.tc : Thread nD τ).loc main_arg3)) (ix2 (row t i) (col t j)) := by
  blk_ext [iblk, V, idx t, row, col]
theorem emb4 (t : Fin cfg0.N) (y : S512x1408.Idx) : (win0_4.blk t).view.emb y = ix2 (row t (y 0)) (col t (y 1)) := by
  blk_ext [idx t, row, col]
theorem emb5 (t : Fin cfg0.N) (y : S512x1408.Idx) : (win0_5.blk t).view.emb y = ix2 (row t (y 0)) (col t (y 1)) := by
  blk_ext [idx t, row, col]

section
variable {x0 : (⟨Cert.DactRefIdeal.S16384x1024, .bf16⟩ : BufTy).Contents (Elt Ideal)} {x1 : (⟨Cert.DactRefIdeal.S2816x1024, .bf16⟩ : BufTy).Contents (Elt Ideal)}
  {x2 x3 : (⟨Cert.DactRefIdeal.S16384x2816, .bf16⟩ : BufTy).Contents (Elt Ideal)}

theorem ref11 (r : Fin 16384) (j : Fin 2816) : val_main_v11 (F := Ideal) x0 x1 (ix2 r j)
    = ∑ k : Fin 1024, Ideal.ofBits .f32 0x3F000000#32 * x0 (ix2 r k) * x1 (ix2 j k) := by
  pointwise [val_main_v11, val_main_v10, val_main_v9, val_main_cst_0, val_main_v8, val_main_v4]

theorem ref15 (r : Fin 16384) (j : Fin 2816) : val_main_v15 (F := Ideal) x0 x1 x2 x3 (ix2 r j)
    = val_main_v11 (F := Ideal) x0 x1 (ix2 r j) * x3 (ix2 r j) * sg (x2 (ix2 r j))
      + x2 (ix2 r j) * (val_main_v11 (F := Ideal) x0 x1 (ix2 r j) * x3 (ix2 r j)) * (sg (x2 (ix2 r j)) * (1 - sg (x2 (ix2 r j)))) := by
  pointwise [val_main_v15, val_main_v14, val_main_call1_v2, val_main_call1_v1, val_main_call1_v0, val_main_v13, val_main_v2_1, val_main_v2_2,
    val_main_call0_v7, val_main_call0_v6, val_main_call0_cst_1, val_main_call0_v4, val_main_call0_cst_0, val_main_call0_v3, val_main_call0_v2, val_main_call0_cst,
    val_main_call0_v1, val_main_call0_v0, val_main_v0, val_main_v1]
  simp only [sg, zero_sub]

theorem ref16 (r : Fin 16384) (j : Fin 2816) : val_main_v16 (F := Ideal) x0 x1 x2 (ix2 r j)
    = x2 (ix2 r j) * sg (x2 (ix2 r j)) * val_main_v11 (F := Ideal) x0 x1 (ix2 r j) := by
  pointwise [val_main_v16, val_main_v12, val_main_v2_0, val_main_v2_2,
    val_main_call0_v4, val_main_call0_cst_0, val_main_call0_v3, val_main_call0_v2, val_main_call0_cst,
    val_main_call0_v1, val_main_call0_v0, val_main_v0]
  simp only [sg, zero_sub]
end

/-- What is finite of the arguments. -/
structure Fed (c : Dev nD) : Prop where
  dy : ∀ r k, (m ((c.tc : Thread nD τ).loc main_arg0)) (ix2 r k) = (((m ((c.tc : Thread nD τ).loc main_arg0)) (ix2 r k) : EReal).toReal : EReal)
  w : ∀ r k, (m ((c.tc : Thread nD τ).loc main_arg1)) (ix2 r k) = (((m ((c.tc : Thread nD τ).loc main_arg1)) (ix2 r k) : EReal).toReal : EReal)
  b : ∀ r k, (m ((c.tc : Thread nD τ).loc main_arg3)) (ix2 r k) = (((m ((c.tc : Thread nD τ).loc main_arg3)) (ix2 r k) : EReal).toReal : EReal)

variable {m}

/-- The reference's cotangent of `f` is a real number, the kernel's. -/
theorem df_real {c : Dev nD} (h : Fed m c) (r : Fin 16384) (j : Fin 2816) : ∃ u : ℝ,
    val_main_v11 (F := Ideal) (m ((c.tc : Thread nD τ).loc main_arg0)) (m ((c.tc : Thread nD τ).loc main_arg1)) (ix2 r j) = (u : EReal)
    ∧ (∑ k : Fin 1024, HMul.hMul (α := EReal) (β := EReal) (γ := EReal) ((m ((c.tc : Thread nD τ).loc main_arg0)) (ix2 r k)) ((m ((c.tc : Thread nD τ).loc main_arg1)) (ix2 j k))) * Ideal.ofBits .f32 0x3F000000#32 = (u : EReal) := by
  refine ⟨_, (ref11 r j).trans (Finite.dot (fun k => 1 / 2 * ((m ((c.tc : Thread nD τ).loc main_arg0)) (ix2 r k) : EReal).toReal) _ (fun k => ?_) (fun k => h.w j k)), ?_⟩
  · rw [Finite.half_word, EReal.coe_mul]; exact congrArg _ (h.dy r k)
  · refine (congrArg₂ (· * ·) (Finite.dot _ _ (fun k => h.dy r k) (fun k => h.w j k)) Finite.half_word).trans ?_
    rw [← EReal.coe_mul, Finset.sum_mul]
    exact congrArg _ (Finset.sum_congr rfl fun k _ => by ring)

/-- The gradient of `a`: what the body computes is the block of the reference. -/
theorem pt4 {c : Dev nD} (h : Fed m c) (t : Fin cfg0.N) (i : Fin 512) (j : Fin 1408) : k0_pay4 (iblk m c 0 t) (iblk m c 1 t) (iblk m c 2 t) (iblk m c 3 t) (ix2 i j)
    = val_main_v15 (F := Ideal) (m ((c.tc : Thread nD τ).loc main_arg0)) (m ((c.tc : Thread nD τ).loc main_arg1)) (m ((c.tc : Thread nD τ).loc main_arg2)) (m ((c.tc : Thread nD τ).loc main_arg3)) (ix2 (row t i) (col t j)) := by
  obtain ⟨u, e, e'⟩ := df_real h (row t i) (col t j)
  rw [ref15]
  pointwise [k0_pay4, k0_pay3, k0_pay2, k0_pay1]
  simp only [rd0, rd1, rd2, rd3]
  rw [e', e, h.b, ← EReal.coe_mul]
  exact gate _ _

/-- The gradient of `b`. -/
theorem pt5 {c : Dev nD} (h : Fed m c) (t : Fin cfg0.N) (i : Fin 512) (j : Fin 1408) : k0_pay5 (iblk m c 0 t) (iblk m c 1 t) (iblk m c 2 t) (ix2 i j)
    = val_main_v16 (F := Ideal) (m ((c.tc : Thread nD τ).loc main_arg0)) (m ((c.tc : Thread nD τ).loc main_arg1)) (m ((c.tc : Thread nD τ).loc main_arg2)) (ix2 (row t i) (col t j)) := by
  obtain ⟨u, e, e'⟩ := df_real h (row t i) (col t j)
  rw [ref16]
  pointwise [k0_pay5, k0_pay3, k0_pay2, k0_pay1]
  simp only [rd0, rd1, rd2]
  rw [e', e]
  exact mul_comm _ _

theorem final4 {c : Dev nD} (h : Fed m c) : (dats m 0 c).arrAt 4 cfg0.N
    = val_main_v15 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t _ y => ?_
  blk_simp
  refine Eq.trans ?_ (congrArg _ (emb4 t y).symm)
  refine Eq.trans ?_ ((congrArg (k0_pay4 _ _ _ _) (eq_ix2 y)).trans (pt4 h t (y 0) (y 1)))
  rw [after0_4]
  frame_out

theorem final5 {c : Dev nD} (h : Fed m c) : (dats m 0 c).arrAt 5 cfg0.N
    = val_main_v16 (F := Ideal) (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  blk_simp
  refine Eq.trans ?_ (congrArg _ (emb5 t y).symm)
  refine Eq.trans ?_ ((congrArg (k0_pay5 _ _ _) (eq_ix2 y)).trans (pt5 h t (y 0) (y 1)))
  rw [after0_5]
  frame_out

/-- The precondition's own side conditions. -/
theorem pre_facts : Cert.Pre_dact_finite.Facts := by constructor <;> decide

section Lift
attribute [local instance] pre_facts

/-- The precondition makes the arguments that it names real numbers. -/
theorem fed_of_pre (c : Dev nD) (h : Cert.Pre_dact_finite.fn (F := Ideal) (m ((c.tc : Thread nD τ).loc main_arg0)) (m ((c.tc : Thread nD τ).loc main_arg1))
    (m ((c.tc : Thread nD τ).loc main_arg2)) (m ((c.tc : Thread nD τ).loc main_arg3)) = fun _ => 1#1) : Fed m c := by
  have h0 := congrFun h (Shape.Idx.first Cert.Pre_dact_finite.Facts.h_S_)
  unfold Cert.Pre_dact_finite.fn at h0
  dsimp only at h0
  obtain ⟨hab, hc⟩ := IntOp.andi_eq_one.1 h0
  obtain ⟨ha, hb⟩ := IntOp.andi_eq_one.1 hab
  have : Subsingleton Cert.Pre_dact_finite.S_.Idx := ⟨fun a b => funext fun k => k.elim0⟩
  refine ⟨fun i x => Finite.of_lt _ ?_, fun i x => Finite.of_lt _ ?_, fun i x => Finite.of_lt _ ?_⟩
  · have := Host.reduce_andi_all _ _ _ _ _ ha (ix2 i x)
    pointwise at this; exact this
  · have := Host.reduce_andi_all _ _ _ _ _ hb (ix2 i x)
    pointwise at this; exact this
  · have := Host.reduce_andi_all _ _ _ _ _ hc (ix2 i x)
    pointwise at this; exact this

/-- The gate's gradients are the same function over the extended reals. -/
theorem algebraic : Cert.algebraic_DactIdeal_DactRefIdeal_pre_dact_finite := fun m ρ m' ρ' hpre hag =>
  ⟨fun c => val_main_v15 (F := Ideal) (m (c.tc.loc main_arg0)) (m (c.tc.loc main_arg1)) (m (c.tc.loc main_arg2)) (m (c.tc.loc main_arg3)),
   fun c => val_main_v16 (F := Ideal) (m (c.tc.loc main_arg0)) (m (c.tc.loc main_arg1)) (m (c.tc.loc main_arg2)),
   (θ_run Cert.DactIdeal.defs _ _).mono (fun r h c => by
     obtain ⟨h0, h1, ha⟩ := h c
     exact ⟨h0.trans (final4 (fed_of_pre c (hpre c))), h1.trans (final5 (fed_of_pre c (hpre c))), ha⟩) (run_blocks m ρ),
   (θ_run Cert.DactRefIdeal.defs _ _).mono (fun r h c => by
     obtain ⟨e0, e1, e2, e3⟩ := hag c
     obtain ⟨h0, h1, ha⟩ := h c
     rw [val_main_v15_eq, e0, e1, e2, e3] at h0
     rw [val_main_v16_eq, e0, e1, e2] at h1
     exact ⟨h0, h1, ha⟩) (Cert.DactRefIdeal.Value.run m' ρ')⟩
end Lift

theorem frame_ref : Cert.quiescent_DactRefIdeal := fun m ρ _ =>
  (θ_run Cert.DactRefIdeal.defs _ _).mono (fun r h => ⟨fun c => (h c).2.2, sem_eq_zero_of_no_sems (by decide) r.2⟩) (Cert.DactRefIdeal.Value.run m ρ)

end Cert.DactIdeal.Value

end
-- ==== Proof.Rms.lean ====
/-
  The gradient of a row's RMS norm, `x ↦ x / √(mean(x²) + ε)`, in the two ways that the programs write it.
-/
module

public import proofs.«01_k».proof.Proof.Finite
public import Mathlib.Analysis.SpecialFunctions.Pow.Real

@[expose] public section

noncomputable section

namespace Cert.Rms

open Idealize.ShloMosaic

/-- The word of ε is a positive number. -/
theorem eps_word : ∃ e : ℝ, 0 < e ∧ (Ideal.ofBits FTy.f32 0x358637BD#32 : EReal) = (e : EReal) := by
  refine ⟨8796093 / 2 ^ 43, by norm_num, ?_⟩
  simp [Ideal.ofBits, Ideal.ieee, -EReal.coe_mul]; norm_num

/-- The word of minus one half. -/
theorem mhalf_word : (Ideal.ofBits FTy.f32 0xBF000000#32 : EReal) = ((-1 / 2 : ℝ) : EReal) := by
  simp [Ideal.ofBits, Ideal.ieee, -EReal.coe_mul]; norm_num

/-- The word of 1024. -/
theorem n_word : (Ideal.ofBits FTy.f32 0x44800000#32 : EReal) = ((1024 : ℝ) : EReal) := by
  simp [Ideal.ofBits, Ideal.ieee, -EReal.coe_mul]; norm_num

variable {n : ℕ} (N : EReal) (x y : Fin n → EReal)

/-- The mean square plus ε, and the reciprocal of its root. -/
def var : EReal := Ideal.div (∑ k, x k * x k) N + Ideal.ofBits .f32 0x358637BD#32
def rstd : EReal := Ideal.rsqrt (var N x)

/-- The gradient as the kernels write it: the cotangent `y` of the normed row without its part along the row. -/
def along (j : Fin n) : EReal := rstd N x * (y j - x j * rstd N x * Ideal.div (∑ k, y k * (x k * rstd N x)) N)

/-- The gradient as `jax.vjp` writes it: through the product, and through the mean square. -/
def through (j : Fin n) : EReal :=
  y j * rstd N x + x j * Ideal.div ((∑ k, x k * y k) * (Ideal.ofBits .f32 0xBF000000#32 * Ideal.div (rstd N x) (var N x))) N
    + Ideal.div ((∑ k, x k * y k) * (Ideal.ofBits .f32 0xBF000000#32 * Ideal.div (rstd N x) (var N x))) N * x j

variable {N x y} {N' : ℝ} {X Y : Fin n → ℝ}

theorem var_real (hN : N = (N' : EReal)) (hp : 0 < N') (hx : ∀ k, x k = (X k : EReal)) : ∃ v : ℝ, 0 < v ∧ var N x = (v : EReal) := by
  obtain ⟨e, he, hw⟩ := eps_word
  refine ⟨(∑ k, X k * X k) * (1 / N') + e, ?_, ?_⟩
  · have : 0 ≤ ∑ k, X k * X k := Finset.sum_nonneg fun k _ => mul_self_nonneg _
    positivity
  · rw [var, hN, hw, Ideal.div_coe hp.ne', Finite.dot X X hx hx, ← EReal.coe_mul, ← EReal.coe_add]

theorem rstd_real (hN : N = (N' : EReal)) (hp : 0 < N') (hx : ∀ k, x k = (X k : EReal)) : ∃ r v : ℝ, r * r * v = 1 ∧ v ≠ 0 ∧ var N x = (v : EReal) ∧ rstd N x = (r : EReal) := by
  obtain ⟨v, hv, e⟩ := var_real hN hp hx
  have hs : √v ≠ 0 := (Real.sqrt_pos.mpr hv).ne'
  refine ⟨(√v)⁻¹, v, ?_, hv.ne', e, ?_⟩
  · rw [← mul_inv, Real.mul_self_sqrt hv.le, inv_mul_cancel₀ hv.ne']
  · rw [rstd, e, Ideal.rsqrt_coe, if_neg (not_lt.mpr hv.le), if_neg hv.ne']

/-- Of real rows the two are the same real number. -/
theorem along_eq (hN : N = (N' : EReal)) (hp : 0 < N') (hx : ∀ k, x k = (X k : EReal)) (hy : ∀ k, y k = (Y k : EReal)) (j : Fin n) :
    along N x y j = through N x y j := by
  obtain ⟨r, v, h1, hv, ev, er⟩ := rstd_real hN hp hx
  have s1 : ∑ k, y k * (x k * rstd N x) = ((∑ k, Y k * (X k * r) : ℝ) : EReal) :=
    Finite.dot _ (fun k => X k * r) hy fun k => by rw [hx, er, EReal.coe_mul]
  have s2 : ∑ k, Y k * (X k * r) = (∑ k, X k * Y k) * r := by
    rw [Finset.sum_mul]; exact Finset.sum_congr rfl fun k _ => by ring
  have h3 : r / v = r * r * r := by
    rw [div_eq_iff hv]; linear_combination (-r) * h1
  rw [along, through, s1, s2, Finite.dot X Y hx hy, er, ev, hN, mhalf_word, hx j, hy j]
  simp only [Ideal.div_coe hp.ne', Ideal.div_coe hv, ← EReal.coe_mul, ← EReal.coe_sub, ← EReal.coe_add]
  refine congrArg _ ?_
  rw [show r * (1 / v) = r * r * r from (by rw [← h3]; ring)]
  ring

end Cert.Rms

end
-- ==== Proof.MemRms.lean ====
/-
  The gradient of the memory's RMS norm, `h = mem / √(mean(mem²) + ε) * g`.

  One grid point takes all 256 rows. The kernel removes from each cotangent its part along the row, and sums
  cotangent times normed memory over the rows for the gain. The reference differentiates the norm's lines.
-/
module

public import proofs.«01_k».proof.Proof.Gen.MemRmsIdeal.Value
public import proofs.«01_k».proof.Proof.Gen.MemRmsRefIdeal.Read
public import proofs.«01_k».proof.Proof.Gen.MemRmsRefIdeal.Run
public import proofs.«01_k».proof.Proof.Rms
public import proofs.«01_k».proof.Defs
public import Idealize.ShloMosaic.Lib.Pointwise
public import Idealize.ShloMosaic.Lib.ReduceAll
public import Idealize.ShloMosaic.Lib.Pipeline.ValueKit
public import Idealize.ShloMosaic.Lib.Pipeline.ReadBack

@[expose] public section

set_option maxRecDepth 16384

noncomputable section

namespace Cert.MemRmsIdeal.Value

open Cert.MemRmsIdeal Cert.MemRmsIdeal.Gen Idealize.ShloMosaic Idealize.ShloMosaic.TcCoe Idealize.SL.Sem
open Idealize.ShloMosaic.Pipeline (Dat)
open Cert.MemRmsRefIdeal.Read

variable (m : (ℓ : Loc nD τ sig) → Buf (Elt Ideal) ℓ)

section
variable {x0 x2 : (⟨Cert.MemRmsRefIdeal.S256x1024, .f32⟩ : BufTy).Contents (Elt Ideal)} {x1 : (⟨Cert.MemRmsRefIdeal.S1x1024, .f32⟩ : BufTy).Contents (Elt Ideal)}

theorem ref33 (r : Fin 256) (j : Fin 1024) : val_main_v33 (F := Ideal) x0 x1 x2 (ix2 r j)
    = Rms.through (Ideal.ofBits .f32 0x44800000#32) (fun k => x0 (ix2 r k)) (fun k => HMul.hMul (α := EReal) (β := EReal) (γ := EReal) (x2 (ix2 r k)) (x1 (ix2 0 k))) j := by
  pointwise [val_main_v33, val_main_v32, val_main_v31, val_main_v30, val_main_v29, val_main_v28, val_main_cst_6, val_main_v27, val_main_v26, val_main_cst_5, val_main_v25,
    val_main_v24, val_main_v23, val_main_v22, val_main_v21, val_main_cst_4, val_main_v20, val_main_v19, val_main_v18, val_main_v10, val_main_v9, val_main_cst_2,
    val_main_v8, val_main_v7, val_main_v6, val_main_v5, val_main_cst_1, val_main_v4, val_main_v3, val_main_cst_0, val_main_v2, val_main_v1, val_main_cst, val_main_v0]
  simp only [Fin.sum_univ_one]
  rfl

theorem ref17 (j : Fin 1024) : val_main_v17 (F := Ideal) x0 x2 (ix2 0 j)
    = ∑ r : Fin 256, x0 (ix2 r j) * Rms.rstd (Ideal.ofBits .f32 0x44800000#32) (fun k => x0 (ix2 r k)) * x2 (ix2 r j) := by
  pointwise [val_main_v17, val_main_v16, val_main_cst_3, val_main_v15, val_main_v12, val_main_v11,
    val_main_v7, val_main_v6, val_main_v5, val_main_cst_1, val_main_v4, val_main_v3, val_main_cst_0, val_main_v2, val_main_v1, val_main_cst, val_main_v0]
  rfl
end
theorem pt4 (a b : Vec Ideal S256x1024 .f32) (g : Vec Ideal S1x1024 .f32) (i : Fin 256) (j : Fin 1024) : k0_pay4 a b g (ix2 i j)
   = Rms.along (Ideal.ofBits .f32 0x44800000#32) (fun k => a (ix2 i k)) (fun k => HMul.hMul (α := EReal) (β := EReal) (γ := EReal) (b (ix2 i k)) (g (ix2 0 k))) j := by
  pointwise [k0_pay4, k0_pay3, k0_pay2]
  rfl

theorem pt8 (a b : Vec Ideal S256x1024 .f32) (j : Fin 1024) : k0_pay8 a b (ix2 0 j)
    = ∑ r : Fin 256, HMul.hMul (α := EReal) (β := EReal) (γ := EReal) (a (ix2 r j)) (Rms.rstd (Ideal.ofBits .f32 0x44800000#32) (fun k => a (ix2 r k))) * b (ix2 r j) := by
  pointwise [k0_pay8, k0_pay3, k0_pay2]
  exact Finset.sum_congr rfl fun x _ => mul_comm _ _

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

theorem rd0 (c : Dev nD) (t : Fin cfg0.N) : iblk m c 0 t = m ((c.tc : Thread nD τ).loc main_arg0) := by
  funext x
  obtain ⟨i, j, rfl⟩ : ∃ i j, x = ix2 i j := ⟨x 0, x 1, eq_ix2 x⟩
  blk_ext [iblk, V, idx t]
theorem rd1 (c : Dev nD) (t : Fin cfg0.N) : iblk m c 1 t = m ((c.tc : Thread nD τ).loc main_arg1) := by
  funext x
  obtain ⟨i, j, rfl⟩ : ∃ i j, x = ix2 i j := ⟨x 0, x 1, eq_ix2 x⟩
  blk_ext [iblk, V, idx t]
theorem rd2 (c : Dev nD) (t : Fin cfg0.N) : iblk m c 2 t = m ((c.tc : Thread nD τ).loc main_arg2) := by
  funext x
  obtain ⟨i, j, rfl⟩ : ∃ i j, x = ix2 i j := ⟨x 0, x 1, eq_ix2 x⟩
  blk_ext [iblk, V, idx t]
theorem emb3 (t : Fin cfg0.N) (y : S256x1024.Idx) : (win0_3.blk t).view.emb y = y := by blk_ext [idx t]
theorem emb4 (t : Fin cfg0.N) (y : S256x1024.Idx) : (win0_4.blk t).view.emb y = y := by blk_ext [idx t]
theorem emb5 (t : Fin cfg0.N) (y : S1x1024.Idx) : (win0_5.blk t).view.emb y = y := by blk_ext [idx t]

/-- What is finite of the arguments: all of them. -/
structure Fed (c : Dev nD) : Prop where
  x : ∀ r k, (m ((c.tc : Thread nD τ).loc main_arg0)) (ix2 r k) = (((m ((c.tc : Thread nD τ).loc main_arg0)) (ix2 r k) : EReal).toReal : EReal)
  g : ∀ r k, (m ((c.tc : Thread nD τ).loc main_arg1)) (ix2 r k) = (((m ((c.tc : Thread nD τ).loc main_arg1)) (ix2 r k) : EReal).toReal : EReal)
  dh : ∀ r k, (m ((c.tc : Thread nD τ).loc main_arg2)) (ix2 r k) = (((m ((c.tc : Thread nD τ).loc main_arg2)) (ix2 r k) : EReal).toReal : EReal)

variable {m}

/-- The memory's gradient: what the body computes is the reference. -/
theorem dx_eq {c : Dev nD} (h : Fed m c) (t : Fin cfg0.N) (y : S256x1024.Idx) : k0_pay4 (iblk m c 0 t) (iblk m c 2 t) (iblk m c 1 t) y
    = val_main_v33 (F := Ideal) (m ((c.tc : Thread nD τ).loc main_arg0)) (m ((c.tc : Thread nD τ).loc main_arg1)) (m ((c.tc : Thread nD τ).loc main_arg2)) y := by
  obtain ⟨i, j, rfl⟩ : ∃ i j, y = ix2 i j := ⟨y 0, y 1, eq_ix2 y⟩
  rw [pt4, ref33, rd0, rd1, rd2]
  exact Rms.along_eq Rms.n_word (by norm_num) (fun k => h.x i k)
    (fun k => (congrArg₂ (fun a b : EReal => a * b) (h.dh i k) (h.g 0 k)).trans (EReal.coe_mul _ _).symm) j

theorem final3 {c : Dev nD} (h : Fed m c) : (dats m 0 c).arrAt 3 cfg0.N
    = val_main_v33 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  refine Eq.trans ?_ ((dx_eq h t y).trans (congrArg _ (emb3 t y).symm))
  rw [after0_3]
  unfold outsAt0
  frame_out

theorem final4 {c : Dev nD} (h : Fed m c) : (dats m 0 c).arrAt 4 cfg0.N
    = val_main_v34 (F := Ideal) (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  blk_simp
  refine Eq.trans ?_ ((dx_eq h t y).trans (congrArg (val_main_v34 (F := Ideal) (m ((c.tc : Thread nD τ).loc main_arg0)) (m ((c.tc : Thread nD τ).loc main_arg1)) (m ((c.tc : Thread nD τ).loc main_arg2))) (emb4 t y).symm))
  rw [after0_4]
  unfold outsAt0
  frame_out
  rfl

/-- The gain's gradient, of the one block. -/
theorem final5 (c : Dev nD) : (dats m 0 c).arrAt 5 cfg0.N
    = val_main_v17 (F := Ideal) (m ((c.tc : Thread nD τ).loc main_arg0)) (m ((c.tc : Thread nD τ).loc main_arg2)) := by
  refine (dats m 0 c).arrAt_eq_of_covers 5 _ (by decide +kernel) fun t _ y => ?_
  blk_simp
  refine Eq.trans ?_ (congrArg _ (emb5 t y).symm)
  obtain ⟨i, j, rfl⟩ : ∃ i j, y = ix2 i j := ⟨y 0, y 1, eq_ix2 y⟩
  obtain rfl : i = 0 := Subsingleton.elim _ _
  rw [after0_5]
  unfold outsAt0
  frame_open
  simp (disch := decide) only [↓ View.readCov_skip, View.readCov_fill]
  frame_out
  refine Eq.trans ?_ (ref17 j).symm
  pointwise [k0_pay1, k0_pay7, k0_pay6]
  rw [pt8, rd0, rd2]

/-- The precondition's own side conditions. -/
theorem pre_facts : Cert.Pre_memrms_finite.Facts := by constructor <;> decide

section Lift
attribute [local instance] pre_facts

/-- The precondition makes the arguments real numbers. -/
theorem fed_of_pre (c : Dev nD) (h : Cert.Pre_memrms_finite.fn (F := Ideal) (m ((c.tc : Thread nD τ).loc main_arg0)) (m ((c.tc : Thread nD τ).loc main_arg1))
    (m ((c.tc : Thread nD τ).loc main_arg2)) = fun _ => 1#1) : Fed m c := by
  have h0 := congrFun h (Shape.Idx.first Cert.Pre_memrms_finite.Facts.h_S_)
  unfold Cert.Pre_memrms_finite.fn at h0
  dsimp only at h0
  obtain ⟨hab, hc⟩ := IntOp.andi_eq_one.1 h0
  obtain ⟨ha, hb⟩ := IntOp.andi_eq_one.1 hab
  have : Subsingleton Cert.Pre_memrms_finite.S_.Idx := ⟨fun a b => funext fun k => k.elim0⟩
  refine ⟨fun i x => Finite.of_lt _ ?_, fun i x => Finite.of_lt _ ?_, fun i x => Finite.of_lt _ ?_⟩
  · have := Host.reduce_andi_all _ _ _ _ _ ha (ix2 i x)
    pointwise at this; exact this
  · have := Host.reduce_andi_all _ _ _ _ _ hb (ix2 i x)
    pointwise at this; exact this
  · have := Host.reduce_andi_all _ _ _ _ _ hc (ix2 i x)
    pointwise at this; exact this

/-- The norm's gradients are the same function over the extended reals. -/
theorem algebraic : Cert.algebraic_MemRmsIdeal_MemRmsRefIdeal_pre_memrms_finite := fun m ρ m' ρ' hpre hag =>
  ⟨fun c => val_main_v33 (F := Ideal) (m (c.tc.loc main_arg0)) (m (c.tc.loc main_arg1)) (m (c.tc.loc main_arg2)),
   fun c => val_main_v34 (F := Ideal) (m (c.tc.loc main_arg0)) (m (c.tc.loc main_arg1)) (m (c.tc.loc main_arg2)),
   fun c => val_main_v17 (F := Ideal) (m (c.tc.loc main_arg0)) (m (c.tc.loc main_arg2)),
   (θ_run Cert.MemRmsIdeal.defs _ _).mono (fun r h c => by
     obtain ⟨h0, h1, h2, ha⟩ := h c
     have fed := fed_of_pre c (hpre c)
     exact ⟨h0.trans (final3 fed), h1.trans (final4 fed), h2.trans (final5 c), ha⟩) (run_blocks m ρ),
   (θ_run Cert.MemRmsRefIdeal.defs _ _).mono (fun r h c => by
     obtain ⟨e0, e1, e2⟩ := hag c
     obtain ⟨h0, h1, h2, ha⟩ := h c
     rw [val_main_v33_eq, e0, e1, e2] at h0
     rw [val_main_v34_eq, e0, e1, e2] at h1
     rw [val_main_v17_eq, e0, e2] at h2
     exact ⟨h0, h1, h2, ha⟩) (Cert.MemRmsRefIdeal.Value.run m' ρ')⟩
end Lift

theorem frame_ref : Cert.quiescent_MemRmsRefIdeal := fun m ρ _ =>
  (θ_run Cert.MemRmsRefIdeal.defs _ _).mono (fun r h => ⟨fun c => (h c).2.2.2, sem_eq_zero_of_no_sems (by decide) r.2⟩) (Cert.MemRmsRefIdeal.Value.run m ρ)

end Cert.MemRmsIdeal.Value

end
-- ==== Proof.Dh.lean ====
/-
  The gradient of an FFN's RMS norm, behind its two products.

  The layer's `x` goes on as it is (cotangent `dx`) and is normed into the two products (cotangents `da` and `db`, through `w1` and
  `w3`). The kernel walks 32 blocks of 512 rows and of each the 2816 columns in two halves, adding up the normed rows' cotangent in a
  scratch; on the second half it removes the part along the row, and adds cotangent times normed row to the gain's gradient, which it
  keeps over the grid. The reference differentiates the norm's lines.
-/
module

public import proofs.«01_k».proof.Proof.Gen.DhIdeal.Value
public import proofs.«01_k».proof.Proof.Gen.DhRefIdeal.Read
public import proofs.«01_k».proof.Proof.Gen.DhRefIdeal.Run
public import proofs.«01_k».proof.Proof.Rms
public import proofs.«01_k».proof.Defs
public import Idealize.ShloMosaic.Lib.Pointwise
public import Idealize.ShloMosaic.Lib.ReduceAll
public import Idealize.ShloMosaic.Lib.Pipeline.ValueKit
public import Idealize.ShloMosaic.Lib.Pipeline.ReadBack

@[expose] public section

set_option maxRecDepth 16384

noncomputable section

namespace Cert.DhIdeal.Value

open Cert.DhIdeal Cert.DhIdeal.Gen Idealize.ShloMosaic Idealize.ShloMosaic.TcCoe Idealize.SL.Sem
open Idealize.ShloMosaic.Pipeline (Dat)
open Cert.DhRefIdeal.Read

/-- The mean's divisor. -/
abbrev n1024 : EReal := Ideal.ofBits .f32 0x44800000#32

section
variable (x0 x1 : (⟨Cert.DhRefIdeal.S16384x2816, .bf16⟩ : BufTy).Contents (Elt Ideal)) (x2 x3 : (⟨Cert.DhRefIdeal.S1024x2816, .bf16⟩ : BufTy).Contents (Elt Ideal))
  (x4 x5 : (⟨Cert.DhRefIdeal.S16384x1024, .f32⟩ : BufTy).Contents (Elt Ideal)) (x6 : (⟨Cert.DhRefIdeal.S1x1024, .f32⟩ : BufTy).Contents (Elt Ideal))

/-- One product, the normed row's cotangent, and that of the row over its root mean square. -/
def P (d : (⟨Cert.DhRefIdeal.S16384x2816, .bf16⟩ : BufTy).Contents (Elt Ideal)) (w : (⟨Cert.DhRefIdeal.S1024x2816, .bf16⟩ : BufTy).Contents (Elt Ideal))
    (r : Fin 16384) (k : Fin 1024) (l : Fin 2816) : EReal := HMul.hMul (α := EReal) (β := EReal) (γ := EReal) (d (ix2 r l)) (w (ix2 k l))
def R (r : Fin 16384) (k : Fin 1024) : EReal := (∑ l, P x1 x3 r k l) + ∑ l, P x0 x2 r k l
def Y (r : Fin 16384) (k : Fin 1024) : EReal := R x0 x1 x2 x3 r k * x6 (ix2 0 k)
def X (r : Fin 16384) (k : Fin 1024) : EReal := x4 (ix2 r k)

theorem ref23 (r : Fin 16384) (j : Fin 1024) : val_main_v23 (F := Ideal) x0 x1 x2 x3 (ix2 r j) = R x0 x1 x2 x3 r j := by
  pointwise [val_main_v23, val_main_v22, val_main_v21, val_main_v20, val_main_v19, val_main_v17, val_main_v15]
  rfl

theorem ref43 (r : Fin 16384) (j : Fin 1024) : val_main_v43 (F := Ideal) x0 x1 x2 x3 x4 x5 x6 (ix2 r j)
    = x5 (ix2 r j) + Rms.through n1024 (X x4 r) (Y x0 x1 x2 x3 x6 r) j := by
  pointwise [val_main_v43, val_main_v42, val_main_v41, val_main_v40, val_main_v39, val_main_v38, val_main_cst_6, val_main_v37, val_main_v36, val_main_cst_5, val_main_v35,
    val_main_v34, val_main_v33, val_main_v32, val_main_v31, val_main_v30, val_main_cst_4, val_main_v29, val_main_v28, val_main_v27, val_main_v10, val_main_v9, val_main_cst_2,
    val_main_v8, val_main_v7, val_main_v6, val_main_v5, val_main_cst_1, val_main_v4, val_main_v3, val_main_cst_0, val_main_v2, val_main_v1, val_main_cst, val_main_v0]
  simp only [Fin.sum_univ_one, ref23, add_assoc]
  rw [Rms.through, add_assoc]
  rfl

theorem ref26 (j : Fin 1024) : val_main_v26 (F := Ideal) x0 x1 x2 x3 x4 (ix2 0 j) = ∑ r : Fin 16384, R x0 x1 x2 x3 r j * (X x4 r j * Rms.rstd n1024 (X x4 r)) := by
  pointwise [val_main_v26, val_main_v25, val_main_cst_3, val_main_v24, val_main_v12, val_main_v11,
    val_main_v7, val_main_v6, val_main_v5, val_main_cst_1, val_main_v4, val_main_v3, val_main_cst_0, val_main_v2, val_main_v1, val_main_cst, val_main_v0]
  exact Finset.sum_congr rfl fun r _ => (mul_comm _ _).trans (by rw [ref23]; rfl)
end

variable (m : (ℓ : Loc nD τ sig) → Buf (Elt Ideal) ℓ)

theorem idx : ∀ t : Fin cfg0.N, win0_0.index t = ![t.val / 2, t.val % 2] ∧ win0_1.index t = ![0, t.val % 2] ∧ win0_2.index t = ![t.val / 2, t.val % 2]
    ∧ win0_3.index t = ![0, t.val % 2] ∧ win0_4.index t = ![t.val / 2, 0] ∧ win0_5.index t = ![t.val / 2, 0] ∧ win0_6.index t = ![0, 0]
    ∧ win0_7.index t = ![t.val / 2, 0] ∧ win0_8.index t = ![t.val / 2, 0] ∧ win0_9.index t = ![0, 0] :=
  (by decide +kernel : ∀ t : Fin grid0.N, _)

theorem cfgN : cfg0.N = 64 := by decide +kernel

/-- Row `i` and column `l` of the blocks of grid point `t`. -/
def row (t : Fin cfg0.N) (i : Fin 512) : Fin 16384 := ⟨t.val / 2 * 512 + i.val, by have := t.isLt; have := cfgN; omega⟩
def col (t : Fin cfg0.N) (l : Fin 1408) : Fin 2816 := ⟨t.val % 2 * 1408 + l.val, by have := t.isLt; have := cfgN; omega⟩

theorem rd0 (c : Dev nD) (t : Fin cfg0.N) (i : Fin 512) (l : Fin 1408) : iblk m c 0 t (ix2 i l) = (m ((c.tc : Thread nD τ).loc main_arg0)) (ix2 (row t i) (col t l)) := by
  blk_ext [iblk, V, idx t, row, col]
theorem rd2 (c : Dev nD) (t : Fin cfg0.N) (i : Fin 512) (l : Fin 1408) : iblk m c 2 t (ix2 i l) = (m ((c.tc : Thread nD τ).loc main_arg1)) (ix2 (row t i) (col t l)) := by
  blk_ext [iblk, V, idx t, row, col]
theorem rd1 (c : Dev nD) (t : Fin cfg0.N) (i : Fin 1024) (l : Fin 1408) : iblk m c 1 t (ix2 i l) = (m ((c.tc : Thread nD τ).loc main_arg2)) (ix2 i (col t l)) := by
  blk_ext [iblk, V, idx t, row, col]
theorem rd3 (c : Dev nD) (t : Fin cfg0.N) (i : Fin 1024) (l : Fin 1408) : iblk m c 3 t (ix2 i l) = (m ((c.tc : Thread nD τ).loc main_arg3)) (ix2 i (col t l)) := by
  blk_ext [iblk, V, idx t, row, col]
theorem rd4 (c : Dev nD) (t : Fin cfg0.N) (i : Fin 512) (l : Fin 1024) : iblk m c 4 t (ix2 i l) = (m ((c.tc : Thread nD τ).loc main_arg4)) (ix2 (row t i) l) := by
  blk_ext [iblk, V, idx t, row, col]
theorem rd5 (c : Dev nD) (t : Fin cfg0.N) (i : Fin 512) (l : Fin 1024) : iblk m c 5 t (ix2 i l) = (m ((c.tc : Thread nD τ).loc main_arg5)) (ix2 (row t i) l) := by
  blk_ext [iblk, V, idx t, row, col]
theorem rd6 (c : Dev nD) (t : Fin cfg0.N) (i : Fin 1) (l : Fin 1024) : iblk m c 6 t (ix2 i l) = (m ((c.tc : Thread nD τ).loc main_arg6)) (ix2 i l) := by
  blk_ext [iblk, V, idx t, row, col]
theorem emb7 (t : Fin cfg0.N) (y : S512x1024.Idx) : (win0_7.blk t).view.emb y = ix2 (row t (y 0)) (y 1) := by blk_ext [idx t, row]
theorem emb8 (t : Fin cfg0.N) (y : S512x1024.Idx) : (win0_8.blk t).view.emb y = ix2 (row t (y 0)) (y 1) := by blk_ext [idx t, row]
theorem emb9 (t : Fin cfg0.N) (y : S1x1024.Idx) : (win0_9.blk t).view.emb y = ix2 0 (y 1) := by blk_ext [idx t]

/-- The cotangents and rows of the device's arguments. -/
abbrev RA (c : Dev nD) : Fin 16384 → Fin 1024 → EReal := R (m ((c.tc : Thread nD τ).loc main_arg0)) (m ((c.tc : Thread nD τ).loc main_arg1)) (m ((c.tc : Thread nD τ).loc main_arg2)) (m ((c.tc : Thread nD τ).loc main_arg3))
abbrev YA (c : Dev nD) : Fin 16384 → Fin 1024 → EReal := Y (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))
abbrev XA (c : Dev nD) : Fin 16384 → Fin 1024 → EReal := X (m ((c.tc : Thread nD τ).loc main_arg4))

/-- The half of a product's columns that grid point `t` adds. -/
def half (c : Dev nD) (t : Fin cfg0.N) (r : Fin 16384) (j : Fin 1024) : EReal :=
  (∑ l : Fin 1408, P (m ((c.tc : Thread nD τ).loc main_arg0)) (m ((c.tc : Thread nD τ).loc main_arg2)) r j (col t l))
    + ∑ l : Fin 1408, P (m ((c.tc : Thread nD τ).loc main_arg1)) (m ((c.tc : Thread nD τ).loc main_arg3)) r j (col t l)

/-- One point's addition to the scratch. -/
theorem pt2 (c : Dev nD) (t : Fin cfg0.N) (a : Vec Ideal S512x1024 .f32) (i : Fin 512) (j : Fin 1024) :
    k0_pay2 a (iblk m c 0 t) (iblk m c 1 t) (iblk m c 2 t) (iblk m c 3 t) (ix2 i j) = HAdd.hAdd (α := EReal) (β := EReal) (γ := EReal) (a (ix2 i j)) (half m c t (row t i) j) := by
  pointwise [k0_pay2]
  simp only [rd0, rd1, rd2, rd3]
  first
  | rfl
  | exact add_assoc _ _ _

/-- The scratch after a block's first half. -/
theorem scr {c : Dev nD} (t : Fin cfg0.N) (h : t.val % 2 = 0) (i : Fin 512) (j : Fin 1024) : (outsAt0 m c t.val t.isLt).2.2.2 (ix2 i j) = half m c t (row t i) j := by
  rw [outsAt0_A m c t h (by omega)]
  frame_open
  simp (disch := decide) only [↓ View.readCov_skip, View.readCov_fill]
  frame_out
  rw [pt2]
  pointwise [k0_pay1]

/-- The normed rows' cotangent after a block's second half. -/
theorem acc {c : Dev nD} (t : Fin cfg0.N) (h : t.val % 2 = 1) (i : Fin 512) (j : Fin 1024) :
    k0_pay2 (outsAt0 m c (t.val - 1) (by omega)).2.2.2 (iblk m c 0 t) (iblk m c 1 t) (iblk m c 2 t) (iblk m c 3 t) (ix2 i j) = RA m c (row t i) j := by
  have ht := t.isLt
  have hN := cfgN
  rw [pt2, scr m ⟨t.val - 1, by omega⟩ (by simp only; omega)]
  have e : row ⟨t.val - 1, by omega⟩ i = row t i := by ext; simp only [row]; omega
  have e0 : ∀ l, col ⟨t.val - 1, by omega⟩ l = ⟨(0 : Fin 2).val * 1408 + l.val, by omega⟩ := fun l => by ext; simp only [col, Fin.val_zero]; omega
  have e1 : ∀ l, col t l = ⟨(1 : Fin 2).val * 1408 + l.val, by simp; omega⟩ := fun l => by ext; simp only [col, Fin.val_one, h]
  rw [e]
  simp only [half, RA, R, e0, e1]
  rw [Fin.sum_univ_tiles 2 1408 rfl, Fin.sum_univ_two, Fin.sum_univ_tiles 2 1408 rfl (fun l => P (m ((c.tc : Thread nD τ).loc main_arg0)) _ _ _ l), Fin.sum_univ_two, add_comm, add_add_add_comm]
  first
  | done
  | (rw [add_add_add_comm]; abel)

/-- What the body computes of `x`'s gradient, on a second half. -/
theorem pt6 (c : Dev nD) (t : Fin cfg0.N) (h : t.val % 2 = 1) (i : Fin 512) (j : Fin 1024) :
    k0_pay6 (k0_pay2 (outsAt0 m c (t.val - 1) (by omega)).2.2.2 (iblk m c 0 t) (iblk m c 1 t) (iblk m c 2 t) (iblk m c 3 t)) (iblk m c 4 t) (iblk m c 5 t) (iblk m c 6 t) (ix2 i j)
    = HAdd.hAdd (α := EReal) (β := EReal) (γ := EReal) ((m ((c.tc : Thread nD τ).loc main_arg5)) (ix2 (row t i) j)) (Rms.along n1024 (XA m c (row t i)) (YA m c (row t i)) j) := by
  pointwise [k0_pay6, k0_pay5, k0_pay4]
  simp only [acc m t h, rd4, rd5, rd6]
  rfl

/-- What the body computes of the gain's gradient, on a second half. -/
theorem pt7 (c : Dev nD) (t : Fin cfg0.N) (h : t.val % 2 = 1) (j : Fin 1024) : k0_pay7 (k0_pay2 (outsAt0 m c (t.val - 1) (by omega)).2.2.2 (iblk m c 0 t) (iblk m c 1 t) (iblk m c 2 t) (iblk m c 3 t)) (iblk m c 4 t) (ix2 0 j)
    = ∑ i : Fin 512, RA m c (row t i) j * (XA m c (row t i) j * Rms.rstd n1024 (XA m c (row t i))) := by
  pointwise [k0_pay7, k0_pay5, k0_pay4]
  simp only [acc m t h, rd4]
  rfl

/-- What is finite of the arguments: all but the cotangent of `x` itself. -/
structure Fed (c : Dev nD) : Prop where
  da : ∀ r k, (m ((c.tc : Thread nD τ).loc main_arg0)) (ix2 r k) = (((m ((c.tc : Thread nD τ).loc main_arg0)) (ix2 r k) : EReal).toReal : EReal)
  db : ∀ r k, (m ((c.tc : Thread nD τ).loc main_arg1)) (ix2 r k) = (((m ((c.tc : Thread nD τ).loc main_arg1)) (ix2 r k) : EReal).toReal : EReal)
  w1 : ∀ r k, (m ((c.tc : Thread nD τ).loc main_arg2)) (ix2 r k) = (((m ((c.tc : Thread nD τ).loc main_arg2)) (ix2 r k) : EReal).toReal : EReal)
  w3 : ∀ r k, (m ((c.tc : Thread nD τ).loc main_arg3)) (ix2 r k) = (((m ((c.tc : Thread nD τ).loc main_arg3)) (ix2 r k) : EReal).toReal : EReal)
  x : ∀ r k, (m ((c.tc : Thread nD τ).loc main_arg4)) (ix2 r k) = (((m ((c.tc : Thread nD τ).loc main_arg4)) (ix2 r k) : EReal).toReal : EReal)
  g : ∀ r k, (m ((c.tc : Thread nD τ).loc main_arg6)) (ix2 r k) = (((m ((c.tc : Thread nD τ).loc main_arg6)) (ix2 r k) : EReal).toReal : EReal)

variable {m}

theorem y_real {c : Dev nD} (h : Fed m c) (r : Fin 16384) : ∃ Z : Fin 1024 → ℝ, ∀ k, YA m c r k = (Z k : EReal) :=
  ⟨fun k => ((∑ l, ((m ((c.tc : Thread nD τ).loc main_arg1)) (ix2 r l) : EReal).toReal * ((m ((c.tc : Thread nD τ).loc main_arg3)) (ix2 k l) : EReal).toReal)
      + ∑ l, ((m ((c.tc : Thread nD τ).loc main_arg0)) (ix2 r l) : EReal).toReal * ((m ((c.tc : Thread nD τ).loc main_arg2)) (ix2 k l) : EReal).toReal)
      * ((m ((c.tc : Thread nD τ).loc main_arg6)) (ix2 0 k) : EReal).toReal, fun k => by
    rw [EReal.coe_mul, EReal.coe_add, ← Finite.dot _ _ (fun l => h.db r l) (fun l => h.w3 k l), ← Finite.dot _ _ (fun l => h.da r l) (fun l => h.w1 k l), ← h.g 0 k]
    rfl⟩

/-- The gradient of `x`: what the body computes is the block of the reference. -/
theorem dx_eq {c : Dev nD} (h : Fed m c) (t : Fin cfg0.N) (ht : t.val % 2 = 1) (y : S512x1024.Idx) : k0_pay6 (k0_pay2 (outsAt0 m c (t.val - 1) (by omega)).2.2.2 (iblk m c 0 t) (iblk m c 1 t) (iblk m c 2 t) (iblk m c 3 t)) (iblk m c 4 t) (iblk m c 5 t) (iblk m c 6 t) y
    = val_main_v43 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix2 (row t (y 0)) (y 1)) := by
  obtain ⟨i, j, rfl⟩ : ∃ i j, y = ix2 i j := ⟨y 0, y 1, eq_ix2 y⟩
  obtain ⟨Z, hZ⟩ := y_real h (row t i)
  rw [pt6 m c t ht]
  refine Eq.trans ?_ (ref43 _ _ _ _ _ _ _ (row t i) j).symm
  exact congrArg _ (Rms.along_eq Rms.n_word (by norm_num) (fun k => h.x (row t i) k) hZ j)

/-- The points at which the two blocks of `x`'s gradient go back are the second halves. -/
theorem flush7 : ∀ t : Fin cfg0.N, (cfg0.win 7).flush t = true → t.val % 2 = 1 := (by decide +kernel : ∀ t : Fin grid0.N, _)
theorem flush8 : ∀ t : Fin cfg0.N, (cfg0.win 8).flush t = true → t.val % 2 = 1 := (by decide +kernel : ∀ t : Fin grid0.N, _)
theorem flush9 : ∀ t : Fin cfg0.N, (cfg0.win 9).flush t = true → t.val = 63 := (by decide +kernel : ∀ t : Fin grid0.N, _)

theorem fin7 {c : Dev nD} (h : Fed m c) : (dats m 0 c).arrAt 7 cfg0.N = val_main_v43 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 7 _ (by decide +kernel) fun t hf y => ?_
  have ht := flush7 t hf
  blk_simp
  refine Eq.trans ?_ ((dx_eq h t ht y).trans (congrArg _ (emb7 t y).symm))
  rw [after0_7]
  by_cases h2 : t.val < 2
  · rw [outsAt0_B m c t (by omega) ht h2]; frame_open; simp (disch := decide) only [↓ View.readCov_skip, View.readCov_fill]; frame_out; simp only [read_unread_whole]
  · rw [outsAt0_C m c t (by omega) ht h2]; frame_open; simp (disch := decide) only [↓ View.readCov_skip, View.readCov_fill]; frame_out; simp only [read_unread_whole]

theorem fin8 {c : Dev nD} (h : Fed m c) : (dats m 0 c).arrAt 8 cfg0.N = val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 8 _ (by decide +kernel) fun t hf y => ?_
  have ht := flush8 t hf
  blk_simp
  refine Eq.trans ?_ ((dx_eq h t ht y).trans (congrArg (val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (emb8 t y).symm))
  rw [after0_8]
  by_cases h2 : t.val < 2
  · rw [outsAt0_B m c t (by omega) ht h2]; frame_open; simp (disch := decide) only [↓ View.readCov_skip, View.readCov_fill]; frame_out; simp only [read_unread_whole]; rfl
  · rw [outsAt0_C m c t (by omega) ht h2]; frame_open; simp (disch := decide) only [↓ View.readCov_skip, View.readCov_fill]; frame_out; simp only [read_unread_whole]; rfl

/-- What block `q` adds to the gain's gradient. -/
def part (c : Dev nD) (q : ℕ) (j : Fin 1024) : EReal :=
  ∑ i : Fin 512, if h : q * 512 + i.val < 16384 then RA m c ⟨q * 512 + i.val, h⟩ j * (XA m c ⟨q * 512 + i.val, h⟩ j * Rms.rstd n1024 (XA m c ⟨q * 512 + i.val, h⟩)) else 0

theorem part_row (c : Dev nD) (t : Fin cfg0.N) (j : Fin 1024) :
    ∑ i : Fin 512, RA m c (row t i) j * (XA m c (row t i) j * Rms.rstd n1024 (XA m c (row t i))) = part (m := m) c (t.val / 2) j :=
  Finset.sum_congr rfl fun i _ => by split; exacts [rfl, absurd (row t i).isLt ‹_›]

/-- The gain's gradient after the first block, between a block's halves, and after each further block. -/
theorem stepB (c : Dev nD) (t : Fin cfg0.N) (h : t.val % 2 = 1) (h2 : t.val < 2) (j : Fin 1024) : (outsAt0 m c t.val t.isLt).2.2.1 (ix2 0 j) = part (m := m) c (t.val / 2) j := by
  rw [outsAt0_B m c t (by omega) h h2]; frame_open
  simp (disch := decide) only [↓ View.readCov_skip, View.readCov_fill]
  frame_out
  simp only [read_unread_whole]
  pointwise [k0_pay3, k0_pay9]
  exact (pt7 m c t h j).trans (part_row c t j)
theorem stepA (c : Dev nD) (t : Fin cfg0.N) (h : t.val % 2 = 0) (j : Fin 1024) :
    (outsAt0 m c t.val t.isLt).2.2.1 (ix2 0 j) = (outsAt0 m c (t.val - 1) (by omega)).2.2.1 (ix2 0 j) := by
  rw [outsAt0_A m c t h (by omega)]; simp only [out0_A_9]
theorem stepC (c : Dev nD) (t : Fin cfg0.N) (h : t.val % 2 = 1) (h2 : ¬t.val < 2) (j : Fin 1024) : (outsAt0 m c t.val t.isLt).2.2.1 (ix2 0 j)
    = HAdd.hAdd (α := EReal) (β := EReal) (γ := EReal) ((outsAt0 m c (t.val - 1) (by omega)).2.2.1 (ix2 0 j)) (part (m := m) c (t.val / 2) j) := by
  rw [outsAt0_C m c t (by omega) h h2]; frame_open
  simp (disch := decide) only [↓ View.readCov_skip, View.readCov_fill]
  frame_out
  simp only [read_unread_whole]
  pointwise [k0_pay3]
  exact congrArg _ ((pt7 m c t h j).trans (part_row c t j))

/-- A value set at point 1, kept at the even points and added to at the odd ones, is a sum. -/
theorem sum_steps {N : ℕ} (g : ∀ n : ℕ, n < N → EReal) (b : ℕ → EReal) (h1 : ∀ t : Fin N, t.val % 2 = 1 → t.val < 2 → g t.val t.isLt = b (t.val / 2))
    (hA : ∀ t : Fin N, t.val % 2 = 0 → g t.val t.isLt = g (t.val - 1) (by omega))
    (hC : ∀ t : Fin N, t.val % 2 = 1 → ¬ t.val < 2 → g t.val t.isLt = g (t.val - 1) (by omega) + b (t.val / 2)) (q : ℕ) :
    ∀ h : 2 * q + 1 < N, g (2 * q + 1) h = ∑ s ∈ Finset.range (q + 1), b s := by
  induction q with
  | zero =>
    intro h
    rw [Finset.sum_range_one]
    exact (h1 ⟨2 * 0 + 1, h⟩ (by simp only) (by simp only; omega)).trans (congrArg b (by simp only))
  | succ q ih =>
    intro h
    rw [Finset.sum_range_succ, ← ih (by omega)]
    have e1 := hC ⟨2 * (q + 1) + 1, h⟩ (by simp only; omega) (by simp only; omega)
    have e2 := hA ⟨2 * (q + 1), by omega⟩ (by simp only; omega)
    have e : (2 * (q + 1) + 1) / 2 = q + 1 := by omega
    simp only [Nat.add_sub_cancel, e] at e1
    exact e1.trans (congrArg (· + b (q + 1)) e2)
theorem sum_at {N : ℕ} (g : ∀ n : ℕ, n < N → EReal) (b : ℕ → EReal) (h1 : ∀ t : Fin N, t.val % 2 = 1 → t.val < 2 → g t.val t.isLt = b (t.val / 2))
    (hA : ∀ t : Fin N, t.val % 2 = 0 → g t.val t.isLt = g (t.val - 1) (by omega))
    (hC : ∀ t : Fin N, t.val % 2 = 1 → ¬ t.val < 2 → g t.val t.isLt = g (t.val - 1) (by omega) + b (t.val / 2)) (t : Fin N) (ht : t.val = 63) :
    g t.val t.isLt = ∑ s : Fin 32, b s.val := by
  obtain ⟨n, hn⟩ := t
  subst ht
  exact (sum_steps g b h1 hA hC 31 hn).trans (Finset.sum_range _)

theorem fin9 (c : Dev nD) : (dats m 0 c).arrAt 9 cfg0.N = val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 9 _ (by decide +kernel) fun t hf z => ?_
  have ht := flush9 t hf
  obtain ⟨i, j, rfl⟩ : ∃ i j, z = ix2 i j := ⟨z 0, z 1, eq_ix2 z⟩
  obtain rfl : i = 0 := Subsingleton.elim _ _
  blk_simp
  refine Eq.trans ?_ ((congrArg _ (emb9 t (ix2 0 j))).trans (ref26 _ _ _ _ _ j)).symm
  rw [after0_9]
  refine (sum_at (fun n h => (outsAt0 m c n h).2.2.1 (ix2 0 j)) (fun q => part (m := m) c q j) (fun t h h2 => stepB c t h h2 j) (fun t h => stepA c t h j)
    (fun t h h2 => stepC c t h h2 j) t ht).trans ?_
  rw [Fin.sum_univ_tiles 32 512 rfl]
  exact Finset.sum_congr rfl fun s _ => Finset.sum_congr rfl fun i _ => dif_pos (by omega)

/-- The precondition's own side conditions. -/
theorem pre_facts : Cert.Pre_dh_finite.Facts := by constructor <;> decide

section Lift
attribute [local instance] pre_facts

/-- The precondition makes the arguments that it names real numbers. -/
theorem fed_of_pre (c : Dev nD) (h : Cert.Pre_dh_finite.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1) : Fed m c := by
  have h0 := congrFun h (Shape.Idx.first Cert.Pre_dh_finite.Facts.h_S_)
  unfold Cert.Pre_dh_finite.fn at h0
  dsimp only at h0
  obtain ⟨h1, hf⟩ := IntOp.andi_eq_one.1 h0
  obtain ⟨h2, he⟩ := IntOp.andi_eq_one.1 h1
  obtain ⟨h3, hd⟩ := IntOp.andi_eq_one.1 h2
  obtain ⟨h4, hc⟩ := IntOp.andi_eq_one.1 h3
  obtain ⟨ha, hb⟩ := IntOp.andi_eq_one.1 h4
  have : Subsingleton Cert.Pre_dh_finite.S_.Idx := ⟨fun a b => funext fun k => k.elim0⟩
  refine ⟨fun i x => Finite.of_lt _ ?_, fun i x => Finite.of_lt _ ?_, fun i x => Finite.of_lt _ ?_, fun i x => Finite.of_lt _ ?_, fun i x => Finite.of_lt _ ?_, fun i x => Finite.of_lt _ ?_⟩
  · have := Host.reduce_andi_all _ _ _ _ _ ha (ix2 i x)
    pointwise at this; exact this
  · have := Host.reduce_andi_all _ _ _ _ _ hb (ix2 i x)
    pointwise at this; exact this
  · have := Host.reduce_andi_all _ _ _ _ _ hc (ix2 i x)
    pointwise at this; exact this
  · have := Host.reduce_andi_all _ _ _ _ _ hd (ix2 i x)
    pointwise at this; exact this
  · have := Host.reduce_andi_all _ _ _ _ _ he (ix2 i x)
    pointwise at this; exact this
  · have := Host.reduce_andi_all _ _ _ _ _ hf (ix2 i x)
    pointwise at this; exact this

/-- The norm's gradients are the same function over the extended reals. -/
theorem algebraic : Cert.algebraic_DhIdeal_DhRefIdeal_pre_dh_finite := fun m ρ m' ρ' hpre hag =>
  ⟨fun c => val_main_v43 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)),
   fun c => val_main_v44 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)),
   fun c => val_main_v26 (F := Ideal) (m (c.tc.loc main_arg0)) (m (c.tc.loc main_arg1)) (m (c.tc.loc main_arg2)) (m (c.tc.loc main_arg3)) (m (c.tc.loc main_arg4)),
   (θ_run Cert.DhIdeal.defs _ _).mono (fun r h c => by
     obtain ⟨h0, h1, h2, ha⟩ := h c
     have fed := fed_of_pre c (hpre c)
     exact ⟨h0.trans (fin7 fed), h1.trans (fin8 fed), h2.trans (fin9 c), ha⟩) (run_blocks m ρ),
   (θ_run Cert.DhRefIdeal.defs _ _).mono (fun r h c => by
     obtain ⟨e0, e1, e2, e3, e4, e5, e6⟩ := hag c
     obtain ⟨h0, h1, h2, ha⟩ := h c
     rw [val_main_v43_eq, e0, e1, e2, e3, e4, e5, e6] at h0
     rw [val_main_v44_eq, e0, e1, e2, e3, e4, e5, e6] at h1
     rw [val_main_v26_eq, e0, e1, e2, e3, e4] at h2
     exact ⟨h0, h1, h2, ha⟩) (Cert.DhRefIdeal.Value.run m' ρ')⟩
end Lift

theorem frame_ref : Cert.quiescent_DhRefIdeal := fun m ρ _ =>
  (θ_run Cert.DhRefIdeal.defs _ _).mono (fun r h => ⟨fun c => (h c).2.2.2, sem_eq_zero_of_no_sems (by decide) r.2⟩) (Cert.DhRefIdeal.Value.run m ρ)

end Cert.DhIdeal.Value

end
-- ==== Proof.DhGate.lean ====
/-
  The gradient of the mixers' RMS norm, behind the gates' product.

  The layer's `x` goes on as it is (cotangent `dx2`), normed into the mixers (cotangent `dh`) and normed into the gates' logits
  (cotangent `dlogits`, through `w_gate`). The kernel walks 32 blocks of 512 rows: of each it forms the normed rows' cotangent by one
  product, removes its part along the row, and adds cotangent times normed row to the gain's gradient, which it keeps over the grid.
  The reference differentiates the norm's lines.
-/
module

public import proofs.«01_k».proof.Proof.Gen.DhGateIdeal.Value
public import proofs.«01_k».proof.Proof.Gen.DhGateRefIdeal.Read
public import proofs.«01_k».proof.Proof.Gen.DhGateRefIdeal.Run
public import proofs.«01_k».proof.Proof.Rms
public import proofs.«01_k».proof.Defs
public import Idealize.ShloMosaic.Lib.Pointwise
public import Idealize.ShloMosaic.Lib.ReduceAll
public import Idealize.ShloMosaic.Lib.Pipeline.ValueKit
public import Idealize.ShloMosaic.Lib.Pipeline.ReadBack

@[expose] public section

set_option maxRecDepth 16384

noncomputable section

namespace Cert.DhGateIdeal.Value

open Cert.DhGateIdeal Cert.DhGateIdeal.Gen Idealize.ShloMosaic Idealize.ShloMosaic.TcCoe Idealize.SL.Sem
open Idealize.ShloMosaic.Pipeline (Dat)
open Cert.DhGateRefIdeal.Read

/-- The mean's divisor. -/
abbrev n1024 : EReal := Ideal.ofBits .f32 0x44800000#32

section
variable (x0 : (⟨Cert.DhGateRefIdeal.S16384x3072, .bf16⟩ : BufTy).Contents (Elt Ideal)) (x1 : (⟨Cert.DhGateRefIdeal.S1024x3072, .bf16⟩ : BufTy).Contents (Elt Ideal))
  (x2 x3 x4 : (⟨Cert.DhGateRefIdeal.S16384x1024, .f32⟩ : BufTy).Contents (Elt Ideal)) (x5 : (⟨Cert.DhGateRefIdeal.S1x1024, .f32⟩ : BufTy).Contents (Elt Ideal))

/-- The normed row's cotangent, and that of the row over its root mean square. -/
def R (r : Fin 16384) (k : Fin 1024) : EReal := (∑ l : Fin 3072, HMul.hMul (α := EReal) (β := EReal) (γ := EReal) (x0 (ix2 r l)) (x1 (ix2 k l))) + x2 (ix2 r k)
def Y (r : Fin 16384) (k : Fin 1024) : EReal := R x0 x1 x2 r k * x5 (ix2 0 k)
def X (r : Fin 16384) (k : Fin 1024) : EReal := x3 (ix2 r k)

theorem ref19 (r : Fin 16384) (j : Fin 1024) : val_main_v19 (F := Ideal) x0 x1 x2 (ix2 r j) = R x0 x1 x2 r j := by
  pointwise [val_main_v19, val_main_v18, val_main_v17, val_main_v15]
  exact add_comm _ _

theorem ref39 (r : Fin 16384) (j : Fin 1024) : val_main_v39 (F := Ideal) x0 x1 x2 x3 x4 x5 (ix2 r j)
    = x4 (ix2 r j) + Rms.through n1024 (X x3 r) (Y x0 x1 x2 x5 r) j := by
  pointwise [val_main_v39, val_main_v38, val_main_v37, val_main_v36, val_main_v35, val_main_v34, val_main_cst_6, val_main_v33, val_main_v32, val_main_cst_5, val_main_v31,
    val_main_v30, val_main_v29, val_main_v28, val_main_v27, val_main_v26, val_main_cst_4, val_main_v25, val_main_v24, val_main_v23, val_main_v10, val_main_v9, val_main_cst_2,
    val_main_v8, val_main_v7, val_main_v6, val_main_v5, val_main_cst_1, val_main_v4, val_main_v3, val_main_cst_0, val_main_v2, val_main_v1, val_main_cst, val_main_v0]
  simp only [Fin.sum_univ_one, ref19, add_assoc]
  rw [Rms.through, add_assoc]
  rfl

theorem ref22 (j : Fin 1024) : val_main_v22 (F := Ideal) x0 x1 x2 x3 (ix2 0 j) = ∑ r : Fin 16384, R x0 x1 x2 r j * (X x3 r j * Rms.rstd n1024 (X x3 r)) := by
  pointwise [val_main_v22, val_main_v21, val_main_cst_3, val_main_v20, val_main_v12, val_main_v11,
    val_main_v7, val_main_v6, val_main_v5, val_main_cst_1, val_main_v4, val_main_v3, val_main_cst_0, val_main_v2, val_main_v1, val_main_cst, val_main_v0]
  exact Finset.sum_congr rfl fun r _ => (mul_comm _ _).trans (by rw [ref19]; rfl)
end

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0]
    ∧ win0_6.index t = ![t.val, 0] ∧ win0_7.index t = ![t.val, 0] ∧ win0_8.index t = ![0, 0] :=
  (by decide +kernel : ∀ t : Fin grid0.N, _)

theorem cfgN : cfg0.N = 32 := by decide +kernel

/-- Row `i` of the block of grid point `t`. -/
def row (t : Fin cfg0.N) (i : Fin 512) : Fin 16384 := ⟨t.val * 512 + i.val, by have := t.isLt; have := cfgN; omega⟩

theorem rd0 (c : Dev nD) (t : Fin cfg0.N) (i : Fin 512) (j : Fin 3072) : iblk m c 0 t (ix2 i j) = (m ((c.tc : Thread nD τ).loc main_arg0)) (ix2 (row t i) j) := by
  blk_ext [iblk, V, idx t, row]
theorem rd1 (c : Dev nD) (t : Fin cfg0.N) (i : Fin 1024) (j : Fin 3072) : iblk m c 1 t (ix2 i j) = (m ((c.tc : Thread nD τ).loc main_arg1)) (ix2 i j) := by
  blk_ext [iblk, V, idx t]
theorem rd2 (c : Dev nD) (t : Fin cfg0.N) (i : Fin 512) (j : Fin 1024) : iblk m c 2 t (ix2 i j) = (m ((c.tc : Thread nD τ).loc main_arg2)) (ix2 (row t i) j) := by
  blk_ext [iblk, V, idx t, row]
theorem rd3 (c : Dev nD) (t : Fin cfg0.N) (i : Fin 512) (j : Fin 1024) : iblk m c 3 t (ix2 i j) = (m ((c.tc : Thread nD τ).loc main_arg3)) (ix2 (row t i) j) := by
  blk_ext [iblk, V, idx t, row]
theorem rd4 (c : Dev nD) (t : Fin cfg0.N) (i : Fin 512) (j : Fin 1024) : iblk m c 4 t (ix2 i j) = (m ((c.tc : Thread nD τ).loc main_arg4)) (ix2 (row t i) j) := by
  blk_ext [iblk, V, idx t, row]
theorem rd5 (c : Dev nD) (t : Fin cfg0.N) (j : Fin 1024) : iblk m c 5 t (ix2 0 j) = (m ((c.tc : Thread nD τ).loc main_arg5)) (ix2 0 j) := by
  blk_ext [iblk, V, idx t]
theorem emb6 (t : Fin cfg0.N) (y : S512x1024.Idx) : (win0_6.blk t).view.emb y = ix2 (row t (y 0)) (y 1) := by blk_ext [idx t, row]
theorem emb7 (t : Fin cfg0.N) (y : S512x1024.Idx) : (win0_7.blk t).view.emb y = ix2 (row t (y 0)) (y 1) := by blk_ext [idx t, row]
theorem emb8 (t : Fin cfg0.N) (y : S1x1024.Idx) : (win0_8.blk t).view.emb y = ix2 0 (y 1) := by blk_ext [idx t]

/-- The cotangents and rows of the device's arguments. -/
abbrev RA (c : Dev nD) : Fin 16384 → Fin 1024 → EReal := R (m ((c.tc : Thread nD τ).loc main_arg0)) (m ((c.tc : Thread nD τ).loc main_arg1)) (m ((c.tc : Thread nD τ).loc main_arg2))
abbrev YA (c : Dev nD) : Fin 16384 → Fin 1024 → EReal := Y (m ((c.tc : Thread nD τ).loc main_arg0)) (m ((c.tc : Thread nD τ).loc main_arg1)) (m ((c.tc : Thread nD τ).loc main_arg2)) (m ((c.tc : Thread nD τ).loc main_arg5))
abbrev XA (c : Dev nD) : Fin 16384 → Fin 1024 → EReal := X (m ((c.tc : Thread nD τ).loc main_arg3))

theorem pt4 (c : Dev nD) (t : Fin cfg0.N) (i : Fin 512) (j : Fin 1024) : k0_pay4 (iblk m c 0 t) (iblk m c 1 t) (iblk m c 2 t) (ix2 i j) = RA m c (row t i) j := by
  pointwise [k0_pay4]
  simp only [rd0, rd1, rd2]
  rfl

/-- What the body computes of `x`'s gradient. -/
theorem pt7 (c : Dev nD) (t : Fin cfg0.N) (i : Fin 512) (j : Fin 1024) :
    k0_pay7 (iblk m c 0 t) (iblk m c 1 t) (iblk m c 2 t) (iblk m c 3 t) (iblk m c 4 t) (iblk m c 5 t) (ix2 i j)
    = HAdd.hAdd (α := EReal) (β := EReal) (γ := EReal) ((m ((c.tc : Thread nD τ).loc main_arg4)) (ix2 (row t i) j)) (Rms.along n1024 (XA m c (row t i)) (YA m c (row t i)) j) := by
  pointwise [k0_pay7, k0_pay6, k0_pay5]
  simp only [pt4, rd3, rd4, rd5]
  rfl

/-- What the body computes of the gain's gradient. -/
theorem pt8 (c : Dev nD) (t : Fin cfg0.N) (j : Fin 1024) : k0_pay8 (iblk m c 0 t) (iblk m c 1 t) (iblk m c 2 t) (iblk m c 3 t) (ix2 0 j)
    = ∑ i : Fin 512, RA m c (row t i) j * (XA m c (row t i) j * Rms.rstd n1024 (XA m c (row t i))) := by
  pointwise [k0_pay8, k0_pay6, k0_pay5]
  simp only [pt4, rd3]
  rfl

/-- What is finite of the arguments: all but the cotangent of `x` itself. -/
structure Fed (c : Dev nD) : Prop where
  dl : ∀ r k, (m ((c.tc : Thread nD τ).loc main_arg0)) (ix2 r k) = (((m ((c.tc : Thread nD τ).loc main_arg0)) (ix2 r k) : EReal).toReal : EReal)
  w : ∀ r k, (m ((c.tc : Thread nD τ).loc main_arg1)) (ix2 r k) = (((m ((c.tc : Thread nD τ).loc main_arg1)) (ix2 r k) : EReal).toReal : EReal)
  dh : ∀ r k, (m ((c.tc : Thread nD τ).loc main_arg2)) (ix2 r k) = (((m ((c.tc : Thread nD τ).loc main_arg2)) (ix2 r k) : EReal).toReal : EReal)
  x : ∀ r k, (m ((c.tc : Thread nD τ).loc main_arg3)) (ix2 r k) = (((m ((c.tc : Thread nD τ).loc main_arg3)) (ix2 r k) : EReal).toReal : EReal)
  g : ∀ r k, (m ((c.tc : Thread nD τ).loc main_arg5)) (ix2 r k) = (((m ((c.tc : Thread nD τ).loc main_arg5)) (ix2 r k) : EReal).toReal : EReal)

variable {m}

theorem y_real {c : Dev nD} (h : Fed m c) (r : Fin 16384) : ∃ Z : Fin 1024 → ℝ, ∀ k, YA m c r k = (Z k : EReal) :=
  ⟨fun k => ((∑ l, ((m ((c.tc : Thread nD τ).loc main_arg0)) (ix2 r l) : EReal).toReal * ((m ((c.tc : Thread nD τ).loc main_arg1)) (ix2 k l) : EReal).toReal)
      + ((m ((c.tc : Thread nD τ).loc main_arg2)) (ix2 r k) : EReal).toReal) * ((m ((c.tc : Thread nD τ).loc main_arg5)) (ix2 0 k) : EReal).toReal, fun k => by
    rw [EReal.coe_mul, EReal.coe_add, ← Finite.dot _ _ (fun l => h.dl r l) (fun l => h.w k l), ← h.dh r k, ← h.g 0 k]
    rfl⟩

/-- The gradient of `x`: what the body computes is the block of the reference. -/
theorem dx_eq {c : Dev nD} (h : Fed m c) (t : Fin cfg0.N) (y : S512x1024.Idx) : k0_pay7 (iblk m c 0 t) (iblk m c 1 t) (iblk m c 2 t) (iblk m c 3 t) (iblk m c 4 t) (iblk m c 5 t) y
    = val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      (ix2 (row t (y 0)) (y 1)) := by
  obtain ⟨i, j, rfl⟩ : ∃ i j, y = ix2 i j := ⟨y 0, y 1, eq_ix2 y⟩
  obtain ⟨Z, hZ⟩ := y_real h (row t i)
  rw [pt7]
  refine Eq.trans ?_ (ref39 _ _ _ _ _ _ (row t i) j).symm
  exact congrArg _ (Rms.along_eq Rms.n_word (by norm_num) (fun k => h.x (row t i) k) hZ j)

theorem final6 {c : Dev nD} (h : Fed m c) : (dats m 0 c).arrAt 6 cfg0.N
    = val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 6 _ (by decide +kernel) fun t _ y => ?_
  blk_simp
  refine Eq.trans ?_ ((dx_eq h t y).trans (congrArg _ (emb6 t y).symm))
  rw [after0_6]
  by_cases h : t.val % 32 = 0
  · rw [outsAt0_A m c t h]; frame_out
  · rw [outsAt0_B m c t h]; frame_out

theorem final7 {c : Dev nD} (h : Fed m c) : (dats m 0 c).arrAt 7 cfg0.N
    = val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 7 _ (by decide +kernel) fun t _ y => ?_
  blk_simp
  refine Eq.trans ?_ ((dx_eq h t y).trans (congrArg (val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (emb7 t y).symm))
  rw [after0_7]
  by_cases h : t.val % 32 = 0
  · rw [outsAt0_A m c t h]; frame_out; rfl
  · rw [outsAt0_B m c t h]; frame_out; rfl

/-- The gain's gradient after the first point and after each further one. -/
theorem stepA (c : Dev nD) (t : Fin cfg0.N) (h : t.val % 32 = 0) (z : S1x1024.Idx) : (outsAt0 m c t.val t.isLt).2.2 z
    = (0 + ∑ i : Fin 512, RA m c (row t i) (z 1) * (XA m c (row t i) (z 1) * Rms.rstd n1024 (XA m c (row t i))) : EReal) := by
  obtain ⟨i, j, rfl⟩ : ∃ i j, z = ix2 i j := ⟨z 0, z 1, eq_ix2 z⟩
  obtain rfl : i = 0 := Subsingleton.elim _ _
  rw [outsAt0_A m c t h]; frame_open
  simp (disch := decide) only [↓ View.readCov_skip, View.readCov_fill]
  frame_out
  pointwise [k0_pay3, k0_pay2]
  exact pt8 m c t j
theorem stepB (c : Dev nD) (t : Fin cfg0.N) (h : ¬ t.val % 32 = 0) (z : S1x1024.Idx) : (outsAt0 m c t.val t.isLt).2.2 z
    = ((outsAt0 m c (t.val - 1) (by omega)).2.2 z + ∑ i : Fin 512, RA m c (row t i) (z 1) * (XA m c (row t i) (z 1) * Rms.rstd n1024 (XA m c (row t i))) : EReal) := by
  obtain ⟨i, j, rfl⟩ : ∃ i j, z = ix2 i j := ⟨z 0, z 1, eq_ix2 z⟩
  obtain rfl : i = 0 := Subsingleton.elim _ _
  rw [outsAt0_B m c t h]; frame_out
  pointwise [k0_pay3]
  exact congrArg _ (pt8 m c t j)

/-- The rows of the 32 blocks are all rows. -/
theorem sum_blocks (f : Fin 16384 → EReal) (q : ℕ) (hq : q = 0) (h : ∀ s : Fin 32, 32 * q + s.val < cfg0.N) :
    ∑ s : Fin 32, ∑ i : Fin 512, f (row ⟨32 * q + s.val, h s⟩ i) = ∑ r : Fin 16384, f r := by
  subst hq
  rw [Fin.sum_univ_tiles 32 512 rfl]
  refine Finset.sum_congr rfl fun s _ => Finset.sum_congr rfl fun k _ => congrArg f (Fin.ext ?_)
  simp only [row]
  omega

theorem final8 (c : Dev nD) : (dats m 0 c).arrAt 8 cfg0.N
    = val_main_v22 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 8 _ (by decide +kernel) fun t hf z => ?_
  blk_simp
  refine Eq.trans ?_ ((congrArg _ (emb8 t z)).trans (ref22 _ _ _ _ (z 1))).symm
  rw [after0_8, Pipeline.eq_sum_fin_of_reset_step_apply_of_flush (fun n h => (outsAt0 m c n h).2.2) 32 (fun _ => (0 : EReal))
    (fun t z => (∑ i : Fin 512, RA m c (row t i) (z 1) * (XA m c (row t i) (z 1) * Rms.rstd n1024 (XA m c (row t i))) : EReal)) (fun t h z => stepA c t h z) (fun t h z => stepB c t h z)
    t ((flush0_8 t).mp hf) z, zero_add]
  exact sum_blocks (fun r => RA m c r (z 1) * (XA m c r (z 1) * Rms.rstd n1024 (XA m c r))) _ (Nat.div_eq_of_lt (lt_of_lt_of_eq t.isLt cfgN)) _

/-- The precondition's own side conditions. -/
theorem pre_facts : Cert.Pre_dhgate_finite.Facts := by constructor <;> decide

section Lift
attribute [local instance] pre_facts

/-- The precondition makes the arguments that it names real numbers. -/
theorem fed_of_pre (c : Dev nD) (h : Cert.Pre_dhgate_finite.fn (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5)) = fun _ => 1#1) : Fed m c := by
  have h0 := congrFun h (Shape.Idx.first Cert.Pre_dhgate_finite.Facts.h_S_)
  unfold Cert.Pre_dhgate_finite.fn at h0
  dsimp only at h0
  obtain ⟨h1, he⟩ := IntOp.andi_eq_one.1 h0
  obtain ⟨h2, hd⟩ := IntOp.andi_eq_one.1 h1
  obtain ⟨h3, hc⟩ := IntOp.andi_eq_one.1 h2
  obtain ⟨ha, hb⟩ := IntOp.andi_eq_one.1 h3
  have : Subsingleton Cert.Pre_dhgate_finite.S_.Idx := ⟨fun a b => funext fun k => k.elim0⟩
  refine ⟨fun i x => Finite.of_lt _ ?_, fun i x => Finite.of_lt _ ?_, fun i x => Finite.of_lt _ ?_, fun i x => Finite.of_lt _ ?_, fun i x => Finite.of_lt _ ?_⟩
  · have := Host.reduce_andi_all _ _ _ _ _ ha (ix2 i x)
    pointwise at this; exact this
  · have := Host.reduce_andi_all _ _ _ _ _ hb (ix2 i x)
    pointwise at this; exact this
  · have := Host.reduce_andi_all _ _ _ _ _ hc (ix2 i x)
    pointwise at this; exact this
  · have := Host.reduce_andi_all _ _ _ _ _ hd (ix2 i x)
    pointwise at this; exact this
  · have := Host.reduce_andi_all _ _ _ _ _ he (ix2 i x)
    pointwise at this; exact this

/-- The norm's gradients are the same function over the extended reals. -/
theorem algebraic : Cert.algebraic_DhGateIdeal_DhGateRefIdeal_pre_dhgate_finite := fun m ρ m' ρ' hpre hag =>
  ⟨fun c => val_main_v39 (F := Ideal) (m (c.tc.loc main_arg0)) (m (c.tc.loc main_arg1)) (m (c.tc.loc main_arg2)) (m (c.tc.loc main_arg3)) (m (c.tc.loc main_arg4)) (m (c.tc.loc main_arg5)),
   fun c => val_main_v40 (F := Ideal) (m (c.tc.loc main_arg0)) (m (c.tc.loc main_arg1)) (m (c.tc.loc main_arg2)) (m (c.tc.loc main_arg3)) (m (c.tc.loc main_arg4)) (m (c.tc.loc main_arg5)),
   fun c => val_main_v22 (F := Ideal) (m (c.tc.loc main_arg0)) (m (c.tc.loc main_arg1)) (m (c.tc.loc main_arg2)) (m (c.tc.loc main_arg3)),
   (θ_run Cert.DhGateIdeal.defs _ _).mono (fun r h c => by
     obtain ⟨h0, h1, h2, ha⟩ := h c
     have fed := fed_of_pre c (hpre c)
     exact ⟨h0.trans (final6 fed), h1.trans (final7 fed), h2.trans (final8 c), ha⟩) (run_blocks m ρ),
   (θ_run Cert.DhGateRefIdeal.defs _ _).mono (fun r h c => by
     obtain ⟨e0, e1, e2, e3, e4, e5⟩ := hag c
     obtain ⟨h0, h1, h2, ha⟩ := h c
     rw [val_main_v39_eq, e0, e1, e2, e3, e4, e5] at h0
     rw [val_main_v40_eq, e0, e1, e2, e3, e4, e5] at h1
     rw [val_main_v22_eq, e0, e1, e2, e3] at h2
     exact ⟨h0, h1, h2, ha⟩) (Cert.DhGateRefIdeal.Value.run m' ρ')⟩
end Lift

theorem frame_ref : Cert.quiescent_DhGateRefIdeal := fun m ρ _ =>
  (θ_run Cert.DhGateRefIdeal.defs _ _).mono (fun r h => ⟨fun c => (h c).2.2.2, sem_eq_zero_of_no_sems (by decide) r.2⟩) (Cert.DhGateRefIdeal.Value.run m ρ)

end Cert.DhGateIdeal.Value

end
-- ==== Proof.Soft.lean ====
/-
  A row's softmax over finite scores, and its gradient in the two ways that the programs write it.
-/
module

public import proofs.«01_k».proof.Proof.Finite
public import Idealize.ShloMosaic.Lib.Pointwise

@[expose] public section

noncomputable section

namespace Cert.Soft

open Idealize.ShloMosaic

/-- The word of −∞. -/
theorem bot_word : (Ideal.ofBits FTy.f32 0xFF800000#32 : EReal) = ⊥ := by
  simp [Ideal.ofBits, Ideal.ieee]

theorem one_word : (Ideal.ofBits FTy.f32 0x3F800000#32 : EReal) = ((1 : ℝ) : EReal) := by
  simp [Ideal.ofBits, Ideal.ieee, -EReal.coe_mul]; norm_num

/-- The word of one eighth. -/
theorem eighth_word : (Ideal.ofBits FTy.f32 0x3E000000#32 : EReal) = ((1 / 8 : ℝ) : EReal) := by
  simp [Ideal.ofBits, Ideal.ieee, -EReal.coe_mul]; norm_num

variable {n : ℕ} (s d : Fin n → EReal)

/-- The row's maximum, a score's exponential, their sum, and the probability. -/
def mx : EReal := Finset.fold max (Ideal.ofBits .f32 0xFF800000#32) s Finset.univ
def ex (k : Fin n) : EReal := Ideal.exp (s k - mx s)
def tot : EReal := ∑ k, ex s k
def prob (k : Fin n) : EReal := Ideal.div (ex s k) (tot s)

/-- The gradient of the scores as the kernel writes it. -/
def kern (k : Fin n) : EReal := prob s k * (d k - ∑ l, prob s l * d l)

/-- The gradient of the scores as `jax.vjp` writes it. -/
def back (k : Fin n) : EReal :=
  (Ideal.div (d k) (tot s) + -(∑ l, d l * Ideal.div (1) (tot s * tot s) * ex s l)) * ex s k

/-- The maximum along the last axis, as a host reduction. -/
theorem max_last {n0 n1 n2 : ℕ} {u : Shape} (h : (⟨3, ![n0, n1, n2]⟩ : Shape).ReducesTo [2] ⟨2, ![n0, n1]⟩) (hu : 0 < u.numel)
    (v : FVec Ideal ⟨3, ![n0, n1, n2]⟩ .f32) (w : FVec Ideal u .f32) (a : Fin n0) (b : Fin n1) (hw : w (Shape.Idx.first hu) = Ideal.ofBits .f32 0xFF800000#32) :
    Host.reduce FloatOps.maximumf v w h hu (ix2 a b) = mx fun k : Fin n2 => (v (ix3 a b k) : EReal) := by
  rw [Host.reduce_eq_fold, h.fold_fiber_r3_a2, hw]
  rfl

variable {s d} {S D : Fin n → ℝ}

theorem mx_real [NeZero n] (hs : ∀ k, s k = (S k : EReal)) : ∃ M : ℝ, mx s = (M : EReal) := by
  have h : mx s = Finset.univ.sup s := by rw [mx, bot_word]; rfl
  obtain ⟨i, -, hi⟩ := Finset.exists_mem_eq_sup Finset.univ ⟨0, Finset.mem_univ _⟩ s
  exact ⟨S i, by rw [h, hi, hs]⟩

/-- Over finite scores the exponentials are positive reals. -/
theorem ex_real [NeZero n] (hs : ∀ k, s k = (S k : EReal)) : ∃ e : Fin n → ℝ, (∀ k, ex s k = (e k : EReal)) ∧ tot s = ((∑ k, e k : ℝ) : EReal) ∧ ∑ k, e k ≠ 0 := by
  obtain ⟨M, hM⟩ := mx_real hs
  have he : ∀ k, ex s k = ((Real.exp (S k - M) : ℝ) : EReal) := fun k => by rw [ex, hM, hs, ← EReal.coe_sub, Ideal.exp_coe]
  exact ⟨_, he, Finite.sum _ he, (Finset.sum_pos (fun k _ => Real.exp_pos _) ⟨0, Finset.mem_univ _⟩).ne'⟩

theorem prob_real [NeZero n] (hs : ∀ k, s k = (S k : EReal)) : ∃ p : Fin n → ℝ, ∀ k, prob s k = (p k : EReal) := by
  obtain ⟨e, he, ht, h0⟩ := ex_real hs
  exact ⟨fun k => e k * (1 / ∑ k, e k), fun k => by rw [prob, he, ht, Ideal.div_coe h0, ← EReal.coe_mul]⟩

/-- The two gradients agree over finite scores and cotangents. -/
theorem kern_eq [NeZero n] (hs : ∀ k, s k = (S k : EReal)) (hd : ∀ k, d k = (D k : EReal)) (k : Fin n) : kern s d k = back s d k := by
  obtain ⟨e, he, ht, h0⟩ := ex_real hs
  have hp : ∀ k, prob s k = ((e k * (1 / ∑ k, e k) : ℝ) : EReal) := fun k => by rw [prob, he, ht, Ideal.div_coe h0, ← EReal.coe_mul]
  have h00 : (∑ k, e k) * (∑ k, e k) ≠ 0 := mul_ne_zero h0 h0
  rw [kern, back, Finite.dot _ _ hp hd, ht, ← EReal.coe_mul, Ideal.div_coe h0, Ideal.div_coe h00, hp, he, hd]
  rw [Finite.sum (fun l => D l * (1 * (1 / ((∑ k, e k) * ∑ k, e k))) * e l) (fun l => by rw [hd, he, ← EReal.coe_one, ← EReal.coe_mul, ← EReal.coe_mul, ← EReal.coe_mul])]
  rw [← EReal.coe_sub, ← EReal.coe_mul, ← EReal.coe_mul, ← EReal.coe_neg, ← EReal.coe_add, ← EReal.coe_mul]
  congr 1
  have e1 : ∑ l, e l * (1 / ∑ k, e k) * D l = (∑ l, D l * e l) * (1 / ∑ k, e k) :=
    (Finset.sum_congr rfl fun l _ => by ring).trans (Finset.sum_mul _ _ _).symm
  have e2 : ∑ l, D l * (1 * (1 / ((∑ k, e k) * ∑ k, e k))) * e l = (∑ l, D l * e l) * (1 / ((∑ k, e k) * ∑ k, e k)) :=
    (Finset.sum_congr rfl fun l _ => by ring).trans (Finset.sum_mul _ _ _).symm
  rw [e1, e2]
  field_simp
  ring

theorem kern_real [NeZero n] (hs : ∀ k, s k = (S k : EReal)) (hd : ∀ k, d k = (D k : EReal)) : ∃ g : Fin n → ℝ, ∀ k, kern s d k = (g k : EReal) := by
  obtain ⟨p, hp⟩ := prob_real hs
  exact ⟨fun k => p k * (D k - ∑ l, p l * D l), fun k => by rw [kern, Finite.dot _ _ hp hd, hp, hd, ← EReal.coe_sub, ← EReal.coe_mul]⟩

end Cert.Soft

end
-- ==== Proof.MemAtt.lean ====
/-
  The gradients of the memory attention: softmax attention of 16384 queries over 256 memory tokens, four heads of 64 columns.

  The kernel takes two heads per 128 columns. It lays a block's 2048 rows down twice, the first copy with the second head's columns
  set to zero and the second copy with the first head's: one product then forms both heads' scores. The reference differentiates
  the attention, head by head.
-/
module

public import proofs.«01_k».proof.Proof.Gen.MemAttIdeal.Value
public import proofs.«01_k».proof.Proof.Gen.MemAttRefIdeal.Read
public import proofs.«01_k».proof.Proof.Gen.MemAttRefIdeal.Run
public import proofs.«01_k».proof.Proof.Soft
public import proofs.«01_k».proof.Defs
public import Idealize.ShloMosaic.Lib.Pointwise
public import Idealize.ShloMosaic.Lib.ReduceAll
public import Idealize.ShloMosaic.Lib.Pipeline.ValueKit
public import Idealize.ShloMosaic.Lib.Pipeline.ReadBack

@[expose] public section

set_option maxRecDepth 16384

noncomputable section

namespace Cert.MemAttIdeal.Value

open Cert.MemAttIdeal Cert.MemAttIdeal.Gen Idealize.ShloMosaic Idealize.ShloMosaic.TcCoe Idealize.SL.Sem
open Idealize.ShloMosaic.Pipeline (Dat)
open Cert.MemAttRefIdeal.Read

/-- The scores' factor. -/
abbrev c8 : EReal := Ideal.ofBits .f32 0x3E000000#32

/-! ## The reference, head by head -/

/-- Column `d` of head `h`, and the values' columns, which stand behind the keys'. -/
def hc (h : Fin 4) (d : Fin 64) : Fin 256 := ⟨h.val * 64 + d.val, by omega⟩
def vc (c : Fin 256) : Fin 512 := ⟨256 + c.val, by omega⟩
/-- A column's head. -/
def hd (c : Fin 256) : Fin 4 := ⟨c.val / 64, by omega⟩

section
variable (x0 x3 : (⟨Cert.MemAttRefIdeal.S16384x256, .bf16⟩ : BufTy).Contents (Elt Ideal)) (x1 : (⟨Cert.MemAttRefIdeal.S256x256, .bf16⟩ : BufTy).Contents (Elt Ideal))
  (x2 : (⟨Cert.MemAttRefIdeal.S256x512, .bf16⟩ : BufTy).Contents (Elt Ideal))

/-- A row's scores in head `h`, and the cotangents of its probabilities. -/
def Sc (h : Fin 4) (r : Fin 16384) (k : Fin 256) : EReal := (∑ d : Fin 64, HMul.hMul (α := EReal) (β := EReal) (γ := EReal) (x0 (ix2 r (hc h d))) (x1 (ix2 k (hc h d)))) * c8
def Dp (h : Fin 4) (r : Fin 16384) (k : Fin 256) : EReal := ∑ d : Fin 64, HMul.hMul (α := EReal) (β := EReal) (γ := EReal) (x3 (ix2 r (hc h d))) (x2 (ix2 k (vc (hc h d))))

theorem ref10 (h : Fin 4) (r : Fin 16384) (k : Fin 256) : val_main_v10 (F := Ideal) x0 x1 (ix3 h r k) = Sc x0 x1 h r k := by
  pointwise [val_main_v10, val_main_v9, val_main_cst, val_main_v8, val_main_v7, val_main_v6, val_main_v5, val_main_v4, val_main_v1, val_main_v0]
  rfl

/-- A host maximum over the last axis, at the reference's shapes. -/
theorem row_max (v : FVec Ideal Cert.MemAttRefIdeal.S4x16384x256 .f32) (w : FVec Ideal Cert.MemAttRefIdeal.S_ .f32)
    (hw : w (Shape.Idx.first Cert.MemAttRefIdeal.Facts₀.h_S_) = Ideal.ofBits .f32 0xFF800000#32) (h : Fin 4) (r : Fin 16384) :
    (Host.reduce FloatOps.maximumf v w Cert.MemAttRefIdeal.Facts₀.reducesTo_S4x16384x256_S4x16384_d2 Cert.MemAttRefIdeal.Facts₀.h_S_) (ix2 h r)
      = Soft.mx fun k : Fin 256 => (v (ix3 h r k) : EReal) := by
  have h1 := @Soft.max_last 4 16384 256 Cert.MemAttRefIdeal.S_ Cert.MemAttRefIdeal.Facts₀.reducesTo_S4x16384x256_S4x16384_d2 Cert.MemAttRefIdeal.Facts₀.h_S_ v w h r hw
  refine Eq.trans ?_ (Eq.trans h1 rfl)
  with_reducible_and_instances rfl

theorem cst0 : (val_main_cst_0 (F := Ideal)) (Shape.Idx.first Cert.MemAttRefIdeal.Facts₀.h_S_) = Ideal.ofBits .f32 0xFF800000#32 :=
  val_main_cst_0_apply _

theorem v11_eq (g : Fin 256 → EReal) (h : Fin 4) (r : Fin 16384) (hg : ∀ k, val_main_v10 (F := Ideal) x0 x1 (ix3 h r k) = g k) :
    val_main_v11 (F := Ideal) x0 x1 (ix2 h r) = Soft.mx g := by
  have h1 := row_max (val_main_v10 (F := Ideal) x0 x1) (val_main_cst_0 (F := Ideal)) cst0 h r
  rw [show (fun k : Fin 256 => (val_main_v10 (F := Ideal) x0 x1 (ix3 h r k) : EReal)) = g from funext hg] at h1
  rw [← h1]
  unfold val_main_v11
  with_reducible_and_instances rfl
theorem ref11 (h : Fin 4) (r : Fin 16384) : val_main_v11 (F := Ideal) x0 x1 (ix2 h r) = Soft.mx (Sc x0 x1 h r) := v11_eq x0 x1 _ h r (ref10 x0 x1 h r)

theorem v17_bot (h : Fin 4) (r : Fin 16384) : (val_main_v17 (F := Ideal)) (ix2 h r) = (⊥ : EReal) := by
  rw [val_main_v17_apply, val_main_cst_2_apply]
  exact Soft.bot_word
theorem exp_rows (a : FVec Ideal Cert.MemAttRefIdeal.S4x16384x256 .f32) (b c : FVec Ideal Cert.MemAttRefIdeal.S4x16384 .f32) (h : Fin 4) (r : Fin 16384) (k : Fin 256) : Host.exp (subf a (broadcastInDim Cert.MemAttRefIdeal.S4x16384x256 ![0, 1, 2] Cert.MemAttRefIdeal.Facts₀.bcast_S4x16384x1_S4x16384x256_0_1_2 (broadcastInDim Cert.MemAttRefIdeal.S4x16384x1 ![0, 1] Cert.MemAttRefIdeal.Facts₀.bcast_S4x16384_S4x16384x1_0_1 (maximumf c b)))) (ix3 h r k) = Ideal.exp (a (ix3 h r k) - max (c (ix2 h r)) (b (ix2 h r))) := by
  pointwise
theorem v31_eq (h : Fin 4) (r : Fin 16384) (k : Fin 256) : val_main_v31 (F := Ideal) x0 x1 (ix3 h r k) = Ideal.exp (HSub.hSub (α := EReal) (β := EReal) (γ := EReal) (val_main_v10 (F := Ideal) x0 x1 (ix3 h r k)) (val_main_v11 (F := Ideal) x0 x1 (ix2 h r))) := by
  have h1 := exp_rows (val_main_v10 (F := Ideal) x0 x1) (val_main_v11 (F := Ideal) x0 x1) (val_main_v17 (F := Ideal)) h r k
  rw [v17_bot, max_eq_right bot_le] at h1
  rw [← h1]
  unfold val_main_v31 val_main_v30 val_main_v29 val_main_v28 val_main_v18
  with_reducible_and_instances rfl
theorem ref31 (h : Fin 4) (r : Fin 16384) (k : Fin 256) : val_main_v31 (F := Ideal) x0 x1 (ix3 h r k) = Soft.ex (Sc x0 x1 h r) k :=
  (v31_eq x0 x1 h r k).trans (by rw [ref10, ref11]; exact Eq.refl (Soft.ex (Sc x0 x1 h r) k))

theorem ref33 (h : Fin 4) (r : Fin 16384) : val_main_v33 (F := Ideal) x0 x1 (ix3 h r 0) = Soft.tot (Sc x0 x1 h r) := by
  pointwise [val_main_v33, val_main_v32, val_main_cst_8]
  exact Finset.sum_congr rfl fun k _ => ref31 x0 x1 h r k

theorem ref35 (h : Fin 4) (r : Fin 16384) (k : Fin 256) : val_main_v35 (F := Ideal) x0 x1 (ix3 h r k) = Soft.prob (Sc x0 x1 h r) k := by
  pointwise [val_main_v35, val_main_v34]
  rw [ref31, ref33]
  rfl

theorem ref49 (h : Fin 4) (r : Fin 16384) (k : Fin 256) : val_main_v49 (F := Ideal) x2 x3 (ix3 h r k) = Dp x3 x2 h r k := by
  pointwise [val_main_v49, val_main_v46, val_main_v45, val_main_v44, val_main_v40, val_main_v39, val_main_v3, val_main_v2]
  rfl

theorem ref65 (h : Fin 4) (r : Fin 16384) (k : Fin 256) : val_main_v65 (F := Ideal) x0 x1 x2 x3 (ix3 h r k) = Soft.back (Sc x0 x1 h r) (Dp x3 x2 h r) k * c8 := by
  pointwise [val_main_v65, val_main_v64, val_main_cst_12, val_main_v63, val_main_v62, val_main_v61, val_main_v60, val_main_cst_11, val_main_v59, val_main_v58, val_main_v57, val_main_v56,
    val_main_v55, val_main_cst_10, val_main_v54, val_main_v53, val_main_v52, val_main_v38, val_main_v37, val_main_cst_9, val_main_v36]
  simp only [Fin.sum_univ_one, ref31, ref33, ref49]
  rfl

/-- The three gradients. -/
theorem ref71 (r : Fin 16384) (c : Fin 256) : val_main_v71 (F := Ideal) x0 x1 x2 x3 (ix2 r c)
    = ∑ k : Fin 256, HMul.hMul (α := EReal) (β := EReal) (γ := EReal) (Soft.back (Sc x0 x1 (hd c) r) (Dp x3 x2 (hd c) r) k * c8) (x1 (ix2 k c)) := by
  pointwise [val_main_v71, val_main_v70, val_main_v67, val_main_v7, val_main_v6, val_main_v1]
  refine Finset.sum_congr rfl fun k _ => ?_
  refine congrArg₂ (HMul.hMul (α := EReal) (β := EReal) (γ := EReal)) (ref65 x0 x3 x1 x2 (hd c) r k) rfl
theorem ref69 (k c : Fin 256) : val_main_v69 (F := Ideal) x0 x1 x2 x3 (ix2 k c)
    = ∑ r : Fin 16384, HMul.hMul (α := EReal) (β := EReal) (γ := EReal) (Soft.back (Sc x0 x1 (hd c) r) (Dp x3 x2 (hd c) r) k * c8) (x0 (ix2 r c)) := by
  pointwise [val_main_v69, val_main_v68, val_main_v66, val_main_v5, val_main_v4, val_main_v0]
  refine Finset.sum_congr rfl fun r _ => ?_
  refine congrArg₂ (HMul.hMul (α := EReal) (β := EReal) (γ := EReal)) (ref65 x0 x3 x1 x2 (hd c) r k) rfl
theorem ref51 (k c : Fin 256) : val_main_v51 (F := Ideal) x0 x1 x3 (ix2 k c)
    = ∑ r : Fin 16384, HMul.hMul (α := EReal) (β := EReal) (γ := EReal) (Soft.prob (Sc x0 x1 (hd c) r) k) (x3 (ix2 r c)) := by
  pointwise [val_main_v51, val_main_v50, val_main_v48, val_main_v47, val_main_v46, val_main_v45, val_main_v44]
  refine Finset.sum_congr rfl fun r _ => ?_
  refine (mul_comm _ _).trans (congrArg₂ (HMul.hMul (α := EReal) (β := EReal) (γ := EReal)) (ref35 x0 x1 (hd c) r k) rfl)
end

/-! ## What one block computes -/

/-- Row `i` of copy `g`, and column `d` of head `g`, of a block. -/
def er (g : Fin 2) (i : Fin 2048) : Fin 4096 := ⟨g.val * 2048 + i.val, by omega⟩
def ln (g : Fin 2) (d : Fin 64) : Fin 128 := ⟨g.val * 64 + d.val, by omega⟩

theorem ln_lt : ∀ (g : Fin 2) (d : Fin 64), IntOp.cmpi .slt (BitVec.ofNat 32 (ln g d).val) 64#32 = if g = 0 then 1#1 else 0#1 := by decide +kernel

/-- A copy keeps its own head's columns. -/
theorem pay8 (x : Vec Ideal S2048x128 .bf16) (g g' : Fin 2) (i : Fin 2048) (d : Fin 64) :
    k0_pay8 x (ix2 (er g i) (ln g' d)) = if g = g' then x (ix2 i (ln g' d)) else (0 : EReal) := by
  pointwise [k0_pay8, k0_pay7]
  rw [ln_lt]
  have hi := i.isLt
  match g, g' with
  | 0, 0 => rw [dif_pos (by simp only [er, Fin.val_zero]; omega)]; exact congrArg (fun j => x (ix2 j _)) (Fin.ext (by simp [er]))
  | 0, 1 => rw [dif_pos (by simp only [er, Fin.val_zero]; omega)]; rfl
  | 1, 0 => rw [dif_neg (by simp only [er, Fin.val_one]; omega)]; rfl
  | 1, 1 => rw [dif_neg (by simp only [er, Fin.val_one]; omega)]; exact congrArg (fun j => x (ix2 j _)) (Fin.ext (by simp [er]))

theorem pay9 (x : Vec Ideal S2048x128 .bf16) : k0_pay9 x = k0_pay8 x := rfl

/-- So a product along the columns is the head's own. -/
theorem sum_ln (f : Fin 128 → EReal) : ∑ l, f l = (∑ d : Fin 64, f (ln 0 d)) + ∑ d : Fin 64, f (ln 1 d) := by
  rw [Fin.sum_univ_tiles 2 64 rfl, Fin.sum_univ_two]; rfl
theorem sum_er (f : Fin 4096 → EReal) : ∑ e, f e = (∑ i : Fin 2048, f (er 0 i)) + ∑ i : Fin 2048, f (er 1 i) := by
  rw [Fin.sum_univ_tiles 2 2048 rfl, Fin.sum_univ_two]; rfl

theorem dot8 (x : Vec Ideal S2048x128 .bf16) (y : Vec Ideal S256x128 .bf16) (g : Fin 2) (i : Fin 2048) (k : Fin 256) :
    ∑ l : Fin 128, HMul.hMul (α := EReal) (β := EReal) (γ := EReal) (k0_pay8 x (ix2 (er g i) l)) (y (ix2 k l))
    = ∑ d : Fin 64, HMul.hMul (α := EReal) (β := EReal) (γ := EReal) (x (ix2 i (ln g d))) (y (ix2 k (ln g d))) := by
  rw [sum_ln]
  simp only [pay8]
  match g with
  | 0 => simp
  | 1 => simp

/-- Against a column of head `g` only copy `g` counts. -/
theorem col8 (x : Vec Ideal S2048x128 .bf16) (u : Fin 4096 → EReal) (g : Fin 2) (d : Fin 64) :
    ∑ e : Fin 4096, HMul.hMul (α := EReal) (β := EReal) (γ := EReal) (u e) (k0_pay8 x (ix2 e (ln g d)))
    = ∑ i : Fin 2048, HMul.hMul (α := EReal) (β := EReal) (γ := EReal) (u (er g i)) (x (ix2 i (ln g d))) := by
  rw [sum_er]
  simp only [pay8]
  match g with
  | 0 => simp
  | 1 => simp

/-- A block's scores and cotangents, its head's own. -/
def bS (x : Vec Ideal S2048x128 .bf16) (y : Vec Ideal S256x128 .bf16) (g : Fin 2) (i : Fin 2048) (k : Fin 256) : EReal :=
  (∑ d : Fin 64, HMul.hMul (α := EReal) (β := EReal) (γ := EReal) (x (ix2 i (ln g d))) (y (ix2 k (ln g d)))) * c8
def bD (x : Vec Ideal S2048x128 .bf16) (y : Vec Ideal S256x128 .bf16) (g : Fin 2) (i : Fin 2048) (k : Fin 256) : EReal :=
  ∑ d : Fin 64, HMul.hMul (α := EReal) (β := EReal) (γ := EReal) (x (ix2 i (ln g d))) (y (ix2 k (ln g d)))

theorem pay10 (x : Vec Ideal S2048x128 .bf16) (y : Vec Ideal S256x128 .bf16) (g : Fin 2) (i : Fin 2048) (k : Fin 256) :
    k0_pay10 x y (ix2 (er g i) k) = Soft.prob (bS x y g i) k := by
  pointwise [k0_pay10]
  simp only [dot8]
  rfl

theorem pay11 (x x' : Vec Ideal S2048x128 .bf16) (y y' : Vec Ideal S256x128 .bf16) (g : Fin 2) (i : Fin 2048) (k : Fin 256) :
    k0_pay11 x x' y y' (ix2 (er g i) k) = Soft.kern (bS x y g i) (bD x' y' g i) k := by
  pointwise [k0_pay11]
  simp only [pay9, dot8, pay10]
  rfl

/-- The query's gradient, the key's and the value's of one block. -/
theorem pay4 (x x' : Vec Ideal S2048x128 .bf16) (y y' : Vec Ideal S256x128 .bf16) (g : Fin 2) (i : Fin 2048) (d : Fin 64) :
    k0_pay4 k0_pay7 (k0_pay11 x x' y y') c8 y (ix2 i (ln g d))
    = ∑ k : Fin 256, HMul.hMul (α := EReal) (β := EReal) (γ := EReal) (Soft.kern (bS x y g i) (bD x' y' g i) k * c8) (y (ix2 k (ln g d))) := by
  simp only [← pay11]
  pointwise [k0_pay4, k0_pay7, k0_pay1]
  rw [ln_lt]
  have e0 : er 0 i = ⟨i.val, by omega⟩ := Fin.ext (by simp [er])
  have e1 : er 1 i = ⟨2048 + i.val, by omega⟩ := Fin.ext (by simp [er])
  match g with
  | 0 => rw [if_pos rfl, e0]; rfl
  | 1 => rw [if_neg (by decide), e1]; rfl
theorem pay2 (x x' : Vec Ideal S2048x128 .bf16) (y y' : Vec Ideal S256x128 .bf16) (a : Vec Ideal S256x128 .f32) (k : Fin 256) (g : Fin 2) (d : Fin 64) :
    k0_pay2 (k0_pay8 x) (k0_pay11 x x' y y') c8 a (ix2 k (ln g d))
    = HAdd.hAdd (α := EReal) (β := EReal) (γ := EReal) (a (ix2 k (ln g d)))
      (∑ i : Fin 2048, HMul.hMul (α := EReal) (β := EReal) (γ := EReal) (Soft.kern (bS x y g i) (bD x' y' g i) k * c8) (x (ix2 i (ln g d)))) := by
  pointwise [k0_pay2, k0_pay1]
  rw [col8 x (fun e => k0_pay11 x x' y y' (ix2 e k) * c8)]
  simp only [pay11]
theorem pay3 (x x' : Vec Ideal S2048x128 .bf16) (y : Vec Ideal S256x128 .bf16) (a : Vec Ideal S256x128 .f32) (k : Fin 256) (g : Fin 2) (d : Fin 64) :
    k0_pay3 (k0_pay9 x') (k0_pay10 x y) a (ix2 k (ln g d))
    = HAdd.hAdd (α := EReal) (β := EReal) (γ := EReal) (a (ix2 k (ln g d)))
      (∑ i : Fin 2048, HMul.hMul (α := EReal) (β := EReal) (γ := EReal) (Soft.prob (bS x y g i) k) (x' (ix2 i (ln g d)))) := by
  pointwise [k0_pay3]
  rw [pay9, col8 x' (fun e => k0_pay10 x y (ix2 e k))]
  simp only [pay10]

/-! ## The grid -/

variable (m : (ℓ : Loc nD τ sig) → Buf (Elt Ideal) ℓ)

theorem idx : ∀ t : Fin cfg0.N, win0_0.index t = ![t.val % 8, t.val / 8] ∧ win0_1.index t = ![0, t.val / 8] ∧ win0_2.index t = ![0, 2 + t.val / 8]
    ∧ win0_3.index t = ![t.val % 8, t.val / 8] ∧ win0_4.index t = ![t.val % 8, t.val / 8] ∧ win0_5.index t = ![0, t.val / 8] ∧ win0_6.index t = ![0, t.val / 8] :=
  (by decide +kernel : ∀ t : Fin grid0.N, _)

theorem cfgN : cfg0.N = 16 := by decide +kernel

/-- Row `i` and column `l` of the blocks of grid point `t`; its head `g`. -/
def row (t : Fin cfg0.N) (i : Fin 2048) : Fin 16384 := ⟨t.val % 8 * 2048 + i.val, by omega⟩
def col (t : Fin cfg0.N) (l : Fin 128) : Fin 256 := ⟨t.val / 8 * 128 + l.val, by have := t.isLt; have := cfgN; omega⟩
def hh (t : Fin cfg0.N) (g : Fin 2) : Fin 4 := ⟨2 * (t.val / 8) + g.val, by have := t.isLt; have := cfgN; omega⟩

theorem col_ln (t : Fin cfg0.N) (g : Fin 2) (d : Fin 64) : col t (ln g d) = hc (hh t g) d := by ext; simp only [col, ln, hc, hh]; omega
theorem hd_hc (h : Fin 4) (d : Fin 64) : hd (hc h d) = h := by ext; simp only [hd, hc]; omega
theorem ln_of (l : Fin 128) : ∃ g d, l = ln g d := ⟨⟨l.val / 64, by omega⟩, ⟨l.val % 64, by omega⟩, by ext; simp only [ln]; omega⟩

theorem rd0 (c : Dev nD) (t : Fin cfg0.N) (i : Fin 2048) (l : Fin 128) : iblk m c 0 t (ix2 i l) = (m ((c.tc : Thread nD τ).loc main_arg0)) (ix2 (row t i) (col t l)) := by
  blk_ext [iblk, V, idx t, row, col]
theorem rd1 (c : Dev nD) (t : Fin cfg0.N) (i : Fin 256) (l : Fin 128) : iblk m c 1 t (ix2 i l) = (m ((c.tc : Thread nD τ).loc main_arg1)) (ix2 i (col t l)) := by
  blk_ext [iblk, V, idx t, row, col]
theorem rd2 (c : Dev nD) (t : Fin cfg0.N) (i : Fin 256) (l : Fin 128) : iblk m c 2 t (ix2 i l) = (m ((c.tc : Thread nD τ).loc main_arg2)) (ix2 i (vc (col t l))) := by
  blk_ext [iblk, V, idx t, row, col, vc]
theorem rd3 (c : Dev nD) (t : Fin cfg0.N) (i : Fin 2048) (l : Fin 128) : iblk m c 3 t (ix2 i l) = (m ((c.tc : Thread nD τ).loc main_arg3)) (ix2 (row t i) (col t l)) := by
  blk_ext [iblk, V, idx t, row, col]
theorem emb4 (t : Fin cfg0.N) (y : S2048x128.Idx) : (win0_4.blk t).view.emb y = ix2 (row t (y 0)) (col t (y 1)) := by blk_ext [idx t, row, col]
theorem emb5 (t : Fin cfg0.N) (y : S256x128.Idx) : (win0_5.blk t).view.emb y = ix2 (y 0) (col t (y 1)) := by blk_ext [idx t, col]
theorem emb6 (t : Fin cfg0.N) (y : S256x128.Idx) : (win0_6.blk t).view.emb y = ix2 (y 0) (col t (y 1)) := by blk_ext [idx t, col]

/-- The scores and cotangents of the device's arguments; a block's are those of its rows and heads. -/
abbrev SA (c : Dev nD) : Fin 4 → Fin 16384 → Fin 256 → EReal := Sc (m ((c.tc : Thread nD τ).loc main_arg0)) (m ((c.tc : Thread nD τ).loc main_arg1))
abbrev DA (c : Dev nD) : Fin 4 → Fin 16384 → Fin 256 → EReal := Dp (m ((c.tc : Thread nD τ).loc main_arg3)) (m ((c.tc : Thread nD τ).loc main_arg2))

theorem bS_eq (c : Dev nD) (t : Fin cfg0.N) (g : Fin 2) (i : Fin 2048) : bS (iblk m c 0 t) (iblk m c 1 t) g i = SA m c (hh t g) (row t i) :=
  funext fun k => by simp only [bS, SA, Sc, rd0, rd1, col_ln]
theorem bD_eq (c : Dev nD) (t : Fin cfg0.N) (g : Fin 2) (i : Fin 2048) : bD (iblk m c 3 t) (iblk m c 2 t) g i = DA m c (hh t g) (row t i) :=
  funext fun k => by simp only [bD, DA, Dp, rd3, rd2, col_ln]

/-- The queries, keys, the values' half and the output's cotangent are finite. -/
structure Fed (c : Dev nD) : Prop where
  q : ∀ r k, (m ((c.tc : Thread nD τ).loc main_arg0)) (ix2 r k) = (((m ((c.tc : Thread nD τ).loc main_arg0)) (ix2 r k) : EReal).toReal : EReal)
  k : ∀ r k, (m ((c.tc : Thread nD τ).loc main_arg1)) (ix2 r k) = (((m ((c.tc : Thread nD τ).loc main_arg1)) (ix2 r k) : EReal).toReal : EReal)
  v : ∀ r k, (m ((c.tc : Thread nD τ).loc main_arg2)) (ix2 r (vc k)) = (((m ((c.tc : Thread nD τ).loc main_arg2)) (ix2 r (vc k)) : EReal).toReal : EReal)
  o : ∀ r k, (m ((c.tc : Thread nD τ).loc main_arg3)) (ix2 r k) = (((m ((c.tc : Thread nD τ).loc main_arg3)) (ix2 r k) : EReal).toReal : EReal)

variable {m}

theorem s_real {c : Dev nD} (h : Fed m c) (e : Fin 4) (r : Fin 16384) : ∃ Z : Fin 256 → ℝ, ∀ k, SA m c e r k = (Z k : EReal) :=
  ⟨fun k => (∑ d, ((m ((c.tc : Thread nD τ).loc main_arg0)) (ix2 r (hc e d)) : EReal).toReal * ((m ((c.tc : Thread nD τ).loc main_arg1)) (ix2 k (hc e d)) : EReal).toReal) * (1 / 8), fun k => by
    rw [EReal.coe_mul, ← Finite.dot _ _ (fun d => h.q r (hc e d)) (fun d => h.k k (hc e d)), ← Soft.eighth_word]
    rfl⟩
theorem d_real {c : Dev nD} (h : Fed m c) (e : Fin 4) (r : Fin 16384) : ∃ Z : Fin 256 → ℝ, ∀ k, DA m c e r k = (Z k : EReal) :=
  ⟨fun k => ∑ d, ((m ((c.tc : Thread nD τ).loc main_arg3)) (ix2 r (hc e d)) : EReal).toReal * ((m ((c.tc : Thread nD τ).loc main_arg2)) (ix2 k (vc (hc e d))) : EReal).toReal, fun k => by
    rw [← Finite.dot _ _ (fun d => h.o r (hc e d)) (fun d => h.v k (hc e d))]
    rfl⟩
theorem kern_back {c : Dev nD} (h : Fed m c) (e : Fin 4) (r : Fin 16384) (k : Fin 256) : Soft.kern (SA m c e r) (DA m c e r) k = Soft.back (SA m c e r) (DA m c e r) k := by
  obtain ⟨S, hS⟩ := s_real h e r
  obtain ⟨D, hD⟩ := d_real h e r
  exact Soft.kern_eq hS hD k

/-- The queries' gradient: what the body computes is the block of the reference. -/
theorem dq_eq {c : Dev nD} (h : Fed m c) (t : Fin cfg0.N) (y : S2048x128.Idx) :
    k0_pay4 k0_pay7 (k0_pay11 (iblk m c 0 t) (iblk m c 3 t) (iblk m c 1 t) (iblk m c 2 t)) c8 (iblk m c 1 t) y
    = val_main_v71 (F := Ideal) (m ((c.tc : Thread nD τ).loc main_arg0)) (m ((c.tc : Thread nD τ).loc main_arg1)) (m ((c.tc : Thread nD τ).loc main_arg2)) (m ((c.tc : Thread nD τ).loc main_arg3)) (ix2 (row t (y 0)) (col t (y 1))) := by
  obtain ⟨i, l, rfl⟩ : ∃ i j, y = ix2 i j := ⟨y 0, y 1, eq_ix2 y⟩
  obtain ⟨g, d, rfl⟩ := ln_of l
  rw [pay4]
  refine Eq.trans ?_ (ref71 (m ((c.tc : Thread nD τ).loc main_arg0)) (m ((c.tc : Thread nD τ).loc main_arg3)) (m ((c.tc : Thread nD τ).loc main_arg1)) (m ((c.tc : Thread nD τ).loc main_arg2)) (row t i) (col t (ln g d))).symm
  rw [bS_eq, bD_eq, col_ln, hd_hc]
  exact Finset.sum_congr rfl fun k _ => by rw [kern_back h, rd1, col_ln]

theorem final4 {c : Dev nD} (h : Fed m c) : (dats m 0 c).arrAt 4 cfg0.N = val_main_v71 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t _ y => ?_
  blk_simp
  refine Eq.trans ?_ ((dq_eq h t y).trans (congrArg _ (emb4 t y).symm))
  rw [after0_4]
  by_cases h0 : t.val % 8 = 0
  · rw [outsAt0_A m c t h0]; frame_out; rfl
  · rw [outsAt0_B m c t h0]; frame_out; rfl

/-- What a block adds to the keys' and the values' gradients, at a column of head `g`. -/
def tk (c : Dev nD) (t : Fin cfg0.N) (z : S256x128.Idx) : EReal :=
  ∑ i : Fin 2048, HMul.hMul (α := EReal) (β := EReal) (γ := EReal) (Soft.kern (SA m c (hd (col t (z 1))) (row t i)) (DA m c (hd (col t (z 1))) (row t i)) (z 0) * c8) ((m ((c.tc : Thread nD τ).loc main_arg0)) (ix2 (row t i) (col t (z 1))))
def tv (c : Dev nD) (t : Fin cfg0.N) (z : S256x128.Idx) : EReal :=
  ∑ i : Fin 2048, HMul.hMul (α := EReal) (β := EReal) (γ := EReal) (Soft.prob (SA m c (hd (col t (z 1))) (row t i)) (z 0)) ((m ((c.tc : Thread nD τ).loc main_arg3)) (ix2 (row t i) (col t (z 1))))

theorem pt2 (c : Dev nD) (t : Fin cfg0.N) (a : Vec Ideal S256x128 .f32) (z : S256x128.Idx) :
    k0_pay2 (k0_pay8 (iblk m c 0 t)) (k0_pay11 (iblk m c 0 t) (iblk m c 3 t) (iblk m c 1 t) (iblk m c 2 t)) c8 a z
    = HAdd.hAdd (α := EReal) (β := EReal) (γ := EReal) (a z) (tk (m := m) c t z) := by
  obtain ⟨k, l, rfl⟩ : ∃ i j, z = ix2 i j := ⟨z 0, z 1, eq_ix2 z⟩
  obtain ⟨g, d, rfl⟩ := ln_of l
  rw [pay2]
  refine congrArg _ (Finset.sum_congr rfl fun i _ => ?_)
  rw [bS_eq, bD_eq, rd0]
  show _ = HMul.hMul (α := EReal) (β := EReal) (γ := EReal) (Soft.kern (SA m c (hd (col t (ln g d))) (row t i)) (DA m c (hd (col t (ln g d))) (row t i)) k * c8) ((m ((c.tc : Thread nD τ).loc main_arg0)) (ix2 (row t i) (col t (ln g d))))
  rw [col_ln, hd_hc]
theorem pt3 (c : Dev nD) (t : Fin cfg0.N) (a : Vec Ideal S256x128 .f32) (z : S256x128.Idx) :
    k0_pay3 (k0_pay9 (iblk m c 3 t)) (k0_pay10 (iblk m c 0 t) (iblk m c 1 t)) a z
    = HAdd.hAdd (α := EReal) (β := EReal) (γ := EReal) (a z) (tv (m := m) c t z) := by
  obtain ⟨k, l, rfl⟩ : ∃ i j, z = ix2 i j := ⟨z 0, z 1, eq_ix2 z⟩
  obtain ⟨g, d, rfl⟩ := ln_of l
  rw [pay3]
  refine congrArg _ (Finset.sum_congr rfl fun i _ => ?_)
  rw [bS_eq, rd3]
  show _ = HMul.hMul (α := EReal) (β := EReal) (γ := EReal) (Soft.prob (SA m c (hd (col t (ln g d))) (row t i)) k) ((m ((c.tc : Thread nD τ).loc main_arg3)) (ix2 (row t i) (col t (ln g d))))
  rw [col_ln, hd_hc]

theorem zero5 (z : S256x128.Idx) : (k0_pay5 (F := Ideal)) z = (0 : EReal) := by
  obtain ⟨k, l, rfl⟩ : ∃ i j, z = ix2 i j := ⟨z 0, z 1, eq_ix2 z⟩
  pointwise [k0_pay5]
theorem zero6 (z : S256x128.Idx) : (k0_pay6 (F := Ideal)) z = (0 : EReal) := by
  obtain ⟨k, l, rfl⟩ : ∃ i j, z = ix2 i j := ⟨z 0, z 1, eq_ix2 z⟩
  pointwise [k0_pay6]

/-- The two gradients after a pair's first block, and after each further one. -/
theorem stepA5 (c : Dev nD) (t : Fin cfg0.N) (h : t.val % 8 = 0) (z : S256x128.Idx) : (outsAt0 m c t.val t.isLt).2.1 z = (0 + tk (m := m) c t z : EReal) := by
  rw [outsAt0_A m c t h]; frame_open
  simp (disch := decide) only [↓ View.readCov_skip, View.readCov_fill]
  frame_out
  exact (pt2 c t _ z).trans (congrArg (HAdd.hAdd (α := EReal) (β := EReal) (γ := EReal) · _) (zero5 z))
theorem stepB5 (c : Dev nD) (t : Fin cfg0.N) (h : ¬ t.val % 8 = 0) (z : S256x128.Idx) : (outsAt0 m c t.val t.isLt).2.1 z
    = ((outsAt0 m c (t.val - 1) (by omega)).2.1 z + tk (m := m) c t z : EReal) := by
  rw [outsAt0_B m c t h]; frame_out
  exact pt2 c t _ z
theorem stepA6 (c : Dev nD) (t : Fin cfg0.N) (h : t.val % 8 = 0) (z : S256x128.Idx) : (outsAt0 m c t.val t.isLt).2.2 z = (0 + tv (m := m) c t z : EReal) := by
  rw [outsAt0_A m c t h]; frame_open
  simp (disch := decide) only [↓ View.readCov_skip, View.readCov_fill]
  frame_out
  exact (pt3 c t _ z).trans (congrArg (HAdd.hAdd (α := EReal) (β := EReal) (γ := EReal) · _) (zero6 z))
theorem stepB6 (c : Dev nD) (t : Fin cfg0.N) (h : ¬ t.val % 8 = 0) (z : S256x128.Idx) : (outsAt0 m c t.val t.isLt).2.2 z
    = ((outsAt0 m c (t.val - 1) (by omega)).2.2 z + tv (m := m) c t z : EReal) := by
  rw [outsAt0_B m c t h]; frame_out
  exact pt3 c t _ z

/-- The rows of a pair's eight blocks are all rows. -/
theorem sum_blocks (f : Fin 256 → Fin 16384 → EReal) (t : Fin cfg0.N) (l : Fin 128) (hb : ∀ s : Fin 8, 8 * (t.val / 8) + s.val < cfg0.N) :
    ∑ s : Fin 8, ∑ i : Fin 2048, f (col ⟨8 * (t.val / 8) + s.val, hb s⟩ l) (row ⟨8 * (t.val / 8) + s.val, hb s⟩ i) = ∑ r, f (col t l) r := by
  rw [Fin.sum_univ_tiles 8 2048 rfl]
  refine Finset.sum_congr rfl fun s _ => Finset.sum_congr rfl fun i _ => ?_
  have e1 : col ⟨8 * (t.val / 8) + s.val, hb s⟩ l = col t l := by ext; simp only [col]; omega
  have e2 : row ⟨8 * (t.val / 8) + s.val, hb s⟩ i = ⟨s.val * 2048 + i.val, by omega⟩ := by ext; simp only [row]; omega
  rw [e1, e2]

theorem final5 {c : Dev nD} (h : Fed m c) : (dats m 0 c).arrAt 5 cfg0.N = val_main_v69 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf z => ?_
  blk_simp
  refine Eq.trans ?_ ((congrArg _ (emb5 t z)).trans (ref69 (m ((c.tc : Thread nD τ).loc main_arg0)) (m ((c.tc : Thread nD τ).loc main_arg3)) (m ((c.tc : Thread nD τ).loc main_arg1)) (m ((c.tc : Thread nD τ).loc main_arg2)) (z 0) (col t (z 1)))).symm
  rw [after0_5, Pipeline.eq_sum_fin_of_reset_step_apply_of_flush (fun n h => (outsAt0 m c n h).2.1) 8 (fun _ => (0 : EReal)) (tk (m := m) c) (fun t h z => stepA5 c t h z)
    (fun t h z => stepB5 c t h z) t ((flush0_5 t).mp hf) z, zero_add]
  refine (sum_blocks (fun j r => HMul.hMul (α := EReal) (β := EReal) (γ := EReal) (Soft.kern (SA m c (hd j) r) (DA m c (hd j) r) (z 0) * c8) ((m ((c.tc : Thread nD τ).loc main_arg0)) (ix2 r j))) t (z 1) _).trans ?_
  exact Finset.sum_congr rfl fun r _ => congrArg (fun x : EReal => HMul.hMul (α := EReal) (β := EReal) (γ := EReal) (x * c8) _) (kern_back h _ r _)
theorem final6 (c : Dev nD) : (dats m 0 c).arrAt 6 cfg0.N = val_main_v51 (F := Ideal) (m ((c.tc : Thread nD τ).loc main_arg0)) (m ((c.tc : Thread nD τ).loc main_arg1)) (m ((c.tc : Thread nD τ).loc main_arg3)) := by
  refine (dats m 0 c).arrAt_eq_of_covers 6 _ (by decide +kernel) fun t hf z => ?_
  blk_simp
  refine Eq.trans ?_ ((congrArg _ (emb6 t z)).trans (ref51 (m ((c.tc : Thread nD τ).loc main_arg0)) (m ((c.tc : Thread nD τ).loc main_arg3)) (m ((c.tc : Thread nD τ).loc main_arg1)) (z 0) (col t (z 1)))).symm
  rw [after0_6, Pipeline.eq_sum_fin_of_reset_step_apply_of_flush (fun n h => (outsAt0 m c n h).2.2) 8 (fun _ => (0 : EReal)) (tv (m := m) c) (fun t h z => stepA6 c t h z)
    (fun t h z => stepB6 c t h z) t ((flush0_6 t).mp hf) z, zero_add]
  exact sum_blocks (fun j r => HMul.hMul (α := EReal) (β := EReal) (γ := EReal) (Soft.prob (SA m c (hd j) r) (z 0)) ((m ((c.tc : Thread nD τ).loc main_arg3)) (ix2 r j))) t (z 1) _

/-- The precondition's own side conditions. -/
theorem pre_facts : Cert.Pre_mem_finite.Facts := by constructor <;> decide

section Lift
attribute [local instance] pre_facts

/-- The precondition makes the arguments that it names real numbers. -/
theorem fed_of_pre (c : Dev nD) (h : Cert.Pre_mem_finite.fn (F := Ideal) (m ((c.tc : Thread nD τ).loc main_arg0)) (m ((c.tc : Thread nD τ).loc main_arg1)) (m ((c.tc : Thread nD τ).loc main_arg2)) (m ((c.tc : Thread nD τ).loc main_arg3)) = fun _ => 1#1) : Fed m c := by
  have h0 := congrFun h (Shape.Idx.first Cert.Pre_mem_finite.Facts.h_S_)
  unfold Cert.Pre_mem_finite.fn Cert.Pre_mem_finite.fn_part1 at h0
  dsimp only at h0
  obtain ⟨h1, hd⟩ := IntOp.andi_eq_one.1 h0
  obtain ⟨h2, hc⟩ := IntOp.andi_eq_one.1 h1
  obtain ⟨ha, hb⟩ := IntOp.andi_eq_one.1 h2
  have : Subsingleton Cert.Pre_mem_finite.S_.Idx := ⟨fun a b => funext fun k => k.elim0⟩
  refine ⟨fun i x => Finite.of_lt _ ?_, fun i x => Finite.of_lt _ ?_, fun i x => Finite.of_lt _ ?_, fun i x => Finite.of_lt _ ?_⟩
  · have := Host.reduce_andi_all _ _ _ _ _ ha (ix2 i x)
    pointwise at this; exact this
  · have := Host.reduce_andi_all _ _ _ _ _ hb (ix2 i x)
    pointwise at this; exact this
  · have := Host.reduce_andi_all _ _ _ _ _ hc (ix2 i x)
    pointwise at this; exact this
  · have := Host.reduce_andi_all _ _ _ _ _ hd (ix2 i x)
    pointwise at this; exact this

/-- The attention's gradients are the same function over the extended reals. -/
theorem algebraic : Cert.algebraic_MemAttIdeal_MemAttRefIdeal_pre_mem_finite := fun m ρ m' ρ' hpre hag =>
  ⟨fun c => val_main_v71 (F := Ideal) (m (c.tc.loc main_arg0)) (m (c.tc.loc main_arg1)) (m (c.tc.loc main_arg2)) (m (c.tc.loc main_arg3)),
   fun c => val_main_v69 (F := Ideal) (m (c.tc.loc main_arg0)) (m (c.tc.loc main_arg1)) (m (c.tc.loc main_arg2)) (m (c.tc.loc main_arg3)),
   fun c => val_main_v51 (F := Ideal) (m (c.tc.loc main_arg0)) (m (c.tc.loc main_arg1)) (m (c.tc.loc main_arg3)),
   (θ_run Cert.MemAttIdeal.defs _ _).mono (fun r h c => by
     obtain ⟨h0, h1, h2, ha⟩ := h c
     have fed := fed_of_pre c (hpre c)
     exact ⟨h0.trans (final4 fed), h1.trans (final5 fed), h2.trans (final6 c), ha⟩) (run_blocks m ρ),
   (θ_run Cert.MemAttRefIdeal.defs _ _).mono (fun r h c => by
     obtain ⟨e0, e1, e2, e3⟩ := hag c
     obtain ⟨h0, h1, h2, ha⟩ := h c
     rw [val_main_v71_eq, e0, e1, e2, e3] at h0
     rw [val_main_v69_eq, e0, e1, e2, e3] at h1
     rw [val_main_v51_eq, e0, e1, e3] at h2
     exact ⟨h0, h1, h2, ha⟩) (Cert.MemAttRefIdeal.Value.run m' ρ')⟩
end Lift

theorem frame_ref : Cert.quiescent_MemAttRefIdeal := fun m ρ _ =>
  (θ_run Cert.MemAttRefIdeal.defs _ _).mono (fun r h => ⟨fun c => (h c).2.2.2, sem_eq_zero_of_no_sems (by decide) r.2⟩) (Cert.MemAttRefIdeal.Value.run m ρ)

end Cert.MemAttIdeal.Value

end
-- ==== Proof.Loss.lean ====
/-
  The loss, its value and its gradient, behind the last product and half step of the second feed-forward layer.

  The kernel walks 32 blocks of 512 rows. Of each it writes the error over 1024, in two dtypes, and adds the
  errors' squares, a column's at a time, to a row that it keeps over the grid; the host sums the row and
  scales it. The reference takes each row's mean square error, adds them, and differentiates that.
  A square is never negative, so a positive factor goes through the sums: nothing need be finite.
-/
module

public import proofs.«01_k».proof.Proof.Gen.LossIdeal.Frame
public import proofs.«01_k».proof.Proof.Gen.LossIdeal.Run
public import proofs.«01_k».proof.Proof.Gen.LossIdeal.Read
public import proofs.«01_k».proof.Proof.Gen.LossRefIdeal.Read
public import proofs.«01_k».proof.Proof.Gen.LossRefIdeal.Run
public import proofs.«01_k».proof.Proof.Rms
public import proofs.«01_k».proof.Defs
public import Idealize.ShloMosaic.Lib.Pointwise
public import Idealize.ShloMosaic.Lib.Pipeline.ValueKit
public import Idealize.ShloMosaic.Lib.Pipeline.ReadBack

@[expose] public section

set_option maxRecDepth 16384

noncomputable section

namespace Cert.LossIdeal.Value

open Cert.LossIdeal Cert.LossIdeal.Gen Idealize.ShloMosaic Idealize.ShloMosaic.TcCoe Idealize.SL.Sem
open Idealize.ShloMosaic.Pipeline (Dat)
open Cert.LossRefIdeal.Read

/-- The word of 2. -/
theorem two_word : (Ideal.ofBits FTy.f32 0x40000000#32 : EReal) = ((2 : ℝ) : EReal) := by
  simp [Ideal.ofBits, Ideal.ieee, -EReal.coe_mul]; norm_num
/-- The word of 1/2048. -/
theorem scale_word : (Ideal.ofBits FTy.f32 0x3A000000#32 : EReal) = ((1 / 2048 : ℝ) : EReal) := by
  simp [Ideal.ofBits, Ideal.ieee, -EReal.coe_mul]; norm_num

/-- A square is not negative. -/
theorem sq_nonneg (e : EReal) : 0 ≤ e * e := by
  rcases le_total 0 e with h | h
  · exact mul_nonneg h h
  · exact EReal.mul_nonneg_iff.mpr (Or.inr ⟨h, h⟩)

/-- A real factor that is not negative goes through a sum. -/
theorem mul_sum {ι : Type} (s : Finset ι) (a : ℝ) (ha : 0 ≤ a) (f : ι → EReal) : (a : EReal) * ∑ i ∈ s, f i = ∑ i ∈ s, (a : EReal) * f i := by
  classical
  induction s using Finset.induction_on with
  | empty => simp
  | insert i s hi ih => rw [Finset.sum_insert hi, Finset.sum_insert hi, EReal.left_distrib_of_nonneg_of_ne_top (EReal.coe_nonneg.mpr ha) (EReal.coe_ne_top _), ih]

section
variable (x0 : (⟨Cert.LossRefIdeal.S16384x2816, .bf16⟩ : BufTy).Contents (Elt Ideal)) (x1 : (⟨Cert.LossRefIdeal.S2816x1024, .bf16⟩ : BufTy).Contents (Elt Ideal))
  (x2 x3 : (⟨Cert.LossRefIdeal.S16384x1024, .f32⟩ : BufTy).Contents (Elt Ideal))

/-- The error: the layer's output less the target. -/
def E (r : Fin 16384) (j : Fin 1024) : EReal :=
  HAdd.hAdd (α := EReal) (β := EReal) (γ := EReal) (x2 (ix2 r j)) (Ideal.ofBits .f32 0x3F000000#32 * ∑ l : Fin 2816, HMul.hMul (α := EReal) (β := EReal) (γ := EReal) (x0 (ix2 r l)) (x1 (ix2 l j))) - (x3 (ix2 r j) : EReal)

theorem ref6 (r : Fin 16384) (j : Fin 1024) : val_main_v6 (F := Ideal) x0 x1 x2 x3 (ix2 r j) = E x0 x1 x2 x3 r j := by
  pointwise [val_main_v6, val_main_v5, val_main_v4, val_main_v3, val_main_cst, val_main_v2, val_main_v1, val_main_v0]
  rfl

theorem ref20 (r : Fin 16384) (j : Fin 1024) : val_main_v20 (F := Ideal) x0 x1 x2 x3 (ix2 r j)
    = Ideal.div (Ideal.ofBits .f32 0x3F000000#32) (Ideal.ofBits .f32 0x44800000#32) * (Ideal.ofBits .f32 0x40000000#32 * E x0 x1 x2 x3 r j) := by
  pointwise [val_main_v20, val_main_v19, val_main_v18, val_main_v17, val_main_cst_7, val_main_v16, val_main_v15, val_main_cst_6, val_main_cst_5, val_main_v9, val_main_v8, val_main_cst_0]
  simp only [ref6]
  first
  | done
  | rfl

theorem ref12 (r : Fin 16384) : val_main_v12 (F := Ideal) x0 x1 x2 x3 (ix1 r)
    = Ideal.div (∑ j, E x0 x1 x2 x3 r j * E x0 x1 x2 x3 r j) (Ideal.ofBits .f32 0x44800000#32) := by
  pointwise [val_main_v12, val_main_v11, val_main_cst_2, val_main_v10, val_main_cst_1, val_main_v7]
  simp only [ref6]
  first
  | done
  | rfl

theorem ref14 (i : Cert.LossRefIdeal.S_.Idx) : val_main_v14 (F := Ideal) x0 x1 x2 x3 i
    = Ideal.ofBits .f32 0x3F000000#32 * ∑ r, Ideal.div (∑ j, E x0 x1 x2 x3 r j * E x0 x1 x2 x3 r j) (Ideal.ofBits .f32 0x44800000#32) := by
  pointwise [val_main_v14, val_main_cst_4, val_main_v13, val_main_cst_3]
  simp only [ref12]
  first
  | done
  | rfl
end

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

theorem cfgN : cfg0.N = 32 := by decide +kernel

/-- Row `i` of the blocks of grid point `t`. -/
def row (t : Fin cfg0.N) (i : Fin 512) : Fin 16384 := ⟨t.val * 512 + i.val, by have := t.isLt; have := cfgN; omega⟩

theorem rd0 (c : Dev nD) (t : Fin cfg0.N) (i : Fin 512) (l : Fin 2816) : iblk m c 0 t (ix2 i l) = (m ((c.tc : Thread nD τ).loc main_arg0)) (ix2 (row t i) l) := by
  blk_ext [iblk, V, idx t, row]
theorem rd1 (c : Dev nD) (t : Fin cfg0.N) (i : Fin 2816) (l : Fin 1024) : iblk m c 1 t (ix2 i l) = (m ((c.tc : Thread nD τ).loc main_arg1)) (ix2 i l) := by
  blk_ext [iblk, V, idx t, row]
theorem rd2 (c : Dev nD) (t : Fin cfg0.N) (i : Fin 512) (l : Fin 1024) : iblk m c 2 t (ix2 i l) = (m ((c.tc : Thread nD τ).loc main_arg2)) (ix2 (row t i) l) := by
  blk_ext [iblk, V, idx t, row]
theorem rd3 (c : Dev nD) (t : Fin cfg0.N) (i : Fin 512) (l : Fin 1024) : iblk m c 3 t (ix2 i l) = (m ((c.tc : Thread nD τ).loc main_arg3)) (ix2 (row t i) l) := by
  blk_ext [iblk, V, idx t, row]
theorem emb4 (t : Fin cfg0.N) (y : S512x1024.Idx) : (win0_4.blk t).view.emb y = ix2 (row t (y 0)) (y 1) := by blk_ext [idx t, row]
theorem emb5 (t : Fin cfg0.N) (y : S512x1024.Idx) : (win0_5.blk t).view.emb y = ix2 (row t (y 0)) (y 1) := by blk_ext [idx t, row]
theorem emb6 (t : Fin cfg0.N) (y : S1x1024.Idx) : (win0_6.blk t).view.emb y = ix2 0 (y 1) := by blk_ext [idx t]

/-- The error of the device's arguments. -/
abbrev EA (c : Dev nD) : Fin 16384 → Fin 1024 → EReal := E (m ((c.tc : Thread nD τ).loc main_arg0)) (m ((c.tc : Thread nD τ).loc main_arg1)) (m ((c.tc : Thread nD τ).loc main_arg2)) (m ((c.tc : Thread nD τ).loc main_arg3))

theorem pt1 (c : Dev nD) (t : Fin cfg0.N) (i : Fin 512) (j : Fin 1024) : k0_pay1 (iblk m c 0 t) (iblk m c 1 t) (iblk m c 2 t) (iblk m c 3 t) (ix2 i j) = EA m c (row t i) j := by
  pointwise [k0_pay1]
  simp only [rd0, rd1, rd2, rd3]
  rw [mul_comm]
  rfl

/-- The gradient: the error over 1024 is a half over 1024 of twice the error. -/
theorem dx_eq (c : Dev nD) (t : Fin cfg0.N) (y : S512x1024.Idx) : k0_pay2 (iblk m c 0 t) (iblk m c 1 t) (iblk m c 2 t) (iblk m c 3 t) y
    = val_main_v20 (F := Ideal) (m ((c.tc : Thread nD τ).loc main_arg0)) (m ((c.tc : Thread nD τ).loc main_arg1)) (m ((c.tc : Thread nD τ).loc main_arg2)) (m ((c.tc : Thread nD τ).loc main_arg3)) (ix2 (row t (y 0)) (y 1)) := by
  obtain ⟨i, j, rfl⟩ : ∃ i j, y = ix2 i j := ⟨y 0, y 1, eq_ix2 y⟩
  refine Eq.trans ?_ (ref20 _ _ _ _ (row t i) j).symm
  pointwise [k0_pay2]
  rw [pt1, Rms.n_word, two_word, Finite.half_word]
  simp only [Ideal.div_coe (show (1024 : ℝ) ≠ 0 by norm_num), ← mul_assoc, ← EReal.coe_mul]
  rw [mul_comm]
  congr 2
  norm_num

theorem fin4 (c : Dev nD) : (dats m 0 c).arrAt 4 cfg0.N = val_main_v20 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  refine Eq.trans ?_ ((dx_eq m c t y).trans (congrArg _ (emb4 t y).symm))
  rw [after0_4]
  by_cases h : t.val % 32 = 0
  · rw [outsAt0_A m c t h]; frame_out
  · rw [outsAt0_B m c t h]; frame_out

theorem fin5 (c : Dev nD) : (dats m 0 c).arrAt 5 cfg0.N = val_main_v21 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  refine Eq.trans ?_ ((dx_eq m c t y).trans (congrArg (val_main_v21 (F := Ideal) (m ((c.tc : Thread nD τ).loc main_arg0)) (m ((c.tc : Thread nD τ).loc main_arg1)) (m ((c.tc : Thread nD τ).loc main_arg2)) (m ((c.tc : Thread nD τ).loc main_arg3))) (emb5 t y).symm))
  rw [after0_5]
  by_cases h : t.val % 32 = 0
  · rw [outsAt0_A m c t h]; frame_out; rfl
  · rw [outsAt0_B m c t h]; frame_out; rfl

/-- What block `q` adds to a column's sum of squares. -/
def part (c : Dev nD) (q : ℕ) (j : Fin 1024) : EReal :=
  ∑ i : Fin 512, if h : q * 512 + i.val < 16384 then EA m c ⟨q * 512 + i.val, h⟩ j * EA m c ⟨q * 512 + i.val, h⟩ j else 0

theorem pt5 (c : Dev nD) (t : Fin cfg0.N) (a : Vec Ideal S1x1024 .f32) (j : Fin 1024) : k0_pay5 (iblk m c 0 t) (iblk m c 1 t) (iblk m c 2 t) (iblk m c 3 t) a (ix2 0 j)
    = HAdd.hAdd (α := EReal) (β := EReal) (γ := EReal) (a (ix2 0 j)) (part m c t.val j) := by
  pointwise [k0_pay5]
  simp only [pt1]
  exact congrArg _ (Finset.sum_congr rfl fun i _ => by split; exacts [rfl, absurd (row t i).isLt ‹_›])

theorem stepA (c : Dev nD) (t : Fin cfg0.N) (h : t.val % 32 = 0) (j : Fin 1024) : (outsAt0 m c t.val t.isLt).2.2 (ix2 0 j) = part m c t.val j := by
  rw [outsAt0_A m c t h]; frame_open
  simp (disch := decide) only [↓ View.readCov_skip, View.readCov_fill]
  frame_out
  rw [pt5]
  pointwise [k0_pay4]
theorem stepB (c : Dev nD) (t : Fin cfg0.N) (h : ¬t.val % 32 = 0) (j : Fin 1024) : (outsAt0 m c t.val t.isLt).2.2 (ix2 0 j)
    = HAdd.hAdd (α := EReal) (β := EReal) (γ := EReal) ((outsAt0 m c (t.val - 1) (by omega)).2.2 (ix2 0 j)) (part m c t.val j) := by
  rw [outsAt0_B m c t h]; frame_open
  simp (disch := decide) only [↓ View.readCov_skip, View.readCov_fill]
  frame_out
  rw [pt5]

theorem flush6 : ∀ t : Fin cfg0.N, (cfg0.win 6).flush t = true → t.val = 31 := (by decide +kernel : ∀ t : Fin grid0.N, _)

/-- A value set at the first point and added to at the others is a sum. -/
theorem sum_steps {N : ℕ} (g : ∀ n : ℕ, n < N → EReal) (b : ℕ → EReal) (hA : ∀ h : 0 < N, g 0 h = b 0)
    (hB : ∀ n (h : n + 1 < N), g (n + 1) h = g n (by omega) + b (n + 1)) (q : ℕ) : ∀ h : q < N, g q h = ∑ s ∈ Finset.range (q + 1), b s := by
  induction q with
  | zero => intro h; rw [Finset.sum_range_one, hA]
  | succ q ih => intro h; rw [Finset.sum_range_succ, ← ih (by omega), hB q h]

/-- The columns' sums of squares. -/
def colsq (c : Dev nD) : Vec Ideal S1x1024 .f32 := fun y => ∑ r, EA m c r (y 1) * EA m c r (y 1)

theorem fin6 (c : Dev nD) : (dats m 0 c).arrAt 6 cfg0.N = colsq m c := by
  refine (dats m 0 c).arrAt_eq_of_covers 6 _ (by decide +kernel) fun t hf z => ?_
  have ht := flush6 t hf
  obtain ⟨i, j, rfl⟩ : ∃ i j, z = ix2 i j := ⟨z 0, z 1, eq_ix2 z⟩
  obtain rfl : i = 0 := Subsingleton.elim _ _
  blk_simp
  refine Eq.trans ?_ (congrArg _ (emb6 t (ix2 0 j))).symm
  rw [after0_6]
  have e := sum_steps (fun n h => (outsAt0 m c n h).2.2 (ix2 0 j)) (fun q => part m c q j) (fun h => stepA m c ⟨0, h⟩ (by simp only) j)
    (fun n h => stepB m c ⟨n + 1, h⟩ (by have h' := h; rw [cfgN] at h'; show ¬(n + 1) % 32 = 0; omega) j) t.val t.isLt
  refine e.trans ?_
  rw [ht, Finset.sum_range]
  show _ = ∑ r, EA m c r j * EA m c r j
  rw [Fin.sum_univ_tiles 32 512 rfl]
  exact Finset.sum_congr rfl fun s _ => Finset.sum_congr rfl fun i _ => dif_pos (by omega)

/-- The loss: the host's scaled sum of the columns' sums of squares is the reference's. -/
theorem loss_eq (c : Dev nD) : mulf (Host.reduceAdd (F := Ideal) (φ := .f32) (colsq m c) (constant S_ .f32 0x00000000#32) reducesTo_S1x1024_S_d0_1 h_S_) (constant S_ .f32 0x3A000000#32)
    = val_main_v14 (F := Ideal) (m ((c.tc : Thread nD τ).loc main_arg0)) (m ((c.tc : Thread nD τ).loc main_arg1)) (m ((c.tc : Thread nD τ).loc main_arg2)) (m ((c.tc : Thread nD τ).loc main_arg3)) := by
  funext i
  refine Eq.trans ?_ (ref14 _ _ _ _ i).symm
  pointwise [colsq]
  rw [Fin.sum_univ_one, scale_word, Finite.half_word, Rms.n_word, Finset.sum_comm, mul_comm, mul_sum _ _ (by norm_num), mul_sum _ _ (by norm_num)]
  refine Finset.sum_congr rfl fun r _ => ?_
  rw [Ideal.div_coe (by norm_num : (1024 : ℝ) ≠ 0), mul_comm _ (((1 : ℝ) / 1024 : ℝ) : EReal), ← mul_assoc, ← EReal.coe_mul]
  congr 2
  norm_num

/-- The loss and its gradient are the same functions over the extended reals. -/
theorem algebraic : Cert.algebraic_LossIdeal_LossRefIdeal := fun m ρ m' ρ' hpre hag =>
  ⟨fun c => val_main_v20 (F := Ideal) (m (c.tc.loc main_arg0)) (m (c.tc.loc main_arg1)) (m (c.tc.loc main_arg2)) (m (c.tc.loc main_arg3)),
   fun c => val_main_v21 (F := Ideal) (m (c.tc.loc main_arg0)) (m (c.tc.loc main_arg1)) (m (c.tc.loc main_arg2)) (m (c.tc.loc main_arg3)),
   fun c => val_main_v14 (F := Ideal) (m (c.tc.loc main_arg0)) (m (c.tc.loc main_arg1)) (m (c.tc.loc main_arg2)) (m (c.tc.loc main_arg3)),
   (θ_run Cert.LossIdeal.defs _ _).mono (fun r h c => by
     obtain ⟨h0, h1, h2, ha⟩ := h c
     rw [show reg_main_v0_2 m c = colsq m c from fin6 m c] at h2
     exact ⟨h0.trans (fin4 m c), h1.trans (fin5 m c), h2.trans (loss_eq m c), ha⟩) (run m ρ),
   (θ_run Cert.LossRefIdeal.defs _ _).mono (fun r h c => by
     obtain ⟨e0, e1, e2, e3⟩ := hag c
     obtain ⟨h0, h1, h2, ha⟩ := h c
     rw [val_main_v20_eq, e0, e1, e2, e3] at h0
     rw [val_main_v21_eq, e0, e1, e2, e3] at h1
     rw [val_main_v14_eq, e0, e1, e2, e3] at h2
     exact ⟨h0, h1, h2, ha⟩) (Cert.LossRefIdeal.Value.run m' ρ')⟩

theorem frame_ref : Cert.quiescent_LossRefIdeal := fun m ρ _ =>
  (θ_run Cert.LossRefIdeal.defs _ _).mono (fun r h => ⟨fun c => (h c).2.2.2, sem_eq_zero_of_no_sems (by decide) r.2⟩) (Cert.LossRefIdeal.Value.run m ρ)

end Cert.LossIdeal.Value

end
-- ==== Proof.HeadNorm.lean ====
/-
  A norm of each head of 64 columns, and its gradient, as a kernel writes it that takes the heads' means by a product.

  Of each 128 columns the kernel multiplies the row, split in two parts that add up to it, by a matrix with 1/64 where
  row and column belong to one head. Over the real numbers the first part is the row itself and the second is zero.
-/
module

public import proofs.«01_k».proof.Proof.Rms
public import Idealize.ShloMosaic.Lib.Pointwise

@[expose] public section

noncomputable section

namespace Cert.HeadNorm

open Idealize.ShloMosaic

/-- The word of 64. -/
theorem n_word : (Ideal.ofBits FTy.f32 0x42800000#32 : EReal) = ((64 : ℝ) : EReal) := by
  simp [Ideal.ofBits, Ideal.ieee, -EReal.coe_mul]; norm_num
/-- The word of 1/64. -/
theorem inv_word : (Ideal.ofBits FTy.f32 0x3C800000#32 : EReal) = ((1 / 64 : ℝ) : EReal) := by
  simp [Ideal.ofBits, Ideal.ieee, -EReal.coe_mul]; norm_num

/-- The matrix's entry: 1/64 where row `k` (of either part) and column `l` belong to one head. -/
def entry (k : Fin 256) (l : Fin 128) : EReal := if k.val % 128 / 64 = l.val / 64 then Ideal.ofBits .f32 0x3C800000#32 else 0

/-- Selecting by an equality of two small numbers' words. -/
theorem select_eq (a b : ℕ) (ha : a < 4) (hb : b < 4) (x y : EReal) :
    Scalar.select (IntOp.cmpi .eq (BitVec.ofNat 32 a) (BitVec.ofNat 32 b)) x y = if a = b then x else y := by
  have h : IntOp.cmpi .eq (BitVec.ofNat 32 a) (BitVec.ofNat 32 b) = if a = b then 1#1 else 0#1 :=
    (by decide : ∀ a < 4, ∀ b < 4, IntOp.cmpi .eq (BitVec.ofNat 32 a) (BitVec.ofNat 32 b) = if a = b then 1#1 else 0#1) a ha b hb
  rw [h]
  by_cases e : a = b
  · rw [if_pos e, if_pos e]; rfl
  · rw [if_neg e, if_neg e]; rfl

/-- One product: the mean over the column's head. -/
theorem piece (A : Fin 256 → Fin 128 → EReal) (hA : ∀ k l, A k l = entry k l) (v : Fin 128 → EReal) (hv : ∀ k, v k = ((v k).toReal : EReal)) (l : Fin 128) :
    (∑ x : Fin 128, v x * A ⟨x.val, by omega⟩ l) + (∑ x : Fin 128, (v x - v x) * A ⟨128 + x.val, by omega⟩ l)
      = Ideal.div (∑ d : Fin 64, v ⟨l.val / 64 * 64 + d.val, by omega⟩) (Ideal.ofBits .f32 0x42800000#32) := by
  have h2 : (∑ x : Fin 128, (v x - v x) * A ⟨128 + x.val, by omega⟩ l) = 0 :=
    Finset.sum_eq_zero fun x _ => by rw [hv x, ← EReal.coe_sub, sub_self, EReal.coe_zero, zero_mul]
  have h1 : ∀ t : Fin 2, (∑ d : Fin 64, v ⟨t.val * 64 + d.val, by omega⟩ * A ⟨t.val * 64 + d.val, by omega⟩ l)
      = if t.val = l.val / 64 then Ideal.div (∑ d : Fin 64, v ⟨l.val / 64 * 64 + d.val, by omega⟩) (Ideal.ofBits .f32 0x42800000#32) else 0 := by
    intro t
    by_cases e : t.val = l.val / 64
    · rw [if_pos e, n_word, Ideal.div_coe (by norm_num), Finite.sum _ fun d => hv _]
      rw [show (∑ d : Fin 64, v ⟨t.val * 64 + d.val, by omega⟩ * A ⟨t.val * 64 + d.val, by omega⟩ l)
        = ∑ d : Fin 64, v ⟨l.val / 64 * 64 + d.val, by omega⟩ * ((1 / 64 : ℝ) : EReal) from Finset.sum_congr rfl fun d _ => by
          rw [hA, entry, if_pos (by dsimp only; omega), inv_word]; exact congrArg (· * _) (congrArg v (Fin.ext (by dsimp only; rw [e])))]
      rw [Finite.dot _ _ (fun d => hv _) (fun _ => rfl), ← EReal.coe_mul, Finset.sum_mul]
    · rw [if_neg e]
      exact Finset.sum_eq_zero fun d _ => by rw [hA, entry, if_neg (by dsimp only; omega), mul_zero]
  rw [h2, add_zero, Fin.sum_univ_tiles 2 64 rfl]
  refine (Finset.sum_congr rfl fun t _ => h1 t).trans ?_
  rw [Fin.sum_univ_two]
  rcases (show l.val / 64 = 0 ∨ l.val / 64 = 1 by omega) with e | e <;> simp [e]

section
variable {n : ℕ} (hn : n % 64 = 0) (x y : Fin n → EReal) (j : Fin n)

/-- The columns of `j`'s head. -/
def head : Fin 64 → EReal := fun d => x ⟨j.val / 64 * 64 + d.val, by have := j.isLt; omega⟩
/-- The column's place in its head. -/
def place : Fin 64 := ⟨j.val % 64, by omega⟩
/-- The reciprocal root of the mean square of `j`'s head. -/
def rs : EReal := Rms.rstd (Ideal.ofBits .f32 0x42800000#32) (head hn x j)
/-- The mean over `j`'s head. -/
def mean : EReal := Ideal.div (∑ d, head hn x j d) (Ideal.ofBits .f32 0x42800000#32)
/-- The gradient of the norm at column `j`, as `jax.vjp` writes it: `y` is the cotangent of the normed row. -/
def pull : EReal := Rms.through (Ideal.ofBits .f32 0x42800000#32) (head hn x j) (head hn y j) (place j)

theorem head_place : head hn x j (place j) = x j := congrArg x (Fin.ext (by show j.val / 64 * 64 + j.val % 64 = j.val; omega))

/-- All columns of a head have one head. -/
theorem head_head (d : Fin 64) (h : j.val / 64 * 64 + d.val < n) : head hn x ⟨j.val / 64 * 64 + d.val, h⟩ = head hn x j :=
  funext fun e => congrArg x (Fin.ext (by show (j.val / 64 * 64 + d.val) / 64 * 64 + e.val = j.val / 64 * 64 + e.val; omega))

/-- The gradient as the kernel writes it. -/
theorem pull_eq (hx : ∀ k, x k = ((x k).toReal : EReal)) (hy : ∀ k, y k = ((y k).toReal : EReal)) :
    rs hn x j * (y j - x j * rs hn x j * mean hn (fun k => y k * (x k * rs hn x k)) j) = pull hn x y j := by
  refine Eq.trans ?_ (Rms.along_eq (x := head hn x j) (y := head hn y j) (N' := 64) n_word (by norm_num) (fun k => hx _) (fun k => hy _) (place j))
  rw [Rms.along, head_place, head_place]
  refine congrArg₂ (· * ·) rfl (congrArg₂ (· - ·) rfl (congrArg₂ (· * ·) rfl (congrArg₂ Ideal.div (Finset.sum_congr rfl fun d _ => ?_) rfl)))
  exact congrArg (fun z => _ * (_ * Rms.rstd _ z)) (head_head hn x j d _)

/-- The reciprocal root is a real number. -/
theorem rs_real (hx : ∀ k, x k = ((x k).toReal : EReal)) : rs hn x j = ((rs hn x j).toReal : EReal) := by
  obtain ⟨r, v, -, -, -, e⟩ := Rms.rstd_real (x := head hn x j) (N' := 64) n_word (by norm_num) (fun k => hx _)
  rw [rs, e, EReal.toReal_coe]
end

/-- The product of the 128 columns from `o` on is the heads' means of these. -/
theorem piece_at {n : ℕ} (hn : n % 64 = 0) {A : Fin 256 → Fin 128 → EReal} (hA : ∀ k l, A k l = entry k l) {v : Fin n → EReal} (hv : ∀ k, v k = ((v k).toReal : EReal))
    (o : ℕ) (ho : o % 128 = 0) (ho' : o + 128 ≤ n) (l : Fin 128) (j : Fin n) (hj : j.val = o + l.val) :
    (∑ x : Fin 128, v ⟨o + x.val, by omega⟩ * A ⟨x.val, by omega⟩ l)
        + ∑ x : Fin 128, (v ⟨o + x.val, by omega⟩ - v ⟨o + x.val, by omega⟩) * A ⟨128 + x.val, by omega⟩ l
      = mean hn v j := by
  refine (piece A hA (fun x => v ⟨o + x.val, by omega⟩) (fun k => hv _) l).trans ?_
  exact congrArg₂ Ideal.div (Finset.sum_congr rfl fun d _ => congrArg v (Fin.ext (by dsimp only; omega))) rfl

/-- The products of two halves of 256 columns are the heads' means. -/
theorem mean256 {A : Fin 256 → Fin 128 → EReal} (hA : ∀ k l, A k l = entry k l) {v : Fin 256 → EReal} (hv : ∀ k, v k = ((v k).toReal : EReal)) (j : Fin 256) :
    (if h : j.val < 128 then
        (∑ x : Fin 128, v ⟨x.val, by omega⟩ * A ⟨x.val, by omega⟩ ⟨j.val, h⟩)
          + ∑ x : Fin 128, (v ⟨x.val, by omega⟩ - v ⟨x.val, by omega⟩) * A ⟨128 + x.val, by omega⟩ ⟨j.val, h⟩
      else
        (∑ x : Fin 128, v ⟨128 + x.val, by omega⟩ * A ⟨x.val, by omega⟩ ⟨j.val - 128, by omega⟩)
          + ∑ x : Fin 128, (v ⟨128 + x.val, by omega⟩ - v ⟨128 + x.val, by omega⟩) * A ⟨128 + x.val, by omega⟩ ⟨j.val - 128, by omega⟩)
      = mean (by norm_num) v j := by
  split
  · exact piece A hA (fun x => v ⟨x.val, by omega⟩) (fun k => hv _) ⟨j.val, ‹_›⟩
  · refine (piece A hA (fun x => v ⟨128 + x.val, by omega⟩) (fun k => hv _) ⟨j.val - 128, by omega⟩).trans ?_
    exact congrArg₂ Ideal.div (Finset.sum_congr rfl fun d _ => congrArg v (Fin.ext (by dsimp only; omega))) rfl

/-- The products of six parts of 768 columns are the heads' means. -/
theorem mean768 {A : Fin 256 → Fin 128 → EReal} (hA : ∀ k l, A k l = entry k l) {v : Fin 768 → EReal} (hv : ∀ k, v k = ((v k).toReal : EReal)) (j : Fin 768) :
    (if h : j.val < 128 then
        (∑ x : Fin 128, v ⟨x.val, by omega⟩ * A ⟨x.val, by omega⟩ ⟨j.val, h⟩)
          + ∑ x : Fin 128, (v ⟨x.val, by omega⟩ - v ⟨x.val, by omega⟩) * A ⟨128 + x.val, by omega⟩ ⟨j.val, h⟩
      else if h : j.val - 128 < 128 then
        (∑ x : Fin 128, v ⟨128 + x.val, by omega⟩ * A ⟨x.val, by omega⟩ ⟨j.val - 128, h⟩)
          + ∑ x : Fin 128, (v ⟨128 + x.val, by omega⟩ - v ⟨128 + x.val, by omega⟩) * A ⟨128 + x.val, by omega⟩ ⟨j.val - 128, h⟩
      else if h : j.val - 128 - 128 < 128 then
        (∑ x : Fin 128, v ⟨256 + x.val, by omega⟩ * A ⟨x.val, by omega⟩ ⟨j.val - 128 - 128, h⟩)
          + ∑ x : Fin 128, (v ⟨256 + x.val, by omega⟩ - v ⟨256 + x.val, by omega⟩) * A ⟨128 + x.val, by omega⟩ ⟨j.val - 128 - 128, h⟩
      else if h : j.val - 128 - 128 - 128 < 128 then
        (∑ x : Fin 128, v ⟨384 + x.val, by omega⟩ * A ⟨x.val, by omega⟩ ⟨j.val - 128 - 128 - 128, h⟩)
          + ∑ x : Fin 128, (v ⟨384 + x.val, by omega⟩ - v ⟨384 + x.val, by omega⟩) * A ⟨128 + x.val, by omega⟩ ⟨j.val - 128 - 128 - 128, h⟩
      else if h : j.val - 128 - 128 - 128 - 128 < 128 then
        (∑ x : Fin 128, v ⟨512 + x.val, by omega⟩ * A ⟨x.val, by omega⟩ ⟨j.val - 128 - 128 - 128 - 128, h⟩)
          + ∑ x : Fin 128, (v ⟨512 + x.val, by omega⟩ - v ⟨512 + x.val, by omega⟩) * A ⟨128 + x.val, by omega⟩ ⟨j.val - 128 - 128 - 128 - 128, h⟩
      else
        (∑ x : Fin 128, v ⟨640 + x.val, by omega⟩ * A ⟨x.val, by omega⟩ ⟨j.val - 128 - 128 - 128 - 128 - 128, by omega⟩)
          + ∑ x : Fin 128, (v ⟨640 + x.val, by omega⟩ - v ⟨640 + x.val, by omega⟩) * A ⟨128 + x.val, by omega⟩ ⟨j.val - 128 - 128 - 128 - 128 - 128, by omega⟩)
      = mean (by norm_num) v j := by
  split_ifs
  · exact piece A hA (fun x => v ⟨x.val, by omega⟩) (fun k => hv _) ⟨j.val, ‹_›⟩
  · exact piece_at (by norm_num) hA hv 128 (by norm_num) (by norm_num) ⟨j.val - 128, by omega⟩ j (by dsimp only; omega)
  · exact piece_at (by norm_num) hA hv 256 (by norm_num) (by norm_num) ⟨j.val - 128 - 128, by omega⟩ j (by dsimp only; omega)
  · exact piece_at (by norm_num) hA hv 384 (by norm_num) (by norm_num) ⟨j.val - 128 - 128 - 128, by omega⟩ j (by dsimp only; omega)
  · exact piece_at (by norm_num) hA hv 512 (by norm_num) (by norm_num) ⟨j.val - 128 - 128 - 128 - 128, by omega⟩ j (by dsimp only; omega)
  · exact piece_at (by norm_num) hA hv 640 (by norm_num) (by norm_num) ⟨j.val - 128 - 128 - 128 - 128 - 128, by omega⟩ j (by dsimp only; omega)

/-- A product of real numbers is one. -/
theorem mul_real {a b : EReal} (ha : a = (a.toReal : EReal)) (hb : b = (b.toReal : EReal)) : a * b = ((a * b).toReal : EReal) := by
  rw [ha, hb, ← EReal.coe_mul, EReal.toReal_coe]

/-- The host's sum over the first two of three axes. -/
theorem sum_two {a b c : ℕ} (h : (⟨3, ![a, b, c]⟩ : Shape).ReducesTo [0, 1] ⟨1, ![c]⟩) (x : (⟨3, ![a, b, c]⟩ : Shape).Idx → EReal) (z : EReal) (j : Fin c) :
    Ideal.hostReduceAdd h x z (ix1 j) = z + ∑ p : Fin a, ∑ q : Fin b, x (ix3 p q j) := by
  unfold Ideal.hostReduceAdd
  refine congrArg (z + ·) ?_
  rw [← Fintype.sum_prod_type']
  refine Finset.sum_nbij' (fun i => (i 0, i 1)) (fun pq => ix3 pq.1 pq.2 j) ?_ ?_ ?_ ?_ ?_
  · intro i _; exact Finset.mem_univ _
  · intro pq _
    rw [Finset.mem_filter]
    exact ⟨Finset.mem_univ _, funext fun e => by obtain rfl : e = 0 := Subsingleton.elim _ _; rfl⟩
  · intro i hi
    have := congrFun (Finset.mem_filter.mp hi).2 0
    have e2 : i 2 = j := this
    funext e
    match e with
    | ⟨0, _⟩ => rfl
    | ⟨1, _⟩ => rfl
    | ⟨2, _⟩ => exact e2.symm
  · intro pq _; rfl
  · intro i hi
    have := congrFun (Finset.mem_filter.mp hi).2 0
    have e2 : i 2 = j := this
    refine congrArg x ?_
    funext e
    match e with
    | ⟨0, _⟩ => rfl
    | ⟨1, _⟩ => rfl
    | ⟨2, _⟩ => exact e2

end Cert.HeadNorm

end
-- ==== Proof.QkMem.lean ====
/-
  The gradient of the memory attention's norm of its queries: each head of 64 columns has its own norm, all heads one gain.

  The kernel walks 16 blocks of 1024 rows, takes the heads' means by a product (HeadNorm), and adds to a row of 256
  columns, that it keeps over the grid, each row's cotangent times the normed query; the host adds the four heads'
  columns of it. The reference differentiates the norm's lines, heads apart.
-/
module

public import proofs.«01_k».proof.Proof.Gen.QkMemIdeal.Frame
public import proofs.«01_k».proof.Proof.Gen.QkMemIdeal.Run
public import proofs.«01_k».proof.Proof.Gen.QkMemIdeal.Read
public import proofs.«01_k».proof.Proof.Gen.QkMemRefIdeal.Read
public import proofs.«01_k».proof.Proof.Gen.QkMemRefIdeal.Run
public import proofs.«01_k».proof.Proof.HeadNorm
public import proofs.«01_k».proof.Proof.Loss
public import proofs.«01_k».proof.Defs
public import Idealize.ShloMosaic.Lib.Pointwise
public import Idealize.ShloMosaic.Lib.ReduceAll
public import Idealize.ShloMosaic.Lib.Pipeline.ValueKit
public import Idealize.ShloMosaic.Lib.Pipeline.ReadBack

@[expose] public section

set_option maxRecDepth 16384

noncomputable section

namespace Cert.QkMemIdeal.Value

open Cert.QkMemIdeal Cert.QkMemIdeal.Gen Idealize.ShloMosaic Idealize.ShloMosaic.TcCoe Idealize.SL.Sem
open Idealize.ShloMosaic.Pipeline (Dat)
open Cert.QkMemRefIdeal.Read Cert.HeadNorm
open Cert.LossIdeal.Value (sum_steps)

/-! ## What one block computes -/

theorem pt6 (k : Fin 256) (l : Fin 128) : k0_pay6 (ix2 k l) = BitVec.ofNat 32 (k.val % 128 / 64) := by
  pointwise [k0_pay6]
  revert k; decide +kernel

/-- The matrix of the heads' means. -/
theorem pt7 (k : Fin 256) (l : Fin 128) : k0_pay7 (F := Ideal) k0_pay6 (iota .tc S256x128 32 [1] iota_S256x128_d1_w32) (ix2 k l) = entry k l := by
  refine Eq.trans ?_ (select_eq (k.val % 128 / 64) (l.val / 64) (by omega) (by omega) _ _)
  pointwise [k0_pay7]
  rw [pt6]
  refine congrArg (fun b => Scalar.select (IntOp.cmpi .eq _ b) _ _) ?_
  revert l; decide +kernel

/-- The reciprocal roots. -/
theorem pt8 (v : Vec Ideal S1024x256 .bf16) (i : Fin 1024) (hv : ∀ k, v (ix2 i k) = ((v (ix2 i k) : EReal).toReal : EReal)) (j : Fin 256) :
    k0_pay8 (k0_pay5 v) k0_pay6 (iota .tc S256x128 32 [1] iota_S256x128_d1_w32) (ix2 i j) = rs (n := 256) (by norm_num) (fun k => v (ix2 i k)) j := by
  pointwise [k0_pay8, k0_pay5]
  exact congrArg (fun z => Ideal.rsqrt (z + Ideal.ofBits .f32 0x358637BD#32)) (mean256 (A := fun k l => k0_pay7 (F := Ideal) k0_pay6 (iota .tc S256x128 32 [1] iota_S256x128_d1_w32) (ix2 k l))
    pt7 (v := fun k => HMul.hMul (α := EReal) (β := EReal) (γ := EReal) (v (ix2 i k)) (v (ix2 i k))) (fun k => mul_real (hv k) (hv k)) j)

/-- The gradient that the body writes. -/
theorem pt2 (v : Vec Ideal S1024x256 .bf16) (d : Vec Ideal S1024x256 .f32) (g : Vec Ideal S1x256 .f32) (i : Fin 1024) (hv : ∀ k, v (ix2 i k) = ((v (ix2 i k) : EReal).toReal : EReal))
    (hd : ∀ k, d (ix2 i k) = ((d (ix2 i k) : EReal).toReal : EReal)) (hg : ∀ k, g (ix2 0 k) = ((g (ix2 0 k) : EReal).toReal : EReal)) (j : Fin 256) :
    k0_pay2 (k0_pay5 v) (k0_pay7 (F := Ideal) k0_pay6 (iota .tc S256x128 32 [1] iota_S256x128_d1_w32)) (k0_pay8 (k0_pay5 v) k0_pay6 (iota .tc S256x128 32 [1] iota_S256x128_d1_w32)) d g (ix2 i j)
      = pull (n := 256) (by norm_num) (fun k => v (ix2 i k)) (fun k => HMul.hMul (α := EReal) (β := EReal) (γ := EReal) (d (ix2 i k)) (g (ix2 0 k))) j := by
  refine Eq.trans ?_ (pull_eq (n := 256) (by norm_num) _ _ j hv fun k => mul_real (hd k) (hg k))
  pointwise [k0_pay2, k0_pay1]
  simp only [pt8 v i hv]
  pointwise [k0_pay5]
  exact congrArg (fun z => _ * (_ - _ * z)) (mean256 (A := fun k l => k0_pay7 (F := Ideal) k0_pay6 (iota .tc S256x128 32 [1] iota_S256x128_d1_w32) (ix2 k l))
    pt7 (v := fun k => HMul.hMul (α := EReal) (β := EReal) (γ := EReal) (HMul.hMul (α := EReal) (β := EReal) (γ := EReal) (d (ix2 i k)) (g (ix2 0 k))) (HMul.hMul (α := EReal) (β := EReal) (γ := EReal) (v (ix2 i k)) (rs (n := 256) (by norm_num) (fun k => v (ix2 i k)) k)))
      (fun k => mul_real (mul_real (hd k) (hg k)) (mul_real (hv k) (rs_real (n := 256) (by norm_num) _ k hv))) j)

/-- What the body adds to the gain's row. -/
theorem pt4 (v : Vec Ideal S1024x256 .bf16) (d : Vec Ideal S1024x256 .f32) (a : Vec Ideal S1x256 .f32) (hv : ∀ i k, v (ix2 i k) = ((v (ix2 i k) : EReal).toReal : EReal)) (j : Fin 256) :
    k0_pay4 (k0_pay5 v) (k0_pay8 (k0_pay5 v) k0_pay6 (iota .tc S256x128 32 [1] iota_S256x128_d1_w32)) d a (ix2 0 j)
      = HAdd.hAdd (α := EReal) (β := EReal) (γ := EReal) (a (ix2 0 j)) (∑ i : Fin 1024, HMul.hMul (α := EReal) (β := EReal) (γ := EReal) (d (ix2 i j))
        (HMul.hMul (α := EReal) (β := EReal) (γ := EReal) (v (ix2 i j)) (rs (n := 256) (by norm_num) (fun k => v (ix2 i k)) j))) := by
  pointwise [k0_pay4, k0_pay1]
  refine congrArg _ (Finset.sum_congr rfl fun i _ => ?_)
  rw [pt8 v i (hv i)]
  pointwise [k0_pay5]

/-! ## What the reference computes -/

section
variable (x0 : (⟨Cert.QkMemRefIdeal.S16384x4096, .bf16⟩ : BufTy).Contents (Elt Ideal)) (x1 : (⟨Cert.QkMemRefIdeal.S1x64, .f32⟩ : BufTy).Contents (Elt Ideal)) (x2 : (⟨Cert.QkMemRefIdeal.S16384x256, .f32⟩ : BufTy).Contents (Elt Ideal))

/-- The queries of row `r`, their gain and their cotangent. -/
def Q (r : Fin 16384) (k : Fin 256) : EReal := x0 (ix2 r ⟨3840 + k.val, by omega⟩)
def G (k : Fin 256) : EReal := x1 (ix2 0 ⟨k.val % 64, by omega⟩)
def C (r : Fin 16384) (k : Fin 256) : EReal := x2 (ix2 r k)

/-- The column `d` of head `h`. -/
def col (h : Fin 4) (d : Fin 64) : Fin 256 := ⟨h.val * 64 + d.val, by omega⟩

theorem head_col (f : Fin 256 → EReal) (h : Fin 4) (d : Fin 64) : head (n := 256) (by norm_num) f (col h d) = fun e => f (col h e) :=
  funext fun e => congrArg f (Fin.ext (by show (h.val * 64 + d.val) / 64 * 64 + e.val = h.val * 64 + e.val; omega))
theorem place_col (h : Fin 4) (d : Fin 64) : place (col h d) = d := Fin.ext (by show (h.val * 64 + d.val) % 64 = d.val; omega)

theorem ref3 (h : Fin 4) (r : Fin 16384) (d : Fin 64) : val_main_v3 (F := Ideal) x0 (ix3 h r d) = Q x0 r (col h d) := by
  pointwise [val_main_v3, val_main_v2, val_main_v1, val_main_v0]
  rfl
theorem ref23 (h : Fin 4) (r : Fin 16384) (d : Fin 64) : val_main_v23 (F := Ideal) x2 (ix3 h r d) = C x2 r (col h d) := by
  pointwise [val_main_v23, val_main_v22]
  rfl
theorem ref28 (h : Fin 4) (r : Fin 16384) (d : Fin 64) : val_main_v28 (F := Ideal) x1 x2 (ix3 h r d) = C x2 r (col h d) * G x1 (col h d) := by
  pointwise [val_main_v28, val_main_v27, val_main_v17]
  rw [ref23]
  exact congrArg (fun z => _ * x1 (ix2 0 z)) (Fin.ext (by show d.val = (h.val * 64 + d.val) % 64; omega))
theorem ref11 (h : Fin 4) (r : Fin 16384) (d : Fin 64) : val_main_v11 (F := Ideal) x0 (ix3 h r 0) = rs (n := 256) (by norm_num) (Q x0 r) (col h d) := by
  rw [rs, head_col]
  pointwise [val_main_v11, val_main_v10, val_main_v9, val_main_cst_1, val_main_v8, val_main_v7, val_main_cst_0, val_main_v6, val_main_v5, val_main_cst, val_main_v4]
  simp only [ref3]
  rfl
theorem ref16 (h : Fin 4) (r : Fin 16384) (d : Fin 64) : val_main_v16 (F := Ideal) x0 (ix3 h r d) = Q x0 r (col h d) * rs (n := 256) (by norm_num) (Q x0 r) (col h d) := by
  pointwise [val_main_v16, val_main_v15]
  rw [ref3, ref11 x0 h r d]

theorem ref44 (h : Fin 4) (r : Fin 16384) (d : Fin 64) : val_main_v44 (F := Ideal) x0 x1 x2 (ix3 h r d)
    = pull (n := 256) (by norm_num) (Q x0 r) (fun k => C x2 r k * G x1 k) (col h d) := by
  rw [pull, head_col, head_col, place_col]
  have e : Rms.rstd (Ideal.ofBits .f32 0x42800000#32) (fun e => Q x0 r (col h e)) = val_main_v11 (F := Ideal) x0 (ix3 h r 0) := by
    rw [ref11 x0 h r d, rs, head_col]
  have e' : Rms.var (Ideal.ofBits .f32 0x42800000#32) (fun e => Q x0 r (col h e)) = val_main_v10 (F := Ideal) x0 (ix3 h r 0) := by
    pointwise [val_main_v10, val_main_v9, val_main_cst_1, val_main_v8, val_main_v7, val_main_cst_0, val_main_v6, val_main_v5, val_main_cst, val_main_v4]
    simp only [ref3]
    rfl
  rw [Rms.through, e, e']
  pointwise [val_main_v44, val_main_v43, val_main_v42, val_main_v41, val_main_v40, val_main_v39, val_main_cst_7, val_main_v38, val_main_v37, val_main_cst_6, val_main_v36, val_main_v35,
    val_main_v34, val_main_v33, val_main_v32, val_main_cst_5, val_main_v31, val_main_v14, val_main_v13, val_main_cst_2, val_main_v12]
  simp only [ref3, ref28, Fin.sum_univ_one]

theorem ref47 (r : Fin 16384) (j : Fin 256) : val_main_v47 (F := Ideal) x0 x1 x2 (ix2 r j)
    = pull (n := 256) (by norm_num) (Q x0 r) (fun k => C x2 r k * G x1 k) j := by
  pointwise [val_main_v47, val_main_v46, val_main_v45]
  rw [ref44]
  exact congrArg _ (Fin.ext (by show j.val / 64 * 64 + j.val % 64 = j.val; omega))

theorem ref30 (d : Fin 64) : val_main_v30 (F := Ideal) x0 x2 (ix2 0 d)
    = ∑ h : Fin 4, ∑ r : Fin 16384, C x2 r (col h d) * (Q x0 r (col h d) * rs (n := 256) (by norm_num) (Q x0 r) (col h d)) := by
  have e : ∀ d, val_main_v25 (F := Ideal) x0 x2 (ix1 d) = ∑ h : Fin 4, ∑ r : Fin 16384, C x2 r (col h d) * (Q x0 r (col h d) * rs (n := 256) (by norm_num) (Q x0 r) (col h d)) := fun d => by
    pointwise [val_main_v25, val_main_cst_3]
    rw [sum_two, zero_add]
    refine Finset.sum_congr rfl fun h _ => Finset.sum_congr rfl fun r _ => ?_
    pointwise [val_main_v24]
    rw [ref16, ref23, mul_comm]
  rw [← e]
  pointwise [val_main_v30, val_main_v29, val_main_cst_4]
  rw [sum_two, zero_add]
  simp only [Fin.sum_univ_one]
  pointwise [val_main_v26]
end

/-! ## What the arrays hold -/

variable (m : (ℓ : Loc nD τ sig) → Buf (Elt Ideal) ℓ)

theorem idx : ∀ t : Fin cfg0.N, win0_0.index t = ![t.val, 15] ∧ win0_1.index t = ![0, 0] ∧ win0_2.index t = ![t.val, 0]
    ∧ win0_3.index t = ![t.val, 0] ∧ win0_4.index t = ![0, 0] :=
  (by decide +kernel : ∀ t : Fin grid0.N, _)

theorem cfgN : cfg0.N = 16 := by decide +kernel

/-- Row `i` of the blocks of grid point `t`. -/
def row (t : Fin cfg0.N) (i : Fin 1024) : Fin 16384 := ⟨t.val * 1024 + i.val, by have := t.isLt; have := cfgN; omega⟩

/-- The host repeats the gain for the four heads. -/
theorem V_gain (c : Dev nD) (k : Fin 256) : V m c main_v2 (ix2 0 k) = G (m ((c.tc : Thread nD τ).loc main_arg1)) k := by
  have h : V m c main_v2 = shapeCast _ (broadcastInDim S1x1x4x64 ![0, 1, 2, 3] bcast_S1x1x1x64_S1x1x4x64_0_1_2_3 (shapeCast S1x1x1x64 (m ((c.tc : Thread nD τ).loc main_arg1)) shapeCasts_S1x64_S1x1x1x64)) shapeCasts_S1x1x4x64_S1x256 := by
    simp only [V, V0, hostOps0, List.flatten_cons, List.flatten_nil, List.append_nil, List.cons_append, List.nil_append]
    after_results <;> rfl
  rw [h]
  pointwise
  rfl

theorem rd0 (c : Dev nD) (t : Fin cfg0.N) (i : Fin 1024) (l : Fin 256) : iblk m c 0 t (ix2 i l) = Q (m ((c.tc : Thread nD τ).loc main_arg0)) (row t i) l := by
  blk_ext [iblk, V_main_arg0, idx t, row]
theorem rd1 (c : Dev nD) (t : Fin cfg0.N) (l : Fin 256) : iblk m c 1 t (ix2 0 l) = G (m ((c.tc : Thread nD τ).loc main_arg1)) l := by
  refine Eq.trans ?_ (V_gain m c l)
  blk_ext [iblk, idx t, row]
theorem rd2 (c : Dev nD) (t : Fin cfg0.N) (i : Fin 1024) (l : Fin 256) : iblk m c 2 t (ix2 i l) = C (m ((c.tc : Thread nD τ).loc main_arg2)) (row t i) l := by
  blk_ext [iblk, V_main_arg2, idx t, row]
theorem emb3 (t : Fin cfg0.N) (y : S1024x256.Idx) : (win0_3.blk t).view.emb y = ix2 (row t (y 0)) (y 1) := by blk_ext [idx t, row]
theorem emb4 (t : Fin cfg0.N) (y : S1x256.Idx) : (win0_4.blk t).view.emb y = ix2 0 (y 1) := by blk_ext [idx t]

/-- The device's queries, gain and cotangent. -/
abbrev QA (c : Dev nD) := Q (m ((c.tc : Thread nD τ).loc main_arg0))
abbrev GA (c : Dev nD) := G (m ((c.tc : Thread nD τ).loc main_arg1))
abbrev CA (c : Dev nD) := C (m ((c.tc : Thread nD τ).loc main_arg2))

/-- What is finite of the arguments: the queries, the gain and the cotangent. -/
structure Fed (c : Dev nD) : Prop where
  q : ∀ r k, QA m c r k = ((QA m c r k).toReal : EReal)
  g : ∀ k, GA m c k = ((GA m c k).toReal : EReal)
  d : ∀ r k, CA m c r k = ((CA m c r k).toReal : EReal)

/-- One row's term of the gain's gradient. -/
def term (c : Dev nD) (r : Fin 16384) (j : Fin 256) : EReal := CA m c r j * (QA m c r j * rs (n := 256) (by norm_num) (QA m c r) j)
/-- What block `q` adds to it. -/
def part (c : Dev nD) (q : ℕ) (j : Fin 256) : EReal := ∑ i : Fin 1024, if h : q * 1024 + i.val < 16384 then term m c ⟨q * 1024 + i.val, h⟩ j else 0

variable {m}

theorem dx_eq {c : Dev nD} (h : Fed m c) (t : Fin cfg0.N) (y : S1024x256.Idx) :
    k0_pay2 (k0_pay5 (iblk m c 0 t)) (k0_pay7 (F := Ideal) k0_pay6 (iota .tc S256x128 32 [1] iota_S256x128_d1_w32)) (k0_pay8 (k0_pay5 (iblk m c 0 t)) k0_pay6 (iota .tc S256x128 32 [1] iota_S256x128_d1_w32)) (iblk m c 2 t) (iblk m c 1 t) y
    = val_main_v47 (F := Ideal) (m ((c.tc : Thread nD τ).loc main_arg0)) (m ((c.tc : Thread nD τ).loc main_arg1)) (m ((c.tc : Thread nD τ).loc main_arg2)) (ix2 (row t (y 0)) (y 1)) := by
  obtain ⟨i, j, rfl⟩ : ∃ i j, y = ix2 i j := ⟨y 0, y 1, eq_ix2 y⟩
  refine Eq.trans (pt2 _ _ _ i (fun k => ?_) (fun k => ?_) (fun k => ?_) j) ((ref47 _ _ _ (row t i) j).symm.trans rfl |> Eq.trans ?_)
  · rw [rd0]; exact h.q _ _
  · rw [rd2]; exact h.d _ _
  · rw [rd1]; exact h.g _
  · simp only [rd0, rd1, rd2]

theorem final3 {c : Dev nD} (h : Fed m c) : (dats m 0 c).arrAt 3 cfg0.N
    = val_main_v47 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  refine Eq.trans ?_ ((dx_eq h t y).trans (congrArg _ (emb3 t y).symm))
  rw [after0_3]
  by_cases ht : t.val % 16 = 0
  · rw [outsAt0_A m c t ht]; frame_out
  · rw [outsAt0_B m c t ht]; frame_out

theorem pt4' {c : Dev nD} (h : Fed m c) (t : Fin cfg0.N) (a : Vec Ideal S1x256 .f32) (j : Fin 256) :
    k0_pay4 (k0_pay5 (iblk m c 0 t)) (k0_pay8 (k0_pay5 (iblk m c 0 t)) k0_pay6 (iota .tc S256x128 32 [1] iota_S256x128_d1_w32)) (iblk m c 2 t) a (ix2 0 j)
      = HAdd.hAdd (α := EReal) (β := EReal) (γ := EReal) (a (ix2 0 j)) (part m c t.val j) := by
  rw [pt4 _ _ _ (fun i k => by rw [rd0]; exact h.q _ _)]
  refine congrArg _ (Finset.sum_congr rfl fun i _ => ?_)
  refine Eq.trans ?_ (dif_pos (row t i).isLt).symm
  rw [rd2]
  simp only [rd0]
  rfl

theorem stepA {c : Dev nD} (h : Fed m c) (t : Fin cfg0.N) (ht : t.val % 16 = 0) (j : Fin 256) : (outsAt0 m c t.val t.isLt).2 (ix2 0 j) = part m c t.val j := by
  rw [outsAt0_A m c t ht]; frame_open
  simp (disch := decide) only [↓ View.readCov_skip, View.readCov_fill]
  frame_out
  rw [pt4' h]
  pointwise [k0_pay3]
theorem stepB {c : Dev nD} (h : Fed m c) (t : Fin cfg0.N) (ht : ¬t.val % 16 = 0) (j : Fin 256) : (outsAt0 m c t.val t.isLt).2 (ix2 0 j)
    = HAdd.hAdd (α := EReal) (β := EReal) (γ := EReal) ((outsAt0 m c (t.val - 1) (by omega)).2 (ix2 0 j)) (part m c t.val j) := by
  rw [outsAt0_B m c t ht]; frame_open
  simp (disch := decide) only [↓ View.readCov_skip, View.readCov_fill]
  frame_out
  rw [pt4' h]

theorem flush4 : ∀ t : Fin cfg0.N, (cfg0.win 4).flush t = true → t.val = 15 := (by decide +kernel : ∀ t : Fin grid0.N, _)

variable (m) in
/-- The gain's gradient before the host adds the heads. -/
def wide (c : Dev nD) : Vec Ideal S1x256 .f32 := fun y => ∑ r, term m c r (y 1)

theorem final4 {c : Dev nD} (h : Fed m c) : (dats m 0 c).arrAt 4 cfg0.N = wide m c := by
  refine (dats m 0 c).arrAt_eq_of_covers 4 _ (by decide +kernel) fun t hf z => ?_
  have ht := flush4 t hf
  obtain ⟨i, j, rfl⟩ : ∃ i j, z = ix2 i j := ⟨z 0, z 1, eq_ix2 z⟩
  obtain rfl : i = 0 := Subsingleton.elim _ _
  blk_simp
  refine Eq.trans ?_ (congrArg _ (emb4 t (ix2 0 j))).symm
  rw [after0_4]
  have e := sum_steps (fun n hn => (outsAt0 m c n hn).2 (ix2 0 j)) (fun q => part m c q j) (fun hn => stepA h ⟨0, hn⟩ (by simp only) j)
    (fun n hn => stepB h ⟨n + 1, hn⟩ (by have h' := hn; rw [cfgN] at h'; show ¬(n + 1) % 16 = 0; omega) j) t.val t.isLt
  refine e.trans ?_
  rw [ht, Finset.sum_range]
  show _ = ∑ r, term m c r j
  rw [Fin.sum_univ_tiles 16 1024 rfl]
  exact Finset.sum_congr rfl fun s _ => Finset.sum_congr rfl fun i _ => dif_pos (by omega)

/-- The host's sum over the heads is the reference's. -/
theorem dg_eq (c : Dev nD) : broadcastInDim S1x64 ![1] bcast_S64_S1x64_1 (Host.reduceAdd (F := Ideal) (φ := .f32) (shapeCast _ (wide m c) shapeCasts_S1x256_S4x64) (constant S_ .f32 0x00000000#32) reducesTo_S4x64_S64_d0 h_S_)
    = val_main_v30 (F := Ideal) (m ((c.tc : Thread nD τ).loc main_arg0)) (m ((c.tc : Thread nD τ).loc main_arg2)) := by
  funext y
  obtain ⟨i, d, rfl⟩ : ∃ i d, y = ix2 i d := ⟨y 0, y 1, eq_ix2 y⟩
  obtain rfl : i = 0 := Subsingleton.elim _ _
  rw [ref30]
  pointwise [wide]
  rfl

/-! ## The equation -/

/-- The precondition's own side conditions. -/
theorem pre_facts : Cert.Pre_qkmem_finite.Facts := by constructor <;> decide

section Lift
attribute [local instance] pre_facts

/-- The precondition makes the arguments real numbers. -/
theorem fed_of_pre (c : Dev nD) (h : Cert.Pre_qkmem_finite.fn (F := Ideal) (m ((c.tc : Thread nD τ).loc main_arg0)) (m ((c.tc : Thread nD τ).loc main_arg1))
    (m ((c.tc : Thread nD τ).loc main_arg2)) = fun _ => 1#1) : Fed m c := by
  have h0 := congrFun h (Shape.Idx.first Cert.Pre_qkmem_finite.Facts.h_S_)
  unfold Cert.Pre_qkmem_finite.fn at h0
  dsimp only at h0
  obtain ⟨hab, hc⟩ := IntOp.andi_eq_one.1 h0
  obtain ⟨ha, hb⟩ := IntOp.andi_eq_one.1 hab
  have : Subsingleton Cert.Pre_qkmem_finite.S_.Idx := ⟨fun a b => funext fun k => k.elim0⟩
  refine ⟨fun i x => Finite.of_lt _ ?_, fun x => Finite.of_lt _ ?_, fun i x => Finite.of_lt _ ?_⟩
  · have := Host.reduce_andi_all _ _ _ _ _ ha (ix2 i x)
    pointwise at this; exact this
  · have := Host.reduce_andi_all _ _ _ _ _ hb (ix2 0 ⟨x.val % 64, by omega⟩)
    pointwise at this; exact this
  · have := Host.reduce_andi_all _ _ _ _ _ hc (ix2 i x)
    pointwise at this; exact this

/-- The queries' gradient and the gain's are the same functions over the extended reals. -/
theorem algebraic : Cert.algebraic_QkMemIdeal_QkMemRefIdeal_pre_qkmem_finite := fun m ρ m' ρ' hpre hag =>
  ⟨fun c => val_main_v47 (F := Ideal) (m (c.tc.loc main_arg0)) (m (c.tc.loc main_arg1)) (m (c.tc.loc main_arg2)),
   fun c => val_main_v30 (F := Ideal) (m (c.tc.loc main_arg0)) (m (c.tc.loc main_arg2)),
   (θ_run Cert.QkMemIdeal.defs _ _).mono (fun r h c => by
     obtain ⟨h0, h1, ha⟩ := h c
     have fed := fed_of_pre c (hpre c)
     rw [show reg_main_v3_1 m c = wide m c from final4 fed] at h1
     exact ⟨h0.trans (final3 fed), h1.trans (dg_eq c), ha⟩) (run m ρ),
   (θ_run Cert.QkMemRefIdeal.defs _ _).mono (fun r h c => by
     obtain ⟨e0, e1, e2⟩ := hag c
     obtain ⟨h0, h1, ha⟩ := h c
     rw [val_main_v47_eq, e0, e1, e2] at h0
     rw [val_main_v30_eq, e0, e2] at h1
     exact ⟨h0, h1, ha⟩) (Cert.QkMemRefIdeal.Value.run m' ρ')⟩
end Lift

theorem frame_ref : Cert.quiescent_QkMemRefIdeal := fun m ρ _ =>
  (θ_run Cert.QkMemRefIdeal.defs _ _).mono (fun r h => ⟨fun c => (h c).2.2, sem_eq_zero_of_no_sems (by decide) r.2⟩) (Cert.QkMemRefIdeal.Value.run m ρ)

end Cert.QkMemIdeal.Value

end
-- ==== Proof.QkRope.Block.lean ====
/-
  One block of the gradient of the windows' norm and rotation: what the kernel's body computes of 1024 rows.
-/
module

public import proofs.«01_k».proof.Proof.Gen.QkRopeIdeal.Frame
public import proofs.«01_k».proof.Proof.HeadNorm
public import Idealize.ShloMosaic.Lib.Pointwise

@[expose] public section

set_option maxRecDepth 16384

noncomputable section

namespace Cert.QkRopeIdeal.Value

open Cert.QkRopeIdeal Cert.QkRopeIdeal.Gen Idealize.ShloMosaic Idealize.ShloMosaic.TcCoe
open Cert.HeadNorm

theorem pt5 (k : Fin 256) (l : Fin 128) : k0_pay5 (ix2 k l) = BitVec.ofNat 32 (k.val % 128 / 64) := by
  pointwise [k0_pay5]
  revert k; decide +kernel

/-- The matrix of the heads' means. -/
abbrev MAT : FVec Ideal S256x128 .bf16 := k0_pay6 (F := Ideal) k0_pay5 (iota .tc S256x128 32 [1] iota_S256x128_d1_w32)

theorem pt6 (k : Fin 256) (l : Fin 128) : MAT (ix2 k l) = entry k l := by
  refine Eq.trans ?_ (select_eq (k.val % 128 / 64) (l.val / 64) (by omega) (by omega) _ _)
  pointwise [k0_pay6]
  rw [pt5]
  refine congrArg (fun b => Scalar.select (IntOp.cmpi .eq _ b) _ _) ?_
  revert l; decide +kernel

/-- The reciprocal roots and the normed rows. -/
abbrev NORM (v : Vec Ideal S1024x768 .bf16) : FVec Ideal S1024x768 .f32 :=
  k0_pay13 MAT (k0_pay7 (k0_pay4 v)) (k0_pay8 (k0_pay4 v) k0_pay5 (iota .tc S256x128 32 [1] iota_S256x128_d1_w32))
    (k0_pay9 (k0_pay4 v) k0_pay5 (iota .tc S256x128 32 [1] iota_S256x128_d1_w32)) (k0_pay11 (k0_pay4 v)) (k0_pay12 (k0_pay4 v))
abbrev NORMED (v : Vec Ideal S1024x768 .bf16) : FVec Ideal S1024x768 .f32 :=
  k0_pay14 (k0_pay4 v) MAT (k0_pay7 (k0_pay4 v)) (k0_pay8 (k0_pay4 v) k0_pay5 (iota .tc S256x128 32 [1] iota_S256x128_d1_w32))
    (k0_pay9 (k0_pay4 v) k0_pay5 (iota .tc S256x128 32 [1] iota_S256x128_d1_w32)) (k0_pay11 (k0_pay4 v)) (k0_pay12 (k0_pay4 v))

theorem ptNorm (v : Vec Ideal S1024x768 .bf16) (i : Fin 1024) (hv : ∀ k, v (ix2 i k) = ((v (ix2 i k) : EReal).toReal : EReal)) (j : Fin 768) :
    NORM v (ix2 i j) = rs (n := 768) (by norm_num) (fun k => v (ix2 i k)) j := by
  pointwise [k0_pay13, k0_pay8, k0_pay9, k0_pay7, k0_pay11, k0_pay12, k0_pay10, k0_pay4]
  exact congrArg (fun z => Ideal.rsqrt (z + Ideal.ofBits .f32 0x358637BD#32)) (mean768 (A := fun k l => MAT (ix2 k l)) pt6
    (v := fun k => HMul.hMul (α := EReal) (β := EReal) (γ := EReal) (v (ix2 i k)) (v (ix2 i k))) (fun k => mul_real (hv k) (hv k)) j)

theorem ptNormed (v : Vec Ideal S1024x768 .bf16) (i : Fin 1024) (hv : ∀ k, v (ix2 i k) = ((v (ix2 i k) : EReal).toReal : EReal)) (j : Fin 768) :
    NORMED v (ix2 i j) = HMul.hMul (α := EReal) (β := EReal) (γ := EReal) (v (ix2 i j)) (rs (n := 768) (by norm_num) (fun k => v (ix2 i k)) j) := by
  pointwise [k0_pay14]
  refine (congrArg (HMul.hMul (α := EReal) (β := EReal) (γ := EReal) _) (ptNorm v i hv j)).trans ?_
  pointwise [k0_pay4]

/-- The three windows' cotangents side by side. -/
def join (d0 d1 d2 : Fin 256 → EReal) (k : Fin 768) : EReal :=
  if h : k.val < 256 then d0 ⟨k.val, h⟩ else if h' : k.val - 256 < 256 then d1 ⟨k.val - 256, h'⟩ else d2 ⟨k.val - 256 - 256, by omega⟩

/-- The rotation backward: `c` and `s` are the tables' rows of the position. -/
def turned (d : Fin 768 → EReal) (c s : Fin 128 → EReal) (j : Fin 768) : EReal :=
  d j * c ⟨j.val % 128, by omega⟩ + if h : j.val % 64 < 32 then d ⟨j.val + 32, by omega⟩ * s ⟨(j.val + 32) % 128, by omega⟩ else d ⟨j.val - 32, by omega⟩ * s ⟨(j.val - 32) % 128, by omega⟩

/-- The body's cotangent, rotated back. -/
abbrev TURN (d0 d1 d2 : Vec Ideal S1024x256 .f32) (c s : Vec Ideal S1024x128 .f32) : FVec Ideal S1024x768 .f32 :=
  k0_pay18 (k0_pay16 d0 d1 d2 c) (k0_pay17 d0 d1 d2 s) (iota .tc S1024x768 32 [1] iota_S1024x768_d1_w32) 64#32 0#1 1#32

/-- A table of 128 columns, six times side by side. -/
theorem tiled (c : Fin 128 → EReal) (j : Fin 768) :
    (if h : j.val < 128 then c ⟨j.val, h⟩ else if h : j.val - 128 < 128 then c ⟨j.val - 128, h⟩ else if h : j.val - 128 - 128 < 128 then c ⟨j.val - 128 - 128, h⟩
      else if h : j.val - 128 - 128 - 128 < 128 then c ⟨j.val - 128 - 128 - 128, h⟩ else if h : j.val - 128 - 128 - 128 - 128 < 128 then c ⟨j.val - 128 - 128 - 128 - 128, h⟩
      else c ⟨j.val - 128 - 128 - 128 - 128 - 128, by omega⟩) = c ⟨j.val % 128, by omega⟩ := by
  split_ifs <;> exact congrArg c (Fin.ext (by dsimp only; omega))

section
variable (d0 d1 d2 : Vec Ideal S1024x256 .f32) (c s : Vec Ideal S1024x128 .f32) (i : Fin 1024)

/-- Row `i` of the block's cotangent. -/
abbrev ct (k : Fin 768) : EReal := join (fun k => d0 (ix2 i k)) (fun k => d1 (ix2 i k)) (fun k => d2 (ix2 i k)) k

theorem pt15 (j : Fin 768) : k0_pay15 d0 d1 d2 (ix2 i j) = ct d0 d1 d2 i j := by
  pointwise [k0_pay15]
  rfl

theorem pt16 (j : Fin 768) : k0_pay16 d0 d1 d2 c (ix2 i j) = HMul.hMul (α := EReal) (β := EReal) (γ := EReal) (ct d0 d1 d2 i j) (c (ix2 i ⟨j.val % 128, by omega⟩)) := by
  pointwise [k0_pay16]
  rw [pt15]
  exact congrArg _ (tiled (fun k => c (ix2 i k)) j)

theorem pt17 (j : Fin 768) : k0_pay17 d0 d1 d2 s (ix2 i j) = HMul.hMul (α := EReal) (β := EReal) (γ := EReal) (ct d0 d1 d2 i j) (s (ix2 i ⟨j.val % 128, by omega⟩)) := by
  pointwise [k0_pay17]
  rw [pt15]
  exact congrArg _ (tiled (fun k => s (ix2 i k)) j)

theorem ptTurn (j : Fin 768) : TURN d0 d1 d2 c s (ix2 i j) = turned (ct d0 d1 d2 i) (fun k => c (ix2 i k)) (fun k => s (ix2 i k)) j := by
  pointwise [k0_pay18]
  rw [pt16, pt17, pt17, turned]
  refine congrArg _ ?_
  generalize hb : IntOp.cmpi CmpIPredicate.slt _ 32#32 = b
  have e : b = if j.val % 64 < 32 then 1#1 else 0#1 := by
    subst hb
    revert j
    decide +kernel
  rw [e]
  by_cases h : j.val % 64 < 32
  · rw [if_pos h, dif_pos h]
    have e2 : (j.val + 768 - 736) % 768 = j.val + 32 := by omega
    simp only [e2]
    rfl
  · rw [if_neg h, dif_neg h]
    have e2 : (j.val + 768 - 32) % 768 = j.val - 32 := by omega
    simp only [e2]
    rfl
end

/-- The gradient that the body writes. -/
abbrev OUT (v : Vec Ideal S1024x768 .bf16) (g : Vec Ideal S1x768 .f32) (d0 d1 d2 : Vec Ideal S1024x256 .f32) (c s : Vec Ideal S1024x128 .f32) : FVec Ideal S1024x768 .bf16 :=
  k0_pay1 MAT (NORM v) (NORMED v) (k0_pay19 (k0_pay16 d0 d1 d2 c) (k0_pay17 d0 d1 d2 s) (iota .tc S1024x768 32 [1] iota_S1024x768_d1_w32) 64#32 0#1 1#32 g)
    (k0_pay20 (NORMED v) (k0_pay16 d0 d1 d2 c) (k0_pay17 d0 d1 d2 s) (iota .tc S1024x768 32 [1] iota_S1024x768_d1_w32) 64#32 0#1 1#32 g)
    (k0_pay21 MAT (NORMED v) (k0_pay16 d0 d1 d2 c) (k0_pay17 d0 d1 d2 s) (iota .tc S1024x768 32 [1] iota_S1024x768_d1_w32) 64#32 0#1 1#32 g)
    (k0_pay22 MAT (NORMED v) (k0_pay16 d0 d1 d2 c) (k0_pay17 d0 d1 d2 s) (iota .tc S1024x768 32 [1] iota_S1024x768_d1_w32) 64#32 0#1 1#32 g)
    (k0_pay23 MAT (NORMED v) (k0_pay16 d0 d1 d2 c) (k0_pay17 d0 d1 d2 s) (iota .tc S1024x768 32 [1] iota_S1024x768_d1_w32) 64#32 0#1 1#32 g)
    (k0_pay24 (NORMED v) (k0_pay16 d0 d1 d2 c) (k0_pay17 d0 d1 d2 s) (iota .tc S1024x768 32 [1] iota_S1024x768_d1_w32) 64#32 0#1 1#32 g)
    (k0_pay25 (NORMED v) (k0_pay16 d0 d1 d2 c) (k0_pay17 d0 d1 d2 s) (iota .tc S1024x768 32 [1] iota_S1024x768_d1_w32) 64#32 0#1 1#32 g)
    (k0_pay26 (NORMED v) (k0_pay16 d0 d1 d2 c) (k0_pay17 d0 d1 d2 s) (iota .tc S1024x768 32 [1] iota_S1024x768_d1_w32) 64#32 0#1 1#32 g)

section
variable (v : Vec Ideal S1024x768 .bf16) (g : Vec Ideal S1x768 .f32) (d0 d1 d2 : Vec Ideal S1024x256 .f32) (c s : Vec Ideal S1024x128 .f32)

/-- Row `i` of the rotated cotangent. -/
abbrev dy (i : Fin 1024) (j : Fin 768) : EReal := turned (ct d0 d1 d2 i) (fun k => c (ix2 i k)) (fun k => s (ix2 i k)) j
/-- Row `i`'s cotangent of the normed row. -/
abbrev dyg (i : Fin 1024) (j : Fin 768) : EReal := HMul.hMul (α := EReal) (β := EReal) (γ := EReal) (dy d0 d1 d2 c s i j) (g (ix2 0 j))

theorem pt19 (i : Fin 1024) (j : Fin 768) : k0_pay19 (k0_pay16 d0 d1 d2 c) (k0_pay17 d0 d1 d2 s) (iota .tc S1024x768 32 [1] iota_S1024x768_d1_w32) 64#32 0#1 1#32 g (ix2 i j) = dyg g d0 d1 d2 c s i j := by
  pointwise [k0_pay19]
  exact congrArg (fun z => HMul.hMul (α := EReal) (β := EReal) (γ := EReal) z (g (ix2 0 j))) (ptTurn d0 d1 d2 c s i j)

theorem pt20 (i : Fin 1024) (hv : ∀ k, v (ix2 i k) = ((v (ix2 i k) : EReal).toReal : EReal)) (j : Fin 768) : k0_pay20 (NORMED v) (k0_pay16 d0 d1 d2 c) (k0_pay17 d0 d1 d2 s) (iota .tc S1024x768 32 [1] iota_S1024x768_d1_w32) 64#32 0#1 1#32 g (ix2 i j)
    = dyg g d0 d1 d2 c s i j * HMul.hMul (α := EReal) (β := EReal) (γ := EReal) (v (ix2 i j)) (rs (n := 768) (by norm_num) (fun k => v (ix2 i k)) j) := by
  pointwise [k0_pay20]
  exact congrArg₂ (HMul.hMul (α := EReal) (β := EReal) (γ := EReal)) (pt19 g d0 d1 d2 c s i j) (ptNormed v i hv j)

theorem ptOut (i : Fin 1024) (hv : ∀ k, v (ix2 i k) = ((v (ix2 i k) : EReal).toReal : EReal)) (hy : ∀ k, dyg g d0 d1 d2 c s i k = ((dyg g d0 d1 d2 c s i k).toReal : EReal)) (j : Fin 768) :
    OUT v g d0 d1 d2 c s (ix2 i j) = pull (n := 768) (by norm_num) (fun k => v (ix2 i k)) (dyg g d0 d1 d2 c s i) j := by
  refine Eq.trans ?_ (pull_eq (n := 768) (by norm_num) _ _ j hv hy)
  have e := mean768 (A := fun k l => MAT (ix2 k l)) pt6 (v := fun k => dyg g d0 d1 d2 c s i k * HMul.hMul (α := EReal) (β := EReal) (γ := EReal) (v (ix2 i k)) (rs (n := 768) (by norm_num) (fun k => v (ix2 i k)) k))
    (fun k => mul_real (hy k) (mul_real (hv k) (rs_real (n := 768) (by norm_num) _ k hv))) j
  have e20 := pt20 v g d0 d1 d2 c s i hv
  simp only [← e20] at e
  refine Eq.trans ?_ (congrArg₂ (HMul.hMul (α := EReal) (β := EReal) (γ := EReal)) (ptNorm v i hv j) (congrArg₂ (HSub.hSub (α := EReal) (β := EReal) (γ := EReal)) (pt19 g d0 d1 d2 c s i j)
    (congrArg₂ (HMul.hMul (α := EReal) (β := EReal) (γ := EReal)) (ptNormed v i hv j) (e.trans (congrArg (fun f => mean (n := 768) (by norm_num) f j) (funext e20))))))
  pointwise [k0_pay1, k0_pay21, k0_pay22, k0_pay23, k0_pay24, k0_pay25, k0_pay26]

/-- What the body adds to the gain's row. -/
theorem ptAcc (a : Vec Ideal S1x768 .f32) (hv : ∀ i k, v (ix2 i k) = ((v (ix2 i k) : EReal).toReal : EReal)) (j : Fin 768) :
    k0_pay3 (NORMED v) (TURN d0 d1 d2 c s) a (ix2 0 j)
      = HAdd.hAdd (α := EReal) (β := EReal) (γ := EReal) (a (ix2 0 j)) (∑ i : Fin 1024, dy d0 d1 d2 c s i j
        * HMul.hMul (α := EReal) (β := EReal) (γ := EReal) (v (ix2 i j)) (rs (n := 768) (by norm_num) (fun k => v (ix2 i k)) j)) := by
  pointwise [k0_pay3]
  exact congrArg _ (Finset.sum_congr rfl fun i _ => congrArg₂ (HMul.hMul (α := EReal) (β := EReal) (γ := EReal)) (ptTurn d0 d1 d2 c s i j) (ptNormed v i (hv i) j))
end

end Cert.QkRopeIdeal.Value

end
-- ==== Proof.QkRope.Ref.lean ====
/-
  The reference of the windows' norm and rotation, backward, read at an index.
-/
module

public import proofs.«01_k».proof.Proof.Gen.QkRopeRefIdeal.Read
public import proofs.«01_k».proof.Proof.QkRope.Block
public import Idealize.ShloMosaic.Lib.Pointwise

@[expose] public section

set_option maxRecDepth 16384

noncomputable section

namespace Cert.QkRopeIdeal.Value

open Idealize.ShloMosaic Idealize.ShloMosaic.TcCoe
open Cert.QkRopeRefIdeal.Read Cert.HeadNorm

/-- The tables of the rotation: cosine and sine of position `r`'s angle in pair `k`. -/
def cosT (r : Fin 16384) (k : Fin 32) : EReal := val_main_v33 (F := Ideal) (ix2 r k)
def sinT (r : Fin 16384) (k : Fin 32) : EReal := val_main_v34 (F := Ideal) (ix2 r k)

/-- The rotation of row `r` backward. -/
def turn (r : Fin 16384) (d : Fin 768 → EReal) (j : Fin 768) : EReal :=
  d j * cosT r ⟨j.val % 32, by omega⟩ + if h : j.val % 64 < 32 then d ⟨j.val + 32, by omega⟩ * sinT r ⟨j.val % 32, by omega⟩ else d ⟨j.val - 32, by omega⟩ * -sinT r ⟨j.val % 32, by omega⟩

/-- The angle of position `r` in pair `k` is a real number, so its cosine and sine are. -/
theorem real_tables (r : Fin 16384) (k : Fin 32) : cosT r k = ((cosT r k).toReal : EReal) ∧ sinT r k = ((sinT r k).toReal : EReal) := by
  have w : (Ideal.ofBits FTy.f32 0x461C4000#32 : EReal) = ((10000 : ℝ) : EReal) := by
    simp [Ideal.ofBits, Ideal.ieee, -EReal.coe_mul]; norm_num
  have w' : (Ideal.ofBits FTy.f32 0x42000000#32 : EReal) = ((32 : ℝ) : EReal) := by
    simp [Ideal.ofBits, Ideal.ieee, -EReal.coe_mul]; norm_num
  obtain ⟨a, ha⟩ : ∃ a : ℝ, val_main_v32 (F := Ideal) (ix2 r k) = (a : EReal) := by
    pointwise [val_main_v32, val_main_v31, val_main_v30, val_main_v29, val_main_v28, val_main_v27, val_main_v26, val_main_v25, val_main_v24, val_main_v23,
      val_main_v22, val_main_v21, val_main_v20, val_main_cst_3, val_main_cst_4]
    rw [w, w', Ideal.div_coe (by norm_num)]
    exact ⟨((BitVec.ofNat 32 r.val).toInt : ℝ) * Real.rpow 10000 (-((BitVec.ofNat 32 k.val).toInt : ℝ) * (1 / 32)), by
      rw [EReal.coe_mul]; exact congrArg _ (congrArg (Ideal.pow _) (EReal.coe_mul _ _).symm)⟩
  have hc : cosT r k = ((Real.cos a : ℝ) : EReal) := by
    unfold cosT; pointwise [val_main_v33]; rw [ha]; rfl
  have hs : sinT r k = ((Real.sin a : ℝ) : EReal) := by
    unfold sinT; pointwise [val_main_v34]; rw [ha]; rfl
  rw [hc, hs]
  exact ⟨by rw [EReal.toReal_coe], by rw [EReal.toReal_coe]⟩

theorem add_real {a b : EReal} (ha : a = (a.toReal : EReal)) (hb : b = (b.toReal : EReal)) : a + b = ((a + b).toReal : EReal) := by
  rw [ha, hb, ← EReal.coe_add, EReal.toReal_coe]

/-- A finite row rotated is finite. -/
theorem turn_real (r : Fin 16384) (d : Fin 768 → EReal) (hd : ∀ k, d k = ((d k).toReal : EReal)) (j : Fin 768) : turn r d j = ((turn r d j).toReal : EReal) := by
  unfold turn
  refine add_real (mul_real (hd _) (real_tables r _).1) ?_
  split
  · exact mul_real (hd _) (real_tables r _).2
  · refine mul_real (hd _) ?_
    rw [(real_tables r _).2, ← EReal.coe_neg, EReal.toReal_coe]

/-- Three finite windows side by side are finite. -/
theorem join_real {d0 d1 d2 : Fin 256 → EReal} (h0 : ∀ k, d0 k = ((d0 k).toReal : EReal)) (h1 : ∀ k, d1 k = ((d1 k).toReal : EReal)) (h2 : ∀ k, d2 k = ((d2 k).toReal : EReal)) (k : Fin 768) :
    join d0 d1 d2 k = ((join d0 d1 d2 k).toReal : EReal) := by
  unfold join
  split_ifs
  · exact h0 _
  · exact h1 _
  · exact h2 _

section
variable (x0 : (⟨Cert.QkRopeRefIdeal.S16384x4096, .bf16⟩ : BufTy).Contents (Elt Ideal)) (x1 : (⟨Cert.QkRopeRefIdeal.S1x64, .f32⟩ : BufTy).Contents (Elt Ideal)) (x2 x3 x4 : (⟨Cert.QkRopeRefIdeal.S16384x256, .f32⟩ : BufTy).Contents (Elt Ideal))

/-- The queries of row `r`, their gain and their cotangent before and after the rotation. -/
def Q (r : Fin 16384) (k : Fin 768) : EReal := x0 (ix2 r ⟨1536 + k.val, by omega⟩)
def G (k : Fin 768) : EReal := x1 (ix2 0 ⟨k.val % 64, by omega⟩)
def D (r : Fin 16384) (k : Fin 768) : EReal := join (fun k => x2 (ix2 r k)) (fun k => x3 (ix2 r k)) (fun k => x4 (ix2 r k)) k
def C (r : Fin 16384) (k : Fin 768) : EReal := turn r (D x2 x3 x4 r) k

/-- The column `d` of head `h`. -/
def col (h : Fin 12) (d : Fin 64) : Fin 768 := ⟨h.val * 64 + d.val, by omega⟩

theorem head_col (f : Fin 768 → EReal) (h : Fin 12) (d : Fin 64) : head (n := 768) (by norm_num) f (col h d) = fun e => f (col h e) :=
  funext fun e => congrArg f (Fin.ext (by show (h.val * 64 + d.val) / 64 * 64 + e.val = h.val * 64 + e.val; omega))
theorem place_col (h : Fin 12) (d : Fin 64) : place (col h d) = d := Fin.ext (by show (h.val * 64 + d.val) % 64 = d.val; omega)

theorem ref3 (h : Fin 12) (r : Fin 16384) (d : Fin 64) : val_main_v3 (F := Ideal) x0 (ix3 h r d) = Q x0 r (col h d) := by
  pointwise [val_main_v3, val_main_v2, val_main_v1, val_main_v0]
  rfl
theorem ref56 (h : Fin 12) (r : Fin 16384) (d : Fin 64) : val_main_v56 (F := Ideal) x2 x3 x4 (ix3 h r d) = D x2 x3 x4 r (col h d) := by
  pointwise [val_main_v56, val_main_v55, val_main_v54]
  rfl
theorem ref72 (h : Fin 12) (r : Fin 16384) (d : Fin 64) : val_main_v72 (F := Ideal) x2 x3 x4 (ix3 h r d) = C x2 x3 x4 r (col h d) := by
  pointwise [val_main_v72, val_main_v71, val_main_v70, val_main_v69, val_main_v68, val_main_v67, val_main_v66, val_main_v65, val_main_v64, val_main_v63, val_main_v62,
    val_main_v61, val_main_v60, val_main_v59, val_main_v58, val_main_v57, val_main_v47, val_main_v44, val_main_v40, val_main_v37, val_main_cst_5, val_main_cst_6]
  simp only [ref56]
  unfold C turn
  have ec : (col h d).val % 64 = d.val := by show (h.val * 64 + d.val) % 64 = d.val; omega
  by_cases hd : d.val < 32
  · rw [dif_neg (by omega), dif_pos hd, dif_pos (by omega), zero_add, add_comm]
    refine congrArg₂ (HAdd.hAdd (α := EReal) (β := EReal) (γ := EReal)) (congrArg (fun z => _ * cosT r z) (Fin.ext ?_))
      (congrArg₂ (HMul.hMul (α := EReal) (β := EReal) (γ := EReal)) (congrArg (D x2 x3 x4 r) (Fin.ext ?_)) (congrArg (sinT r) (Fin.ext ?_)))
    · show d.val = (h.val * 64 + d.val) % 32; omega
    · show h.val * 64 + (32 + d.val) = h.val * 64 + d.val + 32; omega
    · show d.val = (h.val * 64 + d.val) % 32; omega
  · rw [dif_pos (by omega), dif_neg hd, dif_neg (by omega), add_zero, EReal.neg_mul, ← mul_neg]
    refine congrArg₂ (HAdd.hAdd (α := EReal) (β := EReal) (γ := EReal)) (congrArg₂ (HMul.hMul (α := EReal) (β := EReal) (γ := EReal)) (congrArg (D x2 x3 x4 r) (Fin.ext ?_)) (congrArg (cosT r) (Fin.ext ?_)))
      (congrArg₂ (HMul.hMul (α := EReal) (β := EReal) (γ := EReal)) (congrArg (D x2 x3 x4 r) (Fin.ext ?_)) (congrArg (fun z => -sinT r z) (Fin.ext ?_)))
    · show h.val * 64 + (32 + (d.val - 32)) = h.val * 64 + d.val; omega
    · show d.val - 32 = (h.val * 64 + d.val) % 32; omega
    · show h.val * 64 + (d.val - 32) = h.val * 64 + d.val - 32; omega
    · show d.val - 32 = (h.val * 64 + d.val) % 32; omega
theorem ref77 (h : Fin 12) (r : Fin 16384) (d : Fin 64) : val_main_v77 (F := Ideal) x1 x2 x3 x4 (ix3 h r d) = C x2 x3 x4 r (col h d) * G x1 (col h d) := by
  pointwise [val_main_v77, val_main_v76, val_main_v17]
  rw [ref72]
  exact congrArg (fun z => _ * x1 (ix2 0 z)) (Fin.ext (by show d.val = (h.val * 64 + d.val) % 64; omega))
theorem ref11 (h : Fin 12) (r : Fin 16384) (d : Fin 64) : val_main_v11 (F := Ideal) x0 (ix3 h r 0) = rs (n := 768) (by norm_num) (Q x0 r) (col h d) := by
  rw [rs, head_col]
  pointwise [val_main_v11, val_main_v10, val_main_v9, val_main_cst_1, val_main_v8, val_main_v7, val_main_cst_0, val_main_v6, val_main_v5, val_main_cst, val_main_v4]
  simp only [ref3]
  rfl
theorem ref16 (h : Fin 12) (r : Fin 16384) (d : Fin 64) : val_main_v16 (F := Ideal) x0 (ix3 h r d) = Q x0 r (col h d) * rs (n := 768) (by norm_num) (Q x0 r) (col h d) := by
  pointwise [val_main_v16, val_main_v15]
  rw [ref3, ref11 x0 h r d]

theorem ref93 (h : Fin 12) (r : Fin 16384) (d : Fin 64) : val_main_v93 (F := Ideal) x0 x1 x2 x3 x4 (ix3 h r d)
    = pull (n := 768) (by norm_num) (Q x0 r) (fun k => C x2 x3 x4 r k * G x1 k) (col h d) := by
  rw [pull, head_col, head_col, place_col]
  have e : Rms.rstd (Ideal.ofBits .f32 0x42800000#32) (fun e => Q x0 r (col h e)) = val_main_v11 (F := Ideal) x0 (ix3 h r 0) := by
    rw [ref11 x0 h r d, rs, head_col]
  have e' : Rms.var (Ideal.ofBits .f32 0x42800000#32) (fun e => Q x0 r (col h e)) = val_main_v10 (F := Ideal) x0 (ix3 h r 0) := by
    pointwise [val_main_v10, val_main_v9, val_main_cst_1, val_main_v8, val_main_v7, val_main_cst_0, val_main_v6, val_main_v5, val_main_cst, val_main_v4]
    simp only [ref3]
    rfl
  rw [Rms.through, e, e']
  pointwise [val_main_v93, val_main_v92, val_main_v91, val_main_v90, val_main_v89, val_main_v88, val_main_cst_11, val_main_v87, val_main_v86, val_main_cst_10, val_main_v85, val_main_v84,
    val_main_v83, val_main_v82, val_main_v81, val_main_cst_9, val_main_v80, val_main_v14, val_main_v13, val_main_cst_2, val_main_v12]
  simp only [ref3, ref77, Fin.sum_univ_one]

theorem ref96 (r : Fin 16384) (j : Fin 768) : val_main_v96 (F := Ideal) x0 x1 x2 x3 x4 (ix2 r j)
    = pull (n := 768) (by norm_num) (Q x0 r) (fun k => C x2 x3 x4 r k * G x1 k) j := by
  pointwise [val_main_v96, val_main_v95, val_main_v94]
  rw [ref93]
  exact congrArg _ (Fin.ext (by show j.val / 64 * 64 + j.val % 64 = j.val; omega))

theorem ref79 (d : Fin 64) : val_main_v79 (F := Ideal) x0 x2 x3 x4 (ix2 0 d)
    = ∑ h : Fin 12, ∑ r : Fin 16384, C x2 x3 x4 r (col h d) * (Q x0 r (col h d) * rs (n := 768) (by norm_num) (Q x0 r) (col h d)) := by
  have e : ∀ d, val_main_v74 (F := Ideal) x0 x2 x3 x4 (ix1 d) = ∑ h : Fin 12, ∑ r : Fin 16384, C x2 x3 x4 r (col h d) * (Q x0 r (col h d) * rs (n := 768) (by norm_num) (Q x0 r) (col h d)) := fun d => by
    pointwise [val_main_v74, val_main_cst_7]
    rw [sum_two, zero_add]
    refine Finset.sum_congr rfl fun h _ => Finset.sum_congr rfl fun r _ => ?_
    pointwise [val_main_v73]
    rw [ref16, ref72, mul_comm]
  rw [← e]
  pointwise [val_main_v79, val_main_v78, val_main_cst_8]
  rw [sum_two, zero_add]
  simp only [Fin.sum_univ_one]
  pointwise [val_main_v75]
end

end Cert.QkRopeIdeal.Value

end
-- ==== Proof.QkRope.lean ====
/-
  The gradient of the windows' norm of their queries and of the rotary embedding behind it: each head of 64 columns has its
  own norm, all heads one gain, and a head's two halves turn by the position's angles.

  The kernel walks 16 blocks of 1024 rows (QkRope/Block.lean), turns the cotangent back with tables of the cosines and
  sines that the host makes, and adds to a row of 768 columns, that it keeps over the grid, each row's turned cotangent
  times the normed query; the host adds the twelve heads' columns of it. The reference differentiates the lines of the norm
  and of the rotation (QkRope/Ref.lean).
-/
module

public import proofs.«01_k».proof.Proof.Gen.QkRopeIdeal.Frame
public import proofs.«01_k».proof.Proof.Gen.QkRopeIdeal.Run
public import proofs.«01_k».proof.Proof.Gen.QkRopeIdeal.Read
public import proofs.«01_k».proof.Proof.Gen.QkRopeRefIdeal.Read
public import proofs.«01_k».proof.Proof.Gen.QkRopeRefIdeal.Run
public import proofs.«01_k».proof.Proof.QkRope.Ref
public import proofs.«01_k».proof.Proof.Loss
public import proofs.«01_k».proof.Defs
public import Idealize.ShloMosaic.Lib.Pointwise
public import Idealize.ShloMosaic.Lib.ReduceAll
public import Idealize.ShloMosaic.Lib.Pipeline.ValueKit
public import Idealize.ShloMosaic.Lib.Pipeline.ReadBack

@[expose] public section

set_option maxRecDepth 16384

noncomputable section

namespace Cert.QkRopeIdeal.Value

open Cert.QkRopeIdeal Cert.QkRopeIdeal.Gen Idealize.ShloMosaic Idealize.ShloMosaic.TcCoe Idealize.SL.Sem
open Idealize.ShloMosaic.Pipeline (Dat)
open Cert.QkRopeRefIdeal.Read Cert.HeadNorm
open Cert.LossIdeal.Value (sum_steps)

/-! ## What the arrays hold -/

variable (m : (ℓ : Loc nD τ sig) → Buf (Elt Ideal) ℓ)

theorem idx : ∀ t : Fin cfg0.N, win0_0.index t = ![t.val, 2] ∧ win0_1.index t = ![0, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![0, 0] :=
  (by decide +kernel : ∀ t : Fin grid0.N, _)

theorem cfgN : cfg0.N = 16 := by decide +kernel

/-- Row `i` of the blocks of grid point `t`. -/
def row (t : Fin cfg0.N) (i : Fin 1024) : Fin 16384 := ⟨t.val * 1024 + i.val, by have := t.isLt; have := cfgN; omega⟩

/-- The host repeats the gain for the twelve heads. -/
theorem V_gain (c : Dev nD) (k : Fin 768) : V m c main_v22 (ix2 0 k) = G (m ((c.tc : Thread nD τ).loc main_arg1)) k := by
  have h : V m c main_v22 = shapeCast _ (broadcastInDim S1x1x12x64 ![0, 1, 2, 3] bcast_S1x1x1x64_S1x1x12x64_0_1_2_3 (shapeCast S1x1x1x64 (m ((c.tc : Thread nD τ).loc main_arg1)) shapeCasts_S1x64_S1x1x1x64)) shapeCasts_S1x1x12x64_S1x768 := by
    simp only [V, V0, hostOps0, List.flatten_cons, List.flatten_nil, List.append_nil, List.cons_append, List.nil_append]
    after_results <;> rfl
  rw [h]
  pointwise
  rfl

/-- The host's table of cosines: a head's 32 of them, four times side by side. -/
theorem V_cos (c : Dev nD) (r : Fin 16384) (l : Fin 128) : V m c main_v16 (ix2 r l) = cosT r ⟨l.val % 32, by omega⟩ := by
  have h : V m c main_v16 = concatenate S16384x128 1 [⟨S16384x32, val_main_v33 (F := Ideal)⟩, ⟨S16384x32, val_main_v33 (F := Ideal)⟩, ⟨S16384x32, val_main_v33 (F := Ideal)⟩, ⟨S16384x32, val_main_v33 (F := Ideal)⟩] concatenates_S16384x32_S16384x32_S16384x32_S16384x32_S16384x128_d1 := by
    simp only [V, V0, hostOps0, List.flatten_cons, List.flatten_nil, List.append_nil, List.cons_append, List.nil_append]
    after_results_simp <;> (try dsimp only [Matrix.cons_val]) <;> (try after_results_simp) <;> rfl
  rw [h]
  pointwise
  split_ifs <;> exact congrArg (cosT r) (Fin.ext (by dsimp only; omega))

/-- Two arrays of 32 columns, in turn side by side. -/
theorem four (a b : Vec Ideal S16384x32 .f32) (r : Fin 16384) (l : Fin 128) :
    concatenate S16384x128 1 [⟨S16384x32, a⟩, ⟨S16384x32, b⟩, ⟨S16384x32, a⟩, ⟨S16384x32, b⟩] concatenates_S16384x32_S16384x32_S16384x32_S16384x32_S16384x128_d1 (ix2 r l)
      = if l.val % 64 < 32 then a (ix2 r ⟨l.val % 32, by omega⟩) else b (ix2 r ⟨l.val % 32, by omega⟩) := by
  have hl := l.isLt
  pointwise
  split_ifs
  all_goals first
    | (refine Eq.trans (congrArg (fun z : Fin 32 => a (ix2 r z)) (Fin.ext ?_)) (if_pos (by omega)).symm; dsimp only; omega)
    | (refine Eq.trans (congrArg (fun z : Fin 32 => b (ix2 r z)) (Fin.ext ?_)) (if_neg (by omega)).symm; dsimp only; omega)

/-- The host's table of sines: negated where a column's partner lies further on. -/
theorem V_sin (c : Dev nD) (r : Fin 16384) (l : Fin 128) : V m c main_v19 (ix2 r l) = if l.val % 64 < 32 then -sinT r ⟨l.val % 32, by omega⟩ else sinT r ⟨l.val % 32, by omega⟩ := by
  have h : V m c main_v19 = (concatenate S16384x128 1 [⟨S16384x32, Host.negf (F := Ideal) (φ := .f32) (val_main_v34 (F := Ideal))⟩, ⟨S16384x32, val_main_v34 (F := Ideal)⟩, ⟨S16384x32, Host.negf (F := Ideal) (φ := .f32) (val_main_v34 (F := Ideal))⟩, ⟨S16384x32, val_main_v34 (F := Ideal)⟩] concatenates_S16384x32_S16384x32_S16384x32_S16384x32_S16384x128_d1 : Vec Ideal S16384x128 .f32) := by
    simp only [V, V0, hostOps0, List.flatten_cons, List.flatten_nil, List.append_nil, List.cons_append, List.nil_append]
    after_results_simp <;> (try dsimp only [Matrix.cons_val]) <;> (try after_results_simp) <;> rfl
  rw [h]
  exact four _ _ r l

theorem rd0 (c : Dev nD) (t : Fin cfg0.N) (i : Fin 1024) (l : Fin 768) : X0_0 m c t (ix2 i l) = Q (m ((c.tc : Thread nD τ).loc main_arg0)) (row t i) l := by
  unfold X0_0 Pipeline.Window.fill
  rw [dif_pos (moved0_0 t _)]
  blk_ext [iblk, V_main_arg0, idx t, row]
theorem rd1 (c : Dev nD) (t : Fin cfg0.N) (l : Fin 768) : iblk m c 1 t (ix2 0 l) = G (m ((c.tc : Thread nD τ).loc main_arg1)) l := by
  refine Eq.trans ?_ (V_gain m c l)
  blk_ext [iblk, idx t, row]
theorem rd2 (c : Dev nD) (t : Fin cfg0.N) (i : Fin 1024) (l : Fin 128) : iblk m c 2 t (ix2 i l) = cosT (row t i) ⟨l.val % 32, by omega⟩ := by
  refine Eq.trans ?_ (V_cos m c (row t i) l)
  blk_ext [iblk, idx t, row]
theorem rd3 (c : Dev nD) (t : Fin cfg0.N) (i : Fin 1024) (l : Fin 128) : iblk m c 3 t (ix2 i l) = if l.val % 64 < 32 then -sinT (row t i) ⟨l.val % 32, by omega⟩ else sinT (row t i) ⟨l.val % 32, by omega⟩ := by
  refine Eq.trans ?_ (V_sin m c (row t i) l)
  blk_ext [iblk, idx t, row]
theorem rd4 (c : Dev nD) (t : Fin cfg0.N) (i : Fin 1024) (l : Fin 256) : iblk m c 4 t (ix2 i l) = m ((c.tc : Thread nD τ).loc main_arg2) (ix2 (row t i) l) := by
  blk_ext [iblk, V_main_arg2, idx t, row]
theorem rd5 (c : Dev nD) (t : Fin cfg0.N) (i : Fin 1024) (l : Fin 256) : iblk m c 5 t (ix2 i l) = m ((c.tc : Thread nD τ).loc main_arg3) (ix2 (row t i) l) := by
  blk_ext [iblk, V_main_arg3, idx t, row]
theorem rd6 (c : Dev nD) (t : Fin cfg0.N) (i : Fin 1024) (l : Fin 256) : iblk m c 6 t (ix2 i l) = m ((c.tc : Thread nD τ).loc main_arg4) (ix2 (row t i) l) := by
  blk_ext [iblk, V_main_arg4, idx t, row]
theorem emb7 (t : Fin cfg0.N) (y : S1024x768.Idx) : (win0_7.blk t).view.emb y = ix2 (row t (y 0)) (y 1) := by blk_ext [idx t, row]
theorem emb8 (t : Fin cfg0.N) (y : S1x768.Idx) : (win0_8.blk t).view.emb y = ix2 0 (y 1) := by blk_ext [idx t]

/-- The device's queries, gain and cotangent, before and after the rotation. -/
abbrev QA (c : Dev nD) := Q (m ((c.tc : Thread nD τ).loc main_arg0))
abbrev GA (c : Dev nD) := G (m ((c.tc : Thread nD τ).loc main_arg1))
abbrev DA (c : Dev nD) := D (m ((c.tc : Thread nD τ).loc main_arg2)) (m ((c.tc : Thread nD τ).loc main_arg3)) (m ((c.tc : Thread nD τ).loc main_arg4))
abbrev CA (c : Dev nD) := C (m ((c.tc : Thread nD τ).loc main_arg2)) (m ((c.tc : Thread nD τ).loc main_arg3)) (m ((c.tc : Thread nD τ).loc main_arg4))

/-- What is finite of the arguments: the queries, the gain and the cotangent. -/
structure Fed (c : Dev nD) : Prop where
  q : ∀ r k, QA m c r k = ((QA m c r k).toReal : EReal)
  g : ∀ k, GA m c k = ((GA m c k).toReal : EReal)
  d : ∀ r k, DA m c r k = ((DA m c r k).toReal : EReal)

/-- The rotated cotangent is finite. -/
theorem Fed.c {c : Dev nD} (h : Fed m c) (r : Fin 16384) (k : Fin 768) : CA m c r k = ((CA m c r k).toReal : EReal) :=
  turn_real r _ (h.d r) k

/-- The body's rotated cotangent is the reference's. -/
theorem dy_eq (c : Dev nD) (t : Fin cfg0.N) (i : Fin 1024) (j : Fin 768) :
    dy (iblk m c 4 t) (iblk m c 5 t) (iblk m c 6 t) (iblk m c 2 t) (iblk m c 3 t) i j = CA m c (row t i) j := by
  have e : ct (iblk m c 4 t) (iblk m c 5 t) (iblk m c 6 t) i = DA m c (row t i) := funext fun k => by
    simp only [ct, rd4, rd5, rd6]; rfl
  rw [dy, e]
  unfold turned CA C turn
  simp only [rd2, rd3]
  refine congrArg₂ (· + ·) (congrArg (fun z => _ * cosT _ z) (Fin.ext (by dsimp only; omega))) ?_
  by_cases hj : j.val % 64 < 32
  · rw [dif_pos hj, dif_pos hj, if_neg (by omega)]
    exact congrArg (fun z => _ * sinT _ z) (Fin.ext (by dsimp only; omega))
  · rw [dif_neg hj, dif_neg hj, if_pos (by omega)]
    exact congrArg (fun z => _ * -sinT _ z) (Fin.ext (by dsimp only; omega))

/-- One row's term of the gain's gradient. -/
def term (c : Dev nD) (r : Fin 16384) (j : Fin 768) : EReal := CA m c r j * (QA m c r j * rs (n := 768) (by norm_num) (QA m c r) j)
/-- What block `q` adds to it. -/
def part (c : Dev nD) (q : ℕ) (j : Fin 768) : EReal := ∑ i : Fin 1024, if h : q * 1024 + i.val < 16384 then term m c ⟨q * 1024 + i.val, h⟩ j else 0

/-- The reference's results of the device's arguments. -/
abbrev DX (c : Dev nD) := val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
abbrev DG (c : Dev nD) := val_main_v79 (F := Ideal) (m ((c.tc : Thread nD τ).loc main_arg0)) (m ((c.tc : Thread nD τ).loc main_arg2)) (m ((c.tc : Thread nD τ).loc main_arg3)) (m ((c.tc : Thread nD τ).loc main_arg4))

variable {m}

theorem dx_eq {c : Dev nD} (h : Fed m c) (t : Fin cfg0.N) (y : S1024x768.Idx) :
    OUT (X0_0 m c t) (iblk m c 1 t) (iblk m c 4 t) (iblk m c 5 t) (iblk m c 6 t) (iblk m c 2 t) (iblk m c 3 t) y = DX m c (ix2 (row t (y 0)) (y 1)) := by
  obtain ⟨i, j, rfl⟩ : ∃ i j, y = ix2 i j := ⟨y 0, y 1, eq_ix2 y⟩
  have e : dyg (iblk m c 1 t) (iblk m c 4 t) (iblk m c 5 t) (iblk m c 6 t) (iblk m c 2 t) (iblk m c 3 t) i = fun k => CA m c (row t i) k * GA m c k := funext fun k => by
    rw [dyg, dy_eq, rd1]
  refine Eq.trans (ptOut _ _ _ _ _ _ _ i (fun k => ?_) (fun k => ?_) j) (Eq.trans ?_ (ref96 _ _ _ _ _ (row t i) j).symm)
  · rw [rd0]; exact h.q _ _
  · rw [e]; exact mul_real (h.c m (row t i) k) (h.g k)
  · rw [e]; simp only [rd0]

theorem final7 {c : Dev nD} (h : Fed m c) : (dats m 0 c).arrAt 7 cfg0.N = DX m c := by
  refine (dats m 0 c).arrAt_eq_of_covers 7 _ (by decide +kernel) fun t _ y => ?_
  blk_simp
  refine Eq.trans ?_ ((dx_eq h t y).trans (congrArg _ (emb7 t y).symm))
  rw [after0_7]
  by_cases ht : t.val % 16 = 0
  · rw [outsAt0_A m c t ht]; frame_out
  · rw [outsAt0_B m c t ht]; frame_out

theorem ptAcc' {c : Dev nD} (h : Fed m c) (t : Fin cfg0.N) (a : Vec Ideal S1x768 .f32) (j : Fin 768) :
    k0_pay3 (NORMED (X0_0 m c t)) (TURN (iblk m c 4 t) (iblk m c 5 t) (iblk m c 6 t) (iblk m c 2 t) (iblk m c 3 t)) a (ix2 0 j)
      = HAdd.hAdd (α := EReal) (β := EReal) (γ := EReal) (a (ix2 0 j)) (part m c t.val j) := by
  rw [ptAcc _ _ _ _ _ _ _ (fun i k => by rw [rd0]; exact h.q _ _)]
  refine congrArg _ (Finset.sum_congr rfl fun i _ => ?_)
  refine Eq.trans ?_ (dif_pos (row t i).isLt).symm
  rw [dy_eq]
  simp only [rd0]
  rfl

theorem stepA {c : Dev nD} (h : Fed m c) (t : Fin cfg0.N) (ht : t.val % 16 = 0) (j : Fin 768) : (outsAt0 m c t.val t.isLt).2 (ix2 0 j) = part m c t.val j := by
  rw [outsAt0_A m c t ht]; frame_open
  simp (disch := decide) only [↓ View.readCov_skip, View.readCov_fill]
  frame_out
  refine (ptAcc' h t _ j).trans ?_
  pointwise [k0_pay2]
theorem stepB {c : Dev nD} (h : Fed m c) (t : Fin cfg0.N) (ht : ¬t.val % 16 = 0) (j : Fin 768) : (outsAt0 m c t.val t.isLt).2 (ix2 0 j)
    = HAdd.hAdd (α := EReal) (β := EReal) (γ := EReal) ((outsAt0 m c (t.val - 1) (by omega)).2 (ix2 0 j)) (part m c t.val j) := by
  rw [outsAt0_B m c t ht]; frame_open
  simp (disch := decide) only [↓ View.readCov_skip, View.readCov_fill]
  frame_out
  exact ptAcc' h t _ j

theorem flush8 : ∀ t : Fin cfg0.N, (cfg0.win 8).flush t = true → t.val = 15 := (by decide +kernel : ∀ t : Fin grid0.N, _)

variable (m) in
/-- The gain's gradient before the host adds the heads. -/
def wide (c : Dev nD) : Vec Ideal S1x768 .f32 := fun y => ∑ r, term m c r (y 1)

theorem final8 {c : Dev nD} (h : Fed m c) : (dats m 0 c).arrAt 8 cfg0.N = wide m c := by
  refine (dats m 0 c).arrAt_eq_of_covers 8 _ (by decide +kernel) fun t hf z => ?_
  have ht := flush8 t hf
  obtain ⟨i, j, rfl⟩ : ∃ i j, z = ix2 i j := ⟨z 0, z 1, eq_ix2 z⟩
  obtain rfl : i = 0 := Subsingleton.elim _ _
  blk_simp
  refine Eq.trans ?_ (congrArg _ (emb8 t (ix2 0 j))).symm
  rw [after0_8]
  have e := sum_steps (fun n hn => (outsAt0 m c n hn).2 (ix2 0 j)) (fun q => part m c q j) (fun hn => stepA h ⟨0, hn⟩ (by simp only) j)
    (fun n hn => stepB h ⟨n + 1, hn⟩ (by have h' := hn; rw [cfgN] at h'; show ¬(n + 1) % 16 = 0; omega) j) t.val t.isLt
  refine e.trans ?_
  rw [ht, Finset.sum_range]
  show _ = ∑ r, term m c r j
  rw [Fin.sum_univ_tiles 16 1024 rfl]
  exact Finset.sum_congr rfl fun s _ => Finset.sum_congr rfl fun i _ => dif_pos (by omega)

/-- The host's sum over the heads is the reference's. -/
theorem dg_eq (c : Dev nD) : broadcastInDim S1x64 ![1] bcast_S64_S1x64_1 (Host.reduceAdd (F := Ideal) (φ := .f32) (shapeCast _ (wide m c) shapeCasts_S1x768_S12x64) (constant S_ .f32 0x00000000#32) reducesTo_S12x64_S64_d0 h_S_) = DG m c := by
  funext y
  obtain ⟨i, d, rfl⟩ : ∃ i d, y = ix2 i d := ⟨y 0, y 1, eq_ix2 y⟩
  obtain rfl : i = 0 := Subsingleton.elim _ _
  rw [DG, ref79]
  pointwise [wide]
  rfl

/-! ## The equation -/

/-- The precondition's own side conditions. -/
theorem pre_facts : Cert.Pre_qkrope_finite.Facts := by constructor <;> decide

section Lift
attribute [local instance] pre_facts

/-- The precondition makes the arguments real numbers. -/
theorem fed_of_pre (c : Dev nD) (h : Cert.Pre_qkrope_finite.fn (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) = fun _ => 1#1) : Fed m c := by
  have h0 := congrFun h (Shape.Idx.first Cert.Pre_qkrope_finite.Facts.h_S_)
  unfold Cert.Pre_qkrope_finite.fn at h0
  dsimp only at h0
  obtain ⟨h4, he⟩ := IntOp.andi_eq_one.1 h0
  obtain ⟨h3, hd⟩ := IntOp.andi_eq_one.1 h4
  obtain ⟨h2, hc⟩ := IntOp.andi_eq_one.1 h3
  obtain ⟨ha, hb⟩ := IntOp.andi_eq_one.1 h2
  have : Subsingleton Cert.Pre_qkrope_finite.S_.Idx := ⟨fun a b => funext fun k => k.elim0⟩
  refine ⟨fun i x => Finite.of_lt _ ?_, fun x => Finite.of_lt _ ?_, fun i x => ?_⟩
  · have := Host.reduce_andi_all _ _ _ _ _ ha (ix2 i x)
    pointwise at this; exact this
  · have := Host.reduce_andi_all _ _ _ _ _ hb (ix2 0 ⟨x.val % 64, by omega⟩)
    pointwise at this; exact this
  · refine join_real (fun k => Finite.of_lt _ ?_) (fun k => Finite.of_lt _ ?_) (fun k => Finite.of_lt _ ?_) x
    · have := Host.reduce_andi_all _ _ _ _ _ hc (ix2 i k)
      pointwise at this; exact this
    · have := Host.reduce_andi_all _ _ _ _ _ hd (ix2 i k)
      pointwise at this; exact this
    · have := Host.reduce_andi_all _ _ _ _ _ he (ix2 i k)
      pointwise at this; exact this

/-- The queries' gradient and the gain's are the same functions over the extended reals. -/
theorem algebraic : Cert.algebraic_QkRopeIdeal_QkRopeRefIdeal_pre_qkrope_finite := fun m ρ m' ρ' hpre hag =>
  ⟨fun c => DX m c, fun c => DG m c,
   (θ_run Cert.QkRopeIdeal.defs _ _).mono (fun r h c => by
     obtain ⟨h0, h1, ha⟩ := h c
     have fed := fed_of_pre c (hpre c)
     rw [show reg_main_v23_1 m c = wide m c from final8 fed] at h1
     exact ⟨h0.trans (final7 fed), h1.trans (dg_eq c), ha⟩) (run m ρ),
   (θ_run Cert.QkRopeRefIdeal.defs _ _).mono (fun r h c => by
     obtain ⟨e0, e1, e2, e3, e4⟩ := hag c
     obtain ⟨h0, h1, ha⟩ := h c
     rw [val_main_v96_eq, e0, e1, e2, e3, e4] at h0
     rw [val_main_v79_eq, e0, e2, e3, e4] at h1
     exact ⟨h0, h1, ha⟩) (Cert.QkRopeRefIdeal.Value.run m' ρ')⟩
end Lift

theorem frame_ref : Cert.quiescent_QkRopeRefIdeal := fun m ρ _ =>
  (θ_run Cert.QkRopeRefIdeal.defs _ _).mono (fun r h => ⟨fun c => (h c).2.2, sem_eq_zero_of_no_sems (by decide) r.2⟩) (Cert.QkRopeRefIdeal.Value.run m ρ)

end Cert.QkRopeIdeal.Value

end
-- ==== Proof.KMem.lean ====
/-
  The gradient of the memory attention's norm of its keys: the norm of the queries' (KMem) at 256 rows, which are one block.
-/
module

public import proofs.«01_k».proof.Proof.Gen.KMemIdeal.Frame
public import proofs.«01_k».proof.Proof.Gen.KMemIdeal.Run
public import proofs.«01_k».proof.Proof.Gen.KMemIdeal.Read
public import proofs.«01_k».proof.Proof.Gen.KMemRefIdeal.Read
public import proofs.«01_k».proof.Proof.Gen.KMemRefIdeal.Run
public import proofs.«01_k».proof.Proof.QkMem
public import proofs.«01_k».proof.Defs
public import Idealize.ShloMosaic.Lib.Pointwise
public import Idealize.ShloMosaic.Lib.ReduceAll
public import Idealize.ShloMosaic.Lib.Pipeline.ValueKit
public import Idealize.ShloMosaic.Lib.Pipeline.ReadBack

@[expose] public section

set_option maxRecDepth 16384

noncomputable section

namespace Cert.KMemIdeal.Value

open Cert.KMemIdeal Cert.KMemIdeal.Gen Idealize.ShloMosaic Idealize.ShloMosaic.TcCoe Idealize.SL.Sem
open Idealize.ShloMosaic.Pipeline (Dat)
open Cert.KMemRefIdeal.Read Cert.HeadNorm
open Cert.QkMemIdeal.Value (G col head_col place_col)

/-! ## What one block computes -/

/-- The matrix of the heads' means. -/
theorem pt7 (k : Fin 256) (l : Fin 128) : k0_pay7 (F := Ideal) k0_pay6 (iota .tc S256x128 32 [1] iota_S256x128_d1_w32) (ix2 k l) = entry k l :=
  Cert.QkMemIdeal.Value.pt7 k l

/-- The reciprocal roots. -/
theorem pt8 (v : Vec Ideal S256x256 .bf16) (i : Fin 256) (hv : ∀ k, v (ix2 i k) = ((v (ix2 i k) : EReal).toReal : EReal)) (j : Fin 256) :
    k0_pay8 (k0_pay5 v) k0_pay6 (iota .tc S256x128 32 [1] iota_S256x128_d1_w32) (ix2 i j) = rs (n := 256) (by norm_num) (fun k => v (ix2 i k)) j := by
  pointwise [k0_pay8, k0_pay5]
  exact congrArg (fun z => Ideal.rsqrt (z + Ideal.ofBits .f32 0x358637BD#32)) (mean256 (A := fun k l => k0_pay7 (F := Ideal) k0_pay6 (iota .tc S256x128 32 [1] iota_S256x128_d1_w32) (ix2 k l))
    pt7 (v := fun k => HMul.hMul (α := EReal) (β := EReal) (γ := EReal) (v (ix2 i k)) (v (ix2 i k))) (fun k => mul_real (hv k) (hv k)) j)

/-- The gradient that the body writes. -/
theorem pt2 (v : Vec Ideal S256x256 .bf16) (d : Vec Ideal S256x256 .f32) (g : Vec Ideal S1x256 .f32) (i : Fin 256) (hv : ∀ k, v (ix2 i k) = ((v (ix2 i k) : EReal).toReal : EReal))
    (hd : ∀ k, d (ix2 i k) = ((d (ix2 i k) : EReal).toReal : EReal)) (hg : ∀ k, g (ix2 0 k) = ((g (ix2 0 k) : EReal).toReal : EReal)) (j : Fin 256) :
    k0_pay2 (k0_pay5 v) (k0_pay7 (F := Ideal) k0_pay6 (iota .tc S256x128 32 [1] iota_S256x128_d1_w32)) (k0_pay8 (k0_pay5 v) k0_pay6 (iota .tc S256x128 32 [1] iota_S256x128_d1_w32)) d g (ix2 i j)
      = pull (n := 256) (by norm_num) (fun k => v (ix2 i k)) (fun k => HMul.hMul (α := EReal) (β := EReal) (γ := EReal) (d (ix2 i k)) (g (ix2 0 k))) j := by
  refine Eq.trans ?_ (pull_eq (n := 256) (by norm_num) _ _ j hv fun k => mul_real (hd k) (hg k))
  pointwise [k0_pay2, k0_pay1]
  simp only [pt8 v i hv]
  pointwise [k0_pay5]
  exact congrArg (fun z => _ * (_ - _ * z)) (mean256 (A := fun k l => k0_pay7 (F := Ideal) k0_pay6 (iota .tc S256x128 32 [1] iota_S256x128_d1_w32) (ix2 k l))
    pt7 (v := fun k => HMul.hMul (α := EReal) (β := EReal) (γ := EReal) (HMul.hMul (α := EReal) (β := EReal) (γ := EReal) (d (ix2 i k)) (g (ix2 0 k))) (HMul.hMul (α := EReal) (β := EReal) (γ := EReal) (v (ix2 i k)) (rs (n := 256) (by norm_num) (fun k => v (ix2 i k)) k)))
      (fun k => mul_real (mul_real (hd k) (hg k)) (mul_real (hv k) (rs_real (n := 256) (by norm_num) _ k hv))) j)

/-- What the body adds to the gain's row. -/
theorem pt4 (v : Vec Ideal S256x256 .bf16) (d : Vec Ideal S256x256 .f32) (a : Vec Ideal S1x256 .f32) (hv : ∀ i k, v (ix2 i k) = ((v (ix2 i k) : EReal).toReal : EReal)) (j : Fin 256) :
    k0_pay4 (k0_pay5 v) (k0_pay8 (k0_pay5 v) k0_pay6 (iota .tc S256x128 32 [1] iota_S256x128_d1_w32)) d a (ix2 0 j)
      = HAdd.hAdd (α := EReal) (β := EReal) (γ := EReal) (a (ix2 0 j)) (∑ i : Fin 256, HMul.hMul (α := EReal) (β := EReal) (γ := EReal) (d (ix2 i j))
        (HMul.hMul (α := EReal) (β := EReal) (γ := EReal) (v (ix2 i j)) (rs (n := 256) (by norm_num) (fun k => v (ix2 i k)) j))) := by
  pointwise [k0_pay4, k0_pay1]
  refine congrArg _ (Finset.sum_congr rfl fun i _ => ?_)
  rw [pt8 v i (hv i)]
  pointwise [k0_pay5]

/-! ## What the reference computes -/

section
variable (x0 : (⟨Cert.KMemRefIdeal.S256x512, .bf16⟩ : BufTy).Contents (Elt Ideal)) (x1 : (⟨Cert.KMemRefIdeal.S1x64, .f32⟩ : BufTy).Contents (Elt Ideal)) (x2 : (⟨Cert.KMemRefIdeal.S256x256, .f32⟩ : BufTy).Contents (Elt Ideal))

/-- The keys of row `r` and their cotangent. -/
def Q (r : Fin 256) (k : Fin 256) : EReal := x0 (ix2 r ⟨k.val, by omega⟩)
def C (r : Fin 256) (k : Fin 256) : EReal := x2 (ix2 r k)

theorem ref3 (h : Fin 4) (r : Fin 256) (d : Fin 64) : val_main_v3 (F := Ideal) x0 (ix3 h r d) = Q x0 r (col h d) := by
  pointwise [val_main_v3, val_main_v2, val_main_v1, val_main_v0]
  rfl
theorem ref23 (h : Fin 4) (r : Fin 256) (d : Fin 64) : val_main_v23 (F := Ideal) x2 (ix3 h r d) = C x2 r (col h d) := by
  pointwise [val_main_v23, val_main_v22]
  rfl
theorem ref28 (h : Fin 4) (r : Fin 256) (d : Fin 64) : val_main_v28 (F := Ideal) x1 x2 (ix3 h r d) = C x2 r (col h d) * G x1 (col h d) := by
  pointwise [val_main_v28, val_main_v27, val_main_v17]
  rw [ref23]
  exact congrArg (fun z => _ * x1 (ix2 0 z)) (Fin.ext (by show d.val = (h.val * 64 + d.val) % 64; omega))
theorem ref11 (h : Fin 4) (r : Fin 256) (d : Fin 64) : val_main_v11 (F := Ideal) x0 (ix3 h r 0) = rs (n := 256) (by norm_num) (Q x0 r) (col h d) := by
  rw [rs, head_col]
  pointwise [val_main_v11, val_main_v10, val_main_v9, val_main_cst_1, val_main_v8, val_main_v7, val_main_cst_0, val_main_v6, val_main_v5, val_main_cst, val_main_v4]
  simp only [ref3]
  rfl
theorem ref16 (h : Fin 4) (r : Fin 256) (d : Fin 64) : val_main_v16 (F := Ideal) x0 (ix3 h r d) = Q x0 r (col h d) * rs (n := 256) (by norm_num) (Q x0 r) (col h d) := by
  pointwise [val_main_v16, val_main_v15]
  rw [ref3, ref11 x0 h r d]

theorem ref44 (h : Fin 4) (r : Fin 256) (d : Fin 64) : val_main_v44 (F := Ideal) x0 x1 x2 (ix3 h r d)
    = pull (n := 256) (by norm_num) (Q x0 r) (fun k => C x2 r k * G x1 k) (col h d) := by
  rw [pull, head_col, head_col, place_col]
  have e : Rms.rstd (Ideal.ofBits .f32 0x42800000#32) (fun e => Q x0 r (col h e)) = val_main_v11 (F := Ideal) x0 (ix3 h r 0) := by
    rw [ref11 x0 h r d, rs, head_col]
  have e' : Rms.var (Ideal.ofBits .f32 0x42800000#32) (fun e => Q x0 r (col h e)) = val_main_v10 (F := Ideal) x0 (ix3 h r 0) := by
    pointwise [val_main_v10, val_main_v9, val_main_cst_1, val_main_v8, val_main_v7, val_main_cst_0, val_main_v6, val_main_v5, val_main_cst, val_main_v4]
    simp only [ref3]
    rfl
  rw [Rms.through, e, e']
  pointwise [val_main_v44, val_main_v43, val_main_v42, val_main_v41, val_main_v40, val_main_v39, val_main_cst_7, val_main_v38, val_main_v37, val_main_cst_6, val_main_v36, val_main_v35,
    val_main_v34, val_main_v33, val_main_v32, val_main_cst_5, val_main_v31, val_main_v14, val_main_v13, val_main_cst_2, val_main_v12]
  simp only [ref3, ref28, Fin.sum_univ_one]

theorem ref47 (r : Fin 256) (j : Fin 256) : val_main_v47 (F := Ideal) x0 x1 x2 (ix2 r j)
    = pull (n := 256) (by norm_num) (Q x0 r) (fun k => C x2 r k * G x1 k) j := by
  pointwise [val_main_v47, val_main_v46, val_main_v45]
  rw [ref44]
  exact congrArg _ (Fin.ext (by show j.val / 64 * 64 + j.val % 64 = j.val; omega))

theorem ref30 (d : Fin 64) : val_main_v30 (F := Ideal) x0 x2 (ix2 0 d)
    = ∑ h : Fin 4, ∑ r : Fin 256, C x2 r (col h d) * (Q x0 r (col h d) * rs (n := 256) (by norm_num) (Q x0 r) (col h d)) := by
  have e : ∀ d, val_main_v25 (F := Ideal) x0 x2 (ix1 d) = ∑ h : Fin 4, ∑ r : Fin 256, C x2 r (col h d) * (Q x0 r (col h d) * rs (n := 256) (by norm_num) (Q x0 r) (col h d)) := fun d => by
    pointwise [val_main_v25, val_main_cst_3]
    rw [sum_two, zero_add]
    refine Finset.sum_congr rfl fun h _ => Finset.sum_congr rfl fun r _ => ?_
    pointwise [val_main_v24]
    rw [ref16, ref23, mul_comm]
  rw [← e]
  pointwise [val_main_v30, val_main_v29, val_main_cst_4]
  rw [sum_two, zero_add]
  simp only [Fin.sum_univ_one]
  pointwise [val_main_v26]
end

/-! ## What the arrays hold -/

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The host repeats the gain for the four heads. -/
theorem V_gain (c : Dev nD) (k : Fin 256) : V m c main_v2 (ix2 0 k) = G (m ((c.tc : Thread nD τ).loc main_arg1)) k := by
  have h : V m c main_v2 = shapeCast _ (broadcastInDim S1x1x4x64 ![0, 1, 2, 3] bcast_S1x1x1x64_S1x1x4x64_0_1_2_3 (shapeCast S1x1x1x64 (m ((c.tc : Thread nD τ).loc main_arg1)) shapeCasts_S1x64_S1x1x1x64)) shapeCasts_S1x1x4x64_S1x256 := by
    simp only [V, V0, hostOps0, List.flatten_cons, List.flatten_nil, List.append_nil, List.cons_append, List.nil_append]
    after_results <;> rfl
  rw [h]
  pointwise
  rfl

theorem rd0 (c : Dev nD) (t : Fin cfg0.N) (i : Fin 256) (l : Fin 256) : iblk m c 0 t (ix2 i l) = Q (m ((c.tc : Thread nD τ).loc main_arg0)) i l := by
  blk_ext [iblk, V_main_arg0, idx t]
theorem rd1 (c : Dev nD) (t : Fin cfg0.N) (l : Fin 256) : iblk m c 1 t (ix2 0 l) = G (m ((c.tc : Thread nD τ).loc main_arg1)) l := by
  refine Eq.trans ?_ (V_gain m c l)
  blk_ext [iblk, idx t]
theorem rd2 (c : Dev nD) (t : Fin cfg0.N) (i : Fin 256) (l : Fin 256) : iblk m c 2 t (ix2 i l) = C (m ((c.tc : Thread nD τ).loc main_arg2)) i l := by
  blk_ext [iblk, V_main_arg2, idx t]
theorem emb3 (t : Fin cfg0.N) (y : S256x256.Idx) : (win0_3.blk t).view.emb y = ix2 (y 0) (y 1) := by blk_ext [idx t]
theorem emb4 (t : Fin cfg0.N) (y : S1x256.Idx) : (win0_4.blk t).view.emb y = ix2 0 (y 1) := by blk_ext [idx t]

/-- The device's keys, gain and cotangent. -/
abbrev QA (c : Dev nD) := Q (m ((c.tc : Thread nD τ).loc main_arg0))
abbrev GA (c : Dev nD) := G (m ((c.tc : Thread nD τ).loc main_arg1))
abbrev CA (c : Dev nD) := C (m ((c.tc : Thread nD τ).loc main_arg2))

/-- What is finite of the arguments: the keys, the gain and the cotangent. -/
structure Fed (c : Dev nD) : Prop where
  q : ∀ r k, QA m c r k = ((QA m c r k).toReal : EReal)
  g : ∀ k, GA m c k = ((GA m c k).toReal : EReal)
  d : ∀ r k, CA m c r k = ((CA m c r k).toReal : EReal)

/-- One row's term of the gain's gradient. -/
def term (c : Dev nD) (r : Fin 256) (j : Fin 256) : EReal := CA m c r j * (QA m c r j * rs (n := 256) (by norm_num) (QA m c r) j)
variable {m}

theorem dx_eq {c : Dev nD} (h : Fed m c) (t : Fin cfg0.N) (y : S256x256.Idx) :
    k0_pay2 (k0_pay5 (iblk m c 0 t)) (k0_pay7 (F := Ideal) k0_pay6 (iota .tc S256x128 32 [1] iota_S256x128_d1_w32)) (k0_pay8 (k0_pay5 (iblk m c 0 t)) k0_pay6 (iota .tc S256x128 32 [1] iota_S256x128_d1_w32)) (iblk m c 2 t) (iblk m c 1 t) y
    = val_main_v47 (F := Ideal) (m ((c.tc : Thread nD τ).loc main_arg0)) (m ((c.tc : Thread nD τ).loc main_arg1)) (m ((c.tc : Thread nD τ).loc main_arg2)) (ix2 (y 0) (y 1)) := by
  obtain ⟨i, j, rfl⟩ : ∃ i j, y = ix2 i j := ⟨y 0, y 1, eq_ix2 y⟩
  refine Eq.trans (pt2 _ _ _ i (fun k => ?_) (fun k => ?_) (fun k => ?_) j) ((ref47 _ _ _ i j).symm.trans rfl |> Eq.trans ?_)
  · rw [rd0]; exact h.q _ _
  · rw [rd2]; exact h.d _ _
  · rw [rd1]; exact h.g _
  · simp only [rd0, rd1, rd2]

theorem final3 {c : Dev nD} (h : Fed m c) : (dats m 0 c).arrAt 3 cfg0.N
    = val_main_v47 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  refine Eq.trans ?_ ((dx_eq h t y).trans (congrArg _ (emb3 t y).symm))
  rw [after0_3]
  unfold outsAt0; frame_out

theorem gain_eq {c : Dev nD} (h : Fed m c) (t : Fin cfg0.N) (j : Fin 256) : (outsAt0 m c t).2 (ix2 0 j) = ∑ r, term m c r j := by
  unfold outsAt0; frame_open
  simp (disch := decide) only [↓ View.readCov_skip, View.readCov_fill]
  frame_out
  rw [pt4 _ _ _ (fun i k => by rw [rd0]; exact h.q _ _)]
  pointwise [k0_pay3]
  simp only [rd0, rd2]
  rfl

variable (m) in
/-- The gain's gradient before the host adds the heads. -/
def wide (c : Dev nD) : Vec Ideal S1x256 .f32 := fun y => ∑ r, term m c r (y 1)

theorem final4 {c : Dev nD} (h : Fed m c) : (dats m 0 c).arrAt 4 cfg0.N = wide m c := by
  refine (dats m 0 c).arrAt_eq_of_covers 4 _ (by decide +kernel) fun t hf z => ?_
  obtain ⟨i, j, rfl⟩ : ∃ i j, z = ix2 i j := ⟨z 0, z 1, eq_ix2 z⟩
  obtain rfl : i = 0 := Subsingleton.elim _ _
  blk_simp
  refine Eq.trans ?_ (congrArg _ (emb4 t (ix2 0 j))).symm
  rw [after0_4]
  exact gain_eq h t j

/-- The host's sum over the heads is the reference's. -/
theorem dg_eq (c : Dev nD) : broadcastInDim S1x64 ![1] bcast_S64_S1x64_1 (Host.reduceAdd (F := Ideal) (φ := .f32) (shapeCast _ (wide m c) shapeCasts_S1x256_S4x64) (constant S_ .f32 0x00000000#32) reducesTo_S4x64_S64_d0 h_S_)
    = val_main_v30 (F := Ideal) (m ((c.tc : Thread nD τ).loc main_arg0)) (m ((c.tc : Thread nD τ).loc main_arg2)) := by
  funext y
  obtain ⟨i, d, rfl⟩ : ∃ i d, y = ix2 i d := ⟨y 0, y 1, eq_ix2 y⟩
  obtain rfl : i = 0 := Subsingleton.elim _ _
  rw [ref30]
  pointwise [wide]
  rfl

/-! ## The equation -/

/-- The precondition's own side conditions. -/
theorem pre_facts : Cert.Pre_kmem_finite.Facts := by constructor <;> decide

section Lift
attribute [local instance] pre_facts

/-- The precondition makes the arguments real numbers. -/
theorem fed_of_pre (c : Dev nD) (h : Cert.Pre_kmem_finite.fn (F := Ideal) (m ((c.tc : Thread nD τ).loc main_arg0)) (m ((c.tc : Thread nD τ).loc main_arg1))
    (m ((c.tc : Thread nD τ).loc main_arg2)) = fun _ => 1#1) : Fed m c := by
  have h0 := congrFun h (Shape.Idx.first Cert.Pre_kmem_finite.Facts.h_S_)
  unfold Cert.Pre_kmem_finite.fn at h0
  dsimp only at h0
  obtain ⟨hab, hc⟩ := IntOp.andi_eq_one.1 h0
  obtain ⟨ha, hb⟩ := IntOp.andi_eq_one.1 hab
  have : Subsingleton Cert.Pre_kmem_finite.S_.Idx := ⟨fun a b => funext fun k => k.elim0⟩
  refine ⟨fun i x => Finite.of_lt _ ?_, fun x => Finite.of_lt _ ?_, fun i x => Finite.of_lt _ ?_⟩
  · have := Host.reduce_andi_all _ _ _ _ _ ha (ix2 i x)
    pointwise at this; exact this
  · have := Host.reduce_andi_all _ _ _ _ _ hb (ix2 0 ⟨x.val % 64, by omega⟩)
    pointwise at this; exact this
  · have := Host.reduce_andi_all _ _ _ _ _ hc (ix2 i x)
    pointwise at this; exact this

/-- The keys' gradient and the gain's are the same functions over the extended reals. -/
theorem algebraic : Cert.algebraic_KMemIdeal_KMemRefIdeal_pre_kmem_finite := fun m ρ m' ρ' hpre hag =>
  ⟨fun c => val_main_v47 (F := Ideal) (m (c.tc.loc main_arg0)) (m (c.tc.loc main_arg1)) (m (c.tc.loc main_arg2)),
   fun c => val_main_v30 (F := Ideal) (m (c.tc.loc main_arg0)) (m (c.tc.loc main_arg2)),
   (θ_run Cert.KMemIdeal.defs _ _).mono (fun r h c => by
     obtain ⟨h0, h1, ha⟩ := h c
     have fed := fed_of_pre c (hpre c)
     rw [show reg_main_v3_1 m c = wide m c from final4 fed] at h1
     exact ⟨h0.trans (final3 fed), h1.trans (dg_eq c), ha⟩) (run m ρ),
   (θ_run Cert.KMemRefIdeal.defs _ _).mono (fun r h c => by
     obtain ⟨e0, e1, e2⟩ := hag c
     obtain ⟨h0, h1, ha⟩ := h c
     rw [val_main_v47_eq, e0, e1, e2] at h0
     rw [val_main_v30_eq, e0, e2] at h1
     exact ⟨h0, h1, ha⟩) (Cert.KMemRefIdeal.Value.run m' ρ')⟩
end Lift

theorem frame_ref : Cert.quiescent_KMemRefIdeal := fun m ρ _ =>
  (θ_run Cert.KMemRefIdeal.defs _ _).mono (fun r h => ⟨fun c => (h c).2.2, sem_eq_zero_of_no_sems (by decide) r.2⟩) (Cert.KMemRefIdeal.Value.run m ρ)

end Cert.KMemIdeal.Value

end
-- ==== Proof.KRope.lean ====
/-
  The gradient of the windows' norm of their keys and of the rotary embedding behind it: what QkRope proves of the queries' columns,
  of the next 768. The kernel's blocks and the reference's lines are the same functions, so their lemmas are QkRope's, of the
  projections with their columns moved.
-/
module

public import proofs.«01_k».proof.Proof.Gen.KRopeIdeal.Frame
public import proofs.«01_k».proof.Proof.Gen.KRopeIdeal.Run
public import proofs.«01_k».proof.Proof.Gen.KRopeIdeal.Read
public import proofs.«01_k».proof.Proof.Gen.KRopeRefIdeal.Read
public import proofs.«01_k».proof.Proof.Gen.KRopeRefIdeal.Run
public import proofs.«01_k».proof.Proof.QkRope
public import proofs.«01_k».proof.Defs
public import Idealize.ShloMosaic.Lib.Pointwise
public import Idealize.ShloMosaic.Lib.ReduceAll
public import Idealize.ShloMosaic.Lib.Pipeline.ValueKit
public import Idealize.ShloMosaic.Lib.Pipeline.ReadBack

@[expose] public section

set_option maxRecDepth 16384

noncomputable section

namespace Cert.KRopeIdeal.Value

open Cert.KRopeIdeal Cert.KRopeIdeal.Gen Idealize.ShloMosaic Idealize.ShloMosaic.TcCoe Idealize.SL.Sem
open Idealize.ShloMosaic.Pipeline (Dat)
open Cert.HeadNorm Cert.KRopeRefIdeal.Read
open Cert.QkRopeIdeal.Value (cosT sinT turn turn_real join_real Q G D C ct dy dyg turned NORMED TURN OUT ptOut ptAcc ref79 ref96 four)
open Cert.LossIdeal.Value (sum_steps)

/-! ## The columns moved -/

section
variable (x0 : (⟨Cert.KRopeRefIdeal.S16384x4096, .bf16⟩ : BufTy).Contents (Elt Ideal))

/-- The projections with the keys' columns where the queries' were. -/
def moved : (⟨Cert.QkRopeRefIdeal.S16384x4096, .bf16⟩ : BufTy).Contents (Elt Ideal) := fun y => x0 (ix2 (y 0) ⟨((y 1).val + 768) % 4096, Nat.mod_lt _ (by norm_num)⟩)

theorem ref0 : val_main_v0 (F := Ideal) x0 = Cert.QkRopeRefIdeal.Read.val_main_v0 (F := Ideal) (moved x0) := by
  funext y
  obtain ⟨i, j, rfl⟩ : ∃ i j, y = ix2 i j := ⟨y 0, y 1, eq_ix2 y⟩
  pointwise [val_main_v0, Cert.QkRopeRefIdeal.Read.val_main_v0]
  exact congrArg (fun z => x0 (ix2 i z)) (Fin.ext (by show 2304 + j.val = (1536 + j.val + 768) % 4096; omega))

theorem ref3 : val_main_v3 (F := Ideal) x0 = Cert.QkRopeRefIdeal.Read.val_main_v3 (F := Ideal) (moved x0) := by
  unfold val_main_v3 val_main_v2 val_main_v1
  rw [ref0]
  rfl

variable (x1 : (⟨Cert.KRopeRefIdeal.S1x64, .f32⟩ : BufTy).Contents (Elt Ideal)) (x2 x3 x4 : (⟨Cert.KRopeRefIdeal.S16384x256, .f32⟩ : BufTy).Contents (Elt Ideal))

/-- The reference's rows of reciprocal roots. -/
theorem ref11 : val_main_v11 (F := Ideal) x0 = Cert.QkRopeRefIdeal.Read.val_main_v11 (F := Ideal) (moved x0) := by
  unfold val_main_v11 val_main_v10 val_main_v8 val_main_v6 val_main_v5 val_main_v4
  rw [ref3]
  rfl

/-- The gain's gradient. -/
theorem ref79' : val_main_v79 (F := Ideal) x0 x2 x3 x4 = Cert.QkRopeRefIdeal.Read.val_main_v79 (F := Ideal) (moved x0) x2 x3 x4 := by
  unfold val_main_v79 val_main_v78 val_main_v75 val_main_v74 val_main_v73 val_main_v16 val_main_v15
  rw [ref3, ref11]
  rfl

/-- The rows' gradient. -/
theorem ref96' : val_main_v96 (F := Ideal) x0 x1 x2 x3 x4 = Cert.QkRopeRefIdeal.Read.val_main_v96 (F := Ideal) (moved x0) x1 x2 x3 x4 := by
  have e14 : val_main_v14 (F := Ideal) x0 = Cert.QkRopeRefIdeal.Read.val_main_v14 (F := Ideal) (moved x0) := by
    unfold val_main_v14 val_main_v12 val_main_v10 val_main_v8 val_main_v6 val_main_v5 val_main_v4
    rw [ref11, ref3]
    rfl
  have e89 : val_main_v89 (F := Ideal) x0 x1 x2 x3 x4 = Cert.QkRopeRefIdeal.Read.val_main_v89 (F := Ideal) (moved x0) x1 x2 x3 x4 := by
    unfold val_main_v89 val_main_v88 val_main_v87 val_main_v85 val_main_v82 val_main_v81 val_main_v80
    rw [ref3, e14]
    rfl
  unfold val_main_v96 val_main_v95 val_main_v94 val_main_v93 val_main_v92 val_main_v91 val_main_v90 val_main_v84 val_main_v83
  rw [ref3, ref11, e89]
  rfl
end

/-! ## What the arrays hold -/

variable (m : (ℓ : Loc nD τ sig) → Buf (Elt Ideal) ℓ)

theorem idx : ∀ t : Fin cfg0.N, win0_0.index t = ![t.val, 3] ∧ win0_1.index t = ![0, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![0, 0] :=
  (by decide +kernel : ∀ t : Fin grid0.N, _)

theorem cfgN : cfg0.N = 16 := by decide +kernel

/-- Row `i` of the blocks of grid point `t`. -/
def row (t : Fin cfg0.N) (i : Fin 1024) : Fin 16384 := ⟨t.val * 1024 + i.val, by have := t.isLt; have := cfgN; omega⟩

/-- The host repeats the gain for the twelve heads. -/
theorem V_gain (c : Dev nD) (k : Fin 768) : V m c main_v22 (ix2 0 k) = G (m ((c.tc : Thread nD τ).loc main_arg1)) k := by
  have h : V m c main_v22 = shapeCast _ (broadcastInDim S1x1x12x64 ![0, 1, 2, 3] bcast_S1x1x1x64_S1x1x12x64_0_1_2_3 (shapeCast S1x1x1x64 (m ((c.tc : Thread nD τ).loc main_arg1)) shapeCasts_S1x64_S1x1x1x64)) shapeCasts_S1x1x12x64_S1x768 := by
    simp only [V, V0, hostOps0, List.flatten_cons, List.flatten_nil, List.append_nil, List.cons_append, List.nil_append]
    after_results <;> rfl
  rw [h]
  pointwise
  rfl

/-- The host's table of cosines: a head's 32 of them, four times side by side. -/
theorem V_cos (c : Dev nD) (r : Fin 16384) (l : Fin 128) : V m c main_v16 (ix2 r l) = cosT r ⟨l.val % 32, by omega⟩ := by
  have h : V m c main_v16 = concatenate S16384x128 1 [⟨S16384x32, Cert.QkRopeRefIdeal.Read.val_main_v33 (F := Ideal)⟩, ⟨S16384x32, Cert.QkRopeRefIdeal.Read.val_main_v33 (F := Ideal)⟩, ⟨S16384x32, Cert.QkRopeRefIdeal.Read.val_main_v33 (F := Ideal)⟩, ⟨S16384x32, Cert.QkRopeRefIdeal.Read.val_main_v33 (F := Ideal)⟩] concatenates_S16384x32_S16384x32_S16384x32_S16384x32_S16384x128_d1 := by
    simp only [V, V0, hostOps0, List.flatten_cons, List.flatten_nil, List.append_nil, List.cons_append, List.nil_append]
    after_results_simp <;> (try dsimp only [Matrix.cons_val]) <;> (try after_results_simp) <;> rfl
  rw [h]
  pointwise
  split_ifs <;> exact congrArg (cosT r) (Fin.ext (by dsimp only; omega))

/-- The host's table of sines: negated where a column's partner lies further on. -/
theorem V_sin (c : Dev nD) (r : Fin 16384) (l : Fin 128) : V m c main_v19 (ix2 r l) = if l.val % 64 < 32 then -sinT r ⟨l.val % 32, by omega⟩ else sinT r ⟨l.val % 32, by omega⟩ := by
  have h : V m c main_v19 = (concatenate S16384x128 1 [⟨S16384x32, Host.negf (F := Ideal) (φ := .f32) (Cert.QkRopeRefIdeal.Read.val_main_v34 (F := Ideal))⟩, ⟨S16384x32, Cert.QkRopeRefIdeal.Read.val_main_v34 (F := Ideal)⟩, ⟨S16384x32, Host.negf (F := Ideal) (φ := .f32) (Cert.QkRopeRefIdeal.Read.val_main_v34 (F := Ideal))⟩, ⟨S16384x32, Cert.QkRopeRefIdeal.Read.val_main_v34 (F := Ideal)⟩] concatenates_S16384x32_S16384x32_S16384x32_S16384x32_S16384x128_d1 : Vec Ideal S16384x128 .f32) := by
    simp only [V, V0, hostOps0, List.flatten_cons, List.flatten_nil, List.append_nil, List.cons_append, List.nil_append]
    after_results_simp <;> (try dsimp only [Matrix.cons_val]) <;> (try after_results_simp) <;> rfl
  rw [h]
  exact four _ _ r l

theorem rd0 (c : Dev nD) (t : Fin cfg0.N) (i : Fin 1024) (l : Fin 768) : X0_0 m c t (ix2 i l) = Q (moved (m ((c.tc : Thread nD τ).loc main_arg0))) (row t i) l := by
  unfold X0_0 Pipeline.Window.fill
  rw [dif_pos (moved0_0 t _)]
  blk_ext [iblk, V_main_arg0, idx t, row]
theorem rd1 (c : Dev nD) (t : Fin cfg0.N) (l : Fin 768) : iblk m c 1 t (ix2 0 l) = G (m ((c.tc : Thread nD τ).loc main_arg1)) l := by
  refine Eq.trans ?_ (V_gain m c l)
  blk_ext [iblk, idx t, row]
theorem rd2 (c : Dev nD) (t : Fin cfg0.N) (i : Fin 1024) (l : Fin 128) : iblk m c 2 t (ix2 i l) = cosT (row t i) ⟨l.val % 32, by omega⟩ := by
  refine Eq.trans ?_ (V_cos m c (row t i) l)
  blk_ext [iblk, idx t, row]
theorem rd3 (c : Dev nD) (t : Fin cfg0.N) (i : Fin 1024) (l : Fin 128) : iblk m c 3 t (ix2 i l) = if l.val % 64 < 32 then -sinT (row t i) ⟨l.val % 32, by omega⟩ else sinT (row t i) ⟨l.val % 32, by omega⟩ := by
  refine Eq.trans ?_ (V_sin m c (row t i) l)
  blk_ext [iblk, idx t, row]
theorem rd4 (c : Dev nD) (t : Fin cfg0.N) (i : Fin 1024) (l : Fin 256) : iblk m c 4 t (ix2 i l) = m ((c.tc : Thread nD τ).loc main_arg2) (ix2 (row t i) l) := by
  blk_ext [iblk, V_main_arg2, idx t, row]
theorem rd5 (c : Dev nD) (t : Fin cfg0.N) (i : Fin 1024) (l : Fin 256) : iblk m c 5 t (ix2 i l) = m ((c.tc : Thread nD τ).loc main_arg3) (ix2 (row t i) l) := by
  blk_ext [iblk, V_main_arg3, idx t, row]
theorem rd6 (c : Dev nD) (t : Fin cfg0.N) (i : Fin 1024) (l : Fin 256) : iblk m c 6 t (ix2 i l) = m ((c.tc : Thread nD τ).loc main_arg4) (ix2 (row t i) l) := by
  blk_ext [iblk, V_main_arg4, idx t, row]
theorem emb7 (t : Fin cfg0.N) (y : S1024x768.Idx) : (win0_7.blk t).view.emb y = ix2 (row t (y 0)) (y 1) := by blk_ext [idx t, row]
theorem emb8 (t : Fin cfg0.N) (y : S1x768.Idx) : (win0_8.blk t).view.emb y = ix2 0 (y 1) := by blk_ext [idx t]

/-- The device's queries, gain and cotangent, before and after the rotation. -/
abbrev QA (c : Dev nD) := Q (moved (m ((c.tc : Thread nD τ).loc main_arg0)))
abbrev GA (c : Dev nD) := G (m ((c.tc : Thread nD τ).loc main_arg1))
abbrev DA (c : Dev nD) := D (m ((c.tc : Thread nD τ).loc main_arg2)) (m ((c.tc : Thread nD τ).loc main_arg3)) (m ((c.tc : Thread nD τ).loc main_arg4))
abbrev CA (c : Dev nD) := C (m ((c.tc : Thread nD τ).loc main_arg2)) (m ((c.tc : Thread nD τ).loc main_arg3)) (m ((c.tc : Thread nD τ).loc main_arg4))

/-- What is finite of the arguments: the queries, the gain and the cotangent. -/
structure Fed (c : Dev nD) : Prop where
  q : ∀ r k, QA m c r k = ((QA m c r k).toReal : EReal)
  g : ∀ k, GA m c k = ((GA m c k).toReal : EReal)
  d : ∀ r k, DA m c r k = ((DA m c r k).toReal : EReal)

/-- The rotated cotangent is finite. -/
theorem Fed.c {c : Dev nD} (h : Fed m c) (r : Fin 16384) (k : Fin 768) : CA m c r k = ((CA m c r k).toReal : EReal) :=
  turn_real r _ (h.d r) k

/-- The body's rotated cotangent is the reference's. -/
theorem dy_eq (c : Dev nD) (t : Fin cfg0.N) (i : Fin 1024) (j : Fin 768) :
    dy (iblk m c 4 t) (iblk m c 5 t) (iblk m c 6 t) (iblk m c 2 t) (iblk m c 3 t) i j = CA m c (row t i) j := by
  have e : ct (iblk m c 4 t) (iblk m c 5 t) (iblk m c 6 t) i = DA m c (row t i) := funext fun k => by
    simp only [ct, rd4, rd5, rd6]; rfl
  rw [dy, e]
  unfold turned CA C turn
  simp only [rd2, rd3]
  refine congrArg₂ (· + ·) (congrArg (fun z => _ * cosT _ z) (Fin.ext (by dsimp only; omega))) ?_
  by_cases hj : j.val % 64 < 32
  · rw [dif_pos hj, dif_pos hj, if_neg (by omega)]
    exact congrArg (fun z => _ * sinT _ z) (Fin.ext (by dsimp only; omega))
  · rw [dif_neg hj, dif_neg hj, if_pos (by omega)]
    exact congrArg (fun z => _ * -sinT _ z) (Fin.ext (by dsimp only; omega))

/-- One row's term of the gain's gradient. -/
def term (c : Dev nD) (r : Fin 16384) (j : Fin 768) : EReal := CA m c r j * (QA m c r j * rs (n := 768) (by norm_num) (QA m c r) j)
/-- What block `q` adds to it. -/
def part (c : Dev nD) (q : ℕ) (j : Fin 768) : EReal := ∑ i : Fin 1024, if h : q * 1024 + i.val < 16384 then term m c ⟨q * 1024 + i.val, h⟩ j else 0

/-- The reference's results of the device's arguments. -/
abbrev DX (c : Dev nD) := val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
abbrev DG (c : Dev nD) := val_main_v79 (F := Ideal) (m ((c.tc : Thread nD τ).loc main_arg0)) (m ((c.tc : Thread nD τ).loc main_arg2)) (m ((c.tc : Thread nD τ).loc main_arg3)) (m ((c.tc : Thread nD τ).loc main_arg4))

variable {m}

theorem dx_eq {c : Dev nD} (h : Fed m c) (t : Fin cfg0.N) (y : S1024x768.Idx) :
    OUT (X0_0 m c t) (iblk m c 1 t) (iblk m c 4 t) (iblk m c 5 t) (iblk m c 6 t) (iblk m c 2 t) (iblk m c 3 t) y = DX m c (ix2 (row t (y 0)) (y 1)) := by
  obtain ⟨i, j, rfl⟩ : ∃ i j, y = ix2 i j := ⟨y 0, y 1, eq_ix2 y⟩
  have e : dyg (iblk m c 1 t) (iblk m c 4 t) (iblk m c 5 t) (iblk m c 6 t) (iblk m c 2 t) (iblk m c 3 t) i = fun k => CA m c (row t i) k * GA m c k := funext fun k => by
    rw [dyg, dy_eq, rd1]
  refine Eq.trans (ptOut _ _ _ _ _ _ _ i (fun k => ?_) (fun k => ?_) j) (Eq.trans ?_ ((congrFun (ref96' _ _ _ _ _) _).trans (ref96 _ _ _ _ _ (row t i) j)).symm)
  · rw [rd0]; exact h.q _ _
  · rw [e]; exact mul_real (h.c m (row t i) k) (h.g k)
  · rw [e]; simp only [rd0]

theorem final7 {c : Dev nD} (h : Fed m c) : (dats m 0 c).arrAt 7 cfg0.N = DX m c := by
  refine (dats m 0 c).arrAt_eq_of_covers 7 _ (by decide +kernel) fun t _ y => ?_
  blk_simp
  refine Eq.trans ?_ ((dx_eq h t y).trans (congrArg _ (emb7 t y).symm))
  rw [after0_7]
  by_cases ht : t.val % 16 = 0
  · rw [outsAt0_A m c t ht]; frame_out; rfl
  · rw [outsAt0_B m c t ht]; frame_out; rfl

theorem ptAcc' {c : Dev nD} (h : Fed m c) (t : Fin cfg0.N) (a : Vec Ideal S1x768 .f32) (j : Fin 768) :
    k0_pay3 (NORMED (X0_0 m c t)) (TURN (iblk m c 4 t) (iblk m c 5 t) (iblk m c 6 t) (iblk m c 2 t) (iblk m c 3 t)) a (ix2 0 j)
      = HAdd.hAdd (α := EReal) (β := EReal) (γ := EReal) (a (ix2 0 j)) (part m c t.val j) := by
  refine (ptAcc _ _ _ _ _ _ _ (fun i k => by rw [rd0]; exact h.q _ _) j).trans ?_
  refine congrArg _ (Finset.sum_congr rfl fun i _ => ?_)
  refine Eq.trans ?_ (dif_pos (row t i).isLt).symm
  rw [dy_eq]
  simp only [rd0]
  rfl

theorem stepA {c : Dev nD} (h : Fed m c) (t : Fin cfg0.N) (ht : t.val % 16 = 0) (j : Fin 768) : (outsAt0 m c t.val t.isLt).2 (ix2 0 j) = part m c t.val j := by
  rw [outsAt0_A m c t ht]; frame_open
  simp (disch := decide) only [↓ View.readCov_skip, View.readCov_fill]
  frame_out
  refine (ptAcc' h t _ j).trans ?_
  pointwise [k0_pay2]
theorem stepB {c : Dev nD} (h : Fed m c) (t : Fin cfg0.N) (ht : ¬t.val % 16 = 0) (j : Fin 768) : (outsAt0 m c t.val t.isLt).2 (ix2 0 j)
    = HAdd.hAdd (α := EReal) (β := EReal) (γ := EReal) ((outsAt0 m c (t.val - 1) (by omega)).2 (ix2 0 j)) (part m c t.val j) := by
  rw [outsAt0_B m c t ht]; frame_open
  simp (disch := decide) only [↓ View.readCov_skip, View.readCov_fill]
  frame_out
  exact ptAcc' h t _ j

theorem flush8 : ∀ t : Fin cfg0.N, (cfg0.win 8).flush t = true → t.val = 15 := (by decide +kernel : ∀ t : Fin grid0.N, _)

variable (m) in
/-- The gain's gradient before the host adds the heads. -/
def wide (c : Dev nD) : Vec Ideal S1x768 .f32 := fun y => ∑ r, term m c r (y 1)

theorem final8 {c : Dev nD} (h : Fed m c) : (dats m 0 c).arrAt 8 cfg0.N = wide m c := by
  refine (dats m 0 c).arrAt_eq_of_covers 8 _ (by decide +kernel) fun t hf z => ?_
  have ht := flush8 t hf
  obtain ⟨i, j, rfl⟩ : ∃ i j, z = ix2 i j := ⟨z 0, z 1, eq_ix2 z⟩
  obtain rfl : i = 0 := Subsingleton.elim _ _
  blk_simp
  refine Eq.trans ?_ (congrArg _ (emb8 t (ix2 0 j))).symm
  rw [after0_8]
  have e := sum_steps (fun n hn => (outsAt0 m c n hn).2 (ix2 0 j)) (fun q => part m c q j) (fun hn => stepA h ⟨0, hn⟩ (by simp only) j)
    (fun n hn => stepB h ⟨n + 1, hn⟩ (by have h' := hn; rw [cfgN] at h'; show ¬(n + 1) % 16 = 0; omega) j) t.val t.isLt
  refine e.trans ?_
  rw [ht, Finset.sum_range]
  show _ = ∑ r, term m c r j
  rw [Fin.sum_univ_tiles 16 1024 rfl]
  exact Finset.sum_congr rfl fun s _ => Finset.sum_congr rfl fun i _ => dif_pos (by omega)

/-- The host's sum over the heads is the reference's. -/
theorem dg_eq (c : Dev nD) : broadcastInDim S1x64 ![1] bcast_S64_S1x64_1 (Host.reduceAdd (F := Ideal) (φ := .f32) (shapeCast _ (wide m c) shapeCasts_S1x768_S12x64) (constant S_ .f32 0x00000000#32) reducesTo_S12x64_S64_d0 h_S_) = DG m c := by
  funext y
  obtain ⟨i, d, rfl⟩ : ∃ i d, y = ix2 i d := ⟨y 0, y 1, eq_ix2 y⟩
  obtain rfl : i = 0 := Subsingleton.elim _ _
  rw [DG, ref79', ref79]
  pointwise [wide]
  rfl

/-! ## The equation -/

/-- The precondition's own side conditions. -/
theorem pre_facts : Cert.Pre_krope_finite.Facts := by constructor <;> decide

section Lift
attribute [local instance] pre_facts

/-- The precondition makes the arguments real numbers. -/
theorem fed_of_pre (c : Dev nD) (h : Cert.Pre_krope_finite.fn (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) = fun _ => 1#1) : Fed m c := by
  have h0 := congrFun h (Shape.Idx.first Cert.Pre_krope_finite.Facts.h_S_)
  unfold Cert.Pre_krope_finite.fn at h0
  dsimp only at h0
  obtain ⟨h4, he⟩ := IntOp.andi_eq_one.1 h0
  obtain ⟨h3, hd⟩ := IntOp.andi_eq_one.1 h4
  obtain ⟨h2, hc⟩ := IntOp.andi_eq_one.1 h3
  obtain ⟨ha, hb⟩ := IntOp.andi_eq_one.1 h2
  have : Subsingleton Cert.Pre_krope_finite.S_.Idx := ⟨fun a b => funext fun k => k.elim0⟩
  have e : ∀ i x, QA m c i x = m ((c.tc : Thread nD τ).loc main_arg0) (ix2 i ⟨2304 + x.val, by omega⟩) := fun i x =>
    congrArg (fun z => m ((c.tc : Thread nD τ).loc main_arg0) (ix2 i z)) (Fin.ext (by show (1536 + x.val + 768) % 4096 = 2304 + x.val; omega))
  refine ⟨fun i x => Finite.of_lt _ ?_, fun x => Finite.of_lt _ ?_, fun i x => ?_⟩
  · have := Host.reduce_andi_all _ _ _ _ _ ha (ix2 i x)
    rw [e]; pointwise at this; exact this
  · have := Host.reduce_andi_all _ _ _ _ _ hb (ix2 0 ⟨x.val % 64, by omega⟩)
    pointwise at this; exact this
  · refine join_real (fun k => Finite.of_lt _ ?_) (fun k => Finite.of_lt _ ?_) (fun k => Finite.of_lt _ ?_) x
    · have := Host.reduce_andi_all _ _ _ _ _ hc (ix2 i k)
      pointwise at this; exact this
    · have := Host.reduce_andi_all _ _ _ _ _ hd (ix2 i k)
      pointwise at this; exact this
    · have := Host.reduce_andi_all _ _ _ _ _ he (ix2 i k)
      pointwise at this; exact this

/-- The queries' gradient and the gain's are the same functions over the extended reals. -/
theorem algebraic : Cert.algebraic_KRopeIdeal_KRopeRefIdeal_pre_krope_finite := fun m ρ m' ρ' hpre hag =>
  ⟨fun c => DX m c, fun c => DG m c,
   (θ_run Cert.KRopeIdeal.defs _ _).mono (fun r h c => by
     obtain ⟨h0, h1, ha⟩ := h c
     have fed := fed_of_pre c (hpre c)
     rw [show reg_main_v23_1 m c = wide m c from final8 fed] at h1
     exact ⟨h0.trans (final7 fed), h1.trans (dg_eq c), ha⟩) (run m ρ),
   (θ_run Cert.KRopeRefIdeal.defs _ _).mono (fun r h c => by
     obtain ⟨e0, e1, e2, e3, e4⟩ := hag c
     obtain ⟨h0, h1, ha⟩ := h c
     rw [val_main_v96_eq, e0, e1, e2, e3, e4] at h0
     rw [val_main_v79_eq, e0, e2, e3, e4] at h1
     exact ⟨h0, h1, ha⟩) (Cert.KRopeRefIdeal.Value.run m' ρ')⟩
end Lift

theorem frame_ref : Cert.quiescent_KRopeRefIdeal := fun m ρ _ =>
  (θ_run Cert.KRopeRefIdeal.defs _ _).mono (fun r h => ⟨fun c => (h c).2.2, sem_eq_zero_of_no_sems (by decide) r.2⟩) (Cert.KRopeRefIdeal.Value.run m ρ)

end Cert.KRopeIdeal.Value

end
-- ==== Proof.MergeFwd.lean ====
/-
  The gated merge itself, `m = Σ_b y_b · sigmoid(logits_b + bias_b)`: 16 blocks of 1024 rows, of each the three branches
  gated and added. The reference gates them in one array of three.
-/
module

public import proofs.«01_k».proof.Proof.Gen.MergeFwdIdeal.Value
public import proofs.«01_k».proof.Proof.Gen.MergeFwdRefIdeal.Read
public import proofs.«01_k».proof.Proof.Gen.MergeFwdRefIdeal.Run
public import proofs.«01_k».proof.Proof.Merge
public import proofs.«01_k».proof.Defs
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MergeFwdIdeal.Value

open Cert.MergeFwdIdeal Cert.MergeFwdIdeal.Gen Idealize.ShloMosaic Idealize.ShloMosaic.TcCoe Idealize.SL.Sem
open Idealize.ShloMosaic.Pipeline (Dat)
open Cert.MergeFwdRefIdeal.Read

variable (m : (ℓ : Loc nD τ sig) → Buf (Elt Ideal) ℓ)

open Cert.MergeIdeal.Value (sg)

theorem idx : ∀ t : Fin cfg0.N, win0_0.index t = ![t.val, 0] ∧ win0_1.index t = ![t.val, 1] ∧ win0_2.index t = ![t.val, 2]
    ∧ win0_3.index t = ![0, 0] ∧ win0_4.index t = ![0, 1] ∧ win0_5.index t = ![0, 2]
    ∧ win0_6.index t = ![t.val, 0] ∧ win0_7.index t = ![t.val, 0] ∧ win0_8.index t = ![t.val, 0] ∧ win0_9.index t = ![t.val, 0] :=
  (by decide +kernel : ∀ t : Fin grid0.N, _)

theorem cfgN : cfg0.N = 16 := by decide +kernel

/-- Row `i` of the block of grid point `t`. -/
def row (t : Fin cfg0.N) (i : Fin 1024) : Fin 16384 := ⟨t.val * 1024 + i.val, by have := t.isLt; have := cfgN; omega⟩

/-- A branch gated. -/
def gated (L B y : EReal) : EReal := sg (L + B) * y

section
variable (x0 : (⟨Cert.MergeFwdRefIdeal.S16384x3072, .bf16⟩ : BufTy).Contents (Elt Ideal)) (x1 : (⟨Cert.MergeFwdRefIdeal.S1x3072, .f32⟩ : BufTy).Contents (Elt Ideal))
  (x2 x3 x4 : (⟨Cert.MergeFwdRefIdeal.S16384x1024, .bf16⟩ : BufTy).Contents (Elt Ideal))

theorem ref24 (r : Fin 16384) (j : Fin 1024) : val_main_v24 (F := Ideal) x0 x1 x2 x3 x4 (ix2 r j)
    = gated (x0 (ix2 r ⟨j.val, by omega⟩)) (x1 (ix2 0 ⟨j.val, by omega⟩)) (x2 (ix2 r j)) + gated (x0 (ix2 r ⟨1024 + j.val, by omega⟩)) (x1 (ix2 0 ⟨1024 + j.val, by omega⟩)) (x3 (ix2 r j))
      + gated (x0 (ix2 r ⟨2048 + j.val, by omega⟩)) (x1 (ix2 0 ⟨2048 + j.val, by omega⟩)) (x4 (ix2 r j)) := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, gated, sg]
  simp only [zero_sub]
end

theorem pt (a0 a1 a2 y0 y1 y2 : Vec Ideal S1024x1024 .bf16) (b0 b1 b2 : Vec Ideal S1x1024 .f32) (i j : Fin 1024) :
    k0_pay1 (k0_pay2 a0 b0 y0 a1 b1 y1) (k0_pay3 a2) b2 y2 (ix2 i j)
      = gated (a0 (ix2 i j)) (b0 (ix2 0 j)) (y0 (ix2 i j)) + gated (a1 (ix2 i j)) (b1 (ix2 0 j)) (y1 (ix2 i j)) + gated (a2 (ix2 i j)) (b2 (ix2 0 j)) (y2 (ix2 i j)) := by
  pointwise [k0_pay1, k0_pay2, k0_pay3, gated, sg]

theorem rd0 (c : Dev nD) (t : Fin cfg0.N) (i : Fin 1024) (j : Fin 1024) : iblk m c 0 t (ix2 i j) = m ((c.tc : Thread nD τ).loc main_arg0) (ix2 (row t i) ⟨j.val, by omega⟩) := by
  blk_ext [iblk, V, idx t, row]
theorem rd3 (c : Dev nD) (t : Fin cfg0.N) (j : Fin 1024) : iblk m c 3 t (ix2 0 j) = m ((c.tc : Thread nD τ).loc main_arg1) (ix2 0 ⟨j.val, by omega⟩) := by
  blk_ext [iblk, V, idx t]
theorem rd6 (c : Dev nD) (t : Fin cfg0.N) (i : Fin 1024) (j : Fin 1024) : iblk m c 6 t (ix2 i j) = m ((c.tc : Thread nD τ).loc main_arg2) (ix2 (row t i) j) := by
  blk_ext [iblk, V, idx t, row]
theorem rd1 (c : Dev nD) (t : Fin cfg0.N) (i : Fin 1024) (j : Fin 1024) : iblk m c 1 t (ix2 i j) = m ((c.tc : Thread nD τ).loc main_arg0) (ix2 (row t i) ⟨1024 + j.val, by omega⟩) := by
  blk_ext [iblk, V, idx t, row]
theorem rd4 (c : Dev nD) (t : Fin cfg0.N) (j : Fin 1024) : iblk m c 4 t (ix2 0 j) = m ((c.tc : Thread nD τ).loc main_arg1) (ix2 0 ⟨1024 + j.val, by omega⟩) := by
  blk_ext [iblk, V, idx t]
theorem rd7 (c : Dev nD) (t : Fin cfg0.N) (i : Fin 1024) (j : Fin 1024) : iblk m c 7 t (ix2 i j) = m ((c.tc : Thread nD τ).loc main_arg3) (ix2 (row t i) j) := by
  blk_ext [iblk, V, idx t, row]
theorem rd2 (c : Dev nD) (t : Fin cfg0.N) (i : Fin 1024) (j : Fin 1024) : iblk m c 2 t (ix2 i j) = m ((c.tc : Thread nD τ).loc main_arg0) (ix2 (row t i) ⟨2048 + j.val, by omega⟩) := by
  blk_ext [iblk, V, idx t, row]
theorem rd5 (c : Dev nD) (t : Fin cfg0.N) (j : Fin 1024) : iblk m c 5 t (ix2 0 j) = m ((c.tc : Thread nD τ).loc main_arg1) (ix2 0 ⟨2048 + j.val, by omega⟩) := by
  blk_ext [iblk, V, idx t]
theorem rd8 (c : Dev nD) (t : Fin cfg0.N) (i : Fin 1024) (j : Fin 1024) : iblk m c 8 t (ix2 i j) = m ((c.tc : Thread nD τ).loc main_arg4) (ix2 (row t i) j) := by
  blk_ext [iblk, V, idx t, row]
theorem emb9 (t : Fin cfg0.N) (y : S1024x1024.Idx) : (win0_9.blk t).view.emb y = ix2 (row t (y 0)) (y 1) := by
  blk_ext [idx t, row]

theorem final9 (c : Dev nD) : (dats m 0 c).arrAt 9 cfg0.N = val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 9 _ (by decide +kernel) fun t _ y => ?_
  blk_simp
  refine Eq.trans ?_ (congrArg _ (emb9 t y).symm)
  obtain ⟨i, j, rfl⟩ : ∃ i j, y = ix2 i j := ⟨y 0, y 1, eq_ix2 y⟩
  refine Eq.trans ?_ (ref24 _ _ _ _ _ (row t i) j).symm
  rw [after0_9]
  unfold out0_9
  frame_out
  rw [pt, rd0, rd1, rd2, rd3, rd4, rd5, rd6, rd7, rd8]

/-- The merges are the same function over the extended reals. -/
theorem algebraic : Cert.algebraic_MergeFwdIdeal_MergeFwdRefIdeal := fun m ρ m' ρ' _ hag =>
  ⟨fun c => val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
   (θ_run Cert.MergeFwdIdeal.defs _ _).mono (fun r h c => by
     obtain ⟨h0, ha⟩ := h c
     exact ⟨h0.trans (final9 m c), ha⟩) (run_blocks m ρ),
   (θ_run Cert.MergeFwdRefIdeal.defs _ _).mono (fun r h c => by
     obtain ⟨e0, e1, e2, e3, e4⟩ := hag c
     obtain ⟨h0, ha⟩ := h c
     rw [val_main_v24_eq, e0, e1, e2, e3, e4] at h0
     exact ⟨h0, ha⟩) (Cert.MergeFwdRefIdeal.Value.run m' ρ')⟩

theorem frame_ref : Cert.quiescent_MergeFwdRefIdeal := fun m ρ _ =>
  (θ_run Cert.MergeFwdRefIdeal.defs _ _).mono (fun r h => ⟨fun c => (h c).2, sem_eq_zero_of_no_sems (by decide) r.2⟩) (Cert.MergeFwdRefIdeal.Value.run m ρ)

end Cert.MergeFwdIdeal.Value

end
-- ==== Proof.RmsFwd.lean ====
/-
  The memory's RMS norm, `mem / √(mean(mem²) + ε) * g`: one grid point takes all 256 rows, and the kernel spells the norm as the
  reference does.
-/
module

public import proofs.«01_k».proof.Proof.Gen.RmsFwdIdeal.Value
public import proofs.«01_k».proof.Proof.Gen.RmsFwdRefIdeal.Read
public import proofs.«01_k».proof.Proof.Gen.RmsFwdRefIdeal.Run
public import proofs.«01_k».proof.Proof.Rms
public import proofs.«01_k».proof.Defs
public import Idealize.ShloMosaic.Lib.Pointwise
public import Idealize.ShloMosaic.Lib.Pipeline.ValueKit
public import Idealize.ShloMosaic.Lib.Pipeline.ReadBack

@[expose] public section

set_option maxRecDepth 16384

noncomputable section

namespace Cert.RmsFwdIdeal.Value

open Cert.RmsFwdIdeal Cert.RmsFwdIdeal.Gen Idealize.ShloMosaic Idealize.ShloMosaic.TcCoe Idealize.SL.Sem
open Idealize.ShloMosaic.Pipeline (Dat)
open Cert.RmsFwdRefIdeal.Read

variable (m : (ℓ : Loc nD τ sig) → Buf (Elt Ideal) ℓ)

/-- The kernel's block is the reference's array. -/
theorem block (x0 : (⟨Cert.RmsFwdRefIdeal.S256x1024, .f32⟩ : BufTy).Contents (Elt Ideal)) (x1 : (⟨Cert.RmsFwdRefIdeal.S1x1024, .f32⟩ : BufTy).Contents (Elt Ideal)) (i : Fin 256) (j : Fin 1024) :
    k0_pay1 x0 x1 (ix2 i j) = val_main_v12 (F := Ideal) x0 x1 (ix2 i j) := by
  pointwise [k0_pay1, val_main_v12, val_main_v11, val_main_v10, val_main_v9, val_main_v8, val_main_v7, val_main_v6, val_main_v5, val_main_cst_1, val_main_v4, val_main_v3, val_main_cst_0,
    val_main_v2, val_main_v1, val_main_cst, val_main_v0]

theorem final (c : Dev nD) : G2 (m ((c.tc : Thread nD τ).loc main_arg0)) (m ((c.tc : Thread nD τ).loc main_arg1))
    = val_main_v12 (F := Ideal) (m ((c.tc : Thread nD τ).loc main_arg0)) (m ((c.tc : Thread nD τ).loc main_arg1)) := by
  rw [← final2]
  refine (dats m 0 c).arrAt_eq_of_covers 2 _ (by decide +kernel) fun t _ y => ?_
  blk_simp
  refine Eq.trans ?_ (congrArg _ (emb2 t y).symm)
  obtain ⟨i, j, rfl⟩ : ∃ i j, y = ix2 i j := ⟨y 0, y 1, eq_ix2 y⟩
  rw [after0_2]
  unfold out0_2
  frame_out
  rw [iblk0_eq, iblk1_eq, V_main_arg0, V_main_arg1]
  exact block _ _ i j

/-- The norms are the same function over the extended reals. -/
theorem algebraic : Cert.algebraic_RmsFwdIdeal_RmsFwdRefIdeal := fun m ρ m' ρ' _ hag =>
  ⟨fun c => val_main_v12 (F := Ideal) (m (c.tc.loc main_arg0)) (m (c.tc.loc main_arg1)),
   (θ_run Cert.RmsFwdIdeal.defs _ _).mono (fun r h c => by
     obtain ⟨h0, ha⟩ := h c
     exact ⟨h0.trans (final m c), ha⟩) (run m ρ),
   (θ_run Cert.RmsFwdRefIdeal.defs _ _).mono (fun r h c => by
     obtain ⟨e0, e1⟩ := hag c
     obtain ⟨h0, ha⟩ := h c
     rw [val_main_v12_eq, e0, e1] at h0
     exact ⟨h0, ha⟩) (Cert.RmsFwdRefIdeal.Value.run m' ρ')⟩

theorem frame_ref : Cert.quiescent_RmsFwdRefIdeal := fun m ρ _ =>
  (θ_run Cert.RmsFwdRefIdeal.defs _ _).mono (fun r h => ⟨fun c => (h c).2, sem_eq_zero_of_no_sems (by decide) r.2⟩) (Cert.RmsFwdRefIdeal.Value.run m ρ)

end Cert.RmsFwdIdeal.Value

end
-- ==== Proof.MemFwd.lean ====
/-
  The memory attention itself: 2 pairs of heads by 8 blocks of 2048 rows. A block stands twice above itself, each copy with its own
  head's columns, so one product serves both heads. The scores and the softmax are those of MemAtt's blocks and of its reference,
  whose lemmas are used here.
-/
module

public import proofs.«01_k».proof.Proof.Gen.MemFwdIdeal.Value
public import proofs.«01_k».proof.Proof.Gen.MemFwdRefIdeal.Read
public import proofs.«01_k».proof.Proof.Gen.MemFwdRefIdeal.Run
public import proofs.«01_k».proof.Proof.MemAtt
public import proofs.«01_k».proof.Defs
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MemFwdIdeal.Value

open Cert.MemFwdIdeal Cert.MemFwdIdeal.Gen Idealize.ShloMosaic Idealize.ShloMosaic.TcCoe Idealize.SL.Sem
open Idealize.ShloMosaic.Pipeline (Dat)
open Cert.MemFwdRefIdeal.Read

variable (m : (ℓ : Loc nD τ sig) → Buf (Elt Ideal) ℓ)

open Cert.MemAttIdeal.Value (c8 hc vc hd Sc er ln ln_lt bS pay10 col_ln hd_hc ln_of ref35)

theorem cfgN : cfg0.N = 16 := by decide +kernel

/-- The grid point among the backward call's, whose blocks are the same. -/
abbrev pnt (t : Fin cfg0.N) : Fin Cert.MemAttIdeal.cfg0.N := ⟨t.val, by have := t.isLt; have := cfgN; have := Cert.MemAttIdeal.Value.cfgN; omega⟩

/-- Row `i` and column `l` of the blocks of grid point `t`; its head `g`. -/
abbrev row (t : Fin cfg0.N) (i : Fin 2048) : Fin 16384 := Cert.MemAttIdeal.Value.row (pnt t) i
abbrev col (t : Fin cfg0.N) (l : Fin 128) : Fin 256 := Cert.MemAttIdeal.Value.col (pnt t) l
abbrev hh (t : Fin cfg0.N) (g : Fin 2) : Fin 4 := Cert.MemAttIdeal.Value.hh (pnt t) g

/-- The reference at an index: the probabilities of the column's head against the values. -/
theorem ref26 (x0 : (⟨Cert.MemFwdRefIdeal.S16384x256, .bf16⟩ : BufTy).Contents (Elt Ideal)) (x1 : (⟨Cert.MemFwdRefIdeal.S256x256, .bf16⟩ : BufTy).Contents (Elt Ideal))
    (x2 : (⟨Cert.MemFwdRefIdeal.S256x512, .bf16⟩ : BufTy).Contents (Elt Ideal)) (r : Fin 16384) (c : Fin 256) :
    val_main_v26 (F := Ideal) x0 x1 x2 (ix2 r c) = ∑ k : Fin 256, HMul.hMul (α := EReal) (β := EReal) (γ := EReal) (Soft.prob (Sc x0 x1 (hd c) r) k) (x2 (ix2 k (vc c))) := by
  pointwise [val_main_v26, val_main_v25, val_main_v24, val_main_v23, val_main_v22, val_main_v21, val_main_v20]
  refine Finset.sum_congr rfl fun k _ => ?_
  refine congrArg₂ (HMul.hMul (α := EReal) (β := EReal) (γ := EReal)) ((show val_main_v19 (F := Ideal) x0 x1 _ = Cert.MemAttRefIdeal.Read.val_main_v35 (F := Ideal) x0 x1 _ from rfl).trans (ref35 x0 x1 (hd c) r k)) ?_
  exact congrArg (fun z => x2 (ix2 k z)) (Fin.ext (by simp only [vc]))

/-- The product with the values, each head's columns from its own copy. -/
def ends (p : FVec Ideal S4096x256 .f32) (w : Vec Ideal S256x128 .bf16) : FVec Ideal S2048x128 .f32 :=
  select Cert.MemAttIdeal.Gen.k0_pay7 (extractStridedSlice S2048x128 ![0, 0] (matmul dot_S4096x256_S256x128_S4096x128_1_0_0_1_n_n (φ₂ := .bf16) none (truncf .bf16 p bitsLt_bf16_f32) w (constant S4096x128 .f32 0x00000000#32)) slices_S4096x128_o0_0_S2048x128)
    (extractStridedSlice S2048x128 ![2048, 0] (matmul dot_S4096x256_S256x128_S4096x128_1_0_0_1_n_n (φ₂ := .bf16) none (truncf .bf16 p bitsLt_bf16_f32) w (constant S4096x128 .f32 0x00000000#32)) slices_S4096x128_o2048_0_S2048x128)

theorem ends_at (p : FVec Ideal S4096x256 .f32) (w : Vec Ideal S256x128 .bf16) (g : Fin 2) (i : Fin 2048) (d : Fin 64) :
    ends p w (ix2 i (ln g d)) = ∑ k : Fin 256, HMul.hMul (α := EReal) (β := EReal) (γ := EReal) (p (ix2 (er g i) k)) (w (ix2 k (ln g d))) := by
  pointwise [ends, Cert.MemAttIdeal.Gen.k0_pay7]
  rw [ln_lt]
  have e0 : er 0 i = ⟨i.val, by omega⟩ := Fin.ext (by simp [er])
  have e1 : er 1 i = ⟨2048 + i.val, by omega⟩ := Fin.ext (by simp [er])
  match g with
  | 0 => rw [if_pos rfl, e0]; rfl
  | 1 => rw [if_neg (by decide), e1]; rfl

/-- What one block computes. -/
theorem pt (x : Vec Ideal S2048x128 .bf16) (y w : Vec Ideal S256x128 .bf16) (g : Fin 2) (i : Fin 2048) (d : Fin 64) :
    k0_pay1 x y w (ix2 i (ln g d)) = ∑ k : Fin 256, HMul.hMul (α := EReal) (β := EReal) (γ := EReal) (Soft.prob (bS x y g i) k) (w (ix2 k (ln g d))) := by
  refine (show k0_pay1 x y w (ix2 i (ln g d)) = ends (Cert.MemAttIdeal.Gen.k0_pay10 x y) w (ix2 i (ln g d)) from rfl).trans ?_
  rw [ends_at]
  simp only [pay10]

theorem idx : ∀ t : Fin cfg0.N, win0_0.index t = ![t.val % 8, t.val / 8] ∧ win0_1.index t = ![0, t.val / 8] ∧ win0_2.index t = ![0, 2 + t.val / 8]
    ∧ win0_3.index t = ![t.val % 8, t.val / 8] :=
  (by decide +kernel : ∀ t : Fin grid0.N, _)

theorem rd0 (c : Dev nD) (t : Fin cfg0.N) (i : Fin 2048) (l : Fin 128) : iblk m c 0 t (ix2 i l) = (m ((c.tc : Thread nD τ).loc main_arg0)) (ix2 (row t i) (col t l)) := by
  blk_ext [iblk, V, idx t, Cert.MemAttIdeal.Value.row, Cert.MemAttIdeal.Value.col]
theorem rd1 (c : Dev nD) (t : Fin cfg0.N) (i : Fin 256) (l : Fin 128) : iblk m c 1 t (ix2 i l) = (m ((c.tc : Thread nD τ).loc main_arg1)) (ix2 i (col t l)) := by
  blk_ext [iblk, V, idx t, Cert.MemAttIdeal.Value.col]
theorem rd2 (c : Dev nD) (t : Fin cfg0.N) (i : Fin 256) (l : Fin 128) : iblk m c 2 t (ix2 i l) = (m ((c.tc : Thread nD τ).loc main_arg2)) (ix2 i (vc (col t l))) := by
  blk_ext [iblk, V, idx t, Cert.MemAttIdeal.Value.col, vc]
theorem emb3 (t : Fin cfg0.N) (y : S2048x128.Idx) : (win0_3.blk t).view.emb y = ix2 (row t (y 0)) (col t (y 1)) := by blk_ext [idx t, row, col, Cert.MemAttIdeal.Value.row, Cert.MemAttIdeal.Value.col]

theorem bS_eq (c : Dev nD) (t : Fin cfg0.N) (g : Fin 2) (i : Fin 2048) :
    bS (iblk m c 0 t) (iblk m c 1 t) g i = Sc (m ((c.tc : Thread nD τ).loc main_arg0)) (m ((c.tc : Thread nD τ).loc main_arg1)) (hh t g) (row t i) :=
  funext fun k => by simp only [bS, Sc, rd0, rd1, col_ln]

theorem final3 (c : Dev nD) : (dats m 0 c).arrAt 3 cfg0.N = val_main_v26 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  refine Eq.trans ?_ (congrArg _ (emb3 t y).symm)
  obtain ⟨i, l, rfl⟩ : ∃ i j, y = ix2 i j := ⟨y 0, y 1, eq_ix2 y⟩
  obtain ⟨g, d, rfl⟩ := ln_of l
  refine Eq.trans ?_ (ref26 _ _ _ (row t i) (col t (ln g d))).symm
  rw [after0_3]
  unfold out0_3
  frame_out
  have e : col t (ln g d) = hc (hh t g) d := col_ln (pnt t) g d
  rw [pt, bS_eq, e, hd_hc]
  simp only [rd2]
  rw [e]

/-- The attentions are the same function over the extended reals. -/
theorem algebraic : Cert.algebraic_MemFwdIdeal_MemFwdRefIdeal := fun m ρ m' ρ' _ hag =>
  ⟨fun c => val_main_v26 (F := Ideal) (m ((c.tc : Thread nD τ).loc main_arg0)) (m ((c.tc : Thread nD τ).loc main_arg1)) (m ((c.tc : Thread nD τ).loc main_arg2)),
   (θ_run Cert.MemFwdIdeal.defs _ _).mono (fun r h c => by
     obtain ⟨h0, ha⟩ := h c
     exact ⟨h0.trans (final3 m c), ha⟩) (run_blocks m ρ),
   (θ_run Cert.MemFwdRefIdeal.defs _ _).mono (fun r h c => by
     obtain ⟨e0, e1, e2⟩ := hag c
     obtain ⟨h0, ha⟩ := h c
     rw [val_main_v26_eq, e0, e1, e2] at h0
     exact ⟨h0, ha⟩) (Cert.MemFwdRefIdeal.Value.run m' ρ')⟩

theorem frame_ref : Cert.quiescent_MemFwdRefIdeal := fun m ρ _ =>
  (θ_run Cert.MemFwdRefIdeal.defs _ _).mono (fun r h => ⟨fun c => (h c).2, sem_eq_zero_of_no_sems (by decide) r.2⟩) (Cert.MemFwdRefIdeal.Value.run m ρ)

end Cert.MemFwdIdeal.Value

end
-- ==== Proof.UpFwd.lean ====
/-
  The second FFN's two products and their gate, `silu(a) * b`: 32 blocks of rows by 2 blocks of columns. Each block takes all 1024
  columns of its rows, so each product is one sum, as in the reference.
-/
module

public import proofs.«01_k».proof.Proof.Gen.UpFwdIdeal.Value
public import proofs.«01_k».proof.Proof.Gen.UpFwdRefIdeal.Read
public import proofs.«01_k».proof.Proof.Gen.UpFwdRefIdeal.Run
public import proofs.«01_k».proof.Proof.Rms
public import proofs.«01_k».proof.Defs
public import Idealize.ShloMosaic.Lib.Pointwise
public import Idealize.ShloMosaic.Lib.Pipeline.ValueKit
public import Idealize.ShloMosaic.Lib.Pipeline.ReadBack

@[expose] public section

set_option maxRecDepth 16384

noncomputable section

namespace Cert.UpFwdIdeal.Value

open Cert.UpFwdIdeal Cert.UpFwdIdeal.Gen Idealize.ShloMosaic Idealize.ShloMosaic.TcCoe Idealize.SL.Sem
open Idealize.ShloMosaic.Pipeline (Dat)
open Cert.UpFwdRefIdeal.Read

variable (m : (ℓ : Loc nD τ sig) → Buf (Elt Ideal) ℓ)

theorem idx : ∀ t : Fin cfg0.N, win0_0.index t = ![t.val / 2, 0] ∧ win0_1.index t = ![0, t.val % 2] ∧ win0_2.index t = ![0, t.val % 2]
    ∧ win0_3.index t = ![t.val / 2, t.val % 2] ∧ win0_4.index t = ![t.val / 2, t.val % 2] ∧ win0_5.index t = ![t.val / 2, t.val % 2] :=
  (by decide +kernel : ∀ t : Fin grid0.N, _)

theorem cfgN : cfg0.N = 64 := by decide +kernel

/-- Row `i` and column `j` of the block of grid point `t`. -/
def row (t : Fin cfg0.N) (i : Fin 512) : Fin 16384 := ⟨t.val / 2 * 512 + i.val, by have := t.isLt; have := cfgN; omega⟩
def col (t : Fin cfg0.N) (j : Fin 1408) : Fin 2816 := ⟨t.val % 2 * 1408 + j.val, by omega⟩

theorem rd0 (c : Dev nD) (t : Fin cfg0.N) (i : Fin 512) (j : Fin 1024) : iblk m c 0 t (ix2 i j) = (m ((c.tc : Thread nD τ).loc main_arg0)) (ix2 (row t i) j) := by
  blk_ext [iblk, V, idx t, row]
theorem rd1 (c : Dev nD) (t : Fin cfg0.N) (i : Fin 1024) (j : Fin 1408) : iblk m c 1 t (ix2 i j) = (m ((c.tc : Thread nD τ).loc main_arg1)) (ix2 i (col t j)) := by
  blk_ext [iblk, V, idx t, col]
theorem rd2 (c : Dev nD) (t : Fin cfg0.N) (i : Fin 1024) (j : Fin 1408) : iblk m c 2 t (ix2 i j) = (m ((c.tc : Thread nD τ).loc main_arg2)) (ix2 i (col t j)) := by
  blk_ext [iblk, V, idx t, col]
theorem emb3 (t : Fin cfg0.N) (y : S512x1408.Idx) : (win0_3.blk t).view.emb y = ix2 (row t (y 0)) (col t (y 1)) := by
  blk_ext [idx t, row, col]
theorem emb4 (t : Fin cfg0.N) (y : S512x1408.Idx) : (win0_4.blk t).view.emb y = ix2 (row t (y 0)) (col t (y 1)) := by
  blk_ext [idx t, row, col]
theorem emb5 (t : Fin cfg0.N) (y : S512x1408.Idx) : (win0_5.blk t).view.emb y = ix2 (row t (y 0)) (col t (y 1)) := by
  blk_ext [idx t, row, col]

/-- A block of the first product. -/
theorem pt3 (c : Dev nD) (t : Fin cfg0.N) (i : Fin 512) (j : Fin 1408) : k0_pay3 (iblk m c 0 t) (iblk m c 1 t) (ix2 i j)
    = val_main_v6 (F := Ideal) (m ((c.tc : Thread nD τ).loc main_arg0)) (m ((c.tc : Thread nD τ).loc main_arg1)) (ix2 (row t i) (col t j)) := by
  pointwise [k0_pay3, k0_pay1, val_main_v6, val_main_v2, val_main_v1, val_main_v0]
  simp only [rd0, rd1]

/-- A block of the second product. -/
theorem pt4 (c : Dev nD) (t : Fin cfg0.N) (i : Fin 512) (j : Fin 1408) : k0_pay4 (iblk m c 0 t) (iblk m c 2 t) (ix2 i j)
    = val_main_v7 (F := Ideal) (m ((c.tc : Thread nD τ).loc main_arg0)) (m ((c.tc : Thread nD τ).loc main_arg2)) (ix2 (row t i) (col t j)) := by
  pointwise [k0_pay4, k0_pay2, val_main_v7, val_main_v5, val_main_v4, val_main_v3]
  simp only [rd0, rd2]

/-- A block of the gate. -/
theorem pt5 (c : Dev nD) (t : Fin cfg0.N) (i : Fin 512) (j : Fin 1408) : k0_pay5 (iblk m c 0 t) (iblk m c 1 t) (iblk m c 2 t) (ix2 i j)
    = val_main_v10 (F := Ideal) (m ((c.tc : Thread nD τ).loc main_arg0)) (m ((c.tc : Thread nD τ).loc main_arg1)) (m ((c.tc : Thread nD τ).loc main_arg2)) (ix2 (row t i) (col t j)) := by
  pointwise [k0_pay5, k0_pay1, k0_pay2, val_main_v10, val_main_v9, val_main_v8, val_main_call0_v5, val_main_call0_v4, val_main_call0_cst_0, val_main_call0_v3, val_main_call0_v2, val_main_call0_cst,
    val_main_call0_v1, val_main_call0_v0, val_main_v5, val_main_v4, val_main_v3, val_main_v2, val_main_v1, val_main_v0]
  simp only [rd0, rd1, rd2, zero_sub]

theorem final3 (c : Dev nD) : (dats m 0 c).arrAt 3 cfg0.N = val_main_v6 (F := Ideal) (m ((c.tc : Thread nD τ).loc main_arg0)) (m ((c.tc : Thread nD τ).loc main_arg1)) := by
  refine (dats m 0 c).arrAt_eq_of_covers 3 _ (by decide +kernel) fun t _ y => ?_
  blk_simp
  refine Eq.trans ?_ (congrArg _ (emb3 t y).symm)
  obtain ⟨i, j, rfl⟩ : ∃ i j, y = ix2 i j := ⟨y 0, y 1, eq_ix2 y⟩
  rw [after0_3]
  unfold out0_3
  frame_out
  exact pt3 m c t i j

theorem final4 (c : Dev nD) : (dats m 0 c).arrAt 4 cfg0.N = val_main_v7 (F := Ideal) (m ((c.tc : Thread nD τ).loc main_arg0)) (m ((c.tc : Thread nD τ).loc main_arg2)) := by
  refine (dats m 0 c).arrAt_eq_of_covers 4 _ (by decide +kernel) fun t _ y => ?_
  blk_simp
  refine Eq.trans ?_ (congrArg _ (emb4 t y).symm)
  obtain ⟨i, j, rfl⟩ : ∃ i j, y = ix2 i j := ⟨y 0, y 1, eq_ix2 y⟩
  rw [after0_4]
  unfold out0_4
  frame_out
  exact pt4 m c t i j

theorem final5 (c : Dev nD) : (dats m 0 c).arrAt 5 cfg0.N = val_main_v10 (F := Ideal) (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  blk_simp
  refine Eq.trans ?_ (congrArg _ (emb5 t y).symm)
  obtain ⟨i, j, rfl⟩ : ∃ i j, y = ix2 i j := ⟨y 0, y 1, eq_ix2 y⟩
  rw [after0_5]
  unfold out0_5
  frame_out
  exact pt5 m c t i j

/-- The products and the gate are the same functions over the extended reals. -/
theorem algebraic : Cert.algebraic_UpFwdIdeal_UpFwdRefIdeal := fun m ρ m' ρ' _ hag =>
  ⟨fun c => val_main_v6 (F := Ideal) (m ((c.tc : Thread nD τ).loc main_arg0)) (m ((c.tc : Thread nD τ).loc main_arg1)),
   fun c => val_main_v7 (F := Ideal) (m ((c.tc : Thread nD τ).loc main_arg0)) (m ((c.tc : Thread nD τ).loc main_arg2)),
   fun c => val_main_v10 (F := Ideal) (m ((c.tc : Thread nD τ).loc main_arg0)) (m ((c.tc : Thread nD τ).loc main_arg1)) (m ((c.tc : Thread nD τ).loc main_arg2)),
   (θ_run Cert.UpFwdIdeal.defs _ _).mono (fun r h c => by
     obtain ⟨h0, h1, h2, ha⟩ := h c
     exact ⟨h0.trans (final3 m c), h1.trans (final4 m c), h2.trans (final5 m c), ha⟩) (run_blocks m ρ),
   (θ_run Cert.UpFwdRefIdeal.defs _ _).mono (fun r h c => by
     obtain ⟨e0, e1, e2⟩ := hag c
     obtain ⟨h0, h1, h2, ha⟩ := h c
     rw [val_main_v6_eq, e0, e1] at h0
     rw [val_main_v7_eq, e0, e2] at h1
     rw [val_main_v10_eq, e0, e1, e2] at h2
     exact ⟨h0, h1, h2, ha⟩) (Cert.UpFwdRefIdeal.Value.run m' ρ')⟩

theorem frame_ref : Cert.quiescent_UpFwdRefIdeal := fun m ρ _ =>
  (θ_run Cert.UpFwdRefIdeal.defs _ _).mono (fun r h => ⟨fun c => (h c).2.2.2, sem_eq_zero_of_no_sems (by decide) r.2⟩) (Cert.UpFwdRefIdeal.Value.run m ρ)

end Cert.UpFwdIdeal.Value

end
-- ==== Proof.OutFwd.lean ====
/-
  The layer's x after the attentions, `x + merged @ w_out`, and the second FFN's norm of it: 16 blocks of 1024 rows. A block has its
  rows' every column, so it norms them behind the product.
-/
module

public import proofs.«01_k».proof.Proof.Gen.OutFwdIdeal.Value
public import proofs.«01_k».proof.Proof.Gen.OutFwdRefIdeal.Read
public import proofs.«01_k».proof.Proof.Gen.OutFwdRefIdeal.Run
public import proofs.«01_k».proof.Proof.Rms
public import proofs.«01_k».proof.Defs
public import Idealize.ShloMosaic.Lib.Pointwise
public import Idealize.ShloMosaic.Lib.Pipeline.ValueKit
public import Idealize.ShloMosaic.Lib.Pipeline.ReadBack

@[expose] public section

set_option maxRecDepth 16384

noncomputable section

namespace Cert.OutFwdIdeal.Value

open Cert.OutFwdIdeal Cert.OutFwdIdeal.Gen Idealize.ShloMosaic Idealize.ShloMosaic.TcCoe Idealize.SL.Sem
open Idealize.ShloMosaic.Pipeline (Dat)
open Cert.OutFwdRefIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

theorem cfgN : cfg0.N = 16 := by decide +kernel

/-- Row `i` of the block of grid point `t`. -/
def row (t : Fin cfg0.N) (i : Fin 1024) : Fin 16384 := ⟨t.val * 1024 + i.val, by have := t.isLt; have := cfgN; omega⟩

theorem rd0 (c : Dev nD) (t : Fin cfg0.N) (i j : Fin 1024) : iblk m c 0 t (ix2 i j) = (m ((c.tc : Thread nD τ).loc main_arg0)) (ix2 (row t i) j) := by
  blk_ext [iblk, V, idx t, row]
theorem rd1 (c : Dev nD) (t : Fin cfg0.N) (i j : Fin 1024) : iblk m c 1 t (ix2 i j) = (m ((c.tc : Thread nD τ).loc main_arg1)) (ix2 i j) := by
  blk_ext [iblk, V, idx t, row]
theorem rd2 (c : Dev nD) (t : Fin cfg0.N) (i j : Fin 1024) : iblk m c 2 t (ix2 i j) = (m ((c.tc : Thread nD τ).loc main_arg2)) (ix2 (row t i) j) := by
  blk_ext [iblk, V, idx t, row]
theorem rd3 (c : Dev nD) (t : Fin cfg0.N) (i : Fin 1) (j : Fin 1024) : iblk m c 3 t (ix2 i j) = (m ((c.tc : Thread nD τ).loc main_arg3)) (ix2 i j) := by
  blk_ext [iblk, V, idx t, row]
theorem emb4 (t : Fin cfg0.N) (y : S1024x1024.Idx) : (win0_4.blk t).view.emb y = ix2 (row t (y 0)) (y 1) := by
  blk_ext [idx t, row]
theorem emb5 (t : Fin cfg0.N) (y : S1024x1024.Idx) : (win0_5.blk t).view.emb y = ix2 (row t (y 0)) (y 1) := by
  blk_ext [idx t, row]

/-- A block of the layer's x. -/
theorem pt1 (c : Dev nD) (t : Fin cfg0.N) (i j : Fin 1024) : k0_pay1 (iblk m c 0 t) (iblk m c 1 t) (iblk m c 2 t) (ix2 i j)
    = val_main_v3 (F := Ideal) (m ((c.tc : Thread nD τ).loc main_arg0)) (m ((c.tc : Thread nD τ).loc main_arg1)) (m ((c.tc : Thread nD τ).loc main_arg2)) (ix2 (row t i) j) := by
  pointwise [k0_pay1, val_main_v3, val_main_v2, val_main_v1, val_main_v0]
  simp only [rd0, rd1, rd2]

/-- A block of its norm. -/
theorem pt2 (c : Dev nD) (t : Fin cfg0.N) (i j : Fin 1024) : k0_pay2 (iblk m c 0 t) (iblk m c 1 t) (iblk m c 2 t) (iblk m c 3 t) (ix2 i j)
    = val_main_v16 (F := Ideal) (m ((c.tc : Thread nD τ).loc main_arg0)) (m ((c.tc : Thread nD τ).loc main_arg1)) (m ((c.tc : Thread nD τ).loc main_arg2)) (m ((c.tc : Thread nD τ).loc main_arg3)) (ix2 (row t i) j) := by
  pointwise [k0_pay2, val_main_v16, val_main_v15, val_main_v14, val_main_v13, val_main_v12, val_main_v11, val_main_v10, val_main_v9, val_main_cst_1, val_main_v8, val_main_v7, val_main_cst_0,
    val_main_v6, val_main_v5, val_main_cst, val_main_v4]
  simp only [pt1, rd3]

theorem final4 (c : Dev nD) : (dats m 0 c).arrAt 4 cfg0.N = val_main_v3 (F := Ideal) (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  blk_simp
  refine Eq.trans ?_ (congrArg _ (emb4 t y).symm)
  obtain ⟨i, j, rfl⟩ : ∃ i j, y = ix2 i j := ⟨y 0, y 1, eq_ix2 y⟩
  rw [after0_4]
  unfold out0_4
  frame_out
  exact pt1 m c t i j

theorem final5 (c : Dev nD) : (dats m 0 c).arrAt 5 cfg0.N = val_main_v16 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t _ y => ?_
  blk_simp
  refine Eq.trans ?_ (congrArg _ (emb5 t y).symm)
  obtain ⟨i, j, rfl⟩ : ∃ i j, y = ix2 i j := ⟨y 0, y 1, eq_ix2 y⟩
  rw [after0_5]
  unfold out0_5
  frame_out
  exact pt2 m c t i j

/-- The sums and their norms are the same functions over the extended reals. -/
theorem algebraic : Cert.algebraic_OutFwdIdeal_OutFwdRefIdeal := fun m ρ m' ρ' _ hag =>
  ⟨fun c => val_main_v3 (F := Ideal) (m ((c.tc : Thread nD τ).loc main_arg0)) (m ((c.tc : Thread nD τ).loc main_arg1)) (m ((c.tc : Thread nD τ).loc main_arg2)),
   fun c => val_main_v16 (F := Ideal) (m ((c.tc : Thread nD τ).loc main_arg0)) (m ((c.tc : Thread nD τ).loc main_arg1)) (m ((c.tc : Thread nD τ).loc main_arg2)) (m ((c.tc : Thread nD τ).loc main_arg3)),
   (θ_run Cert.OutFwdIdeal.defs _ _).mono (fun r h c => by
     obtain ⟨h0, h1, ha⟩ := h c
     exact ⟨h0.trans (final4 m c), h1.trans (final5 m c), ha⟩) (run_blocks m ρ),
   (θ_run Cert.OutFwdRefIdeal.defs _ _).mono (fun r h c => by
     obtain ⟨e0, e1, e2, e3⟩ := hag c
     obtain ⟨h0, h1, ha⟩ := h c
     rw [val_main_v3_eq, e0, e1, e2] at h0
     rw [val_main_v16_eq, e0, e1, e2, e3] at h1
     exact ⟨h0, h1, ha⟩) (Cert.OutFwdRefIdeal.Value.run m' ρ')⟩

theorem frame_ref : Cert.quiescent_OutFwdRefIdeal := fun m ρ _ =>
  (θ_run Cert.OutFwdRefIdeal.defs _ _).mono (fun r h => ⟨fun c => (h c).2.2, sem_eq_zero_of_no_sems (by decide) r.2⟩) (Cert.OutFwdRefIdeal.Value.run m ρ)

end Cert.OutFwdIdeal.Value

end
-- ==== Proof.QNormFwd.lean ====
/-
  The memory attention's norm of its queries: 16 blocks of 1024 rows, each head of 64 columns with its own norm. The heads' means are
  the product of QkMem's blocks, and the reference's norm is the one that its reference differentiates; their lemmas are used here.
-/
module

public import proofs.«01_k».proof.Proof.Gen.QNormFwdIdeal.Value
public import proofs.«01_k».proof.Proof.Gen.QNormFwdRefIdeal.Read
public import proofs.«01_k».proof.Proof.Gen.QNormFwdRefIdeal.Run
public import proofs.«01_k».proof.Proof.QkMem
public import proofs.«01_k».proof.Defs
public import Idealize.ShloMosaic.Lib.Pointwise
public import Idealize.ShloMosaic.Lib.Pipeline.ValueKit
public import Idealize.ShloMosaic.Lib.Pipeline.ReadBack

@[expose] public section

set_option maxRecDepth 16384

noncomputable section

namespace Cert.QNormFwdIdeal.Value

open Cert.QNormFwdIdeal Cert.QNormFwdIdeal.Gen Idealize.ShloMosaic Idealize.ShloMosaic.TcCoe Idealize.SL.Sem
open Idealize.ShloMosaic.Pipeline (Dat)
open Cert.QNormFwdRefIdeal.Read

variable (m : (ℓ : Loc nD τ sig) → Buf (Elt Ideal) ℓ)

open Cert.HeadNorm
open Cert.QkMemIdeal.Value (Q G col ref16)

/-- The reciprocal roots. -/
theorem pt4 (v : Vec Ideal S1024x256 .bf16) (i : Fin 1024) (hv : ∀ k, v (ix2 i k) = ((v (ix2 i k) : EReal).toReal : EReal)) (j : Fin 256) :
    k0_pay4 (k0_pay2 v) k0_pay3 (iota .tc S256x128 32 [1] iota_S256x128_d1_w32) (ix2 i j) = rs (n := 256) (by norm_num) (fun k => v (ix2 i k)) j :=
  (show k0_pay4 (k0_pay2 v) k0_pay3 (iota .tc S256x128 32 [1] iota_S256x128_d1_w32) (ix2 i j)
    = Cert.QkMemIdeal.Gen.k0_pay8 (Cert.QkMemIdeal.Gen.k0_pay5 v) Cert.QkMemIdeal.Gen.k0_pay6 (iota .tc S256x128 32 [1] iota_S256x128_d1_w32) (ix2 i j) from rfl).trans
    (Cert.QkMemIdeal.Value.pt8 v i hv j)

/-- What one block computes. -/
theorem pt1 (v : Vec Ideal S1024x256 .bf16) (g : Vec Ideal S1x256 .f32) (i : Fin 1024) (hv : ∀ k, v (ix2 i k) = ((v (ix2 i k) : EReal).toReal : EReal)) (j : Fin 256) :
    k0_pay1 (k0_pay2 v) (k0_pay4 (k0_pay2 v) k0_pay3 (iota .tc S256x128 32 [1] iota_S256x128_d1_w32)) g (ix2 i j)
      = HMul.hMul (α := EReal) (β := EReal) (γ := EReal) (HMul.hMul (α := EReal) (β := EReal) (γ := EReal) (v (ix2 i j)) (rs (n := 256) (by norm_num) (fun k => v (ix2 i k)) j)) (g (ix2 0 j)) := by
  pointwise [k0_pay1]
  rw [pt4 v i hv]
  pointwise [k0_pay2]

/-- The reference at an index. -/
theorem ref19 (x0 : (⟨Cert.QNormFwdRefIdeal.S16384x4096, .bf16⟩ : BufTy).Contents (Elt Ideal)) (x1 : (⟨Cert.QNormFwdRefIdeal.S1x64, .f32⟩ : BufTy).Contents (Elt Ideal)) (r : Fin 16384) (j : Fin 256) :
    val_main_v19 (F := Ideal) x0 x1 (ix2 r j) = Q x0 r j * rs (n := 256) (by norm_num) (Q x0 r) j * G x1 j := by
  have e : ∀ h d, val_main_v13 (F := Ideal) x0 (ix3 h r d) = Q x0 r (col h d) * rs (n := 256) (by norm_num) (Q x0 r) (col h d) := fun h d =>
    (show val_main_v13 (F := Ideal) x0 (ix3 h r d) = Cert.QkMemRefIdeal.Read.val_main_v16 (F := Ideal) x0 (ix3 h r d) from rfl).trans (ref16 x0 h r d)
  pointwise [val_main_v19, val_main_v18, val_main_v17, val_main_v16, val_main_v15, val_main_v14]
  rw [e]
  refine congrArg₂ (· * ·) (congrArg (fun k => Q x0 r k * rs (n := 256) (by norm_num) (Q x0 r) k) (Fin.ext ?_)) rfl
  show j.val / 64 * 64 + j.val % 64 = j.val
  omega

theorem idx : ∀ t : Fin cfg0.N, win0_0.index t = ![t.val, 15] ∧ win0_1.index t = ![0, 0] ∧ win0_2.index t = ![t.val, 0] :=
  (by decide +kernel : ∀ t : Fin grid0.N, _)

theorem cfgN : cfg0.N = 16 := by decide +kernel

/-- Row `i` of the blocks of grid point `t`. -/
def row (t : Fin cfg0.N) (i : Fin 1024) : Fin 16384 := ⟨t.val * 1024 + i.val, by have := t.isLt; have := cfgN; omega⟩

/-- The host repeats the gain for the four heads. -/
theorem V_gain (c : Dev nD) (k : Fin 256) : V m c main_v2 (ix2 0 k) = G (m ((c.tc : Thread nD τ).loc main_arg1)) k := by
  have h : V m c main_v2 = shapeCast _ (broadcastInDim S1x1x4x64 ![0, 1, 2, 3] bcast_S1x1x1x64_S1x1x4x64_0_1_2_3 (shapeCast S1x1x1x64 (m ((c.tc : Thread nD τ).loc main_arg1)) shapeCasts_S1x64_S1x1x1x64)) shapeCasts_S1x1x4x64_S1x256 := by
    simp only [V, hostOps0, List.flatten_cons, List.flatten_nil, List.append_nil, List.cons_append, List.nil_append]
    after_results <;> rfl
  rw [h]
  pointwise
  rfl

theorem rd0 (c : Dev nD) (t : Fin cfg0.N) (i : Fin 1024) (l : Fin 256) : iblk m c 0 t (ix2 i l) = Q (m ((c.tc : Thread nD τ).loc main_arg0)) (row t i) l := by
  blk_ext [iblk, V_main_arg0, idx t, row]
theorem rd1 (c : Dev nD) (t : Fin cfg0.N) (l : Fin 256) : iblk m c 1 t (ix2 0 l) = G (m ((c.tc : Thread nD τ).loc main_arg1)) l := by
  refine Eq.trans ?_ (V_gain m c l)
  blk_ext [iblk, idx t, row]
theorem emb2' (t : Fin cfg0.N) (y : S1024x256.Idx) : (win0_2.blk t).view.emb y = ix2 (row t (y 0)) (y 1) := by blk_ext [idx t, row]

/-- The queries are real numbers. -/
def Fed (c : Dev nD) : Prop := ∀ r k, Q (m ((c.tc : Thread nD τ).loc main_arg0)) r k = ((Q (m ((c.tc : Thread nD τ).loc main_arg0)) r k).toReal : EReal)

variable {m}

theorem block_eq {c : Dev nD} (h : Fed m c) : (dats m 0 c).arrAt 2 cfg0.N = val_main_v19 (F := Ideal) (m ((c.tc : Thread nD τ).loc main_arg0)) (m ((c.tc : Thread nD τ).loc main_arg1)) := by
  refine (dats m 0 c).arrAt_eq_of_covers 2 _ (by decide +kernel) fun t _ y => ?_
  blk_simp
  refine Eq.trans ?_ (congrArg _ (emb2' t y).symm)
  obtain ⟨i, j, rfl⟩ : ∃ i j, y = ix2 i j := ⟨y 0, y 1, eq_ix2 y⟩
  refine Eq.trans ?_ (ref19 _ _ (row t i) j).symm
  rw [after0_2]
  unfold out0_2 k0_pay5
  frame_out
  refine (pt1 _ _ i (fun k => ?_) j).trans ?_
  · rw [rd0]; exact h _ _
  · simp only [rd0, rd1]

/-- The precondition's own side conditions. -/
theorem pre_facts : Cert.Pre_qnf_finite.Facts := by constructor <;> decide

section Lift
attribute [local instance] pre_facts

/-- The precondition makes the queries real numbers. -/
theorem fed_of_pre (c : Dev nD) (h : Cert.Pre_qnf_finite.fn (F := Ideal) (m ((c.tc : Thread nD τ).loc main_arg0)) (m ((c.tc : Thread nD τ).loc main_arg1)) = fun _ => 1#1) : Fed m c := by
  have h0 := congrFun h (Shape.Idx.first Cert.Pre_qnf_finite.Facts.h_S_)
  unfold Cert.Pre_qnf_finite.fn at h0
  dsimp only at h0
  have : Subsingleton Cert.Pre_qnf_finite.S_.Idx := ⟨fun a b => funext fun k => k.elim0⟩
  refine fun i x => Finite.of_lt _ ?_
  have := Host.reduce_andi_all _ _ _ _ _ h0 (ix2 i x)
  pointwise at this; exact this

/-- The norms are the same function over the extended reals. -/
theorem algebraic : Cert.algebraic_QNormFwdIdeal_QNormFwdRefIdeal_pre_qnf_finite := fun m ρ m' ρ' hpre hag =>
  ⟨fun c => val_main_v19 (F := Ideal) (m (c.tc.loc main_arg0)) (m (c.tc.loc main_arg1)),
   (θ_run Cert.QNormFwdIdeal.defs _ _).mono (fun r h c => by
     obtain ⟨h0, ha⟩ := h c
     exact ⟨h0.trans (block_eq (fed_of_pre c (hpre c))), ha⟩) (run_blocks m ρ),
   (θ_run Cert.QNormFwdRefIdeal.defs _ _).mono (fun r h c => by
     obtain ⟨e0, e1⟩ := hag c
     obtain ⟨h0, ha⟩ := h c
     rw [val_main_v19_eq, e0, e1] at h0
     exact ⟨h0, ha⟩) (Cert.QNormFwdRefIdeal.Value.run m' ρ')⟩
end Lift

theorem frame_ref : Cert.quiescent_QNormFwdRefIdeal := fun m ρ _ =>
  (θ_run Cert.QNormFwdRefIdeal.defs _ _).mono (fun r h => ⟨fun c => (h c).2, sem_eq_zero_of_no_sems (by decide) r.2⟩) (Cert.QNormFwdRefIdeal.Value.run m ρ)

end Cert.QNormFwdIdeal.Value

end
-- ==== Proof.lean ====
/-
  The claim: each of the gradients' calls has its frames, and computes what the reference's derivative computes.
-/
module

public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Merge
public import proofs.«01_k».proof.Proof.Gen.Sb
public import proofs.«01_k».proof.Proof.Gen.Sb.Skeleton
public import proofs.«01_k».proof.Proof.Gen.Sb.Launch
public import proofs.«01_k».proof.Proof.Gen.Sb.Points
public import proofs.«01_k».proof.Proof.Sb.Frame
public import proofs.«01_k».proof.Proof.Sb.Value
public import proofs.«01_k».proof.Proof.SbFwd.Value
public import proofs.«01_k».proof.Proof.SbFwdBits.Frame
public import proofs.«01_k».proof.Proof.Dact
public import proofs.«01_k».proof.Proof.Gen.Dact.Frame
public import proofs.«01_k».proof.Proof.MemRms
public import proofs.«01_k».proof.Proof.Gen.MemRms.Frame
public import proofs.«01_k».proof.Proof.Dh
public import proofs.«01_k».proof.Proof.Gen.Dh.Frame
public import proofs.«01_k».proof.Proof.DhGate
public import proofs.«01_k».proof.Proof.Gen.DhGate.Frame
public import proofs.«01_k».proof.Proof.MemAtt
public import proofs.«01_k».proof.Proof.Gen.MemAtt.Frame
public import proofs.«01_k».proof.Proof.Loss
public import proofs.«01_k».proof.Proof.Gen.Loss.Frame
public import proofs.«01_k».proof.Proof.QkMem
public import proofs.«01_k».proof.Proof.Gen.QkMem.Frame
public import proofs.«01_k».proof.Proof.QkRope
public import proofs.«01_k».proof.Proof.Gen.QkRope.Frame
public import proofs.«01_k».proof.Proof.KMem
public import proofs.«01_k».proof.Proof.Gen.KMem.Frame
public import proofs.«01_k».proof.Proof.KRope
public import proofs.«01_k».proof.Proof.Gen.KRope.Frame
public import proofs.«01_k».proof.Proof.MergeFwd
public import proofs.«01_k».proof.Proof.Gen.MergeFwd.Frame
public import proofs.«01_k».proof.Proof.RmsFwd
public import proofs.«01_k».proof.Proof.Gen.RmsFwd.Frame
public import proofs.«01_k».proof.Proof.MemFwd
public import proofs.«01_k».proof.Proof.Gen.MemFwd.Frame
public import proofs.«01_k».proof.Proof.UpFwd
public import proofs.«01_k».proof.Proof.Gen.UpFwd.Frame
public import proofs.«01_k».proof.Proof.OutFwd
public import proofs.«01_k».proof.Proof.Gen.OutFwd.Frame
public import proofs.«01_k».proof.Proof.QNormFwd
public import proofs.«01_k».proof.Proof.Gen.QNormFwd.Frame
public import proofs.«01_k».proof.Proof.Gen.Dact
public import proofs.«01_k».proof.Proof.Gen.DactIdeal.Value
public import proofs.«01_k».proof.Proof.Gen.DactRefIdeal.Run
public import proofs.«01_k».proof.Proof.Gen.DactRefIdeal.Read
public import proofs.«01_k».proof.Proof.Gen.DhGate
public import proofs.«01_k».proof.Proof.Gen.DhGateIdeal.Value
public import proofs.«01_k».proof.Proof.Gen.DhGateRefIdeal.Run
public import proofs.«01_k».proof.Proof.Gen.DhGateRefIdeal.Read
public import proofs.«01_k».proof.Proof.Gen.Loss
public import proofs.«01_k».proof.Proof.Gen.LossIdeal
public import proofs.«01_k».proof.Proof.Gen.LossRefIdeal.Run
public import proofs.«01_k».proof.Proof.Gen.LossRefIdeal.Read
public import proofs.«01_k».proof.Proof.Gen.MemRms
public import proofs.«01_k».proof.Proof.Gen.MemRmsIdeal.Value
public import proofs.«01_k».proof.Proof.Gen.MemRmsRefIdeal.Run
public import proofs.«01_k».proof.Proof.Gen.MemRmsRefIdeal.Read
public import proofs.«01_k».proof.Proof.Gen.MemAtt
public import proofs.«01_k».proof.Proof.Gen.MemAttIdeal.Value
public import proofs.«01_k».proof.Proof.Gen.MemAttRefIdeal.Run
public import proofs.«01_k».proof.Proof.Gen.MemAttRefIdeal.Read
public import proofs.«01_k».proof.Proof.Gen.QkRope
public import proofs.«01_k».proof.Proof.Gen.QkRopeIdeal
public import proofs.«01_k».proof.Proof.Gen.QkRopeRefIdeal.Run
public import proofs.«01_k».proof.Proof.Gen.QkRopeRefIdeal.Read
public import proofs.«01_k».proof.Proof.Gen.QkMem
public import proofs.«01_k».proof.Proof.Gen.QkMemIdeal
public import proofs.«01_k».proof.Proof.Gen.QkMemRefIdeal.Run
public import proofs.«01_k».proof.Proof.Gen.QkMemRefIdeal.Read
public import proofs.«01_k».proof.Proof.Gen.Dh
public import proofs.«01_k».proof.Proof.Gen.DhIdeal.Value
public import proofs.«01_k».proof.Proof.Gen.DhRefIdeal.Run
public import proofs.«01_k».proof.Proof.Gen.DhRefIdeal.Read
public import proofs.«01_k».proof.Proof.SbBits.Frame
public import proofs.«01_k».proof.Proof.Gen.SbIdeal
public import proofs.«01_k».proof.Proof.Gen.SbIdeal.Skeleton
public import proofs.«01_k».proof.Proof.Gen.SbIdeal.Launch
public import proofs.«01_k».proof.Proof.Gen.SbIdeal.Points
public import proofs.«01_k».proof.Proof.Gen.SbRefIdeal
public import proofs.«01_k».proof.Proof.Gen.SbRefIdeal.Run
public import proofs.«01_k».proof.Proof.Gen.SbRefIdeal.Read
public import Idealize.ShloMosaic.Adequacy
public import Idealize.ShloMosaic.Init

@[expose] public section

noncomputable section

namespace Cert.Proof

open Idealize.ShloMosaic Idealize.SL.Sem Cert.Merge

/-- Everything that the certificate claims. -/
theorem claim : Cert.Claim := ⟨Cert.Merge.Gen.facts, Cert.MergeIdeal.Gen.facts, Cert.MergeRefIdeal.Gen.facts,
  Cert.Sb.Gen.facts, Cert.SbIdeal.Gen.facts, Cert.SbRefIdeal.Gen.facts,
  Cert.SbFwd.Gen.facts, Cert.SbFwdIdeal.Gen.facts, Cert.SbFwdRefIdeal.Gen.facts,
  Cert.Dact.Gen.facts, Cert.DactIdeal.Gen.facts, Cert.DactRefIdeal.Gen.facts,
  Cert.MemRms.Gen.facts, Cert.MemRmsIdeal.Gen.facts, Cert.MemRmsRefIdeal.Gen.facts,
  Cert.Dh.Gen.facts, Cert.DhIdeal.Gen.facts, Cert.DhRefIdeal.Gen.facts,
  Cert.DhGate.Gen.facts, Cert.DhGateIdeal.Gen.facts, Cert.DhGateRefIdeal.Gen.facts,
  Cert.MemAtt.Gen.facts, Cert.MemAttIdeal.Gen.facts, Cert.MemAttRefIdeal.Gen.facts,
  Cert.Loss.Gen.facts, Cert.LossIdeal.Gen.facts, Cert.LossRefIdeal.Gen.facts,
  Cert.QkMem.Gen.facts, Cert.QkMemIdeal.Gen.facts, Cert.QkMemRefIdeal.Gen.facts,
  Cert.QkRope.Gen.facts, Cert.QkRopeIdeal.Gen.facts, Cert.QkRopeRefIdeal.Gen.facts,
  Cert.KMem.Gen.facts, Cert.KMemIdeal.Gen.facts, Cert.KMemRefIdeal.Gen.facts,
  Cert.KRope.Gen.facts, Cert.KRopeIdeal.Gen.facts, Cert.KRopeRefIdeal.Gen.facts,
  Cert.MergeFwd.Gen.facts, Cert.MergeFwdIdeal.Gen.facts, Cert.MergeFwdRefIdeal.Gen.facts,
  Cert.RmsFwd.Gen.facts, Cert.RmsFwdIdeal.Gen.facts, Cert.RmsFwdRefIdeal.Gen.facts,
  Cert.MemFwd.Gen.facts, Cert.MemFwdIdeal.Gen.facts, Cert.MemFwdRefIdeal.Gen.facts,
  Cert.UpFwd.Gen.facts, Cert.UpFwdIdeal.Gen.facts, Cert.UpFwdRefIdeal.Gen.facts,
  Cert.OutFwd.Gen.facts, Cert.OutFwdIdeal.Gen.facts, Cert.OutFwdRefIdeal.Gen.facts,
  Cert.QNormFwd.Gen.facts, Cert.QNormFwdIdeal.Gen.facts, Cert.QNormFwdRefIdeal.Gen.facts,
  Cert.SbIdeal.Sb.pre_facts, Cert.SbFwdIdeal.Sb.pre_facts, Cert.DactIdeal.Value.pre_facts,
  Cert.MemRmsIdeal.Value.pre_facts, Cert.DhIdeal.Value.pre_facts, Cert.DhGateIdeal.Value.pre_facts,
  Cert.MemAttIdeal.Value.pre_facts, Cert.QkMemIdeal.Value.pre_facts, Cert.QkRopeIdeal.Value.pre_facts,
  Cert.KMemIdeal.Value.pre_facts, Cert.KRopeIdeal.Value.pre_facts, Cert.QNormFwdIdeal.Value.pre_facts,
  fun m ρ _ => Cert.Merge.Gen.frame m ρ, fun m ρ _ => Cert.MergeIdeal.Gen.frame m ρ, Cert.MergeIdeal.Value.frame_ref,
  fun m ρ _ => Cert.Sb.Sb.frame m ρ, fun m ρ _ => Cert.SbIdeal.Sb.frame m ρ, fun m ρ _ => Cert.SbIdeal.Sb.frame m ρ,
  Cert.SbIdeal.Sb.frame_ref, fun m ρ _ => Cert.SbIdeal.Sb.frame_ref m ρ trivial, fun m ρ _ => Cert.SbFwd.Sb.frame m ρ,
  fun m ρ _ => Cert.SbFwdIdeal.Sb.frame m ρ, fun m ρ _ => Cert.SbFwdIdeal.Sb.frame m ρ, Cert.SbFwdIdeal.Sb.frame_ref,
  fun m ρ _ => Cert.SbFwdIdeal.Sb.frame_ref m ρ trivial, fun m ρ _ => Cert.Dact.Gen.frame m ρ, fun m ρ _ => Cert.DactIdeal.Gen.frame m ρ,
  fun m ρ _ => Cert.DactIdeal.Gen.frame m ρ, Cert.DactIdeal.Value.frame_ref, fun m ρ _ => Cert.DactIdeal.Value.frame_ref m ρ trivial,
  fun m ρ _ => Cert.MemRms.Gen.frame m ρ, fun m ρ _ => Cert.MemRmsIdeal.Gen.frame m ρ, fun m ρ _ => Cert.MemRmsIdeal.Gen.frame m ρ,
  Cert.MemRmsIdeal.Value.frame_ref, fun m ρ _ => Cert.MemRmsIdeal.Value.frame_ref m ρ trivial, fun m ρ _ => Cert.Dh.Gen.frame m ρ,
  fun m ρ _ => Cert.DhIdeal.Gen.frame m ρ, fun m ρ _ => Cert.DhIdeal.Gen.frame m ρ, Cert.DhIdeal.Value.frame_ref,
  fun m ρ _ => Cert.DhIdeal.Value.frame_ref m ρ trivial, fun m ρ _ => Cert.DhGate.Gen.frame m ρ, fun m ρ _ => Cert.DhGateIdeal.Gen.frame m ρ,
  fun m ρ _ => Cert.DhGateIdeal.Gen.frame m ρ, Cert.DhGateIdeal.Value.frame_ref, fun m ρ _ => Cert.DhGateIdeal.Value.frame_ref m ρ trivial,
  fun m ρ _ => Cert.MemAtt.Gen.frame m ρ, fun m ρ _ => Cert.MemAttIdeal.Gen.frame m ρ, fun m ρ _ => Cert.MemAttIdeal.Gen.frame m ρ,
  Cert.MemAttIdeal.Value.frame_ref, fun m ρ _ => Cert.MemAttIdeal.Value.frame_ref m ρ trivial, fun m ρ _ => Cert.Loss.Gen.frame m ρ,
  fun m ρ _ => Cert.LossIdeal.Gen.frame m ρ, Cert.LossIdeal.Value.frame_ref, fun m ρ _ => Cert.QkMem.Gen.frame m ρ,
  fun m ρ _ => Cert.QkMemIdeal.Gen.frame m ρ, fun m ρ _ => Cert.QkMemIdeal.Gen.frame m ρ, Cert.QkMemIdeal.Value.frame_ref,
  fun m ρ _ => Cert.QkMemIdeal.Value.frame_ref m ρ trivial, fun m ρ _ => Cert.QkRope.Gen.frame m ρ, fun m ρ _ => Cert.QkRopeIdeal.Gen.frame m ρ,
  fun m ρ _ => Cert.QkRopeIdeal.Gen.frame m ρ, Cert.QkRopeIdeal.Value.frame_ref, fun m ρ _ => Cert.QkRopeIdeal.Value.frame_ref m ρ trivial,
  fun m ρ _ => Cert.KMem.Gen.frame m ρ, fun m ρ _ => Cert.KMemIdeal.Gen.frame m ρ, fun m ρ _ => Cert.KMemIdeal.Gen.frame m ρ,
  Cert.KMemIdeal.Value.frame_ref, fun m ρ _ => Cert.KMemIdeal.Value.frame_ref m ρ trivial, fun m ρ _ => Cert.KRope.Gen.frame m ρ,
  fun m ρ _ => Cert.KRopeIdeal.Gen.frame m ρ, fun m ρ _ => Cert.KRopeIdeal.Gen.frame m ρ, Cert.KRopeIdeal.Value.frame_ref,
  fun m ρ _ => Cert.KRopeIdeal.Value.frame_ref m ρ trivial, fun m ρ _ => Cert.MergeFwd.Gen.frame m ρ, fun m ρ _ => Cert.MergeFwdIdeal.Gen.frame m ρ,
  Cert.MergeFwdIdeal.Value.frame_ref, fun m ρ _ => Cert.RmsFwd.Gen.frame m ρ, fun m ρ _ => Cert.RmsFwdIdeal.Gen.frame m ρ,
  Cert.RmsFwdIdeal.Value.frame_ref, fun m ρ _ => Cert.MemFwd.Gen.frame m ρ, fun m ρ _ => Cert.MemFwdIdeal.Gen.frame m ρ,
  Cert.MemFwdIdeal.Value.frame_ref, fun m ρ _ => Cert.UpFwd.Gen.frame m ρ, fun m ρ _ => Cert.UpFwdIdeal.Gen.frame m ρ,
  Cert.UpFwdIdeal.Value.frame_ref, fun m ρ _ => Cert.OutFwd.Gen.frame m ρ, fun m ρ _ => Cert.OutFwdIdeal.Gen.frame m ρ,
  Cert.OutFwdIdeal.Value.frame_ref, fun m ρ _ => Cert.QNormFwd.Gen.frame m ρ, fun m ρ _ => Cert.QNormFwdIdeal.Gen.frame m ρ,
  fun m ρ _ => Cert.QNormFwdIdeal.Gen.frame m ρ, Cert.QNormFwdIdeal.Value.frame_ref, fun m ρ _ => Cert.QNormFwdIdeal.Value.frame_ref m ρ trivial,
  trivial, Cert.MergeIdeal.Value.algebraic, Cert.SbIdeal.Sb.preserves,
  Cert.SbIdeal.Sb.algebraic, Cert.SbFwdIdeal.Sb.preserves, Cert.SbFwdIdeal.Sb.algebraic,
  trivial, Cert.DactIdeal.Value.algebraic, trivial,
  Cert.MemRmsIdeal.Value.algebraic, trivial, Cert.DhIdeal.Value.algebraic,
  trivial, Cert.DhGateIdeal.Value.algebraic, trivial,
  Cert.MemAttIdeal.Value.algebraic, trivial, Cert.LossIdeal.Value.algebraic,
  trivial, Cert.QkMemIdeal.Value.algebraic, trivial,
  Cert.QkRopeIdeal.Value.algebraic, trivial, Cert.KMemIdeal.Value.algebraic,
  trivial, Cert.KRopeIdeal.Value.algebraic, trivial,
  Cert.MergeFwdIdeal.Value.algebraic, trivial, Cert.RmsFwdIdeal.Value.algebraic,
  trivial, Cert.MemFwdIdeal.Value.algebraic, trivial,
  Cert.UpFwdIdeal.Value.algebraic, trivial, Cert.OutFwdIdeal.Value.algebraic,
  trivial, Cert.QNormFwdIdeal.Value.algebraic⟩

end Cert.Proof

end
